-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_MobaQ (m : (ℓ : Loc Cert.MobaQ.nD Cert.MobaQ.τ Cert.MobaQ.sig) → Buf (Elt Bits) ℓ) : Prop :=
  True

def Pre_MobaQIdeal (m : (ℓ : Loc Cert.MobaQIdeal.nD Cert.MobaQIdeal.τ Cert.MobaQIdeal.sig) → Buf (Elt Ideal) ℓ) : Prop :=
  True

def Pre_MobaQRefIdeal (m : (ℓ : Loc Cert.MobaQRefIdeal.nD Cert.MobaQRefIdeal.τ Cert.MobaQRefIdeal.sig) → Buf (Elt Ideal) ℓ) : Prop :=
  True

def Pre_MobaK (m : (ℓ : Loc Cert.MobaK.nD Cert.MobaK.τ Cert.MobaK.sig) → Buf (Elt Bits) ℓ) : Prop :=
  True

def Pre_MobaKIdeal (m : (ℓ : Loc Cert.MobaKIdeal.nD Cert.MobaKIdeal.τ Cert.MobaKIdeal.sig) → Buf (Elt Ideal) ℓ) : Prop :=
  True

def Pre_MobaKRefIdeal (m : (ℓ : Loc Cert.MobaKRefIdeal.nD Cert.MobaKRefIdeal.τ Cert.MobaKRefIdeal.sig) → Buf (Elt Ideal) ℓ) : Prop :=
  True

def Pre_MobaV (m : (ℓ : Loc Cert.MobaV.nD Cert.MobaV.τ Cert.MobaV.sig) → Buf (Elt Bits) ℓ) : Prop :=
  True

def Pre_MobaVIdeal (m : (ℓ : Loc Cert.MobaVIdeal.nD Cert.MobaVIdeal.τ Cert.MobaVIdeal.sig) → Buf (Elt Ideal) ℓ) : Prop :=
  True

def Pre_MobaVRefIdeal (m : (ℓ : Loc Cert.MobaVRefIdeal.nD Cert.MobaVRefIdeal.τ Cert.MobaVRefIdeal.sig) → Buf (Elt Ideal) ℓ) : Prop :=
  True

def Pre_MobaSample (m : (ℓ : Loc Cert.MobaSample.nD Cert.MobaSample.τ Cert.MobaSample.sig) → Buf (Elt Bits) ℓ) : Prop :=
  True

def Pre_MobaSampleIdeal (m : (ℓ : Loc Cert.MobaSampleIdeal.nD Cert.MobaSampleIdeal.τ Cert.MobaSampleIdeal.sig) → Buf (Elt Ideal) ℓ) : Prop :=
  True

def Pre_MobaSampleRefIdeal (m : (ℓ : Loc Cert.MobaSampleRefIdeal.nD Cert.MobaSampleRefIdeal.τ Cert.MobaSampleRefIdeal.sig) → Buf (Elt Ideal) ℓ) : Prop :=
  True

def Pre_DiffQ (m : (ℓ : Loc Cert.DiffQ.nD Cert.DiffQ.τ Cert.DiffQ.sig) → Buf (Elt Bits) ℓ) : Prop :=
  True

def Pre_DiffQIdeal (m : (ℓ : Loc Cert.DiffQIdeal.nD Cert.DiffQIdeal.τ Cert.DiffQIdeal.sig) → Buf (Elt Ideal) ℓ) : Prop :=
  True

def Pre_DiffQRefIdeal (m : (ℓ : Loc Cert.DiffQRefIdeal.nD Cert.DiffQRefIdeal.τ Cert.DiffQRefIdeal.sig) → Buf (Elt Ideal) ℓ) : Prop :=
  True

def Pre_DiffK (m : (ℓ : Loc Cert.DiffK.nD Cert.DiffK.τ Cert.DiffK.sig) → Buf (Elt Bits) ℓ) : Prop :=
  True

def Pre_DiffKIdeal (m : (ℓ : Loc Cert.DiffKIdeal.nD Cert.DiffKIdeal.τ Cert.DiffKIdeal.sig) → Buf (Elt Ideal) ℓ) : Prop :=
  True

def Pre_DiffKRefIdeal (m : (ℓ : Loc Cert.DiffKRefIdeal.nD Cert.DiffKRefIdeal.τ Cert.DiffKRefIdeal.sig) → Buf (Elt Ideal) ℓ) : Prop :=
  True

def Pre_DiffV (m : (ℓ : Loc Cert.DiffV.nD Cert.DiffV.τ Cert.DiffV.sig) → Buf (Elt Bits) ℓ) : Prop :=
  True

def Pre_DiffVIdeal (m : (ℓ : Loc Cert.DiffVIdeal.nD Cert.DiffVIdeal.τ Cert.DiffVIdeal.sig) → Buf (Elt Ideal) ℓ) : Prop :=
  True

def Pre_DiffVRefIdeal (m : (ℓ : Loc Cert.DiffVRefIdeal.nD Cert.DiffVRefIdeal.τ Cert.DiffVRefIdeal.sig) → Buf (Elt Ideal) ℓ) : Prop :=
  True

def Pre_NsaQ (m : (ℓ : Loc Cert.NsaQ.nD Cert.NsaQ.τ Cert.NsaQ.sig) → Buf (Elt Bits) ℓ) : Prop :=
  True

def Pre_NsaQIdeal (m : (ℓ : Loc Cert.NsaQIdeal.nD Cert.NsaQIdeal.τ Cert.NsaQIdeal.sig) → Buf (Elt Ideal) ℓ) : Prop :=
  True

def Pre_NsaQRefIdeal (m : (ℓ : Loc Cert.NsaQRefIdeal.nD Cert.NsaQRefIdeal.τ Cert.NsaQRefIdeal.sig) → Buf (Elt Ideal) ℓ) : Prop :=
  True

def Pre_CmpK (m : (ℓ : Loc Cert.CmpK.nD Cert.CmpK.τ Cert.CmpK.sig) → Buf (Elt Bits) ℓ) : Prop :=
  True

def Pre_CmpKIdeal (m : (ℓ : Loc Cert.CmpKIdeal.nD Cert.CmpKIdeal.τ Cert.CmpKIdeal.sig) → Buf (Elt Ideal) ℓ) : Prop :=
  True

def Pre_CmpKRefIdeal (m : (ℓ : Loc Cert.CmpKRefIdeal.nD Cert.CmpKRefIdeal.τ Cert.CmpKRefIdeal.sig) → Buf (Elt Ideal) ℓ) : Prop :=
  True

def Pre_CmpV (m : (ℓ : Loc Cert.CmpV.nD Cert.CmpV.τ Cert.CmpV.sig) → Buf (Elt Bits) ℓ) : Prop :=
  True

def Pre_CmpVIdeal (m : (ℓ : Loc Cert.CmpVIdeal.nD Cert.CmpVIdeal.τ Cert.CmpVIdeal.sig) → Buf (Elt Ideal) ℓ) : Prop :=
  True

def Pre_CmpVRefIdeal (m : (ℓ : Loc Cert.CmpVRefIdeal.nD Cert.CmpVRefIdeal.τ Cert.CmpVRefIdeal.sig) → Buf (Elt Ideal) ℓ) : Prop :=
  True

def Pre_SlcK (m : (ℓ : Loc Cert.SlcK.nD Cert.SlcK.τ Cert.SlcK.sig) → Buf (Elt Bits) ℓ) : Prop :=
  True

def Pre_SlcKIdeal (m : (ℓ : Loc Cert.SlcKIdeal.nD Cert.SlcKIdeal.τ Cert.SlcKIdeal.sig) → Buf (Elt Ideal) ℓ) : Prop :=
  True

def Pre_SlcKRefIdeal (m : (ℓ : Loc Cert.SlcKRefIdeal.nD Cert.SlcKRefIdeal.τ Cert.SlcKRefIdeal.sig) → Buf (Elt Ideal) ℓ) : Prop :=
  True

def Pre_SlcV (m : (ℓ : Loc Cert.SlcV.nD Cert.SlcV.τ Cert.SlcV.sig) → Buf (Elt Bits) ℓ) : Prop :=
  True

def Pre_SlcVIdeal (m : (ℓ : Loc Cert.SlcVIdeal.nD Cert.SlcVIdeal.τ Cert.SlcVIdeal.sig) → Buf (Elt Ideal) ℓ) : Prop :=
  True

def Pre_SlcVRefIdeal (m : (ℓ : Loc Cert.SlcVRefIdeal.nD Cert.SlcVRefIdeal.τ Cert.SlcVRefIdeal.sig) → Buf (Elt Ideal) ℓ) : Prop :=
  True

def Pre_WinK (m : (ℓ : Loc Cert.WinK.nD Cert.WinK.τ Cert.WinK.sig) → Buf (Elt Bits) ℓ) : Prop :=
  True

def Pre_WinKIdeal (m : (ℓ : Loc Cert.WinKIdeal.nD Cert.WinKIdeal.τ Cert.WinKIdeal.sig) → Buf (Elt Ideal) ℓ) : Prop :=
  True

def Pre_WinKRefIdeal (m : (ℓ : Loc Cert.WinKRefIdeal.nD Cert.WinKRefIdeal.τ Cert.WinKRefIdeal.sig) → Buf (Elt Ideal) ℓ) : Prop :=
  True

def Pre_WinV (m : (ℓ : Loc Cert.WinV.nD Cert.WinV.τ Cert.WinV.sig) → Buf (Elt Bits) ℓ) : Prop :=
  True

def Pre_WinVIdeal (m : (ℓ : Loc Cert.WinVIdeal.nD Cert.WinVIdeal.τ Cert.WinVIdeal.sig) → Buf (Elt Ideal) ℓ) : Prop :=
  True

def Pre_WinVRefIdeal (m : (ℓ : Loc Cert.WinVRefIdeal.nD Cert.WinVRefIdeal.τ Cert.WinVRefIdeal.sig) → Buf (Elt Ideal) ℓ) : Prop :=
  True

def Pre_EvenSample (m : (ℓ : Loc Cert.EvenSample.nD Cert.EvenSample.τ Cert.EvenSample.sig) → Buf (Elt Bits) ℓ) : Prop :=
  True

def Pre_EvenSampleIdeal (m : (ℓ : Loc Cert.EvenSampleIdeal.nD Cert.EvenSampleIdeal.τ Cert.EvenSampleIdeal.sig) → Buf (Elt Ideal) ℓ) : Prop :=
  True

def Pre_EvenSampleRefIdeal (m : (ℓ : Loc Cert.EvenSampleRefIdeal.nD Cert.EvenSampleRefIdeal.τ Cert.EvenSampleRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOutSample (m : (ℓ : Loc Cert.EvenOutSample.nD Cert.EvenOutSample.τ Cert.EvenOutSample.sig) → Buf (Elt Bits) ℓ) : Prop :=
  True

def Pre_EvenOutSampleIdeal (m : (ℓ : Loc Cert.EvenOutSampleIdeal.nD Cert.EvenOutSampleIdeal.τ Cert.EvenOutSampleIdeal.sig) → Buf (Elt Ideal) ℓ) : Prop :=
  True

def Pre_EvenOutSampleRefIdeal (m : (ℓ : Loc Cert.EvenOutSampleRefIdeal.nD Cert.EvenOutSampleRefIdeal.τ Cert.EvenOutSampleRefIdeal.sig) → Buf (Elt Ideal) ℓ) : Prop :=
  True

def Pre_OddOutSample (m : (ℓ : Loc Cert.OddOutSample.nD Cert.OddOutSample.τ Cert.OddOutSample.sig) → Buf (Elt Bits) ℓ) : Prop :=
  True

def Pre_OddOutSampleIdeal (m : (ℓ : Loc Cert.OddOutSampleIdeal.nD Cert.OddOutSampleIdeal.τ Cert.OddOutSampleIdeal.sig) → Buf (Elt Ideal) ℓ) : Prop :=
  True

def Pre_OddOutSampleRefIdeal (m : (ℓ : Loc Cert.OddOutSampleRefIdeal.nD Cert.OddOutSampleRefIdeal.τ Cert.OddOutSampleRefIdeal.sig) → Buf (Elt Ideal) ℓ) : Prop :=
  True

def Pre_ModPrompt (m : (ℓ : Loc Cert.ModPrompt.nD Cert.ModPrompt.τ Cert.ModPrompt.sig) → Buf (Elt Bits) ℓ) : Prop :=
  True

def Pre_ModPromptIdeal (m : (ℓ : Loc Cert.ModPromptIdeal.nD Cert.ModPromptIdeal.τ Cert.ModPromptIdeal.sig) → Buf (Elt Ideal) ℓ) : Prop :=
  True

def Pre_ModPromptRefIdeal (m : (ℓ : Loc Cert.ModPromptRefIdeal.nD Cert.ModPromptRefIdeal.τ Cert.ModPromptRefIdeal.sig) → Buf (Elt Ideal) ℓ) : Prop :=
  True

def Pre_ModSample (m : (ℓ : Loc Cert.ModSample.nD Cert.ModSample.τ Cert.ModSample.sig) → Buf (Elt Bits) ℓ) : Prop :=
  True

def Pre_ModSampleIdeal (m : (ℓ : Loc Cert.ModSampleIdeal.nD Cert.ModSampleIdeal.τ Cert.ModSampleIdeal.sig) → Buf (Elt Ideal) ℓ) : Prop :=
  True

def Pre_ModSampleRefIdeal (m : (ℓ : Loc Cert.ModSampleRefIdeal.nD Cert.ModSampleRefIdeal.τ Cert.ModSampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_CmpPrompt (m : (ℓ : Loc Cert.CmpPrompt.nD Cert.CmpPrompt.τ Cert.CmpPrompt.sig) → Buf (Elt Bits) ℓ) : Prop :=
  True

def Pre_CmpPromptIdeal (m : (ℓ : Loc Cert.CmpPromptIdeal.nD Cert.CmpPromptIdeal.τ Cert.CmpPromptIdeal.sig) → Buf (Elt Ideal) ℓ) : Prop :=
  True

def Pre_CmpPromptRefIdeal (m : (ℓ : Loc Cert.CmpPromptRefIdeal.nD Cert.CmpPromptRefIdeal.τ Cert.CmpPromptRefIdeal.sig) → Buf (Elt Ideal) ℓ) : Prop :=
  True

def Pre_CmpSample (m : (ℓ : Loc Cert.CmpSample.nD Cert.CmpSample.τ Cert.CmpSample.sig) → Buf (Elt Bits) ℓ) : Prop :=
  True

def Pre_CmpSampleIdeal (m : (ℓ : Loc Cert.CmpSampleIdeal.nD Cert.CmpSampleIdeal.τ Cert.CmpSampleIdeal.sig) → Buf (Elt Ideal) ℓ) : Prop :=
  True

def Pre_CmpSampleRefIdeal (m : (ℓ : Loc Cert.CmpSampleRefIdeal.nD Cert.CmpSampleRefIdeal.τ Cert.CmpSampleRefIdeal.sig) → Buf (Elt Ideal) ℓ) : Prop :=
  True

def Pre_CmpFinPrompt (m : (ℓ : Loc Cert.CmpFinPrompt.nD Cert.CmpFinPrompt.τ Cert.CmpFinPrompt.sig) → Buf (Elt Bits) ℓ) : Prop :=
  True

def Pre_CmpFinPromptIdeal (m : (ℓ : Loc Cert.CmpFinPromptIdeal.nD Cert.CmpFinPromptIdeal.τ Cert.CmpFinPromptIdeal.sig) → Buf (Elt Ideal) ℓ) : Prop :=
  True

def Pre_CmpFinPromptRefIdeal (m : (ℓ : Loc Cert.CmpFinPromptRefIdeal.nD Cert.CmpFinPromptRefIdeal.τ Cert.CmpFinPromptRefIdeal.sig) → Buf (Elt Ideal) ℓ) : Prop :=
  True

def Pre_WinSample (m : (ℓ : Loc Cert.WinSample.nD Cert.WinSample.τ Cert.WinSample.sig) → Buf (Elt Bits) ℓ) : Prop :=
  True

def Pre_WinSampleIdeal (m : (ℓ : Loc Cert.WinSampleIdeal.nD Cert.WinSampleIdeal.τ Cert.WinSampleIdeal.sig) → Buf (Elt Ideal) ℓ) : Prop :=
  True

def Pre_WinSampleRefIdeal (m : (ℓ : Loc Cert.WinSampleRefIdeal.nD Cert.WinSampleRefIdeal.τ Cert.WinSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11))
      ∧ r.2.sem = fun _ => 0)

def quiescent_MobaQ [hMobaQ : Cert.MobaQ.Facts] : Prop :=
  ∀ (m : (ℓ : Loc Cert.MobaQ.nD Cert.MobaQ.τ Cert.MobaQ.sig) → Buf (Elt Bits) ℓ) (g : Dev Cert.MobaQ.nD → PrngReg), Pre_MobaQ m →
    θ_run (Cert.MobaQ.defs (F := Bits)) (onTc (τ := Cert.MobaQ.τ) (Cert.MobaQ.main (F := Bits))) ⟨m, fun _ => 0, g⟩ (fun r => (∀ c : Dev Cert.MobaQ.nD,
      r.2.mem ((c.tc : Thread Cert.MobaQ.nD Cert.MobaQ.τ).loc Cert.MobaQ.main_arg0) = m ((c.tc : Thread Cert.MobaQ.nD Cert.MobaQ.τ).loc Cert.MobaQ.main_arg0)
      ∧ r.2.mem ((c.tc : Thread Cert.MobaQ.nD Cert.MobaQ.τ).loc Cert.MobaQ.main_arg1) = m ((c.tc : Thread Cert.MobaQ.nD Cert.MobaQ.τ).loc Cert.MobaQ.main_arg1))
      ∧ r.2.sem = fun _ => 0)

def quiescent_MobaQIdeal [hMobaQIdeal : Cert.MobaQIdeal.Facts] : Prop :=
  ∀ (m : (ℓ : Loc Cert.MobaQIdeal.nD Cert.MobaQIdeal.τ Cert.MobaQIdeal.sig) → Buf (Elt Ideal) ℓ) (g : Dev Cert.MobaQIdeal.nD → PrngReg), Pre_MobaQIdeal m →
    θ_run (Cert.MobaQIdeal.defs (F := Ideal)) (onTc (τ := Cert.MobaQIdeal.τ) (Cert.MobaQIdeal.main (F := Ideal))) ⟨m, fun _ => 0, g⟩ (fun r => (∀ c : Dev Cert.MobaQIdeal.nD,
      r.2.mem ((c.tc : Thread Cert.MobaQIdeal.nD Cert.MobaQIdeal.τ).loc Cert.MobaQIdeal.main_arg0) = m ((c.tc : Thread Cert.MobaQIdeal.nD Cert.MobaQIdeal.τ).loc Cert.MobaQIdeal.main_arg0)
      ∧ r.2.mem ((c.tc : Thread Cert.MobaQIdeal.nD Cert.MobaQIdeal.τ).loc Cert.MobaQIdeal.main_arg1) = m ((c.tc : Thread Cert.MobaQIdeal.nD Cert.MobaQIdeal.τ).loc Cert.MobaQIdeal.main_arg1))
      ∧ r.2.sem = fun _ => 0)

def quiescent_MobaQRefIdeal [hMobaQRefIdeal : Cert.MobaQRefIdeal.Facts] : Prop :=
  ∀ (m : (ℓ : Loc Cert.MobaQRefIdeal.nD Cert.MobaQRefIdeal.τ Cert.MobaQRefIdeal.sig) → Buf (Elt Ideal) ℓ) (g : Dev Cert.MobaQRefIdeal.nD → PrngReg), Pre_MobaQRefIdeal m →
    θ_run (Cert.MobaQRefIdeal.defs (F := Ideal)) (onTc (τ := Cert.MobaQRefIdeal.τ) (Cert.MobaQRefIdeal.main (F := Ideal))) ⟨m, fun _ => 0, g⟩ (fun r => (∀ c : Dev Cert.MobaQRefIdeal.nD,
      r.2.mem ((c.tc : Thread Cert.MobaQRefIdeal.nD Cert.MobaQRefIdeal.τ).loc Cert.MobaQRefIdeal.main_arg0) = m ((c.tc : Thread Cert.MobaQRefIdeal.nD Cert.MobaQRefIdeal.τ).loc Cert.MobaQRefIdeal.main_arg0)
      ∧ r.2.mem ((c.tc : Thread Cert.MobaQRefIdeal.nD Cert.MobaQRefIdeal.τ).loc Cert.MobaQRefIdeal.main_arg1) = m ((c.tc : Thread Cert.MobaQRefIdeal.nD Cert.MobaQRefIdeal.τ).loc Cert.MobaQRefIdeal.main_arg1))
      ∧ r.2.sem = fun _ => 0)

def quiescent_MobaK [hMobaK : Cert.MobaK.Facts] : Prop :=
  ∀ (m : (ℓ : Loc Cert.MobaK.nD Cert.MobaK.τ Cert.MobaK.sig) → Buf (Elt Bits) ℓ) (g : Dev Cert.MobaK.nD → PrngReg), Pre_MobaK m →
    θ_run (Cert.MobaK.defs (F := Bits)) (onTc (τ := Cert.MobaK.τ) (Cert.MobaK.main (F := Bits))) ⟨m, fun _ => 0, g⟩ (fun r => (∀ c : Dev Cert.MobaK.nD,
      r.2.mem ((c.tc : Thread Cert.MobaK.nD Cert.MobaK.τ).loc Cert.MobaK.main_arg0) = m ((c.tc : Thread Cert.MobaK.nD Cert.MobaK.τ).loc Cert.MobaK.main_arg0)
      ∧ r.2.mem ((c.tc : Thread Cert.MobaK.nD Cert.MobaK.τ).loc Cert.MobaK.main_arg1) = m ((c.tc : Thread Cert.MobaK.nD Cert.MobaK.τ).loc Cert.MobaK.main_arg1))
      ∧ r.2.sem = fun _ => 0)

def quiescent_MobaKIdeal [hMobaKIdeal : Cert.MobaKIdeal.Facts] : Prop :=
  ∀ (m : (ℓ : Loc Cert.MobaKIdeal.nD Cert.MobaKIdeal.τ Cert.MobaKIdeal.sig) → Buf (Elt Ideal) ℓ) (g : Dev Cert.MobaKIdeal.nD → PrngReg), Pre_MobaKIdeal m →
    θ_run (Cert.MobaKIdeal.defs (F := Ideal)) (onTc (τ := Cert.MobaKIdeal.τ) (Cert.MobaKIdeal.main (F := Ideal))) ⟨m, fun _ => 0, g⟩ (fun r => (∀ c : Dev Cert.MobaKIdeal.nD,
      r.2.mem ((c.tc : Thread Cert.MobaKIdeal.nD Cert.MobaKIdeal.τ).loc Cert.MobaKIdeal.main_arg0) = m ((c.tc : Thread Cert.MobaKIdeal.nD Cert.MobaKIdeal.τ).loc Cert.MobaKIdeal.main_arg0)
      ∧ r.2.mem ((c.tc : Thread Cert.MobaKIdeal.nD Cert.MobaKIdeal.τ).loc Cert.MobaKIdeal.main_arg1) = m ((c.tc : Thread Cert.MobaKIdeal.nD Cert.MobaKIdeal.τ).loc Cert.MobaKIdeal.main_arg1))
      ∧ r.2.sem = fun _ => 0)

def quiescent_MobaKRefIdeal [hMobaKRefIdeal : Cert.MobaKRefIdeal.Facts] : Prop :=
  ∀ (m : (ℓ : Loc Cert.MobaKRefIdeal.nD Cert.MobaKRefIdeal.τ Cert.MobaKRefIdeal.sig) → Buf (Elt Ideal) ℓ) (g : Dev Cert.MobaKRefIdeal.nD → PrngReg), Pre_MobaKRefIdeal m →
    θ_run (Cert.MobaKRefIdeal.defs (F := Ideal)) (onTc (τ := Cert.MobaKRefIdeal.τ) (Cert.MobaKRefIdeal.main (F := Ideal))) ⟨m, fun _ => 0, g⟩ (fun r => (∀ c : Dev Cert.MobaKRefIdeal.nD,
      r.2.mem ((c.tc : Thread Cert.MobaKRefIdeal.nD Cert.MobaKRefIdeal.τ).loc Cert.MobaKRefIdeal.main_arg0) = m ((c.tc : Thread Cert.MobaKRefIdeal.nD Cert.MobaKRefIdeal.τ).loc Cert.MobaKRefIdeal.main_arg0)
      ∧ r.2.mem ((c.tc : Thread Cert.MobaKRefIdeal.nD Cert.MobaKRefIdeal.τ).loc Cert.MobaKRefIdeal.main_arg1) = m ((c.tc : Thread Cert.MobaKRefIdeal.nD Cert.MobaKRefIdeal.τ).loc Cert.MobaKRefIdeal.main_arg1))
      ∧ r.2.sem = fun _ => 0)

def quiescent_MobaV [hMobaV : Cert.MobaV.Facts] : Prop :=
  ∀ (m : (ℓ : Loc Cert.MobaV.nD Cert.MobaV.τ Cert.MobaV.sig) → Buf (Elt Bits) ℓ) (g : Dev Cert.MobaV.nD → PrngReg), Pre_MobaV m →
    θ_run (Cert.MobaV.defs (F := Bits)) (onTc (τ := Cert.MobaV.τ) (Cert.MobaV.main (F := Bits))) ⟨m, fun _ => 0, g⟩ (fun r => (∀ c : Dev Cert.MobaV.nD,
      r.2.mem ((c.tc : Thread Cert.MobaV.nD Cert.MobaV.τ).loc Cert.MobaV.main_arg0) = m ((c.tc : Thread Cert.MobaV.nD Cert.MobaV.τ).loc Cert.MobaV.main_arg0)
      ∧ r.2.mem ((c.tc : Thread Cert.MobaV.nD Cert.MobaV.τ).loc Cert.MobaV.main_arg1) = m ((c.tc : Thread Cert.MobaV.nD Cert.MobaV.τ).loc Cert.MobaV.main_arg1))
      ∧ r.2.sem = fun _ => 0)

def quiescent_MobaVIdeal [hMobaVIdeal : Cert.MobaVIdeal.Facts] : Prop :=
  ∀ (m : (ℓ : Loc Cert.MobaVIdeal.nD Cert.MobaVIdeal.τ Cert.MobaVIdeal.sig) → Buf (Elt Ideal) ℓ) (g : Dev Cert.MobaVIdeal.nD → PrngReg), Pre_MobaVIdeal m →
    θ_run (Cert.MobaVIdeal.defs (F := Ideal)) (onTc (τ := Cert.MobaVIdeal.τ) (Cert.MobaVIdeal.main (F := Ideal))) ⟨m, fun _ => 0, g⟩ (fun r => (∀ c : Dev Cert.MobaVIdeal.nD,
      r.2.mem ((c.tc : Thread Cert.MobaVIdeal.nD Cert.MobaVIdeal.τ).loc Cert.MobaVIdeal.main_arg0) = m ((c.tc : Thread Cert.MobaVIdeal.nD Cert.MobaVIdeal.τ).loc Cert.MobaVIdeal.main_arg0)
      ∧ r.2.mem ((c.tc : Thread Cert.MobaVIdeal.nD Cert.MobaVIdeal.τ).loc Cert.MobaVIdeal.main_arg1) = m ((c.tc : Thread Cert.MobaVIdeal.nD Cert.MobaVIdeal.τ).loc Cert.MobaVIdeal.main_arg1))
      ∧ r.2.sem = fun _ => 0)

def quiescent_MobaVRefIdeal [hMobaVRefIdeal : Cert.MobaVRefIdeal.Facts] : Prop :=
  ∀ (m : (ℓ : Loc Cert.MobaVRefIdeal.nD Cert.MobaVRefIdeal.τ Cert.MobaVRefIdeal.sig) → Buf (Elt Ideal) ℓ) (g : Dev Cert.MobaVRefIdeal.nD → PrngReg), Pre_MobaVRefIdeal m →
    θ_run (Cert.MobaVRefIdeal.defs (F := Ideal)) (onTc (τ := Cert.MobaVRefIdeal.τ) (Cert.MobaVRefIdeal.main (F := Ideal))) ⟨m, fun _ => 0, g⟩ (fun r => (∀ c : Dev Cert.MobaVRefIdeal.nD,
      r.2.mem ((c.tc : Thread Cert.MobaVRefIdeal.nD Cert.MobaVRefIdeal.τ).loc Cert.MobaVRefIdeal.main_arg0) = m ((c.tc : Thread Cert.MobaVRefIdeal.nD Cert.MobaVRefIdeal.τ).loc Cert.MobaVRefIdeal.main_arg0)
      ∧ r.2.mem ((c.tc : Thread Cert.MobaVRefIdeal.nD Cert.MobaVRefIdeal.τ).loc Cert.MobaVRefIdeal.main_arg1) = m ((c.tc : Thread Cert.MobaVRefIdeal.nD Cert.MobaVRefIdeal.τ).loc Cert.MobaVRefIdeal.main_arg1))
      ∧ r.2.sem = fun _ => 0)

def quiescent_MobaSample [hMobaSample : Cert.MobaSample.Facts] : Prop :=
  ∀ (m : (ℓ : Loc Cert.MobaSample.nD Cert.MobaSample.τ Cert.MobaSample.sig) → Buf (Elt Bits) ℓ) (g : Dev Cert.MobaSample.nD → PrngReg), Pre_MobaSample m →
    θ_run (Cert.MobaSample.defs (F := Bits)) (onTc (τ := Cert.MobaSample.τ) (Cert.MobaSample.main (F := Bits))) ⟨m, fun _ => 0, g⟩ (fun r => (∀ c : Dev Cert.MobaSample.nD,
      r.2.mem ((c.tc : Thread Cert.MobaSample.nD Cert.MobaSample.τ).loc Cert.MobaSample.main_arg0) = m ((c.tc : Thread Cert.MobaSample.nD Cert.MobaSample.τ).loc Cert.MobaSample.main_arg0)
      ∧ r.2.mem ((c.tc : Thread Cert.MobaSample.nD Cert.MobaSample.τ).loc Cert.MobaSample.main_arg1) = m ((c.tc : Thread Cert.MobaSample.nD Cert.MobaSample.τ).loc Cert.MobaSample.main_arg1))
      ∧ r.2.sem = fun _ => 0)

def quiescent_MobaSampleIdeal [hMobaSampleIdeal : Cert.MobaSampleIdeal.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg), Pre_MobaSampleIdeal m →
    θ_run (Cert.MobaSampleIdeal.defs (F := Ideal)) (onTc (τ := Cert.MobaSampleIdeal.τ) (Cert.MobaSampleIdeal.main (F := Ideal))) ⟨m, fun _ => 0, g⟩ (fun r => (∀ c : Dev Cert.MobaSampleIdeal.nD,
      r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
      ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1))
      ∧ r.2.sem = fun _ => 0)

def quiescent_MobaSampleRefIdeal [hMobaSampleRefIdeal : Cert.MobaSampleRefIdeal.Facts] : Prop :=
  ∀ (m : (ℓ : Loc Cert.MobaSampleRefIdeal.nD Cert.MobaSampleRefIdeal.τ Cert.MobaSampleRefIdeal.sig) → Buf (Elt Ideal) ℓ) (g : Dev Cert.MobaSampleRefIdeal.nD → PrngReg), Pre_MobaSampleRefIdeal m →
    θ_run (Cert.MobaSampleRefIdeal.defs (F := Ideal)) (onTc (τ := Cert.MobaSampleRefIdeal.τ) (Cert.MobaSampleRefIdeal.main (F := Ideal))) ⟨m, fun _ => 0, g⟩ (fun r => (∀ c : Dev Cert.MobaSampleRefIdeal.nD,
      r.2.mem ((c.tc : Thread Cert.MobaSampleRefIdeal.nD Cert.MobaSampleRefIdeal.τ).loc Cert.MobaSampleRefIdeal.main_arg0) = m ((c.tc : Thread Cert.MobaSampleRefIdeal.nD Cert.MobaSampleRefIdeal.τ).loc Cert.MobaSampleRefIdeal.main_arg0)
      ∧ r.2.mem ((c.tc : Thread Cert.MobaSampleRefIdeal.nD Cert.MobaSampleRefIdeal.τ).loc Cert.MobaSampleRefIdeal.main_arg1) = m ((c.tc : Thread Cert.MobaSampleRefIdeal.nD Cert.MobaSampleRefIdeal.τ).loc Cert.MobaSampleRefIdeal.main_arg1))
      ∧ r.2.sem = fun _ => 0)

def quiescent_DiffQ [hDiffQ : Cert.DiffQ.Facts] : Prop :=
  ∀ (m : (ℓ : Loc Cert.DiffQ.nD Cert.DiffQ.τ Cert.DiffQ.sig) → Buf (Elt Bits) ℓ) (g : Dev Cert.DiffQ.nD → PrngReg), Pre_DiffQ m →
    θ_run (Cert.DiffQ.defs (F := Bits)) (onTc (τ := Cert.DiffQ.τ) (Cert.DiffQ.main (F := Bits))) ⟨m, fun _ => 0, g⟩ (fun r => (∀ c : Dev Cert.DiffQ.nD,
      r.2.mem ((c.tc : Thread Cert.DiffQ.nD Cert.DiffQ.τ).loc Cert.DiffQ.main_arg0) = m ((c.tc : Thread Cert.DiffQ.nD Cert.DiffQ.τ).loc Cert.DiffQ.main_arg0)
      ∧ r.2.mem ((c.tc : Thread Cert.DiffQ.nD Cert.DiffQ.τ).loc Cert.DiffQ.main_arg1) = m ((c.tc : Thread Cert.DiffQ.nD Cert.DiffQ.τ).loc Cert.DiffQ.main_arg1))
      ∧ r.2.sem = fun _ => 0)

def quiescent_DiffQIdeal [hDiffQIdeal : Cert.DiffQIdeal.Facts] : Prop :=
  ∀ (m : (ℓ : Loc Cert.DiffQIdeal.nD Cert.DiffQIdeal.τ Cert.DiffQIdeal.sig) → Buf (Elt Ideal) ℓ) (g : Dev Cert.DiffQIdeal.nD → PrngReg), Pre_DiffQIdeal m →
    θ_run (Cert.DiffQIdeal.defs (F := Ideal)) (onTc (τ := Cert.DiffQIdeal.τ) (Cert.DiffQIdeal.main (F := Ideal))) ⟨m, fun _ => 0, g⟩ (fun r => (∀ c : Dev Cert.DiffQIdeal.nD,
      r.2.mem ((c.tc : Thread Cert.DiffQIdeal.nD Cert.DiffQIdeal.τ).loc Cert.DiffQIdeal.main_arg0) = m ((c.tc : Thread Cert.DiffQIdeal.nD Cert.DiffQIdeal.τ).loc Cert.DiffQIdeal.main_arg0)
      ∧ r.2.mem ((c.tc : Thread Cert.DiffQIdeal.nD Cert.DiffQIdeal.τ).loc Cert.DiffQIdeal.main_arg1) = m ((c.tc : Thread Cert.DiffQIdeal.nD Cert.DiffQIdeal.τ).loc Cert.DiffQIdeal.main_arg1))
      ∧ r.2.sem = fun _ => 0)

def quiescent_DiffQRefIdeal [hDiffQRefIdeal : Cert.DiffQRefIdeal.Facts] : Prop :=
  ∀ (m : (ℓ : Loc Cert.DiffQRefIdeal.nD Cert.DiffQRefIdeal.τ Cert.DiffQRefIdeal.sig) → Buf (Elt Ideal) ℓ) (g : Dev Cert.DiffQRefIdeal.nD → PrngReg), Pre_DiffQRefIdeal m →
    θ_run (Cert.DiffQRefIdeal.defs (F := Ideal)) (onTc (τ := Cert.DiffQRefIdeal.τ) (Cert.DiffQRefIdeal.main (F := Ideal))) ⟨m, fun _ => 0, g⟩ (fun r => (∀ c : Dev Cert.DiffQRefIdeal.nD,
      r.2.mem ((c.tc : Thread Cert.DiffQRefIdeal.nD Cert.DiffQRefIdeal.τ).loc Cert.DiffQRefIdeal.main_arg0) = m ((c.tc : Thread Cert.DiffQRefIdeal.nD Cert.DiffQRefIdeal.τ).loc Cert.DiffQRefIdeal.main_arg0)
      ∧ r.2.mem ((c.tc : Thread Cert.DiffQRefIdeal.nD Cert.DiffQRefIdeal.τ).loc Cert.DiffQRefIdeal.main_arg1) = m ((c.tc : Thread Cert.DiffQRefIdeal.nD Cert.DiffQRefIdeal.τ).loc Cert.DiffQRefIdeal.main_arg1))
      ∧ r.2.sem = fun _ => 0)

def quiescent_DiffK [hDiffK : Cert.DiffK.Facts] : Prop :=
  ∀ (m : (ℓ : Loc Cert.DiffK.nD Cert.DiffK.τ Cert.DiffK.sig) → Buf (Elt Bits) ℓ) (g : Dev Cert.DiffK.nD → PrngReg), Pre_DiffK m →
    θ_run (Cert.DiffK.defs (F := Bits)) (onTc (τ := Cert.DiffK.τ) (Cert.DiffK.main (F := Bits))) ⟨m, fun _ => 0, g⟩ (fun r => (∀ c : Dev Cert.DiffK.nD,
      r.2.mem ((c.tc : Thread Cert.DiffK.nD Cert.DiffK.τ).loc Cert.DiffK.main_arg0) = m ((c.tc : Thread Cert.DiffK.nD Cert.DiffK.τ).loc Cert.DiffK.main_arg0)
      ∧ r.2.mem ((c.tc : Thread Cert.DiffK.nD Cert.DiffK.τ).loc Cert.DiffK.main_arg1) = m ((c.tc : Thread Cert.DiffK.nD Cert.DiffK.τ).loc Cert.DiffK.main_arg1))
      ∧ r.2.sem = fun _ => 0)

def quiescent_DiffKIdeal [hDiffKIdeal : Cert.DiffKIdeal.Facts] : Prop :=
  ∀ (m : (ℓ : Loc Cert.DiffKIdeal.nD Cert.DiffKIdeal.τ Cert.DiffKIdeal.sig) → Buf (Elt Ideal) ℓ) (g : Dev Cert.DiffKIdeal.nD → PrngReg), Pre_DiffKIdeal m →
    θ_run (Cert.DiffKIdeal.defs (F := Ideal)) (onTc (τ := Cert.DiffKIdeal.τ) (Cert.DiffKIdeal.main (F := Ideal))) ⟨m, fun _ => 0, g⟩ (fun r => (∀ c : Dev Cert.DiffKIdeal.nD,
      r.2.mem ((c.tc : Thread Cert.DiffKIdeal.nD Cert.DiffKIdeal.τ).loc Cert.DiffKIdeal.main_arg0) = m ((c.tc : Thread Cert.DiffKIdeal.nD Cert.DiffKIdeal.τ).loc Cert.DiffKIdeal.main_arg0)
      ∧ r.2.mem ((c.tc : Thread Cert.DiffKIdeal.nD Cert.DiffKIdeal.τ).loc Cert.DiffKIdeal.main_arg1) = m ((c.tc : Thread Cert.DiffKIdeal.nD Cert.DiffKIdeal.τ).loc Cert.DiffKIdeal.main_arg1))
      ∧ r.2.sem = fun _ => 0)

def quiescent_DiffKRefIdeal [hDiffKRefIdeal : Cert.DiffKRefIdeal.Facts] : Prop :=
  ∀ (m : (ℓ : Loc Cert.DiffKRefIdeal.nD Cert.DiffKRefIdeal.τ Cert.DiffKRefIdeal.sig) → Buf (Elt Ideal) ℓ) (g : Dev Cert.DiffKRefIdeal.nD → PrngReg), Pre_DiffKRefIdeal m →
    θ_run (Cert.DiffKRefIdeal.defs (F := Ideal)) (onTc (τ := Cert.DiffKRefIdeal.τ) (Cert.DiffKRefIdeal.main (F := Ideal))) ⟨m, fun _ => 0, g⟩ (fun r => (∀ c : Dev Cert.DiffKRefIdeal.nD,
      r.2.mem ((c.tc : Thread Cert.DiffKRefIdeal.nD Cert.DiffKRefIdeal.τ).loc Cert.DiffKRefIdeal.main_arg0) = m ((c.tc : Thread Cert.DiffKRefIdeal.nD Cert.DiffKRefIdeal.τ).loc Cert.DiffKRefIdeal.main_arg0)
      ∧ r.2.mem ((c.tc : Thread Cert.DiffKRefIdeal.nD Cert.DiffKRefIdeal.τ).loc Cert.DiffKRefIdeal.main_arg1) = m ((c.tc : Thread Cert.DiffKRefIdeal.nD Cert.DiffKRefIdeal.τ).loc Cert.DiffKRefIdeal.main_arg1))
      ∧ r.2.sem = fun _ => 0)

def quiescent_DiffV [hDiffV : Cert.DiffV.Facts] : Prop :=
  ∀ (m : (ℓ : Loc Cert.DiffV.nD Cert.DiffV.τ Cert.DiffV.sig) → Buf (Elt Bits) ℓ) (g : Dev Cert.DiffV.nD → PrngReg), Pre_DiffV m →
    θ_run (Cert.DiffV.defs (F := Bits)) (onTc (τ := Cert.DiffV.τ) (Cert.DiffV.main (F := Bits))) ⟨m, fun _ => 0, g⟩ (fun r => (∀ c : Dev Cert.DiffV.nD,
      r.2.mem ((c.tc : Thread Cert.DiffV.nD Cert.DiffV.τ).loc Cert.DiffV.main_arg0) = m ((c.tc : Thread Cert.DiffV.nD Cert.DiffV.τ).loc Cert.DiffV.main_arg0)
      ∧ r.2.mem ((c.tc : Thread Cert.DiffV.nD Cert.DiffV.τ).loc Cert.DiffV.main_arg1) = m ((c.tc : Thread Cert.DiffV.nD Cert.DiffV.τ).loc Cert.DiffV.main_arg1))
      ∧ r.2.sem = fun _ => 0)

def quiescent_DiffVIdeal [hDiffVIdeal : Cert.DiffVIdeal.Facts] : Prop :=
  ∀ (m : (ℓ : Loc Cert.DiffVIdeal.nD Cert.DiffVIdeal.τ Cert.DiffVIdeal.sig) → Buf (Elt Ideal) ℓ) (g : Dev Cert.DiffVIdeal.nD → PrngReg), Pre_DiffVIdeal m →
    θ_run (Cert.DiffVIdeal.defs (F := Ideal)) (onTc (τ := Cert.DiffVIdeal.τ) (Cert.DiffVIdeal.main (F := Ideal))) ⟨m, fun _ => 0, g⟩ (fun r => (∀ c : Dev Cert.DiffVIdeal.nD,
      r.2.mem ((c.tc : Thread Cert.DiffVIdeal.nD Cert.DiffVIdeal.τ).loc Cert.DiffVIdeal.main_arg0) = m ((c.tc : Thread Cert.DiffVIdeal.nD Cert.DiffVIdeal.τ).loc Cert.DiffVIdeal.main_arg0)
      ∧ r.2.mem ((c.tc : Thread Cert.DiffVIdeal.nD Cert.DiffVIdeal.τ).loc Cert.DiffVIdeal.main_arg1) = m ((c.tc : Thread Cert.DiffVIdeal.nD Cert.DiffVIdeal.τ).loc Cert.DiffVIdeal.main_arg1))
      ∧ r.2.sem = fun _ => 0)

def quiescent_DiffVRefIdeal [hDiffVRefIdeal : Cert.DiffVRefIdeal.Facts] : Prop :=
  ∀ (m : (ℓ : Loc Cert.DiffVRefIdeal.nD Cert.DiffVRefIdeal.τ Cert.DiffVRefIdeal.sig) → Buf (Elt Ideal) ℓ) (g : Dev Cert.DiffVRefIdeal.nD → PrngReg), Pre_DiffVRefIdeal m →
    θ_run (Cert.DiffVRefIdeal.defs (F := Ideal)) (onTc (τ := Cert.DiffVRefIdeal.τ) (Cert.DiffVRefIdeal.main (F := Ideal))) ⟨m, fun _ => 0, g⟩ (fun r => (∀ c : Dev Cert.DiffVRefIdeal.nD,
      r.2.mem ((c.tc : Thread Cert.DiffVRefIdeal.nD Cert.DiffVRefIdeal.τ).loc Cert.DiffVRefIdeal.main_arg0) = m ((c.tc : Thread Cert.DiffVRefIdeal.nD Cert.DiffVRefIdeal.τ).loc Cert.DiffVRefIdeal.main_arg0)
      ∧ r.2.mem ((c.tc : Thread Cert.DiffVRefIdeal.nD Cert.DiffVRefIdeal.τ).loc Cert.DiffVRefIdeal.main_arg1) = m ((c.tc : Thread Cert.DiffVRefIdeal.nD Cert.DiffVRefIdeal.τ).loc Cert.DiffVRefIdeal.main_arg1))
      ∧ r.2.sem = fun _ => 0)

def quiescent_NsaQ [hNsaQ : Cert.NsaQ.Facts] : Prop :=
  ∀ (m : (ℓ : Loc Cert.NsaQ.nD Cert.NsaQ.τ Cert.NsaQ.sig) → Buf (Elt Bits) ℓ) (g : Dev Cert.NsaQ.nD → PrngReg), Pre_NsaQ m →
    θ_run (Cert.NsaQ.defs (F := Bits)) (onTc (τ := Cert.NsaQ.τ) (Cert.NsaQ.main (F := Bits))) ⟨m, fun _ => 0, g⟩ (fun r => (∀ c : Dev Cert.NsaQ.nD,
      r.2.mem ((c.tc : Thread Cert.NsaQ.nD Cert.NsaQ.τ).loc Cert.NsaQ.main_arg0) = m ((c.tc : Thread Cert.NsaQ.nD Cert.NsaQ.τ).loc Cert.NsaQ.main_arg0)
      ∧ r.2.mem ((c.tc : Thread Cert.NsaQ.nD Cert.NsaQ.τ).loc Cert.NsaQ.main_arg1) = m ((c.tc : Thread Cert.NsaQ.nD Cert.NsaQ.τ).loc Cert.NsaQ.main_arg1))
      ∧ r.2.sem = fun _ => 0)

def quiescent_NsaQIdeal [hNsaQIdeal : Cert.NsaQIdeal.Facts] : Prop :=
  ∀ (m : (ℓ : Loc Cert.NsaQIdeal.nD Cert.NsaQIdeal.τ Cert.NsaQIdeal.sig) → Buf (Elt Ideal) ℓ) (g : Dev Cert.NsaQIdeal.nD → PrngReg), Pre_NsaQIdeal m →
    θ_run (Cert.NsaQIdeal.defs (F := Ideal)) (onTc (τ := Cert.NsaQIdeal.τ) (Cert.NsaQIdeal.main (F := Ideal))) ⟨m, fun _ => 0, g⟩ (fun r => (∀ c : Dev Cert.NsaQIdeal.nD,
      r.2.mem ((c.tc : Thread Cert.NsaQIdeal.nD Cert.NsaQIdeal.τ).loc Cert.NsaQIdeal.main_arg0) = m ((c.tc : Thread Cert.NsaQIdeal.nD Cert.NsaQIdeal.τ).loc Cert.NsaQIdeal.main_arg0)
      ∧ r.2.mem ((c.tc : Thread Cert.NsaQIdeal.nD Cert.NsaQIdeal.τ).loc Cert.NsaQIdeal.main_arg1) = m ((c.tc : Thread Cert.NsaQIdeal.nD Cert.NsaQIdeal.τ).loc Cert.NsaQIdeal.main_arg1))
      ∧ r.2.sem = fun _ => 0)

def quiescent_NsaQRefIdeal [hNsaQRefIdeal : Cert.NsaQRefIdeal.Facts] : Prop :=
  ∀ (m : (ℓ : Loc Cert.NsaQRefIdeal.nD Cert.NsaQRefIdeal.τ Cert.NsaQRefIdeal.sig) → Buf (Elt Ideal) ℓ) (g : Dev Cert.NsaQRefIdeal.nD → PrngReg), Pre_NsaQRefIdeal m →
    θ_run (Cert.NsaQRefIdeal.defs (F := Ideal)) (onTc (τ := Cert.NsaQRefIdeal.τ) (Cert.NsaQRefIdeal.main (F := Ideal))) ⟨m, fun _ => 0, g⟩ (fun r => (∀ c : Dev Cert.NsaQRefIdeal.nD,
      r.2.mem ((c.tc : Thread Cert.NsaQRefIdeal.nD Cert.NsaQRefIdeal.τ).loc Cert.NsaQRefIdeal.main_arg0) = m ((c.tc : Thread Cert.NsaQRefIdeal.nD Cert.NsaQRefIdeal.τ).loc Cert.NsaQRefIdeal.main_arg0)
      ∧ r.2.mem ((c.tc : Thread Cert.NsaQRefIdeal.nD Cert.NsaQRefIdeal.τ).loc Cert.NsaQRefIdeal.main_arg1) = m ((c.tc : Thread Cert.NsaQRefIdeal.nD Cert.NsaQRefIdeal.τ).loc Cert.NsaQRefIdeal.main_arg1))
      ∧ r.2.sem = fun _ => 0)

def quiescent_CmpK [hCmpK : Cert.CmpK.Facts] : Prop :=
  ∀ (m : (ℓ : Loc Cert.CmpK.nD Cert.CmpK.τ Cert.CmpK.sig) → Buf (Elt Bits) ℓ) (g : Dev Cert.CmpK.nD → PrngReg), Pre_CmpK m →
    θ_run (Cert.CmpK.defs (F := Bits)) (onTc (τ := Cert.CmpK.τ) (Cert.CmpK.main (F := Bits))) ⟨m, fun _ => 0, g⟩ (fun r => (∀ c : Dev Cert.CmpK.nD,
      r.2.mem ((c.tc : Thread Cert.CmpK.nD Cert.CmpK.τ).loc Cert.CmpK.main_arg0) = m ((c.tc : Thread Cert.CmpK.nD Cert.CmpK.τ).loc Cert.CmpK.main_arg0)
      ∧ r.2.mem ((c.tc : Thread Cert.CmpK.nD Cert.CmpK.τ).loc Cert.CmpK.main_arg1) = m ((c.tc : Thread Cert.CmpK.nD Cert.CmpK.τ).loc Cert.CmpK.main_arg1))
      ∧ r.2.sem = fun _ => 0)

def quiescent_CmpKIdeal [hCmpKIdeal : Cert.CmpKIdeal.Facts] : Prop :=
  ∀ (m : (ℓ : Loc Cert.CmpKIdeal.nD Cert.CmpKIdeal.τ Cert.CmpKIdeal.sig) → Buf (Elt Ideal) ℓ) (g : Dev Cert.CmpKIdeal.nD → PrngReg), Pre_CmpKIdeal m →
    θ_run (Cert.CmpKIdeal.defs (F := Ideal)) (onTc (τ := Cert.CmpKIdeal.τ) (Cert.CmpKIdeal.main (F := Ideal))) ⟨m, fun _ => 0, g⟩ (fun r => (∀ c : Dev Cert.CmpKIdeal.nD,
      r.2.mem ((c.tc : Thread Cert.CmpKIdeal.nD Cert.CmpKIdeal.τ).loc Cert.CmpKIdeal.main_arg0) = m ((c.tc : Thread Cert.CmpKIdeal.nD Cert.CmpKIdeal.τ).loc Cert.CmpKIdeal.main_arg0)
      ∧ r.2.mem ((c.tc : Thread Cert.CmpKIdeal.nD Cert.CmpKIdeal.τ).loc Cert.CmpKIdeal.main_arg1) = m ((c.tc : Thread Cert.CmpKIdeal.nD Cert.CmpKIdeal.τ).loc Cert.CmpKIdeal.main_arg1))
      ∧ r.2.sem = fun _ => 0)

def quiescent_CmpKRefIdeal [hCmpKRefIdeal : Cert.CmpKRefIdeal.Facts] : Prop :=
  ∀ (m : (ℓ : Loc Cert.CmpKRefIdeal.nD Cert.CmpKRefIdeal.τ Cert.CmpKRefIdeal.sig) → Buf (Elt Ideal) ℓ) (g : Dev Cert.CmpKRefIdeal.nD → PrngReg), Pre_CmpKRefIdeal m →
    θ_run (Cert.CmpKRefIdeal.defs (F := Ideal)) (onTc (τ := Cert.CmpKRefIdeal.τ) (Cert.CmpKRefIdeal.main (F := Ideal))) ⟨m, fun _ => 0, g⟩ (fun r => (∀ c : Dev Cert.CmpKRefIdeal.nD,
      r.2.mem ((c.tc : Thread Cert.CmpKRefIdeal.nD Cert.CmpKRefIdeal.τ).loc Cert.CmpKRefIdeal.main_arg0) = m ((c.tc : Thread Cert.CmpKRefIdeal.nD Cert.CmpKRefIdeal.τ).loc Cert.CmpKRefIdeal.main_arg0)
      ∧ r.2.mem ((c.tc : Thread Cert.CmpKRefIdeal.nD Cert.CmpKRefIdeal.τ).loc Cert.CmpKRefIdeal.main_arg1) = m ((c.tc : Thread Cert.CmpKRefIdeal.nD Cert.CmpKRefIdeal.τ).loc Cert.CmpKRefIdeal.main_arg1))
      ∧ r.2.sem = fun _ => 0)

def quiescent_CmpV [hCmpV : Cert.CmpV.Facts] : Prop :=
  ∀ (m : (ℓ : Loc Cert.CmpV.nD Cert.CmpV.τ Cert.CmpV.sig) → Buf (Elt Bits) ℓ) (g : Dev Cert.CmpV.nD → PrngReg), Pre_CmpV m →
    θ_run (Cert.CmpV.defs (F := Bits)) (onTc (τ := Cert.CmpV.τ) (Cert.CmpV.main (F := Bits))) ⟨m, fun _ => 0, g⟩ (fun r => (∀ c : Dev Cert.CmpV.nD,
      r.2.mem ((c.tc : Thread Cert.CmpV.nD Cert.CmpV.τ).loc Cert.CmpV.main_arg0) = m ((c.tc : Thread Cert.CmpV.nD Cert.CmpV.τ).loc Cert.CmpV.main_arg0)
      ∧ r.2.mem ((c.tc : Thread Cert.CmpV.nD Cert.CmpV.τ).loc Cert.CmpV.main_arg1) = m ((c.tc : Thread Cert.CmpV.nD Cert.CmpV.τ).loc Cert.CmpV.main_arg1))
      ∧ r.2.sem = fun _ => 0)

def quiescent_CmpVIdeal [hCmpVIdeal : Cert.CmpVIdeal.Facts] : Prop :=
  ∀ (m : (ℓ : Loc Cert.CmpVIdeal.nD Cert.CmpVIdeal.τ Cert.CmpVIdeal.sig) → Buf (Elt Ideal) ℓ) (g : Dev Cert.CmpVIdeal.nD → PrngReg), Pre_CmpVIdeal m →
    θ_run (Cert.CmpVIdeal.defs (F := Ideal)) (onTc (τ := Cert.CmpVIdeal.τ) (Cert.CmpVIdeal.main (F := Ideal))) ⟨m, fun _ => 0, g⟩ (fun r => (∀ c : Dev Cert.CmpVIdeal.nD,
      r.2.mem ((c.tc : Thread Cert.CmpVIdeal.nD Cert.CmpVIdeal.τ).loc Cert.CmpVIdeal.main_arg0) = m ((c.tc : Thread Cert.CmpVIdeal.nD Cert.CmpVIdeal.τ).loc Cert.CmpVIdeal.main_arg0)
      ∧ r.2.mem ((c.tc : Thread Cert.CmpVIdeal.nD Cert.CmpVIdeal.τ).loc Cert.CmpVIdeal.main_arg1) = m ((c.tc : Thread Cert.CmpVIdeal.nD Cert.CmpVIdeal.τ).loc Cert.CmpVIdeal.main_arg1))
      ∧ r.2.sem = fun _ => 0)

def quiescent_CmpVRefIdeal [hCmpVRefIdeal : Cert.CmpVRefIdeal.Facts] : Prop :=
  ∀ (m : (ℓ : Loc Cert.CmpVRefIdeal.nD Cert.CmpVRefIdeal.τ Cert.CmpVRefIdeal.sig) → Buf (Elt Ideal) ℓ) (g : Dev Cert.CmpVRefIdeal.nD → PrngReg), Pre_CmpVRefIdeal m →
    θ_run (Cert.CmpVRefIdeal.defs (F := Ideal)) (onTc (τ := Cert.CmpVRefIdeal.τ) (Cert.CmpVRefIdeal.main (F := Ideal))) ⟨m, fun _ => 0, g⟩ (fun r => (∀ c : Dev Cert.CmpVRefIdeal.nD,
      r.2.mem ((c.tc : Thread Cert.CmpVRefIdeal.nD Cert.CmpVRefIdeal.τ).loc Cert.CmpVRefIdeal.main_arg0) = m ((c.tc : Thread Cert.CmpVRefIdeal.nD Cert.CmpVRefIdeal.τ).loc Cert.CmpVRefIdeal.main_arg0)
      ∧ r.2.mem ((c.tc : Thread Cert.CmpVRefIdeal.nD Cert.CmpVRefIdeal.τ).loc Cert.CmpVRefIdeal.main_arg1) = m ((c.tc : Thread Cert.CmpVRefIdeal.nD Cert.CmpVRefIdeal.τ).loc Cert.CmpVRefIdeal.main_arg1))
      ∧ r.2.sem = fun _ => 0)

def quiescent_SlcK [hSlcK : Cert.SlcK.Facts] : Prop :=
  ∀ (m : (ℓ : Loc Cert.SlcK.nD Cert.SlcK.τ Cert.SlcK.sig) → Buf (Elt Bits) ℓ) (g : Dev Cert.SlcK.nD → PrngReg), Pre_SlcK m →
    θ_run (Cert.SlcK.defs (F := Bits)) (onTc (τ := Cert.SlcK.τ) (Cert.SlcK.main (F := Bits))) ⟨m, fun _ => 0, g⟩ (fun r => (∀ c : Dev Cert.SlcK.nD,
      r.2.mem ((c.tc : Thread Cert.SlcK.nD Cert.SlcK.τ).loc Cert.SlcK.main_arg0) = m ((c.tc : Thread Cert.SlcK.nD Cert.SlcK.τ).loc Cert.SlcK.main_arg0)
      ∧ r.2.mem ((c.tc : Thread Cert.SlcK.nD Cert.SlcK.τ).loc Cert.SlcK.main_arg1) = m ((c.tc : Thread Cert.SlcK.nD Cert.SlcK.τ).loc Cert.SlcK.main_arg1))
      ∧ r.2.sem = fun _ => 0)

def quiescent_SlcKIdeal [hSlcKIdeal : Cert.SlcKIdeal.Facts] : Prop :=
  ∀ (m : (ℓ : Loc Cert.SlcKIdeal.nD Cert.SlcKIdeal.τ Cert.SlcKIdeal.sig) → Buf (Elt Ideal) ℓ) (g : Dev Cert.SlcKIdeal.nD → PrngReg), Pre_SlcKIdeal m →
    θ_run (Cert.SlcKIdeal.defs (F := Ideal)) (onTc (τ := Cert.SlcKIdeal.τ) (Cert.SlcKIdeal.main (F := Ideal))) ⟨m, fun _ => 0, g⟩ (fun r => (∀ c : Dev Cert.SlcKIdeal.nD,
      r.2.mem ((c.tc : Thread Cert.SlcKIdeal.nD Cert.SlcKIdeal.τ).loc Cert.SlcKIdeal.main_arg0) = m ((c.tc : Thread Cert.SlcKIdeal.nD Cert.SlcKIdeal.τ).loc Cert.SlcKIdeal.main_arg0)
      ∧ r.2.mem ((c.tc : Thread Cert.SlcKIdeal.nD Cert.SlcKIdeal.τ).loc Cert.SlcKIdeal.main_arg1) = m ((c.tc : Thread Cert.SlcKIdeal.nD Cert.SlcKIdeal.τ).loc Cert.SlcKIdeal.main_arg1))
      ∧ r.2.sem = fun _ => 0)

def quiescent_SlcKRefIdeal [hSlcKRefIdeal : Cert.SlcKRefIdeal.Facts] : Prop :=
  ∀ (m : (ℓ : Loc Cert.SlcKRefIdeal.nD Cert.SlcKRefIdeal.τ Cert.SlcKRefIdeal.sig) → Buf (Elt Ideal) ℓ) (g : Dev Cert.SlcKRefIdeal.nD → PrngReg), Pre_SlcKRefIdeal m →
    θ_run (Cert.SlcKRefIdeal.defs (F := Ideal)) (onTc (τ := Cert.SlcKRefIdeal.τ) (Cert.SlcKRefIdeal.main (F := Ideal))) ⟨m, fun _ => 0, g⟩ (fun r => (∀ c : Dev Cert.SlcKRefIdeal.nD,
      r.2.mem ((c.tc : Thread Cert.SlcKRefIdeal.nD Cert.SlcKRefIdeal.τ).loc Cert.SlcKRefIdeal.main_arg0) = m ((c.tc : Thread Cert.SlcKRefIdeal.nD Cert.SlcKRefIdeal.τ).loc Cert.SlcKRefIdeal.main_arg0)
      ∧ r.2.mem ((c.tc : Thread Cert.SlcKRefIdeal.nD Cert.SlcKRefIdeal.τ).loc Cert.SlcKRefIdeal.main_arg1) = m ((c.tc : Thread Cert.SlcKRefIdeal.nD Cert.SlcKRefIdeal.τ).loc Cert.SlcKRefIdeal.main_arg1))
      ∧ r.2.sem = fun _ => 0)

def quiescent_SlcV [hSlcV : Cert.SlcV.Facts] : Prop :=
  ∀ (m : (ℓ : Loc Cert.SlcV.nD Cert.SlcV.τ Cert.SlcV.sig) → Buf (Elt Bits) ℓ) (g : Dev Cert.SlcV.nD → PrngReg), Pre_SlcV m →
    θ_run (Cert.SlcV.defs (F := Bits)) (onTc (τ := Cert.SlcV.τ) (Cert.SlcV.main (F := Bits))) ⟨m, fun _ => 0, g⟩ (fun r => (∀ c : Dev Cert.SlcV.nD,
      r.2.mem ((c.tc : Thread Cert.SlcV.nD Cert.SlcV.τ).loc Cert.SlcV.main_arg0) = m ((c.tc : Thread Cert.SlcV.nD Cert.SlcV.τ).loc Cert.SlcV.main_arg0)
      ∧ r.2.mem ((c.tc : Thread Cert.SlcV.nD Cert.SlcV.τ).loc Cert.SlcV.main_arg1) = m ((c.tc : Thread Cert.SlcV.nD Cert.SlcV.τ).loc Cert.SlcV.main_arg1))
      ∧ r.2.sem = fun _ => 0)

def quiescent_SlcVIdeal [hSlcVIdeal : Cert.SlcVIdeal.Facts] : Prop :=
  ∀ (m : (ℓ : Loc Cert.SlcVIdeal.nD Cert.SlcVIdeal.τ Cert.SlcVIdeal.sig) → Buf (Elt Ideal) ℓ) (g : Dev Cert.SlcVIdeal.nD → PrngReg), Pre_SlcVIdeal m →
    θ_run (Cert.SlcVIdeal.defs (F := Ideal)) (onTc (τ := Cert.SlcVIdeal.τ) (Cert.SlcVIdeal.main (F := Ideal))) ⟨m, fun _ => 0, g⟩ (fun r => (∀ c : Dev Cert.SlcVIdeal.nD,
      r.2.mem ((c.tc : Thread Cert.SlcVIdeal.nD Cert.SlcVIdeal.τ).loc Cert.SlcVIdeal.main_arg0) = m ((c.tc : Thread Cert.SlcVIdeal.nD Cert.SlcVIdeal.τ).loc Cert.SlcVIdeal.main_arg0)
      ∧ r.2.mem ((c.tc : Thread Cert.SlcVIdeal.nD Cert.SlcVIdeal.τ).loc Cert.SlcVIdeal.main_arg1) = m ((c.tc : Thread Cert.SlcVIdeal.nD Cert.SlcVIdeal.τ).loc Cert.SlcVIdeal.main_arg1))
      ∧ r.2.sem = fun _ => 0)

def quiescent_SlcVRefIdeal [hSlcVRefIdeal : Cert.SlcVRefIdeal.Facts] : Prop :=
  ∀ (m : (ℓ : Loc Cert.SlcVRefIdeal.nD Cert.SlcVRefIdeal.τ Cert.SlcVRefIdeal.sig) → Buf (Elt Ideal) ℓ) (g : Dev Cert.SlcVRefIdeal.nD → PrngReg), Pre_SlcVRefIdeal m →
    θ_run (Cert.SlcVRefIdeal.defs (F := Ideal)) (onTc (τ := Cert.SlcVRefIdeal.τ) (Cert.SlcVRefIdeal.main (F := Ideal))) ⟨m, fun _ => 0, g⟩ (fun r => (∀ c : Dev Cert.SlcVRefIdeal.nD,
      r.2.mem ((c.tc : Thread Cert.SlcVRefIdeal.nD Cert.SlcVRefIdeal.τ).loc Cert.SlcVRefIdeal.main_arg0) = m ((c.tc : Thread Cert.SlcVRefIdeal.nD Cert.SlcVRefIdeal.τ).loc Cert.SlcVRefIdeal.main_arg0)
      ∧ r.2.mem ((c.tc : Thread Cert.SlcVRefIdeal.nD Cert.SlcVRefIdeal.τ).loc Cert.SlcVRefIdeal.main_arg1) = m ((c.tc : Thread Cert.SlcVRefIdeal.nD Cert.SlcVRefIdeal.τ).loc Cert.SlcVRefIdeal.main_arg1))
      ∧ r.2.sem = fun _ => 0)

def quiescent_WinK [hWinK : Cert.WinK.Facts] : Prop :=
  ∀ (m : (ℓ : Loc Cert.WinK.nD Cert.WinK.τ Cert.WinK.sig) → Buf (Elt Bits) ℓ) (g : Dev Cert.WinK.nD → PrngReg), Pre_WinK m →
    θ_run (Cert.WinK.defs (F := Bits)) (onTc (τ := Cert.WinK.τ) (Cert.WinK.main (F := Bits))) ⟨m, fun _ => 0, g⟩ (fun r => (∀ c : Dev Cert.WinK.nD,
      r.2.mem ((c.tc : Thread Cert.WinK.nD Cert.WinK.τ).loc Cert.WinK.main_arg0) = m ((c.tc : Thread Cert.WinK.nD Cert.WinK.τ).loc Cert.WinK.main_arg0)
      ∧ r.2.mem ((c.tc : Thread Cert.WinK.nD Cert.WinK.τ).loc Cert.WinK.main_arg1) = m ((c.tc : Thread Cert.WinK.nD Cert.WinK.τ).loc Cert.WinK.main_arg1))
      ∧ r.2.sem = fun _ => 0)

def quiescent_WinKIdeal [hWinKIdeal : Cert.WinKIdeal.Facts] : Prop :=
  ∀ (m : (ℓ : Loc Cert.WinKIdeal.nD Cert.WinKIdeal.τ Cert.WinKIdeal.sig) → Buf (Elt Ideal) ℓ) (g : Dev Cert.WinKIdeal.nD → PrngReg), Pre_WinKIdeal m →
    θ_run (Cert.WinKIdeal.defs (F := Ideal)) (onTc (τ := Cert.WinKIdeal.τ) (Cert.WinKIdeal.main (F := Ideal))) ⟨m, fun _ => 0, g⟩ (fun r => (∀ c : Dev Cert.WinKIdeal.nD,
      r.2.mem ((c.tc : Thread Cert.WinKIdeal.nD Cert.WinKIdeal.τ).loc Cert.WinKIdeal.main_arg0) = m ((c.tc : Thread Cert.WinKIdeal.nD Cert.WinKIdeal.τ).loc Cert.WinKIdeal.main_arg0)
      ∧ r.2.mem ((c.tc : Thread Cert.WinKIdeal.nD Cert.WinKIdeal.τ).loc Cert.WinKIdeal.main_arg1) = m ((c.tc : Thread Cert.WinKIdeal.nD Cert.WinKIdeal.τ).loc Cert.WinKIdeal.main_arg1))
      ∧ r.2.sem = fun _ => 0)

def quiescent_WinKRefIdeal [hWinKRefIdeal : Cert.WinKRefIdeal.Facts] : Prop :=
  ∀ (m : (ℓ : Loc Cert.WinKRefIdeal.nD Cert.WinKRefIdeal.τ Cert.WinKRefIdeal.sig) → Buf (Elt Ideal) ℓ) (g : Dev Cert.WinKRefIdeal.nD → PrngReg), Pre_WinKRefIdeal m →
    θ_run (Cert.WinKRefIdeal.defs (F := Ideal)) (onTc (τ := Cert.WinKRefIdeal.τ) (Cert.WinKRefIdeal.main (F := Ideal))) ⟨m, fun _ => 0, g⟩ (fun r => (∀ c : Dev Cert.WinKRefIdeal.nD,
      r.2.mem ((c.tc : Thread Cert.WinKRefIdeal.nD Cert.WinKRefIdeal.τ).loc Cert.WinKRefIdeal.main_arg0) = m ((c.tc : Thread Cert.WinKRefIdeal.nD Cert.WinKRefIdeal.τ).loc Cert.WinKRefIdeal.main_arg0)
      ∧ r.2.mem ((c.tc : Thread Cert.WinKRefIdeal.nD Cert.WinKRefIdeal.τ).loc Cert.WinKRefIdeal.main_arg1) = m ((c.tc : Thread Cert.WinKRefIdeal.nD Cert.WinKRefIdeal.τ).loc Cert.WinKRefIdeal.main_arg1))
      ∧ r.2.sem = fun _ => 0)

def quiescent_WinV [hWinV : Cert.WinV.Facts] : Prop :=
  ∀ (m : (ℓ : Loc Cert.WinV.nD Cert.WinV.τ Cert.WinV.sig) → Buf (Elt Bits) ℓ) (g : Dev Cert.WinV.nD → PrngReg), Pre_WinV m →
    θ_run (Cert.WinV.defs (F := Bits)) (onTc (τ := Cert.WinV.τ) (Cert.WinV.main (F := Bits))) ⟨m, fun _ => 0, g⟩ (fun r => (∀ c : Dev Cert.WinV.nD,
      r.2.mem ((c.tc : Thread Cert.WinV.nD Cert.WinV.τ).loc Cert.WinV.main_arg0) = m ((c.tc : Thread Cert.WinV.nD Cert.WinV.τ).loc Cert.WinV.main_arg0)
      ∧ r.2.mem ((c.tc : Thread Cert.WinV.nD Cert.WinV.τ).loc Cert.WinV.main_arg1) = m ((c.tc : Thread Cert.WinV.nD Cert.WinV.τ).loc Cert.WinV.main_arg1))
      ∧ r.2.sem = fun _ => 0)

def quiescent_WinVIdeal [hWinVIdeal : Cert.WinVIdeal.Facts] : Prop :=
  ∀ (m : (ℓ : Loc Cert.WinVIdeal.nD Cert.WinVIdeal.τ Cert.WinVIdeal.sig) → Buf (Elt Ideal) ℓ) (g : Dev Cert.WinVIdeal.nD → PrngReg), Pre_WinVIdeal m →
    θ_run (Cert.WinVIdeal.defs (F := Ideal)) (onTc (τ := Cert.WinVIdeal.τ) (Cert.WinVIdeal.main (F := Ideal))) ⟨m, fun _ => 0, g⟩ (fun r => (∀ c : Dev Cert.WinVIdeal.nD,
      r.2.mem ((c.tc : Thread Cert.WinVIdeal.nD Cert.WinVIdeal.τ).loc Cert.WinVIdeal.main_arg0) = m ((c.tc : Thread Cert.WinVIdeal.nD Cert.WinVIdeal.τ).loc Cert.WinVIdeal.main_arg0)
      ∧ r.2.mem ((c.tc : Thread Cert.WinVIdeal.nD Cert.WinVIdeal.τ).loc Cert.WinVIdeal.main_arg1) = m ((c.tc : Thread Cert.WinVIdeal.nD Cert.WinVIdeal.τ).loc Cert.WinVIdeal.main_arg1))
      ∧ r.2.sem = fun _ => 0)

def quiescent_WinVRefIdeal [hWinVRefIdeal : Cert.WinVRefIdeal.Facts] : Prop :=
  ∀ (m : (ℓ : Loc Cert.WinVRefIdeal.nD Cert.WinVRefIdeal.τ Cert.WinVRefIdeal.sig) → Buf (Elt Ideal) ℓ) (g : Dev Cert.WinVRefIdeal.nD → PrngReg), Pre_WinVRefIdeal m →
    θ_run (Cert.WinVRefIdeal.defs (F := Ideal)) (onTc (τ := Cert.WinVRefIdeal.τ) (Cert.WinVRefIdeal.main (F := Ideal))) ⟨m, fun _ => 0, g⟩ (fun r => (∀ c : Dev Cert.WinVRefIdeal.nD,
      r.2.mem ((c.tc : Thread Cert.WinVRefIdeal.nD Cert.WinVRefIdeal.τ).loc Cert.WinVRefIdeal.main_arg0) = m ((c.tc : Thread Cert.WinVRefIdeal.nD Cert.WinVRefIdeal.τ).loc Cert.WinVRefIdeal.main_arg0)
      ∧ r.2.mem ((c.tc : Thread Cert.WinVRefIdeal.nD Cert.WinVRefIdeal.τ).loc Cert.WinVRefIdeal.main_arg1) = m ((c.tc : Thread Cert.WinVRefIdeal.nD Cert.WinVRefIdeal.τ).loc Cert.WinVRefIdeal.main_arg1))
      ∧ r.2.sem = fun _ => 0)

def quiescent_EvenSample [hEvenSample : Cert.EvenSample.Facts] : Prop :=
  ∀ (m : (ℓ : Loc Cert.EvenSample.nD Cert.EvenSample.τ Cert.EvenSample.sig) → Buf (Elt Bits) ℓ) (g : Dev Cert.EvenSample.nD → PrngReg), Pre_EvenSample m →
    θ_run (Cert.EvenSample.defs (F := Bits)) (onTc (τ := Cert.EvenSample.τ) (Cert.EvenSample.main (F := Bits))) ⟨m, fun _ => 0, g⟩ (fun r => (∀ c : Dev Cert.EvenSample.nD,
      r.2.mem ((c.tc : Thread Cert.EvenSample.nD Cert.EvenSample.τ).loc Cert.EvenSample.main_arg0) = m ((c.tc : Thread Cert.EvenSample.nD Cert.EvenSample.τ).loc Cert.EvenSample.main_arg0)
      ∧ r.2.mem ((c.tc : Thread Cert.EvenSample.nD Cert.EvenSample.τ).loc Cert.EvenSample.main_arg1) = m ((c.tc : Thread Cert.EvenSample.nD Cert.EvenSample.τ).loc Cert.EvenSample.main_arg1))
      ∧ r.2.sem = fun _ => 0)

def quiescent_EvenSampleIdeal [hEvenSampleIdeal : Cert.EvenSampleIdeal.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg), Pre_EvenSampleIdeal m →
    θ_run (Cert.EvenSampleIdeal.defs (F := Ideal)) (onTc (τ := Cert.EvenSampleIdeal.τ) (Cert.EvenSampleIdeal.main (F := Ideal))) ⟨m, fun _ => 0, g⟩ (fun r => (∀ c : Dev Cert.EvenSampleIdeal.nD,
      r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
      ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1))
      ∧ r.2.sem = fun _ => 0)

def quiescent_EvenSampleRefIdeal [hEvenSampleRefIdeal : Cert.EvenSampleRefIdeal.Facts] : Prop :=
  ∀ (m : (ℓ : Loc Cert.EvenSampleRefIdeal.nD Cert.EvenSampleRefIdeal.τ Cert.EvenSampleRefIdeal.sig) → Buf (Elt Ideal) ℓ) (g : Dev Cert.EvenSampleRefIdeal.nD → PrngReg), Pre_EvenSampleRefIdeal m →
    θ_run (Cert.EvenSampleRefIdeal.defs (F := Ideal)) (onTc (τ := Cert.EvenSampleRefIdeal.τ) (Cert.EvenSampleRefIdeal.main (F := Ideal))) ⟨m, fun _ => 0, g⟩ (fun r => (∀ c : Dev Cert.EvenSampleRefIdeal.nD,
      r.2.mem ((c.tc : Thread Cert.EvenSampleRefIdeal.nD Cert.EvenSampleRefIdeal.τ).loc Cert.EvenSampleRefIdeal.main_arg0) = m ((c.tc : Thread Cert.EvenSampleRefIdeal.nD Cert.EvenSampleRefIdeal.τ).loc Cert.EvenSampleRefIdeal.main_arg0)
      ∧ r.2.mem ((c.tc : Thread Cert.EvenSampleRefIdeal.nD Cert.EvenSampleRefIdeal.τ).loc Cert.EvenSampleRefIdeal.main_arg1) = m ((c.tc : Thread Cert.EvenSampleRefIdeal.nD Cert.EvenSampleRefIdeal.τ).loc Cert.EvenSampleRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5))
      ∧ r.2.sem = fun _ => 0)

def quiescent_EvenOutSample [hEvenOutSample : Cert.EvenOutSample.Facts] : Prop :=
  ∀ (m : (ℓ : Loc Cert.EvenOutSample.nD Cert.EvenOutSample.τ Cert.EvenOutSample.sig) → Buf (Elt Bits) ℓ) (g : Dev Cert.EvenOutSample.nD → PrngReg), Pre_EvenOutSample m →
    θ_run (Cert.EvenOutSample.defs (F := Bits)) (onTc (τ := Cert.EvenOutSample.τ) (Cert.EvenOutSample.main (F := Bits))) ⟨m, fun _ => 0, g⟩ (fun r => (∀ c : Dev Cert.EvenOutSample.nD,
      r.2.mem ((c.tc : Thread Cert.EvenOutSample.nD Cert.EvenOutSample.τ).loc Cert.EvenOutSample.main_arg0) = m ((c.tc : Thread Cert.EvenOutSample.nD Cert.EvenOutSample.τ).loc Cert.EvenOutSample.main_arg0)
      ∧ r.2.mem ((c.tc : Thread Cert.EvenOutSample.nD Cert.EvenOutSample.τ).loc Cert.EvenOutSample.main_arg1) = m ((c.tc : Thread Cert.EvenOutSample.nD Cert.EvenOutSample.τ).loc Cert.EvenOutSample.main_arg1)
      ∧ r.2.mem ((c.tc : Thread Cert.EvenOutSample.nD Cert.EvenOutSample.τ).loc Cert.EvenOutSample.main_arg2) = m ((c.tc : Thread Cert.EvenOutSample.nD Cert.EvenOutSample.τ).loc Cert.EvenOutSample.main_arg2)
      ∧ r.2.mem ((c.tc : Thread Cert.EvenOutSample.nD Cert.EvenOutSample.τ).loc Cert.EvenOutSample.main_arg3) = m ((c.tc : Thread Cert.EvenOutSample.nD Cert.EvenOutSample.τ).loc Cert.EvenOutSample.main_arg3)
      ∧ r.2.mem ((c.tc : Thread Cert.EvenOutSample.nD Cert.EvenOutSample.τ).loc Cert.EvenOutSample.main_arg4) = m ((c.tc : Thread Cert.EvenOutSample.nD Cert.EvenOutSample.τ).loc Cert.EvenOutSample.main_arg4)
      ∧ r.2.mem ((c.tc : Thread Cert.EvenOutSample.nD Cert.EvenOutSample.τ).loc Cert.EvenOutSample.main_arg5) = m ((c.tc : Thread Cert.EvenOutSample.nD Cert.EvenOutSample.τ).loc Cert.EvenOutSample.main_arg5)
      ∧ r.2.mem ((c.tc : Thread Cert.EvenOutSample.nD Cert.EvenOutSample.τ).loc Cert.EvenOutSample.main_arg6) = m ((c.tc : Thread Cert.EvenOutSample.nD Cert.EvenOutSample.τ).loc Cert.EvenOutSample.main_arg6))
      ∧ r.2.sem = fun _ => 0)

def quiescent_EvenOutSampleIdeal [hEvenOutSampleIdeal : Cert.EvenOutSampleIdeal.Facts] : Prop :=
  ∀ (m : (ℓ : Loc Cert.EvenOutSampleIdeal.nD Cert.EvenOutSampleIdeal.τ Cert.EvenOutSampleIdeal.sig) → Buf (Elt Ideal) ℓ) (g : Dev Cert.EvenOutSampleIdeal.nD → PrngReg), Pre_EvenOutSampleIdeal m →
    θ_run (Cert.EvenOutSampleIdeal.defs (F := Ideal)) (onTc (τ := Cert.EvenOutSampleIdeal.τ) (Cert.EvenOutSampleIdeal.main (F := Ideal))) ⟨m, fun _ => 0, g⟩ (fun r => (∀ c : Dev Cert.EvenOutSampleIdeal.nD,
      r.2.mem ((c.tc : Thread Cert.EvenOutSampleIdeal.nD Cert.EvenOutSampleIdeal.τ).loc Cert.EvenOutSampleIdeal.main_arg0) = m ((c.tc : Thread Cert.EvenOutSampleIdeal.nD Cert.EvenOutSampleIdeal.τ).loc Cert.EvenOutSampleIdeal.main_arg0)
      ∧ r.2.mem ((c.tc : Thread Cert.EvenOutSampleIdeal.nD Cert.EvenOutSampleIdeal.τ).loc Cert.EvenOutSampleIdeal.main_arg1) = m ((c.tc : Thread Cert.EvenOutSampleIdeal.nD Cert.EvenOutSampleIdeal.τ).loc Cert.EvenOutSampleIdeal.main_arg1)
      ∧ r.2.mem ((c.tc : Thread Cert.EvenOutSampleIdeal.nD Cert.EvenOutSampleIdeal.τ).loc Cert.EvenOutSampleIdeal.main_arg2) = m ((c.tc : Thread Cert.EvenOutSampleIdeal.nD Cert.EvenOutSampleIdeal.τ).loc Cert.EvenOutSampleIdeal.main_arg2)
      ∧ r.2.mem ((c.tc : Thread Cert.EvenOutSampleIdeal.nD Cert.EvenOutSampleIdeal.τ).loc Cert.EvenOutSampleIdeal.main_arg3) = m ((c.tc : Thread Cert.EvenOutSampleIdeal.nD Cert.EvenOutSampleIdeal.τ).loc Cert.EvenOutSampleIdeal.main_arg3)
      ∧ r.2.mem ((c.tc : Thread Cert.EvenOutSampleIdeal.nD Cert.EvenOutSampleIdeal.τ).loc Cert.EvenOutSampleIdeal.main_arg4) = m ((c.tc : Thread Cert.EvenOutSampleIdeal.nD Cert.EvenOutSampleIdeal.τ).loc Cert.EvenOutSampleIdeal.main_arg4)
      ∧ r.2.mem ((c.tc : Thread Cert.EvenOutSampleIdeal.nD Cert.EvenOutSampleIdeal.τ).loc Cert.EvenOutSampleIdeal.main_arg5) = m ((c.tc : Thread Cert.EvenOutSampleIdeal.nD Cert.EvenOutSampleIdeal.τ).loc Cert.EvenOutSampleIdeal.main_arg5)
      ∧ r.2.mem ((c.tc : Thread Cert.EvenOutSampleIdeal.nD Cert.EvenOutSampleIdeal.τ).loc Cert.EvenOutSampleIdeal.main_arg6) = m ((c.tc : Thread Cert.EvenOutSampleIdeal.nD Cert.EvenOutSampleIdeal.τ).loc Cert.EvenOutSampleIdeal.main_arg6))
      ∧ r.2.sem = fun _ => 0)

def quiescent_EvenOutSampleRefIdeal [hEvenOutSampleRefIdeal : Cert.EvenOutSampleRefIdeal.Facts] : Prop :=
  ∀ (m : (ℓ : Loc Cert.EvenOutSampleRefIdeal.nD Cert.EvenOutSampleRefIdeal.τ Cert.EvenOutSampleRefIdeal.sig) → Buf (Elt Ideal) ℓ) (g : Dev Cert.EvenOutSampleRefIdeal.nD → PrngReg), Pre_EvenOutSampleRefIdeal m →
    θ_run (Cert.EvenOutSampleRefIdeal.defs (F := Ideal)) (onTc (τ := Cert.EvenOutSampleRefIdeal.τ) (Cert.EvenOutSampleRefIdeal.main (F := Ideal))) ⟨m, fun _ => 0, g⟩ (fun r => (∀ c : Dev Cert.EvenOutSampleRefIdeal.nD,
      r.2.mem ((c.tc : Thread Cert.EvenOutSampleRefIdeal.nD Cert.EvenOutSampleRefIdeal.τ).loc Cert.EvenOutSampleRefIdeal.main_arg0) = m ((c.tc : Thread Cert.EvenOutSampleRefIdeal.nD Cert.EvenOutSampleRefIdeal.τ).loc Cert.EvenOutSampleRefIdeal.main_arg0)
      ∧ r.2.mem ((c.tc : Thread Cert.EvenOutSampleRefIdeal.nD Cert.EvenOutSampleRefIdeal.τ).loc Cert.EvenOutSampleRefIdeal.main_arg1) = m ((c.tc : Thread Cert.EvenOutSampleRefIdeal.nD Cert.EvenOutSampleRefIdeal.τ).loc Cert.EvenOutSampleRefIdeal.main_arg1)
      ∧ r.2.mem ((c.tc : Thread Cert.EvenOutSampleRefIdeal.nD Cert.EvenOutSampleRefIdeal.τ).loc Cert.EvenOutSampleRefIdeal.main_arg2) = m ((c.tc : Thread Cert.EvenOutSampleRefIdeal.nD Cert.EvenOutSampleRefIdeal.τ).loc Cert.EvenOutSampleRefIdeal.main_arg2)
      ∧ r.2.mem ((c.tc : Thread Cert.EvenOutSampleRefIdeal.nD Cert.EvenOutSampleRefIdeal.τ).loc Cert.EvenOutSampleRefIdeal.main_arg3) = m ((c.tc : Thread Cert.EvenOutSampleRefIdeal.nD Cert.EvenOutSampleRefIdeal.τ).loc Cert.EvenOutSampleRefIdeal.main_arg3)
      ∧ r.2.mem ((c.tc : Thread Cert.EvenOutSampleRefIdeal.nD Cert.EvenOutSampleRefIdeal.τ).loc Cert.EvenOutSampleRefIdeal.main_arg4) = m ((c.tc : Thread Cert.EvenOutSampleRefIdeal.nD Cert.EvenOutSampleRefIdeal.τ).loc Cert.EvenOutSampleRefIdeal.main_arg4)
      ∧ r.2.mem ((c.tc : Thread Cert.EvenOutSampleRefIdeal.nD Cert.EvenOutSampleRefIdeal.τ).loc Cert.EvenOutSampleRefIdeal.main_arg5) = m ((c.tc : Thread Cert.EvenOutSampleRefIdeal.nD Cert.EvenOutSampleRefIdeal.τ).loc Cert.EvenOutSampleRefIdeal.main_arg5)
      ∧ r.2.mem ((c.tc : Thread Cert.EvenOutSampleRefIdeal.nD Cert.EvenOutSampleRefIdeal.τ).loc Cert.EvenOutSampleRefIdeal.main_arg6) = m ((c.tc : Thread Cert.EvenOutSampleRefIdeal.nD Cert.EvenOutSampleRefIdeal.τ).loc Cert.EvenOutSampleRefIdeal.main_arg6))
      ∧ r.2.sem = fun _ => 0)

def quiescent_OddOutSample [hOddOutSample : Cert.OddOutSample.Facts] : Prop :=
  ∀ (m : (ℓ : Loc Cert.OddOutSample.nD Cert.OddOutSample.τ Cert.OddOutSample.sig) → Buf (Elt Bits) ℓ) (g : Dev Cert.OddOutSample.nD → PrngReg), Pre_OddOutSample m →
    θ_run (Cert.OddOutSample.defs (F := Bits)) (onTc (τ := Cert.OddOutSample.τ) (Cert.OddOutSample.main (F := Bits))) ⟨m, fun _ => 0, g⟩ (fun r => (∀ c : Dev Cert.OddOutSample.nD,
      r.2.mem ((c.tc : Thread Cert.OddOutSample.nD Cert.OddOutSample.τ).loc Cert.OddOutSample.main_arg0) = m ((c.tc : Thread Cert.OddOutSample.nD Cert.OddOutSample.τ).loc Cert.OddOutSample.main_arg0)
      ∧ r.2.mem ((c.tc : Thread Cert.OddOutSample.nD Cert.OddOutSample.τ).loc Cert.OddOutSample.main_arg1) = m ((c.tc : Thread Cert.OddOutSample.nD Cert.OddOutSample.τ).loc Cert.OddOutSample.main_arg1)
      ∧ r.2.mem ((c.tc : Thread Cert.OddOutSample.nD Cert.OddOutSample.τ).loc Cert.OddOutSample.main_arg2) = m ((c.tc : Thread Cert.OddOutSample.nD Cert.OddOutSample.τ).loc Cert.OddOutSample.main_arg2)
      ∧ r.2.mem ((c.tc : Thread Cert.OddOutSample.nD Cert.OddOutSample.τ).loc Cert.OddOutSample.main_arg3) = m ((c.tc : Thread Cert.OddOutSample.nD Cert.OddOutSample.τ).loc Cert.OddOutSample.main_arg3)
      ∧ r.2.mem ((c.tc : Thread Cert.OddOutSample.nD Cert.OddOutSample.τ).loc Cert.OddOutSample.main_arg4) = m ((c.tc : Thread Cert.OddOutSample.nD Cert.OddOutSample.τ).loc Cert.OddOutSample.main_arg4)
      ∧ r.2.mem ((c.tc : Thread Cert.OddOutSample.nD Cert.OddOutSample.τ).loc Cert.OddOutSample.main_arg5) = m ((c.tc : Thread Cert.OddOutSample.nD Cert.OddOutSample.τ).loc Cert.OddOutSample.main_arg5))
      ∧ r.2.sem = fun _ => 0)

def quiescent_OddOutSampleIdeal [hOddOutSampleIdeal : Cert.OddOutSampleIdeal.Facts] : Prop :=
  ∀ (m : (ℓ : Loc Cert.OddOutSampleIdeal.nD Cert.OddOutSampleIdeal.τ Cert.OddOutSampleIdeal.sig) → Buf (Elt Ideal) ℓ) (g : Dev Cert.OddOutSampleIdeal.nD → PrngReg), Pre_OddOutSampleIdeal m →
    θ_run (Cert.OddOutSampleIdeal.defs (F := Ideal)) (onTc (τ := Cert.OddOutSampleIdeal.τ) (Cert.OddOutSampleIdeal.main (F := Ideal))) ⟨m, fun _ => 0, g⟩ (fun r => (∀ c : Dev Cert.OddOutSampleIdeal.nD,
      r.2.mem ((c.tc : Thread Cert.OddOutSampleIdeal.nD Cert.OddOutSampleIdeal.τ).loc Cert.OddOutSampleIdeal.main_arg0) = m ((c.tc : Thread Cert.OddOutSampleIdeal.nD Cert.OddOutSampleIdeal.τ).loc Cert.OddOutSampleIdeal.main_arg0)
      ∧ r.2.mem ((c.tc : Thread Cert.OddOutSampleIdeal.nD Cert.OddOutSampleIdeal.τ).loc Cert.OddOutSampleIdeal.main_arg1) = m ((c.tc : Thread Cert.OddOutSampleIdeal.nD Cert.OddOutSampleIdeal.τ).loc Cert.OddOutSampleIdeal.main_arg1)
      ∧ r.2.mem ((c.tc : Thread Cert.OddOutSampleIdeal.nD Cert.OddOutSampleIdeal.τ).loc Cert.OddOutSampleIdeal.main_arg2) = m ((c.tc : Thread Cert.OddOutSampleIdeal.nD Cert.OddOutSampleIdeal.τ).loc Cert.OddOutSampleIdeal.main_arg2)
      ∧ r.2.mem ((c.tc : Thread Cert.OddOutSampleIdeal.nD Cert.OddOutSampleIdeal.τ).loc Cert.OddOutSampleIdeal.main_arg3) = m ((c.tc : Thread Cert.OddOutSampleIdeal.nD Cert.OddOutSampleIdeal.τ).loc Cert.OddOutSampleIdeal.main_arg3)
      ∧ r.2.mem ((c.tc : Thread Cert.OddOutSampleIdeal.nD Cert.OddOutSampleIdeal.τ).loc Cert.OddOutSampleIdeal.main_arg4) = m ((c.tc : Thread Cert.OddOutSampleIdeal.nD Cert.OddOutSampleIdeal.τ).loc Cert.OddOutSampleIdeal.main_arg4)
      ∧ r.2.mem ((c.tc : Thread Cert.OddOutSampleIdeal.nD Cert.OddOutSampleIdeal.τ).loc Cert.OddOutSampleIdeal.main_arg5) = m ((c.tc : Thread Cert.OddOutSampleIdeal.nD Cert.OddOutSampleIdeal.τ).loc Cert.OddOutSampleIdeal.main_arg5))
      ∧ r.2.sem = fun _ => 0)

def quiescent_OddOutSampleRefIdeal [hOddOutSampleRefIdeal : Cert.OddOutSampleRefIdeal.Facts] : Prop :=
  ∀ (m : (ℓ : Loc Cert.OddOutSampleRefIdeal.nD Cert.OddOutSampleRefIdeal.τ Cert.OddOutSampleRefIdeal.sig) → Buf (Elt Ideal) ℓ) (g : Dev Cert.OddOutSampleRefIdeal.nD → PrngReg), Pre_OddOutSampleRefIdeal m →
    θ_run (Cert.OddOutSampleRefIdeal.defs (F := Ideal)) (onTc (τ := Cert.OddOutSampleRefIdeal.τ) (Cert.OddOutSampleRefIdeal.main (F := Ideal))) ⟨m, fun _ => 0, g⟩ (fun r => (∀ c : Dev Cert.OddOutSampleRefIdeal.nD,
      r.2.mem ((c.tc : Thread Cert.OddOutSampleRefIdeal.nD Cert.OddOutSampleRefIdeal.τ).loc Cert.OddOutSampleRefIdeal.main_arg0) = m ((c.tc : Thread Cert.OddOutSampleRefIdeal.nD Cert.OddOutSampleRefIdeal.τ).loc Cert.OddOutSampleRefIdeal.main_arg0)
      ∧ r.2.mem ((c.tc : Thread Cert.OddOutSampleRefIdeal.nD Cert.OddOutSampleRefIdeal.τ).loc Cert.OddOutSampleRefIdeal.main_arg1) = m ((c.tc : Thread Cert.OddOutSampleRefIdeal.nD Cert.OddOutSampleRefIdeal.τ).loc Cert.OddOutSampleRefIdeal.main_arg1)
      ∧ r.2.mem ((c.tc : Thread Cert.OddOutSampleRefIdeal.nD Cert.OddOutSampleRefIdeal.τ).loc Cert.OddOutSampleRefIdeal.main_arg2) = m ((c.tc : Thread Cert.OddOutSampleRefIdeal.nD Cert.OddOutSampleRefIdeal.τ).loc Cert.OddOutSampleRefIdeal.main_arg2)
      ∧ r.2.mem ((c.tc : Thread Cert.OddOutSampleRefIdeal.nD Cert.OddOutSampleRefIdeal.τ).loc Cert.OddOutSampleRefIdeal.main_arg3) = m ((c.tc : Thread Cert.OddOutSampleRefIdeal.nD Cert.OddOutSampleRefIdeal.τ).loc Cert.OddOutSampleRefIdeal.main_arg3)
      ∧ r.2.mem ((c.tc : Thread Cert.OddOutSampleRefIdeal.nD Cert.OddOutSampleRefIdeal.τ).loc Cert.OddOutSampleRefIdeal.main_arg4) = m ((c.tc : Thread Cert.OddOutSampleRefIdeal.nD Cert.OddOutSampleRefIdeal.τ).loc Cert.OddOutSampleRefIdeal.main_arg4)
      ∧ r.2.mem ((c.tc : Thread Cert.OddOutSampleRefIdeal.nD Cert.OddOutSampleRefIdeal.τ).loc Cert.OddOutSampleRefIdeal.main_arg5) = m ((c.tc : Thread Cert.OddOutSampleRefIdeal.nD Cert.OddOutSampleRefIdeal.τ).loc Cert.OddOutSampleRefIdeal.main_arg5))
      ∧ r.2.sem = fun _ => 0)

def quiescent_ModPrompt [hModPrompt : Cert.ModPrompt.Facts] : Prop :=
  ∀ (m : (ℓ : Loc Cert.ModPrompt.nD Cert.ModPrompt.τ Cert.ModPrompt.sig) → Buf (Elt Bits) ℓ) (g : Dev Cert.ModPrompt.nD → PrngReg), Pre_ModPrompt m →
    θ_run (Cert.ModPrompt.defs (F := Bits)) (onTc (τ := Cert.ModPrompt.τ) (Cert.ModPrompt.main (F := Bits))) ⟨m, fun _ => 0, g⟩ (fun r => (∀ c : Dev Cert.ModPrompt.nD,
      r.2.mem ((c.tc : Thread Cert.ModPrompt.nD Cert.ModPrompt.τ).loc Cert.ModPrompt.main_arg0) = m ((c.tc : Thread Cert.ModPrompt.nD Cert.ModPrompt.τ).loc Cert.ModPrompt.main_arg0)
      ∧ r.2.mem ((c.tc : Thread Cert.ModPrompt.nD Cert.ModPrompt.τ).loc Cert.ModPrompt.main_arg1) = m ((c.tc : Thread Cert.ModPrompt.nD Cert.ModPrompt.τ).loc Cert.ModPrompt.main_arg1)
      ∧ r.2.mem ((c.tc : Thread Cert.ModPrompt.nD Cert.ModPrompt.τ).loc Cert.ModPrompt.main_arg2) = m ((c.tc : Thread Cert.ModPrompt.nD Cert.ModPrompt.τ).loc Cert.ModPrompt.main_arg2))
      ∧ r.2.sem = fun _ => 0)

def quiescent_ModPromptIdeal [hModPromptIdeal : Cert.ModPromptIdeal.Facts] : Prop :=
  ∀ (m : (ℓ : Loc Cert.ModPromptIdeal.nD Cert.ModPromptIdeal.τ Cert.ModPromptIdeal.sig) → Buf (Elt Ideal) ℓ) (g : Dev Cert.ModPromptIdeal.nD → PrngReg), Pre_ModPromptIdeal m →
    θ_run (Cert.ModPromptIdeal.defs (F := Ideal)) (onTc (τ := Cert.ModPromptIdeal.τ) (Cert.ModPromptIdeal.main (F := Ideal))) ⟨m, fun _ => 0, g⟩ (fun r => (∀ c : Dev Cert.ModPromptIdeal.nD,
      r.2.mem ((c.tc : Thread Cert.ModPromptIdeal.nD Cert.ModPromptIdeal.τ).loc Cert.ModPromptIdeal.main_arg0) = m ((c.tc : Thread Cert.ModPromptIdeal.nD Cert.ModPromptIdeal.τ).loc Cert.ModPromptIdeal.main_arg0)
      ∧ r.2.mem ((c.tc : Thread Cert.ModPromptIdeal.nD Cert.ModPromptIdeal.τ).loc Cert.ModPromptIdeal.main_arg1) = m ((c.tc : Thread Cert.ModPromptIdeal.nD Cert.ModPromptIdeal.τ).loc Cert.ModPromptIdeal.main_arg1)
      ∧ r.2.mem ((c.tc : Thread Cert.ModPromptIdeal.nD Cert.ModPromptIdeal.τ).loc Cert.ModPromptIdeal.main_arg2) = m ((c.tc : Thread Cert.ModPromptIdeal.nD Cert.ModPromptIdeal.τ).loc Cert.ModPromptIdeal.main_arg2))
      ∧ r.2.sem = fun _ => 0)

def quiescent_ModPromptRefIdeal [hModPromptRefIdeal : Cert.ModPromptRefIdeal.Facts] : Prop :=
  ∀ (m : (ℓ : Loc Cert.ModPromptRefIdeal.nD Cert.ModPromptRefIdeal.τ Cert.ModPromptRefIdeal.sig) → Buf (Elt Ideal) ℓ) (g : Dev Cert.ModPromptRefIdeal.nD → PrngReg), Pre_ModPromptRefIdeal m →
    θ_run (Cert.ModPromptRefIdeal.defs (F := Ideal)) (onTc (τ := Cert.ModPromptRefIdeal.τ) (Cert.ModPromptRefIdeal.main (F := Ideal))) ⟨m, fun _ => 0, g⟩ (fun r => (∀ c : Dev Cert.ModPromptRefIdeal.nD,
      r.2.mem ((c.tc : Thread Cert.ModPromptRefIdeal.nD Cert.ModPromptRefIdeal.τ).loc Cert.ModPromptRefIdeal.main_arg0) = m ((c.tc : Thread Cert.ModPromptRefIdeal.nD Cert.ModPromptRefIdeal.τ).loc Cert.ModPromptRefIdeal.main_arg0)
      ∧ r.2.mem ((c.tc : Thread Cert.ModPromptRefIdeal.nD Cert.ModPromptRefIdeal.τ).loc Cert.ModPromptRefIdeal.main_arg1) = m ((c.tc : Thread Cert.ModPromptRefIdeal.nD Cert.ModPromptRefIdeal.τ).loc Cert.ModPromptRefIdeal.main_arg1)
      ∧ r.2.mem ((c.tc : Thread Cert.ModPromptRefIdeal.nD Cert.ModPromptRefIdeal.τ).loc Cert.ModPromptRefIdeal.main_arg2) = m ((c.tc : Thread Cert.ModPromptRefIdeal.nD Cert.ModPromptRefIdeal.τ).loc Cert.ModPromptRefIdeal.main_arg2))
      ∧ r.2.sem = fun _ => 0)

def quiescent_ModSample [hModSample : Cert.ModSample.Facts] : Prop :=
  ∀ (m : (ℓ : Loc Cert.ModSample.nD Cert.ModSample.τ Cert.ModSample.sig) → Buf (Elt Bits) ℓ) (g : Dev Cert.ModSample.nD → PrngReg), Pre_ModSample m →
    θ_run (Cert.ModSample.defs (F := Bits)) (onTc (τ := Cert.ModSample.τ) (Cert.ModSample.main (F := Bits))) ⟨m, fun _ => 0, g⟩ (fun r => (∀ c : Dev Cert.ModSample.nD,
      r.2.mem ((c.tc : Thread Cert.ModSample.nD Cert.ModSample.τ).loc Cert.ModSample.main_arg0) = m ((c.tc : Thread Cert.ModSample.nD Cert.ModSample.τ).loc Cert.ModSample.main_arg0)
      ∧ r.2.mem ((c.tc : Thread Cert.ModSample.nD Cert.ModSample.τ).loc Cert.ModSample.main_arg1) = m ((c.tc : Thread Cert.ModSample.nD Cert.ModSample.τ).loc Cert.ModSample.main_arg1)
      ∧ r.2.mem ((c.tc : Thread Cert.ModSample.nD Cert.ModSample.τ).loc Cert.ModSample.main_arg2) = m ((c.tc : Thread Cert.ModSample.nD Cert.ModSample.τ).loc Cert.ModSample.main_arg2))
      ∧ r.2.sem = fun _ => 0)

def quiescent_ModSampleIdeal [hModSampleIdeal : Cert.ModSampleIdeal.Facts] : Prop :=
  ∀ (m : (ℓ : Loc Cert.ModSampleIdeal.nD Cert.ModSampleIdeal.τ Cert.ModSampleIdeal.sig) → Buf (Elt Ideal) ℓ) (g : Dev Cert.ModSampleIdeal.nD → PrngReg), Pre_ModSampleIdeal m →
    θ_run (Cert.ModSampleIdeal.defs (F := Ideal)) (onTc (τ := Cert.ModSampleIdeal.τ) (Cert.ModSampleIdeal.main (F := Ideal))) ⟨m, fun _ => 0, g⟩ (fun r => (∀ c : Dev Cert.ModSampleIdeal.nD,
      r.2.mem ((c.tc : Thread Cert.ModSampleIdeal.nD Cert.ModSampleIdeal.τ).loc Cert.ModSampleIdeal.main_arg0) = m ((c.tc : Thread Cert.ModSampleIdeal.nD Cert.ModSampleIdeal.τ).loc Cert.ModSampleIdeal.main_arg0)
      ∧ r.2.mem ((c.tc : Thread Cert.ModSampleIdeal.nD Cert.ModSampleIdeal.τ).loc Cert.ModSampleIdeal.main_arg1) = m ((c.tc : Thread Cert.ModSampleIdeal.nD Cert.ModSampleIdeal.τ).loc Cert.ModSampleIdeal.main_arg1)
      ∧ r.2.mem ((c.tc : Thread Cert.ModSampleIdeal.nD Cert.ModSampleIdeal.τ).loc Cert.ModSampleIdeal.main_arg2) = m ((c.tc : Thread Cert.ModSampleIdeal.nD Cert.ModSampleIdeal.τ).loc Cert.ModSampleIdeal.main_arg2))
      ∧ r.2.sem = fun _ => 0)

def quiescent_ModSampleRefIdeal [hModSampleRefIdeal : Cert.ModSampleRefIdeal.Facts] : Prop :=
  ∀ (m : (ℓ : Loc Cert.ModSampleRefIdeal.nD Cert.ModSampleRefIdeal.τ Cert.ModSampleRefIdeal.sig) → Buf (Elt Ideal) ℓ) (g : Dev Cert.ModSampleRefIdeal.nD → PrngReg), Pre_ModSampleRefIdeal m →
    θ_run (Cert.ModSampleRefIdeal.defs (F := Ideal)) (onTc (τ := Cert.ModSampleRefIdeal.τ) (Cert.ModSampleRefIdeal.main (F := Ideal))) ⟨m, fun _ => 0, g⟩ (fun r => (∀ c : Dev Cert.ModSampleRefIdeal.nD,
      r.2.mem ((c.tc : Thread Cert.ModSampleRefIdeal.nD Cert.ModSampleRefIdeal.τ).loc Cert.ModSampleRefIdeal.main_arg0) = m ((c.tc : Thread Cert.ModSampleRefIdeal.nD Cert.ModSampleRefIdeal.τ).loc Cert.ModSampleRefIdeal.main_arg0)
      ∧ r.2.mem ((c.tc : Thread Cert.ModSampleRefIdeal.nD Cert.ModSampleRefIdeal.τ).loc Cert.ModSampleRefIdeal.main_arg1) = m ((c.tc : Thread Cert.ModSampleRefIdeal.nD Cert.ModSampleRefIdeal.τ).loc Cert.ModSampleRefIdeal.main_arg1)
      ∧ r.2.mem ((c.tc : Thread Cert.ModSampleRefIdeal.nD Cert.ModSampleRefIdeal.τ).loc Cert.ModSampleRefIdeal.main_arg2) = m ((c.tc : Thread Cert.ModSampleRefIdeal.nD Cert.ModSampleRefIdeal.τ).loc Cert.ModSampleRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_CmpPrompt [hCmpPrompt : Cert.CmpPrompt.Facts] : Prop :=
  ∀ (m : (ℓ : Loc Cert.CmpPrompt.nD Cert.CmpPrompt.τ Cert.CmpPrompt.sig) → Buf (Elt Bits) ℓ) (g : Dev Cert.CmpPrompt.nD → PrngReg), Pre_CmpPrompt m →
    θ_run (Cert.CmpPrompt.defs (F := Bits)) (onTc (τ := Cert.CmpPrompt.τ) (Cert.CmpPrompt.main (F := Bits))) ⟨m, fun _ => 0, g⟩ (fun r => (∀ c : Dev Cert.CmpPrompt.nD,
      r.2.mem ((c.tc : Thread Cert.CmpPrompt.nD Cert.CmpPrompt.τ).loc Cert.CmpPrompt.main_arg0) = m ((c.tc : Thread Cert.CmpPrompt.nD Cert.CmpPrompt.τ).loc Cert.CmpPrompt.main_arg0)
      ∧ r.2.mem ((c.tc : Thread Cert.CmpPrompt.nD Cert.CmpPrompt.τ).loc Cert.CmpPrompt.main_arg1) = m ((c.tc : Thread Cert.CmpPrompt.nD Cert.CmpPrompt.τ).loc Cert.CmpPrompt.main_arg1)
      ∧ r.2.mem ((c.tc : Thread Cert.CmpPrompt.nD Cert.CmpPrompt.τ).loc Cert.CmpPrompt.main_arg2) = m ((c.tc : Thread Cert.CmpPrompt.nD Cert.CmpPrompt.τ).loc Cert.CmpPrompt.main_arg2))
      ∧ r.2.sem = fun _ => 0)

def quiescent_CmpPromptIdeal [hCmpPromptIdeal : Cert.CmpPromptIdeal.Facts] : Prop :=
  ∀ (m : (ℓ : Loc Cert.CmpPromptIdeal.nD Cert.CmpPromptIdeal.τ Cert.CmpPromptIdeal.sig) → Buf (Elt Ideal) ℓ) (g : Dev Cert.CmpPromptIdeal.nD → PrngReg), Pre_CmpPromptIdeal m →
    θ_run (Cert.CmpPromptIdeal.defs (F := Ideal)) (onTc (τ := Cert.CmpPromptIdeal.τ) (Cert.CmpPromptIdeal.main (F := Ideal))) ⟨m, fun _ => 0, g⟩ (fun r => (∀ c : Dev Cert.CmpPromptIdeal.nD,
      r.2.mem ((c.tc : Thread Cert.CmpPromptIdeal.nD Cert.CmpPromptIdeal.τ).loc Cert.CmpPromptIdeal.main_arg0) = m ((c.tc : Thread Cert.CmpPromptIdeal.nD Cert.CmpPromptIdeal.τ).loc Cert.CmpPromptIdeal.main_arg0)
      ∧ r.2.mem ((c.tc : Thread Cert.CmpPromptIdeal.nD Cert.CmpPromptIdeal.τ).loc Cert.CmpPromptIdeal.main_arg1) = m ((c.tc : Thread Cert.CmpPromptIdeal.nD Cert.CmpPromptIdeal.τ).loc Cert.CmpPromptIdeal.main_arg1)
      ∧ r.2.mem ((c.tc : Thread Cert.CmpPromptIdeal.nD Cert.CmpPromptIdeal.τ).loc Cert.CmpPromptIdeal.main_arg2) = m ((c.tc : Thread Cert.CmpPromptIdeal.nD Cert.CmpPromptIdeal.τ).loc Cert.CmpPromptIdeal.main_arg2))
      ∧ r.2.sem = fun _ => 0)

def quiescent_CmpPromptRefIdeal [hCmpPromptRefIdeal : Cert.CmpPromptRefIdeal.Facts] : Prop :=
  ∀ (m : (ℓ : Loc Cert.CmpPromptRefIdeal.nD Cert.CmpPromptRefIdeal.τ Cert.CmpPromptRefIdeal.sig) → Buf (Elt Ideal) ℓ) (g : Dev Cert.CmpPromptRefIdeal.nD → PrngReg), Pre_CmpPromptRefIdeal m →
    θ_run (Cert.CmpPromptRefIdeal.defs (F := Ideal)) (onTc (τ := Cert.CmpPromptRefIdeal.τ) (Cert.CmpPromptRefIdeal.main (F := Ideal))) ⟨m, fun _ => 0, g⟩ (fun r => (∀ c : Dev Cert.CmpPromptRefIdeal.nD,
      r.2.mem ((c.tc : Thread Cert.CmpPromptRefIdeal.nD Cert.CmpPromptRefIdeal.τ).loc Cert.CmpPromptRefIdeal.main_arg0) = m ((c.tc : Thread Cert.CmpPromptRefIdeal.nD Cert.CmpPromptRefIdeal.τ).loc Cert.CmpPromptRefIdeal.main_arg0)
      ∧ r.2.mem ((c.tc : Thread Cert.CmpPromptRefIdeal.nD Cert.CmpPromptRefIdeal.τ).loc Cert.CmpPromptRefIdeal.main_arg1) = m ((c.tc : Thread Cert.CmpPromptRefIdeal.nD Cert.CmpPromptRefIdeal.τ).loc Cert.CmpPromptRefIdeal.main_arg1)
      ∧ r.2.mem ((c.tc : Thread Cert.CmpPromptRefIdeal.nD Cert.CmpPromptRefIdeal.τ).loc Cert.CmpPromptRefIdeal.main_arg2) = m ((c.tc : Thread Cert.CmpPromptRefIdeal.nD Cert.CmpPromptRefIdeal.τ).loc Cert.CmpPromptRefIdeal.main_arg2))
      ∧ r.2.sem = fun _ => 0)

def quiescent_CmpSample [hCmpSample : Cert.CmpSample.Facts] : Prop :=
  ∀ (m : (ℓ : Loc Cert.CmpSample.nD Cert.CmpSample.τ Cert.CmpSample.sig) → Buf (Elt Bits) ℓ) (g : Dev Cert.CmpSample.nD → PrngReg), Pre_CmpSample m →
    θ_run (Cert.CmpSample.defs (F := Bits)) (onTc (τ := Cert.CmpSample.τ) (Cert.CmpSample.main (F := Bits))) ⟨m, fun _ => 0, g⟩ (fun r => (∀ c : Dev Cert.CmpSample.nD,
      r.2.mem ((c.tc : Thread Cert.CmpSample.nD Cert.CmpSample.τ).loc Cert.CmpSample.main_arg0) = m ((c.tc : Thread Cert.CmpSample.nD Cert.CmpSample.τ).loc Cert.CmpSample.main_arg0)
      ∧ r.2.mem ((c.tc : Thread Cert.CmpSample.nD Cert.CmpSample.τ).loc Cert.CmpSample.main_arg1) = m ((c.tc : Thread Cert.CmpSample.nD Cert.CmpSample.τ).loc Cert.CmpSample.main_arg1)
      ∧ r.2.mem ((c.tc : Thread Cert.CmpSample.nD Cert.CmpSample.τ).loc Cert.CmpSample.main_arg2) = m ((c.tc : Thread Cert.CmpSample.nD Cert.CmpSample.τ).loc Cert.CmpSample.main_arg2))
      ∧ r.2.sem = fun _ => 0)

def quiescent_CmpSampleIdeal [hCmpSampleIdeal : Cert.CmpSampleIdeal.Facts] : Prop :=
  ∀ (m : (ℓ : Loc Cert.CmpSampleIdeal.nD Cert.CmpSampleIdeal.τ Cert.CmpSampleIdeal.sig) → Buf (Elt Ideal) ℓ) (g : Dev Cert.CmpSampleIdeal.nD → PrngReg), Pre_CmpSampleIdeal m →
    θ_run (Cert.CmpSampleIdeal.defs (F := Ideal)) (onTc (τ := Cert.CmpSampleIdeal.τ) (Cert.CmpSampleIdeal.main (F := Ideal))) ⟨m, fun _ => 0, g⟩ (fun r => (∀ c : Dev Cert.CmpSampleIdeal.nD,
      r.2.mem ((c.tc : Thread Cert.CmpSampleIdeal.nD Cert.CmpSampleIdeal.τ).loc Cert.CmpSampleIdeal.main_arg0) = m ((c.tc : Thread Cert.CmpSampleIdeal.nD Cert.CmpSampleIdeal.τ).loc Cert.CmpSampleIdeal.main_arg0)
      ∧ r.2.mem ((c.tc : Thread Cert.CmpSampleIdeal.nD Cert.CmpSampleIdeal.τ).loc Cert.CmpSampleIdeal.main_arg1) = m ((c.tc : Thread Cert.CmpSampleIdeal.nD Cert.CmpSampleIdeal.τ).loc Cert.CmpSampleIdeal.main_arg1)
      ∧ r.2.mem ((c.tc : Thread Cert.CmpSampleIdeal.nD Cert.CmpSampleIdeal.τ).loc Cert.CmpSampleIdeal.main_arg2) = m ((c.tc : Thread Cert.CmpSampleIdeal.nD Cert.CmpSampleIdeal.τ).loc Cert.CmpSampleIdeal.main_arg2))
      ∧ r.2.sem = fun _ => 0)

def quiescent_CmpSampleRefIdeal [hCmpSampleRefIdeal : Cert.CmpSampleRefIdeal.Facts] : Prop :=
  ∀ (m : (ℓ : Loc Cert.CmpSampleRefIdeal.nD Cert.CmpSampleRefIdeal.τ Cert.CmpSampleRefIdeal.sig) → Buf (Elt Ideal) ℓ) (g : Dev Cert.CmpSampleRefIdeal.nD → PrngReg), Pre_CmpSampleRefIdeal m →
    θ_run (Cert.CmpSampleRefIdeal.defs (F := Ideal)) (onTc (τ := Cert.CmpSampleRefIdeal.τ) (Cert.CmpSampleRefIdeal.main (F := Ideal))) ⟨m, fun _ => 0, g⟩ (fun r => (∀ c : Dev Cert.CmpSampleRefIdeal.nD,
      r.2.mem ((c.tc : Thread Cert.CmpSampleRefIdeal.nD Cert.CmpSampleRefIdeal.τ).loc Cert.CmpSampleRefIdeal.main_arg0) = m ((c.tc : Thread Cert.CmpSampleRefIdeal.nD Cert.CmpSampleRefIdeal.τ).loc Cert.CmpSampleRefIdeal.main_arg0)
      ∧ r.2.mem ((c.tc : Thread Cert.CmpSampleRefIdeal.nD Cert.CmpSampleRefIdeal.τ).loc Cert.CmpSampleRefIdeal.main_arg1) = m ((c.tc : Thread Cert.CmpSampleRefIdeal.nD Cert.CmpSampleRefIdeal.τ).loc Cert.CmpSampleRefIdeal.main_arg1)
      ∧ r.2.mem ((c.tc : Thread Cert.CmpSampleRefIdeal.nD Cert.CmpSampleRefIdeal.τ).loc Cert.CmpSampleRefIdeal.main_arg2) = m ((c.tc : Thread Cert.CmpSampleRefIdeal.nD Cert.CmpSampleRefIdeal.τ).loc Cert.CmpSampleRefIdeal.main_arg2))
      ∧ r.2.sem = fun _ => 0)

def quiescent_CmpFinPrompt [hCmpFinPrompt : Cert.CmpFinPrompt.Facts] : Prop :=
  ∀ (m : (ℓ : Loc Cert.CmpFinPrompt.nD Cert.CmpFinPrompt.τ Cert.CmpFinPrompt.sig) → Buf (Elt Bits) ℓ) (g : Dev Cert.CmpFinPrompt.nD → PrngReg), Pre_CmpFinPrompt m →
    θ_run (Cert.CmpFinPrompt.defs (F := Bits)) (onTc (τ := Cert.CmpFinPrompt.τ) (Cert.CmpFinPrompt.main (F := Bits))) ⟨m, fun _ => 0, g⟩ (fun r => (∀ c : Dev Cert.CmpFinPrompt.nD,
      r.2.mem ((c.tc : Thread Cert.CmpFinPrompt.nD Cert.CmpFinPrompt.τ).loc Cert.CmpFinPrompt.main_arg0) = m ((c.tc : Thread Cert.CmpFinPrompt.nD Cert.CmpFinPrompt.τ).loc Cert.CmpFinPrompt.main_arg0)
      ∧ r.2.mem ((c.tc : Thread Cert.CmpFinPrompt.nD Cert.CmpFinPrompt.τ).loc Cert.CmpFinPrompt.main_arg1) = m ((c.tc : Thread Cert.CmpFinPrompt.nD Cert.CmpFinPrompt.τ).loc Cert.CmpFinPrompt.main_arg1))
      ∧ r.2.sem = fun _ => 0)

def quiescent_CmpFinPromptIdeal [hCmpFinPromptIdeal : Cert.CmpFinPromptIdeal.Facts] : Prop :=
  ∀ (m : (ℓ : Loc Cert.CmpFinPromptIdeal.nD Cert.CmpFinPromptIdeal.τ Cert.CmpFinPromptIdeal.sig) → Buf (Elt Ideal) ℓ) (g : Dev Cert.CmpFinPromptIdeal.nD → PrngReg), Pre_CmpFinPromptIdeal m →
    θ_run (Cert.CmpFinPromptIdeal.defs (F := Ideal)) (onTc (τ := Cert.CmpFinPromptIdeal.τ) (Cert.CmpFinPromptIdeal.main (F := Ideal))) ⟨m, fun _ => 0, g⟩ (fun r => (∀ c : Dev Cert.CmpFinPromptIdeal.nD,
      r.2.mem ((c.tc : Thread Cert.CmpFinPromptIdeal.nD Cert.CmpFinPromptIdeal.τ).loc Cert.CmpFinPromptIdeal.main_arg0) = m ((c.tc : Thread Cert.CmpFinPromptIdeal.nD Cert.CmpFinPromptIdeal.τ).loc Cert.CmpFinPromptIdeal.main_arg0)
      ∧ r.2.mem ((c.tc : Thread Cert.CmpFinPromptIdeal.nD Cert.CmpFinPromptIdeal.τ).loc Cert.CmpFinPromptIdeal.main_arg1) = m ((c.tc : Thread Cert.CmpFinPromptIdeal.nD Cert.CmpFinPromptIdeal.τ).loc Cert.CmpFinPromptIdeal.main_arg1))
      ∧ r.2.sem = fun _ => 0)

def quiescent_CmpFinPromptRefIdeal [hCmpFinPromptRefIdeal : Cert.CmpFinPromptRefIdeal.Facts] : Prop :=
  ∀ (m : (ℓ : Loc Cert.CmpFinPromptRefIdeal.nD Cert.CmpFinPromptRefIdeal.τ Cert.CmpFinPromptRefIdeal.sig) → Buf (Elt Ideal) ℓ) (g : Dev Cert.CmpFinPromptRefIdeal.nD → PrngReg), Pre_CmpFinPromptRefIdeal m →
    θ_run (Cert.CmpFinPromptRefIdeal.defs (F := Ideal)) (onTc (τ := Cert.CmpFinPromptRefIdeal.τ) (Cert.CmpFinPromptRefIdeal.main (F := Ideal))) ⟨m, fun _ => 0, g⟩ (fun r => (∀ c : Dev Cert.CmpFinPromptRefIdeal.nD,
      r.2.mem ((c.tc : Thread Cert.CmpFinPromptRefIdeal.nD Cert.CmpFinPromptRefIdeal.τ).loc Cert.CmpFinPromptRefIdeal.main_arg0) = m ((c.tc : Thread Cert.CmpFinPromptRefIdeal.nD Cert.CmpFinPromptRefIdeal.τ).loc Cert.CmpFinPromptRefIdeal.main_arg0)
      ∧ r.2.mem ((c.tc : Thread Cert.CmpFinPromptRefIdeal.nD Cert.CmpFinPromptRefIdeal.τ).loc Cert.CmpFinPromptRefIdeal.main_arg1) = m ((c.tc : Thread Cert.CmpFinPromptRefIdeal.nD Cert.CmpFinPromptRefIdeal.τ).loc Cert.CmpFinPromptRefIdeal.main_arg1))
      ∧ r.2.sem = fun _ => 0)

def quiescent_WinSample [hWinSample : Cert.WinSample.Facts] : Prop :=
  ∀ (m : (ℓ : Loc Cert.WinSample.nD Cert.WinSample.τ Cert.WinSample.sig) → Buf (Elt Bits) ℓ) (g : Dev Cert.WinSample.nD → PrngReg), Pre_WinSample m →
    θ_run (Cert.WinSample.defs (F := Bits)) (onTc (τ := Cert.WinSample.τ) (Cert.WinSample.main (F := Bits))) ⟨m, fun _ => 0, g⟩ (fun r => (∀ c : Dev Cert.WinSample.nD,
      r.2.mem ((c.tc : Thread Cert.WinSample.nD Cert.WinSample.τ).loc Cert.WinSample.main_arg0) = m ((c.tc : Thread Cert.WinSample.nD Cert.WinSample.τ).loc Cert.WinSample.main_arg0)
      ∧ r.2.mem ((c.tc : Thread Cert.WinSample.nD Cert.WinSample.τ).loc Cert.WinSample.main_arg1) = m ((c.tc : Thread Cert.WinSample.nD Cert.WinSample.τ).loc Cert.WinSample.main_arg1)
      ∧ r.2.mem ((c.tc : Thread Cert.WinSample.nD Cert.WinSample.τ).loc Cert.WinSample.main_arg2) = m ((c.tc : Thread Cert.WinSample.nD Cert.WinSample.τ).loc Cert.WinSample.main_arg2)
      ∧ r.2.mem ((c.tc : Thread Cert.WinSample.nD Cert.WinSample.τ).loc Cert.WinSample.main_arg3) = m ((c.tc : Thread Cert.WinSample.nD Cert.WinSample.τ).loc Cert.WinSample.main_arg3))
      ∧ r.2.sem = fun _ => 0)

def quiescent_WinSampleIdeal [hWinSampleIdeal : Cert.WinSampleIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg), Pre_WinSampleIdeal m →
    θ_run (Cert.WinSampleIdeal.defs (F := Ideal)) (onTc (τ := Cert.WinSampleIdeal.τ) (Cert.WinSampleIdeal.main (F := Ideal))) ⟨m, fun _ => 0, g⟩ (fun r => (∀ c : Dev Cert.WinSampleIdeal.nD,
      r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
      ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
      ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
      ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3))
      ∧ r.2.sem = fun _ => 0)

def quiescent_WinSampleRefIdeal [hWinSampleRefIdeal : Cert.WinSampleRefIdeal.Facts] : Prop :=
  ∀ (m : (ℓ : Loc Cert.WinSampleRefIdeal.nD Cert.WinSampleRefIdeal.τ Cert.WinSampleRefIdeal.sig) → Buf (Elt Ideal) ℓ) (g : Dev Cert.WinSampleRefIdeal.nD → PrngReg), Pre_WinSampleRefIdeal m →
    θ_run (Cert.WinSampleRefIdeal.defs (F := Ideal)) (onTc (τ := Cert.WinSampleRefIdeal.τ) (Cert.WinSampleRefIdeal.main (F := Ideal))) ⟨m, fun _ => 0, g⟩ (fun r => (∀ c : Dev Cert.WinSampleRefIdeal.nD,
      r.2.mem ((c.tc : Thread Cert.WinSampleRefIdeal.nD Cert.WinSampleRefIdeal.τ).loc Cert.WinSampleRefIdeal.main_arg0) = m ((c.tc : Thread Cert.WinSampleRefIdeal.nD Cert.WinSampleRefIdeal.τ).loc Cert.WinSampleRefIdeal.main_arg0)
      ∧ r.2.mem ((c.tc : Thread Cert.WinSampleRefIdeal.nD Cert.WinSampleRefIdeal.τ).loc Cert.WinSampleRefIdeal.main_arg1) = m ((c.tc : Thread Cert.WinSampleRefIdeal.nD Cert.WinSampleRefIdeal.τ).loc Cert.WinSampleRefIdeal.main_arg1)
      ∧ r.2.mem ((c.tc : Thread Cert.WinSampleRefIdeal.nD Cert.WinSampleRefIdeal.τ).loc Cert.WinSampleRefIdeal.main_arg2) = m ((c.tc : Thread Cert.WinSampleRefIdeal.nD Cert.WinSampleRefIdeal.τ).loc Cert.WinSampleRefIdeal.main_arg2)
      ∧ r.2.mem ((c.tc : Thread Cert.WinSampleRefIdeal.nD Cert.WinSampleRefIdeal.τ).loc Cert.WinSampleRefIdeal.main_arg3) = m ((c.tc : Thread Cert.WinSampleRefIdeal.nD Cert.WinSampleRefIdeal.τ).loc Cert.WinSampleRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)) →
    ∃ (v0 : (c : Dev Cert.SampleIdeal.nD) → Buf (Elt Ideal) ((c.tc : Thread Cert.SampleIdeal.nD Cert.SampleIdeal.τ).loc Cert.SampleIdeal.main_v8)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v8) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v91) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11))

def preserves_MobaQ_MobaQIdeal : Prop :=
  True

def algebraic_MobaQIdeal_MobaQRefIdeal [hMobaQIdeal : Cert.MobaQIdeal.Facts] [hMobaQRefIdeal : Cert.MobaQRefIdeal.Facts] : Prop :=
  ∀ (m : (ℓ : Loc Cert.MobaQIdeal.nD Cert.MobaQIdeal.τ Cert.MobaQIdeal.sig) → Buf (Elt Ideal) ℓ) (g : Dev Cert.MobaQIdeal.nD → PrngReg)
    (m' : (ℓ : Loc Cert.MobaQRefIdeal.nD Cert.MobaQRefIdeal.τ Cert.MobaQRefIdeal.sig) → Buf (Elt Ideal) ℓ) (g' : Dev Cert.MobaQRefIdeal.nD → PrngReg), Pre_MobaQIdeal m →
    (∀ c : Dev Cert.MobaQIdeal.nD,
      m' ((c.tc : Thread Cert.MobaQRefIdeal.nD Cert.MobaQRefIdeal.τ).loc Cert.MobaQRefIdeal.main_arg0) = m ((c.tc : Thread Cert.MobaQIdeal.nD Cert.MobaQIdeal.τ).loc Cert.MobaQIdeal.main_arg0)
      ∧ m' ((c.tc : Thread Cert.MobaQRefIdeal.nD Cert.MobaQRefIdeal.τ).loc Cert.MobaQRefIdeal.main_arg1) = m ((c.tc : Thread Cert.MobaQIdeal.nD Cert.MobaQIdeal.τ).loc Cert.MobaQIdeal.main_arg1)) →
    ∃ (v0 : (c : Dev Cert.MobaQIdeal.nD) → Buf (Elt Ideal) ((c.tc : Thread Cert.MobaQIdeal.nD Cert.MobaQIdeal.τ).loc Cert.MobaQIdeal.main_v0)),
      θ_run (Cert.MobaQIdeal.defs (F := Ideal)) (onTc (τ := Cert.MobaQIdeal.τ) (Cert.MobaQIdeal.main (F := Ideal))) ⟨m, fun _ => 0, g⟩ (fun r => ∀ c : Dev Cert.MobaQIdeal.nD,
          r.2.mem ((c.tc : Thread Cert.MobaQIdeal.nD Cert.MobaQIdeal.τ).loc Cert.MobaQIdeal.main_v0) = v0 c
          ∧ r.2.mem ((c.tc : Thread Cert.MobaQIdeal.nD Cert.MobaQIdeal.τ).loc Cert.MobaQIdeal.main_arg0) = m ((c.tc : Thread Cert.MobaQIdeal.nD Cert.MobaQIdeal.τ).loc Cert.MobaQIdeal.main_arg0)
          ∧ r.2.mem ((c.tc : Thread Cert.MobaQIdeal.nD Cert.MobaQIdeal.τ).loc Cert.MobaQIdeal.main_arg1) = m ((c.tc : Thread Cert.MobaQIdeal.nD Cert.MobaQIdeal.τ).loc Cert.MobaQIdeal.main_arg1))
      ∧ θ_run (Cert.MobaQRefIdeal.defs (F := Ideal)) (onTc (τ := Cert.MobaQRefIdeal.τ) (Cert.MobaQRefIdeal.main (F := Ideal))) ⟨m', fun _ => 0, g'⟩ (fun r => ∀ c : Dev Cert.MobaQRefIdeal.nD,
          r.2.mem ((c.tc : Thread Cert.MobaQRefIdeal.nD Cert.MobaQRefIdeal.τ).loc Cert.MobaQRefIdeal.main_v2) = v0 c
          ∧ r.2.mem ((c.tc : Thread Cert.MobaQRefIdeal.nD Cert.MobaQRefIdeal.τ).loc Cert.MobaQRefIdeal.main_arg0) = m' ((c.tc : Thread Cert.MobaQRefIdeal.nD Cert.MobaQRefIdeal.τ).loc Cert.MobaQRefIdeal.main_arg0)
          ∧ r.2.mem ((c.tc : Thread Cert.MobaQRefIdeal.nD Cert.MobaQRefIdeal.τ).loc Cert.MobaQRefIdeal.main_arg1) = m' ((c.tc : Thread Cert.MobaQRefIdeal.nD Cert.MobaQRefIdeal.τ).loc Cert.MobaQRefIdeal.main_arg1))

def preserves_MobaK_MobaKIdeal : Prop :=
  True

def algebraic_MobaKIdeal_MobaKRefIdeal [hMobaKIdeal : Cert.MobaKIdeal.Facts] [hMobaKRefIdeal : Cert.MobaKRefIdeal.Facts] : Prop :=
  ∀ (m : (ℓ : Loc Cert.MobaKIdeal.nD Cert.MobaKIdeal.τ Cert.MobaKIdeal.sig) → Buf (Elt Ideal) ℓ) (g : Dev Cert.MobaKIdeal.nD → PrngReg)
    (m' : (ℓ : Loc Cert.MobaKRefIdeal.nD Cert.MobaKRefIdeal.τ Cert.MobaKRefIdeal.sig) → Buf (Elt Ideal) ℓ) (g' : Dev Cert.MobaKRefIdeal.nD → PrngReg), Pre_MobaKIdeal m →
    (∀ c : Dev Cert.MobaKIdeal.nD,
      m' ((c.tc : Thread Cert.MobaKRefIdeal.nD Cert.MobaKRefIdeal.τ).loc Cert.MobaKRefIdeal.main_arg0) = m ((c.tc : Thread Cert.MobaKIdeal.nD Cert.MobaKIdeal.τ).loc Cert.MobaKIdeal.main_arg0)
      ∧ m' ((c.tc : Thread Cert.MobaKRefIdeal.nD Cert.MobaKRefIdeal.τ).loc Cert.MobaKRefIdeal.main_arg1) = m ((c.tc : Thread Cert.MobaKIdeal.nD Cert.MobaKIdeal.τ).loc Cert.MobaKIdeal.main_arg1)) →
    ∃ (v0 : (c : Dev Cert.MobaKIdeal.nD) → Buf (Elt Ideal) ((c.tc : Thread Cert.MobaKIdeal.nD Cert.MobaKIdeal.τ).loc Cert.MobaKIdeal.main_v0)),
      θ_run (Cert.MobaKIdeal.defs (F := Ideal)) (onTc (τ := Cert.MobaKIdeal.τ) (Cert.MobaKIdeal.main (F := Ideal))) ⟨m, fun _ => 0, g⟩ (fun r => ∀ c : Dev Cert.MobaKIdeal.nD,
          r.2.mem ((c.tc : Thread Cert.MobaKIdeal.nD Cert.MobaKIdeal.τ).loc Cert.MobaKIdeal.main_v0) = v0 c
          ∧ r.2.mem ((c.tc : Thread Cert.MobaKIdeal.nD Cert.MobaKIdeal.τ).loc Cert.MobaKIdeal.main_arg0) = m ((c.tc : Thread Cert.MobaKIdeal.nD Cert.MobaKIdeal.τ).loc Cert.MobaKIdeal.main_arg0)
          ∧ r.2.mem ((c.tc : Thread Cert.MobaKIdeal.nD Cert.MobaKIdeal.τ).loc Cert.MobaKIdeal.main_arg1) = m ((c.tc : Thread Cert.MobaKIdeal.nD Cert.MobaKIdeal.τ).loc Cert.MobaKIdeal.main_arg1))
      ∧ θ_run (Cert.MobaKRefIdeal.defs (F := Ideal)) (onTc (τ := Cert.MobaKRefIdeal.τ) (Cert.MobaKRefIdeal.main (F := Ideal))) ⟨m', fun _ => 0, g'⟩ (fun r => ∀ c : Dev Cert.MobaKRefIdeal.nD,
          r.2.mem ((c.tc : Thread Cert.MobaKRefIdeal.nD Cert.MobaKRefIdeal.τ).loc Cert.MobaKRefIdeal.main_v2) = v0 c
          ∧ r.2.mem ((c.tc : Thread Cert.MobaKRefIdeal.nD Cert.MobaKRefIdeal.τ).loc Cert.MobaKRefIdeal.main_arg0) = m' ((c.tc : Thread Cert.MobaKRefIdeal.nD Cert.MobaKRefIdeal.τ).loc Cert.MobaKRefIdeal.main_arg0)
          ∧ r.2.mem ((c.tc : Thread Cert.MobaKRefIdeal.nD Cert.MobaKRefIdeal.τ).loc Cert.MobaKRefIdeal.main_arg1) = m' ((c.tc : Thread Cert.MobaKRefIdeal.nD Cert.MobaKRefIdeal.τ).loc Cert.MobaKRefIdeal.main_arg1))

def preserves_MobaV_MobaVIdeal : Prop :=
  True

def algebraic_MobaVIdeal_MobaVRefIdeal [hMobaVIdeal : Cert.MobaVIdeal.Facts] [hMobaVRefIdeal : Cert.MobaVRefIdeal.Facts] : Prop :=
  ∀ (m : (ℓ : Loc Cert.MobaVIdeal.nD Cert.MobaVIdeal.τ Cert.MobaVIdeal.sig) → Buf (Elt Ideal) ℓ) (g : Dev Cert.MobaVIdeal.nD → PrngReg)
    (m' : (ℓ : Loc Cert.MobaVRefIdeal.nD Cert.MobaVRefIdeal.τ Cert.MobaVRefIdeal.sig) → Buf (Elt Ideal) ℓ) (g' : Dev Cert.MobaVRefIdeal.nD → PrngReg), Pre_MobaVIdeal m →
    (∀ c : Dev Cert.MobaVIdeal.nD,
      m' ((c.tc : Thread Cert.MobaVRefIdeal.nD Cert.MobaVRefIdeal.τ).loc Cert.MobaVRefIdeal.main_arg0) = m ((c.tc : Thread Cert.MobaVIdeal.nD Cert.MobaVIdeal.τ).loc Cert.MobaVIdeal.main_arg0)
      ∧ m' ((c.tc : Thread Cert.MobaVRefIdeal.nD Cert.MobaVRefIdeal.τ).loc Cert.MobaVRefIdeal.main_arg1) = m ((c.tc : Thread Cert.MobaVIdeal.nD Cert.MobaVIdeal.τ).loc Cert.MobaVIdeal.main_arg1)) →
    ∃ (v0 : (c : Dev Cert.MobaVIdeal.nD) → Buf (Elt Ideal) ((c.tc : Thread Cert.MobaVIdeal.nD Cert.MobaVIdeal.τ).loc Cert.MobaVIdeal.main_v0)),
      θ_run (Cert.MobaVIdeal.defs (F := Ideal)) (onTc (τ := Cert.MobaVIdeal.τ) (Cert.MobaVIdeal.main (F := Ideal))) ⟨m, fun _ => 0, g⟩ (fun r => ∀ c : Dev Cert.MobaVIdeal.nD,
          r.2.mem ((c.tc : Thread Cert.MobaVIdeal.nD Cert.MobaVIdeal.τ).loc Cert.MobaVIdeal.main_v0) = v0 c
          ∧ r.2.mem ((c.tc : Thread Cert.MobaVIdeal.nD Cert.MobaVIdeal.τ).loc Cert.MobaVIdeal.main_arg0) = m ((c.tc : Thread Cert.MobaVIdeal.nD Cert.MobaVIdeal.τ).loc Cert.MobaVIdeal.main_arg0)
          ∧ r.2.mem ((c.tc : Thread Cert.MobaVIdeal.nD Cert.MobaVIdeal.τ).loc Cert.MobaVIdeal.main_arg1) = m ((c.tc : Thread Cert.MobaVIdeal.nD Cert.MobaVIdeal.τ).loc Cert.MobaVIdeal.main_arg1))
      ∧ θ_run (Cert.MobaVRefIdeal.defs (F := Ideal)) (onTc (τ := Cert.MobaVRefIdeal.τ) (Cert.MobaVRefIdeal.main (F := Ideal))) ⟨m', fun _ => 0, g'⟩ (fun r => ∀ c : Dev Cert.MobaVRefIdeal.nD,
          r.2.mem ((c.tc : Thread Cert.MobaVRefIdeal.nD Cert.MobaVRefIdeal.τ).loc Cert.MobaVRefIdeal.main_v2) = v0 c
          ∧ r.2.mem ((c.tc : Thread Cert.MobaVRefIdeal.nD Cert.MobaVRefIdeal.τ).loc Cert.MobaVRefIdeal.main_arg0) = m' ((c.tc : Thread Cert.MobaVRefIdeal.nD Cert.MobaVRefIdeal.τ).loc Cert.MobaVRefIdeal.main_arg0)
          ∧ r.2.mem ((c.tc : Thread Cert.MobaVRefIdeal.nD Cert.MobaVRefIdeal.τ).loc Cert.MobaVRefIdeal.main_arg1) = m' ((c.tc : Thread Cert.MobaVRefIdeal.nD Cert.MobaVRefIdeal.τ).loc Cert.MobaVRefIdeal.main_arg1))

def preserves_MobaSample_MobaSampleIdeal : Prop :=
  True

def algebraic_MobaSampleIdeal_MobaSampleRefIdeal [hMobaSampleIdeal : Cert.MobaSampleIdeal.Facts] [hMobaSampleRefIdeal : Cert.MobaSampleRefIdeal.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg)
    (m' : (ℓ : Loc Cert.MobaSampleRefIdeal.nD Cert.MobaSampleRefIdeal.τ Cert.MobaSampleRefIdeal.sig) → Buf (Elt Ideal) ℓ) (g' : Dev Cert.MobaSampleRefIdeal.nD → PrngReg), Pre_MobaSampleIdeal m →
    (∀ c : Dev Cert.MobaSampleIdeal.nD,
      m' ((c.tc : Thread Cert.MobaSampleRefIdeal.nD Cert.MobaSampleRefIdeal.τ).loc Cert.MobaSampleRefIdeal.main_arg0) = m ((c.tc : Thread Cert.MobaSampleIdeal.nD Cert.MobaSampleIdeal.τ).loc Cert.MobaSampleIdeal.main_arg0)
      ∧ m' ((c.tc : Thread Cert.MobaSampleRefIdeal.nD Cert.MobaSampleRefIdeal.τ).loc Cert.MobaSampleRefIdeal.main_arg1) = m ((c.tc : Thread Cert.MobaSampleIdeal.nD Cert.MobaSampleIdeal.τ).loc Cert.MobaSampleIdeal.main_arg1)) →
    ∃ (v0 : (c : Dev Cert.MobaSampleIdeal.nD) → Buf (Elt Ideal) ((c.tc : Thread Cert.MobaSampleIdeal.nD Cert.MobaSampleIdeal.τ).loc Cert.MobaSampleIdeal.main_v0)),
      θ_run (Cert.MobaSampleIdeal.defs (F := Ideal)) (onTc (τ := Cert.MobaSampleIdeal.τ) (Cert.MobaSampleIdeal.main (F := Ideal))) ⟨m, fun _ => 0, g⟩ (fun r => ∀ c : Dev Cert.MobaSampleIdeal.nD,
          r.2.mem ((c.tc : Thread Cert.MobaSampleIdeal.nD Cert.MobaSampleIdeal.τ).loc Cert.MobaSampleIdeal.main_v0) = v0 c
          ∧ r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
          ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1))
      ∧ θ_run (Cert.MobaSampleRefIdeal.defs (F := Ideal)) (onTc (τ := Cert.MobaSampleRefIdeal.τ) (Cert.MobaSampleRefIdeal.main (F := Ideal))) ⟨m', fun _ => 0, g'⟩ (fun r => ∀ c : Dev Cert.MobaSampleRefIdeal.nD,
          r.2.mem ((c.tc : Thread Cert.MobaSampleRefIdeal.nD Cert.MobaSampleRefIdeal.τ).loc Cert.MobaSampleRefIdeal.main_v1) = v0 c
          ∧ r.2.mem ((c.tc : Thread Cert.MobaSampleRefIdeal.nD Cert.MobaSampleRefIdeal.τ).loc Cert.MobaSampleRefIdeal.main_arg0) = m' ((c.tc : Thread Cert.MobaSampleRefIdeal.nD Cert.MobaSampleRefIdeal.τ).loc Cert.MobaSampleRefIdeal.main_arg0)
          ∧ r.2.mem ((c.tc : Thread Cert.MobaSampleRefIdeal.nD Cert.MobaSampleRefIdeal.τ).loc Cert.MobaSampleRefIdeal.main_arg1) = m' ((c.tc : Thread Cert.MobaSampleRefIdeal.nD Cert.MobaSampleRefIdeal.τ).loc Cert.MobaSampleRefIdeal.main_arg1))

def preserves_DiffQ_DiffQIdeal : Prop :=
  True

def algebraic_DiffQIdeal_DiffQRefIdeal [hDiffQIdeal : Cert.DiffQIdeal.Facts] [hDiffQRefIdeal : Cert.DiffQRefIdeal.Facts] : Prop :=
  ∀ (m : (ℓ : Loc Cert.DiffQIdeal.nD Cert.DiffQIdeal.τ Cert.DiffQIdeal.sig) → Buf (Elt Ideal) ℓ) (g : Dev Cert.DiffQIdeal.nD → PrngReg)
    (m' : (ℓ : Loc Cert.DiffQRefIdeal.nD Cert.DiffQRefIdeal.τ Cert.DiffQRefIdeal.sig) → Buf (Elt Ideal) ℓ) (g' : Dev Cert.DiffQRefIdeal.nD → PrngReg), Pre_DiffQIdeal m →
    (∀ c : Dev Cert.DiffQIdeal.nD,
      m' ((c.tc : Thread Cert.DiffQRefIdeal.nD Cert.DiffQRefIdeal.τ).loc Cert.DiffQRefIdeal.main_arg0) = m ((c.tc : Thread Cert.DiffQIdeal.nD Cert.DiffQIdeal.τ).loc Cert.DiffQIdeal.main_arg0)
      ∧ m' ((c.tc : Thread Cert.DiffQRefIdeal.nD Cert.DiffQRefIdeal.τ).loc Cert.DiffQRefIdeal.main_arg1) = m ((c.tc : Thread Cert.DiffQIdeal.nD Cert.DiffQIdeal.τ).loc Cert.DiffQIdeal.main_arg1)) →
    ∃ (v0 : (c : Dev Cert.DiffQIdeal.nD) → Buf (Elt Ideal) ((c.tc : Thread Cert.DiffQIdeal.nD Cert.DiffQIdeal.τ).loc Cert.DiffQIdeal.main_v0)),
      θ_run (Cert.DiffQIdeal.defs (F := Ideal)) (onTc (τ := Cert.DiffQIdeal.τ) (Cert.DiffQIdeal.main (F := Ideal))) ⟨m, fun _ => 0, g⟩ (fun r => ∀ c : Dev Cert.DiffQIdeal.nD,
          r.2.mem ((c.tc : Thread Cert.DiffQIdeal.nD Cert.DiffQIdeal.τ).loc Cert.DiffQIdeal.main_v0) = v0 c
          ∧ r.2.mem ((c.tc : Thread Cert.DiffQIdeal.nD Cert.DiffQIdeal.τ).loc Cert.DiffQIdeal.main_arg0) = m ((c.tc : Thread Cert.DiffQIdeal.nD Cert.DiffQIdeal.τ).loc Cert.DiffQIdeal.main_arg0)
          ∧ r.2.mem ((c.tc : Thread Cert.DiffQIdeal.nD Cert.DiffQIdeal.τ).loc Cert.DiffQIdeal.main_arg1) = m ((c.tc : Thread Cert.DiffQIdeal.nD Cert.DiffQIdeal.τ).loc Cert.DiffQIdeal.main_arg1))
      ∧ θ_run (Cert.DiffQRefIdeal.defs (F := Ideal)) (onTc (τ := Cert.DiffQRefIdeal.τ) (Cert.DiffQRefIdeal.main (F := Ideal))) ⟨m', fun _ => 0, g'⟩ (fun r => ∀ c : Dev Cert.DiffQRefIdeal.nD,
          r.2.mem ((c.tc : Thread Cert.DiffQRefIdeal.nD Cert.DiffQRefIdeal.τ).loc Cert.DiffQRefIdeal.main_v2) = v0 c
          ∧ r.2.mem ((c.tc : Thread Cert.DiffQRefIdeal.nD Cert.DiffQRefIdeal.τ).loc Cert.DiffQRefIdeal.main_arg0) = m' ((c.tc : Thread Cert.DiffQRefIdeal.nD Cert.DiffQRefIdeal.τ).loc Cert.DiffQRefIdeal.main_arg0)
          ∧ r.2.mem ((c.tc : Thread Cert.DiffQRefIdeal.nD Cert.DiffQRefIdeal.τ).loc Cert.DiffQRefIdeal.main_arg1) = m' ((c.tc : Thread Cert.DiffQRefIdeal.nD Cert.DiffQRefIdeal.τ).loc Cert.DiffQRefIdeal.main_arg1))

def preserves_DiffK_DiffKIdeal : Prop :=
  True

def algebraic_DiffKIdeal_DiffKRefIdeal [hDiffKIdeal : Cert.DiffKIdeal.Facts] [hDiffKRefIdeal : Cert.DiffKRefIdeal.Facts] : Prop :=
  ∀ (m : (ℓ : Loc Cert.DiffKIdeal.nD Cert.DiffKIdeal.τ Cert.DiffKIdeal.sig) → Buf (Elt Ideal) ℓ) (g : Dev Cert.DiffKIdeal.nD → PrngReg)
    (m' : (ℓ : Loc Cert.DiffKRefIdeal.nD Cert.DiffKRefIdeal.τ Cert.DiffKRefIdeal.sig) → Buf (Elt Ideal) ℓ) (g' : Dev Cert.DiffKRefIdeal.nD → PrngReg), Pre_DiffKIdeal m →
    (∀ c : Dev Cert.DiffKIdeal.nD,
      m' ((c.tc : Thread Cert.DiffKRefIdeal.nD Cert.DiffKRefIdeal.τ).loc Cert.DiffKRefIdeal.main_arg0) = m ((c.tc : Thread Cert.DiffKIdeal.nD Cert.DiffKIdeal.τ).loc Cert.DiffKIdeal.main_arg0)
      ∧ m' ((c.tc : Thread Cert.DiffKRefIdeal.nD Cert.DiffKRefIdeal.τ).loc Cert.DiffKRefIdeal.main_arg1) = m ((c.tc : Thread Cert.DiffKIdeal.nD Cert.DiffKIdeal.τ).loc Cert.DiffKIdeal.main_arg1)) →
    ∃ (v0 : (c : Dev Cert.DiffKIdeal.nD) → Buf (Elt Ideal) ((c.tc : Thread Cert.DiffKIdeal.nD Cert.DiffKIdeal.τ).loc Cert.DiffKIdeal.main_v0)),
      θ_run (Cert.DiffKIdeal.defs (F := Ideal)) (onTc (τ := Cert.DiffKIdeal.τ) (Cert.DiffKIdeal.main (F := Ideal))) ⟨m, fun _ => 0, g⟩ (fun r => ∀ c : Dev Cert.DiffKIdeal.nD,
          r.2.mem ((c.tc : Thread Cert.DiffKIdeal.nD Cert.DiffKIdeal.τ).loc Cert.DiffKIdeal.main_v0) = v0 c
          ∧ r.2.mem ((c.tc : Thread Cert.DiffKIdeal.nD Cert.DiffKIdeal.τ).loc Cert.DiffKIdeal.main_arg0) = m ((c.tc : Thread Cert.DiffKIdeal.nD Cert.DiffKIdeal.τ).loc Cert.DiffKIdeal.main_arg0)
          ∧ r.2.mem ((c.tc : Thread Cert.DiffKIdeal.nD Cert.DiffKIdeal.τ).loc Cert.DiffKIdeal.main_arg1) = m ((c.tc : Thread Cert.DiffKIdeal.nD Cert.DiffKIdeal.τ).loc Cert.DiffKIdeal.main_arg1))
      ∧ θ_run (Cert.DiffKRefIdeal.defs (F := Ideal)) (onTc (τ := Cert.DiffKRefIdeal.τ) (Cert.DiffKRefIdeal.main (F := Ideal))) ⟨m', fun _ => 0, g'⟩ (fun r => ∀ c : Dev Cert.DiffKRefIdeal.nD,
          r.2.mem ((c.tc : Thread Cert.DiffKRefIdeal.nD Cert.DiffKRefIdeal.τ).loc Cert.DiffKRefIdeal.main_v2) = v0 c
          ∧ r.2.mem ((c.tc : Thread Cert.DiffKRefIdeal.nD Cert.DiffKRefIdeal.τ).loc Cert.DiffKRefIdeal.main_arg0) = m' ((c.tc : Thread Cert.DiffKRefIdeal.nD Cert.DiffKRefIdeal.τ).loc Cert.DiffKRefIdeal.main_arg0)
          ∧ r.2.mem ((c.tc : Thread Cert.DiffKRefIdeal.nD Cert.DiffKRefIdeal.τ).loc Cert.DiffKRefIdeal.main_arg1) = m' ((c.tc : Thread Cert.DiffKRefIdeal.nD Cert.DiffKRefIdeal.τ).loc Cert.DiffKRefIdeal.main_arg1))

def preserves_DiffV_DiffVIdeal : Prop :=
  True

def algebraic_DiffVIdeal_DiffVRefIdeal [hDiffVIdeal : Cert.DiffVIdeal.Facts] [hDiffVRefIdeal : Cert.DiffVRefIdeal.Facts] : Prop :=
  ∀ (m : (ℓ : Loc Cert.DiffVIdeal.nD Cert.DiffVIdeal.τ Cert.DiffVIdeal.sig) → Buf (Elt Ideal) ℓ) (g : Dev Cert.DiffVIdeal.nD → PrngReg)
    (m' : (ℓ : Loc Cert.DiffVRefIdeal.nD Cert.DiffVRefIdeal.τ Cert.DiffVRefIdeal.sig) → Buf (Elt Ideal) ℓ) (g' : Dev Cert.DiffVRefIdeal.nD → PrngReg), Pre_DiffVIdeal m →
    (∀ c : Dev Cert.DiffVIdeal.nD,
      m' ((c.tc : Thread Cert.DiffVRefIdeal.nD Cert.DiffVRefIdeal.τ).loc Cert.DiffVRefIdeal.main_arg0) = m ((c.tc : Thread Cert.DiffVIdeal.nD Cert.DiffVIdeal.τ).loc Cert.DiffVIdeal.main_arg0)
      ∧ m' ((c.tc : Thread Cert.DiffVRefIdeal.nD Cert.DiffVRefIdeal.τ).loc Cert.DiffVRefIdeal.main_arg1) = m ((c.tc : Thread Cert.DiffVIdeal.nD Cert.DiffVIdeal.τ).loc Cert.DiffVIdeal.main_arg1)) →
    ∃ (v0 : (c : Dev Cert.DiffVIdeal.nD) → Buf (Elt Ideal) ((c.tc : Thread Cert.DiffVIdeal.nD Cert.DiffVIdeal.τ).loc Cert.DiffVIdeal.main_v0)),
      θ_run (Cert.DiffVIdeal.defs (F := Ideal)) (onTc (τ := Cert.DiffVIdeal.τ) (Cert.DiffVIdeal.main (F := Ideal))) ⟨m, fun _ => 0, g⟩ (fun r => ∀ c : Dev Cert.DiffVIdeal.nD,
          r.2.mem ((c.tc : Thread Cert.DiffVIdeal.nD Cert.DiffVIdeal.τ).loc Cert.DiffVIdeal.main_v0) = v0 c
          ∧ r.2.mem ((c.tc : Thread Cert.DiffVIdeal.nD Cert.DiffVIdeal.τ).loc Cert.DiffVIdeal.main_arg0) = m ((c.tc : Thread Cert.DiffVIdeal.nD Cert.DiffVIdeal.τ).loc Cert.DiffVIdeal.main_arg0)
          ∧ r.2.mem ((c.tc : Thread Cert.DiffVIdeal.nD Cert.DiffVIdeal.τ).loc Cert.DiffVIdeal.main_arg1) = m ((c.tc : Thread Cert.DiffVIdeal.nD Cert.DiffVIdeal.τ).loc Cert.DiffVIdeal.main_arg1))
      ∧ θ_run (Cert.DiffVRefIdeal.defs (F := Ideal)) (onTc (τ := Cert.DiffVRefIdeal.τ) (Cert.DiffVRefIdeal.main (F := Ideal))) ⟨m', fun _ => 0, g'⟩ (fun r => ∀ c : Dev Cert.DiffVRefIdeal.nD,
          r.2.mem ((c.tc : Thread Cert.DiffVRefIdeal.nD Cert.DiffVRefIdeal.τ).loc Cert.DiffVRefIdeal.main_v2) = v0 c
          ∧ r.2.mem ((c.tc : Thread Cert.DiffVRefIdeal.nD Cert.DiffVRefIdeal.τ).loc Cert.DiffVRefIdeal.main_arg0) = m' ((c.tc : Thread Cert.DiffVRefIdeal.nD Cert.DiffVRefIdeal.τ).loc Cert.DiffVRefIdeal.main_arg0)
          ∧ r.2.mem ((c.tc : Thread Cert.DiffVRefIdeal.nD Cert.DiffVRefIdeal.τ).loc Cert.DiffVRefIdeal.main_arg1) = m' ((c.tc : Thread Cert.DiffVRefIdeal.nD Cert.DiffVRefIdeal.τ).loc Cert.DiffVRefIdeal.main_arg1))

def preserves_NsaQ_NsaQIdeal : Prop :=
  True

def algebraic_NsaQIdeal_NsaQRefIdeal [hNsaQIdeal : Cert.NsaQIdeal.Facts] [hNsaQRefIdeal : Cert.NsaQRefIdeal.Facts] : Prop :=
  ∀ (m : (ℓ : Loc Cert.NsaQIdeal.nD Cert.NsaQIdeal.τ Cert.NsaQIdeal.sig) → Buf (Elt Ideal) ℓ) (g : Dev Cert.NsaQIdeal.nD → PrngReg)
    (m' : (ℓ : Loc Cert.NsaQRefIdeal.nD Cert.NsaQRefIdeal.τ Cert.NsaQRefIdeal.sig) → Buf (Elt Ideal) ℓ) (g' : Dev Cert.NsaQRefIdeal.nD → PrngReg), Pre_NsaQIdeal m →
    (∀ c : Dev Cert.NsaQIdeal.nD,
      m' ((c.tc : Thread Cert.NsaQRefIdeal.nD Cert.NsaQRefIdeal.τ).loc Cert.NsaQRefIdeal.main_arg0) = m ((c.tc : Thread Cert.NsaQIdeal.nD Cert.NsaQIdeal.τ).loc Cert.NsaQIdeal.main_arg0)
      ∧ m' ((c.tc : Thread Cert.NsaQRefIdeal.nD Cert.NsaQRefIdeal.τ).loc Cert.NsaQRefIdeal.main_arg1) = m ((c.tc : Thread Cert.NsaQIdeal.nD Cert.NsaQIdeal.τ).loc Cert.NsaQIdeal.main_arg1)) →
    ∃ (v0 : (c : Dev Cert.NsaQIdeal.nD) → Buf (Elt Ideal) ((c.tc : Thread Cert.NsaQIdeal.nD Cert.NsaQIdeal.τ).loc Cert.NsaQIdeal.main_v0)),
      θ_run (Cert.NsaQIdeal.defs (F := Ideal)) (onTc (τ := Cert.NsaQIdeal.τ) (Cert.NsaQIdeal.main (F := Ideal))) ⟨m, fun _ => 0, g⟩ (fun r => ∀ c : Dev Cert.NsaQIdeal.nD,
          r.2.mem ((c.tc : Thread Cert.NsaQIdeal.nD Cert.NsaQIdeal.τ).loc Cert.NsaQIdeal.main_v0) = v0 c
          ∧ r.2.mem ((c.tc : Thread Cert.NsaQIdeal.nD Cert.NsaQIdeal.τ).loc Cert.NsaQIdeal.main_arg0) = m ((c.tc : Thread Cert.NsaQIdeal.nD Cert.NsaQIdeal.τ).loc Cert.NsaQIdeal.main_arg0)
          ∧ r.2.mem ((c.tc : Thread Cert.NsaQIdeal.nD Cert.NsaQIdeal.τ).loc Cert.NsaQIdeal.main_arg1) = m ((c.tc : Thread Cert.NsaQIdeal.nD Cert.NsaQIdeal.τ).loc Cert.NsaQIdeal.main_arg1))
      ∧ θ_run (Cert.NsaQRefIdeal.defs (F := Ideal)) (onTc (τ := Cert.NsaQRefIdeal.τ) (Cert.NsaQRefIdeal.main (F := Ideal))) ⟨m', fun _ => 0, g'⟩ (fun r => ∀ c : Dev Cert.NsaQRefIdeal.nD,
          r.2.mem ((c.tc : Thread Cert.NsaQRefIdeal.nD Cert.NsaQRefIdeal.τ).loc Cert.NsaQRefIdeal.main_v2) = v0 c
          ∧ r.2.mem ((c.tc : Thread Cert.NsaQRefIdeal.nD Cert.NsaQRefIdeal.τ).loc Cert.NsaQRefIdeal.main_arg0) = m' ((c.tc : Thread Cert.NsaQRefIdeal.nD Cert.NsaQRefIdeal.τ).loc Cert.NsaQRefIdeal.main_arg0)
          ∧ r.2.mem ((c.tc : Thread Cert.NsaQRefIdeal.nD Cert.NsaQRefIdeal.τ).loc Cert.NsaQRefIdeal.main_arg1) = m' ((c.tc : Thread Cert.NsaQRefIdeal.nD Cert.NsaQRefIdeal.τ).loc Cert.NsaQRefIdeal.main_arg1))

def preserves_CmpK_CmpKIdeal : Prop :=
  True

def algebraic_CmpKIdeal_CmpKRefIdeal [hCmpKIdeal : Cert.CmpKIdeal.Facts] [hCmpKRefIdeal : Cert.CmpKRefIdeal.Facts] : Prop :=
  ∀ (m : (ℓ : Loc Cert.CmpKIdeal.nD Cert.CmpKIdeal.τ Cert.CmpKIdeal.sig) → Buf (Elt Ideal) ℓ) (g : Dev Cert.CmpKIdeal.nD → PrngReg)
    (m' : (ℓ : Loc Cert.CmpKRefIdeal.nD Cert.CmpKRefIdeal.τ Cert.CmpKRefIdeal.sig) → Buf (Elt Ideal) ℓ) (g' : Dev Cert.CmpKRefIdeal.nD → PrngReg), Pre_CmpKIdeal m →
    (∀ c : Dev Cert.CmpKIdeal.nD,
      m' ((c.tc : Thread Cert.CmpKRefIdeal.nD Cert.CmpKRefIdeal.τ).loc Cert.CmpKRefIdeal.main_arg0) = m ((c.tc : Thread Cert.CmpKIdeal.nD Cert.CmpKIdeal.τ).loc Cert.CmpKIdeal.main_arg0)
      ∧ m' ((c.tc : Thread Cert.CmpKRefIdeal.nD Cert.CmpKRefIdeal.τ).loc Cert.CmpKRefIdeal.main_arg1) = m ((c.tc : Thread Cert.CmpKIdeal.nD Cert.CmpKIdeal.τ).loc Cert.CmpKIdeal.main_arg1)) →
    ∃ (v0 : (c : Dev Cert.CmpKIdeal.nD) → Buf (Elt Ideal) ((c.tc : Thread Cert.CmpKIdeal.nD Cert.CmpKIdeal.τ).loc Cert.CmpKIdeal.main_v0)),
      θ_run (Cert.CmpKIdeal.defs (F := Ideal)) (onTc (τ := Cert.CmpKIdeal.τ) (Cert.CmpKIdeal.main (F := Ideal))) ⟨m, fun _ => 0, g⟩ (fun r => ∀ c : Dev Cert.CmpKIdeal.nD,
          r.2.mem ((c.tc : Thread Cert.CmpKIdeal.nD Cert.CmpKIdeal.τ).loc Cert.CmpKIdeal.main_v0) = v0 c
          ∧ r.2.mem ((c.tc : Thread Cert.CmpKIdeal.nD Cert.CmpKIdeal.τ).loc Cert.CmpKIdeal.main_arg0) = m ((c.tc : Thread Cert.CmpKIdeal.nD Cert.CmpKIdeal.τ).loc Cert.CmpKIdeal.main_arg0)
          ∧ r.2.mem ((c.tc : Thread Cert.CmpKIdeal.nD Cert.CmpKIdeal.τ).loc Cert.CmpKIdeal.main_arg1) = m ((c.tc : Thread Cert.CmpKIdeal.nD Cert.CmpKIdeal.τ).loc Cert.CmpKIdeal.main_arg1))
      ∧ θ_run (Cert.CmpKRefIdeal.defs (F := Ideal)) (onTc (τ := Cert.CmpKRefIdeal.τ) (Cert.CmpKRefIdeal.main (F := Ideal))) ⟨m', fun _ => 0, g'⟩ (fun r => ∀ c : Dev Cert.CmpKRefIdeal.nD,
          r.2.mem ((c.tc : Thread Cert.CmpKRefIdeal.nD Cert.CmpKRefIdeal.τ).loc Cert.CmpKRefIdeal.main_v2) = v0 c
          ∧ r.2.mem ((c.tc : Thread Cert.CmpKRefIdeal.nD Cert.CmpKRefIdeal.τ).loc Cert.CmpKRefIdeal.main_arg0) = m' ((c.tc : Thread Cert.CmpKRefIdeal.nD Cert.CmpKRefIdeal.τ).loc Cert.CmpKRefIdeal.main_arg0)
          ∧ r.2.mem ((c.tc : Thread Cert.CmpKRefIdeal.nD Cert.CmpKRefIdeal.τ).loc Cert.CmpKRefIdeal.main_arg1) = m' ((c.tc : Thread Cert.CmpKRefIdeal.nD Cert.CmpKRefIdeal.τ).loc Cert.CmpKRefIdeal.main_arg1))

def preserves_CmpV_CmpVIdeal : Prop :=
  True

def algebraic_CmpVIdeal_CmpVRefIdeal [hCmpVIdeal : Cert.CmpVIdeal.Facts] [hCmpVRefIdeal : Cert.CmpVRefIdeal.Facts] : Prop :=
  ∀ (m : (ℓ : Loc Cert.CmpVIdeal.nD Cert.CmpVIdeal.τ Cert.CmpVIdeal.sig) → Buf (Elt Ideal) ℓ) (g : Dev Cert.CmpVIdeal.nD → PrngReg)
    (m' : (ℓ : Loc Cert.CmpVRefIdeal.nD Cert.CmpVRefIdeal.τ Cert.CmpVRefIdeal.sig) → Buf (Elt Ideal) ℓ) (g' : Dev Cert.CmpVRefIdeal.nD → PrngReg), Pre_CmpVIdeal m →
    (∀ c : Dev Cert.CmpVIdeal.nD,
      m' ((c.tc : Thread Cert.CmpVRefIdeal.nD Cert.CmpVRefIdeal.τ).loc Cert.CmpVRefIdeal.main_arg0) = m ((c.tc : Thread Cert.CmpVIdeal.nD Cert.CmpVIdeal.τ).loc Cert.CmpVIdeal.main_arg0)
      ∧ m' ((c.tc : Thread Cert.CmpVRefIdeal.nD Cert.CmpVRefIdeal.τ).loc Cert.CmpVRefIdeal.main_arg1) = m ((c.tc : Thread Cert.CmpVIdeal.nD Cert.CmpVIdeal.τ).loc Cert.CmpVIdeal.main_arg1)) →
    ∃ (v0 : (c : Dev Cert.CmpVIdeal.nD) → Buf (Elt Ideal) ((c.tc : Thread Cert.CmpVIdeal.nD Cert.CmpVIdeal.τ).loc Cert.CmpVIdeal.main_v0)),
      θ_run (Cert.CmpVIdeal.defs (F := Ideal)) (onTc (τ := Cert.CmpVIdeal.τ) (Cert.CmpVIdeal.main (F := Ideal))) ⟨m, fun _ => 0, g⟩ (fun r => ∀ c : Dev Cert.CmpVIdeal.nD,
          r.2.mem ((c.tc : Thread Cert.CmpVIdeal.nD Cert.CmpVIdeal.τ).loc Cert.CmpVIdeal.main_v0) = v0 c
          ∧ r.2.mem ((c.tc : Thread Cert.CmpVIdeal.nD Cert.CmpVIdeal.τ).loc Cert.CmpVIdeal.main_arg0) = m ((c.tc : Thread Cert.CmpVIdeal.nD Cert.CmpVIdeal.τ).loc Cert.CmpVIdeal.main_arg0)
          ∧ r.2.mem ((c.tc : Thread Cert.CmpVIdeal.nD Cert.CmpVIdeal.τ).loc Cert.CmpVIdeal.main_arg1) = m ((c.tc : Thread Cert.CmpVIdeal.nD Cert.CmpVIdeal.τ).loc Cert.CmpVIdeal.main_arg1))
      ∧ θ_run (Cert.CmpVRefIdeal.defs (F := Ideal)) (onTc (τ := Cert.CmpVRefIdeal.τ) (Cert.CmpVRefIdeal.main (F := Ideal))) ⟨m', fun _ => 0, g'⟩ (fun r => ∀ c : Dev Cert.CmpVRefIdeal.nD,
          r.2.mem ((c.tc : Thread Cert.CmpVRefIdeal.nD Cert.CmpVRefIdeal.τ).loc Cert.CmpVRefIdeal.main_v2) = v0 c
          ∧ r.2.mem ((c.tc : Thread Cert.CmpVRefIdeal.nD Cert.CmpVRefIdeal.τ).loc Cert.CmpVRefIdeal.main_arg0) = m' ((c.tc : Thread Cert.CmpVRefIdeal.nD Cert.CmpVRefIdeal.τ).loc Cert.CmpVRefIdeal.main_arg0)
          ∧ r.2.mem ((c.tc : Thread Cert.CmpVRefIdeal.nD Cert.CmpVRefIdeal.τ).loc Cert.CmpVRefIdeal.main_arg1) = m' ((c.tc : Thread Cert.CmpVRefIdeal.nD Cert.CmpVRefIdeal.τ).loc Cert.CmpVRefIdeal.main_arg1))

def preserves_SlcK_SlcKIdeal : Prop :=
  True

def algebraic_SlcKIdeal_SlcKRefIdeal [hSlcKIdeal : Cert.SlcKIdeal.Facts] [hSlcKRefIdeal : Cert.SlcKRefIdeal.Facts] : Prop :=
  ∀ (m : (ℓ : Loc Cert.SlcKIdeal.nD Cert.SlcKIdeal.τ Cert.SlcKIdeal.sig) → Buf (Elt Ideal) ℓ) (g : Dev Cert.SlcKIdeal.nD → PrngReg)
    (m' : (ℓ : Loc Cert.SlcKRefIdeal.nD Cert.SlcKRefIdeal.τ Cert.SlcKRefIdeal.sig) → Buf (Elt Ideal) ℓ) (g' : Dev Cert.SlcKRefIdeal.nD → PrngReg), Pre_SlcKIdeal m →
    (∀ c : Dev Cert.SlcKIdeal.nD,
      m' ((c.tc : Thread Cert.SlcKRefIdeal.nD Cert.SlcKRefIdeal.τ).loc Cert.SlcKRefIdeal.main_arg0) = m ((c.tc : Thread Cert.SlcKIdeal.nD Cert.SlcKIdeal.τ).loc Cert.SlcKIdeal.main_arg0)
      ∧ m' ((c.tc : Thread Cert.SlcKRefIdeal.nD Cert.SlcKRefIdeal.τ).loc Cert.SlcKRefIdeal.main_arg1) = m ((c.tc : Thread Cert.SlcKIdeal.nD Cert.SlcKIdeal.τ).loc Cert.SlcKIdeal.main_arg1)) →
    ∃ (v0 : (c : Dev Cert.SlcKIdeal.nD) → Buf (Elt Ideal) ((c.tc : Thread Cert.SlcKIdeal.nD Cert.SlcKIdeal.τ).loc Cert.SlcKIdeal.main_v0)),
      θ_run (Cert.SlcKIdeal.defs (F := Ideal)) (onTc (τ := Cert.SlcKIdeal.τ) (Cert.SlcKIdeal.main (F := Ideal))) ⟨m, fun _ => 0, g⟩ (fun r => ∀ c : Dev Cert.SlcKIdeal.nD,
          r.2.mem ((c.tc : Thread Cert.SlcKIdeal.nD Cert.SlcKIdeal.τ).loc Cert.SlcKIdeal.main_v0) = v0 c
          ∧ r.2.mem ((c.tc : Thread Cert.SlcKIdeal.nD Cert.SlcKIdeal.τ).loc Cert.SlcKIdeal.main_arg0) = m ((c.tc : Thread Cert.SlcKIdeal.nD Cert.SlcKIdeal.τ).loc Cert.SlcKIdeal.main_arg0)
          ∧ r.2.mem ((c.tc : Thread Cert.SlcKIdeal.nD Cert.SlcKIdeal.τ).loc Cert.SlcKIdeal.main_arg1) = m ((c.tc : Thread Cert.SlcKIdeal.nD Cert.SlcKIdeal.τ).loc Cert.SlcKIdeal.main_arg1))
      ∧ θ_run (Cert.SlcKRefIdeal.defs (F := Ideal)) (onTc (τ := Cert.SlcKRefIdeal.τ) (Cert.SlcKRefIdeal.main (F := Ideal))) ⟨m', fun _ => 0, g'⟩ (fun r => ∀ c : Dev Cert.SlcKRefIdeal.nD,
          r.2.mem ((c.tc : Thread Cert.SlcKRefIdeal.nD Cert.SlcKRefIdeal.τ).loc Cert.SlcKRefIdeal.main_v2) = v0 c
          ∧ r.2.mem ((c.tc : Thread Cert.SlcKRefIdeal.nD Cert.SlcKRefIdeal.τ).loc Cert.SlcKRefIdeal.main_arg0) = m' ((c.tc : Thread Cert.SlcKRefIdeal.nD Cert.SlcKRefIdeal.τ).loc Cert.SlcKRefIdeal.main_arg0)
          ∧ r.2.mem ((c.tc : Thread Cert.SlcKRefIdeal.nD Cert.SlcKRefIdeal.τ).loc Cert.SlcKRefIdeal.main_arg1) = m' ((c.tc : Thread Cert.SlcKRefIdeal.nD Cert.SlcKRefIdeal.τ).loc Cert.SlcKRefIdeal.main_arg1))

def preserves_SlcV_SlcVIdeal : Prop :=
  True

def algebraic_SlcVIdeal_SlcVRefIdeal [hSlcVIdeal : Cert.SlcVIdeal.Facts] [hSlcVRefIdeal : Cert.SlcVRefIdeal.Facts] : Prop :=
  ∀ (m : (ℓ : Loc Cert.SlcVIdeal.nD Cert.SlcVIdeal.τ Cert.SlcVIdeal.sig) → Buf (Elt Ideal) ℓ) (g : Dev Cert.SlcVIdeal.nD → PrngReg)
    (m' : (ℓ : Loc Cert.SlcVRefIdeal.nD Cert.SlcVRefIdeal.τ Cert.SlcVRefIdeal.sig) → Buf (Elt Ideal) ℓ) (g' : Dev Cert.SlcVRefIdeal.nD → PrngReg), Pre_SlcVIdeal m →
    (∀ c : Dev Cert.SlcVIdeal.nD,
      m' ((c.tc : Thread Cert.SlcVRefIdeal.nD Cert.SlcVRefIdeal.τ).loc Cert.SlcVRefIdeal.main_arg0) = m ((c.tc : Thread Cert.SlcVIdeal.nD Cert.SlcVIdeal.τ).loc Cert.SlcVIdeal.main_arg0)
      ∧ m' ((c.tc : Thread Cert.SlcVRefIdeal.nD Cert.SlcVRefIdeal.τ).loc Cert.SlcVRefIdeal.main_arg1) = m ((c.tc : Thread Cert.SlcVIdeal.nD Cert.SlcVIdeal.τ).loc Cert.SlcVIdeal.main_arg1)) →
    ∃ (v0 : (c : Dev Cert.SlcVIdeal.nD) → Buf (Elt Ideal) ((c.tc : Thread Cert.SlcVIdeal.nD Cert.SlcVIdeal.τ).loc Cert.SlcVIdeal.main_v0)),
      θ_run (Cert.SlcVIdeal.defs (F := Ideal)) (onTc (τ := Cert.SlcVIdeal.τ) (Cert.SlcVIdeal.main (F := Ideal))) ⟨m, fun _ => 0, g⟩ (fun r => ∀ c : Dev Cert.SlcVIdeal.nD,
          r.2.mem ((c.tc : Thread Cert.SlcVIdeal.nD Cert.SlcVIdeal.τ).loc Cert.SlcVIdeal.main_v0) = v0 c
          ∧ r.2.mem ((c.tc : Thread Cert.SlcVIdeal.nD Cert.SlcVIdeal.τ).loc Cert.SlcVIdeal.main_arg0) = m ((c.tc : Thread Cert.SlcVIdeal.nD Cert.SlcVIdeal.τ).loc Cert.SlcVIdeal.main_arg0)
          ∧ r.2.mem ((c.tc : Thread Cert.SlcVIdeal.nD Cert.SlcVIdeal.τ).loc Cert.SlcVIdeal.main_arg1) = m ((c.tc : Thread Cert.SlcVIdeal.nD Cert.SlcVIdeal.τ).loc Cert.SlcVIdeal.main_arg1))
      ∧ θ_run (Cert.SlcVRefIdeal.defs (F := Ideal)) (onTc (τ := Cert.SlcVRefIdeal.τ) (Cert.SlcVRefIdeal.main (F := Ideal))) ⟨m', fun _ => 0, g'⟩ (fun r => ∀ c : Dev Cert.SlcVRefIdeal.nD,
          r.2.mem ((c.tc : Thread Cert.SlcVRefIdeal.nD Cert.SlcVRefIdeal.τ).loc Cert.SlcVRefIdeal.main_v2) = v0 c
          ∧ r.2.mem ((c.tc : Thread Cert.SlcVRefIdeal.nD Cert.SlcVRefIdeal.τ).loc Cert.SlcVRefIdeal.main_arg0) = m' ((c.tc : Thread Cert.SlcVRefIdeal.nD Cert.SlcVRefIdeal.τ).loc Cert.SlcVRefIdeal.main_arg0)
          ∧ r.2.mem ((c.tc : Thread Cert.SlcVRefIdeal.nD Cert.SlcVRefIdeal.τ).loc Cert.SlcVRefIdeal.main_arg1) = m' ((c.tc : Thread Cert.SlcVRefIdeal.nD Cert.SlcVRefIdeal.τ).loc Cert.SlcVRefIdeal.main_arg1))

def preserves_WinK_WinKIdeal : Prop :=
  True

def algebraic_WinKIdeal_WinKRefIdeal [hWinKIdeal : Cert.WinKIdeal.Facts] [hWinKRefIdeal : Cert.WinKRefIdeal.Facts] : Prop :=
  ∀ (m : (ℓ : Loc Cert.WinKIdeal.nD Cert.WinKIdeal.τ Cert.WinKIdeal.sig) → Buf (Elt Ideal) ℓ) (g : Dev Cert.WinKIdeal.nD → PrngReg)
    (m' : (ℓ : Loc Cert.WinKRefIdeal.nD Cert.WinKRefIdeal.τ Cert.WinKRefIdeal.sig) → Buf (Elt Ideal) ℓ) (g' : Dev Cert.WinKRefIdeal.nD → PrngReg), Pre_WinKIdeal m →
    (∀ c : Dev Cert.WinKIdeal.nD,
      m' ((c.tc : Thread Cert.WinKRefIdeal.nD Cert.WinKRefIdeal.τ).loc Cert.WinKRefIdeal.main_arg0) = m ((c.tc : Thread Cert.WinKIdeal.nD Cert.WinKIdeal.τ).loc Cert.WinKIdeal.main_arg0)
      ∧ m' ((c.tc : Thread Cert.WinKRefIdeal.nD Cert.WinKRefIdeal.τ).loc Cert.WinKRefIdeal.main_arg1) = m ((c.tc : Thread Cert.WinKIdeal.nD Cert.WinKIdeal.τ).loc Cert.WinKIdeal.main_arg1)) →
    ∃ (v0 : (c : Dev Cert.WinKIdeal.nD) → Buf (Elt Ideal) ((c.tc : Thread Cert.WinKIdeal.nD Cert.WinKIdeal.τ).loc Cert.WinKIdeal.main_v0)),
      θ_run (Cert.WinKIdeal.defs (F := Ideal)) (onTc (τ := Cert.WinKIdeal.τ) (Cert.WinKIdeal.main (F := Ideal))) ⟨m, fun _ => 0, g⟩ (fun r => ∀ c : Dev Cert.WinKIdeal.nD,
          r.2.mem ((c.tc : Thread Cert.WinKIdeal.nD Cert.WinKIdeal.τ).loc Cert.WinKIdeal.main_v0) = v0 c
          ∧ r.2.mem ((c.tc : Thread Cert.WinKIdeal.nD Cert.WinKIdeal.τ).loc Cert.WinKIdeal.main_arg0) = m ((c.tc : Thread Cert.WinKIdeal.nD Cert.WinKIdeal.τ).loc Cert.WinKIdeal.main_arg0)
          ∧ r.2.mem ((c.tc : Thread Cert.WinKIdeal.nD Cert.WinKIdeal.τ).loc Cert.WinKIdeal.main_arg1) = m ((c.tc : Thread Cert.WinKIdeal.nD Cert.WinKIdeal.τ).loc Cert.WinKIdeal.main_arg1))
      ∧ θ_run (Cert.WinKRefIdeal.defs (F := Ideal)) (onTc (τ := Cert.WinKRefIdeal.τ) (Cert.WinKRefIdeal.main (F := Ideal))) ⟨m', fun _ => 0, g'⟩ (fun r => ∀ c : Dev Cert.WinKRefIdeal.nD,
          r.2.mem ((c.tc : Thread Cert.WinKRefIdeal.nD Cert.WinKRefIdeal.τ).loc Cert.WinKRefIdeal.main_v2) = v0 c
          ∧ r.2.mem ((c.tc : Thread Cert.WinKRefIdeal.nD Cert.WinKRefIdeal.τ).loc Cert.WinKRefIdeal.main_arg0) = m' ((c.tc : Thread Cert.WinKRefIdeal.nD Cert.WinKRefIdeal.τ).loc Cert.WinKRefIdeal.main_arg0)
          ∧ r.2.mem ((c.tc : Thread Cert.WinKRefIdeal.nD Cert.WinKRefIdeal.τ).loc Cert.WinKRefIdeal.main_arg1) = m' ((c.tc : Thread Cert.WinKRefIdeal.nD Cert.WinKRefIdeal.τ).loc Cert.WinKRefIdeal.main_arg1))

def preserves_WinV_WinVIdeal : Prop :=
  True

def algebraic_WinVIdeal_WinVRefIdeal [hWinVIdeal : Cert.WinVIdeal.Facts] [hWinVRefIdeal : Cert.WinVRefIdeal.Facts] : Prop :=
  ∀ (m : (ℓ : Loc Cert.WinVIdeal.nD Cert.WinVIdeal.τ Cert.WinVIdeal.sig) → Buf (Elt Ideal) ℓ) (g : Dev Cert.WinVIdeal.nD → PrngReg)
    (m' : (ℓ : Loc Cert.WinVRefIdeal.nD Cert.WinVRefIdeal.τ Cert.WinVRefIdeal.sig) → Buf (Elt Ideal) ℓ) (g' : Dev Cert.WinVRefIdeal.nD → PrngReg), Pre_WinVIdeal m →
    (∀ c : Dev Cert.WinVIdeal.nD,
      m' ((c.tc : Thread Cert.WinVRefIdeal.nD Cert.WinVRefIdeal.τ).loc Cert.WinVRefIdeal.main_arg0) = m ((c.tc : Thread Cert.WinVIdeal.nD Cert.WinVIdeal.τ).loc Cert.WinVIdeal.main_arg0)
      ∧ m' ((c.tc : Thread Cert.WinVRefIdeal.nD Cert.WinVRefIdeal.τ).loc Cert.WinVRefIdeal.main_arg1) = m ((c.tc : Thread Cert.WinVIdeal.nD Cert.WinVIdeal.τ).loc Cert.WinVIdeal.main_arg1)) →
    ∃ (v0 : (c : Dev Cert.WinVIdeal.nD) → Buf (Elt Ideal) ((c.tc : Thread Cert.WinVIdeal.nD Cert.WinVIdeal.τ).loc Cert.WinVIdeal.main_v0)),
      θ_run (Cert.WinVIdeal.defs (F := Ideal)) (onTc (τ := Cert.WinVIdeal.τ) (Cert.WinVIdeal.main (F := Ideal))) ⟨m, fun _ => 0, g⟩ (fun r => ∀ c : Dev Cert.WinVIdeal.nD,
          r.2.mem ((c.tc : Thread Cert.WinVIdeal.nD Cert.WinVIdeal.τ).loc Cert.WinVIdeal.main_v0) = v0 c
          ∧ r.2.mem ((c.tc : Thread Cert.WinVIdeal.nD Cert.WinVIdeal.τ).loc Cert.WinVIdeal.main_arg0) = m ((c.tc : Thread Cert.WinVIdeal.nD Cert.WinVIdeal.τ).loc Cert.WinVIdeal.main_arg0)
          ∧ r.2.mem ((c.tc : Thread Cert.WinVIdeal.nD Cert.WinVIdeal.τ).loc Cert.WinVIdeal.main_arg1) = m ((c.tc : Thread Cert.WinVIdeal.nD Cert.WinVIdeal.τ).loc Cert.WinVIdeal.main_arg1))
      ∧ θ_run (Cert.WinVRefIdeal.defs (F := Ideal)) (onTc (τ := Cert.WinVRefIdeal.τ) (Cert.WinVRefIdeal.main (F := Ideal))) ⟨m', fun _ => 0, g'⟩ (fun r => ∀ c : Dev Cert.WinVRefIdeal.nD,
          r.2.mem ((c.tc : Thread Cert.WinVRefIdeal.nD Cert.WinVRefIdeal.τ).loc Cert.WinVRefIdeal.main_v2) = v0 c
          ∧ r.2.mem ((c.tc : Thread Cert.WinVRefIdeal.nD Cert.WinVRefIdeal.τ).loc Cert.WinVRefIdeal.main_arg0) = m' ((c.tc : Thread Cert.WinVRefIdeal.nD Cert.WinVRefIdeal.τ).loc Cert.WinVRefIdeal.main_arg0)
          ∧ r.2.mem ((c.tc : Thread Cert.WinVRefIdeal.nD Cert.WinVRefIdeal.τ).loc Cert.WinVRefIdeal.main_arg1) = m' ((c.tc : Thread Cert.WinVRefIdeal.nD Cert.WinVRefIdeal.τ).loc Cert.WinVRefIdeal.main_arg1))

def preserves_EvenSample_EvenSampleIdeal : Prop :=
  True

def algebraic_EvenSampleIdeal_EvenSampleRefIdeal [hEvenSampleIdeal : Cert.EvenSampleIdeal.Facts] [hEvenSampleRefIdeal : Cert.EvenSampleRefIdeal.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg)
    (m' : (ℓ : Loc Cert.EvenSampleRefIdeal.nD Cert.EvenSampleRefIdeal.τ Cert.EvenSampleRefIdeal.sig) → Buf (Elt Ideal) ℓ) (g' : Dev Cert.EvenSampleRefIdeal.nD → PrngReg), Pre_EvenSampleIdeal m →
    (∀ c : Dev Cert.EvenSampleIdeal.nD,
      m' ((c.tc : Thread Cert.EvenSampleRefIdeal.nD Cert.EvenSampleRefIdeal.τ).loc Cert.EvenSampleRefIdeal.main_arg0) = m ((c.tc : Thread Cert.EvenSampleIdeal.nD Cert.EvenSampleIdeal.τ).loc Cert.EvenSampleIdeal.main_arg0)
      ∧ m' ((c.tc : Thread Cert.EvenSampleRefIdeal.nD Cert.EvenSampleRefIdeal.τ).loc Cert.EvenSampleRefIdeal.main_arg1) = m ((c.tc : Thread Cert.EvenSampleIdeal.nD Cert.EvenSampleIdeal.τ).loc Cert.EvenSampleIdeal.main_arg1)) →
    ∃ (v0 : (c : Dev Cert.EvenSampleIdeal.nD) → Buf (Elt Ideal) ((c.tc : Thread Cert.EvenSampleIdeal.nD Cert.EvenSampleIdeal.τ).loc Cert.EvenSampleIdeal.main_v0)),
      θ_run (Cert.EvenSampleIdeal.defs (F := Ideal)) (onTc (τ := Cert.EvenSampleIdeal.τ) (Cert.EvenSampleIdeal.main (F := Ideal))) ⟨m, fun _ => 0, g⟩ (fun r => ∀ c : Dev Cert.EvenSampleIdeal.nD,
          r.2.mem ((c.tc : Thread Cert.EvenSampleIdeal.nD Cert.EvenSampleIdeal.τ).loc Cert.EvenSampleIdeal.main_v0) = v0 c
          ∧ r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
          ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1))
      ∧ θ_run (Cert.EvenSampleRefIdeal.defs (F := Ideal)) (onTc (τ := Cert.EvenSampleRefIdeal.τ) (Cert.EvenSampleRefIdeal.main (F := Ideal))) ⟨m', fun _ => 0, g'⟩ (fun r => ∀ c : Dev Cert.EvenSampleRefIdeal.nD,
          r.2.mem ((c.tc : Thread Cert.EvenSampleRefIdeal.nD Cert.EvenSampleRefIdeal.τ).loc Cert.EvenSampleRefIdeal.main_v2) = v0 c
          ∧ r.2.mem ((c.tc : Thread Cert.EvenSampleRefIdeal.nD Cert.EvenSampleRefIdeal.τ).loc Cert.EvenSampleRefIdeal.main_arg0) = m' ((c.tc : Thread Cert.EvenSampleRefIdeal.nD Cert.EvenSampleRefIdeal.τ).loc Cert.EvenSampleRefIdeal.main_arg0)
          ∧ r.2.mem ((c.tc : Thread Cert.EvenSampleRefIdeal.nD Cert.EvenSampleRefIdeal.τ).loc Cert.EvenSampleRefIdeal.main_arg1) = m' ((c.tc : Thread Cert.EvenSampleRefIdeal.nD Cert.EvenSampleRefIdeal.τ).loc Cert.EvenSampleRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)) →
    ∃ (v0 : (c : Dev Cert.EvenOutIdeal.nD) → Buf (Elt Ideal) ((c.tc : Thread Cert.EvenOutIdeal.nD Cert.EvenOutIdeal.τ).loc Cert.EvenOutIdeal.main_v2)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v2) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v35) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v34) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5))

def preserves_EvenOutSample_EvenOutSampleIdeal : Prop :=
  True

def algebraic_EvenOutSampleIdeal_EvenOutSampleRefIdeal [hEvenOutSampleIdeal : Cert.EvenOutSampleIdeal.Facts] [hEvenOutSampleRefIdeal : Cert.EvenOutSampleRefIdeal.Facts] : Prop :=
  ∀ (m : (ℓ : Loc Cert.EvenOutSampleIdeal.nD Cert.EvenOutSampleIdeal.τ Cert.EvenOutSampleIdeal.sig) → Buf (Elt Ideal) ℓ) (g : Dev Cert.EvenOutSampleIdeal.nD → PrngReg)
    (m' : (ℓ : Loc Cert.EvenOutSampleRefIdeal.nD Cert.EvenOutSampleRefIdeal.τ Cert.EvenOutSampleRefIdeal.sig) → Buf (Elt Ideal) ℓ) (g' : Dev Cert.EvenOutSampleRefIdeal.nD → PrngReg), Pre_EvenOutSampleIdeal m →
    (∀ c : Dev Cert.EvenOutSampleIdeal.nD,
      m' ((c.tc : Thread Cert.EvenOutSampleRefIdeal.nD Cert.EvenOutSampleRefIdeal.τ).loc Cert.EvenOutSampleRefIdeal.main_arg0) = m ((c.tc : Thread Cert.EvenOutSampleIdeal.nD Cert.EvenOutSampleIdeal.τ).loc Cert.EvenOutSampleIdeal.main_arg0)
      ∧ m' ((c.tc : Thread Cert.EvenOutSampleRefIdeal.nD Cert.EvenOutSampleRefIdeal.τ).loc Cert.EvenOutSampleRefIdeal.main_arg1) = m ((c.tc : Thread Cert.EvenOutSampleIdeal.nD Cert.EvenOutSampleIdeal.τ).loc Cert.EvenOutSampleIdeal.main_arg1)
      ∧ m' ((c.tc : Thread Cert.EvenOutSampleRefIdeal.nD Cert.EvenOutSampleRefIdeal.τ).loc Cert.EvenOutSampleRefIdeal.main_arg2) = m ((c.tc : Thread Cert.EvenOutSampleIdeal.nD Cert.EvenOutSampleIdeal.τ).loc Cert.EvenOutSampleIdeal.main_arg2)
      ∧ m' ((c.tc : Thread Cert.EvenOutSampleRefIdeal.nD Cert.EvenOutSampleRefIdeal.τ).loc Cert.EvenOutSampleRefIdeal.main_arg3) = m ((c.tc : Thread Cert.EvenOutSampleIdeal.nD Cert.EvenOutSampleIdeal.τ).loc Cert.EvenOutSampleIdeal.main_arg3)
      ∧ m' ((c.tc : Thread Cert.EvenOutSampleRefIdeal.nD Cert.EvenOutSampleRefIdeal.τ).loc Cert.EvenOutSampleRefIdeal.main_arg4) = m ((c.tc : Thread Cert.EvenOutSampleIdeal.nD Cert.EvenOutSampleIdeal.τ).loc Cert.EvenOutSampleIdeal.main_arg4)
      ∧ m' ((c.tc : Thread Cert.EvenOutSampleRefIdeal.nD Cert.EvenOutSampleRefIdeal.τ).loc Cert.EvenOutSampleRefIdeal.main_arg5) = m ((c.tc : Thread Cert.EvenOutSampleIdeal.nD Cert.EvenOutSampleIdeal.τ).loc Cert.EvenOutSampleIdeal.main_arg5)
      ∧ m' ((c.tc : Thread Cert.EvenOutSampleRefIdeal.nD Cert.EvenOutSampleRefIdeal.τ).loc Cert.EvenOutSampleRefIdeal.main_arg6) = m ((c.tc : Thread Cert.EvenOutSampleIdeal.nD Cert.EvenOutSampleIdeal.τ).loc Cert.EvenOutSampleIdeal.main_arg6)) →
    ∃ (v0 : (c : Dev Cert.EvenOutSampleIdeal.nD) → Buf (Elt Ideal) ((c.tc : Thread Cert.EvenOutSampleIdeal.nD Cert.EvenOutSampleIdeal.τ).loc Cert.EvenOutSampleIdeal.main_v2)),
      θ_run (Cert.EvenOutSampleIdeal.defs (F := Ideal)) (onTc (τ := Cert.EvenOutSampleIdeal.τ) (Cert.EvenOutSampleIdeal.main (F := Ideal))) ⟨m, fun _ => 0, g⟩ (fun r => ∀ c : Dev Cert.EvenOutSampleIdeal.nD,
          r.2.mem ((c.tc : Thread Cert.EvenOutSampleIdeal.nD Cert.EvenOutSampleIdeal.τ).loc Cert.EvenOutSampleIdeal.main_v2) = v0 c
          ∧ r.2.mem ((c.tc : Thread Cert.EvenOutSampleIdeal.nD Cert.EvenOutSampleIdeal.τ).loc Cert.EvenOutSampleIdeal.main_arg0) = m ((c.tc : Thread Cert.EvenOutSampleIdeal.nD Cert.EvenOutSampleIdeal.τ).loc Cert.EvenOutSampleIdeal.main_arg0)
          ∧ r.2.mem ((c.tc : Thread Cert.EvenOutSampleIdeal.nD Cert.EvenOutSampleIdeal.τ).loc Cert.EvenOutSampleIdeal.main_arg1) = m ((c.tc : Thread Cert.EvenOutSampleIdeal.nD Cert.EvenOutSampleIdeal.τ).loc Cert.EvenOutSampleIdeal.main_arg1)
          ∧ r.2.mem ((c.tc : Thread Cert.EvenOutSampleIdeal.nD Cert.EvenOutSampleIdeal.τ).loc Cert.EvenOutSampleIdeal.main_arg2) = m ((c.tc : Thread Cert.EvenOutSampleIdeal.nD Cert.EvenOutSampleIdeal.τ).loc Cert.EvenOutSampleIdeal.main_arg2)
          ∧ r.2.mem ((c.tc : Thread Cert.EvenOutSampleIdeal.nD Cert.EvenOutSampleIdeal.τ).loc Cert.EvenOutSampleIdeal.main_arg3) = m ((c.tc : Thread Cert.EvenOutSampleIdeal.nD Cert.EvenOutSampleIdeal.τ).loc Cert.EvenOutSampleIdeal.main_arg3)
          ∧ r.2.mem ((c.tc : Thread Cert.EvenOutSampleIdeal.nD Cert.EvenOutSampleIdeal.τ).loc Cert.EvenOutSampleIdeal.main_arg4) = m ((c.tc : Thread Cert.EvenOutSampleIdeal.nD Cert.EvenOutSampleIdeal.τ).loc Cert.EvenOutSampleIdeal.main_arg4)
          ∧ r.2.mem ((c.tc : Thread Cert.EvenOutSampleIdeal.nD Cert.EvenOutSampleIdeal.τ).loc Cert.EvenOutSampleIdeal.main_arg5) = m ((c.tc : Thread Cert.EvenOutSampleIdeal.nD Cert.EvenOutSampleIdeal.τ).loc Cert.EvenOutSampleIdeal.main_arg5)
          ∧ r.2.mem ((c.tc : Thread Cert.EvenOutSampleIdeal.nD Cert.EvenOutSampleIdeal.τ).loc Cert.EvenOutSampleIdeal.main_arg6) = m ((c.tc : Thread Cert.EvenOutSampleIdeal.nD Cert.EvenOutSampleIdeal.τ).loc Cert.EvenOutSampleIdeal.main_arg6))
      ∧ θ_run (Cert.EvenOutSampleRefIdeal.defs (F := Ideal)) (onTc (τ := Cert.EvenOutSampleRefIdeal.τ) (Cert.EvenOutSampleRefIdeal.main (F := Ideal))) ⟨m', fun _ => 0, g'⟩ (fun r => ∀ c : Dev Cert.EvenOutSampleRefIdeal.nD,
          r.2.mem ((c.tc : Thread Cert.EvenOutSampleRefIdeal.nD Cert.EvenOutSampleRefIdeal.τ).loc Cert.EvenOutSampleRefIdeal.main_v34) = v0 c
          ∧ r.2.mem ((c.tc : Thread Cert.EvenOutSampleRefIdeal.nD Cert.EvenOutSampleRefIdeal.τ).loc Cert.EvenOutSampleRefIdeal.main_arg0) = m' ((c.tc : Thread Cert.EvenOutSampleRefIdeal.nD Cert.EvenOutSampleRefIdeal.τ).loc Cert.EvenOutSampleRefIdeal.main_arg0)
          ∧ r.2.mem ((c.tc : Thread Cert.EvenOutSampleRefIdeal.nD Cert.EvenOutSampleRefIdeal.τ).loc Cert.EvenOutSampleRefIdeal.main_arg1) = m' ((c.tc : Thread Cert.EvenOutSampleRefIdeal.nD Cert.EvenOutSampleRefIdeal.τ).loc Cert.EvenOutSampleRefIdeal.main_arg1)
          ∧ r.2.mem ((c.tc : Thread Cert.EvenOutSampleRefIdeal.nD Cert.EvenOutSampleRefIdeal.τ).loc Cert.EvenOutSampleRefIdeal.main_arg2) = m' ((c.tc : Thread Cert.EvenOutSampleRefIdeal.nD Cert.EvenOutSampleRefIdeal.τ).loc Cert.EvenOutSampleRefIdeal.main_arg2)
          ∧ r.2.mem ((c.tc : Thread Cert.EvenOutSampleRefIdeal.nD Cert.EvenOutSampleRefIdeal.τ).loc Cert.EvenOutSampleRefIdeal.main_arg3) = m' ((c.tc : Thread Cert.EvenOutSampleRefIdeal.nD Cert.EvenOutSampleRefIdeal.τ).loc Cert.EvenOutSampleRefIdeal.main_arg3)
          ∧ r.2.mem ((c.tc : Thread Cert.EvenOutSampleRefIdeal.nD Cert.EvenOutSampleRefIdeal.τ).loc Cert.EvenOutSampleRefIdeal.main_arg4) = m' ((c.tc : Thread Cert.EvenOutSampleRefIdeal.nD Cert.EvenOutSampleRefIdeal.τ).loc Cert.EvenOutSampleRefIdeal.main_arg4)
          ∧ r.2.mem ((c.tc : Thread Cert.EvenOutSampleRefIdeal.nD Cert.EvenOutSampleRefIdeal.τ).loc Cert.EvenOutSampleRefIdeal.main_arg5) = m' ((c.tc : Thread Cert.EvenOutSampleRefIdeal.nD Cert.EvenOutSampleRefIdeal.τ).loc Cert.EvenOutSampleRefIdeal.main_arg5)
          ∧ r.2.mem ((c.tc : Thread Cert.EvenOutSampleRefIdeal.nD Cert.EvenOutSampleRefIdeal.τ).loc Cert.EvenOutSampleRefIdeal.main_arg6) = m' ((c.tc : Thread Cert.EvenOutSampleRefIdeal.nD Cert.EvenOutSampleRefIdeal.τ).loc Cert.EvenOutSampleRefIdeal.main_arg6))

def preserves_OddOutSample_OddOutSampleIdeal : Prop :=
  True

def algebraic_OddOutSampleIdeal_OddOutSampleRefIdeal [hOddOutSampleIdeal : Cert.OddOutSampleIdeal.Facts] [hOddOutSampleRefIdeal : Cert.OddOutSampleRefIdeal.Facts] : Prop :=
  ∀ (m : (ℓ : Loc Cert.OddOutSampleIdeal.nD Cert.OddOutSampleIdeal.τ Cert.OddOutSampleIdeal.sig) → Buf (Elt Ideal) ℓ) (g : Dev Cert.OddOutSampleIdeal.nD → PrngReg)
    (m' : (ℓ : Loc Cert.OddOutSampleRefIdeal.nD Cert.OddOutSampleRefIdeal.τ Cert.OddOutSampleRefIdeal.sig) → Buf (Elt Ideal) ℓ) (g' : Dev Cert.OddOutSampleRefIdeal.nD → PrngReg), Pre_OddOutSampleIdeal m →
    (∀ c : Dev Cert.OddOutSampleIdeal.nD,
      m' ((c.tc : Thread Cert.OddOutSampleRefIdeal.nD Cert.OddOutSampleRefIdeal.τ).loc Cert.OddOutSampleRefIdeal.main_arg0) = m ((c.tc : Thread Cert.OddOutSampleIdeal.nD Cert.OddOutSampleIdeal.τ).loc Cert.OddOutSampleIdeal.main_arg0)
      ∧ m' ((c.tc : Thread Cert.OddOutSampleRefIdeal.nD Cert.OddOutSampleRefIdeal.τ).loc Cert.OddOutSampleRefIdeal.main_arg1) = m ((c.tc : Thread Cert.OddOutSampleIdeal.nD Cert.OddOutSampleIdeal.τ).loc Cert.OddOutSampleIdeal.main_arg1)
      ∧ m' ((c.tc : Thread Cert.OddOutSampleRefIdeal.nD Cert.OddOutSampleRefIdeal.τ).loc Cert.OddOutSampleRefIdeal.main_arg2) = m ((c.tc : Thread Cert.OddOutSampleIdeal.nD Cert.OddOutSampleIdeal.τ).loc Cert.OddOutSampleIdeal.main_arg2)
      ∧ m' ((c.tc : Thread Cert.OddOutSampleRefIdeal.nD Cert.OddOutSampleRefIdeal.τ).loc Cert.OddOutSampleRefIdeal.main_arg3) = m ((c.tc : Thread Cert.OddOutSampleIdeal.nD Cert.OddOutSampleIdeal.τ).loc Cert.OddOutSampleIdeal.main_arg3)
      ∧ m' ((c.tc : Thread Cert.OddOutSampleRefIdeal.nD Cert.OddOutSampleRefIdeal.τ).loc Cert.OddOutSampleRefIdeal.main_arg4) = m ((c.tc : Thread Cert.OddOutSampleIdeal.nD Cert.OddOutSampleIdeal.τ).loc Cert.OddOutSampleIdeal.main_arg4)
      ∧ m' ((c.tc : Thread Cert.OddOutSampleRefIdeal.nD Cert.OddOutSampleRefIdeal.τ).loc Cert.OddOutSampleRefIdeal.main_arg5) = m ((c.tc : Thread Cert.OddOutSampleIdeal.nD Cert.OddOutSampleIdeal.τ).loc Cert.OddOutSampleIdeal.main_arg5)) →
    ∃ (v0 : (c : Dev Cert.OddOutSampleIdeal.nD) → Buf (Elt Ideal) ((c.tc : Thread Cert.OddOutSampleIdeal.nD Cert.OddOutSampleIdeal.τ).loc Cert.OddOutSampleIdeal.main_v2)),
      θ_run (Cert.OddOutSampleIdeal.defs (F := Ideal)) (onTc (τ := Cert.OddOutSampleIdeal.τ) (Cert.OddOutSampleIdeal.main (F := Ideal))) ⟨m, fun _ => 0, g⟩ (fun r => ∀ c : Dev Cert.OddOutSampleIdeal.nD,
          r.2.mem ((c.tc : Thread Cert.OddOutSampleIdeal.nD Cert.OddOutSampleIdeal.τ).loc Cert.OddOutSampleIdeal.main_v2) = v0 c
          ∧ r.2.mem ((c.tc : Thread Cert.OddOutSampleIdeal.nD Cert.OddOutSampleIdeal.τ).loc Cert.OddOutSampleIdeal.main_arg0) = m ((c.tc : Thread Cert.OddOutSampleIdeal.nD Cert.OddOutSampleIdeal.τ).loc Cert.OddOutSampleIdeal.main_arg0)
          ∧ r.2.mem ((c.tc : Thread Cert.OddOutSampleIdeal.nD Cert.OddOutSampleIdeal.τ).loc Cert.OddOutSampleIdeal.main_arg1) = m ((c.tc : Thread Cert.OddOutSampleIdeal.nD Cert.OddOutSampleIdeal.τ).loc Cert.OddOutSampleIdeal.main_arg1)
          ∧ r.2.mem ((c.tc : Thread Cert.OddOutSampleIdeal.nD Cert.OddOutSampleIdeal.τ).loc Cert.OddOutSampleIdeal.main_arg2) = m ((c.tc : Thread Cert.OddOutSampleIdeal.nD Cert.OddOutSampleIdeal.τ).loc Cert.OddOutSampleIdeal.main_arg2)
          ∧ r.2.mem ((c.tc : Thread Cert.OddOutSampleIdeal.nD Cert.OddOutSampleIdeal.τ).loc Cert.OddOutSampleIdeal.main_arg3) = m ((c.tc : Thread Cert.OddOutSampleIdeal.nD Cert.OddOutSampleIdeal.τ).loc Cert.OddOutSampleIdeal.main_arg3)
          ∧ r.2.mem ((c.tc : Thread Cert.OddOutSampleIdeal.nD Cert.OddOutSampleIdeal.τ).loc Cert.OddOutSampleIdeal.main_arg4) = m ((c.tc : Thread Cert.OddOutSampleIdeal.nD Cert.OddOutSampleIdeal.τ).loc Cert.OddOutSampleIdeal.main_arg4)
          ∧ r.2.mem ((c.tc : Thread Cert.OddOutSampleIdeal.nD Cert.OddOutSampleIdeal.τ).loc Cert.OddOutSampleIdeal.main_arg5) = m ((c.tc : Thread Cert.OddOutSampleIdeal.nD Cert.OddOutSampleIdeal.τ).loc Cert.OddOutSampleIdeal.main_arg5))
      ∧ θ_run (Cert.OddOutSampleRefIdeal.defs (F := Ideal)) (onTc (τ := Cert.OddOutSampleRefIdeal.τ) (Cert.OddOutSampleRefIdeal.main (F := Ideal))) ⟨m', fun _ => 0, g'⟩ (fun r => ∀ c : Dev Cert.OddOutSampleRefIdeal.nD,
          r.2.mem ((c.tc : Thread Cert.OddOutSampleRefIdeal.nD Cert.OddOutSampleRefIdeal.τ).loc Cert.OddOutSampleRefIdeal.main_v33) = v0 c
          ∧ r.2.mem ((c.tc : Thread Cert.OddOutSampleRefIdeal.nD Cert.OddOutSampleRefIdeal.τ).loc Cert.OddOutSampleRefIdeal.main_arg0) = m' ((c.tc : Thread Cert.OddOutSampleRefIdeal.nD Cert.OddOutSampleRefIdeal.τ).loc Cert.OddOutSampleRefIdeal.main_arg0)
          ∧ r.2.mem ((c.tc : Thread Cert.OddOutSampleRefIdeal.nD Cert.OddOutSampleRefIdeal.τ).loc Cert.OddOutSampleRefIdeal.main_arg1) = m' ((c.tc : Thread Cert.OddOutSampleRefIdeal.nD Cert.OddOutSampleRefIdeal.τ).loc Cert.OddOutSampleRefIdeal.main_arg1)
          ∧ r.2.mem ((c.tc : Thread Cert.OddOutSampleRefIdeal.nD Cert.OddOutSampleRefIdeal.τ).loc Cert.OddOutSampleRefIdeal.main_arg2) = m' ((c.tc : Thread Cert.OddOutSampleRefIdeal.nD Cert.OddOutSampleRefIdeal.τ).loc Cert.OddOutSampleRefIdeal.main_arg2)
          ∧ r.2.mem ((c.tc : Thread Cert.OddOutSampleRefIdeal.nD Cert.OddOutSampleRefIdeal.τ).loc Cert.OddOutSampleRefIdeal.main_arg3) = m' ((c.tc : Thread Cert.OddOutSampleRefIdeal.nD Cert.OddOutSampleRefIdeal.τ).loc Cert.OddOutSampleRefIdeal.main_arg3)
          ∧ r.2.mem ((c.tc : Thread Cert.OddOutSampleRefIdeal.nD Cert.OddOutSampleRefIdeal.τ).loc Cert.OddOutSampleRefIdeal.main_arg4) = m' ((c.tc : Thread Cert.OddOutSampleRefIdeal.nD Cert.OddOutSampleRefIdeal.τ).loc Cert.OddOutSampleRefIdeal.main_arg4)
          ∧ r.2.mem ((c.tc : Thread Cert.OddOutSampleRefIdeal.nD Cert.OddOutSampleRefIdeal.τ).loc Cert.OddOutSampleRefIdeal.main_arg5) = m' ((c.tc : Thread Cert.OddOutSampleRefIdeal.nD Cert.OddOutSampleRefIdeal.τ).loc Cert.OddOutSampleRefIdeal.main_arg5))

def preserves_ModPrompt_ModPromptIdeal : Prop :=
  True

def algebraic_ModPromptIdeal_ModPromptRefIdeal [hModPromptIdeal : Cert.ModPromptIdeal.Facts] [hModPromptRefIdeal : Cert.ModPromptRefIdeal.Facts] : Prop :=
  ∀ (m : (ℓ : Loc Cert.ModPromptIdeal.nD Cert.ModPromptIdeal.τ Cert.ModPromptIdeal.sig) → Buf (Elt Ideal) ℓ) (g : Dev Cert.ModPromptIdeal.nD → PrngReg)
    (m' : (ℓ : Loc Cert.ModPromptRefIdeal.nD Cert.ModPromptRefIdeal.τ Cert.ModPromptRefIdeal.sig) → Buf (Elt Ideal) ℓ) (g' : Dev Cert.ModPromptRefIdeal.nD → PrngReg), Pre_ModPromptIdeal m →
    (∀ c : Dev Cert.ModPromptIdeal.nD,
      m' ((c.tc : Thread Cert.ModPromptRefIdeal.nD Cert.ModPromptRefIdeal.τ).loc Cert.ModPromptRefIdeal.main_arg0) = m ((c.tc : Thread Cert.ModPromptIdeal.nD Cert.ModPromptIdeal.τ).loc Cert.ModPromptIdeal.main_arg0)
      ∧ m' ((c.tc : Thread Cert.ModPromptRefIdeal.nD Cert.ModPromptRefIdeal.τ).loc Cert.ModPromptRefIdeal.main_arg1) = m ((c.tc : Thread Cert.ModPromptIdeal.nD Cert.ModPromptIdeal.τ).loc Cert.ModPromptIdeal.main_arg1)
      ∧ m' ((c.tc : Thread Cert.ModPromptRefIdeal.nD Cert.ModPromptRefIdeal.τ).loc Cert.ModPromptRefIdeal.main_arg2) = m ((c.tc : Thread Cert.ModPromptIdeal.nD Cert.ModPromptIdeal.τ).loc Cert.ModPromptIdeal.main_arg2)) →
    ∃ (v0 : (c : Dev Cert.ModPromptIdeal.nD) → Buf (Elt Ideal) ((c.tc : Thread Cert.ModPromptIdeal.nD Cert.ModPromptIdeal.τ).loc Cert.ModPromptIdeal.main_v0)),
      θ_run (Cert.ModPromptIdeal.defs (F := Ideal)) (onTc (τ := Cert.ModPromptIdeal.τ) (Cert.ModPromptIdeal.main (F := Ideal))) ⟨m, fun _ => 0, g⟩ (fun r => ∀ c : Dev Cert.ModPromptIdeal.nD,
          r.2.mem ((c.tc : Thread Cert.ModPromptIdeal.nD Cert.ModPromptIdeal.τ).loc Cert.ModPromptIdeal.main_v0) = v0 c
          ∧ r.2.mem ((c.tc : Thread Cert.ModPromptIdeal.nD Cert.ModPromptIdeal.τ).loc Cert.ModPromptIdeal.main_arg0) = m ((c.tc : Thread Cert.ModPromptIdeal.nD Cert.ModPromptIdeal.τ).loc Cert.ModPromptIdeal.main_arg0)
          ∧ r.2.mem ((c.tc : Thread Cert.ModPromptIdeal.nD Cert.ModPromptIdeal.τ).loc Cert.ModPromptIdeal.main_arg1) = m ((c.tc : Thread Cert.ModPromptIdeal.nD Cert.ModPromptIdeal.τ).loc Cert.ModPromptIdeal.main_arg1)
          ∧ r.2.mem ((c.tc : Thread Cert.ModPromptIdeal.nD Cert.ModPromptIdeal.τ).loc Cert.ModPromptIdeal.main_arg2) = m ((c.tc : Thread Cert.ModPromptIdeal.nD Cert.ModPromptIdeal.τ).loc Cert.ModPromptIdeal.main_arg2))
      ∧ θ_run (Cert.ModPromptRefIdeal.defs (F := Ideal)) (onTc (τ := Cert.ModPromptRefIdeal.τ) (Cert.ModPromptRefIdeal.main (F := Ideal))) ⟨m', fun _ => 0, g'⟩ (fun r => ∀ c : Dev Cert.ModPromptRefIdeal.nD,
          r.2.mem ((c.tc : Thread Cert.ModPromptRefIdeal.nD Cert.ModPromptRefIdeal.τ).loc Cert.ModPromptRefIdeal.main_v8) = v0 c
          ∧ r.2.mem ((c.tc : Thread Cert.ModPromptRefIdeal.nD Cert.ModPromptRefIdeal.τ).loc Cert.ModPromptRefIdeal.main_arg0) = m' ((c.tc : Thread Cert.ModPromptRefIdeal.nD Cert.ModPromptRefIdeal.τ).loc Cert.ModPromptRefIdeal.main_arg0)
          ∧ r.2.mem ((c.tc : Thread Cert.ModPromptRefIdeal.nD Cert.ModPromptRefIdeal.τ).loc Cert.ModPromptRefIdeal.main_arg1) = m' ((c.tc : Thread Cert.ModPromptRefIdeal.nD Cert.ModPromptRefIdeal.τ).loc Cert.ModPromptRefIdeal.main_arg1)
          ∧ r.2.mem ((c.tc : Thread Cert.ModPromptRefIdeal.nD Cert.ModPromptRefIdeal.τ).loc Cert.ModPromptRefIdeal.main_arg2) = m' ((c.tc : Thread Cert.ModPromptRefIdeal.nD Cert.ModPromptRefIdeal.τ).loc Cert.ModPromptRefIdeal.main_arg2))

def preserves_ModSample_ModSampleIdeal : Prop :=
  True

def algebraic_ModSampleIdeal_ModSampleRefIdeal [hModSampleIdeal : Cert.ModSampleIdeal.Facts] [hModSampleRefIdeal : Cert.ModSampleRefIdeal.Facts] : Prop :=
  ∀ (m : (ℓ : Loc Cert.ModSampleIdeal.nD Cert.ModSampleIdeal.τ Cert.ModSampleIdeal.sig) → Buf (Elt Ideal) ℓ) (g : Dev Cert.ModSampleIdeal.nD → PrngReg)
    (m' : (ℓ : Loc Cert.ModSampleRefIdeal.nD Cert.ModSampleRefIdeal.τ Cert.ModSampleRefIdeal.sig) → Buf (Elt Ideal) ℓ) (g' : Dev Cert.ModSampleRefIdeal.nD → PrngReg), Pre_ModSampleIdeal m →
    (∀ c : Dev Cert.ModSampleIdeal.nD,
      m' ((c.tc : Thread Cert.ModSampleRefIdeal.nD Cert.ModSampleRefIdeal.τ).loc Cert.ModSampleRefIdeal.main_arg0) = m ((c.tc : Thread Cert.ModSampleIdeal.nD Cert.ModSampleIdeal.τ).loc Cert.ModSampleIdeal.main_arg0)
      ∧ m' ((c.tc : Thread Cert.ModSampleRefIdeal.nD Cert.ModSampleRefIdeal.τ).loc Cert.ModSampleRefIdeal.main_arg1) = m ((c.tc : Thread Cert.ModSampleIdeal.nD Cert.ModSampleIdeal.τ).loc Cert.ModSampleIdeal.main_arg1)
      ∧ m' ((c.tc : Thread Cert.ModSampleRefIdeal.nD Cert.ModSampleRefIdeal.τ).loc Cert.ModSampleRefIdeal.main_arg2) = m ((c.tc : Thread Cert.ModSampleIdeal.nD Cert.ModSampleIdeal.τ).loc Cert.ModSampleIdeal.main_arg2)) →
    ∃ (v0 : (c : Dev Cert.ModSampleIdeal.nD) → Buf (Elt Ideal) ((c.tc : Thread Cert.ModSampleIdeal.nD Cert.ModSampleIdeal.τ).loc Cert.ModSampleIdeal.main_v0)),
      θ_run (Cert.ModSampleIdeal.defs (F := Ideal)) (onTc (τ := Cert.ModSampleIdeal.τ) (Cert.ModSampleIdeal.main (F := Ideal))) ⟨m, fun _ => 0, g⟩ (fun r => ∀ c : Dev Cert.ModSampleIdeal.nD,
          r.2.mem ((c.tc : Thread Cert.ModSampleIdeal.nD Cert.ModSampleIdeal.τ).loc Cert.ModSampleIdeal.main_v0) = v0 c
          ∧ r.2.mem ((c.tc : Thread Cert.ModSampleIdeal.nD Cert.ModSampleIdeal.τ).loc Cert.ModSampleIdeal.main_arg0) = m ((c.tc : Thread Cert.ModSampleIdeal.nD Cert.ModSampleIdeal.τ).loc Cert.ModSampleIdeal.main_arg0)
          ∧ r.2.mem ((c.tc : Thread Cert.ModSampleIdeal.nD Cert.ModSampleIdeal.τ).loc Cert.ModSampleIdeal.main_arg1) = m ((c.tc : Thread Cert.ModSampleIdeal.nD Cert.ModSampleIdeal.τ).loc Cert.ModSampleIdeal.main_arg1)
          ∧ r.2.mem ((c.tc : Thread Cert.ModSampleIdeal.nD Cert.ModSampleIdeal.τ).loc Cert.ModSampleIdeal.main_arg2) = m ((c.tc : Thread Cert.ModSampleIdeal.nD Cert.ModSampleIdeal.τ).loc Cert.ModSampleIdeal.main_arg2))
      ∧ θ_run (Cert.ModSampleRefIdeal.defs (F := Ideal)) (onTc (τ := Cert.ModSampleRefIdeal.τ) (Cert.ModSampleRefIdeal.main (F := Ideal))) ⟨m', fun _ => 0, g'⟩ (fun r => ∀ c : Dev Cert.ModSampleRefIdeal.nD,
          r.2.mem ((c.tc : Thread Cert.ModSampleRefIdeal.nD Cert.ModSampleRefIdeal.τ).loc Cert.ModSampleRefIdeal.main_v6) = v0 c
          ∧ r.2.mem ((c.tc : Thread Cert.ModSampleRefIdeal.nD Cert.ModSampleRefIdeal.τ).loc Cert.ModSampleRefIdeal.main_arg0) = m' ((c.tc : Thread Cert.ModSampleRefIdeal.nD Cert.ModSampleRefIdeal.τ).loc Cert.ModSampleRefIdeal.main_arg0)
          ∧ r.2.mem ((c.tc : Thread Cert.ModSampleRefIdeal.nD Cert.ModSampleRefIdeal.τ).loc Cert.ModSampleRefIdeal.main_arg1) = m' ((c.tc : Thread Cert.ModSampleRefIdeal.nD Cert.ModSampleRefIdeal.τ).loc Cert.ModSampleRefIdeal.main_arg1)
          ∧ r.2.mem ((c.tc : Thread Cert.ModSampleRefIdeal.nD Cert.ModSampleRefIdeal.τ).loc Cert.ModSampleRefIdeal.main_arg2) = m' ((c.tc : Thread Cert.ModSampleRefIdeal.nD Cert.ModSampleRefIdeal.τ).loc Cert.ModSampleRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_CmpPrompt_CmpPromptIdeal : Prop :=
  True

def algebraic_CmpPromptIdeal_CmpPromptRefIdeal [hCmpPromptIdeal : Cert.CmpPromptIdeal.Facts] [hCmpPromptRefIdeal : Cert.CmpPromptRefIdeal.Facts] : Prop :=
  ∀ (m : (ℓ : Loc Cert.CmpPromptIdeal.nD Cert.CmpPromptIdeal.τ Cert.CmpPromptIdeal.sig) → Buf (Elt Ideal) ℓ) (g : Dev Cert.CmpPromptIdeal.nD → PrngReg)
    (m' : (ℓ : Loc Cert.CmpPromptRefIdeal.nD Cert.CmpPromptRefIdeal.τ Cert.CmpPromptRefIdeal.sig) → Buf (Elt Ideal) ℓ) (g' : Dev Cert.CmpPromptRefIdeal.nD → PrngReg), Pre_CmpPromptIdeal m →
    (∀ c : Dev Cert.CmpPromptIdeal.nD,
      m' ((c.tc : Thread Cert.CmpPromptRefIdeal.nD Cert.CmpPromptRefIdeal.τ).loc Cert.CmpPromptRefIdeal.main_arg0) = m ((c.tc : Thread Cert.CmpPromptIdeal.nD Cert.CmpPromptIdeal.τ).loc Cert.CmpPromptIdeal.main_arg0)
      ∧ m' ((c.tc : Thread Cert.CmpPromptRefIdeal.nD Cert.CmpPromptRefIdeal.τ).loc Cert.CmpPromptRefIdeal.main_arg1) = m ((c.tc : Thread Cert.CmpPromptIdeal.nD Cert.CmpPromptIdeal.τ).loc Cert.CmpPromptIdeal.main_arg1)
      ∧ m' ((c.tc : Thread Cert.CmpPromptRefIdeal.nD Cert.CmpPromptRefIdeal.τ).loc Cert.CmpPromptRefIdeal.main_arg2) = m ((c.tc : Thread Cert.CmpPromptIdeal.nD Cert.CmpPromptIdeal.τ).loc Cert.CmpPromptIdeal.main_arg2)) →
    ∃ (v0 : (c : Dev Cert.CmpPromptIdeal.nD) → Buf (Elt Ideal) ((c.tc : Thread Cert.CmpPromptIdeal.nD Cert.CmpPromptIdeal.τ).loc Cert.CmpPromptIdeal.main_v2)),
      θ_run (Cert.CmpPromptIdeal.defs (F := Ideal)) (onTc (τ := Cert.CmpPromptIdeal.τ) (Cert.CmpPromptIdeal.main (F := Ideal))) ⟨m, fun _ => 0, g⟩ (fun r => ∀ c : Dev Cert.CmpPromptIdeal.nD,
          r.2.mem ((c.tc : Thread Cert.CmpPromptIdeal.nD Cert.CmpPromptIdeal.τ).loc Cert.CmpPromptIdeal.main_v2) = v0 c
          ∧ r.2.mem ((c.tc : Thread Cert.CmpPromptIdeal.nD Cert.CmpPromptIdeal.τ).loc Cert.CmpPromptIdeal.main_arg0) = m ((c.tc : Thread Cert.CmpPromptIdeal.nD Cert.CmpPromptIdeal.τ).loc Cert.CmpPromptIdeal.main_arg0)
          ∧ r.2.mem ((c.tc : Thread Cert.CmpPromptIdeal.nD Cert.CmpPromptIdeal.τ).loc Cert.CmpPromptIdeal.main_arg1) = m ((c.tc : Thread Cert.CmpPromptIdeal.nD Cert.CmpPromptIdeal.τ).loc Cert.CmpPromptIdeal.main_arg1)
          ∧ r.2.mem ((c.tc : Thread Cert.CmpPromptIdeal.nD Cert.CmpPromptIdeal.τ).loc Cert.CmpPromptIdeal.main_arg2) = m ((c.tc : Thread Cert.CmpPromptIdeal.nD Cert.CmpPromptIdeal.τ).loc Cert.CmpPromptIdeal.main_arg2))
      ∧ θ_run (Cert.CmpPromptRefIdeal.defs (F := Ideal)) (onTc (τ := Cert.CmpPromptRefIdeal.τ) (Cert.CmpPromptRefIdeal.main (F := Ideal))) ⟨m', fun _ => 0, g'⟩ (fun r => ∀ c : Dev Cert.CmpPromptRefIdeal.nD,
          r.2.mem ((c.tc : Thread Cert.CmpPromptRefIdeal.nD Cert.CmpPromptRefIdeal.τ).loc Cert.CmpPromptRefIdeal.main_v26) = v0 c
          ∧ r.2.mem ((c.tc : Thread Cert.CmpPromptRefIdeal.nD Cert.CmpPromptRefIdeal.τ).loc Cert.CmpPromptRefIdeal.main_arg0) = m' ((c.tc : Thread Cert.CmpPromptRefIdeal.nD Cert.CmpPromptRefIdeal.τ).loc Cert.CmpPromptRefIdeal.main_arg0)
          ∧ r.2.mem ((c.tc : Thread Cert.CmpPromptRefIdeal.nD Cert.CmpPromptRefIdeal.τ).loc Cert.CmpPromptRefIdeal.main_arg1) = m' ((c.tc : Thread Cert.CmpPromptRefIdeal.nD Cert.CmpPromptRefIdeal.τ).loc Cert.CmpPromptRefIdeal.main_arg1)
          ∧ r.2.mem ((c.tc : Thread Cert.CmpPromptRefIdeal.nD Cert.CmpPromptRefIdeal.τ).loc Cert.CmpPromptRefIdeal.main_arg2) = m' ((c.tc : Thread Cert.CmpPromptRefIdeal.nD Cert.CmpPromptRefIdeal.τ).loc Cert.CmpPromptRefIdeal.main_arg2))

def preserves_CmpSample_CmpSampleIdeal : Prop :=
  True

def algebraic_CmpSampleIdeal_CmpSampleRefIdeal [hCmpSampleIdeal : Cert.CmpSampleIdeal.Facts] [hCmpSampleRefIdeal : Cert.CmpSampleRefIdeal.Facts] : Prop :=
  ∀ (m : (ℓ : Loc Cert.CmpSampleIdeal.nD Cert.CmpSampleIdeal.τ Cert.CmpSampleIdeal.sig) → Buf (Elt Ideal) ℓ) (g : Dev Cert.CmpSampleIdeal.nD → PrngReg)
    (m' : (ℓ : Loc Cert.CmpSampleRefIdeal.nD Cert.CmpSampleRefIdeal.τ Cert.CmpSampleRefIdeal.sig) → Buf (Elt Ideal) ℓ) (g' : Dev Cert.CmpSampleRefIdeal.nD → PrngReg), Pre_CmpSampleIdeal m →
    (∀ c : Dev Cert.CmpSampleIdeal.nD,
      m' ((c.tc : Thread Cert.CmpSampleRefIdeal.nD Cert.CmpSampleRefIdeal.τ).loc Cert.CmpSampleRefIdeal.main_arg0) = m ((c.tc : Thread Cert.CmpSampleIdeal.nD Cert.CmpSampleIdeal.τ).loc Cert.CmpSampleIdeal.main_arg0)
      ∧ m' ((c.tc : Thread Cert.CmpSampleRefIdeal.nD Cert.CmpSampleRefIdeal.τ).loc Cert.CmpSampleRefIdeal.main_arg1) = m ((c.tc : Thread Cert.CmpSampleIdeal.nD Cert.CmpSampleIdeal.τ).loc Cert.CmpSampleIdeal.main_arg1)
      ∧ m' ((c.tc : Thread Cert.CmpSampleRefIdeal.nD Cert.CmpSampleRefIdeal.τ).loc Cert.CmpSampleRefIdeal.main_arg2) = m ((c.tc : Thread Cert.CmpSampleIdeal.nD Cert.CmpSampleIdeal.τ).loc Cert.CmpSampleIdeal.main_arg2)) →
    ∃ (v0 : (c : Dev Cert.CmpSampleIdeal.nD) → Buf (Elt Ideal) ((c.tc : Thread Cert.CmpSampleIdeal.nD Cert.CmpSampleIdeal.τ).loc Cert.CmpSampleIdeal.main_v2)),
      θ_run (Cert.CmpSampleIdeal.defs (F := Ideal)) (onTc (τ := Cert.CmpSampleIdeal.τ) (Cert.CmpSampleIdeal.main (F := Ideal))) ⟨m, fun _ => 0, g⟩ (fun r => ∀ c : Dev Cert.CmpSampleIdeal.nD,
          r.2.mem ((c.tc : Thread Cert.CmpSampleIdeal.nD Cert.CmpSampleIdeal.τ).loc Cert.CmpSampleIdeal.main_v2) = v0 c
          ∧ r.2.mem ((c.tc : Thread Cert.CmpSampleIdeal.nD Cert.CmpSampleIdeal.τ).loc Cert.CmpSampleIdeal.main_arg0) = m ((c.tc : Thread Cert.CmpSampleIdeal.nD Cert.CmpSampleIdeal.τ).loc Cert.CmpSampleIdeal.main_arg0)
          ∧ r.2.mem ((c.tc : Thread Cert.CmpSampleIdeal.nD Cert.CmpSampleIdeal.τ).loc Cert.CmpSampleIdeal.main_arg1) = m ((c.tc : Thread Cert.CmpSampleIdeal.nD Cert.CmpSampleIdeal.τ).loc Cert.CmpSampleIdeal.main_arg1)
          ∧ r.2.mem ((c.tc : Thread Cert.CmpSampleIdeal.nD Cert.CmpSampleIdeal.τ).loc Cert.CmpSampleIdeal.main_arg2) = m ((c.tc : Thread Cert.CmpSampleIdeal.nD Cert.CmpSampleIdeal.τ).loc Cert.CmpSampleIdeal.main_arg2))
      ∧ θ_run (Cert.CmpSampleRefIdeal.defs (F := Ideal)) (onTc (τ := Cert.CmpSampleRefIdeal.τ) (Cert.CmpSampleRefIdeal.main (F := Ideal))) ⟨m', fun _ => 0, g'⟩ (fun r => ∀ c : Dev Cert.CmpSampleRefIdeal.nD,
          r.2.mem ((c.tc : Thread Cert.CmpSampleRefIdeal.nD Cert.CmpSampleRefIdeal.τ).loc Cert.CmpSampleRefIdeal.main_v26) = v0 c
          ∧ r.2.mem ((c.tc : Thread Cert.CmpSampleRefIdeal.nD Cert.CmpSampleRefIdeal.τ).loc Cert.CmpSampleRefIdeal.main_arg0) = m' ((c.tc : Thread Cert.CmpSampleRefIdeal.nD Cert.CmpSampleRefIdeal.τ).loc Cert.CmpSampleRefIdeal.main_arg0)
          ∧ r.2.mem ((c.tc : Thread Cert.CmpSampleRefIdeal.nD Cert.CmpSampleRefIdeal.τ).loc Cert.CmpSampleRefIdeal.main_arg1) = m' ((c.tc : Thread Cert.CmpSampleRefIdeal.nD Cert.CmpSampleRefIdeal.τ).loc Cert.CmpSampleRefIdeal.main_arg1)
          ∧ r.2.mem ((c.tc : Thread Cert.CmpSampleRefIdeal.nD Cert.CmpSampleRefIdeal.τ).loc Cert.CmpSampleRefIdeal.main_arg2) = m' ((c.tc : Thread Cert.CmpSampleRefIdeal.nD Cert.CmpSampleRefIdeal.τ).loc Cert.CmpSampleRefIdeal.main_arg2))

def preserves_CmpFinPrompt_CmpFinPromptIdeal : Prop :=
  True

def algebraic_CmpFinPromptIdeal_CmpFinPromptRefIdeal [hCmpFinPromptIdeal : Cert.CmpFinPromptIdeal.Facts] [hCmpFinPromptRefIdeal : Cert.CmpFinPromptRefIdeal.Facts] : Prop :=
  ∀ (m : (ℓ : Loc Cert.CmpFinPromptIdeal.nD Cert.CmpFinPromptIdeal.τ Cert.CmpFinPromptIdeal.sig) → Buf (Elt Ideal) ℓ) (g : Dev Cert.CmpFinPromptIdeal.nD → PrngReg)
    (m' : (ℓ : Loc Cert.CmpFinPromptRefIdeal.nD Cert.CmpFinPromptRefIdeal.τ Cert.CmpFinPromptRefIdeal.sig) → Buf (Elt Ideal) ℓ) (g' : Dev Cert.CmpFinPromptRefIdeal.nD → PrngReg), Pre_CmpFinPromptIdeal m →
    (∀ c : Dev Cert.CmpFinPromptIdeal.nD,
      m' ((c.tc : Thread Cert.CmpFinPromptRefIdeal.nD Cert.CmpFinPromptRefIdeal.τ).loc Cert.CmpFinPromptRefIdeal.main_arg0) = m ((c.tc : Thread Cert.CmpFinPromptIdeal.nD Cert.CmpFinPromptIdeal.τ).loc Cert.CmpFinPromptIdeal.main_arg0)
      ∧ m' ((c.tc : Thread Cert.CmpFinPromptRefIdeal.nD Cert.CmpFinPromptRefIdeal.τ).loc Cert.CmpFinPromptRefIdeal.main_arg1) = m ((c.tc : Thread Cert.CmpFinPromptIdeal.nD Cert.CmpFinPromptIdeal.τ).loc Cert.CmpFinPromptIdeal.main_arg1)) →
    ∃ (v0 : (c : Dev Cert.CmpFinPromptIdeal.nD) → Buf (Elt Ideal) ((c.tc : Thread Cert.CmpFinPromptIdeal.nD Cert.CmpFinPromptIdeal.τ).loc Cert.CmpFinPromptIdeal.main_v0)),
      θ_run (Cert.CmpFinPromptIdeal.defs (F := Ideal)) (onTc (τ := Cert.CmpFinPromptIdeal.τ) (Cert.CmpFinPromptIdeal.main (F := Ideal))) ⟨m, fun _ => 0, g⟩ (fun r => ∀ c : Dev Cert.CmpFinPromptIdeal.nD,
          r.2.mem ((c.tc : Thread Cert.CmpFinPromptIdeal.nD Cert.CmpFinPromptIdeal.τ).loc Cert.CmpFinPromptIdeal.main_v0) = v0 c
          ∧ r.2.mem ((c.tc : Thread Cert.CmpFinPromptIdeal.nD Cert.CmpFinPromptIdeal.τ).loc Cert.CmpFinPromptIdeal.main_arg0) = m ((c.tc : Thread Cert.CmpFinPromptIdeal.nD Cert.CmpFinPromptIdeal.τ).loc Cert.CmpFinPromptIdeal.main_arg0)
          ∧ r.2.mem ((c.tc : Thread Cert.CmpFinPromptIdeal.nD Cert.CmpFinPromptIdeal.τ).loc Cert.CmpFinPromptIdeal.main_arg1) = m ((c.tc : Thread Cert.CmpFinPromptIdeal.nD Cert.CmpFinPromptIdeal.τ).loc Cert.CmpFinPromptIdeal.main_arg1))
      ∧ θ_run (Cert.CmpFinPromptRefIdeal.defs (F := Ideal)) (onTc (τ := Cert.CmpFinPromptRefIdeal.τ) (Cert.CmpFinPromptRefIdeal.main (F := Ideal))) ⟨m', fun _ => 0, g'⟩ (fun r => ∀ c : Dev Cert.CmpFinPromptRefIdeal.nD,
          r.2.mem ((c.tc : Thread Cert.CmpFinPromptRefIdeal.nD Cert.CmpFinPromptRefIdeal.τ).loc Cert.CmpFinPromptRefIdeal.main_v22) = v0 c
          ∧ r.2.mem ((c.tc : Thread Cert.CmpFinPromptRefIdeal.nD Cert.CmpFinPromptRefIdeal.τ).loc Cert.CmpFinPromptRefIdeal.main_arg0) = m' ((c.tc : Thread Cert.CmpFinPromptRefIdeal.nD Cert.CmpFinPromptRefIdeal.τ).loc Cert.CmpFinPromptRefIdeal.main_arg0)
          ∧ r.2.mem ((c.tc : Thread Cert.CmpFinPromptRefIdeal.nD Cert.CmpFinPromptRefIdeal.τ).loc Cert.CmpFinPromptRefIdeal.main_arg1) = m' ((c.tc : Thread Cert.CmpFinPromptRefIdeal.nD Cert.CmpFinPromptRefIdeal.τ).loc Cert.CmpFinPromptRefIdeal.main_arg1))

def preserves_WinSample_WinSampleIdeal : Prop :=
  True

def algebraic_WinSampleIdeal_WinSampleRefIdeal [hWinSampleIdeal : Cert.WinSampleIdeal.Facts] [hWinSampleRefIdeal : Cert.WinSampleRefIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg)
    (m' : (ℓ : Loc Cert.WinSampleRefIdeal.nD Cert.WinSampleRefIdeal.τ Cert.WinSampleRefIdeal.sig) → Buf (Elt Ideal) ℓ) (g' : Dev Cert.WinSampleRefIdeal.nD → PrngReg), Pre_WinSampleIdeal m →
    (∀ c : Dev Cert.WinSampleIdeal.nD,
      m' ((c.tc : Thread Cert.WinSampleRefIdeal.nD Cert.WinSampleRefIdeal.τ).loc Cert.WinSampleRefIdeal.main_arg0) = m ((c.tc : Thread Cert.WinSampleIdeal.nD Cert.WinSampleIdeal.τ).loc Cert.WinSampleIdeal.main_arg0)
      ∧ m' ((c.tc : Thread Cert.WinSampleRefIdeal.nD Cert.WinSampleRefIdeal.τ).loc Cert.WinSampleRefIdeal.main_arg1) = m ((c.tc : Thread Cert.WinSampleIdeal.nD Cert.WinSampleIdeal.τ).loc Cert.WinSampleIdeal.main_arg1)
      ∧ m' ((c.tc : Thread Cert.WinSampleRefIdeal.nD Cert.WinSampleRefIdeal.τ).loc Cert.WinSampleRefIdeal.main_arg2) = m ((c.tc : Thread Cert.WinSampleIdeal.nD Cert.WinSampleIdeal.τ).loc Cert.WinSampleIdeal.main_arg2)
      ∧ m' ((c.tc : Thread Cert.WinSampleRefIdeal.nD Cert.WinSampleRefIdeal.τ).loc Cert.WinSampleRefIdeal.main_arg3) = m ((c.tc : Thread Cert.WinSampleIdeal.nD Cert.WinSampleIdeal.τ).loc Cert.WinSampleIdeal.main_arg3)) →
    ∃ (v0 : (c : Dev Cert.WinSampleIdeal.nD) → Buf (Elt Ideal) ((c.tc : Thread Cert.WinSampleIdeal.nD Cert.WinSampleIdeal.τ).loc Cert.WinSampleIdeal.main_v5)) (v1 : (c : Dev Cert.WinSampleIdeal.nD) → Buf (Elt Ideal) ((c.tc : Thread Cert.WinSampleIdeal.nD Cert.WinSampleIdeal.τ).loc Cert.WinSampleIdeal.main_v8)),
      θ_run (Cert.WinSampleIdeal.defs (F := Ideal)) (onTc (τ := Cert.WinSampleIdeal.τ) (Cert.WinSampleIdeal.main (F := Ideal))) ⟨m, fun _ => 0, g⟩ (fun r => ∀ c : Dev Cert.WinSampleIdeal.nD,
          r.2.mem ((c.tc : Thread Cert.WinSampleIdeal.nD Cert.WinSampleIdeal.τ).loc Cert.WinSampleIdeal.main_v5) = v0 c
          ∧ r.2.mem ((c.tc : Thread Cert.WinSampleIdeal.nD Cert.WinSampleIdeal.τ).loc Cert.WinSampleIdeal.main_v8) = v1 c
          ∧ r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
          ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
          ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
          ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3))
      ∧ θ_run (Cert.WinSampleRefIdeal.defs (F := Ideal)) (onTc (τ := Cert.WinSampleRefIdeal.τ) (Cert.WinSampleRefIdeal.main (F := Ideal))) ⟨m', fun _ => 0, g'⟩ (fun r => ∀ c : Dev Cert.WinSampleRefIdeal.nD,
          r.2.mem ((c.tc : Thread Cert.WinSampleRefIdeal.nD Cert.WinSampleRefIdeal.τ).loc Cert.WinSampleRefIdeal.main_v10) = v0 c
          ∧ r.2.mem ((c.tc : Thread Cert.WinSampleRefIdeal.nD Cert.WinSampleRefIdeal.τ).loc Cert.WinSampleRefIdeal.main_v11) = v1 c
          ∧ r.2.mem ((c.tc : Thread Cert.WinSampleRefIdeal.nD Cert.WinSampleRefIdeal.τ).loc Cert.WinSampleRefIdeal.main_arg0) = m' ((c.tc : Thread Cert.WinSampleRefIdeal.nD Cert.WinSampleRefIdeal.τ).loc Cert.WinSampleRefIdeal.main_arg0)
          ∧ r.2.mem ((c.tc : Thread Cert.WinSampleRefIdeal.nD Cert.WinSampleRefIdeal.τ).loc Cert.WinSampleRefIdeal.main_arg1) = m' ((c.tc : Thread Cert.WinSampleRefIdeal.nD Cert.WinSampleRefIdeal.τ).loc Cert.WinSampleRefIdeal.main_arg1)
          ∧ r.2.mem ((c.tc : Thread Cert.WinSampleRefIdeal.nD Cert.WinSampleRefIdeal.τ).loc Cert.WinSampleRefIdeal.main_arg2) = m' ((c.tc : Thread Cert.WinSampleRefIdeal.nD Cert.WinSampleRefIdeal.τ).loc Cert.WinSampleRefIdeal.main_arg2)
          ∧ r.2.mem ((c.tc : Thread Cert.WinSampleRefIdeal.nD Cert.WinSampleRefIdeal.τ).loc Cert.WinSampleRefIdeal.main_arg3) = m' ((c.tc : Thread Cert.WinSampleRefIdeal.nD Cert.WinSampleRefIdeal.τ).loc Cert.WinSampleRefIdeal.main_arg3))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleRefIdeal : Cert.SampleRefIdeal.Facts) (hMobaQ : Cert.MobaQ.Facts) (hMobaQIdeal : Cert.MobaQIdeal.Facts) (hMobaQRefIdeal : Cert.MobaQRefIdeal.Facts) (hMobaK : Cert.MobaK.Facts) (hMobaKIdeal : Cert.MobaKIdeal.Facts) (hMobaKRefIdeal : Cert.MobaKRefIdeal.Facts) (hMobaV : Cert.MobaV.Facts) (hMobaVIdeal : Cert.MobaVIdeal.Facts) (hMobaVRefIdeal : Cert.MobaVRefIdeal.Facts) (hMobaSample : Cert.MobaSample.Facts) (hMobaSampleIdeal : Cert.MobaSampleIdeal.Facts) (hMobaSampleRefIdeal : Cert.MobaSampleRefIdeal.Facts) (hDiffQ : Cert.DiffQ.Facts) (hDiffQIdeal : Cert.DiffQIdeal.Facts) (hDiffQRefIdeal : Cert.DiffQRefIdeal.Facts) (hDiffK : Cert.DiffK.Facts) (hDiffKIdeal : Cert.DiffKIdeal.Facts) (hDiffKRefIdeal : Cert.DiffKRefIdeal.Facts) (hDiffV : Cert.DiffV.Facts) (hDiffVIdeal : Cert.DiffVIdeal.Facts) (hDiffVRefIdeal : Cert.DiffVRefIdeal.Facts) (hNsaQ : Cert.NsaQ.Facts) (hNsaQIdeal : Cert.NsaQIdeal.Facts) (hNsaQRefIdeal : Cert.NsaQRefIdeal.Facts) (hCmpK : Cert.CmpK.Facts) (hCmpKIdeal : Cert.CmpKIdeal.Facts) (hCmpKRefIdeal : Cert.CmpKRefIdeal.Facts) (hCmpV : Cert.CmpV.Facts) (hCmpVIdeal : Cert.CmpVIdeal.Facts) (hCmpVRefIdeal : Cert.CmpVRefIdeal.Facts) (hSlcK : Cert.SlcK.Facts) (hSlcKIdeal : Cert.SlcKIdeal.Facts) (hSlcKRefIdeal : Cert.SlcKRefIdeal.Facts) (hSlcV : Cert.SlcV.Facts) (hSlcVIdeal : Cert.SlcVIdeal.Facts) (hSlcVRefIdeal : Cert.SlcVRefIdeal.Facts) (hWinK : Cert.WinK.Facts) (hWinKIdeal : Cert.WinKIdeal.Facts) (hWinKRefIdeal : Cert.WinKRefIdeal.Facts) (hWinV : Cert.WinV.Facts) (hWinVIdeal : Cert.WinVIdeal.Facts) (hWinVRefIdeal : Cert.WinVRefIdeal.Facts) (hEvenSample : Cert.EvenSample.Facts) (hEvenSampleIdeal : Cert.EvenSampleIdeal.Facts) (hEvenSampleRefIdeal : Cert.EvenSampleRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hEvenOutSample : Cert.EvenOutSample.Facts) (hEvenOutSampleIdeal : Cert.EvenOutSampleIdeal.Facts) (hEvenOutSampleRefIdeal : Cert.EvenOutSampleRefIdeal.Facts) (hOddOutSample : Cert.OddOutSample.Facts) (hOddOutSampleIdeal : Cert.OddOutSampleIdeal.Facts) (hOddOutSampleRefIdeal : Cert.OddOutSampleRefIdeal.Facts) (hModPrompt : Cert.ModPrompt.Facts) (hModPromptIdeal : Cert.ModPromptIdeal.Facts) (hModPromptRefIdeal : Cert.ModPromptRefIdeal.Facts) (hModSample : Cert.ModSample.Facts) (hModSampleIdeal : Cert.ModSampleIdeal.Facts) (hModSampleRefIdeal : Cert.ModSampleRefIdeal.Facts) (hAda : Cert.Ada.Facts) (hAdaIdeal : Cert.AdaIdeal.Facts) (hAdaRefIdeal : Cert.AdaRefIdeal.Facts) (hCmpPrompt : Cert.CmpPrompt.Facts) (hCmpPromptIdeal : Cert.CmpPromptIdeal.Facts) (hCmpPromptRefIdeal : Cert.CmpPromptRefIdeal.Facts) (hCmpSample : Cert.CmpSample.Facts) (hCmpSampleIdeal : Cert.CmpSampleIdeal.Facts) (hCmpSampleRefIdeal : Cert.CmpSampleRefIdeal.Facts) (hCmpFinPrompt : Cert.CmpFinPrompt.Facts) (hCmpFinPromptIdeal : Cert.CmpFinPromptIdeal.Facts) (hCmpFinPromptRefIdeal : Cert.CmpFinPromptRefIdeal.Facts) (hWinSample : Cert.WinSample.Facts) (hWinSampleIdeal : Cert.WinSampleIdeal.Facts) (hWinSampleRefIdeal : Cert.WinSampleRefIdeal.Facts),
    quiescent_Kernel (hKernel := hKernel)
    ∧ quiescent_KernelIdeal (hKernelIdeal := hKernelIdeal)
    ∧ quiescent_ReferenceIdeal (hReferenceIdeal := hReferenceIdeal)
    ∧ quiescent_Sample (hSample := hSample)
    ∧ quiescent_SampleIdeal (hSampleIdeal := hSampleIdeal)
    ∧ quiescent_SampleRefIdeal (hSampleRefIdeal := hSampleRefIdeal)
    ∧ quiescent_MobaQ (hMobaQ := hMobaQ)
    ∧ quiescent_MobaQIdeal (hMobaQIdeal := hMobaQIdeal)
    ∧ quiescent_MobaQRefIdeal (hMobaQRefIdeal := hMobaQRefIdeal)
    ∧ quiescent_MobaK (hMobaK := hMobaK)
    ∧ quiescent_MobaKIdeal (hMobaKIdeal := hMobaKIdeal)
    ∧ quiescent_MobaKRefIdeal (hMobaKRefIdeal := hMobaKRefIdeal)
    ∧ quiescent_MobaV (hMobaV := hMobaV)
    ∧ quiescent_MobaVIdeal (hMobaVIdeal := hMobaVIdeal)
    ∧ quiescent_MobaVRefIdeal (hMobaVRefIdeal := hMobaVRefIdeal)
    ∧ quiescent_MobaSample (hMobaSample := hMobaSample)
    ∧ quiescent_MobaSampleIdeal (hMobaSampleIdeal := hMobaSampleIdeal)
    ∧ quiescent_MobaSampleRefIdeal (hMobaSampleRefIdeal := hMobaSampleRefIdeal)
    ∧ quiescent_DiffQ (hDiffQ := hDiffQ)
    ∧ quiescent_DiffQIdeal (hDiffQIdeal := hDiffQIdeal)
    ∧ quiescent_DiffQRefIdeal (hDiffQRefIdeal := hDiffQRefIdeal)
    ∧ quiescent_DiffK (hDiffK := hDiffK)
    ∧ quiescent_DiffKIdeal (hDiffKIdeal := hDiffKIdeal)
    ∧ quiescent_DiffKRefIdeal (hDiffKRefIdeal := hDiffKRefIdeal)
    ∧ quiescent_DiffV (hDiffV := hDiffV)
    ∧ quiescent_DiffVIdeal (hDiffVIdeal := hDiffVIdeal)
    ∧ quiescent_DiffVRefIdeal (hDiffVRefIdeal := hDiffVRefIdeal)
    ∧ quiescent_NsaQ (hNsaQ := hNsaQ)
    ∧ quiescent_NsaQIdeal (hNsaQIdeal := hNsaQIdeal)
    ∧ quiescent_NsaQRefIdeal (hNsaQRefIdeal := hNsaQRefIdeal)
    ∧ quiescent_CmpK (hCmpK := hCmpK)
    ∧ quiescent_CmpKIdeal (hCmpKIdeal := hCmpKIdeal)
    ∧ quiescent_CmpKRefIdeal (hCmpKRefIdeal := hCmpKRefIdeal)
    ∧ quiescent_CmpV (hCmpV := hCmpV)
    ∧ quiescent_CmpVIdeal (hCmpVIdeal := hCmpVIdeal)
    ∧ quiescent_CmpVRefIdeal (hCmpVRefIdeal := hCmpVRefIdeal)
    ∧ quiescent_SlcK (hSlcK := hSlcK)
    ∧ quiescent_SlcKIdeal (hSlcKIdeal := hSlcKIdeal)
    ∧ quiescent_SlcKRefIdeal (hSlcKRefIdeal := hSlcKRefIdeal)
    ∧ quiescent_SlcV (hSlcV := hSlcV)
    ∧ quiescent_SlcVIdeal (hSlcVIdeal := hSlcVIdeal)
    ∧ quiescent_SlcVRefIdeal (hSlcVRefIdeal := hSlcVRefIdeal)
    ∧ quiescent_WinK (hWinK := hWinK)
    ∧ quiescent_WinKIdeal (hWinKIdeal := hWinKIdeal)
    ∧ quiescent_WinKRefIdeal (hWinKRefIdeal := hWinKRefIdeal)
    ∧ quiescent_WinV (hWinV := hWinV)
    ∧ quiescent_WinVIdeal (hWinVIdeal := hWinVIdeal)
    ∧ quiescent_WinVRefIdeal (hWinVRefIdeal := hWinVRefIdeal)
    ∧ quiescent_EvenSample (hEvenSample := hEvenSample)
    ∧ quiescent_EvenSampleIdeal (hEvenSampleIdeal := hEvenSampleIdeal)
    ∧ quiescent_EvenSampleRefIdeal (hEvenSampleRefIdeal := hEvenSampleRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOutSample (hEvenOutSample := hEvenOutSample)
    ∧ quiescent_EvenOutSampleIdeal (hEvenOutSampleIdeal := hEvenOutSampleIdeal)
    ∧ quiescent_EvenOutSampleRefIdeal (hEvenOutSampleRefIdeal := hEvenOutSampleRefIdeal)
    ∧ quiescent_OddOutSample (hOddOutSample := hOddOutSample)
    ∧ quiescent_OddOutSampleIdeal (hOddOutSampleIdeal := hOddOutSampleIdeal)
    ∧ quiescent_OddOutSampleRefIdeal (hOddOutSampleRefIdeal := hOddOutSampleRefIdeal)
    ∧ quiescent_ModPrompt (hModPrompt := hModPrompt)
    ∧ quiescent_ModPromptIdeal (hModPromptIdeal := hModPromptIdeal)
    ∧ quiescent_ModPromptRefIdeal (hModPromptRefIdeal := hModPromptRefIdeal)
    ∧ quiescent_ModSample (hModSample := hModSample)
    ∧ quiescent_ModSampleIdeal (hModSampleIdeal := hModSampleIdeal)
    ∧ quiescent_ModSampleRefIdeal (hModSampleRefIdeal := hModSampleRefIdeal)
    ∧ quiescent_Ada (hAda := hAda)
    ∧ quiescent_AdaIdeal (hAdaIdeal := hAdaIdeal)
    ∧ quiescent_AdaRefIdeal (hAdaRefIdeal := hAdaRefIdeal)
    ∧ quiescent_CmpPrompt (hCmpPrompt := hCmpPrompt)
    ∧ quiescent_CmpPromptIdeal (hCmpPromptIdeal := hCmpPromptIdeal)
    ∧ quiescent_CmpPromptRefIdeal (hCmpPromptRefIdeal := hCmpPromptRefIdeal)
    ∧ quiescent_CmpSample (hCmpSample := hCmpSample)
    ∧ quiescent_CmpSampleIdeal (hCmpSampleIdeal := hCmpSampleIdeal)
    ∧ quiescent_CmpSampleRefIdeal (hCmpSampleRefIdeal := hCmpSampleRefIdeal)
    ∧ quiescent_CmpFinPrompt (hCmpFinPrompt := hCmpFinPrompt)
    ∧ quiescent_CmpFinPromptIdeal (hCmpFinPromptIdeal := hCmpFinPromptIdeal)
    ∧ quiescent_CmpFinPromptRefIdeal (hCmpFinPromptRefIdeal := hCmpFinPromptRefIdeal)
    ∧ quiescent_WinSample (hWinSample := hWinSample)
    ∧ quiescent_WinSampleIdeal (hWinSampleIdeal := hWinSampleIdeal)
    ∧ quiescent_WinSampleRefIdeal (hWinSampleRefIdeal := hWinSampleRefIdeal)
    ∧ preserves_Kernel_KernelIdeal
    ∧ algebraic_KernelIdeal_ReferenceIdeal (hKernelIdeal := hKernelIdeal) (hReferenceIdeal := hReferenceIdeal)
    ∧ preserves_Sample_SampleIdeal
    ∧ algebraic_SampleIdeal_SampleRefIdeal (hSampleIdeal := hSampleIdeal) (hSampleRefIdeal := hSampleRefIdeal)
    ∧ preserves_MobaQ_MobaQIdeal
    ∧ algebraic_MobaQIdeal_MobaQRefIdeal (hMobaQIdeal := hMobaQIdeal) (hMobaQRefIdeal := hMobaQRefIdeal)
    ∧ preserves_MobaK_MobaKIdeal
    ∧ algebraic_MobaKIdeal_MobaKRefIdeal (hMobaKIdeal := hMobaKIdeal) (hMobaKRefIdeal := hMobaKRefIdeal)
    ∧ preserves_MobaV_MobaVIdeal
    ∧ algebraic_MobaVIdeal_MobaVRefIdeal (hMobaVIdeal := hMobaVIdeal) (hMobaVRefIdeal := hMobaVRefIdeal)
    ∧ preserves_MobaSample_MobaSampleIdeal
    ∧ algebraic_MobaSampleIdeal_MobaSampleRefIdeal (hMobaSampleIdeal := hMobaSampleIdeal) (hMobaSampleRefIdeal := hMobaSampleRefIdeal)
    ∧ preserves_DiffQ_DiffQIdeal
    ∧ algebraic_DiffQIdeal_DiffQRefIdeal (hDiffQIdeal := hDiffQIdeal) (hDiffQRefIdeal := hDiffQRefIdeal)
    ∧ preserves_DiffK_DiffKIdeal
    ∧ algebraic_DiffKIdeal_DiffKRefIdeal (hDiffKIdeal := hDiffKIdeal) (hDiffKRefIdeal := hDiffKRefIdeal)
    ∧ preserves_DiffV_DiffVIdeal
    ∧ algebraic_DiffVIdeal_DiffVRefIdeal (hDiffVIdeal := hDiffVIdeal) (hDiffVRefIdeal := hDiffVRefIdeal)
    ∧ preserves_NsaQ_NsaQIdeal
    ∧ algebraic_NsaQIdeal_NsaQRefIdeal (hNsaQIdeal := hNsaQIdeal) (hNsaQRefIdeal := hNsaQRefIdeal)
    ∧ preserves_CmpK_CmpKIdeal
    ∧ algebraic_CmpKIdeal_CmpKRefIdeal (hCmpKIdeal := hCmpKIdeal) (hCmpKRefIdeal := hCmpKRefIdeal)
    ∧ preserves_CmpV_CmpVIdeal
    ∧ algebraic_CmpVIdeal_CmpVRefIdeal (hCmpVIdeal := hCmpVIdeal) (hCmpVRefIdeal := hCmpVRefIdeal)
    ∧ preserves_SlcK_SlcKIdeal
    ∧ algebraic_SlcKIdeal_SlcKRefIdeal (hSlcKIdeal := hSlcKIdeal) (hSlcKRefIdeal := hSlcKRefIdeal)
    ∧ preserves_SlcV_SlcVIdeal
    ∧ algebraic_SlcVIdeal_SlcVRefIdeal (hSlcVIdeal := hSlcVIdeal) (hSlcVRefIdeal := hSlcVRefIdeal)
    ∧ preserves_WinK_WinKIdeal
    ∧ algebraic_WinKIdeal_WinKRefIdeal (hWinKIdeal := hWinKIdeal) (hWinKRefIdeal := hWinKRefIdeal)
    ∧ preserves_WinV_WinVIdeal
    ∧ algebraic_WinVIdeal_WinVRefIdeal (hWinVIdeal := hWinVIdeal) (hWinVRefIdeal := hWinVRefIdeal)
    ∧ preserves_EvenSample_EvenSampleIdeal
    ∧ algebraic_EvenSampleIdeal_EvenSampleRefIdeal (hEvenSampleIdeal := hEvenSampleIdeal) (hEvenSampleRefIdeal := hEvenSampleRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_EvenOutSample_EvenOutSampleIdeal
    ∧ algebraic_EvenOutSampleIdeal_EvenOutSampleRefIdeal (hEvenOutSampleIdeal := hEvenOutSampleIdeal) (hEvenOutSampleRefIdeal := hEvenOutSampleRefIdeal)
    ∧ preserves_OddOutSample_OddOutSampleIdeal
    ∧ algebraic_OddOutSampleIdeal_OddOutSampleRefIdeal (hOddOutSampleIdeal := hOddOutSampleIdeal) (hOddOutSampleRefIdeal := hOddOutSampleRefIdeal)
    ∧ preserves_ModPrompt_ModPromptIdeal
    ∧ algebraic_ModPromptIdeal_ModPromptRefIdeal (hModPromptIdeal := hModPromptIdeal) (hModPromptRefIdeal := hModPromptRefIdeal)
    ∧ preserves_ModSample_ModSampleIdeal
    ∧ algebraic_ModSampleIdeal_ModSampleRefIdeal (hModSampleIdeal := hModSampleIdeal) (hModSampleRefIdeal := hModSampleRefIdeal)
    ∧ preserves_Ada_AdaIdeal
    ∧ algebraic_AdaIdeal_AdaRefIdeal (hAdaIdeal := hAdaIdeal) (hAdaRefIdeal := hAdaRefIdeal)
    ∧ preserves_CmpPrompt_CmpPromptIdeal
    ∧ algebraic_CmpPromptIdeal_CmpPromptRefIdeal (hCmpPromptIdeal := hCmpPromptIdeal) (hCmpPromptRefIdeal := hCmpPromptRefIdeal)
    ∧ preserves_CmpSample_CmpSampleIdeal
    ∧ algebraic_CmpSampleIdeal_CmpSampleRefIdeal (hCmpSampleIdeal := hCmpSampleIdeal) (hCmpSampleRefIdeal := hCmpSampleRefIdeal)
    ∧ preserves_CmpFinPrompt_CmpFinPromptIdeal
    ∧ algebraic_CmpFinPromptIdeal_CmpFinPromptRefIdeal (hCmpFinPromptIdeal := hCmpFinPromptIdeal) (hCmpFinPromptRefIdeal := hCmpFinPromptRefIdeal)
    ∧ preserves_WinSample_WinSampleIdeal
    ∧ algebraic_WinSampleIdeal_WinSampleRefIdeal (hWinSampleIdeal := hWinSampleIdeal) (hWinSampleRefIdeal := hWinSampleRefIdeal)
-- ==== Kernel.lean ====
abbrev S8192x2048 : Shape := ⟨2, ![8192, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S16x2048x512 : Shape := ⟨3, ![16, 2048, 512]⟩
abbrev S16x512x2048 : Shape := ⟨3, ![16, 512, 2048]⟩
abbrev S4x1x2048 : Shape := ⟨3, ![4, 1, 2048]⟩
abbrev S2048 : Shape := ⟨1, ![2048]⟩
abbrev S_ : Shape := ⟨0, ![]⟩
abbrev S2048x108 : Shape := ⟨2, ![2048, 108]⟩
abbrev S2048x128 : Shape := ⟨2, ![2048, 128]⟩
abbrev S108 : Shape := ⟨1, ![108]⟩
abbrev S128 : Shape := ⟨1, ![128]⟩
abbrev S1x128 : Shape := ⟨2, ![1, 128]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 23
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x4, .f32⟩
  | .hbm, ⟨2, _⟩ => ⟨S4, .f32⟩
  | .hbm, ⟨3, _⟩ => ⟨S2048x16, .f32⟩
  | .hbm, ⟨4, _⟩ => ⟨S16, .f32⟩
  | .hbm, ⟨5, _⟩ => ⟨S16x2048x512, .bf16⟩
  | .hbm, ⟨6, _⟩ => ⟨S16x2048x512, .bf16⟩
  | .hbm, ⟨7, _⟩ => ⟨S16x512x2048, .bf16⟩
  | .hbm, ⟨8, _⟩ => ⟨S8192x2048, .f32⟩
  | .hbm, ⟨9, _⟩ => ⟨S4x1x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048x108, .f32⟩
  | .hbm, ⟨14, _⟩ => ⟨S2048x128, .f32⟩
  | .hbm, ⟨15, _⟩ => ⟨S2048x128, .bf16⟩
  | .hbm, ⟨16, _⟩ => ⟨S_, .f32⟩
  | .hbm, ⟨17, _⟩ => ⟨S108, .f32⟩
  | .hbm, ⟨18, _⟩ => ⟨S128, .f32⟩
  | .hbm, ⟨19, _⟩ => ⟨S1x128, .f32⟩
  | .hbm, ⟨20, _⟩ => ⟨S1x2048, .f32⟩
  | .hbm, ⟨21, _⟩ => ⟨S1x2048, .f32⟩
  | .hbm, ⟨22, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S1x128, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x128, .f32⟩
  | .local _ .vmem, ⟨19, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
abbrev S8192x2048 : Shape := ⟨2, ![8192, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S16x2048x512 : Shape := ⟨3, ![16, 2048, 512]⟩
abbrev S16x512x2048 : Shape := ⟨3, ![16, 512, 2048]⟩
abbrev S4x1x2048 : Shape := ⟨3, ![4, 1, 2048]⟩
abbrev S2048 : Shape := ⟨1, ![2048]⟩
abbrev S_ : Shape := ⟨0, ![]⟩
abbrev S2048x108 : Shape := ⟨2, ![2048, 108]⟩
abbrev S2048x128 : Shape := ⟨2, ![2048, 128]⟩
abbrev S108 : Shape := ⟨1, ![108]⟩
abbrev S128 : Shape := ⟨1, ![128]⟩
abbrev S1x128 : Shape := ⟨2, ![1, 128]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 23
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x4, .f32⟩
  | .hbm, ⟨2, _⟩ => ⟨S4, .f32⟩
  | .hbm, ⟨3, _⟩ => ⟨S2048x16, .f32⟩
  | .hbm, ⟨4, _⟩ => ⟨S16, .f32⟩
  | .hbm, ⟨5, _⟩ => ⟨S16x2048x512, .bf16⟩
  | .hbm, ⟨6, _⟩ => ⟨S16x2048x512, .bf16⟩
  | .hbm, ⟨7, _⟩ => ⟨S16x512x2048, .bf16⟩
  | .hbm, ⟨8, _⟩ => ⟨S8192x2048, .f32⟩
  | .hbm, ⟨9, _⟩ => ⟨S4x1x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048x108, .f32⟩
  | .hbm, ⟨14, _⟩ => ⟨S2048x128, .f32⟩
  | .hbm, ⟨15, _⟩ => ⟨S2048x128, .bf16⟩
  | .hbm, ⟨16, _⟩ => ⟨S_, .f32⟩
  | .hbm, ⟨17, _⟩ => ⟨S108, .f32⟩
  | .hbm, ⟨18, _⟩ => ⟨S128, .f32⟩
  | .hbm, ⟨19, _⟩ => ⟨S1x128, .f32⟩
  | .hbm, ⟨20, _⟩ => ⟨S1x2048, .f32⟩
  | .hbm, ⟨21, _⟩ => ⟨S1x2048, .f32⟩
  | .hbm, ⟨22, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S1x128, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x128, .f32⟩
  | .local _ .vmem, ⟨19, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x2048 : Shape := ⟨2, ![8192, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S16x2048x512 : Shape := ⟨3, ![16, 2048, 512]⟩
abbrev S16x512x2048 : Shape := ⟨3, ![16, 512, 2048]⟩
abbrev S4x1x2048 : Shape := ⟨3, ![4, 1, 2048]⟩
abbrev S2048 : Shape := ⟨1, ![2048]⟩
abbrev S4x2048x2048 : Shape := ⟨3, ![4, 2048, 2048]⟩
abbrev S4x2048x4 : Shape := ⟨3, ![4, 2048, 4]⟩
abbrev S1x1x4 : Shape := ⟨3, ![1, 1, 4]⟩
abbrev S_ : Shape := ⟨0, ![]⟩
abbrev S4x2048 : Shape := ⟨2, ![4, 2048]⟩
abbrev S4x2048x1 : Shape := ⟨3, ![4, 2048, 1]⟩
abbrev S4x2048x16 : Shape := ⟨3, ![4, 2048, 16]⟩
abbrev S1x1x16 : Shape := ⟨3, ![1, 1, 16]⟩
abbrev S4x2048x4x4 : Shape := ⟨4, ![4, 2048, 4, 4]⟩
abbrev S4x2048x1x1 : Shape := ⟨4, ![4, 2048, 1, 1]⟩
abbrev S1 : Shape := ⟨1, ![1]⟩
abbrev S1x1x1x1 : Shape := ⟨4, ![1, 1, 1, 1]⟩
abbrev S4x2048x1x4 : Shape := ⟨4, ![4, 2048, 1, 4]⟩
abbrev S4x2048x2 : Shape := ⟨3, ![4, 2048, 2]⟩
abbrev S4x2048x2x1 : Shape := ⟨4, ![4, 2048, 2, 1]⟩
abbrev S1x1x1x16 : Shape := ⟨4, ![1, 1, 1, 16]⟩
abbrev S4x2048x2x16 : Shape := ⟨4, ![4, 2048, 2, 16]⟩
abbrev S4x2048x16x512 : Shape := ⟨4, ![4, 2048, 16, 512]⟩
abbrev S4x2048x16x1 : Shape := ⟨4, ![4, 2048, 16, 1]⟩
abbrev S1x1x2048 : Shape := ⟨3, ![1, 1, 2048]⟩

abbrev nBuf : Space → Nat
  | .hbm => 159
  | .vmem => 0
  | .smem => 0
  | _ => 0

abbrev hbmTy0_0 (i : Nat) : BufTy := match i % 128 with
  | 0 => ⟨S8192x2048, .bf16⟩
  | 1 => ⟨S2048x4, .f32⟩
  | 2 => ⟨S4, .f32⟩
  | 3 => ⟨S2048x16, .f32⟩
  | 4 => ⟨S16, .f32⟩
  | 5 => ⟨S16x2048x512, .bf16⟩
  | 6 => ⟨S16x2048x512, .bf16⟩
  | 7 => ⟨S16x512x2048, .bf16⟩
  | 8 => ⟨S8192x2048, .f32⟩
  | 9 => ⟨S4x1x2048, .f32⟩
  | 10 => ⟨S2048, .f32⟩
  | 11 => ⟨S2048, .f32⟩
  | 12 => ⟨S8192x2048, .f32⟩
  | 13 => ⟨S4x2048x2048, .f32⟩
  | 14 => ⟨S4x2048x2048, .f32⟩
  | 15 => ⟨S4x2048x4, .f32⟩
  | 16 => ⟨S1x1x4, .f32⟩
  | 17 => ⟨S4x2048x4, .f32⟩
  | 18 => ⟨S4x2048x4, .f32⟩
  | 19 => ⟨S_, .f32⟩
  | 20 => ⟨S4x2048, .f32⟩
  | 21 => ⟨S_, .f32⟩
  | 22 => ⟨S4x2048, .f32⟩
  | 23 => ⟨S4x2048, .f32⟩
  | 24 => ⟨S4x2048x1, .f32⟩
  | 25 => ⟨S4x2048x4, .f32⟩
  | 26 => ⟨S4x2048x4, .f32⟩
  | 27 => ⟨S4x2048x4, .f32⟩
  | 28 => ⟨S_, .f32⟩
  | 29 => ⟨S4x2048, .f32⟩
  | 30 => ⟨S4x2048x1, .f32⟩
  | 31 => ⟨S4x2048x4, .f32⟩
  | 32 => ⟨S4x2048x4, .f32⟩
  | 33 => ⟨S4x2048x1, .f32⟩
  | 34 => ⟨S4x2048x1, .i32⟩
  | 35 => ⟨S4x2048x16, .f32⟩
  | 36 => ⟨S1x1x16, .f32⟩
  | 37 => ⟨S4x2048x16, .f32⟩
  | 38 => ⟨S4x2048x16, .f32⟩
  | 39 => ⟨S4x2048x4x4, .f32⟩
  | 40 => ⟨S4x2048x1x1, .i32⟩
  | 41 => ⟨S_, .i32⟩
  | 42 => ⟨S4x2048x1x1, .i32⟩
  | 43 => ⟨S4x2048x1x1, .i1⟩
  | 44 => ⟨S_, .i32⟩
  | 45 => ⟨S4x2048x1x1, .i32⟩
  | 46 => ⟨S4x2048x1x1, .i32⟩
  | 47 => ⟨S4x2048x1x1, .i32⟩
  | 48 => ⟨S1, .i32⟩
  | 49 => ⟨S_, .i32⟩
  | 50 => ⟨S4x2048x1x1, .i32⟩
  | 51 => ⟨S4x2048x1x1, .i1⟩
  | 52 => ⟨S1x1x1x1, .i32⟩
  | 53 => ⟨S4x2048x1x1, .i32⟩
  | 54 => ⟨S4x2048x1x1, .i1⟩
  | 55 => ⟨S4x2048x1x1, .i1⟩
  | 56 => ⟨S_, .i1⟩
  | 57 => ⟨S4x2048x1, .i1⟩
  | 58 => ⟨S4x2048x1x4, .f32⟩
  | 59 => ⟨S4x2048x1x4, .i1⟩
  | 60 => ⟨S_, .f32⟩
  | 61 => ⟨S4x2048x1x4, .f32⟩
  | 62 => ⟨S4x2048x1x4, .f32⟩
  | 63 => ⟨S4x2048x4, .f32⟩
  | 64 => ⟨S_, .f32⟩
  | 65 => ⟨S4x2048, .f32⟩
  | 66 => ⟨S_, .f32⟩
  | 67 => ⟨S4x2048, .f32⟩
  | 68 => ⟨S4x2048, .f32⟩
  | 69 => ⟨S4x2048x1, .f32⟩
  | 70 => ⟨S4x2048x4, .f32⟩
  | 71 => ⟨S4x2048x4, .f32⟩
  | 72 => ⟨S4x2048x4, .f32⟩
  | 73 => ⟨S_, .f32⟩
  | 74 => ⟨S4x2048, .f32⟩
  | 75 => ⟨S4x2048x1, .f32⟩
  | 76 => ⟨S4x2048x4, .f32⟩
  | 77 => ⟨S4x2048x4, .f32⟩
  | 78 => ⟨S4x2048x2, .f32⟩
  | 79 => ⟨S4x2048x2, .i32⟩
  | 80 => ⟨S_, .f32⟩
  | 81 => ⟨S4x2048, .f32⟩
  | 82 => ⟨S4x2048x1, .f32⟩
  | 83 => ⟨S4x2048x2, .f32⟩
  | 84 => ⟨S4x2048x2, .f32⟩
  | 85 => ⟨S4x2048x2, .f32⟩
  | 86 => ⟨S4x2048x2, .f32⟩
  | 87 => ⟨S_, .i32⟩
  | 88 => ⟨S4x2048x1, .i32⟩
  | 89 => ⟨S4x2048x1, .i32⟩
  | 90 => ⟨S4x2048x2, .i32⟩
  | 91 => ⟨S4x2048x2, .i32⟩
  | 92 => ⟨S4x2048x2x1, .i32⟩
  | 93 => ⟨S1x1x1x16, .i32⟩
  | 94 => ⟨S4x2048x2x16, .i32⟩
  | 95 => ⟨S4x2048x2x16, .i32⟩
  | 96 => ⟨S4x2048x2x16, .i1⟩
  | 97 => ⟨S4x2048x2x16, .f32⟩
  | 98 => ⟨S4x2048x2x1, .f32⟩
  | 99 => ⟨S4x2048x2x16, .f32⟩
  | 100 => ⟨S4x2048x2x16, .f32⟩
  | 101 => ⟨S_, .f32⟩
  | 102 => ⟨S4x2048x16, .f32⟩
  | 103 => ⟨S16x2048x512, .f32⟩
  | 104 => ⟨S4x2048x16x512, .f32⟩
  | 105 => ⟨S4x2048x16x512, .f32⟩
  | 106 => ⟨S4x2048x16x512, .f32⟩
  | 107 => ⟨S_, .f32⟩
  | 108 => ⟨S4x2048x16x512, .f32⟩
  | 109 => ⟨S4x2048x16x512, .f32⟩
  | 110 => ⟨S_, .f32⟩
  | 111 => ⟨S4x2048x16x512, .f32⟩
  | 112 => ⟨S4x2048x16x512, .f32⟩
  | 113 => ⟨S4x2048x16x512, .f32⟩
  | 114 => ⟨S16x2048x512, .f32⟩
  | 115 => ⟨S4x2048x16x512, .f32⟩
  | 116 => ⟨S4x2048x16x512, .f32⟩
  | 117 => ⟨S4x2048x16x1, .f32⟩
  | 118 => ⟨S4x2048x16x512, .f32⟩
  | 119 => ⟨S4x2048x16x512, .f32⟩
  | 120 => ⟨S16x512x2048, .f32⟩
  | 121 => ⟨S4x2048x2048, .f32⟩
  | 122 => ⟨S_, .f32⟩
  | 123 => ⟨S4x2048x2048, .f32⟩
  | 124 => ⟨S4x2048x2048, .f32⟩
  | 125 => ⟨S_, .f32⟩
  | 126 => ⟨S4x1x2048, .f32⟩
  | 127 => ⟨S4x1x2048, .f32⟩
  | _ => ⟨S8192x2048, .bf16⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x2048, .f32⟩
  | 10 => ⟨S4x2048x2048, .f32⟩
  | 11 => ⟨S4x2048x2048, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1, .f32⟩
  | 22 => ⟨S4x2048x2048, .f32⟩
  | 23 => ⟨S4x2048x2048, .f32⟩
  | 24 => ⟨S1x1x2048, .f32⟩
  | 25 => ⟨S4x2048x2048, .f32⟩
  | 26 => ⟨S4x2048x2048, .f32⟩
  | 27 => ⟨S1x1x2048, .f32⟩
  | 28 => ⟨S4x2048x2048, .f32⟩
  | 29 => ⟨S4x2048x2048, .f32⟩
  | 30 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_values : Ref sig .tc := ⟨.hbm, 33, rfl⟩
abbrev main_indices : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_c_2 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_c_3 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v24 : Ref sig .tc := ⟨.hbm, 62, rfl⟩
abbrev main_v25 : Ref sig .tc := ⟨.hbm, 63, rfl⟩
abbrev main_cst_2 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_values_5 : Ref sig .tc := ⟨.hbm, 78, rfl⟩
abbrev main_indices_6 : Ref sig .tc := ⟨.hbm, 79, rfl⟩
abbrev main_cst_7 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_8 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_9 : Ref sig .tc := ⟨.hbm, 122, rfl⟩
abbrev main_v63 : Ref sig .tc := ⟨.hbm, 123, rfl⟩
abbrev main_v64 : Ref sig .tc := ⟨.hbm, 124, rfl⟩
abbrev main_cst_10 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_11 : Ref sig .tc := ⟨.hbm, 131, rfl⟩
abbrev main_v70 : Ref sig .tc := ⟨.hbm, 132, rfl⟩
abbrev main_v71 : Ref sig .tc := ⟨.hbm, 133, rfl⟩
abbrev main_cst_12 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_cst_13 : Ref sig .tc := ⟨.hbm, 140, rfl⟩
abbrev main_v77 : Ref sig .tc := ⟨.hbm, 141, rfl⟩
abbrev main_v78 : Ref sig .tc := ⟨.hbm, 142, rfl⟩
abbrev main_cst_14 : Ref sig .tc := ⟨.hbm, 143, rfl⟩
abbrev main_v79 : Ref sig .tc := ⟨.hbm, 144, rfl⟩
abbrev main_v80 : Ref sig .tc := ⟨.hbm, 145, rfl⟩
abbrev main_cst_15 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩

abbrev nD : Nat := 1
abbrev τ : Topo := Topo.v7x

variable {F : FTy → Type} [FloatOps F]
-- ==== Sample.lean ====
abbrev S512x2048 : Shape := ⟨2, ![512, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S16x2048x512 : Shape := ⟨3, ![16, 2048, 512]⟩
abbrev S16x512x2048 : Shape := ⟨3, ![16, 512, 2048]⟩
abbrev S1x512x2048 : Shape := ⟨3, ![1, 512, 2048]⟩
abbrev S2048 : Shape := ⟨1, ![2048]⟩
abbrev S_ : Shape := ⟨0, ![]⟩
abbrev S2048x108 : Shape := ⟨2, ![2048, 108]⟩
abbrev S2048x128 : Shape := ⟨2, ![2048, 128]⟩
abbrev S108 : Shape := ⟨1, ![108]⟩
abbrev S128 : Shape := ⟨1, ![128]⟩
abbrev S1x128 : Shape := ⟨2, ![1, 128]⟩
abbrev S1x2048 : Shape := ⟨2, ![1, 2048]⟩
abbrev S1x2048x512 : Shape := ⟨3, ![1, 2048, 512]⟩
abbrev S512x128 : Shape := ⟨2, ![512, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 23
  | .vmem => 16
  | .smem => 0
  | _ => 0

abbrev bufTy : (tb : Table) → Fin (tcTables nBuf tb) → BufTy
  | .hbm, ⟨0, _⟩ => ⟨S512x2048, .bf16⟩
  | .hbm, ⟨1, _⟩ => ⟨S2048x4, .f32⟩
  | .hbm, ⟨2, _⟩ => ⟨S4, .f32⟩
  | .hbm, ⟨3, _⟩ => ⟨S2048x16, .f32⟩
  | .hbm, ⟨4, _⟩ => ⟨S16, .f32⟩
  | .hbm, ⟨5, _⟩ => ⟨S16x2048x512, .bf16⟩
  | .hbm, ⟨6, _⟩ => ⟨S16x2048x512, .bf16⟩
  | .hbm, ⟨7, _⟩ => ⟨S16x512x2048, .bf16⟩
  | .hbm, ⟨8, _⟩ => ⟨S512x2048, .f32⟩
  | .hbm, ⟨9, _⟩ => ⟨S1x512x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048x108, .f32⟩
  | .hbm, ⟨14, _⟩ => ⟨S2048x128, .f32⟩
  | .hbm, ⟨15, _⟩ => ⟨S2048x128, .bf16⟩
  | .hbm, ⟨16, _⟩ => ⟨S_, .f32⟩
  | .hbm, ⟨17, _⟩ => ⟨S108, .f32⟩
  | .hbm, ⟨18, _⟩ => ⟨S128, .f32⟩
  | .hbm, ⟨19, _⟩ => ⟨S1x128, .f32⟩
  | .hbm, ⟨20, _⟩ => ⟨S1x2048, .f32⟩
  | .hbm, ⟨21, _⟩ => ⟨S1x2048, .f32⟩
  | .hbm, ⟨22, _⟩ => ⟨S512x2048, .f32⟩
  | .local _ .vmem, ⟨0, _⟩ => ⟨S512x2048, .bf16⟩
  | .local _ .vmem, ⟨1, _⟩ => ⟨S2048x128, .bf16⟩
  | .local _ .vmem, ⟨2, _⟩ => ⟨S1x128, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S512x2048, .f32⟩
  | .local _ .vmem, ⟨10, _⟩ => ⟨S1x512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x128, .f32⟩
  | .local _ .vmem, ⟨15, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== SampleRefIdeal.lean ====
abbrev S512x2048 : Shape := ⟨2, ![512, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S16x2048x512 : Shape := ⟨3, ![16, 2048, 512]⟩
abbrev S16x512x2048 : Shape := ⟨3, ![16, 512, 2048]⟩
abbrev S1x512x2048 : Shape := ⟨3, ![1, 512, 2048]⟩
abbrev S2048 : Shape := ⟨1, ![2048]⟩
abbrev S1x512x4 : Shape := ⟨3, ![1, 512, 4]⟩
abbrev S1x1x4 : Shape := ⟨3, ![1, 1, 4]⟩
abbrev S_ : Shape := ⟨0, ![]⟩
abbrev S1x512 : Shape := ⟨2, ![1, 512]⟩
abbrev S1x512x1 : Shape := ⟨3, ![1, 512, 1]⟩
abbrev S1x512x16 : Shape := ⟨3, ![1, 512, 16]⟩
abbrev S1x1x16 : Shape := ⟨3, ![1, 1, 16]⟩
abbrev S1x512x4x4 : Shape := ⟨4, ![1, 512, 4, 4]⟩
abbrev S1x512x1x1 : Shape := ⟨4, ![1, 512, 1, 1]⟩
abbrev S512x1x1 : Shape := ⟨3, ![512, 1, 1]⟩
abbrev S1 : Shape := ⟨1, ![1]⟩
abbrev S1x1x1 : Shape := ⟨3, ![1, 1, 1]⟩
abbrev S512x1 : Shape := ⟨2, ![512, 1]⟩
abbrev S1x512x1x4 : Shape := ⟨4, ![1, 512, 1, 4]⟩
abbrev S1x512x2 : Shape := ⟨3, ![1, 512, 2]⟩
abbrev S1x512x2x1 : Shape := ⟨4, ![1, 512, 2, 1]⟩
abbrev S1x1x1x16 : Shape := ⟨4, ![1, 1, 1, 16]⟩
abbrev S1x512x2x16 : Shape := ⟨4, ![1, 512, 2, 16]⟩
abbrev S1x512x16x512 : Shape := ⟨4, ![1, 512, 16, 512]⟩
abbrev S1x512x16x1 : Shape := ⟨4, ![1, 512, 16, 1]⟩
abbrev S1x1x2048 : Shape := ⟨3, ![1, 1, 2048]⟩

abbrev nBuf : Space → Nat
  | .hbm => 159
  | .vmem => 0
  | .smem => 0
  | _ => 0

abbrev hbmTy0_0 (i : Nat) : BufTy := match i % 128 with
  | 0 => ⟨S512x2048, .bf16⟩
  | 1 => ⟨S2048x4, .f32⟩
  | 2 => ⟨S4, .f32⟩
  | 3 => ⟨S2048x16, .f32⟩
  | 4 => ⟨S16, .f32⟩
  | 5 => ⟨S16x2048x512, .bf16⟩
  | 6 => ⟨S16x2048x512, .bf16⟩
  | 7 => ⟨S16x512x2048, .bf16⟩
  | 8 => ⟨S512x2048, .f32⟩
  | 9 => ⟨S1x512x2048, .f32⟩
  | 10 => ⟨S2048, .f32⟩
  | 11 => ⟨S2048, .f32⟩
  | 12 => ⟨S512x2048, .f32⟩
  | 13 => ⟨S1x512x2048, .f32⟩
  | 14 => ⟨S1x512x2048, .f32⟩
  | 15 => ⟨S1x512x4, .f32⟩
  | 16 => ⟨S1x1x4, .f32⟩
  | 17 => ⟨S1x512x4, .f32⟩
  | 18 => ⟨S1x512x4, .f32⟩
  | 19 => ⟨S_, .f32⟩
  | 20 => ⟨S1x512, .f32⟩
  | 21 => ⟨S_, .f32⟩
  | 22 => ⟨S1x512, .f32⟩
  | 23 => ⟨S1x512, .f32⟩
  | 24 => ⟨S1x512x1, .f32⟩
  | 25 => ⟨S1x512x4, .f32⟩
  | 26 => ⟨S1x512x4, .f32⟩
  | 27 => ⟨S1x512x4, .f32⟩
  | 28 => ⟨S_, .f32⟩
  | 29 => ⟨S1x512, .f32⟩
  | 30 => ⟨S1x512x1, .f32⟩
  | 31 => ⟨S1x512x4, .f32⟩
  | 32 => ⟨S1x512x4, .f32⟩
  | 33 => ⟨S1x512x1, .f32⟩
  | 34 => ⟨S1x512x1, .i32⟩
  | 35 => ⟨S1x512x16, .f32⟩
  | 36 => ⟨S1x1x16, .f32⟩
  | 37 => ⟨S1x512x16, .f32⟩
  | 38 => ⟨S1x512x16, .f32⟩
  | 39 => ⟨S1x512x4x4, .f32⟩
  | 40 => ⟨S1x512x1x1, .i32⟩
  | 41 => ⟨S_, .i32⟩
  | 42 => ⟨S1x512x1x1, .i32⟩
  | 43 => ⟨S1x512x1x1, .i1⟩
  | 44 => ⟨S_, .i32⟩
  | 45 => ⟨S1x512x1x1, .i32⟩
  | 46 => ⟨S1x512x1x1, .i32⟩
  | 47 => ⟨S1x512x1x1, .i32⟩
  | 48 => ⟨S512x1x1, .i32⟩
  | 49 => ⟨S1, .i32⟩
  | 50 => ⟨S_, .i32⟩
  | 51 => ⟨S512x1x1, .i32⟩
  | 52 => ⟨S512x1x1, .i1⟩
  | 53 => ⟨S1x1x1, .i32⟩
  | 54 => ⟨S512x1x1, .i32⟩
  | 55 => ⟨S512x1x1, .i1⟩
  | 56 => ⟨S512x1x1, .i1⟩
  | 57 => ⟨S_, .i1⟩
  | 58 => ⟨S512x1, .i1⟩
  | 59 => ⟨S1x512x1x4, .f32⟩
  | 60 => ⟨S1x512x1x4, .i1⟩
  | 61 => ⟨S_, .f32⟩
  | 62 => ⟨S1x512x1x4, .f32⟩
  | 63 => ⟨S1x512x1x4, .f32⟩
  | 64 => ⟨S1x512x4, .f32⟩
  | 65 => ⟨S_, .f32⟩
  | 66 => ⟨S1x512, .f32⟩
  | 67 => ⟨S_, .f32⟩
  | 68 => ⟨S1x512, .f32⟩
  | 69 => ⟨S1x512, .f32⟩
  | 70 => ⟨S1x512x1, .f32⟩
  | 71 => ⟨S1x512x4, .f32⟩
  | 72 => ⟨S1x512x4, .f32⟩
  | 73 => ⟨S1x512x4, .f32⟩
  | 74 => ⟨S_, .f32⟩
  | 75 => ⟨S1x512, .f32⟩
  | 76 => ⟨S1x512x1, .f32⟩
  | 77 => ⟨S1x512x4, .f32⟩
  | 78 => ⟨S1x512x4, .f32⟩
  | 79 => ⟨S1x512x2, .f32⟩
  | 80 => ⟨S1x512x2, .i32⟩
  | 81 => ⟨S_, .f32⟩
  | 82 => ⟨S1x512, .f32⟩
  | 83 => ⟨S1x512x1, .f32⟩
  | 84 => ⟨S1x512x2, .f32⟩
  | 85 => ⟨S1x512x2, .f32⟩
  | 86 => ⟨S1x512x2, .f32⟩
  | 87 => ⟨S1x512x2, .f32⟩
  | 88 => ⟨S_, .i32⟩
  | 89 => ⟨S1x512x1, .i32⟩
  | 90 => ⟨S1x512x1, .i32⟩
  | 91 => ⟨S1x512x2, .i32⟩
  | 92 => ⟨S1x512x2, .i32⟩
  | 93 => ⟨S1x512x2x1, .i32⟩
  | 94 => ⟨S1x1x1x16, .i32⟩
  | 95 => ⟨S1x512x2x16, .i32⟩
  | 96 => ⟨S1x512x2x16, .i32⟩
  | 97 => ⟨S1x512x2x16, .i1⟩
  | 98 => ⟨S1x512x2x16, .f32⟩
  | 99 => ⟨S1x512x2x1, .f32⟩
  | 100 => ⟨S1x512x2x16, .f32⟩
  | 101 => ⟨S1x512x2x16, .f32⟩
  | 102 => ⟨S_, .f32⟩
  | 103 => ⟨S1x512x16, .f32⟩
  | 104 => ⟨S16x2048x512, .f32⟩
  | 105 => ⟨S1x512x16x512, .f32⟩
  | 106 => ⟨S1x512x16x512, .f32⟩
  | 107 => ⟨S1x512x16x512, .f32⟩
  | 108 => ⟨S_, .f32⟩
  | 109 => ⟨S1x512x16x512, .f32⟩
  | 110 => ⟨S1x512x16x512, .f32⟩
  | 111 => ⟨S_, .f32⟩
  | 112 => ⟨S1x512x16x512, .f32⟩
  | 113 => ⟨S1x512x16x512, .f32⟩
  | 114 => ⟨S1x512x16x512, .f32⟩
  | 115 => ⟨S16x2048x512, .f32⟩
  | 116 => ⟨S1x512x16x512, .f32⟩
  | 117 => ⟨S1x512x16x512, .f32⟩
  | 118 => ⟨S1x512x16x1, .f32⟩
  | 119 => ⟨S1x512x16x512, .f32⟩
  | 120 => ⟨S1x512x16x512, .f32⟩
  | 121 => ⟨S16x512x2048, .f32⟩
  | 122 => ⟨S1x512x2048, .f32⟩
  | 123 => ⟨S_, .f32⟩
  | 124 => ⟨S1x512x2048, .f32⟩
  | 125 => ⟨S1x512x2048, .f32⟩
  | 126 => ⟨S_, .f32⟩
  | 127 => ⟨S1x512x2048, .f32⟩
  | _ => ⟨S512x2048, .bf16⟩

abbrev hbmTy0_1 (i : Nat) : BufTy := match i % 128 with
  | 0 => ⟨S1x512x2048, .f32⟩
  | 1 => ⟨S1x512x2048, .f32⟩
  | 2 => ⟨S1x512x2048, .f32⟩
  | 3 => ⟨S_, .f32⟩
  | 4 => ⟨S1x512, .f32⟩
  | 5 => ⟨S1x512x1, .f32⟩
  | 6 => ⟨S_, .f32⟩
  | 7 => ⟨S1x512x1, .f32⟩
  | 8 => ⟨S1x512x1, .f32⟩
  | 9 => ⟨S1x512x2048, .f32⟩
  | 10 => ⟨S1x512x2048, .f32⟩
  | 11 => ⟨S1x512x2048, .f32⟩
  | 12 => ⟨S_, .f32⟩
  | 13 => ⟨S1x512, .f32⟩
  | 14 => ⟨S1x512x1, .f32⟩
  | 15 => ⟨S_, .f32⟩
  | 16 => ⟨S1x512x1, .f32⟩
  | 17 => ⟨S1x512x1, .f32⟩
  | 18 => ⟨S_, .f32⟩
  | 19 => ⟨S1x512x1, .f32⟩
  | 20 => ⟨S1x512x1, .f32⟩
  | 21 => ⟨S1x512x1, .f32⟩
  | 22 => ⟨S1x512x2048, .f32⟩
  | 23 => ⟨S1x512x2048, .f32⟩
  | 24 => ⟨S1x1x2048, .f32⟩
  | 25 => ⟨S1x512x2048, .f32⟩
  | 26 => ⟨S1x512x2048, .f32⟩
  | 27 => ⟨S1x1x2048, .f32⟩
  | 28 => ⟨S1x512x2048, .f32⟩
  | 29 => ⟨S1x512x2048, .f32⟩
  | 30 => ⟨S512x2048, .f32⟩
  | _ => ⟨S512x2048, .bf16⟩

abbrev hbmTy (i : Nat) : BufTy := match i / 128 with
  | 0 => hbmTy0_0 i
  | 1 => hbmTy0_1 i
  | _ => ⟨S512x2048, .bf16⟩

abbrev bufTy : (tb : Table) → Fin (tcTables nBuf tb) → BufTy
  | .hbm, ⟨i, _⟩ => hbmTy i
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_values : Ref sig .tc := ⟨.hbm, 33, rfl⟩
abbrev main_indices : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_call0_cst : Ref sig .tc := ⟨.hbm, 61, rfl⟩
abbrev main_call0_v15 : Ref sig .tc := ⟨.hbm, 62, rfl⟩
abbrev main_v24 : Ref sig .tc := ⟨.hbm, 63, rfl⟩
abbrev main_v25 : Ref sig .tc := ⟨.hbm, 64, rfl⟩
abbrev main_cst_2 : Ref sig .tc := ⟨.hbm, 65, rfl⟩
abbrev main_v26 : Ref sig .tc := ⟨.hbm, 66, rfl⟩
abbrev main_cst_3 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_4 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_values_5 : Ref sig .tc := ⟨.hbm, 79, rfl⟩
abbrev main_indices_6 : Ref sig .tc := ⟨.hbm, 80, rfl⟩
abbrev main_cst_7 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_8 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_9 : Ref sig .tc := ⟨.hbm, 123, rfl⟩
abbrev main_v63 : Ref sig .tc := ⟨.hbm, 124, rfl⟩
abbrev main_v64 : Ref sig .tc := ⟨.hbm, 125, rfl⟩
abbrev main_cst_10 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_11 : Ref sig .tc := ⟨.hbm, 131, rfl⟩
abbrev main_v69 : Ref sig .tc := ⟨.hbm, 132, rfl⟩
abbrev main_v70 : Ref sig .tc := ⟨.hbm, 133, rfl⟩
abbrev main_cst_12 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_cst_13 : Ref sig .tc := ⟨.hbm, 140, rfl⟩
abbrev main_v76 : Ref sig .tc := ⟨.hbm, 141, rfl⟩
abbrev main_v77 : Ref sig .tc := ⟨.hbm, 142, rfl⟩
abbrev main_cst_14 : Ref sig .tc := ⟨.hbm, 143, rfl⟩
abbrev main_v78 : Ref sig .tc := ⟨.hbm, 144, rfl⟩
abbrev main_v79 : Ref sig .tc := ⟨.hbm, 145, rfl⟩
abbrev main_cst_15 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩

abbrev nD : Nat := 1
abbrev τ : Topo := Topo.v7x

variable {F : FTy → Type} [FloatOps F]
-- ==== MobaQ.lean ====
abbrev S8192x2048 : Shape := ⟨2, ![8192, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaQIdeal.lean ====
abbrev S8192x2048 : Shape := ⟨2, ![8192, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaQRefIdeal.lean ====
abbrev S8192x2048 : Shape := ⟨2, ![8192, 2048]⟩
abbrev S2048x6144 : Shape := ⟨2, ![2048, 6144]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MobaK.lean ====
abbrev S8192x2048 : Shape := ⟨2, ![8192, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaKIdeal.lean ====
abbrev S8192x2048 : Shape := ⟨2, ![8192, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaKRefIdeal.lean ====
abbrev S8192x2048 : Shape := ⟨2, ![8192, 2048]⟩
abbrev S2048x6144 : Shape := ⟨2, ![2048, 6144]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MobaV.lean ====
abbrev S8192x2048 : Shape := ⟨2, ![8192, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaVIdeal.lean ====
abbrev S8192x2048 : Shape := ⟨2, ![8192, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaVRefIdeal.lean ====
abbrev S8192x2048 : Shape := ⟨2, ![8192, 2048]⟩
abbrev S2048x6144 : Shape := ⟨2, ![2048, 6144]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MobaSample.lean ====
abbrev S512x2048 : Shape := ⟨2, ![512, 2048]⟩
abbrev S2048x6144 : Shape := ⟨2, ![2048, 6144]⟩
abbrev S512x6144 : Shape := ⟨2, ![512, 6144]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S2048x6144, .f32⟩
  | .hbm, ⟨2, _⟩ => ⟨S512x6144, .f32⟩
  | .local _ .vmem, ⟨0, _⟩ => ⟨S512x2048, .bf16⟩
  | .local _ .vmem, ⟨1, _⟩ => ⟨S2048x1024, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaSampleIdeal.lean ====
abbrev S512x2048 : Shape := ⟨2, ![512, 2048]⟩
abbrev S2048x6144 : Shape := ⟨2, ![2048, 6144]⟩
abbrev S512x6144 : Shape := ⟨2, ![512, 6144]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S2048x6144, .f32⟩
  | .hbm, ⟨2, _⟩ => ⟨S512x6144, .f32⟩
  | .local _ .vmem, ⟨0, _⟩ => ⟨S512x2048, .bf16⟩
  | .local _ .vmem, ⟨1, _⟩ => ⟨S2048x1024, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaSampleRefIdeal.lean ====
abbrev S512x2048 : Shape := ⟨2, ![512, 2048]⟩
abbrev S2048x6144 : Shape := ⟨2, ![2048, 6144]⟩
abbrev S512x6144 : Shape := ⟨2, ![512, 6144]⟩

abbrev nBuf : Space → Nat
  | .hbm => 4
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x6144, .f32⟩
  | .hbm, ⟨2, _⟩ => ⟨S512x2048, .f32⟩
  | .hbm, ⟨3, _⟩ => ⟨S512x6144, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DiffQ.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffQIdeal.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffQRefIdeal.lean ====
abbrev S8192x2048 : Shape := ⟨2, ![8192, 2048]⟩
abbrev S2048x5656 : Shape := ⟨2, ![2048, 5656]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DiffK.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffKIdeal.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffKRefIdeal.lean ====
abbrev S8192x2048 : Shape := ⟨2, ![8192, 2048]⟩
abbrev S2048x5656 : Shape := ⟨2, ![2048, 5656]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DiffV.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffVIdeal.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffVRefIdeal.lean ====
abbrev S8192x2048 : Shape := ⟨2, ![8192, 2048]⟩
abbrev S2048x5656 : Shape := ⟨2, ![2048, 5656]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NsaQ.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaQIdeal.lean ====
abbrev S8192x2048 : Shape := ⟨2, ![8192, 2048]⟩
abbrev S2048x5656 : Shape := ⟨2, ![2048, 5656]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaQRefIdeal.lean ====
abbrev S8192x2048 : Shape := ⟨2, ![8192, 2048]⟩
abbrev S2048x5656 : Shape := ⟨2, ![2048, 5656]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CmpK.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CmpKIdeal.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CmpKRefIdeal.lean ====
abbrev S8192x2048 : Shape := ⟨2, ![8192, 2048]⟩
abbrev S2048x5656 : Shape := ⟨2, ![2048, 5656]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CmpV.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CmpVIdeal.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CmpVRefIdeal.lean ====
abbrev S8192x2048 : Shape := ⟨2, ![8192, 2048]⟩
abbrev S2048x5656 : Shape := ⟨2, ![2048, 5656]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SlcK.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SlcKIdeal.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SlcKRefIdeal.lean ====
abbrev S8192x2048 : Shape := ⟨2, ![8192, 2048]⟩
abbrev S2048x5656 : Shape := ⟨2, ![2048, 5656]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SlcV.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SlcVIdeal.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SlcVRefIdeal.lean ====
abbrev S8192x2048 : Shape := ⟨2, ![8192, 2048]⟩
abbrev S2048x5656 : Shape := ⟨2, ![2048, 5656]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WinK.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinKIdeal.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinKRefIdeal.lean ====
abbrev S8192x2048 : Shape := ⟨2, ![8192, 2048]⟩
abbrev S2048x5656 : Shape := ⟨2, ![2048, 5656]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WinV.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinVIdeal.lean ====
abbrev S8192x2048 : Shape := ⟨2, ![8192, 2048]⟩
abbrev S2048x5656 : Shape := ⟨2, ![2048, 5656]⟩
abbrev S8192x256 : Shape := ⟨2, ![8192, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinVRefIdeal.lean ====
abbrev S8192x2048 : Shape := ⟨2, ![8192, 2048]⟩
abbrev S2048x5656 : Shape := ⟨2, ![2048, 5656]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5656, .f32⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenSample.lean ====
abbrev S512x2048 : Shape := ⟨2, ![512, 2048]⟩
abbrev S2048x5656 : Shape := ⟨2, ![2048, 5656]⟩
abbrev S512x5632 : Shape := ⟨2, ![512, 5632]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S2048x5656, .f32⟩
  | .hbm, ⟨2, _⟩ => ⟨S512x5632, .f32⟩
  | .local _ .vmem, ⟨0, _⟩ => ⟨S512x2048, .bf16⟩
  | .local _ .vmem, ⟨1, _⟩ => ⟨S2048x512, .f32⟩
  | .local _ .vmem, ⟨2, _⟩ => ⟨S2048x512, .f32⟩
  | .local _ .vmem, ⟨3, _⟩ => ⟨S512x512, .f32⟩
  | .local _ .vmem, ⟨4, _⟩ => ⟨S512x512, .f32⟩
  | .local _ .vmem, ⟨5, _⟩ => ⟨S2048x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenSampleRefIdeal.lean ====
abbrev S512x2048 : Shape := ⟨2, ![512, 2048]⟩
abbrev S2048x5656 : Shape := ⟨2, ![2048, 5656]⟩
abbrev S2048x5632 : Shape := ⟨2, ![2048, 5632]⟩
abbrev S512x5632 : Shape := ⟨2, ![512, 5632]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x5656, .f32⟩
  | .hbm, ⟨2, _⟩ => ⟨S512x2048, .f32⟩
  | .hbm, ⟨3, _⟩ => ⟨S2048x5632, .f32⟩
  | .hbm, ⟨4, _⟩ => ⟨S512x5632, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenOut.lean ====
abbrev S8192x1024 : Shape := ⟨2, ![8192, 1024]⟩
abbrev S2048x2048 : Shape := ⟨2, ![2048, 2048]⟩
abbrev S8192x2048 : Shape := ⟨2, ![8192, 2048]⟩
abbrev S4x1x2048 : Shape := ⟨3, ![4, 1, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S4x1x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutIdeal.lean ====
abbrev S8192x1024 : Shape := ⟨2, ![8192, 1024]⟩
abbrev S2048x2048 : Shape := ⟨2, ![2048, 2048]⟩
abbrev S8192x2048 : Shape := ⟨2, ![8192, 2048]⟩
abbrev S4x1x2048 : Shape := ⟨3, ![4, 1, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S4x1x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutRefIdeal.lean ====
abbrev S8192x1024 : Shape := ⟨2, ![8192, 1024]⟩
abbrev S2048x2048 : Shape := ⟨2, ![2048, 2048]⟩
abbrev S8192x2048 : Shape := ⟨2, ![8192, 2048]⟩
abbrev S4x1x2048 : Shape := ⟨3, ![4, 1, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S4x1x2048, .f32⟩
  | .hbm, ⟨5, _⟩ => ⟨S2048, .f32⟩
  | .hbm, ⟨6, _⟩ => ⟨S2048, .f32⟩
  | .hbm, ⟨7, _⟩ => ⟨S8192x2048, .bf16⟩
  | .hbm, ⟨8, _⟩ => ⟨S4x2048x2048, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x1x2048, .f32⟩
  | .hbm, ⟨18, _⟩ => ⟨S4x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S1x1x2048, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== OddOut.lean ====
abbrev S8192x2048 : Shape := ⟨2, ![8192, 2048]⟩
abbrev S2048x2048 : Shape := ⟨2, ![2048, 2048]⟩
abbrev S4x1x2048 : Shape := ⟨3, ![4, 1, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddOutIdeal.lean ====
abbrev S8192x2048 : Shape := ⟨2, ![8192, 2048]⟩
abbrev S2048x2048 : Shape := ⟨2, ![2048, 2048]⟩
abbrev S4x1x2048 : Shape := ⟨3, ![4, 1, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddOutRefIdeal.lean ====
abbrev S8192x2048 : Shape := ⟨2, ![8192, 2048]⟩
abbrev S2048x2048 : Shape := ⟨2, ![2048, 2048]⟩
abbrev S4x1x2048 : Shape := ⟨3, ![4, 1, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S4x2048x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x1x2048, .f32⟩
  | .hbm, ⟨16, _⟩ => ⟨S4x1x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S1x1x2048, .f32⟩
  | .hbm, ⟨45, _⟩ => ⟨S4x2048x2048, .f32⟩
  | .hbm, ⟨46, _⟩ => ⟨S4x2048x2048, .f32⟩
  | .hbm, ⟨47, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== EvenOutSample.lean ====
abbrev S512x1024 : Shape := ⟨2, ![512, 1024]⟩
abbrev S2048x2048 : Shape := ⟨2, ![2048, 2048]⟩
abbrev S512x2048 : Shape := ⟨2, ![512, 2048]⟩
abbrev S1x512x2048 : Shape := ⟨3, ![1, 512, 2048]⟩
abbrev S2048 : Shape := ⟨1, ![2048]⟩
abbrev S1x2048 : Shape := ⟨2, ![1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S2048x2048, .bf16⟩
  | .hbm, ⟨3, _⟩ => ⟨S512x2048, .f32⟩
  | .hbm, ⟨4, _⟩ => ⟨S1x512x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S2048x2048, .bf16⟩
  | .local _ .vmem, ⟨3, _⟩ => ⟨S512x2048, .f32⟩
  | .local _ .vmem, ⟨4, _⟩ => ⟨S1x512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== EvenOutSampleRefIdeal.lean ====
abbrev S512x1024 : Shape := ⟨2, ![512, 1024]⟩
abbrev S2048x2048 : Shape := ⟨2, ![2048, 2048]⟩
abbrev S512x2048 : Shape := ⟨2, ![512, 2048]⟩
abbrev S1x512x2048 : Shape := ⟨3, ![1, 512, 2048]⟩
abbrev S2048 : Shape := ⟨1, ![2048]⟩
abbrev S_ : Shape := ⟨0, ![]⟩
abbrev S1x512 : Shape := ⟨2, ![1, 512]⟩
abbrev S1x512x1 : Shape := ⟨3, ![1, 512, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S2048x2048, .bf16⟩
  | .hbm, ⟨3, _⟩ => ⟨S512x2048, .f32⟩
  | .hbm, ⟨4, _⟩ => ⟨S1x512x2048, .f32⟩
  | .hbm, ⟨5, _⟩ => ⟨S2048, .f32⟩
  | .hbm, ⟨6, _⟩ => ⟨S2048, .f32⟩
  | .hbm, ⟨7, _⟩ => ⟨S512x2048, .bf16⟩
  | .hbm, ⟨8, _⟩ => ⟨S1x512x2048, .f32⟩
  | .hbm, ⟨9, _⟩ => ⟨S512x2048, .f32⟩
  | .hbm, ⟨10, _⟩ => ⟨S2048x2048, .f32⟩
  | .hbm, ⟨11, _⟩ => ⟨S512x2048, .f32⟩
  | .hbm, ⟨12, _⟩ => ⟨S1x512x2048, .f32⟩
  | .hbm, ⟨13, _⟩ => ⟨S_, .f32⟩
  | .hbm, ⟨14, _⟩ => ⟨S1x512x2048, .f32⟩
  | .hbm, ⟨15, _⟩ => ⟨S1x512x2048, .f32⟩
  | .hbm, ⟨16, _⟩ => ⟨S_, .f32⟩
  | .hbm, ⟨17, _⟩ => ⟨S1x512x2048, .f32⟩
  | .hbm, ⟨18, _⟩ => ⟨S1x512x2048, .f32⟩
  | .hbm, ⟨19, _⟩ => ⟨S1x512x2048, .f32⟩
  | .hbm, ⟨20, _⟩ => ⟨S1x512x2048, .f32⟩
  | .hbm, ⟨21, _⟩ => ⟨S_, .f32⟩
  | .hbm, ⟨22, _⟩ => ⟨S1x512, .f32⟩
  | .hbm, ⟨23, _⟩ => ⟨S1x512x1, .f32⟩
  | .hbm, ⟨24, _⟩ => ⟨S_, .f32⟩
  | .hbm, ⟨25, _⟩ => ⟨S1x512x1, .f32⟩
  | .hbm, ⟨26, _⟩ => ⟨S1x512x1, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512, .f32⟩
  | .hbm, ⟨32, _⟩ => ⟨S1x512x1, .f32⟩
  | .hbm, ⟨33, _⟩ => ⟨S_, .f32⟩
  | .hbm, ⟨34, _⟩ => ⟨S1x512x1, .f32⟩
  | .hbm, ⟨35, _⟩ => ⟨S1x512x1, .f32⟩
  | .hbm, ⟨36, _⟩ => ⟨S_, .f32⟩
  | .hbm, ⟨37, _⟩ => ⟨S1x512x1, .f32⟩
  | .hbm, ⟨38, _⟩ => ⟨S1x512x1, .f32⟩
  | .hbm, ⟨39, _⟩ => ⟨S1x512x1, .f32⟩
  | .hbm, ⟨40, _⟩ => ⟨S1x512x2048, .f32⟩
  | .hbm, ⟨41, _⟩ => ⟨S1x512x2048, .f32⟩
  | .hbm, ⟨42, _⟩ => ⟨S1x1x2048, .f32⟩
  | .hbm, ⟨43, _⟩ => ⟨S1x512x2048, .f32⟩
  | .hbm, ⟨44, _⟩ => ⟨S1x512x2048, .f32⟩
  | .hbm, ⟨45, _⟩ => ⟨S1x1x2048, .f32⟩
  | .hbm, ⟨46, _⟩ => ⟨S1x512x2048, .f32⟩
  | .hbm, ⟨47, _⟩ => ⟨S1x512x2048, .f32⟩
  | .hbm, ⟨48, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== OddOutSample.lean ====
abbrev S512x2048 : Shape := ⟨2, ![512, 2048]⟩
abbrev S2048x2048 : Shape := ⟨2, ![2048, 2048]⟩
abbrev S1x512x2048 : Shape := ⟨3, ![1, 512, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S512x2048, .f32⟩
  | .hbm, ⟨3, _⟩ => ⟨S1x512x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S2048x2048, .bf16⟩
  | .local _ .vmem, ⟨3, _⟩ => ⟨S512x2048, .f32⟩
  | .local _ .vmem, ⟨4, _⟩ => ⟨S1x512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OddOutSampleRefIdeal.lean ====
abbrev S512x2048 : Shape := ⟨2, ![512, 2048]⟩
abbrev S2048x2048 : Shape := ⟨2, ![2048, 2048]⟩
abbrev S1x512x2048 : Shape := ⟨3, ![1, 512, 2048]⟩
abbrev S2048 : Shape := ⟨1, ![2048]⟩
abbrev S_ : Shape := ⟨0, ![]⟩
abbrev S1x512 : Shape := ⟨2, ![1, 512]⟩
abbrev S1x512x1 : Shape := ⟨3, ![1, 512, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S512x2048, .f32⟩
  | .hbm, ⟨3, _⟩ => ⟨S1x512x2048, .f32⟩
  | .hbm, ⟨4, _⟩ => ⟨S2048, .f32⟩
  | .hbm, ⟨5, _⟩ => ⟨S2048, .f32⟩
  | .hbm, ⟨6, _⟩ => ⟨S1x512x2048, .f32⟩
  | .hbm, ⟨7, _⟩ => ⟨S512x2048, .f32⟩
  | .hbm, ⟨8, _⟩ => ⟨S2048x2048, .f32⟩
  | .hbm, ⟨9, _⟩ => ⟨S512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S_, .f32⟩
  | .hbm, ⟨15, _⟩ => ⟨S1x512x2048, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512, .f32⟩
  | .hbm, ⟨21, _⟩ => ⟨S1x512x1, .f32⟩
  | .hbm, ⟨22, _⟩ => ⟨S_, .f32⟩
  | .hbm, ⟨23, _⟩ => ⟨S1x512x1, .f32⟩
  | .hbm, ⟨24, _⟩ => ⟨S1x512x1, .f32⟩
  | .hbm, ⟨25, _⟩ => ⟨S1x512x2048, .f32⟩
  | .hbm, ⟨26, _⟩ => ⟨S1x512x2048, .f32⟩
  | .hbm, ⟨27, _⟩ => ⟨S1x512x2048, .f32⟩
  | .hbm, ⟨28, _⟩ => ⟨S_, .f32⟩
  | .hbm, ⟨29, _⟩ => ⟨S1x512, .f32⟩
  | .hbm, ⟨30, _⟩ => ⟨S1x512x1, .f32⟩
  | .hbm, ⟨31, _⟩ => ⟨S_, .f32⟩
  | .hbm, ⟨32, _⟩ => ⟨S1x512x1, .f32⟩
  | .hbm, ⟨33, _⟩ => ⟨S1x512x1, .f32⟩
  | .hbm, ⟨34, _⟩ => ⟨S_, .f32⟩
  | .hbm, ⟨35, _⟩ => ⟨S1x512x1, .f32⟩
  | .hbm, ⟨36, _⟩ => ⟨S1x512x1, .f32⟩
  | .hbm, ⟨37, _⟩ => ⟨S1x512x1, .f32⟩
  | .hbm, ⟨38, _⟩ => ⟨S1x512x2048, .f32⟩
  | .hbm, ⟨39, _⟩ => ⟨S1x512x2048, .f32⟩
  | .hbm, ⟨40, _⟩ => ⟨S1x1x2048, .f32⟩
  | .hbm, ⟨41, _⟩ => ⟨S1x512x2048, .f32⟩
  | .hbm, ⟨42, _⟩ => ⟨S1x512x2048, .f32⟩
  | .hbm, ⟨43, _⟩ => ⟨S1x1x2048, .f32⟩
  | .hbm, ⟨44, _⟩ => ⟨S1x512x2048, .f32⟩
  | .hbm, ⟨45, _⟩ => ⟨S1x512x2048, .f32⟩
  | .hbm, ⟨46, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== ModPrompt.lean ====
abbrev S8192x2048 : Shape := ⟨2, ![8192, 2048]⟩
abbrev S4x1x2048 : Shape := ⟨3, ![4, 1, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModPromptRefIdeal.lean ====
abbrev S8192x2048 : Shape := ⟨2, ![8192, 2048]⟩
abbrev S4x1x2048 : Shape := ⟨3, ![4, 1, 2048]⟩
abbrev S4x2048x2048 : Shape := ⟨3, ![4, 2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x1x2048, .f32⟩
  | .hbm, ⟨3, _⟩ => ⟨S4x2048x2048, .f32⟩
  | .hbm, ⟨4, _⟩ => ⟨S_, .f32⟩
  | .hbm, ⟨5, _⟩ => ⟨S4x1x2048, .f32⟩
  | .hbm, ⟨6, _⟩ => ⟨S4x1x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S8192x2048, .f32⟩
  | .hbm, ⟨12, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ModSample.lean ====
abbrev S512x2048 : Shape := ⟨2, ![512, 2048]⟩
abbrev S1x512x2048 : Shape := ⟨3, ![1, 512, 2048]⟩

abbrev nBuf : Space → Nat
  | .hbm => 4
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S1x512x2048, .f32⟩
  | .hbm, ⟨2, _⟩ => ⟨S1x512x2048, .f32⟩
  | .hbm, ⟨3, _⟩ => ⟨S512x2048, .bf16⟩
  | .local _ .vmem, ⟨0, _⟩ => ⟨S512x2048, .f32⟩
  | .local _ .vmem, ⟨1, _⟩ => ⟨S1x512x2048, .f32⟩
  | .local _ .vmem, ⟨2, _⟩ => ⟨S1x512x2048, .f32⟩
  | .local _ .vmem, ⟨3, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ModSampleRefIdeal.lean ====
abbrev S512x2048 : Shape := ⟨2, ![512, 2048]⟩
abbrev S1x512x2048 : Shape := ⟨3, ![1, 512, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .hbm, ⟨9, _⟩ => ⟨S512x2048, .f32⟩
  | .hbm, ⟨10, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ada.lean ====
abbrev S132x2048 : Shape := ⟨2, ![132, 2048]⟩
abbrev S4x2048x6144 : Shape := ⟨3, ![4, 2048, 6144]⟩
abbrev S4x6144 : Shape := ⟨2, ![4, 6144]⟩
abbrev S4x1x6144 : Shape := ⟨3, ![4, 1, 6144]⟩
abbrev S4x132x6144 : Shape := ⟨3, ![4, 132, 6144]⟩
abbrev S1x2048x768 : Shape := ⟨3, ![1, 2048, 768]⟩
abbrev S1x1x768 : Shape := ⟨3, ![1, 1, 768]⟩
abbrev S1x132x768 : Shape := ⟨3, ![1, 132, 768]⟩
abbrev S2048x768 : Shape := ⟨2, ![2048, 768]⟩
abbrev S132x768 : Shape := ⟨2, ![132, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S132x2048, .f32⟩
  | .hbm, ⟨1, _⟩ => ⟨S4x2048x6144, .f32⟩
  | .hbm, ⟨2, _⟩ => ⟨S4x6144, .f32⟩
  | .hbm, ⟨3, _⟩ => ⟨S4x1x6144, .f32⟩
  | .hbm, ⟨4, _⟩ => ⟨S4x132x6144, .f32⟩
  | .local _ .vmem, ⟨0, _⟩ => ⟨S132x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x132x768, .f32⟩
  | .local _ .vmem, ⟨6, _⟩ => ⟨S1x132x768, .f32⟩
  | _, _ => ⟨S132x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S132x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x132x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S132x2048 : Shape := ⟨2, ![132, 2048]⟩
abbrev S4x2048x6144 : Shape := ⟨3, ![4, 2048, 6144]⟩
abbrev S4x6144 : Shape := ⟨2, ![4, 6144]⟩
abbrev S_ : Shape := ⟨0, ![]⟩
abbrev S4x6144x132 : Shape := ⟨3, ![4, 6144, 132]⟩
abbrev S4x132x6144 : Shape := ⟨3, ![4, 132, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S132x2048, .f32⟩
  | .hbm, ⟨1, _⟩ => ⟨S4x2048x6144, .f32⟩
  | .hbm, ⟨2, _⟩ => ⟨S4x6144, .f32⟩
  | .hbm, ⟨3, _⟩ => ⟨S132x2048, .f32⟩
  | .hbm, ⟨4, _⟩ => ⟨S132x2048, .f32⟩
  | .hbm, ⟨5, _⟩ => ⟨S_, .f32⟩
  | .hbm, ⟨6, _⟩ => ⟨S132x2048, .f32⟩
  | .hbm, ⟨7, _⟩ => ⟨S132x2048, .f32⟩
  | .hbm, ⟨8, _⟩ => ⟨S_, .f32⟩
  | .hbm, ⟨9, _⟩ => ⟨S132x2048, .f32⟩
  | .hbm, ⟨10, _⟩ => ⟨S132x2048, .f32⟩
  | .hbm, ⟨11, _⟩ => ⟨S132x2048, .f32⟩
  | .hbm, ⟨12, _⟩ => ⟨S4x6144x132, .f32⟩
  | .hbm, ⟨13, _⟩ => ⟨S4x132x6144, .f32⟩
  | .hbm, ⟨14, _⟩ => ⟨S4x1x6144, .f32⟩
  | .hbm, ⟨15, _⟩ => ⟨S4x132x6144, .f32⟩
  | .hbm, ⟨16, _⟩ => ⟨S4x132x6144, .f32⟩
  | _, _ => ⟨S132x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== CmpPrompt.lean ====
abbrev S4x2048x256 : Shape := ⟨3, ![4, 2048, 256]⟩
abbrev S32x128 : Shape := ⟨2, ![32, 128]⟩
abbrev S4096x256 : Shape := ⟨2, ![4096, 256]⟩
abbrev S512x4096 : Shape := ⟨2, ![512, 4096]⟩
abbrev S2x2048 : Shape := ⟨2, ![2, 2048]⟩
abbrev S512x1024 : Shape := ⟨2, ![512, 1024]⟩
abbrev S512x128 : Shape := ⟨2, ![512, 128]⟩
abbrev S512x2048 : Shape := ⟨2, ![512, 2048]⟩
abbrev S1x2048 : Shape := ⟨2, ![1, 2048]⟩
abbrev S2048x256 : Shape := ⟨2, ![2048, 256]⟩
abbrev S512x256 : Shape := ⟨2, ![512, 256]⟩

abbrev nBuf : Space → Nat
  | .hbm => 6
  | .vmem => 4
  | .smem => 0
  | _ => 0

abbrev bufTy : (tb : Table) → Fin (tcTables nBuf tb) → BufTy
  | .hbm, ⟨0, _⟩ => ⟨S4x2048x256, .f32⟩
  | .hbm, ⟨1, _⟩ => ⟨S32x128, .f32⟩
  | .hbm, ⟨2, _⟩ => ⟨S4096x256, .bf16⟩
  | .hbm, ⟨3, _⟩ => ⟨S512x4096, .f32⟩
  | .hbm, ⟨4, _⟩ => ⟨S2x2048, .f32⟩
  | .hbm, ⟨5, _⟩ => ⟨S512x1024, .f32⟩
  | .local _ .vmem, ⟨0, _⟩ => ⟨S512x4096, .f32⟩
  | .local _ .vmem, ⟨1, _⟩ => ⟨S2x2048, .f32⟩
  | .local _ .vmem, ⟨2, _⟩ => ⟨S4096x256, .bf16⟩
  | .local _ .vmem, ⟨3, _⟩ => ⟨S512x1024, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== CmpPromptRefIdeal.lean ====
abbrev S4x2048x256 : Shape := ⟨3, ![4, 2048, 256]⟩
abbrev S32x128 : Shape := ⟨2, ![32, 128]⟩
abbrev S4096x256 : Shape := ⟨2, ![4096, 256]⟩
abbrev S512x16x2x128 : Shape := ⟨4, ![512, 16, 2, 128]⟩
abbrev S512x2x16x128 : Shape := ⟨4, ![512, 2, 16, 128]⟩
abbrev S2x2048x256 : Shape := ⟨3, ![2, 2048, 256]⟩
abbrev S2x16x128 : Shape := ⟨3, ![2, 16, 128]⟩
abbrev S1x16x128 : Shape := ⟨3, ![1, 16, 128]⟩
abbrev S16x128 : Shape := ⟨2, ![16, 128]⟩
abbrev S1x1x16x128 : Shape := ⟨4, ![1, 1, 16, 128]⟩
abbrev S512x2x2048 : Shape := ⟨3, ![512, 2, 2048]⟩
abbrev S1x2048x256 : Shape := ⟨3, ![1, 2048, 256]⟩
abbrev S2048x256 : Shape := ⟨2, ![2048, 256]⟩
abbrev S512x2x256 : Shape := ⟨3, ![512, 2, 256]⟩
abbrev S512x2x1x256 : Shape := ⟨4, ![512, 2, 1, 256]⟩
abbrev S512x2x2x256 : Shape := ⟨4, ![512, 2, 2, 256]⟩
abbrev S512x1024 : Shape := ⟨2, ![512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S32x128, .f32⟩
  | .hbm, ⟨2, _⟩ => ⟨S4096x256, .bf16⟩
  | .hbm, ⟨3, _⟩ => ⟨S512x16x2x128, .f32⟩
  | .hbm, ⟨4, _⟩ => ⟨S512x2x16x128, .f32⟩
  | .hbm, ⟨5, _⟩ => ⟨S4096x256, .f32⟩
  | .hbm, ⟨6, _⟩ => ⟨S2x2048x256, .f32⟩
  | .hbm, ⟨7, _⟩ => ⟨S2x16x128, .f32⟩
  | .hbm, ⟨8, _⟩ => ⟨S1x16x128, .f32⟩
  | .hbm, ⟨9, _⟩ => ⟨S16x128, .f32⟩
  | .hbm, ⟨10, _⟩ => ⟨S1x1x16x128, .f32⟩
  | .hbm, ⟨11, _⟩ => ⟨S512x2x16x128, .f32⟩
  | .hbm, ⟨12, _⟩ => ⟨S512x2x16x128, .f32⟩
  | .hbm, ⟨13, _⟩ => ⟨S512x2x2048, .f32⟩
  | .hbm, ⟨14, _⟩ => ⟨S1x2048x256, .f32⟩
  | .hbm, ⟨15, _⟩ => ⟨S2048x256, .f32⟩
  | .hbm, ⟨16, _⟩ => ⟨S512x2x256, .f32⟩
  | .hbm, ⟨17, _⟩ => ⟨S1x16x128, .f32⟩
  | .hbm, ⟨18, _⟩ => ⟨S16x128, .f32⟩
  | .hbm, ⟨19, _⟩ => ⟨S1x1x16x128, .f32⟩
  | .hbm, ⟨20, _⟩ => ⟨S512x2x16x128, .f32⟩
  | .hbm, ⟨21, _⟩ => ⟨S512x2x16x128, .f32⟩
  | .hbm, ⟨22, _⟩ => ⟨S512x2x2048, .f32⟩
  | .hbm, ⟨23, _⟩ => ⟨S1x2048x256, .f32⟩
  | .hbm, ⟨24, _⟩ => ⟨S2048x256, .f32⟩
  | .hbm, ⟨25, _⟩ => ⟨S512x2x256, .f32⟩
  | .hbm, ⟨26, _⟩ => ⟨S512x2x1x256, .f32⟩
  | .hbm, ⟨27, _⟩ => ⟨S512x2x1x256, .f32⟩
  | .hbm, ⟨28, _⟩ => ⟨S512x2x2x256, .f32⟩
  | .hbm, ⟨29, _⟩ => ⟨S512x1024, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== CmpSample.lean ====
abbrev S2560x128x2x128 : Shape := ⟨4, ![2560, 128, 2, 128]⟩
abbrev S32x128 : Shape := ⟨2, ![32, 128]⟩
abbrev S4096x256 : Shape := ⟨2, ![4096, 256]⟩
abbrev S2560x256x128 : Shape := ⟨3, ![2560, 256, 128]⟩
abbrev S2x2048 : Shape := ⟨2, ![2, 2048]⟩
abbrev S20480x1024 : Shape := ⟨2, ![20480, 1024]⟩
abbrev S64x256x128 : Shape := ⟨3, ![64, 256, 128]⟩
abbrev S512x1024 : Shape := ⟨2, ![512, 1024]⟩
abbrev S64x8x128 : Shape := ⟨3, ![64, 8, 128]⟩
abbrev S512x128 : Shape := ⟨2, ![512, 128]⟩
abbrev S512x2048 : Shape := ⟨2, ![512, 2048]⟩
abbrev S1x2048 : Shape := ⟨2, ![1, 2048]⟩
abbrev S2048x256 : Shape := ⟨2, ![2048, 256]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S2560x128x2x128, .f32⟩
  | .hbm, ⟨1, _⟩ => ⟨S32x128, .f32⟩
  | .hbm, ⟨2, _⟩ => ⟨S4096x256, .bf16⟩
  | .hbm, ⟨3, _⟩ => ⟨S2560x256x128, .f32⟩
  | .hbm, ⟨4, _⟩ => ⟨S2x2048, .f32⟩
  | .hbm, ⟨5, _⟩ => ⟨S20480x1024, .f32⟩
  | .local _ .vmem, ⟨0, _⟩ => ⟨S64x256x128, .f32⟩
  | .local _ .vmem, ⟨1, _⟩ => ⟨S64x256x128, .f32⟩
  | .local _ .vmem, ⟨2, _⟩ => ⟨S2x2048, .f32⟩
  | .local _ .vmem, ⟨3, _⟩ => ⟨S4096x256, .bf16⟩
  | .local _ .vmem, ⟨4, _⟩ => ⟨S512x1024, .f32⟩
  | .local _ .vmem, ⟨5, _⟩ => ⟨S512x1024, .f32⟩
  | _, _ => ⟨S2560x128x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CmpSampleRefIdeal.lean ====
abbrev S2560x128x2x128 : Shape := ⟨4, ![2560, 128, 2, 128]⟩
abbrev S32x128 : Shape := ⟨2, ![32, 128]⟩
abbrev S4096x256 : Shape := ⟨2, ![4096, 256]⟩
abbrev S20480x16x2x128 : Shape := ⟨4, ![20480, 16, 2, 128]⟩
abbrev S20480x2x16x128 : Shape := ⟨4, ![20480, 2, 16, 128]⟩
abbrev S2x2048x256 : Shape := ⟨3, ![2, 2048, 256]⟩
abbrev S2x16x128 : Shape := ⟨3, ![2, 16, 128]⟩
abbrev S1x16x128 : Shape := ⟨3, ![1, 16, 128]⟩
abbrev S16x128 : Shape := ⟨2, ![16, 128]⟩
abbrev S1x1x16x128 : Shape := ⟨4, ![1, 1, 16, 128]⟩
abbrev S20480x2x2048 : Shape := ⟨3, ![20480, 2, 2048]⟩
abbrev S1x2048x256 : Shape := ⟨3, ![1, 2048, 256]⟩
abbrev S2048x256 : Shape := ⟨2, ![2048, 256]⟩
abbrev S20480x2x256 : Shape := ⟨3, ![20480, 2, 256]⟩
abbrev S20480x2x1x256 : Shape := ⟨4, ![20480, 2, 1, 256]⟩
abbrev S20480x2x2x256 : Shape := ⟨4, ![20480, 2, 2, 256]⟩
abbrev S20480x1024 : Shape := ⟨2, ![20480, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2560x128x2x128, .f32⟩
  | .hbm, ⟨1, _⟩ => ⟨S32x128, .f32⟩
  | .hbm, ⟨2, _⟩ => ⟨S4096x256, .bf16⟩
  | .hbm, ⟨3, _⟩ => ⟨S20480x16x2x128, .f32⟩
  | .hbm, ⟨4, _⟩ => ⟨S20480x2x16x128, .f32⟩
  | .hbm, ⟨5, _⟩ => ⟨S4096x256, .f32⟩
  | .hbm, ⟨6, _⟩ => ⟨S2x2048x256, .f32⟩
  | .hbm, ⟨7, _⟩ => ⟨S2x16x128, .f32⟩
  | .hbm, ⟨8, _⟩ => ⟨S1x16x128, .f32⟩
  | .hbm, ⟨9, _⟩ => ⟨S16x128, .f32⟩
  | .hbm, ⟨10, _⟩ => ⟨S1x1x16x128, .f32⟩
  | .hbm, ⟨11, _⟩ => ⟨S20480x2x16x128, .f32⟩
  | .hbm, ⟨12, _⟩ => ⟨S20480x2x16x128, .f32⟩
  | .hbm, ⟨13, _⟩ => ⟨S20480x2x2048, .f32⟩
  | .hbm, ⟨14, _⟩ => ⟨S1x2048x256, .f32⟩
  | .hbm, ⟨15, _⟩ => ⟨S2048x256, .f32⟩
  | .hbm, ⟨16, _⟩ => ⟨S20480x2x256, .f32⟩
  | .hbm, ⟨17, _⟩ => ⟨S1x16x128, .f32⟩
  | .hbm, ⟨18, _⟩ => ⟨S16x128, .f32⟩
  | .hbm, ⟨19, _⟩ => ⟨S1x1x16x128, .f32⟩
  | .hbm, ⟨20, _⟩ => ⟨S20480x2x16x128, .f32⟩
  | .hbm, ⟨21, _⟩ => ⟨S20480x2x16x128, .f32⟩
  | .hbm, ⟨22, _⟩ => ⟨S20480x2x2048, .f32⟩
  | .hbm, ⟨23, _⟩ => ⟨S1x2048x256, .f32⟩
  | .hbm, ⟨24, _⟩ => ⟨S2048x256, .f32⟩
  | .hbm, ⟨25, _⟩ => ⟨S20480x2x256, .f32⟩
  | .hbm, ⟨26, _⟩ => ⟨S20480x2x1x256, .f32⟩
  | .hbm, ⟨27, _⟩ => ⟨S20480x2x1x256, .f32⟩
  | .hbm, ⟨28, _⟩ => ⟨S20480x2x2x256, .f32⟩
  | .hbm, ⟨29, _⟩ => ⟨S20480x1024, .f32⟩
  | _, _ => ⟨S2560x128x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== CmpFinPrompt.lean ====
abbrev S512x1024 : Shape := ⟨2, ![512, 1024]⟩
abbrev S256x128 : Shape := ⟨2, ![256, 128]⟩
abbrev S4x2x128x128 : Shape := ⟨4, ![4, 2, 128, 128]⟩
abbrev S128x1024 : Shape := ⟨2, ![128, 1024]⟩
abbrev S1x2x128x128 : Shape := ⟨4, ![1, 2, 128, 128]⟩
abbrev S128x128 : Shape := ⟨2, ![128, 128]⟩
abbrev S128x256 : Shape := ⟨2, ![128, 256]⟩
abbrev S1x1x128x128 : Shape := ⟨4, ![1, 1, 128, 128]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S256x128, .bf16⟩
  | .hbm, ⟨2, _⟩ => ⟨S4x2x128x128, .f32⟩
  | .local _ .vmem, ⟨0, _⟩ => ⟨S128x1024, .f32⟩
  | .local _ .vmem, ⟨1, _⟩ => ⟨S128x1024, .f32⟩
  | .local _ .vmem, ⟨2, _⟩ => ⟨S256x128, .bf16⟩
  | .local _ .vmem, ⟨3, _⟩ => ⟨S1x2x128x128, .f32⟩
  | .local _ .vmem, ⟨4, _⟩ => ⟨S1x2x128x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CmpFinPromptRefIdeal.lean ====
abbrev S512x1024 : Shape := ⟨2, ![512, 1024]⟩
abbrev S256x128 : Shape := ⟨2, ![256, 128]⟩
abbrev S4x128x2x2x256 : Shape := ⟨5, ![4, 128, 2, 2, 256]⟩
abbrev S4x127x2x1x256 : Shape := ⟨5, ![4, 127, 2, 1, 256]⟩
abbrev S4x127x2x256 : Shape := ⟨4, ![4, 127, 2, 256]⟩
abbrev S_ : Shape := ⟨0, ![]⟩
abbrev S4x127x2x128 : Shape := ⟨4, ![4, 127, 2, 128]⟩
abbrev S4x128x2x128 : Shape := ⟨4, ![4, 128, 2, 128]⟩
abbrev S4x2x128x128 : Shape := ⟨4, ![4, 2, 128, 128]⟩

abbrev nBuf : Space → Nat
  | .hbm => 31
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S256x128, .bf16⟩
  | .hbm, ⟨2, _⟩ => ⟨S4x128x2x2x256, .f32⟩
  | .hbm, ⟨3, _⟩ => ⟨S4x127x2x1x256, .f32⟩
  | .hbm, ⟨4, _⟩ => ⟨S4x127x2x256, .f32⟩
  | .hbm, ⟨5, _⟩ => ⟨S4x127x2x1x256, .f32⟩
  | .hbm, ⟨6, _⟩ => ⟨S4x127x2x256, .f32⟩
  | .hbm, ⟨7, _⟩ => ⟨S4x127x2x256, .f32⟩
  | .hbm, ⟨8, _⟩ => ⟨S4x127x2x256, .f32⟩
  | .hbm, ⟨9, _⟩ => ⟨S4x127x2x256, .f32⟩
  | .hbm, ⟨10, _⟩ => ⟨S_, .f32⟩
  | .hbm, ⟨11, _⟩ => ⟨S4x127x2x256, .f32⟩
  | .hbm, ⟨12, _⟩ => ⟨S4x127x2x256, .f32⟩
  | .hbm, ⟨13, _⟩ => ⟨S4x127x2x256, .f32⟩
  | .hbm, ⟨14, _⟩ => ⟨S_, .f32⟩
  | .hbm, ⟨15, _⟩ => ⟨S4x127x2x256, .f32⟩
  | .hbm, ⟨16, _⟩ => ⟨S4x127x2x256, .f32⟩
  | .hbm, ⟨17, _⟩ => ⟨S4x127x2x256, .f32⟩
  | .hbm, ⟨18, _⟩ => ⟨S_, .f32⟩
  | .hbm, ⟨19, _⟩ => ⟨S4x127x2x256, .f32⟩
  | .hbm, ⟨20, _⟩ => ⟨S4x127x2x256, .f32⟩
  | .hbm, ⟨21, _⟩ => ⟨S_, .f32⟩
  | .hbm, ⟨22, _⟩ => ⟨S4x127x2x256, .f32⟩
  | .hbm, ⟨23, _⟩ => ⟨S4x127x2x256, .f32⟩
  | .hbm, ⟨24, _⟩ => ⟨S4x127x2x256, .f32⟩
  | .hbm, ⟨25, _⟩ => ⟨S256x128, .f32⟩
  | .hbm, ⟨26, _⟩ => ⟨S4x127x2x128, .f32⟩
  | .hbm, ⟨27, _⟩ => ⟨S_, .i32⟩
  | .hbm, ⟨28, _⟩ => ⟨S_, .f32⟩
  | .hbm, ⟨29, _⟩ => ⟨S4x128x2x128, .f32⟩
  | .hbm, ⟨30, _⟩ => ⟨S4x2x128x128, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== WinSample.lean ====
abbrev S512x2048 : Shape := ⟨2, ![512, 2048]⟩
abbrev S2048x5656 : Shape := ⟨2, ![2048, 5656]⟩
abbrev S128x512x2x128 : Shape := ⟨4, ![128, 512, 2, 128]⟩
abbrev S512x5632 : Shape := ⟨2, ![512, 5632]⟩
abbrev S2048x512 : Shape := ⟨2, ![2048, 512]⟩
abbrev S512x512 : Shape := ⟨2, ![512, 512]⟩
abbrev S512x256 : Shape := ⟨2, ![512, 256]⟩
abbrev S128x4x2x128 : Shape := ⟨4, ![128, 4, 2, 128]⟩
abbrev S128x516x2x128 : Shape := ⟨4, ![128, 516, 2, 128]⟩

abbrev nBuf : Space → Nat
  | .hbm => 13
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S2048x5656, .f32⟩
  | .hbm, ⟨2, _⟩ => ⟨S128x512x2x128, .f32⟩
  | .hbm, ⟨3, _⟩ => ⟨S128x512x2x128, .f32⟩
  | .hbm, ⟨4, _⟩ => ⟨S512x5632, .f32⟩
  | .hbm, ⟨5, _⟩ => ⟨S512x256, .f32⟩
  | .hbm, ⟨6, _⟩ => ⟨S512x256, .f32⟩
  | .hbm, ⟨7, _⟩ => ⟨S128x4x2x128, .f32⟩
  | .hbm, ⟨8, _⟩ => ⟨S128x516x2x128, .f32⟩
  | .hbm, ⟨9, _⟩ => ⟨S128x512x2x128, .f32⟩
  | .hbm, ⟨10, _⟩ => ⟨S128x4x2x128, .f32⟩
  | .hbm, ⟨11, _⟩ => ⟨S128x516x2x128, .f32⟩
  | .hbm, ⟨12, _⟩ => ⟨S128x512x2x128, .f32⟩
  | .local _ .vmem, ⟨0, _⟩ => ⟨S512x2048, .bf16⟩
  | .local _ .vmem, ⟨1, _⟩ => ⟨S2048x512, .f32⟩
  | .local _ .vmem, ⟨2, _⟩ => ⟨S2048x512, .f32⟩
  | .local _ .vmem, ⟨3, _⟩ => ⟨S512x512, .f32⟩
  | .local _ .vmem, ⟨4, _⟩ => ⟨S512x512, .f32⟩
  | .local _ .vmem, ⟨5, _⟩ => ⟨S2048x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinSampleRefIdeal.lean ====
abbrev S512x2048 : Shape := ⟨2, ![512, 2048]⟩
abbrev S2048x5656 : Shape := ⟨2, ![2048, 5656]⟩
abbrev S128x512x2x128 : Shape := ⟨4, ![128, 512, 2, 128]⟩
abbrev S2048x512 : Shape := ⟨2, ![2048, 512]⟩
abbrev S512x512 : Shape := ⟨2, ![512, 512]⟩
abbrev S128x4x2x2x128 : Shape := ⟨5, ![128, 4, 2, 2, 128]⟩
abbrev S128x4x1x2x128 : Shape := ⟨5, ![128, 4, 1, 2, 128]⟩
abbrev S128x4x2x128 : Shape := ⟨4, ![128, 4, 2, 128]⟩
abbrev S128x516x2x128 : Shape := ⟨4, ![128, 516, 2, 128]⟩

abbrev nBuf : Space → Nat
  | .hbm => 16
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x5656, .f32⟩
  | .hbm, ⟨2, _⟩ => ⟨S128x512x2x128, .f32⟩
  | .hbm, ⟨3, _⟩ => ⟨S128x512x2x128, .f32⟩
  | .hbm, ⟨4, _⟩ => ⟨S512x2048, .f32⟩
  | .hbm, ⟨5, _⟩ => ⟨S2048x512, .f32⟩
  | .hbm, ⟨6, _⟩ => ⟨S512x512, .f32⟩
  | .hbm, ⟨7, _⟩ => ⟨S128x4x2x2x128, .f32⟩
  | .hbm, ⟨8, _⟩ => ⟨S128x4x1x2x128, .f32⟩
  | .hbm, ⟨9, _⟩ => ⟨S128x4x2x128, .f32⟩
  | .hbm, ⟨10, _⟩ => ⟨S128x516x2x128, .f32⟩
  | .hbm, ⟨11, _⟩ => ⟨S128x4x1x2x128, .f32⟩
  | .hbm, ⟨12, _⟩ => ⟨S128x4x2x128, .f32⟩
  | .hbm, ⟨13, _⟩ => ⟨S128x516x2x128, .f32⟩
  | .hbm, ⟨14, _⟩ => ⟨S128x512x2x128, .f32⟩
  | .hbm, ⟨15, _⟩ => ⟨S128x512x2x128, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Rows.lean ====
/-
  PURE FACTS ABOUT ROWS of extended reals: the first position of the greatest entry, the stable sort that lists the
  entries greatest first, a fold that meets an absorbing element, and sums and maxima over 128 lanes of which only four
  count. No vector operation and no program occurs here.
-/
module

public import Idealize.ShloMosaic.Lib.SortFacts
public import Idealize.ShloMosaic.PureOps.Ideal

@[expose] public section

set_option maxRecDepth 16384

noncomputable section

namespace Cert.MoE

open Idealize.ShloMosaic

/-! ## The first position of the greatest entry -/

/-- `i` is the FIRST position, among those `S` admits, at which `f` is greatest: every other admitted entry is smaller, or
    equal and not before `i`. -/
structure FirstMax {n : Nat} (f : Fin n → EReal) (S : Fin n → Prop) (i : Fin n) : Prop where
  mem : S i
  top : ∀ j, S j → f j < f i ∨ (f j = f i ∧ i ≤ j)

theorem FirstMax.le {n : Nat} {f : Fin n → EReal} {S : Fin n → Prop} {i : Fin n} (h : FirstMax f S i) {j : Fin n}
    (hj : S j) : f j ≤ f i := by
  rcases h.top j hj with h | h
  · exact h.le
  · exact h.1.le

/-- The relation by which `top_k` sorts: position `k` before position `k'` when its entry is greater. -/
def greater {n : Nat} (f : Fin n → EReal) (k k' : Fin n) : Bool := decide (f k' < f k)

/-- Position `b` may stand before position `c` in the sorted list. -/
def Ahead {n : Nat} (f : Fin n → EReal) (b c : Fin n) : Prop := f c < f b ∨ (f c = f b ∧ b ≤ c)

theorem pairwise_insert {n : Nat} (f : Fin n → EReal) (a : Fin n) (l : List (Fin n)) (hl : l.Pairwise (Ahead f))
    (ha : ∀ b ∈ l, a < b) : (insertBefore (greater f) a l).Pairwise (Ahead f) := by
  induction l with
  | nil => exact List.pairwise_singleton _ _
  | cons b l ih =>
    rw [List.pairwise_cons] at hl
    unfold insertBefore
    split
    · rename_i h
      have h' : f a < f b := by simpa [greater] using h
      refine List.pairwise_cons.mpr ⟨fun c hc => ?_, ih hl.2 fun c hc => ha c (List.mem_cons_of_mem _ hc)⟩
      rcases List.mem_cons.mp ((perm_insertBefore (greater f) a l).mem_iff.mp hc) with rfl | hc'
      · exact Or.inl h'
      · exact hl.1 c hc'
    · rename_i h
      have h' : f b ≤ f a := by simpa [greater] using h
      refine List.pairwise_cons.mpr ⟨fun c hc => ?_, List.pairwise_cons.mpr hl⟩
      have hac : a < c := ha c hc
      have hcb : f c ≤ f b := by
        rcases List.mem_cons.mp hc with rfl | hc'
        · exact le_rfl
        · rcases hl.1 c hc' with h | h
          · exact h.le
          · exact h.1.le
      rcases (hcb.trans h').lt_or_eq with h | h
      · exact Or.inl h
      · exact Or.inr ⟨h, hac.le⟩

theorem pairwise_sort {n : Nat} (f : Fin n → EReal) (l : List (Fin n)) (hl : l.Pairwise (· < ·)) :
    (stableSort (greater f) l).Pairwise (Ahead f) := by
  induction l with
  | nil => exact List.Pairwise.nil
  | cons a l ih =>
    rw [List.pairwise_cons] at hl
    unfold stableSort
    exact pairwise_insert f a _ (ih hl.2) fun b hb => hl.1 b ((perm_stableSort (greater f) l).mem_iff.mp hb)

/-- The stable descending sort lists its positions so that each is ahead of the later ones. -/
theorem ahead_sortedFrom {n : Nat} (f : Fin n → EReal) (i j : Fin n) (hij : i < j) :
    Ahead f (sortedFrom (greater f) i) (sortedFrom (greater f) j) := by
  have hp : ∀ a b : Fin (sortPositions n (greater f)).length, a < b →
      Ahead f ((sortPositions n (greater f)).get a) ((sortPositions n (greater f)).get b) :=
    List.pairwise_iff_get.mp (pairwise_sort f (List.finRange n) (List.pairwise_lt_finRange n))
  unfold sortedFrom
  exact hp _ _ (by simp only [Fin.lt_def, Fin.val_cast]; exact hij)

/-- The first sorted position is the first greatest of four … -/
theorem firstMax_first (f : Fin 4 → EReal) : FirstMax f (fun _ => True) (sortedFrom (greater f) 0) := by
  refine ⟨trivial, fun j _ => ?_⟩
  obtain ⟨k, rfl⟩ := sortedFrom_surjective (greater f) j
  rcases (Fin.zero_le k).lt_or_eq with h | h
  · exact ahead_sortedFrom f 0 k h
  · rw [← h]; exact Or.inr ⟨rfl, le_rfl⟩

/-- … and the second sorted position the first greatest of the remaining three. -/
theorem firstMax_second (f : Fin 4 → EReal) :
    FirstMax f (fun j => j ≠ sortedFrom (greater f) 0) (sortedFrom (greater f) 1) := by
  refine ⟨fun h => absurd (sortedFrom_injective (greater f) h) (by decide), fun j hj => ?_⟩
  obtain ⟨k, rfl⟩ := sortedFrom_surjective (greater f) j
  have hk0 : k ≠ 0 := fun h => hj (by rw [h])
  have h1 : (1 : Fin 4) ≤ k := by
    rcases k with ⟨k, hk⟩
    have : k ≠ 0 := fun h => hk0 (Fin.ext h)
    exact Fin.le_def.mpr (by show 1 ≤ k; omega)
  rcases h1.lt_or_eq with h | h
  · exact ahead_sortedFrom f 1 k h
  · rw [← h]; exact Or.inr ⟨rfl, le_rfl⟩

/-! ## Folds that meet an absorbing element -/

theorem fold_absorb {α ι : Type} (op : α → α → α) [Std.Commutative op] [Std.Associative op] (a b : α) (f : ι → α)
    (s : Finset ι) (hf : ∀ i ∈ s, op a (f i) = a) (hb : op a b = a) : op a (s.fold op b f) = a := by
  classical
  induction s using Finset.induction_on with
  | empty => simpa using hb
  | insert i s hi ih =>
    rw [Finset.fold_insert hi, ← Std.Associative.assoc (op := op), hf i (Finset.mem_insert_self i s)]
    exact ih fun j hj => hf j (Finset.mem_insert_of_mem hj)

/-- A fold over every lane is the entry that absorbs all the others. -/
theorem fold_eq_of_absorb {α ι : Type} [Fintype ι] (op : α → α → α) [Std.Commutative op] [Std.Associative op] (b : α)
    (f : ι → α) (i : ι) (hf : ∀ j, op (f i) (f j) = f i) (hb : op (f i) b = f i) : Finset.univ.fold op b f = f i := by
  classical
  rw [← Finset.insert_erase (Finset.mem_univ i), Finset.fold_insert (Finset.notMem_erase i _)]
  exact fold_absorb op (f i) b f _ (fun j _ => hf j) hb

/-- Entries equal to the neutral start do not count: the fold over all lanes is the fold over the lanes `e` names. -/
theorem fold_lanes {α ι κ : Type} [Fintype ι] [Fintype κ] (op : α → α → α) [Std.Commutative op] [Std.Associative op]
    (b : α) (hb : ∀ x, op b x = x) (f : ι → α) (e : κ → ι) (he : Function.Injective e)
    (hf : ∀ i, (∀ k, e k ≠ i) → f i = b) : Finset.univ.fold op b f = Finset.univ.fold op b (f ∘ e) := by
  classical
  have hskip : ∀ s : Finset ι, (∀ i ∈ s, f i = b) → s.fold op b f = b := by
    intro s
    induction s using Finset.induction_on with
    | empty => intro _; rfl
    | insert i s hi ih =>
      intro h
      rw [Finset.fold_insert hi, h i (Finset.mem_insert_self i s), hb]
      exact ih fun j hj => h j (Finset.mem_insert_of_mem hj)
  have hsplit : ∀ s : Finset ι, (∀ i ∈ s, ∀ k, e k ≠ i) →
      (s ∪ Finset.univ.image e).fold op b f = (Finset.univ.image e).fold op b f := by
    intro s
    induction s using Finset.induction_on with
    | empty => intro _; rw [Finset.empty_union]
    | insert i s hi ih =>
      intro h
      rw [Finset.insert_union, Finset.fold_insert, hf i (h i (Finset.mem_insert_self i s)), hb]
      · exact ih fun j hj => h j (Finset.mem_insert_of_mem hj)
      · rw [Finset.mem_union, not_or]
        refine ⟨hi, fun hm => ?_⟩
        obtain ⟨k, _, hk⟩ := Finset.mem_image.mp hm
        exact h i (Finset.mem_insert_self i s) k hk
  have hu : (Finset.univ : Finset ι) = Finset.univ.filter (fun i => ∀ k, e k ≠ i) ∪ Finset.univ.image e := by
    ext i
    simp only [Finset.mem_univ, Finset.mem_union, Finset.mem_filter, true_and, Finset.mem_image, true_iff]
    by_cases h : ∀ k, e k ≠ i
    · exact Or.inl h
    · push Not at h; exact Or.inr h
  rw [hu, hsplit _ fun i hi => (Finset.mem_filter.mp hi).2, Finset.fold_image fun k _ k' _ h => he h]

/-- The same for a sum, whose neutral entry is zero. -/
theorem sum_lanes {ι κ : Type} [Fintype ι] [Fintype κ] (f : ι → EReal) (e : κ → ι) (he : Function.Injective e)
    (hf : ∀ i, (∀ k, e k ≠ i) → f i = 0) : ∑ i, f i = ∑ k, f (e k) := by
  classical
  rw [← Finset.sum_image (s := Finset.univ) (g := e) (f := f) fun k _ k' _ h => he h]
  refine (Finset.sum_subset (Finset.subset_univ _) fun i _ hi => hf i fun k hk => hi ?_).symm
  exact Finset.mem_image.mpr ⟨k, Finset.mem_univ _, hk⟩

end Cert.MoE

end
-- ==== Proof.Plain.lean ====
module
public import proofs.«01_k».proof.Proof.Rows
public import Idealize.ShloMosaic.Lib.Pointwise
@[expose] public section
set_option maxRecDepth 16384
noncomputable section

/-! # Two host operations read at an index: the k greatest of a row, and one row per token -/
namespace Cert.MoE
open Idealize.ShloMosaic Idealize.ShloMosaic.Pointwise

/-- Replacing the last coordinate of a three-axis index. -/
theorem along_last {a b n : Nat} (i : Fin a) (j : Fin b) (k k' : Fin n) :
    (ix3 i j k : (⟨3, ![a, b, n]⟩ : Shape).Idx).along 2 k' = ix3 i j k' := by
  funext x
  unfold Shape.Idx.along
  match x with
  | ⟨0, _⟩ => rfl
  | ⟨1, _⟩ => rfl
  | ⟨2, _⟩ => exact Function.update_self ..

/-- The order the sort of a row uses is the order of its numbers. -/
theorem gt_greater (x y : EReal) :
    ((FloatOps.cmpfTotal (F := Ideal) (φ := .f32) .gt x y) == 1#1) = decide (y < x) := by
  show (BitVec.ofBool (decide (x > y)) == 1#1) = _
  by_cases h : y < x <;> simp [h]

variable {a b n k : Nat} (x : FVec Ideal (⟨3, ![a, b, n]⟩ : Shape) .f32)
  (h : (⟨3, ![a, b, n]⟩ : Shape).Slices (fun _ => 0) (⟨3, ![a, b, k]⟩ : Shape)) (hk : k ≤ n)

/-- Result `p` of the sort is the row at its sorted position `p`. -/
theorem sorted_at (i : Fin a) (j : Fin b) (p : Fin n) (y : IVec (⟨3, ![a, b, n]⟩ : Shape) 32) :
    (Host.sort2 (⟨3, ![a, b, n]⟩ : Shape) 2 (fun l r => FloatOps.cmpfTotal (F := Ideal) (φ := .f32) .gt l.1 r.1) x y).1 (ix3 i j p)
      = x (ix3 i j (sortedFrom (greater fun q => x (ix3 i j q)) p)) ∧
    (Host.sort2 (⟨3, ![a, b, n]⟩ : Shape) 2 (fun l r => FloatOps.cmpfTotal (F := Ideal) (φ := .f32) .gt l.1 r.1) x y).2 (ix3 i j p)
      = y (ix3 i j (sortedFrom (greater fun q => x (ix3 i j q)) p)) := by
  have key : sortedFrom (fun q q' : Fin n => (FloatOps.cmpfTotal (F := Ideal) (φ := .f32) .gt
      (x ((ix3 i j p : (⟨3, ![a, b, n]⟩ : Shape).Idx).along 2 q)) (x ((ix3 i j p : (⟨3, ![a, b, n]⟩ : Shape).Idx).along 2 q'))) == 1#1) p =
      sortedFrom (greater fun q => x (ix3 i j q)) p := by
    congr 1
    funext q q'
    rw [gt_greater, along_last, along_last]
    rfl
  unfold Host.sort2
  rw [dif_pos (by decide : 2 < 3)]
  refine ⟨?_, ?_⟩
  · refine (congrArg x (along_last i j p _)).trans ?_
    exact congrArg (fun q => x (ix3 i j q)) key
  · refine (congrArg y (along_last i j p _)).trans ?_
    exact congrArg (fun q => y (ix3 i j q)) key

/-- Each entry's place in its row, as the sort carries it along. -/
def places (a b n : Nat) : IVec (⟨3, ![a, b, n]⟩ : Shape) 32 :=
  fun i => if hd : 2 < 3 then iotaInDim (⟨3, ![a, b, n]⟩ : Shape) 32 ⟨2, hd⟩ i else 0#32

/-- An index of the shorter row read in the longer one. -/
theorem sliced (i : Fin a) (j : Fin b) (p : Fin k) (β : Type) (f : (⟨3, ![a, b, n]⟩ : Shape).Idx → β) :
    extractStridedSlice (⟨3, ![a, b, k]⟩ : Shape) (fun _ => 0) f h (ix3 i j p) = f (ix3 i j ⟨p.val, by omega⟩) := by
  unfold extractStridedSlice
  congr 1
  funext r
  apply Fin.ext
  match r with
  | ⟨0, _⟩ => exact Nat.zero_add _
  | ⟨1, _⟩ => exact Nat.zero_add _
  | ⟨2, _⟩ => exact Nat.zero_add _

theorem topK_value (i : Fin a) (j : Fin b) (p : Fin k) :
    (Host.topK (⟨3, ![a, b, k]⟩ : Shape) 2 (FloatOps.cmpfTotal (F := Ideal) (φ := .f32) .gt) x h).1 (ix3 i j p)
      = x (ix3 i j (sortedFrom (greater fun q => x (ix3 i j q)) ⟨p.val, by omega⟩)) :=
  (sliced h hk i j p _ _).trans (sorted_at x i j ⟨p.val, by omega⟩ (places a b n)).1

theorem topK_index (i : Fin a) (j : Fin b) (p : Fin k) :
    (Host.topK (⟨3, ![a, b, k]⟩ : Shape) 2 (FloatOps.cmpfTotal (F := Ideal) (φ := .f32) .gt) x h).2 (ix3 i j p)
      = BitVec.ofNat 32 (sortedFrom (greater fun q => x (ix3 i j q)) ⟨p.val, by omega⟩).val := by
  refine (sliced h hk i j p _ _).trans ((sorted_at x i j ⟨p.val, by omega⟩ (places a b n)).2.trans ?_)
  unfold places
  rw [dif_pos (by decide)]
  rfl
end Cert.MoE
-- ==== Proof.Steps.lean ====
module
public import proofs.«01_k».proof.Proof.Gen.KernelIdeal.Value
public import Idealize.ShloMosaic.Lib.Pipeline.Value
public import Idealize.ShloMosaic.Lib.Tactic
@[expose] public section
set_option maxRecDepth 16384
noncomputable section

/-! # One grid point of the expert sweep

A grid point `16·q + e` handles token tile `q` and expert `e`.  Expert 0 computes the routing weights of the tile and
keeps them in the first scratch buffer; every expert adds its weighted output to the second; expert 15 also closes the
tile with the residual and the layer norm.  The lemmas below state these three facts with the kernel's own payloads. -/
namespace Cert.MoE
open Idealize.ShloMosaic Cert.KernelIdeal Cert.KernelIdeal.Gen Cert.KernelIdeal.Value Idealize.ShloMosaic.TcCoe Idealize.SL.Sem
variable {F : FTy → Type} [FloatOps F]
variable (m : (ℓ : Loc nD τ sig) → Buf (Elt F) ℓ)

/-- Offsets written out as two zeros. -/
theorem off2 : (![0, 0] : Fin 2 → Nat) = fun _ => 0 := funext fun a => by fin_cases a <;> rfl
/-- Offsets written out as three zeros. -/
theorem off3 : (![0, 0, 0] : Fin 3 → Nat) = fun _ => 0 := funext fun a => by fin_cases a <;> rfl

/-- The routing weights of a token tile, from its activations, the packed router matrix and the packed router bias. -/
def route (h : Vec F S512x2048 .bf16) (w : Vec F S2048x128 .bf16) (b : Vec F S1x128 .f32) : Vec F S512x128 .f32 :=
  k0_pay23 (iota Kind.tc S512x128 32 [1] iota_S512x128_d1_w32) (k0_pay6 h w b)
    (k0_pay18 (k0_pay3 h w b) (iota Kind.tc S512x128 32 [1] iota_S512x128_d1_w32) k0_pay8 (k0_pay9 h w b) (k0_pay10 h w b) 4#32)
    (k0_pay19 (k0_pay3 h w b) (iota Kind.tc S512x128 32 [1] iota_S512x128_d1_w32) k0_pay8 (k0_pay9 h w b) (k0_pay10 h w b) 4#32)
    (k0_pay20 (k0_pay3 h w b) (iota Kind.tc S512x128 32 [1] iota_S512x128_d1_w32) k0_pay8 (k0_pay9 h w b) (k0_pay10 h w b) 4#32)
    (k0_pay21 (k0_pay3 h w b) (iota Kind.tc S512x128 32 [1] iota_S512x128_d1_w32) k0_pay8 (k0_pay9 h w b) (k0_pay10 h w b) 4#32)
    (k0_pay22 (k0_pay3 h w b) (iota Kind.tc S512x128 32 [1] iota_S512x128_d1_w32) (k0_pay6 h w b) k0_pay8 (k0_pay9 h w b) (k0_pay10 h w b) 4#32)

/-- The state between grid points: the output tile, the routing weights and the accumulator. -/
abbrev State (F : FTy → Type) := Vec F S512x2048 .f32 × Vec F S512x128 .f32 × Vec F S512x2048 .f32

/-- Expert 0 leaves the routing weights of its tile. -/
theorem first_route (c : Dev nD) (t : Fin cfg0.N) (acc : State F) (h0 : t.val % 16 = 0) (h1 : ¬t.val % 16 = 15) :
    (stAt0 m c t.val t.isLt acc).2.1 = route (iblk m c 0 t) (iblk m c 1 t) (iblk m c 2 t) := by
  rw [stAt0_A m c t acc h0 h1]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_0 t).read_unread, (hs0_1 t).read_unread, (hs0_2 t).read_unread,
    View.ld_unit_zero (S := S512x2048) off2, View.ld_unit_zero (S := S2048x128) off2, View.ld_unit_zero (S := S1x128) off2,
    shapeCast_self]
  rfl

/-- Expert 0 starts the accumulator: its own contribution over zero. -/
theorem first_acc (c : Dev nD) (t : Fin cfg0.N) (acc : State F) (h0 : t.val % 16 = 0) (h1 : ¬t.val % 16 = 15) :
    (stAt0 m c t.val t.isLt acc).2.2 = k0_pay1 (k0_pay25 (grid0.coords t) (iblk m c 0 t)
      (route (iblk m c 0 t) (iblk m c 1 t) (iblk m c 2 t)) (iblk m c 3 t) (iblk m c 4 t) k0_pay24 (iblk m c 5 t)) := by
  rw [stAt0_A m c t acc h0 h1]
  dsimp only
  unfold sout0_A_1
  rw [View.read_writes_eq_canon _ _ _ (fun y => scover0_A_1 (y := y) ..)]
  unfold kernelRun0_A
  dsimp only
  sl_unfold_words
  rw [View.canon_cons_unit_zero (S := S512x2048) off2]
  simp only [View.readCov_unit_zero (S := S512x2048) _ off2, View.readCov_unit_zero (S := S512x128) _ off2,
    View.readAt_eq_ld, (hs0_0 t).read_unread, (hs0_1 t).read_unread, (hs0_2 t).read_unread, (hs0_3 t).read_unread,
    (hs0_4 t).read_unread, (hs0_5 t).read_unread, View.ld_unit_zero (S := S512x2048) off2,
    View.ld_unit_zero (S := S2048x128) off2, View.ld_unit_zero (S := S1x128) off2,
    View.ld_unit_zero (S := S1x2048x512) off3, View.ld_unit_zero (S := S1x512x2048) off3, shapeCast_self]
  rfl

/-- A middle expert keeps the routing weights. -/
theorem mid_route (c : Dev nD) (t : Fin cfg0.N) (acc : State F) (h0 : ¬t.val % 16 = 0) (h1 : ¬t.val % 16 = 15) :
    (stAt0 m c t.val t.isLt acc).2.1 = acc.2.1 := by
  rw [stAt0_B m c t acc h0 h1]
  rfl

/-- A middle expert adds its contribution to the accumulator. -/
theorem mid_acc (c : Dev nD) (t : Fin cfg0.N) (acc : State F) (h0 : ¬t.val % 16 = 0) (h1 : ¬t.val % 16 = 15) :
    (stAt0 m c t.val t.isLt acc).2.2 = k0_pay1 (k0_pay25 (grid0.coords t) (iblk m c 0 t)
      acc.2.1 (iblk m c 3 t) (iblk m c 4 t) acc.2.2 (iblk m c 5 t)) := by
  rw [stAt0_B m c t acc h0 h1]
  dsimp only
  unfold sout0_B_1
  rw [View.read_writes_eq_canon _ _ _ (fun y => scover0_B_1 (y := y) ..)]
  unfold kernelRun0_B
  dsimp only
  sl_unfold_words
  rw [View.canon_unit_zero off2]
  simp only [View.readAt_eq_ld, (hs0_0 t).read_unread, (hs0_3 t).read_unread,
    (hs0_4 t).read_unread, (hs0_5 t).read_unread, (Memref.isWhole_whole _).read_unread, View.ld_unit_zero (S := S512x2048) off2,
    View.ld_unit_zero (S := S512x128) off2,
    View.ld_unit_zero (S := S1x2048x512) off3, View.ld_unit_zero (S := S1x512x2048) off3, shapeCast_self]

/-- Expert 15 adds its contribution and closes the tile. -/
theorem last_out (c : Dev nD) (t : Fin cfg0.N) (acc : State F) (h0 : ¬t.val % 16 = 0) (h1 : t.val % 16 = 15) :
    (stAt0 m c t.val t.isLt acc).1 = k0_pay2 (iblk m c 6 t) (k0_pay1 (k0_pay25 (grid0.coords t) (iblk m c 0 t)
      acc.2.1 (iblk m c 3 t) (iblk m c 4 t) acc.2.2 (iblk m c 5 t))) (iblk m c 7 t) (iblk m c 8 t) (iblk m c 9 t) := by
  rw [stAt0_C m c t acc h0 h1]
  dsimp only
  unfold out0_C_10
  rw [View.read_writes_eq_canon _ _ _ (fun y => cover0_C_10 (y := y) ..)]
  unfold kernelRun0_C
  dsimp only
  sl_unfold_words
  rw [View.canon_unit_zero off2]
  simp only [View.readCov_unit_zero (S := S512x2048) _ off2, View.readAt_eq_ld, (hs0_0 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S512x2048) off2,
    View.ld_unit_zero (S := S512x128) off2, View.ld_unit_zero (S := S1x2048) off2, View.ld_unit_zero (S := S1x1x2048) off3,
    View.ld_unit_zero (S := S1x2048x512) off3, View.ld_unit_zero (S := S1x512x2048) off3, shapeCast_self]

end Cert.MoE
-- ==== Proof.Routing.lean ====
module
public import proofs.«01_k».proof.Proof.Rows
public import proofs.«01_k».proof.Proof.Steps
public import Idealize.ShloMosaic.Lib.Pointwise
@[expose] public section
set_option maxRecDepth 16384
noncomputable section

/-! # The routing weights of one token

The kernel keeps the four group logits of a token in lanes 0–3 and the sixteen expert logits in lanes 4–19 of one row
of 128 lanes, and finds groups and experts with masked reductions over the whole row.  This module states the routing
rule on four values at a time (`combine`) and proves that the kernel's row of lanes holds it. -/
namespace Cert.MoE
open Idealize.ShloMosaic Idealize.ShloMosaic.Pointwise Cert.KernelIdeal Cert.KernelIdeal.Gen

/-! ## The routing rule -/

/-- Softmax of four values, shifted by their maximum. -/
def soft4 (f : Fin 4 → EReal) (i : Fin 4) : EReal :=
  Ideal.div (Ideal.exp (f i - Finset.univ.fold max (⊥ : EReal) f))
    (∑ j, Ideal.exp (f j - Finset.univ.fold max (⊥ : EReal) f))

/-- The position of the largest of four values, the first on a tie. -/
def best (f : Fin 4 → EReal) : Fin 4 := sortedFrom (greater f) 0

/-- The position of the second largest of four values. -/
def second (f : Fin 4 → EReal) : Fin 4 := sortedFrom (greater f) 1

/-- The group a token goes to. -/
def pick (gl : Fin 4 → EReal) : Fin 4 := best (soft4 gl)

/-- The combine weight of a chosen expert with probability `p`, its partner having what is missing from `s`. -/
def share (gl : Fin 4 → EReal) (p s : EReal) : EReal := Ideal.div p s * soft4 gl (pick gl)

/-- The two chosen experts' probabilities, added. -/
def total (f : Fin 4 → EReal) : EReal := soft4 f (best (soft4 f)) + soft4 f (second (soft4 f))

/-- Combine weight of expert `e` for a token with group logits `gl` and expert logits `xl`, by group. -/
def combine (gl : Fin 4 → EReal) (xl : Fin 4 → Fin 4 → EReal) (e : Nat) : EReal :=
  (if e = 4 * (pick gl).val + (best (soft4 (xl (pick gl)))).val then
    share gl (soft4 (xl (pick gl)) (best (soft4 (xl (pick gl))))) (total (xl (pick gl))) else 0) +
  (if e = 4 * (pick gl).val + (second (soft4 (xl (pick gl)))).val then
    share gl (soft4 (xl (pick gl)) (second (soft4 (xl (pick gl))))) (total (xl (pick gl))) else 0)

/-! ## Masked reductions over the lanes -/

theorem negInf : Ideal.ofBits .f32 4286578688#32 = (⊥ : EReal) := by
  simp [Ideal.ofBits, Ideal.ieee]

/-- The lanes `e 0 … e 3` are those where the mask `c` is set, in increasing order. -/
structure Mask (c : Fin 128 → BitVec 1) (e : Fin 4 → Fin 128) : Prop where
  mono : StrictMono e
  on : ∀ k, c (e k) = 1#1
  off : ∀ i, (∀ k, e k ≠ i) → c i = 0#1

theorem select_on {α : Type} (a b : α) : Scalar.select 1#1 a b = a := rfl
theorem select_off {α : Type} (a b : α) : Scalar.select 0#1 a b = b := rfl

/-- A masked maximum is the maximum of the four lanes. -/
theorem Mask.peak {c : Fin 128 → BitVec 1} {e : Fin 4 → Fin 128} (h : Mask c e) (f : Fin 128 → EReal) :
    Finset.univ.fold max (Ideal.ofBits .f32 4286578688#32)
      (fun x => Scalar.select (c x) (f x) (Ideal.ofBits .f32 4286578688#32)) =
    Finset.univ.fold max (⊥ : EReal) fun k => f (e k) := by
  rw [negInf, fold_lanes Max.max (⊥ : EReal) (fun x => bot_sup_eq x) _ e h.mono.injective
    (fun i hi => by rw [h.off i hi, select_off])]
  congr 1
  funext k
  simp only [Function.comp, h.on k, select_on]

/-- A masked sum is the sum of the four lanes. -/
theorem Mask.sum {c : Fin 128 → BitVec 1} {e : Fin 4 → Fin 128} (h : Mask c e) (f : Fin 128 → EReal) :
    ∑ x, Scalar.select (c x) (f x) 0 = ∑ k, f (e k) := by
  rw [sum_lanes _ e h.mono.injective (fun i hi => by rw [h.off i hi, select_off])]
  exact Finset.sum_congr rfl fun k _ => by rw [h.on k, select_on]

/-- The masked softmax of a row, at a lane under the mask, is the softmax of the four lanes. -/
theorem Mask.soft {c : Fin 128 → BitVec 1} {e : Fin 4 → Fin 128} (h : Mask c e) (f : Fin 128 → EReal) (k : Fin 4) :
    Ideal.div
      (Scalar.select (c (e k)) (Ideal.exp (f (e k) - Finset.univ.fold max (Ideal.ofBits .f32 4286578688#32)
        (fun x => Scalar.select (c x) (f x) (Ideal.ofBits .f32 4286578688#32)))) 0)
      (∑ x, Scalar.select (c x) (Ideal.exp (f x - Finset.univ.fold max (Ideal.ofBits .f32 4286578688#32)
        (fun x => Scalar.select (c x) (f x) (Ideal.ofBits .f32 4286578688#32)))) 0) = soft4 (fun k => f (e k)) k := by
  rw [h.peak, h.sum, h.on, select_on]
  rfl

/-- The lanes among `e 0 … e 3` that satisfy `S` are those where the mask `c` is set. -/
structure Part (c : Fin 128 → BitVec 1) (e : Fin 4 → Fin 128) (S : Fin 4 → Prop) : Prop where
  mono : StrictMono e
  on : ∀ k, S k → c (e k) = 1#1
  off : ∀ i, (∀ k, S k → e k ≠ i) → c i = 0#1

theorem Mask.part {c : Fin 128 → BitVec 1} {e : Fin 4 → Fin 128} (h : Mask c e) : Part c e (fun _ => True) :=
  ⟨h.mono, fun k _ => h.on k, fun i hi => h.off i fun k => hi k trivial⟩

/-- The maximum under the mask is the value at the first maximal lane. -/
theorem Part.top {c : Fin 128 → BitVec 1} {e : Fin 4 → Fin 128} {S : Fin 4 → Prop} (h : Part c e S)
    (f : Fin 128 → EReal) (i : Fin 4) (hi : FirstMax (fun k => f (e k)) S i) :
    Finset.univ.fold max (Ideal.ofBits .f32 4286578688#32)
      (fun x => Scalar.select (c x) (f x) (Ideal.ofBits .f32 4286578688#32)) = f (e i) := by
  rw [negInf]
  have hv : f (e i) = Scalar.select (c (e i)) (f (e i)) (⊥ : EReal) := by rw [h.on i hi.mem, select_on]
  rw [hv]
  refine fold_eq_of_absorb Max.max (⊥ : EReal) (fun x => Scalar.select (c x) (f x) (⊥ : EReal)) (e i) (fun j => ?_)
    (sup_bot_eq _)
  by_cases hj : ∃ k, S k ∧ e k = j
  · obtain ⟨k, hk, rfl⟩ := hj
    rw [← hv, h.on k hk, select_on]
    exact max_eq_left (hi.le hk)
  · rw [h.off j (fun k hk hkj => hj ⟨k, hk, hkj⟩), select_off]
    exact sup_bot_eq _

theorem minsi_lanes : ∀ a b : Fin 128, a ≤ b → IntOp.minsi (BitVec.ofNat 32 a.val) (BitVec.ofNat 32 b.val) = BitVec.ofNat 32 a.val := by
  decide +kernel
theorem minsi_sentinel : ∀ a : Fin 128, IntOp.minsi (BitVec.ofNat 32 a.val) 1048576#32 = BitVec.ofNat 32 a.val := by
  decide +kernel
theorem minsi_start : ∀ a : Fin 128, IntOp.minsi (BitVec.ofNat 32 a.val) 2147483647#32 = BitVec.ofNat 32 a.val := by
  decide +kernel
theorem andi_on : ∀ b : BitVec 1, IntOp.andi 1#1 b = b := by decide
theorem andi_off : ∀ b : BitVec 1, IntOp.andi 0#1 b = 0#1 := by decide

/-- The smallest lane under the mask holding the maximum is the first maximal lane. -/
theorem Part.lane {c : Fin 128 → BitVec 1} {e : Fin 4 → Fin 128} {S : Fin 4 → Prop} (h : Part c e S)
    (f v : Fin 128 → EReal) (m : EReal) (i : Fin 4) (hi : FirstMax (fun k => f (e k)) S i)
    (hv : ∀ k, S k → v (e k) = f (e k)) (hm : m = f (e i)) :
    Finset.univ.fold IntOp.minsi 2147483647#32
      (fun x => Scalar.select (IntOp.andi (c x) (BitVec.ofBool (decide (v x = m)))) (BitVec.ofNat 32 x.val) 1048576#32) =
    BitVec.ofNat 32 (e i).val := by
  have hs : Scalar.select (IntOp.andi (c (e i)) (BitVec.ofBool (decide (v (e i) = m)))) (BitVec.ofNat 32 (e i).val)
      1048576#32 = BitVec.ofNat 32 (e i).val := by
    rw [h.on i hi.mem, andi_on, hv i hi.mem, hm, decide_eq_true rfl]
    rfl
  rw [fold_eq_of_absorb IntOp.minsi 2147483647#32 _ (e i) (fun j => ?_) (by rw [hs]; exact minsi_start _)]
  · exact hs
  · rw [hs]
    by_cases hj : ∃ k, S k ∧ e k = j
    · obtain ⟨k, hk, rfl⟩ := hj
      rw [h.on k hk, andi_on, hv k hk, hm]
      rcases hi.top k hk with hlt | ⟨heq, hle⟩
      · rw [decide_eq_false hlt.ne]
        exact minsi_sentinel _
      · rw [decide_eq_true heq]
        exact minsi_lanes _ _ (h.mono.monotone hle)
    · rw [h.off j (fun k hk hkj => hj ⟨k, hk, hkj⟩), andi_off]
      exact minsi_sentinel _

/-! ## The kernel's masks -/

/-- The lanes of the group logits. -/
def low (k : Fin 4) : Fin 128 := ⟨k.val, by omega⟩

/-- The lanes of the expert logits of group `G`. -/
def grp (G k : Fin 4) : Fin 128 := ⟨4 + 4 * G.val + k.val, by omega⟩

theorem low_mono : StrictMono low := fun _ _ h => h
theorem grp_mono (G : Fin 4) : StrictMono (grp G) := fun a b h => by
  have h' : a.val < b.val := h
  show 4 + 4 * G.val + a.val < 4 + 4 * G.val + b.val
  omega

theorem low_mask : Mask (fun x : Fin 128 => IntOp.cmpi .slt (BitVec.ofNat 32 x.val) 4#32) low :=
  ⟨low_mono, by decide +kernel, by decide +kernel⟩

/-- The kernel's test for a lane of group `G`'s experts. -/
def inGroup (G : Fin 4) (x : Fin 128) : BitVec 1 :=
  IntOp.andi (IntOp.cmpi .sge (IntOp.subi (BitVec.ofNat 32 x.val) 4#32) (IntOp.muli (BitVec.ofNat 32 (low G).val) 4#32))
    (IntOp.cmpi .slt (IntOp.subi (BitVec.ofNat 32 x.val) 4#32)
      (IntOp.muli (IntOp.addi (BitVec.ofNat 32 (low G).val) 1#32) 4#32))

theorem grp_mask (G : Fin 4) : Mask (inGroup G) (grp G) := by
  refine ⟨grp_mono G, ?_, ?_⟩
  · revert G; decide +kernel
  · revert G; decide +kernel

theorem cmpi_eq_lane : ∀ a b : Fin 128,
    IntOp.cmpi .eq (BitVec.ofNat 32 a.val) (BitVec.ofNat 32 b.val) = BitVec.ofBool (decide (a = b)) := by
  decide +kernel
theorem cmpi_ne_lane : ∀ a b : Fin 128,
    IntOp.cmpi .ne (BitVec.ofNat 32 a.val) (BitVec.ofNat 32 b.val) = BitVec.ofBool (decide (a ≠ b)) := by
  decide +kernel

/-- A mask with one of its lanes struck out. -/
theorem Mask.strike {c : Fin 128 → BitVec 1} {e : Fin 4 → Fin 128} (h : Mask c e) (i : Fin 4) :
    Part (fun x => IntOp.andi (c x) (IntOp.cmpi .ne (BitVec.ofNat 32 x.val) (BitVec.ofNat 32 (e i).val))) e (· ≠ i) := by
  refine ⟨h.mono, fun k hk => ?_, fun j hj => ?_⟩
  · show IntOp.andi _ _ = _
    rw [h.on, andi_on, cmpi_ne_lane, decide_eq_true (show e k ≠ e i from fun hh => hk (h.mono.injective hh))]
    rfl
  · show IntOp.andi _ _ = _
    by_cases hk : ∃ k, e k = j
    · obtain ⟨k, rfl⟩ := hk
      by_cases hki : k = i
      · subst hki
        rw [h.on, andi_on, cmpi_ne_lane, decide_eq_false (show ¬ e k ≠ e k from fun hh => hh rfl)]
        rfl
      · exact absurd rfl (hj k hki)
    · rw [h.off j (fun k hkj => hk ⟨k, hkj⟩), andi_off]

/-! ## The kernel's row -/

variable (h : Vec Ideal S512x2048 .bf16) (w : Vec Ideal S2048x128 .bf16) (b : Vec Ideal S1x128 .f32) (r : Fin 512)

/-- The logits of a row, all lanes. -/
def lane (l : Fin 128) : EReal := ∑ x : Fin 2048, h (ix2 r x) * w (ix2 x l) + b (ix2 0 l)

/-- The group logits of a row. -/
def gLane (k : Fin 4) : EReal := lane h w b r (low k)

/-- The expert logits of a row, by group. -/
def xLane (G k : Fin 4) : EReal := lane h w b r (grp G k)

theorem logits_apply (l : Fin 128) : k0_pay3 h w b (ix2 r l) = lane h w b r l := by
  pointwise [k0_pay3]
  rfl

theorem group_row (l : Fin 128) : k0_pay5 h w b (ix2 r l) =
    Scalar.select (IntOp.cmpi .slt (BitVec.ofNat 32 l.val) 4#32) (Ideal.div
      (Scalar.select (IntOp.cmpi .slt (BitVec.ofNat 32 l.val) 4#32) (Ideal.exp (lane h w b r l -
        Finset.univ.fold max (Ideal.ofBits .f32 4286578688#32)
        (fun x : Fin 128 => Scalar.select (IntOp.cmpi .slt (BitVec.ofNat 32 x.val) 4#32) (lane h w b r x) (Ideal.ofBits .f32 4286578688#32)))) 0)
      (∑ x : Fin 128, Scalar.select (IntOp.cmpi .slt (BitVec.ofNat 32 x.val) 4#32) (Ideal.exp (lane h w b r x -
        Finset.univ.fold max (Ideal.ofBits .f32 4286578688#32)
        (fun x : Fin 128 => Scalar.select (IntOp.cmpi .slt (BitVec.ofNat 32 x.val) 4#32) (lane h w b r x) (Ideal.ofBits .f32 4286578688#32)))) 0))
      (Ideal.ofBits .f32 4286578688#32) := by
  have hl : ∀ x : Fin 128, lane h w b r x = k0_pay3 h w b (ix2 r x) := fun x => (logits_apply h w b r x).symm
  have h4 : ∀ x : Fin 128, k0_pay4 (ix2 r x) = IntOp.cmpi .slt (BitVec.ofNat 32 x.val) 4#32 := fun x => by
    pointwise [k0_pay4]
  simp only [hl, ← h4]
  pointwise [k0_pay5]

/-- The softmax of the group logits, on all lanes. -/
def gSoft (l : Fin 128) : EReal := Ideal.div
      (Scalar.select (IntOp.cmpi .slt (BitVec.ofNat 32 l.val) 4#32) (Ideal.exp (lane h w b r l -
        Finset.univ.fold max (Ideal.ofBits .f32 4286578688#32)
        (fun x : Fin 128 => Scalar.select (IntOp.cmpi .slt (BitVec.ofNat 32 x.val) 4#32) (lane h w b r x) (Ideal.ofBits .f32 4286578688#32)))) 0)
      (∑ x : Fin 128, Scalar.select (IntOp.cmpi .slt (BitVec.ofNat 32 x.val) 4#32) (Ideal.exp (lane h w b r x -
        Finset.univ.fold max (Ideal.ofBits .f32 4286578688#32)
        (fun x : Fin 128 => Scalar.select (IntOp.cmpi .slt (BitVec.ofNat 32 x.val) 4#32) (lane h w b r x) (Ideal.ofBits .f32 4286578688#32)))) 0)

theorem gSoft_low (k : Fin 4) : gSoft h w b r (low k) = soft4 (gLane h w b r) k :=
  low_mask.soft (lane h w b r) k

theorem first_group : FirstMax (fun k => gSoft h w b r (low k)) (fun _ => True) (pick (gLane h w b r)) := by
  rw [show (fun k => gSoft h w b r (low k)) = soft4 (gLane h w b r) from funext (gSoft_low h w b r)]
  exact firstMax_first _

theorem group_top : k0_pay6 h w b (ix2 r 0) = soft4 (gLane h w b r) (pick (gLane h w b r)) := by
  pointwise [k0_pay6]
  simp only [group_row]
  rw [← gSoft_low]
  exact low_mask.part.top (gSoft h w b r) _ (first_group h w b r)

theorem group_lane : k0_pay7 h w b (ix2 r 0) = BitVec.ofNat 32 (low (pick (gLane h w b r))).val := by
  have h4 : ∀ x : Fin 128, k0_pay4 (ix2 r x) = IntOp.cmpi .slt (BitVec.ofNat 32 x.val) 4#32 := fun x => by
    pointwise [k0_pay4]
  pointwise [k0_pay7]
  simp only [h4]
  refine low_mask.part.lane (gSoft h w b r) (fun x => k0_pay5 h w b (ix2 r x)) _ _ (first_group h w b r) (fun k _ => ?_) ?_
  · rw [group_row]
    exact (congrArg (fun c => Scalar.select c _ _) (low_mask.on k)).trans (select_on _ _)
  · rw [group_top, gSoft_low]

variable (io : IVec S512x128 32) (hio : ∀ x : Fin 128, io (ix2 r x) = BitVec.ofNat 32 x.val)

theorem mask_row (l : Fin 128) : k0_pay11 k0_pay8 (k0_pay9 h w b) (k0_pay10 h w b) 4#32 (ix2 r l) =
    inGroup (pick (gLane h w b r)) l := by
  pointwise [k0_pay11, k0_pay9, k0_pay8, k0_pay10]
  rw [group_lane]
  rfl

/-- The softmax of the chosen group's expert logits, on all lanes. -/
def xSoft (l : Fin 128) : EReal := Ideal.div
      (Scalar.select (inGroup (pick (gLane h w b r)) l) (Ideal.exp (lane h w b r l -
        Finset.univ.fold max (Ideal.ofBits .f32 4286578688#32)
        (fun x : Fin 128 => Scalar.select (inGroup (pick (gLane h w b r)) x) (lane h w b r x) (Ideal.ofBits .f32 4286578688#32)))) 0)
      (∑ x : Fin 128, Scalar.select (inGroup (pick (gLane h w b r)) x) (Ideal.exp (lane h w b r x -
        Finset.univ.fold max (Ideal.ofBits .f32 4286578688#32)
        (fun x : Fin 128 => Scalar.select (inGroup (pick (gLane h w b r)) x) (lane h w b r x) (Ideal.ofBits .f32 4286578688#32)))) 0)

/-- The expert logits of the chosen group. -/
def chosen : Fin 4 → EReal := xLane h w b r (pick (gLane h w b r))

theorem xSoft_grp (k : Fin 4) : xSoft h w b r (grp (pick (gLane h w b r)) k) = soft4 (chosen h w b r) k :=
  (grp_mask _).soft (lane h w b r) k

theorem xSoft_fun : (fun k => xSoft h w b r (grp (pick (gLane h w b r)) k)) = soft4 (chosen h w b r) :=
  funext (xSoft_grp h w b r)

theorem soft_row (l : Fin 128) :
    k0_pay12 (k0_pay3 h w b) k0_pay8 (k0_pay9 h w b) (k0_pay10 h w b) 4#32 (ix2 r l) = xSoft h w b r l := by
  pointwise [k0_pay12]
  simp only [mask_row, logits_apply]
  rfl

theorem masked_row (l : Fin 128) :
    k0_pay13 (k0_pay3 h w b) k0_pay8 (k0_pay9 h w b) (k0_pay10 h w b) 4#32 (ix2 r l) =
    Scalar.select (inGroup (pick (gLane h w b r)) l) (xSoft h w b r l) (Ideal.ofBits .f32 4286578688#32) := by
  pointwise [k0_pay13]
  simp only [mask_row, soft_row]

theorem first_expert : FirstMax (fun k => xSoft h w b r (grp (pick (gLane h w b r)) k)) (fun _ => True)
    (best (soft4 (chosen h w b r))) := by
  rw [xSoft_fun]
  exact firstMax_first _

theorem second_expert : FirstMax (fun k => xSoft h w b r (grp (pick (gLane h w b r)) k))
    (· ≠ best (soft4 (chosen h w b r))) (second (soft4 (chosen h w b r))) := by
  rw [xSoft_fun]
  exact firstMax_second _

theorem top1 : k0_pay14 (k0_pay3 h w b) k0_pay8 (k0_pay9 h w b) (k0_pay10 h w b) 4#32 (ix2 r 0) =
    soft4 (chosen h w b r) (best (soft4 (chosen h w b r))) := by
  pointwise [k0_pay14]
  simp only [masked_row]
  rw [← xSoft_grp]
  exact (grp_mask _).part.top (xSoft h w b r) _ (first_expert h w b r)

include hio in
theorem lane1 : k0_pay15 (k0_pay3 h w b) io k0_pay8 (k0_pay9 h w b) (k0_pay10 h w b) 4#32 (ix2 r 0) =
    BitVec.ofNat 32 (grp (pick (gLane h w b r)) (best (soft4 (chosen h w b r)))).val := by
  pointwise [k0_pay15]
  simp only [mask_row, hio]
  refine (grp_mask _).part.lane (xSoft h w b r)
    (fun x => k0_pay13 (k0_pay3 h w b) k0_pay8 (k0_pay9 h w b) (k0_pay10 h w b) 4#32 (ix2 r x)) _ _
    (first_expert h w b r) (fun k _ => ?_) ?_
  · rw [masked_row, (grp_mask _).on, select_on]
  · rw [top1, xSoft_grp]

include hio in
theorem mask2_row (l : Fin 128) :
    k0_pay16 (k0_pay3 h w b) io k0_pay8 (k0_pay9 h w b) (k0_pay10 h w b) 4#32 (ix2 r l) =
    IntOp.andi (inGroup (pick (gLane h w b r)) l) (IntOp.cmpi .ne (BitVec.ofNat 32 l.val)
      (BitVec.ofNat 32 (grp (pick (gLane h w b r)) (best (soft4 (chosen h w b r)))).val)) := by
  pointwise [k0_pay16]
  simp only [mask_row, lane1 h w b r io hio, hio]

include hio in
theorem masked2_row (l : Fin 128) :
    k0_pay17 (k0_pay3 h w b) io k0_pay8 (k0_pay9 h w b) (k0_pay10 h w b) 4#32 (ix2 r l) =
    Scalar.select (IntOp.andi (inGroup (pick (gLane h w b r)) l) (IntOp.cmpi .ne (BitVec.ofNat 32 l.val)
      (BitVec.ofNat 32 (grp (pick (gLane h w b r)) (best (soft4 (chosen h w b r)))).val)))
      (xSoft h w b r l) (Ideal.ofBits .f32 4286578688#32) := by
  pointwise [k0_pay17]
  simp only [mask2_row h w b r io hio, soft_row]

include hio in
theorem top2 : k0_pay18 (k0_pay3 h w b) io k0_pay8 (k0_pay9 h w b) (k0_pay10 h w b) 4#32 (ix2 r 0) =
    soft4 (chosen h w b r) (second (soft4 (chosen h w b r))) := by
  pointwise [k0_pay18]
  simp only [masked2_row h w b r io hio]
  rw [← xSoft_grp]
  exact ((grp_mask _).strike _).top (xSoft h w b r) _ (second_expert h w b r)

include hio in
theorem lane2 : k0_pay19 (k0_pay3 h w b) io k0_pay8 (k0_pay9 h w b) (k0_pay10 h w b) 4#32 (ix2 r 0) =
    BitVec.ofNat 32 (grp (pick (gLane h w b r)) (second (soft4 (chosen h w b r)))).val := by
  pointwise [k0_pay19]
  simp only [mask2_row h w b r io hio, hio]
  refine ((grp_mask _).strike _).lane (xSoft h w b r)
    (fun x => k0_pay17 (k0_pay3 h w b) io k0_pay8 (k0_pay9 h w b) (k0_pay10 h w b) 4#32 (ix2 r x)) _ _
    (second_expert h w b r) (fun k hk => ?_) ?_
  · rw [masked2_row h w b r io hio]
    exact (congrArg (fun c => Scalar.select c _ _) (((grp_mask _).strike _).on k hk)).trans (select_on _ _)
  · rw [top2 h w b r io hio, xSoft_grp]

theorem select_dec {α : Type} (p : Prop) [Decidable p] (a b : α) :
    Scalar.select (BitVec.ofBool (decide p)) a b = if p then a else b := by
  by_cases hp : p
  · rw [decide_eq_true hp, if_pos hp]; rfl
  · rw [decide_eq_false hp, if_neg hp]; rfl

/-- The kernel's row of routing weights: lane `4 + e` holds expert `e`'s combine weight. -/
theorem route_apply (e : Fin 16) : route h w b (ix2 r (⟨4 + e.val, by omega⟩ : Fin 128)) =
    combine (gLane h w b r) (xLane h w b r) e.val := by
  have hio : ∀ x : Fin 128, iota Kind.tc S512x128 32 [1] iota_S512x128_d1_w32 (ix2 r x) = BitVec.ofNat 32 x.val := fun x => by
    pointwise
  unfold route
  revert hio
  generalize iota Kind.tc S512x128 32 [1] iota_S512x128_d1_w32 = io
  intro hio
  pointwise [k0_pay23, k0_pay22, k0_pay21, k0_pay20]
  simp only [lane1 h w b r io hio, lane2 h w b r io hio, top1, top2 h w b r io hio, group_top, hio]
  have key : ∀ k : Fin 4, IntOp.cmpi .eq (BitVec.ofNat 32 (4 + e.val)) (BitVec.ofNat 32 (grp (pick (gLane h w b r)) k).val) =
      BitVec.ofBool (decide (e.val = 4 * (pick (gLane h w b r)).val + k.val)) := fun k => by
    rw [show (4 + e.val) = (⟨4 + e.val, by omega⟩ : Fin 128).val from rfl, cmpi_eq_lane]
    congr 1
    refine decide_eq_decide.mpr ?_
    rw [Fin.ext_iff]
    show 4 + e.val = 4 + 4 * (pick (gLane h w b r)).val + k.val ↔ _
    omega
  rw [key, key, select_dec, select_dec]
  rfl

end Cert.MoE
-- ==== Proof.Spec.lean ====
module
public import proofs.«01_k».proof.Proof.Routing
@[expose] public section
set_option maxRecDepth 16384
noncomputable section

/-! # What one sublayer computes, index by index

Hierarchical mixture of experts, then the gated residual and a layer norm: both programs are shown to compute
`sublayer`. -/
namespace Cert.MoE
open Idealize.ShloMosaic Idealize.ShloMosaic.Pointwise

/-- A table of extended reals over a shape. -/
abbrev Tab (s : Shape) := s.Idx → EReal

/-- Group logit `k` of token `T`. -/
def groupLogit (h : Tab ⟨2, ![8192, 2048]⟩) (wg : Tab ⟨2, ![2048, 4]⟩) (bg : Tab ⟨1, ![4]⟩) (T : Fin 8192) (k : Fin 4) : EReal :=
  ∑ y, h (ix2 T y) * wg (ix2 y k) + bg (ix1 k)

/-- Expert `k` of group `G`. -/
def member (G k : Fin 4) : Fin 16 := ⟨4 * G.val + k.val, by omega⟩

/-- Logit of expert `k` of group `G` for token `T`. -/
def expertLogit (h : Tab ⟨2, ![8192, 2048]⟩) (wx : Tab ⟨2, ![2048, 16]⟩) (bx : Tab ⟨1, ![16]⟩) (T : Fin 8192) (G k : Fin 4) : EReal :=
  ∑ y, h (ix2 T y) * wx (ix2 y (member G k)) + bx (ix1 (member G k))

/-- The experts' hidden unit `f`: gate projection through silu, times the up projection. -/
def hidden (h : Tab ⟨2, ![8192, 2048]⟩) (w1 w2 : Tab ⟨3, ![16, 2048, 512]⟩) (T : Fin 8192) (e : Fin 16) (f : Fin 512) : EReal :=
  ((∑ y, h (ix2 T y) * w1 (ix3 e y f)) * Ideal.logistic (∑ y, h (ix2 T y) * w1 (ix3 e y f))) *
    ∑ y, h (ix2 T y) * w2 (ix3 e y f)

/-- What expert `e` adds to channel `l` of a token whose combine weight for it is `c`. -/
def expertOut (h : Tab ⟨2, ![8192, 2048]⟩) (w1 w2 : Tab ⟨3, ![16, 2048, 512]⟩) (w3 : Tab ⟨3, ![16, 512, 2048]⟩)
    (c : EReal) (T : Fin 8192) (e : Fin 16) (l : Fin 2048) : EReal :=
  ∑ f, (hidden h w1 w2 T e f * c) * w3 (ix3 e f l)

/-- The residual, scaled, plus the gated sum over the experts. -/
def mixed (x : Tab ⟨2, ![8192, 2048]⟩) (gate : Tab ⟨3, ![4, 1, 2048]⟩) (T : Fin 8192) (s : Fin 2048 → EReal) (l : Fin 2048) : EReal :=
  Ideal.ofBits .f32 1068827891#32 * x (ix2 T l) + (1 + gate (ix3 ⟨T.val / 2048, by omega⟩ 0 l)) * s l

/-- The mean of a row of 2048 values. -/
def mean (z : Fin 2048 → EReal) : EReal := Ideal.div (∑ y, z y) (Ideal.ofBits .f32 1157627904#32)

/-- Layer norm of a row. -/
def layerNorm (z : Fin 2048 → EReal) (g b : Tab ⟨1, ![2048]⟩) (l : Fin 2048) : EReal :=
  (z l - mean z) * Ideal.rsqrt (mean (fun y => (z y - mean z) * (z y - mean z)) + Ideal.ofBits .f32 925353388#32) * g (ix1 l) + b (ix1 l)

/-- The sublayer's output for token `T`, channel `l`. -/
def sublayer (h : Tab ⟨2, ![8192, 2048]⟩) (wg : Tab ⟨2, ![2048, 4]⟩) (bg : Tab ⟨1, ![4]⟩) (wx : Tab ⟨2, ![2048, 16]⟩) (bx : Tab ⟨1, ![16]⟩)
    (w1 w2 : Tab ⟨3, ![16, 2048, 512]⟩) (w3 : Tab ⟨3, ![16, 512, 2048]⟩) (x : Tab ⟨2, ![8192, 2048]⟩) (gate : Tab ⟨3, ![4, 1, 2048]⟩)
    (g b : Tab ⟨1, ![2048]⟩) (T : Fin 8192) (l : Fin 2048) : EReal :=
  layerNorm (mixed x gate T fun l => ∑ e : Fin 16,
    expertOut h w1 w2 w3 (combine (groupLogit h wg bg T) (expertLogit h wx bx T) e.val) T e l) g b l
end Cert.MoE
-- ==== Proof.RefSide.lean ====
module
public import proofs.«01_k».proof.Proof.Gen.ReferenceIdeal.Read
public import proofs.«01_k».proof.Proof.Plain
public import proofs.«01_k».proof.Proof.Spec
@[expose] public section
set_option maxRecDepth 16384
noncomputable section

/-! # The reference, read index by index -/
namespace Cert.MoE
open Idealize.ShloMosaic Idealize.ShloMosaic.Pointwise Cert.ReferenceIdeal Cert.ReferenceIdeal.Read

variable (h : (⟨S8192x2048, .bf16⟩ : BufTy).Contents (Elt Ideal)) (wg : (⟨S2048x4, .f32⟩ : BufTy).Contents (Elt Ideal))
  (bg : (⟨S4, .f32⟩ : BufTy).Contents (Elt Ideal)) (wx : (⟨S2048x16, .f32⟩ : BufTy).Contents (Elt Ideal))
  (bx : (⟨S16, .f32⟩ : BufTy).Contents (Elt Ideal))
  (w1 w2 : (⟨S16x2048x512, .bf16⟩ : BufTy).Contents (Elt Ideal)) (w3 : (⟨S16x512x2048, .bf16⟩ : BufTy).Contents (Elt Ideal))
  (x : (⟨S8192x2048, .f32⟩ : BufTy).Contents (Elt Ideal)) (gate : (⟨S4x1x2048, .f32⟩ : BufTy).Contents (Elt Ideal))
  (g b : (⟨S2048, .f32⟩ : BufTy).Contents (Elt Ideal))

/-- Token `s` of sequence `i`, counted over all sequences. -/
def token (i : Fin 4) (s : Fin 2048) : Fin 8192 := ⟨i.val * 2048 + s.val, by omega⟩

variable (i : Fin 4) (s : Fin 2048)

/-- A softmax whose shift is once more bounded below by the least value. -/
theorem soft4_guard (f : Fin 4 → EReal) (k : Fin 4) :
    Ideal.div (Ideal.exp (f k - max (Ideal.ofBits FTy.f32 4286578688#32)
        (Finset.fold max (Ideal.ofBits FTy.f32 4286578688#32) (fun x => f x) Finset.univ)))
      (∑ x, Ideal.exp (f x - max (Ideal.ofBits FTy.f32 4286578688#32)
        (Finset.fold max (Ideal.ofBits FTy.f32 4286578688#32) (fun x => f x) Finset.univ))) = soft4 f k := by
  simp only [negInf, bot_sup_eq]
  rfl

theorem logits (k : Fin 4) : val_main_v6 h wg bg (ix3 i s k) = groupLogit h wg bg (token i s) k := by
  pointwise [val_main_v6, val_main_v5, val_main_v4, val_main_v3, val_main_v1, val_main_v0]
  rfl

theorem groups (k : Fin 4) : val_main_v17 h wg bg (ix3 i s k) = soft4 (groupLogit h wg bg (token i s)) k := by
  pointwise [val_main_v17, val_main_v16, val_main_v15, val_main_v14, val_main_v13, val_main_v12, val_main_v11, val_main_v10,
    val_main_v9, val_main_v8, val_main_v7, val_main_cst, val_main_cst_0, val_main_cst_1]
  simp only [logits]
  exact soft4_guard _ k

/-- The group chosen for token `s` of sequence `i`. -/
def chosenGroup : Fin 4 := pick (groupLogit h wg bg (token i s))

theorem group_value : val_main_values h wg bg (ix3 i s 0) =
    soft4 (groupLogit h wg bg (token i s)) (chosenGroup h wg bg i s) := by
  unfold val_main_values
  refine (topK_value _ _ (by decide) i s 0).trans ?_
  simp only [groups]
  rfl

theorem group_index : val_main_indices h wg bg (ix3 i s 0) = BitVec.ofNat 32 (chosenGroup h wg bg i s).val := by
  unfold val_main_indices
  refine (topK_index _ _ (by decide) i s 0).trans ?_
  simp only [groups]
  rfl

theorem expert_logits (G k : Fin 4) : val_main_v22 h wx bx (ix4 i s G k) = expertLogit h wx bx (token i s) G k := by
  pointwise [val_main_v22, val_main_v21, val_main_v20, val_main_v19, val_main_v18, val_main_v1, val_main_v0]
  have e : (⟨G.val * 4 + k.val, by omega⟩ : Fin 16) = member G k := Fin.ext (by
    show G.val * 4 + k.val = 4 * G.val + k.val
    omega)
  unfold expertLogit
  rw [← e]
  rfl

/-- The start of the gathered row: the chosen group, already in range. -/
theorem start_index : val_main_call0_v4 h wg bg (ix4 i s 0 0) = BitVec.ofNat 32 (chosenGroup h wg bg i s).val := by
  pointwise [val_main_call0_v4, val_main_call0_v3, val_main_call0_v2, val_main_call0_v1, val_main_call0_v0, val_main_call0_c,
    val_main_call0_c_0, val_main_v23]
  rw [group_index]
  generalize chosenGroup h wg bg i s = G
  revert G
  decide

theorem in_range : val_main_call0_v11 h wg bg (ix3 i s 0) = 1#1 := by
  pointwise [val_main_call0_v11]
  have e : ∀ y : Fin 1, val_main_call0_v10 h wg bg (ix4 i s 0 y) = 1#1 := fun y => by
    obtain rfl : y = 0 := Subsingleton.elim _ _
    pointwise [val_main_call0_v10, val_main_call0_v9, val_main_call0_v8, val_main_call0_v7, val_main_call0_v6,
      val_main_call0_v5, val_main_call0_c_1, val_main_call0_c_2]
    rw [start_index]
    generalize chosenGroup h wg bg i s = G
    revert G
    decide
  simp only [e]
  decide

/-- One row of four logits gathered per token, at a start index in range. -/
theorem gather_group {α : Type} (f : S4x2048x4x4.Idx → α) (idx : IVec S4x2048x1x1 32) (G k : Fin 4)
    (hG : idx (ix4 i s 0 0) = BitVec.ofNat 32 G.val) :
    Host.gather gather_S4x2048x4x4_S4x2048x1x1_S4x2048x1x4_3_2_01_01_2_3_1114 f idx (ix4 i s 0 k) = f (ix4 i s G k) := by
  unfold Host.gather
  congr 1
  funext a
  apply Fin.ext
  show GatherDims.start _ _ idx a + GatherDims.batchCoord _ _ a + GatherDims.offCoord _ _ a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (by decide), GatherDims.offCoord_eq_zero _ _ _ (by decide)]
    unfold GatherDims.batchCoord
    rw [dif_pos (by decide)]
    show 0 + i.val + 0 = i.val
    omega
  · rw [GatherDims.start_batching _ _ _ _ (by decide), GatherDims.offCoord_eq_zero _ _ _ (by decide)]
    unfold GatherDims.batchCoord
    rw [dif_pos (by decide)]
    show 0 + s.val + 0 = s.val
    omega
  · rw [GatherDims.batchCoord_eq_zero _ _ _ (by decide), GatherDims.offCoord_eq_zero _ _ _ (by decide)]
    unfold GatherDims.start
    rw [dif_pos (by decide)]
    have e : ∀ c, GatherDims.siIdx gather_S4x2048x4x4_S4x2048x1x1_S4x2048x1x4_3_2_01_01_2_3_1114 (ix4 i s 0 k) c = ix4 i s 0 0 := fun c => by
      funext b
      apply Fin.ext
      match b with
      | ⟨0, _⟩ => rfl
      | ⟨1, _⟩ => rfl
      | ⟨2, _⟩ => rfl
      | ⟨3, _⟩ => exact Nat.lt_one_iff.mp (Fin.isLt _)
    rw [e, hG]
    clear e hG
    show min (BitVec.ofNat 32 G.val).toInt.toNat 3 + 0 + 0 = G.val
    revert G
    decide
  · rw [GatherDims.batchCoord_eq_zero _ _ _ (by decide)]
    unfold GatherDims.start GatherDims.offCoord
    rw [dif_neg (by decide), dif_pos (by decide)]
    show 0 + 0 + k.val = k.val
    omega

/-- The four logits of the chosen group. -/
def groupRow : Fin 4 → EReal := expertLogit h wx bx (token i s) (chosenGroup h wg bg i s)

theorem gathered (k : Fin 4) : val_main_v25 h wg bg wx bx (ix3 i s k) = groupRow h wg bg wx bx i s k := by
  have e : val_main_call0_v12 h wg bg wx bx (ix4 i s 0 k) = groupRow h wg bg wx bx i s k := by
    unfold val_main_call0_v12
    rw [gather_group i s _ _ (chosenGroup h wg bg i s) k (start_index h wg bg i s), expert_logits]
    rfl
  pointwise [val_main_v25, val_main_v24, val_main_call0_v13]
  rw [in_range, e]
  rfl

theorem members (k : Fin 4) : val_main_v36 h wg bg wx bx (ix3 i s k) = soft4 (groupRow h wg bg wx bx i s) k := by
  pointwise [val_main_v36, val_main_v35, val_main_v34, val_main_v33, val_main_v32, val_main_v31, val_main_v30, val_main_v29,
    val_main_v28, val_main_v27, val_main_v26, val_main_cst_2, val_main_cst_3, val_main_cst_4]
  simp only [gathered]
  exact soft4_guard _ k

theorem member_value (p : Fin 2) : val_main_values_5 h wg bg wx bx (ix3 i s p) =
    soft4 (groupRow h wg bg wx bx i s) (sortedFrom (greater (soft4 (groupRow h wg bg wx bx i s))) ⟨p.val, by omega⟩) := by
  unfold val_main_values_5
  refine (topK_value _ _ (by decide) i s p).trans ?_
  simp only [members]

theorem member_index (p : Fin 2) : val_main_indices_6 h wg bg wx bx (ix3 i s p) =
    BitVec.ofNat 32 (sortedFrom (greater (soft4 (groupRow h wg bg wx bx i s))) ⟨p.val, by omega⟩).val := by
  unfold val_main_indices_6
  refine (topK_index _ _ (by decide) i s p).trans ?_
  simp only [members]

/-- The expert number's lane compared with lane `e`. -/
theorem one_hot (G k : Fin 4) (e : Fin 16) :
    IntOp.cmpi .eq (IntOp.addi (IntOp.muli (BitVec.ofNat 32 G.val) 4#32) (BitVec.ofNat 32 k.val)) (BitVec.ofNat 32 e.val) =
    BitVec.ofBool (decide (e.val = 4 * G.val + k.val)) := by
  revert G k e
  decide

theorem one_hot_times (p : Prop) [Decidable p] (w : EReal) :
    FloatOps.uitofp (F := Ideal) FTy.f32 (BitVec.ofBool (decide p)) * w = if p then w else 0 := by
  by_cases hp : p
  · rw [if_pos hp, decide_eq_true hp]
    show (((1 : Nat) : ℝ) : EReal) * w = w
    simp
  · rw [if_neg hp, decide_eq_false hp]
    show (((0 : Nat) : ℝ) : EReal) * w = 0
    simp

theorem weights (e : Fin 16) : val_main_v51 h wg bg wx bx (ix3 i s e) =
    combine (groupLogit h wg bg (token i s)) (expertLogit h wx bx (token i s)) e.val := by
  pointwise [val_main_v51, val_main_v50, val_main_v49, val_main_v48, val_main_v47, val_main_call1_v4, val_main_call1_v3,
    val_main_call1_v2, val_main_call1_v1, val_main_call1_v0, val_main_v46, val_main_v45, val_main_v44, val_main_v43, val_main_c,
    val_main_cst_8, val_main_v42, val_main_v41, val_main_v40, val_main_v39, val_main_v38, val_main_v37, val_main_cst_7]
  simp only [group_value, group_index, member_value, member_index, one_hot, one_hot_times, Fin.sum_univ_two]
  rfl

theorem activations (e : Fin 16) (f : Fin 512) : val_main_v60 h wg bg wx bx w1 w2 (ix4 i s e f) =
    hidden h w1 w2 (token i s) e f * combine (groupLogit h wg bg (token i s)) (expertLogit h wx bx (token i s)) e.val := by
  pointwise [val_main_v60, val_main_v59, val_main_v58, val_main_v57, val_main_v56, val_main_v55, val_main_v54, val_main_call2_v5,
    val_main_call2_v4, val_main_call2_v3, val_main_call2_v2, val_main_call2_v1, val_main_call2_v0, val_main_call2_cst,
    val_main_call2_cst_0, val_main_v53, val_main_v52, val_main_v1, val_main_v0]
  rw [weights]
  rfl

theorem residual (l : Fin 2048) : val_main_v69 h wg bg wx bx w1 w2 w3 x gate (ix3 i s l) =
    mixed x gate (token i s) (fun l => ∑ e : Fin 16, expertOut h w1 w2 w3
      (combine (groupLogit h wg bg (token i s)) (expertLogit h wx bx (token i s)) e.val) (token i s) e l) l := by
  have hi : (⟨(token i s).val / 2048, by omega⟩ : Fin 4) = i := Fin.ext (by
    show (i.val * 2048 + s.val) / 2048 = i.val
    omega)
  pointwise [val_main_v69, val_main_v68, val_main_v67, val_main_v66, val_main_v65, val_main_v64, val_main_v63, val_main_v2,
    val_main_cst_9, val_main_cst_10, val_main_v62, val_main_v61]
  unfold mixed
  rw [hi]
  simp only [activations]
  rfl

theorem reference_value (T : Fin 8192) (l : Fin 2048) :
    val_main_v92 h wg bg wx bx w1 w2 w3 x gate g b (ix2 T l) = sublayer h wg bg wx bx w1 w2 w3 x gate g b T l := by
  have hT : token ⟨T.val / 2048, by omega⟩ ⟨T.val % 2048, by omega⟩ = T := Fin.ext (by
    show T.val / 2048 * 2048 + T.val % 2048 = T.val
    omega)
  pointwise [val_main_v92, val_main_v91, val_main_v90, val_main_v89, val_main_v88, val_main_v87, val_main_v86, val_main_v85,
    val_main_v84, val_main_v83, val_main_v82, val_main_v81, val_main_v80, val_main_v79, val_main_v78, val_main_v77, val_main_v76,
    val_main_v75, val_main_v74, val_main_v73, val_main_v72, val_main_v71, val_main_v70, val_main_cst_11, val_main_cst_12,
    val_main_cst_13, val_main_cst_14, val_main_cst_15]
  simp only [residual, hT]
  rfl
end Cert.MoE
-- ==== Proof.Blocks.lean ====
module
public import proofs.«01_k».proof.Proof.Routing
public import Idealize.ShloMosaic.Lib.StableHlo.RunRead
@[expose] public section
set_option maxRecDepth 16384
noncomputable section

/-! # The input blocks of a grid point, read at an index

Grid point `t` reads token tile `t / 16`, expert `t % 16` and the gate row of sequence `t / 64`. -/
namespace Cert.MoE
open Idealize.ShloMosaic Idealize.ShloMosaic.Pointwise Cert.KernelIdeal Cert.KernelIdeal.Gen Idealize.ShloMosaic.TcCoe Idealize.SL.Sem

theorem at0 : ∀ t : Fin cfg0.N, win0_0.index t 0 = t.val / 16 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val % 16 ∧ win0_3.index t 1 = 0 ∧ win0_3.index t 2 = 0 := by decide +kernel
theorem at4 : ∀ t : Fin cfg0.N, win0_4.index t 0 = t.val % 16 ∧ win0_4.index t 1 = 0 ∧ win0_4.index t 2 = 0 := by decide +kernel
theorem at5 : ∀ t : Fin cfg0.N, win0_5.index t 0 = t.val % 16 ∧ win0_5.index t 1 = 0 ∧ win0_5.index t 2 = 0 := by decide +kernel
theorem at6 : ∀ t : Fin cfg0.N, win0_6.index t 0 = t.val / 16 ∧ win0_6.index t 1 = 0 := by decide +kernel
theorem at7 : ∀ t : Fin cfg0.N, win0_7.index t 0 = t.val / 64 ∧ win0_7.index t 1 = 0 ∧ win0_7.index t 2 = 0 := by decide +kernel
theorem at8 : ∀ t : Fin cfg0.N, win0_8.index t 0 = 0 ∧ win0_8.index t 1 = 0 := by decide +kernel
theorem at9 : ∀ t : Fin cfg0.N, win0_9.index t 0 = 0 ∧ win0_9.index t 1 = 0 := by decide +kernel

/-- The token that row `r` of point `t`'s tile holds. -/
def tok (t : Fin cfg0.N) (r : Fin 512) : Fin 8192 :=
  ⟨512 * (t.val / 16) + r.val, by have := lt_of_lt_of_eq t.isLt (show cfg0.N = 256 from N_0); omega⟩
/-- The expert of point `t`. -/
def expertOf (t : Fin cfg0.N) : Fin 16 := ⟨t.val % 16, Nat.mod_lt _ (by decide)⟩
/-- The sequence of point `t`'s tile. -/
def seqOf (t : Fin cfg0.N) : Fin 4 :=
  ⟨t.val / 64, by have := lt_of_lt_of_eq t.isLt (show cfg0.N = 256 from N_0); omega⟩

variable (m : (ℓ : Loc nD τ sig) → Buf (Elt Ideal) ℓ) (c : Dev nD) (t : Fin cfg0.N)

theorem block0 (r : Fin 512) (l : Fin 2048) : (iblk m c 0 t : Vec Ideal S512x2048 .bf16) (ix2 r l) =
    m ((c : Thread nD τ).loc main_arg0) (ix2 (tok t r) l) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val/16) + r.val; rw [(at0 t).1]; omega
  | ⟨1, _⟩ => show win0_0.index t 1 * 2048 + 1 * l.val = l.val; rw [(at0 t).2]; omega

theorem block6 (r : Fin 512) (l : Fin 2048) : (iblk m c 6 t : Vec Ideal S512x2048 .f32) (ix2 r l) =
    m ((c : Thread nD τ).loc main_arg8) (ix2 (tok t r) l) := by
  unfold iblk
  rw [View.read_apply]
  show V m c main_arg8 _ = _
  rw [V_main_arg8]
  congr 1
  funext a
  apply Fin.ext
  match a with
  | ⟨0, _⟩ => show win0_6.index t 0 * 512 + 1 * r.val = 512 * (t.val/16) + r.val; rw [(at6 t).1]; omega
  | ⟨1, _⟩ => show win0_6.index t 1 * 2048 + 1 * l.val = l.val; rw [(at6 t).2]; omega

theorem block3 (y : Fin 2048) (x : Fin 512) : (iblk m c 3 t : Vec Ideal S1x2048x512 .bf16) (ix3 0 y x) =
    m ((c : Thread nD τ).loc main_arg5) (ix3 (expertOf t) y x) := by
  unfold iblk
  rw [View.read_apply]
  show V m c main_arg5 _ = _
  rw [V_main_arg5]
  congr 1
  funext a
  apply Fin.ext
  match a with
  | ⟨0, _⟩ => show win0_3.index t 0 * 1 + 1 * 0 = t.val % 16; rw [(at3 t).1]; omega
  | ⟨1, _⟩ => show win0_3.index t 1 * 2048 + 1 * y.val = y.val; rw [(at3 t).2.1]; omega
  | ⟨2, _⟩ => show win0_3.index t 2 * 512 + 1 * x.val = x.val; rw [(at3 t).2.2]; omega

theorem block4 (y : Fin 2048) (x : Fin 512) : (iblk m c 4 t : Vec Ideal S1x2048x512 .bf16) (ix3 0 y x) =
    m ((c : Thread nD τ).loc main_arg6) (ix3 (expertOf t) y x) := by
  unfold iblk
  rw [View.read_apply]
  show V m c main_arg6 _ = _
  rw [V_main_arg6]
  congr 1
  funext a
  apply Fin.ext
  match a with
  | ⟨0, _⟩ => show win0_4.index t 0 * 1 + 1 * 0 = t.val % 16; rw [(at4 t).1]; omega
  | ⟨1, _⟩ => show win0_4.index t 1 * 2048 + 1 * y.val = y.val; rw [(at4 t).2.1]; omega
  | ⟨2, _⟩ => show win0_4.index t 2 * 512 + 1 * x.val = x.val; rw [(at4 t).2.2]; omega

theorem block5 (y : Fin 512) (x : Fin 2048) : (iblk m c 5 t : Vec Ideal S1x512x2048 .bf16) (ix3 0 y x) =
    m ((c : Thread nD τ).loc main_arg7) (ix3 (expertOf t) y x) := by
  unfold iblk
  rw [View.read_apply]
  show V m c main_arg7 _ = _
  rw [V_main_arg7]
  congr 1
  funext a
  apply Fin.ext
  match a with
  | ⟨0, _⟩ => show win0_5.index t 0 * 1 + 1 * 0 = t.val % 16; rw [(at5 t).1]; omega
  | ⟨1, _⟩ => show win0_5.index t 1 * 512 + 1 * y.val = y.val; rw [(at5 t).2.1]; omega
  | ⟨2, _⟩ => show win0_5.index t 2 * 2048 + 1 * x.val = x.val; rw [(at5 t).2.2]; omega

theorem block7 (x : Fin 2048) : (iblk m c 7 t : Vec Ideal S1x1x2048 .f32) (ix3 0 0 x) =
    m ((c : Thread nD τ).loc main_arg9) (ix3 (seqOf t) 0 x) := by
  unfold iblk
  rw [View.read_apply]
  show V m c main_arg9 _ = _
  rw [V_main_arg9]
  congr 1
  funext a
  apply Fin.ext
  match a with
  | ⟨0, _⟩ => show win0_7.index t 0 * 1 + 1 * 0 = t.val / 64; rw [(at7 t).1]; omega
  | ⟨1, _⟩ => show win0_7.index t 1 * 1 + 1 * 0 = 0; rw [(at7 t).2.1]
  | ⟨2, _⟩ => show win0_7.index t 2 * 2048 + 1 * x.val = x.val; rw [(at7 t).2.2]; omega

/-- A one-row block covering a packed vector holds the vector. -/
theorem row_index (f : S1x2048.Idx → EReal) (i : Fin 2 → Nat) (x : Fin 2048) (h0 : i 0 = 0) (h1 : i 1 = 0) (j : S1x2048.Idx)
    (hj : ∀ a, (j a).val = i a * S1x2048.size a + 1 * ((ix2 (0 : Fin 1) x : S1x2048.Idx) a).val) : f j = f (ix2 0 x) := by
  congr 1
  funext a
  apply Fin.ext
  rw [hj a]
  match a with
  | ⟨0, _⟩ => show i 0 * 1 + 1 * 0 = 0; rw [h0]
  | ⟨1, _⟩ => show i 1 * 2048 + 1 * x.val = x.val; rw [h1]; omega

theorem block8 (x : Fin 2048) : (iblk m c 8 t : Vec Ideal S1x2048 .f32) (ix2 0 x) =
    m ((c : Thread nD τ).loc main_arg10) (ix1 x) := by
  unfold iblk
  rw [View.read_apply]
  refine (row_index (V m c main_v6) (win0_8.index t) x (at8 t).1 (at8 t).2 _ fun a => ?_).trans ?_
  · match a with
    | ⟨0, _⟩ => rfl
    | ⟨1, _⟩ => rfl
  · unfold V hostOps0
    after_reads_simp
    pointwise

theorem block9 (x : Fin 2048) : (iblk m c 9 t : Vec Ideal S1x2048 .f32) (ix2 0 x) =
    m ((c : Thread nD τ).loc main_arg11) (ix1 x) := by
  unfold iblk
  rw [View.read_apply]
  refine (row_index (V m c main_v7) (win0_9.index t) x (at9 t).1 (at9 t).2 _ fun a => ?_).trans ?_
  · match a with
    | ⟨0, _⟩ => rfl
    | ⟨1, _⟩ => rfl
  · unfold V hostOps0
    after_reads_simp
    pointwise

/-! ## The packed router: lanes 0–3 the group router, lanes 4–19 the expert router -/

theorem packed_low (x : Fin 2048) (k : Fin 4) :
    (V m c main_v2 : Vec Ideal S2048x128 .bf16) (ix2 x ⟨k.val, by omega⟩) =
    m ((c : Thread nD τ).loc main_arg1) (ix2 x k) := by
  unfold V hostOps0
  after_reads_simp
  pointwise
  try rw [dif_pos k.isLt]
  after_reads_simp

theorem packed_high (x : Fin 2048) (e : Fin 16) :
    (V m c main_v2 : Vec Ideal S2048x128 .bf16) (ix2 x ⟨4 + e.val, by omega⟩) =
    m ((c : Thread nD τ).loc main_arg3) (ix2 x e) := by
  unfold V hostOps0
  after_reads_simp
  pointwise
  after_reads_simp

theorem bias_low (k : Fin 4) :
    (V m c main_v5 : Vec Ideal S1x128 .f32) (ix2 0 ⟨k.val, by omega⟩) =
    m ((c : Thread nD τ).loc main_arg2) (ix1 k) := by
  unfold V hostOps0
  after_reads_simp
  pointwise
  try rw [dif_pos k.isLt]
  after_reads_simp

theorem bias_high (e : Fin 16) :
    (V m c main_v5 : Vec Ideal S1x128 .f32) (ix2 0 ⟨4 + e.val, by omega⟩) =
    m ((c : Thread nD τ).loc main_arg4) (ix1 e) := by
  unfold V hostOps0
  after_reads_simp
  pointwise
  after_reads_simp

theorem block1 (x : Fin 2048) (l : Fin 128) : (iblk m c 1 t : Vec Ideal S2048x128 .bf16) (ix2 x l) =
    (V m c main_v2 : Vec Ideal S2048x128 .bf16) (ix2 x l) := by
  unfold iblk
  rw [View.read_apply]
  show V m c main_v2 _ = _
  congr 1
  funext a
  apply Fin.ext
  match a with
  | ⟨0, _⟩ => show win0_1.index t 0 * 2048 + 1 * x.val = x.val; rw [(at1 t).1]; omega
  | ⟨1, _⟩ => show win0_1.index t 1 * 128 + 1 * l.val = l.val; rw [(at1 t).2]; omega

theorem block2 (l : Fin 128) : (iblk m c 2 t : Vec Ideal S1x128 .f32) (ix2 0 l) =
    (V m c main_v5 : Vec Ideal S1x128 .f32) (ix2 0 l) := by
  unfold iblk
  rw [View.read_apply]
  show V m c main_v5 _ = _
  congr 1
  funext a
  apply Fin.ext
  match a with
  | ⟨0, _⟩ => show win0_2.index t 0 * 1 + 1 * 0 = 0; rw [(at2 t).1]
  | ⟨1, _⟩ => show win0_2.index t 1 * 128 + 1 * l.val = l.val; rw [(at2 t).2]; omega

theorem block1_low (x : Fin 2048) (k : Fin 4) : (iblk m c 1 t : Vec Ideal S2048x128 .bf16) (ix2 x ⟨k.val, by omega⟩) =
    m ((c : Thread nD τ).loc main_arg1) (ix2 x k) := (block1 m c t x _).trans (packed_low m c x k)
theorem block1_high (x : Fin 2048) (e : Fin 16) : (iblk m c 1 t : Vec Ideal S2048x128 .bf16) (ix2 x ⟨4 + e.val, by omega⟩) =
    m ((c : Thread nD τ).loc main_arg3) (ix2 x e) := (block1 m c t x _).trans (packed_high m c x e)
theorem block2_low (k : Fin 4) : (iblk m c 2 t : Vec Ideal S1x128 .f32) (ix2 0 ⟨k.val, by omega⟩) =
    m ((c : Thread nD τ).loc main_arg2) (ix1 k) := (block2 m c t _).trans (bias_low m c k)
theorem block2_high (e : Fin 16) : (iblk m c 2 t : Vec Ideal S1x128 .f32) (ix2 0 ⟨4 + e.val, by omega⟩) =
    m ((c : Thread nD τ).loc main_arg4) (ix1 e) := (block2 m c t _).trans (bias_high m c e)
end Cert.MoE
-- ==== Proof.KernelSide.lean ====
module
public import proofs.«01_k».proof.Proof.Blocks
public import proofs.«01_k».proof.Proof.Spec
@[expose] public section
set_option maxRecDepth 16384
noncomputable section

/-! # The kernel, read index by index

Sixteen consecutive grid points handle one token tile, one expert each: the first leaves the routing weights, each adds
its expert to the accumulator, the last writes the normed rows. -/
namespace Cert.MoE
open Idealize.ShloMosaic Idealize.ShloMosaic.Pointwise Cert.KernelIdeal Cert.KernelIdeal.Gen Cert.KernelIdeal.Value Idealize.ShloMosaic.TcCoe Idealize.SL.Sem

variable (m : (ℓ : Loc nD τ sig) → Buf (Elt Ideal) ℓ) (c : Dev nD)

/-- The argument arrays as tables. -/
def A0 : Tab ⟨2, ![8192, 2048]⟩ := m ((c : Thread nD τ).loc main_arg0)
def A1 : Tab ⟨2, ![2048, 4]⟩ := m ((c : Thread nD τ).loc main_arg1)
def A2 : Tab ⟨1, ![4]⟩ := m ((c : Thread nD τ).loc main_arg2)
def A3 : Tab ⟨2, ![2048, 16]⟩ := m ((c : Thread nD τ).loc main_arg3)
def A4 : Tab ⟨1, ![16]⟩ := m ((c : Thread nD τ).loc main_arg4)
def A5 : Tab ⟨3, ![16, 2048, 512]⟩ := m ((c : Thread nD τ).loc main_arg5)
def A6 : Tab ⟨3, ![16, 2048, 512]⟩ := m ((c : Thread nD τ).loc main_arg6)
def A7 : Tab ⟨3, ![16, 512, 2048]⟩ := m ((c : Thread nD τ).loc main_arg7)
def A8 : Tab ⟨2, ![8192, 2048]⟩ := m ((c : Thread nD τ).loc main_arg8)
def A9 : Tab ⟨3, ![4, 1, 2048]⟩ := m ((c : Thread nD τ).loc main_arg9)
def A10 : Tab ⟨1, ![2048]⟩ := m ((c : Thread nD τ).loc main_arg10)
def A11 : Tab ⟨1, ![2048]⟩ := m ((c : Thread nD τ).loc main_arg11)

/-- The combine weight of expert `e` for token `T`. -/
def weight (T : Fin 8192) (e : Nat) : EReal :=
  combine (groupLogit (A0 m c) (A1 m c) (A2 m c) T) (expertLogit (A0 m c) (A3 m c) (A4 m c) T) e

/-- What expert `e` adds to channel `l` of token `T`; nothing beyond the sixteen experts. -/
def part (T : Fin 8192) (l : Fin 2048) (e : Nat) : EReal :=
  if he : e < 16 then expertOut (A0 m c) (A5 m c) (A6 m c) (A7 m c) (weight m c T e) T ⟨e, he⟩ l else 0

/-! ## The routing weights -/

theorem groupLogit_block (t : Fin cfg0.N) (r : Fin 512) (k : Fin 4) :
    gLane (iblk m c 0 t) (iblk m c 1 t) (iblk m c 2 t) r k = groupLogit (A0 m c) (A1 m c) (A2 m c) (tok t r) k := by
  unfold gLane lane groupLogit low
  simp only [block0, block1_low, block2_low]
  rfl

theorem expertLogit_block (t : Fin cfg0.N) (r : Fin 512) (G k : Fin 4) :
    xLane (iblk m c 0 t) (iblk m c 1 t) (iblk m c 2 t) r G k = expertLogit (A0 m c) (A3 m c) (A4 m c) (tok t r) G k := by
  have e : grp G k = ⟨4 + (member G k).val, by omega⟩ := Fin.ext (by
    show 4 + 4 * G.val + k.val = 4 + (4 * G.val + k.val)
    omega)
  unfold xLane lane expertLogit
  rw [e]
  simp only [block0, block1_high, block2_high]
  rfl

theorem route_block (t : Fin cfg0.N) (r : Fin 512) (e : Fin 16) :
    route (iblk m c 0 t) (iblk m c 1 t) (iblk m c 2 t) (ix2 r (⟨4 + e.val, by omega⟩ : Fin 128)) = weight m c (tok t r) e.val := by
  have hg : gLane (iblk m c 0 t) (iblk m c 1 t) (iblk m c 2 t) r = groupLogit (A0 m c) (A1 m c) (A2 m c) (tok t r) :=
    funext fun k => groupLogit_block m c t r k
  have hx : xLane (iblk m c 0 t) (iblk m c 1 t) (iblk m c 2 t) r = expertLogit (A0 m c) (A3 m c) (A4 m c) (tok t r) :=
    funext fun G => funext fun k => expertLogit_block m c t r G k
  have hc := route_apply (iblk m c 0 t) (iblk m c 1 t) (iblk m c 2 t) r e
  rw [hg, hx] at hc
  exact hc

/-! ## One expert -/

theorem coord1 : ∀ t : Fin cfg0.N, (grid0.coords t 1).val = t.val % 16 := by decide +kernel

/-- The lane the kernel looks its weight up in. -/
theorem lane_word (l : Fin 128) (e : Fin 16) :
    IntOp.cmpi .eq (BitVec.ofNat 32 l.val) (Scalar.addi (BitVec.ofNat 32 e.val) 4#32) =
    BitVec.ofBool (decide (l = (⟨4 + e.val, by omega⟩ : Fin 128))) := by
  revert l e
  decide +kernel

/-- The sum over the lanes of a row, masked to one lane, is that lane. -/
theorem lane_sum (f : Fin 128 → EReal) (e : Fin 16) :
    ∑ l : Fin 128, Scalar.select (IntOp.cmpi .eq (BitVec.ofNat 32 l.val) (Scalar.addi (BitVec.ofNat 32 e.val) 4#32)) (f l) 0 =
    f ⟨4 + e.val, by omega⟩ := by
  simp only [lane_word, select_dec]
  rw [Finset.sum_ite_eq' Finset.univ]
  exact if_pos (Finset.mem_univ _)

/-- One expert's step of the accumulator, over weights `R` and what was there `S`. -/
theorem expert_step (t : Fin cfg0.N) (R : Vec Ideal S512x128 .f32) (S : Vec Ideal S512x2048 .f32)
    (hR : ∀ (r : Fin 512) (e : Fin 16), R (ix2 r (⟨4 + e.val, by omega⟩ : Fin 128)) = weight m c (tok t r) e.val)
    (r : Fin 512) (l : Fin 2048) :
    k0_pay1 (k0_pay25 (grid0.coords t) (iblk m c 0 t) R (iblk m c 3 t) (iblk m c 4 t) S (iblk m c 5 t)) (ix2 r l) =
    S (ix2 r l) + part m c (tok t r) l (t.val % 16) := by
  pointwise [k0_pay1, k0_pay25]
  have he : (grid0.coords t 1).val = (expertOf t).val := coord1 t
  simp only [he]
  have hs := lane_sum (fun x => R (ix2 r x)) (expertOf t)
  simp only [hs, hR, block0, block3, block4, block5]
  unfold part
  rw [dif_pos (Nat.mod_lt _ (by decide))]
  rfl

/-! ## The sixteen points of a tile -/

/-- Neighbouring points of one tile hold the same tokens. -/
theorem tok_prev (n : Nat) (hn : n + 1 < cfg0.N) (h0 : ¬(n + 1) % 16 = 0) (r : Fin 512) :
    tok ⟨n, Nat.lt_of_succ_lt hn⟩ r = tok ⟨n + 1, hn⟩ r := Fin.ext (by
  show 512 * (n / 16) + r.val = 512 * ((n + 1) / 16) + r.val
  have : (n + 1) / 16 = n / 16 := by omega
  rw [this])

/-- After a point that is not the last of its tile: the weights are there, and the experts so far are added up. -/
theorem tile_state (n : Nat) : ∀ (hn : n < cfg0.N), n % 16 < 15 →
    (∀ (r : Fin 512) (e : Fin 16), (outsAt0 m c n hn).2.1 (ix2 r (⟨4 + e.val, by omega⟩ : Fin 128)) = weight m c (tok ⟨n, hn⟩ r) e.val) ∧
    ∀ (r : Fin 512) (l : Fin 2048), (outsAt0 m c n hn).2.2 (ix2 r l) =
      ∑ e ∈ Finset.range (n % 16 + 1), part m c (tok ⟨n, hn⟩ r) l e := by
  have start : ∀ (k : Nat) (hk : k < cfg0.N) (acc : State Ideal), k % 16 = 0 →
      (∀ (r : Fin 512) (e : Fin 16), (stAt0 m c k hk acc).2.1 (ix2 r (⟨4 + e.val, by omega⟩ : Fin 128)) = weight m c (tok ⟨k, hk⟩ r) e.val) ∧
      ∀ (r : Fin 512) (l : Fin 2048), (stAt0 m c k hk acc).2.2 (ix2 r l) =
        ∑ e ∈ Finset.range (k % 16 + 1), part m c (tok ⟨k, hk⟩ r) l e := fun k hk acc h0 => by
    have h1 : ¬k % 16 = 15 := by omega
    refine ⟨fun r e => ?_, fun r l => ?_⟩
    · rw [first_route m c ⟨k, hk⟩ acc h0 h1]
      exact route_block m c ⟨k, hk⟩ r e
    · rw [first_acc m c ⟨k, hk⟩ acc h0 h1, expert_step m c ⟨k, hk⟩ _ _ (route_block m c ⟨k, hk⟩)]
      have z : k0_pay24 (F := Ideal) (ix2 r l) = 0 := by pointwise [k0_pay24]
      rw [z, zero_add, h0, Finset.sum_range_one]
  induction n with
  | zero =>
    intro hn _
    rw [outsAt0_zero]
    exact start 0 hn _ rfl
  | succ n ih =>
    intro hn h15
    rw [outsAt0_succ]
    by_cases h0 : (n + 1) % 16 = 0
    · exact start (n + 1) hn _ h0
    · obtain ⟨hR, hS⟩ := ih (Nat.lt_of_succ_lt hn) (by omega)
      simp only [tok_prev n hn h0] at hR hS
      have h1 : ¬(n + 1) % 16 = 15 := by omega
      refine ⟨fun r e => ?_, fun r l => ?_⟩
      · rw [mid_route m c ⟨n + 1, hn⟩ _ h0 h1]
        exact hR r e
      · rw [mid_acc m c ⟨n + 1, hn⟩ _ h0 h1, expert_step m c ⟨n + 1, hn⟩ _ _ hR, hS, Finset.sum_range_succ _ ((n + 1) % 16)]
        have : n % 16 + 1 = (n + 1) % 16 := by omega
        rw [this]

/-- The last point of a tile writes the normed rows of its tokens. -/
theorem tile_out (n : Nat) (hn : n < cfg0.N) (h15 : n % 16 = 15) (r : Fin 512) (l : Fin 2048) :
    (outsAt0 m c n hn).1 (ix2 r l) = sublayer (A0 m c) (A1 m c) (A2 m c) (A3 m c) (A4 m c) (A5 m c) (A6 m c) (A7 m c) (A8 m c)
      (A9 m c) (A10 m c) (A11 m c) (tok ⟨n, hn⟩ r) l := by
  obtain ⟨n, rfl⟩ : ∃ k, n = k + 1 := ⟨n - 1, by omega⟩
  have h0 : ¬(n + 1) % 16 = 0 := by omega
  obtain ⟨hR, hS⟩ := tile_state m c n (Nat.lt_of_succ_lt hn) (by omega)
  simp only [tok_prev n hn h0] at hR hS
  rw [outsAt0_succ, last_out m c ⟨n + 1, hn⟩ _ h0 h15]
  have hsum : ∀ y : Fin 2048, k0_pay1 (k0_pay25 (grid0.coords ⟨n + 1, hn⟩) (iblk m c 0 ⟨n + 1, hn⟩)
      (outsAt0 m c n (Nat.lt_of_succ_lt hn)).2.1 (iblk m c 3 ⟨n + 1, hn⟩) (iblk m c 4 ⟨n + 1, hn⟩)
      (outsAt0 m c n (Nat.lt_of_succ_lt hn)).2.2 (iblk m c 5 ⟨n + 1, hn⟩)) (ix2 r y) =
      ∑ e : Fin 16, expertOut (A0 m c) (A5 m c) (A6 m c) (A7 m c) (weight m c (tok ⟨n + 1, hn⟩ r) e.val) (tok ⟨n + 1, hn⟩ r) e y := fun y => by
    rw [expert_step m c ⟨n + 1, hn⟩ _ _ hR, hS]
    have e1 : n % 16 + 1 = 15 := by omega
    rw [e1]
    show _ + part m c _ y ((n + 1) % 16) = _
    rw [h15, ← Finset.sum_range_succ _ 15, Finset.sum_range]
    refine Finset.sum_congr rfl fun e _ => ?_
    unfold part
    rw [dif_pos e.isLt]
  generalize k0_pay1 (k0_pay25 (grid0.coords ⟨n + 1, hn⟩) (iblk m c 0 ⟨n + 1, hn⟩)
      (outsAt0 m c n (Nat.lt_of_succ_lt hn)).2.1 (iblk m c 3 ⟨n + 1, hn⟩) (iblk m c 4 ⟨n + 1, hn⟩)
      (outsAt0 m c n (Nat.lt_of_succ_lt hn)).2.2 (iblk m c 5 ⟨n + 1, hn⟩)) = S at hsum ⊢
  pointwise [k0_pay2]
  have hq : seqOf ⟨n + 1, hn⟩ = ⟨(tok ⟨n + 1, hn⟩ r).val / 2048, by omega⟩ := Fin.ext (by
    show (n + 1) / 64 = (512 * ((n + 1) / 16) + r.val) / 2048
    omega)
  simp only [hsum, block6, block7, block8, block9, hq]
  rfl

/-- The kernel's result array holds the sublayer's output. -/
theorem kernel_value (T : Fin 8192) (l : Fin 2048) :
    (G10 m c : Tab ⟨2, ![8192, 2048]⟩) (ix2 T l) = sublayer (A0 m c) (A1 m c) (A2 m c) (A3 m c) (A4 m c) (A5 m c) (A6 m c) (A7 m c) (A8 m c)
      (A9 m c) (A10 m c) (A11 m c) T l := by
  have hp : pt10Of (ix2 T l) = 16 * (T.val / 512) + 15 := by
    show 16 * (1 * (T.val / 512 - 0) + 1 * (l.val / 2048 - 0)) + 15 = _
    omega
  have hb : 16 * (T.val / 512) + 15 < cfg0.N := lt_of_lt_of_eq (by omega) (show cfg0.N = 256 from N_0).symm
  have hT : tok ⟨16 * (T.val / 512) + 15, hb⟩ ⟨T.val % 512, by omega⟩ = T := Fin.ext (by
    show 512 * ((16 * (T.val / 512) + 15) / 16) + T.val % 512 = T.val
    omega)
  have hl : loc10Of (ix2 T l) = ix2 (⟨T.val % 512, by omega⟩ : Fin 512) l := by
    funext a
    apply Fin.ext
    match a with
    | ⟨0, _⟩ => rfl
    | ⟨1, _⟩ => exact Nat.mod_eq_of_lt l.isLt
  have key := tile_out m c _ hb (by omega) ⟨T.val % 512, by omega⟩ l
  rw [hT, outsAt0_sweep] at key
  unfold G10
  simp only [hp, hl]
  rw [dif_pos hb]
  exact key
end Cert.MoE
-- ==== Proof.SampleSpec.lean ====
module
public import proofs.«01_k».proof.Proof.Routing
@[expose] public section
set_option maxRecDepth 16384
noncomputable section

/-! # What one sublayer computes, index by index

The same sublayer as for the prompt, over 512 tokens and a gate row for every token. -/
namespace Cert.SampleMoE
open Cert.MoE Idealize.ShloMosaic Idealize.ShloMosaic.Pointwise

/-- A table of extended reals over a shape. -/
abbrev Tab (s : Shape) := s.Idx → EReal

/-- Group logit `k` of token `T`. -/
def groupLogit (h : Tab ⟨2, ![512, 2048]⟩) (wg : Tab ⟨2, ![2048, 4]⟩) (bg : Tab ⟨1, ![4]⟩) (T : Fin 512) (k : Fin 4) : EReal :=
  ∑ y, h (ix2 T y) * wg (ix2 y k) + bg (ix1 k)

/-- Expert `k` of group `G`. -/
def member (G k : Fin 4) : Fin 16 := ⟨4 * G.val + k.val, by omega⟩

/-- Logit of expert `k` of group `G` for token `T`. -/
def expertLogit (h : Tab ⟨2, ![512, 2048]⟩) (wx : Tab ⟨2, ![2048, 16]⟩) (bx : Tab ⟨1, ![16]⟩) (T : Fin 512) (G k : Fin 4) : EReal :=
  ∑ y, h (ix2 T y) * wx (ix2 y (member G k)) + bx (ix1 (member G k))

/-- The experts' hidden unit `f`: gate projection through silu, times the up projection. -/
def hidden (h : Tab ⟨2, ![512, 2048]⟩) (w1 w2 : Tab ⟨3, ![16, 2048, 512]⟩) (T : Fin 512) (e : Fin 16) (f : Fin 512) : EReal :=
  ((∑ y, h (ix2 T y) * w1 (ix3 e y f)) * Ideal.logistic (∑ y, h (ix2 T y) * w1 (ix3 e y f))) *
    ∑ y, h (ix2 T y) * w2 (ix3 e y f)

/-- What expert `e` adds to channel `l` of a token whose combine weight for it is `c`. -/
def expertOut (h : Tab ⟨2, ![512, 2048]⟩) (w1 w2 : Tab ⟨3, ![16, 2048, 512]⟩) (w3 : Tab ⟨3, ![16, 512, 2048]⟩)
    (c : EReal) (T : Fin 512) (e : Fin 16) (l : Fin 2048) : EReal :=
  ∑ f, (hidden h w1 w2 T e f * c) * w3 (ix3 e f l)

/-- The residual, scaled, plus the gated sum over the experts. -/
def mixed (x : Tab ⟨2, ![512, 2048]⟩) (gate : Tab ⟨3, ![1, 512, 2048]⟩) (T : Fin 512) (s : Fin 2048 → EReal) (l : Fin 2048) : EReal :=
  Ideal.ofBits .f32 1068827891#32 * x (ix2 T l) + (1 + gate (ix3 0 T l)) * s l

/-- The mean of a row of 2048 values. -/
def mean (z : Fin 2048 → EReal) : EReal := Ideal.div (∑ y, z y) (Ideal.ofBits .f32 1157627904#32)

/-- Layer norm of a row. -/
def layerNorm (z : Fin 2048 → EReal) (g b : Tab ⟨1, ![2048]⟩) (l : Fin 2048) : EReal :=
  (z l - mean z) * Ideal.rsqrt (mean (fun y => (z y - mean z) * (z y - mean z)) + Ideal.ofBits .f32 925353388#32) * g (ix1 l) + b (ix1 l)

/-- The sublayer's output for token `T`, channel `l`. -/
def sublayer (h : Tab ⟨2, ![512, 2048]⟩) (wg : Tab ⟨2, ![2048, 4]⟩) (bg : Tab ⟨1, ![4]⟩) (wx : Tab ⟨2, ![2048, 16]⟩) (bx : Tab ⟨1, ![16]⟩)
    (w1 w2 : Tab ⟨3, ![16, 2048, 512]⟩) (w3 : Tab ⟨3, ![16, 512, 2048]⟩) (x : Tab ⟨2, ![512, 2048]⟩) (gate : Tab ⟨3, ![1, 512, 2048]⟩)
    (g b : Tab ⟨1, ![2048]⟩) (T : Fin 512) (l : Fin 2048) : EReal :=
  layerNorm (mixed x gate T fun l => ∑ e : Fin 16,
    expertOut h w1 w2 w3 (combine (groupLogit h wg bg T) (expertLogit h wx bx T) e.val) T e l) g b l
end Cert.SampleMoE
-- ==== Proof.SampleReference.lean ====
module
public import proofs.«01_k».proof.Proof.Gen.SampleRefIdeal.Read
public import proofs.«01_k».proof.Proof.Plain
public import proofs.«01_k».proof.Proof.SampleSpec
public import proofs.«01_k».proof.Proof.RefSide
@[expose] public section
set_option maxRecDepth 16384
noncomputable section

/-! # The sample reference, read index by index -/
namespace Cert.SampleMoE
open Cert.MoE Idealize.ShloMosaic Idealize.ShloMosaic.Pointwise Cert.SampleRefIdeal Cert.SampleRefIdeal.Read

variable (h : (⟨S512x2048, .bf16⟩ : BufTy).Contents (Elt Ideal)) (wg : (⟨S2048x4, .f32⟩ : BufTy).Contents (Elt Ideal))
  (bg : (⟨S4, .f32⟩ : BufTy).Contents (Elt Ideal)) (wx : (⟨S2048x16, .f32⟩ : BufTy).Contents (Elt Ideal))
  (bx : (⟨S16, .f32⟩ : BufTy).Contents (Elt Ideal))
  (w1 w2 : (⟨S16x2048x512, .bf16⟩ : BufTy).Contents (Elt Ideal)) (w3 : (⟨S16x512x2048, .bf16⟩ : BufTy).Contents (Elt Ideal))
  (x : (⟨S512x2048, .f32⟩ : BufTy).Contents (Elt Ideal)) (gate : (⟨S1x512x2048, .f32⟩ : BufTy).Contents (Elt Ideal))
  (g b : (⟨S2048, .f32⟩ : BufTy).Contents (Elt Ideal))

variable (s : Fin 512)

theorem logits (k : Fin 4) : val_main_v6 h wg bg (ix3 0 s k) = groupLogit h wg bg s k := by
  pointwise [val_main_v6, val_main_v5, val_main_v4, val_main_v3, val_main_v1, val_main_v0]
  rfl

theorem groups (k : Fin 4) : val_main_v17 h wg bg (ix3 0 s k) = soft4 (groupLogit h wg bg s) k := by
  pointwise [val_main_v17, val_main_v16, val_main_v15, val_main_v14, val_main_v13, val_main_v12, val_main_v11, val_main_v10,
    val_main_v9, val_main_v8, val_main_v7, val_main_cst, val_main_cst_0, val_main_cst_1]
  simp only [logits]
  exact soft4_guard _ k

/-- The group chosen for token `s`. -/
def chosenGroup : Fin 4 := pick (groupLogit h wg bg s)

theorem group_value : val_main_values h wg bg (ix3 0 s 0) =
    soft4 (groupLogit h wg bg s) (chosenGroup h wg bg s) := by
  unfold val_main_values
  refine (topK_value _ _ (by decide) 0 s 0).trans ?_
  simp only [groups]
  rfl

theorem group_index : val_main_indices h wg bg (ix3 0 s 0) = BitVec.ofNat 32 (chosenGroup h wg bg s).val := by
  unfold val_main_indices
  refine (topK_index _ _ (by decide) 0 s 0).trans ?_
  simp only [groups]
  rfl

theorem expert_logits (G k : Fin 4) : val_main_v22 h wx bx (ix4 0 s G k) = expertLogit h wx bx s G k := by
  pointwise [val_main_v22, val_main_v21, val_main_v20, val_main_v19, val_main_v18, val_main_v1, val_main_v0]
  have e : (⟨G.val * 4 + k.val, by omega⟩ : Fin 16) = member G k := Fin.ext (by
    show G.val * 4 + k.val = 4 * G.val + k.val
    omega)
  unfold expertLogit
  rw [← e]

/-- The start of the gathered row: the chosen group, already in range. -/
theorem start_index : val_main_call0_v4 h wg bg (ix4 0 s 0 0) = BitVec.ofNat 32 (chosenGroup h wg bg s).val := by
  pointwise [val_main_call0_v4, val_main_call0_v3, val_main_call0_v2, val_main_call0_v1, val_main_call0_v0, val_main_call0_c,
    val_main_call0_c_0, val_main_v23]
  rw [group_index]
  generalize chosenGroup h wg bg s = G
  revert G
  decide

/-- The same start, without the axis of length one. -/
theorem start_flat : val_main_call0_v5 h wg bg (ix3 s 0 0) = BitVec.ofNat 32 (chosenGroup h wg bg s).val := by
  pointwise [val_main_call0_v5]
  exact start_index h wg bg s

theorem in_range : val_main_call0_v12 h wg bg (ix2 s 0) = 1#1 := by
  pointwise [val_main_call0_v12]
  have e : ∀ y : Fin 1, val_main_call0_v11 h wg bg (ix3 s 0 y) = 1#1 := fun y => by
    obtain rfl : y = 0 := Subsingleton.elim _ _
    pointwise [val_main_call0_v11, val_main_call0_v10, val_main_call0_v9, val_main_call0_v8, val_main_call0_v7,
      val_main_call0_v6, val_main_call0_c_1, val_main_call0_c_2]
    rw [start_flat]
    generalize chosenGroup h wg bg s = G
    revert G
    decide
  simp only [e]
  decide

/-- One row of four logits gathered per token, at a start index in range. -/
theorem gather_group {α : Type} (f : S1x512x4x4.Idx → α) (idx : IVec S512x1x1 32) (G k : Fin 4)
    (hG : idx (ix3 s 0 0) = BitVec.ofNat 32 G.val) :
    Host.gather gather_S1x512x4x4_S512x1x1_S1x512x1x4_03_2_1_0_2_2_1114 f idx (ix4 0 s 0 k) = f (ix4 0 s G k) := by
  unfold Host.gather
  congr 1
  funext a
  apply Fin.ext
  show GatherDims.start _ _ idx a + GatherDims.batchCoord _ _ a + GatherDims.offCoord _ _ a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.batchCoord_eq_zero _ _ _ (by decide)]
    unfold GatherDims.start GatherDims.offCoord
    rw [dif_neg (by decide), dif_pos (by decide)]
    rfl
  · rw [GatherDims.start_batching _ _ _ _ (by decide), GatherDims.offCoord_eq_zero _ _ _ (by decide)]
    unfold GatherDims.batchCoord
    rw [dif_pos (by decide)]
    show 0 + s.val + 0 = s.val
    omega
  · rw [GatherDims.batchCoord_eq_zero _ _ _ (by decide), GatherDims.offCoord_eq_zero _ _ _ (by decide)]
    unfold GatherDims.start
    rw [dif_pos (by decide)]
    have e : ∀ c, GatherDims.siIdx gather_S1x512x4x4_S512x1x1_S1x512x1x4_03_2_1_0_2_2_1114 (ix4 0 s 0 k) c = ix3 s 0 0 := fun c => by
      funext b
      apply Fin.ext
      match b with
      | ⟨0, _⟩ => rfl
      | ⟨1, _⟩ => rfl
      | ⟨2, _⟩ => exact Nat.lt_one_iff.mp (Fin.isLt _)
    rw [e, hG]
    clear e hG
    show min (BitVec.ofNat 32 G.val).toInt.toNat 3 + 0 + 0 = G.val
    revert G
    decide
  · rw [GatherDims.batchCoord_eq_zero _ _ _ (by decide)]
    unfold GatherDims.start GatherDims.offCoord
    rw [dif_neg (by decide), dif_pos (by decide)]
    show 0 + 0 + k.val = k.val
    omega

/-- The four logits of the chosen group. -/
def groupRow : Fin 4 → EReal := expertLogit h wx bx s (chosenGroup h wg bg s)

theorem gathered (k : Fin 4) : val_main_v25 h wg bg wx bx (ix3 0 s k) = groupRow h wg bg wx bx s k := by
  have e : val_main_call0_v13 h wg bg wx bx (ix4 0 s 0 k) = groupRow h wg bg wx bx s k := by
    unfold val_main_call0_v13
    rw [gather_group s _ _ (chosenGroup h wg bg s) k (start_flat h wg bg s), expert_logits]
    rfl
  pointwise [val_main_v25, val_main_v24, val_main_call0_v14]
  rw [in_range, e]
  rfl

theorem members (k : Fin 4) : val_main_v36 h wg bg wx bx (ix3 0 s k) = soft4 (groupRow h wg bg wx bx s) k := by
  pointwise [val_main_v36, val_main_v35, val_main_v34, val_main_v33, val_main_v32, val_main_v31, val_main_v30, val_main_v29,
    val_main_v28, val_main_v27, val_main_v26, val_main_cst_2, val_main_cst_3, val_main_cst_4]
  simp only [gathered]
  exact soft4_guard _ k

theorem member_value (p : Fin 2) : val_main_values_5 h wg bg wx bx (ix3 0 s p) =
    soft4 (groupRow h wg bg wx bx s) (sortedFrom (greater (soft4 (groupRow h wg bg wx bx s))) ⟨p.val, by omega⟩) := by
  unfold val_main_values_5
  refine (topK_value _ _ (by decide) 0 s p).trans ?_
  simp only [members]

theorem member_index (p : Fin 2) : val_main_indices_6 h wg bg wx bx (ix3 0 s p) =
    BitVec.ofNat 32 (sortedFrom (greater (soft4 (groupRow h wg bg wx bx s))) ⟨p.val, by omega⟩).val := by
  unfold val_main_indices_6
  refine (topK_index _ _ (by decide) 0 s p).trans ?_
  simp only [members]

theorem weights (e : Fin 16) : val_main_v51 h wg bg wx bx (ix3 0 s e) =
    combine (groupLogit h wg bg s) (expertLogit h wx bx s) e.val := by
  pointwise [val_main_v51, val_main_v50, val_main_v49, val_main_v48, val_main_v47, val_main_call1_v4, val_main_call1_v3,
    val_main_call1_v2, val_main_call1_v1, val_main_call1_v0, val_main_v46, val_main_v45, val_main_v44, val_main_v43, val_main_c,
    val_main_cst_8, val_main_v42, val_main_v41, val_main_v40, val_main_v39, val_main_v38, val_main_v37, val_main_cst_7]
  simp only [group_value, group_index, member_value, member_index, one_hot, one_hot_times, Fin.sum_univ_two]
  rfl

theorem activations (e : Fin 16) (f : Fin 512) : val_main_v60 h wg bg wx bx w1 w2 (ix4 0 s e f) =
    hidden h w1 w2 s e f * combine (groupLogit h wg bg s) (expertLogit h wx bx s) e.val := by
  pointwise [val_main_v60, val_main_v59, val_main_v58, val_main_v57, val_main_v56, val_main_v55, val_main_v54, val_main_call2_v5,
    val_main_call2_v4, val_main_call2_v3, val_main_call2_v2, val_main_call2_v1, val_main_call2_v0, val_main_call2_cst,
    val_main_call2_cst_0, val_main_v53, val_main_v52, val_main_v1, val_main_v0]
  rw [weights]
  rfl

theorem residual (l : Fin 2048) : val_main_v68 h wg bg wx bx w1 w2 w3 x gate (ix3 0 s l) =
    mixed x gate s (fun l => ∑ e : Fin 16, expertOut h w1 w2 w3
      (combine (groupLogit h wg bg s) (expertLogit h wx bx s) e.val) s e l) l := by
  pointwise [val_main_v68, val_main_v67, val_main_v66, val_main_v65, val_main_v64, val_main_v63, val_main_v2,
    val_main_cst_9, val_main_cst_10, val_main_v62, val_main_v61]
  unfold mixed
  simp only [activations]
  rfl

theorem reference_value (T : Fin 512) (l : Fin 2048) :
    val_main_v91 h wg bg wx bx w1 w2 w3 x gate g b (ix2 T l) = sublayer h wg bg wx bx w1 w2 w3 x gate g b T l := by
  pointwise [val_main_v91, val_main_v90, val_main_v89, val_main_v88, val_main_v87, val_main_v86, val_main_v85, val_main_v84,
    val_main_v83, val_main_v82, val_main_v81, val_main_v80, val_main_v79, val_main_v78, val_main_v77, val_main_v76, val_main_v75,
    val_main_v74, val_main_v73, val_main_v72, val_main_v71, val_main_v70, val_main_v69, val_main_cst_11, val_main_cst_12,
    val_main_cst_13, val_main_cst_14, val_main_cst_15]
  simp only [residual]
  rfl
end Cert.SampleMoE
-- ==== Proof.SampleSteps.lean ====
module
public import proofs.«01_k».proof.Proof.Routing
public import proofs.«01_k».proof.Proof.Gen.SampleIdeal.Value
public import Idealize.ShloMosaic.Lib.Pipeline.Value
public import Idealize.ShloMosaic.Lib.Tactic
@[expose] public section
set_option maxRecDepth 16384
noncomputable section

/-! # One grid point of the expert sweep, sample batch

A grid point `16·q + e` handles token tile `q` and expert `e`.  Expert 0 computes the routing weights of the tile and
keeps them in the first scratch buffer; every expert adds its weighted output to the second; expert 15 also closes the
tile with the residual and the layer norm.  The lemmas below state these three facts with the kernel's own payloads. -/
namespace Cert.SampleMoE
open Cert.MoE Idealize.ShloMosaic Cert.SampleIdeal Cert.SampleIdeal.Gen Cert.SampleIdeal.Value Idealize.ShloMosaic.TcCoe Idealize.SL.Sem
variable {F : FTy → Type} [FloatOps F]
variable (m : (ℓ : Loc nD τ sig) → Buf (Elt F) ℓ)

/-- Offsets written out as two zeros. -/
theorem off2 : (![0, 0] : Fin 2 → Nat) = fun _ => 0 := funext fun a => by fin_cases a <;> rfl
/-- Offsets written out as three zeros. -/
theorem off3 : (![0, 0, 0] : Fin 3 → Nat) = fun _ => 0 := funext fun a => by fin_cases a <;> rfl

/-- The routing weights of a token tile, from its activations, the packed router matrix and the packed router bias. -/
def route (h : Vec F S512x2048 .bf16) (w : Vec F S2048x128 .bf16) (b : Vec F S1x128 .f32) : Vec F S512x128 .f32 :=
  k0_pay23 (iota Kind.tc S512x128 32 [1] iota_S512x128_d1_w32) (k0_pay6 h w b)
    (k0_pay18 (k0_pay3 h w b) (iota Kind.tc S512x128 32 [1] iota_S512x128_d1_w32) k0_pay8 (k0_pay9 h w b) (k0_pay10 h w b) 4#32)
    (k0_pay19 (k0_pay3 h w b) (iota Kind.tc S512x128 32 [1] iota_S512x128_d1_w32) k0_pay8 (k0_pay9 h w b) (k0_pay10 h w b) 4#32)
    (k0_pay20 (k0_pay3 h w b) (iota Kind.tc S512x128 32 [1] iota_S512x128_d1_w32) k0_pay8 (k0_pay9 h w b) (k0_pay10 h w b) 4#32)
    (k0_pay21 (k0_pay3 h w b) (iota Kind.tc S512x128 32 [1] iota_S512x128_d1_w32) k0_pay8 (k0_pay9 h w b) (k0_pay10 h w b) 4#32)
    (k0_pay22 (k0_pay3 h w b) (iota Kind.tc S512x128 32 [1] iota_S512x128_d1_w32) (k0_pay6 h w b) k0_pay8 (k0_pay9 h w b) (k0_pay10 h w b) 4#32)

/-- They are what the prompt's tile computes: a tile has 512 tokens in both. -/
theorem route_same (h : Vec F S512x2048 .bf16) (w : Vec F S2048x128 .bf16) (b : Vec F S1x128 .f32) :
    route h w b = Cert.MoE.route h w b := rfl

/-- The state between grid points: the output tile, the routing weights and the accumulator. -/
abbrev State (F : FTy → Type) := Vec F S512x2048 .f32 × Vec F S512x128 .f32 × Vec F S512x2048 .f32

/-- Expert 0 leaves the routing weights of its tile. -/
theorem first_route (c : Dev nD) (t : Fin cfg0.N) (acc : State F) (h0 : t.val % 16 = 0) (h1 : ¬t.val % 16 = 15) :
    (stAt0 m c t.val t.isLt acc).2.1 = route (iblk m c 0 t) (iblk m c 1 t) (iblk m c 2 t) := by
  rw [stAt0_A m c t acc h0 h1]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_0 t).read_unread, (hs0_1 t).read_unread, (hs0_2 t).read_unread,
    View.ld_unit_zero (S := S512x2048) off2, View.ld_unit_zero (S := S2048x128) off2, View.ld_unit_zero (S := S1x128) off2,
    shapeCast_self]
  rfl

/-- Expert 0 starts the accumulator: its own contribution over zero. -/
theorem first_acc (c : Dev nD) (t : Fin cfg0.N) (acc : State F) (h0 : t.val % 16 = 0) (h1 : ¬t.val % 16 = 15) :
    (stAt0 m c t.val t.isLt acc).2.2 = k0_pay1 (k0_pay25 (grid0.coords t) (iblk m c 0 t)
      (route (iblk m c 0 t) (iblk m c 1 t) (iblk m c 2 t)) (iblk m c 3 t) (iblk m c 4 t) k0_pay24 (iblk m c 5 t)) := by
  rw [stAt0_A m c t acc h0 h1]
  dsimp only
  unfold sout0_A_1
  rw [View.read_writes_eq_canon _ _ _ (fun y => scover0_A_1 (y := y) ..)]
  unfold kernelRun0_A
  dsimp only
  sl_unfold_words
  rw [View.canon_cons_unit_zero (S := S512x2048) off2]
  simp only [View.readCov_unit_zero (S := S512x2048) _ off2, View.readCov_unit_zero (S := S512x128) _ off2,
    View.readAt_eq_ld, (hs0_0 t).read_unread, (hs0_1 t).read_unread, (hs0_2 t).read_unread, (hs0_3 t).read_unread,
    (hs0_4 t).read_unread, (hs0_5 t).read_unread, View.ld_unit_zero (S := S512x2048) off2,
    View.ld_unit_zero (S := S2048x128) off2, View.ld_unit_zero (S := S1x128) off2,
    View.ld_unit_zero (S := S1x2048x512) off3, View.ld_unit_zero (S := S1x512x2048) off3, shapeCast_self]
  rfl

/-- A middle expert keeps the routing weights. -/
theorem mid_route (c : Dev nD) (t : Fin cfg0.N) (acc : State F) (h0 : ¬t.val % 16 = 0) (h1 : ¬t.val % 16 = 15) :
    (stAt0 m c t.val t.isLt acc).2.1 = acc.2.1 := by
  rw [stAt0_B m c t acc h0 h1]
  rfl

/-- A middle expert adds its contribution to the accumulator. -/
theorem mid_acc (c : Dev nD) (t : Fin cfg0.N) (acc : State F) (h0 : ¬t.val % 16 = 0) (h1 : ¬t.val % 16 = 15) :
    (stAt0 m c t.val t.isLt acc).2.2 = k0_pay1 (k0_pay25 (grid0.coords t) (iblk m c 0 t)
      acc.2.1 (iblk m c 3 t) (iblk m c 4 t) acc.2.2 (iblk m c 5 t)) := by
  rw [stAt0_B m c t acc h0 h1]
  dsimp only
  unfold sout0_B_1
  rw [View.read_writes_eq_canon _ _ _ (fun y => scover0_B_1 (y := y) ..)]
  unfold kernelRun0_B
  dsimp only
  sl_unfold_words
  rw [View.canon_unit_zero off2]
  simp only [View.readAt_eq_ld, (hs0_0 t).read_unread, (hs0_3 t).read_unread,
    (hs0_4 t).read_unread, (hs0_5 t).read_unread, (Memref.isWhole_whole _).read_unread, View.ld_unit_zero (S := S512x2048) off2,
    View.ld_unit_zero (S := S512x128) off2,
    View.ld_unit_zero (S := S1x2048x512) off3, View.ld_unit_zero (S := S1x512x2048) off3, shapeCast_self]

/-- Expert 15 adds its contribution and closes the tile. -/
theorem last_out (c : Dev nD) (t : Fin cfg0.N) (acc : State F) (h0 : ¬t.val % 16 = 0) (h1 : t.val % 16 = 15) :
    (stAt0 m c t.val t.isLt acc).1 = k0_pay2 (iblk m c 6 t) (k0_pay1 (k0_pay25 (grid0.coords t) (iblk m c 0 t)
      acc.2.1 (iblk m c 3 t) (iblk m c 4 t) acc.2.2 (iblk m c 5 t))) (iblk m c 7 t) (iblk m c 8 t) (iblk m c 9 t) := by
  rw [stAt0_C m c t acc h0 h1]
  dsimp only
  unfold out0_C_10
  rw [View.read_writes_eq_canon _ _ _ (fun y => cover0_C_10 (y := y) ..)]
  unfold kernelRun0_C
  dsimp only
  sl_unfold_words
  rw [View.canon_unit_zero off2]
  simp only [View.readCov_unit_zero (S := S512x2048) _ off2, View.readAt_eq_ld, (hs0_0 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S512x2048) off2,
    View.ld_unit_zero (S := S512x128) off2, View.ld_unit_zero (S := S1x2048) off2, View.ld_unit_zero (S := S1x1x2048) off3,
    View.ld_unit_zero (S := S1x2048x512) off3, View.ld_unit_zero (S := S1x512x2048) off3, shapeCast_self]

end Cert.SampleMoE
-- ==== Proof.SampleBlocks.lean ====
module
public import proofs.«01_k».proof.Proof.SampleSteps
public import Idealize.ShloMosaic.Lib.StableHlo.RunRead
@[expose] public section
set_option maxRecDepth 16384
noncomputable section

/-! # The input blocks of a grid point, read at an index

Grid point `t` reads token tile `t / 16`, expert `t % 16` and its tokens' gate rows. -/
namespace Cert.SampleMoE
open Cert.MoE Idealize.ShloMosaic Idealize.ShloMosaic.Pointwise Cert.SampleIdeal Cert.SampleIdeal.Gen Idealize.ShloMosaic.TcCoe Idealize.SL.Sem

theorem at0 : ∀ t : Fin cfg0.N, win0_0.index t 0 = t.val / 16 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val % 16 ∧ win0_3.index t 1 = 0 ∧ win0_3.index t 2 = 0 := by decide +kernel
theorem at4 : ∀ t : Fin cfg0.N, win0_4.index t 0 = t.val % 16 ∧ win0_4.index t 1 = 0 ∧ win0_4.index t 2 = 0 := by decide +kernel
theorem at5 : ∀ t : Fin cfg0.N, win0_5.index t 0 = t.val % 16 ∧ win0_5.index t 1 = 0 ∧ win0_5.index t 2 = 0 := by decide +kernel
theorem at6 : ∀ t : Fin cfg0.N, win0_6.index t 0 = t.val / 16 ∧ win0_6.index t 1 = 0 := by decide +kernel
theorem at7 : ∀ t : Fin cfg0.N, win0_7.index t 0 = 0 ∧ win0_7.index t 1 = t.val / 16 ∧ win0_7.index t 2 = 0 := by decide +kernel
theorem at8 : ∀ t : Fin cfg0.N, win0_8.index t 0 = 0 ∧ win0_8.index t 1 = 0 := by decide +kernel
theorem at9 : ∀ t : Fin cfg0.N, win0_9.index t 0 = 0 ∧ win0_9.index t 1 = 0 := by decide +kernel

/-- The token that row `r` of point `t`'s tile holds. -/
def tok (t : Fin cfg0.N) (r : Fin 512) : Fin 512 :=
  ⟨512 * (t.val / 16) + r.val, by have := lt_of_lt_of_eq t.isLt (show cfg0.N = 16 from N_0); omega⟩
/-- The expert of point `t`. -/
def expertOf (t : Fin cfg0.N) : Fin 16 := ⟨t.val % 16, Nat.mod_lt _ (by decide)⟩

variable (m : (ℓ : Loc nD τ sig) → Buf (Elt Ideal) ℓ) (c : Dev nD) (t : Fin cfg0.N)

theorem block0 (r : Fin 512) (l : Fin 2048) : (iblk m c 0 t : Vec Ideal S512x2048 .bf16) (ix2 r l) =
    m ((c : Thread nD τ).loc main_arg0) (ix2 (tok t r) l) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val/16) + r.val; rw [(at0 t).1]; omega
  | ⟨1, _⟩ => show win0_0.index t 1 * 2048 + 1 * l.val = l.val; rw [(at0 t).2]; omega

theorem block6 (r : Fin 512) (l : Fin 2048) : (iblk m c 6 t : Vec Ideal S512x2048 .f32) (ix2 r l) =
    m ((c : Thread nD τ).loc main_arg8) (ix2 (tok t r) l) := by
  unfold iblk
  rw [View.read_apply]
  show V m c main_arg8 _ = _
  rw [V_main_arg8]
  congr 1
  funext a
  apply Fin.ext
  match a with
  | ⟨0, _⟩ => show win0_6.index t 0 * 512 + 1 * r.val = 512 * (t.val/16) + r.val; rw [(at6 t).1]; omega
  | ⟨1, _⟩ => show win0_6.index t 1 * 2048 + 1 * l.val = l.val; rw [(at6 t).2]; omega

theorem block3 (y : Fin 2048) (x : Fin 512) : (iblk m c 3 t : Vec Ideal S1x2048x512 .bf16) (ix3 0 y x) =
    m ((c : Thread nD τ).loc main_arg5) (ix3 (expertOf t) y x) := by
  unfold iblk
  rw [View.read_apply]
  show V m c main_arg5 _ = _
  rw [V_main_arg5]
  congr 1
  funext a
  apply Fin.ext
  match a with
  | ⟨0, _⟩ => show win0_3.index t 0 * 1 + 1 * 0 = t.val % 16; rw [(at3 t).1]; omega
  | ⟨1, _⟩ => show win0_3.index t 1 * 2048 + 1 * y.val = y.val; rw [(at3 t).2.1]; omega
  | ⟨2, _⟩ => show win0_3.index t 2 * 512 + 1 * x.val = x.val; rw [(at3 t).2.2]; omega

theorem block4 (y : Fin 2048) (x : Fin 512) : (iblk m c 4 t : Vec Ideal S1x2048x512 .bf16) (ix3 0 y x) =
    m ((c : Thread nD τ).loc main_arg6) (ix3 (expertOf t) y x) := by
  unfold iblk
  rw [View.read_apply]
  show V m c main_arg6 _ = _
  rw [V_main_arg6]
  congr 1
  funext a
  apply Fin.ext
  match a with
  | ⟨0, _⟩ => show win0_4.index t 0 * 1 + 1 * 0 = t.val % 16; rw [(at4 t).1]; omega
  | ⟨1, _⟩ => show win0_4.index t 1 * 2048 + 1 * y.val = y.val; rw [(at4 t).2.1]; omega
  | ⟨2, _⟩ => show win0_4.index t 2 * 512 + 1 * x.val = x.val; rw [(at4 t).2.2]; omega

theorem block5 (y : Fin 512) (x : Fin 2048) : (iblk m c 5 t : Vec Ideal S1x512x2048 .bf16) (ix3 0 y x) =
    m ((c : Thread nD τ).loc main_arg7) (ix3 (expertOf t) y x) := by
  unfold iblk
  rw [View.read_apply]
  show V m c main_arg7 _ = _
  rw [V_main_arg7]
  congr 1
  funext a
  apply Fin.ext
  match a with
  | ⟨0, _⟩ => show win0_5.index t 0 * 1 + 1 * 0 = t.val % 16; rw [(at5 t).1]; omega
  | ⟨1, _⟩ => show win0_5.index t 1 * 512 + 1 * y.val = y.val; rw [(at5 t).2.1]; omega
  | ⟨2, _⟩ => show win0_5.index t 2 * 2048 + 1 * x.val = x.val; rw [(at5 t).2.2]; omega

theorem block7 (r : Fin 512) (x : Fin 2048) : (iblk m c 7 t : Vec Ideal S1x512x2048 .f32) (ix3 0 r x) =
    m ((c : Thread nD τ).loc main_arg9) (ix3 0 (tok t r) x) := by
  unfold iblk
  rw [View.read_apply]
  show V m c main_arg9 _ = _
  rw [V_main_arg9]
  congr 1
  funext a
  apply Fin.ext
  match a with
  | ⟨0, _⟩ => show win0_7.index t 0 * 1 + 1 * 0 = 0; rw [(at7 t).1]
  | ⟨1, _⟩ => show win0_7.index t 1 * 512 + 1 * r.val = 512 * (t.val / 16) + r.val; rw [(at7 t).2.1]; omega
  | ⟨2, _⟩ => show win0_7.index t 2 * 2048 + 1 * x.val = x.val; rw [(at7 t).2.2]; omega

/-- A one-row block covering a packed vector holds the vector. -/
theorem row_index (f : S1x2048.Idx → EReal) (i : Fin 2 → Nat) (x : Fin 2048) (h0 : i 0 = 0) (h1 : i 1 = 0) (j : S1x2048.Idx)
    (hj : ∀ a, (j a).val = i a * S1x2048.size a + 1 * ((ix2 (0 : Fin 1) x : S1x2048.Idx) a).val) : f j = f (ix2 0 x) := by
  congr 1
  funext a
  apply Fin.ext
  rw [hj a]
  match a with
  | ⟨0, _⟩ => show i 0 * 1 + 1 * 0 = 0; rw [h0]
  | ⟨1, _⟩ => show i 1 * 2048 + 1 * x.val = x.val; rw [h1]; omega

theorem block8 (x : Fin 2048) : (iblk m c 8 t : Vec Ideal S1x2048 .f32) (ix2 0 x) =
    m ((c : Thread nD τ).loc main_arg10) (ix1 x) := by
  unfold iblk
  rw [View.read_apply]
  refine (row_index (V m c main_v6) (win0_8.index t) x (at8 t).1 (at8 t).2 _ fun a => ?_).trans ?_
  · match a with
    | ⟨0, _⟩ => rfl
    | ⟨1, _⟩ => rfl
  · unfold V hostOps0
    after_reads_simp
    pointwise

theorem block9 (x : Fin 2048) : (iblk m c 9 t : Vec Ideal S1x2048 .f32) (ix2 0 x) =
    m ((c : Thread nD τ).loc main_arg11) (ix1 x) := by
  unfold iblk
  rw [View.read_apply]
  refine (row_index (V m c main_v7) (win0_9.index t) x (at9 t).1 (at9 t).2 _ fun a => ?_).trans ?_
  · match a with
    | ⟨0, _⟩ => rfl
    | ⟨1, _⟩ => rfl
  · unfold V hostOps0
    after_reads_simp
    pointwise

/-! ## The packed router: lanes 0–3 the group router, lanes 4–19 the expert router -/

theorem packed_low (x : Fin 2048) (k : Fin 4) :
    (V m c main_v2 : Vec Ideal S2048x128 .bf16) (ix2 x ⟨k.val, by omega⟩) =
    m ((c : Thread nD τ).loc main_arg1) (ix2 x k) := by
  unfold V hostOps0
  after_reads_simp
  pointwise
  try rw [dif_pos k.isLt]
  after_reads_simp

theorem packed_high (x : Fin 2048) (e : Fin 16) :
    (V m c main_v2 : Vec Ideal S2048x128 .bf16) (ix2 x ⟨4 + e.val, by omega⟩) =
    m ((c : Thread nD τ).loc main_arg3) (ix2 x e) := by
  unfold V hostOps0
  after_reads_simp
  pointwise
  after_reads_simp

theorem bias_low (k : Fin 4) :
    (V m c main_v5 : Vec Ideal S1x128 .f32) (ix2 0 ⟨k.val, by omega⟩) =
    m ((c : Thread nD τ).loc main_arg2) (ix1 k) := by
  unfold V hostOps0
  after_reads_simp
  pointwise
  try rw [dif_pos k.isLt]
  after_reads_simp

theorem bias_high (e : Fin 16) :
    (V m c main_v5 : Vec Ideal S1x128 .f32) (ix2 0 ⟨4 + e.val, by omega⟩) =
    m ((c : Thread nD τ).loc main_arg4) (ix1 e) := by
  unfold V hostOps0
  after_reads_simp
  pointwise
  after_reads_simp

theorem block1 (x : Fin 2048) (l : Fin 128) : (iblk m c 1 t : Vec Ideal S2048x128 .bf16) (ix2 x l) =
    (V m c main_v2 : Vec Ideal S2048x128 .bf16) (ix2 x l) := by
  unfold iblk
  rw [View.read_apply]
  show V m c main_v2 _ = _
  congr 1
  funext a
  apply Fin.ext
  match a with
  | ⟨0, _⟩ => show win0_1.index t 0 * 2048 + 1 * x.val = x.val; rw [(at1 t).1]; omega
  | ⟨1, _⟩ => show win0_1.index t 1 * 128 + 1 * l.val = l.val; rw [(at1 t).2]; omega

theorem block2 (l : Fin 128) : (iblk m c 2 t : Vec Ideal S1x128 .f32) (ix2 0 l) =
    (V m c main_v5 : Vec Ideal S1x128 .f32) (ix2 0 l) := by
  unfold iblk
  rw [View.read_apply]
  show V m c main_v5 _ = _
  congr 1
  funext a
  apply Fin.ext
  match a with
  | ⟨0, _⟩ => show win0_2.index t 0 * 1 + 1 * 0 = 0; rw [(at2 t).1]
  | ⟨1, _⟩ => show win0_2.index t 1 * 128 + 1 * l.val = l.val; rw [(at2 t).2]; omega

theorem block1_low (x : Fin 2048) (k : Fin 4) : (iblk m c 1 t : Vec Ideal S2048x128 .bf16) (ix2 x ⟨k.val, by omega⟩) =
    m ((c : Thread nD τ).loc main_arg1) (ix2 x k) := (block1 m c t x _).trans (packed_low m c x k)
theorem block1_high (x : Fin 2048) (e : Fin 16) : (iblk m c 1 t : Vec Ideal S2048x128 .bf16) (ix2 x ⟨4 + e.val, by omega⟩) =
    m ((c : Thread nD τ).loc main_arg3) (ix2 x e) := (block1 m c t x _).trans (packed_high m c x e)
theorem block2_low (k : Fin 4) : (iblk m c 2 t : Vec Ideal S1x128 .f32) (ix2 0 ⟨k.val, by omega⟩) =
    m ((c : Thread nD τ).loc main_arg2) (ix1 k) := (block2 m c t _).trans (bias_low m c k)
theorem block2_high (e : Fin 16) : (iblk m c 2 t : Vec Ideal S1x128 .f32) (ix2 0 ⟨4 + e.val, by omega⟩) =
    m ((c : Thread nD τ).loc main_arg4) (ix1 e) := (block2 m c t _).trans (bias_high m c e)
end Cert.SampleMoE
-- ==== Proof.SampleKernel.lean ====
module
public import proofs.«01_k».proof.Proof.SampleBlocks
public import proofs.«01_k».proof.Proof.SampleSpec
@[expose] public section
set_option maxRecDepth 16384
noncomputable section

/-! # The kernel, read index by index

Sixteen consecutive grid points handle one token tile, one expert each: the first leaves the routing weights, each adds
its expert to the accumulator, the last writes the normed rows. -/
namespace Cert.SampleMoE
open Cert.MoE Idealize.ShloMosaic Idealize.ShloMosaic.Pointwise Cert.SampleIdeal Cert.SampleIdeal.Gen Cert.SampleIdeal.Value Idealize.ShloMosaic.TcCoe Idealize.SL.Sem

variable (m : (ℓ : Loc nD τ sig) → Buf (Elt Ideal) ℓ) (c : Dev nD)

/-- The argument arrays as tables. -/
def A0 : Tab ⟨2, ![512, 2048]⟩ := m ((c : Thread nD τ).loc main_arg0)
def A1 : Tab ⟨2, ![2048, 4]⟩ := m ((c : Thread nD τ).loc main_arg1)
def A2 : Tab ⟨1, ![4]⟩ := m ((c : Thread nD τ).loc main_arg2)
def A3 : Tab ⟨2, ![2048, 16]⟩ := m ((c : Thread nD τ).loc main_arg3)
def A4 : Tab ⟨1, ![16]⟩ := m ((c : Thread nD τ).loc main_arg4)
def A5 : Tab ⟨3, ![16, 2048, 512]⟩ := m ((c : Thread nD τ).loc main_arg5)
def A6 : Tab ⟨3, ![16, 2048, 512]⟩ := m ((c : Thread nD τ).loc main_arg6)
def A7 : Tab ⟨3, ![16, 512, 2048]⟩ := m ((c : Thread nD τ).loc main_arg7)
def A8 : Tab ⟨2, ![512, 2048]⟩ := m ((c : Thread nD τ).loc main_arg8)
def A9 : Tab ⟨3, ![1, 512, 2048]⟩ := m ((c : Thread nD τ).loc main_arg9)
def A10 : Tab ⟨1, ![2048]⟩ := m ((c : Thread nD τ).loc main_arg10)
def A11 : Tab ⟨1, ![2048]⟩ := m ((c : Thread nD τ).loc main_arg11)

/-- The combine weight of expert `e` for token `T`. -/
def weight (T : Fin 512) (e : Nat) : EReal :=
  combine (groupLogit (A0 m c) (A1 m c) (A2 m c) T) (expertLogit (A0 m c) (A3 m c) (A4 m c) T) e

/-- What expert `e` adds to channel `l` of token `T`; nothing beyond the sixteen experts. -/
def part (T : Fin 512) (l : Fin 2048) (e : Nat) : EReal :=
  if he : e < 16 then expertOut (A0 m c) (A5 m c) (A6 m c) (A7 m c) (weight m c T e) T ⟨e, he⟩ l else 0

/-! ## The routing weights -/

theorem groupLogit_block (t : Fin cfg0.N) (r : Fin 512) (k : Fin 4) :
    gLane (iblk m c 0 t) (iblk m c 1 t) (iblk m c 2 t) r k = groupLogit (A0 m c) (A1 m c) (A2 m c) (tok t r) k := by
  unfold gLane lane groupLogit low
  simp only [block0, block1_low, block2_low]
  rfl

theorem expertLogit_block (t : Fin cfg0.N) (r : Fin 512) (G k : Fin 4) :
    xLane (iblk m c 0 t) (iblk m c 1 t) (iblk m c 2 t) r G k = expertLogit (A0 m c) (A3 m c) (A4 m c) (tok t r) G k := by
  have e : grp G k = ⟨4 + (member G k).val, by omega⟩ := Fin.ext (by
    show 4 + 4 * G.val + k.val = 4 + (4 * G.val + k.val)
    omega)
  unfold xLane lane expertLogit
  rw [e]
  simp only [block0, block1_high, block2_high]
  rfl

theorem route_block (t : Fin cfg0.N) (r : Fin 512) (e : Fin 16) :
    route (iblk m c 0 t) (iblk m c 1 t) (iblk m c 2 t) (ix2 r (⟨4 + e.val, by omega⟩ : Fin 128)) = weight m c (tok t r) e.val := by
  have hg : gLane (iblk m c 0 t) (iblk m c 1 t) (iblk m c 2 t) r = groupLogit (A0 m c) (A1 m c) (A2 m c) (tok t r) :=
    funext fun k => groupLogit_block m c t r k
  have hx : xLane (iblk m c 0 t) (iblk m c 1 t) (iblk m c 2 t) r = expertLogit (A0 m c) (A3 m c) (A4 m c) (tok t r) :=
    funext fun G => funext fun k => expertLogit_block m c t r G k
  have hc := route_apply (iblk m c 0 t) (iblk m c 1 t) (iblk m c 2 t) r e
  rw [hg, hx] at hc
  exact hc

/-! ## One expert -/

theorem coord1 : ∀ t : Fin cfg0.N, (grid0.coords t 1).val = t.val % 16 := by decide +kernel

/-- The lane the kernel looks its weight up in. -/
theorem lane_word (l : Fin 128) (e : Fin 16) :
    IntOp.cmpi .eq (BitVec.ofNat 32 l.val) (Scalar.addi (BitVec.ofNat 32 e.val) 4#32) =
    BitVec.ofBool (decide (l = (⟨4 + e.val, by omega⟩ : Fin 128))) := by
  revert l e
  decide +kernel

/-- The sum over the lanes of a row, masked to one lane, is that lane. -/
theorem lane_sum (f : Fin 128 → EReal) (e : Fin 16) :
    ∑ l : Fin 128, Scalar.select (IntOp.cmpi .eq (BitVec.ofNat 32 l.val) (Scalar.addi (BitVec.ofNat 32 e.val) 4#32)) (f l) 0 =
    f ⟨4 + e.val, by omega⟩ := by
  simp only [lane_word, select_dec]
  rw [Finset.sum_ite_eq' Finset.univ]
  exact if_pos (Finset.mem_univ _)

/-- One expert's step of the accumulator, over weights `R` and what was there `S`. -/
theorem expert_step (t : Fin cfg0.N) (R : Vec Ideal S512x128 .f32) (S : Vec Ideal S512x2048 .f32)
    (hR : ∀ (r : Fin 512) (e : Fin 16), R (ix2 r (⟨4 + e.val, by omega⟩ : Fin 128)) = weight m c (tok t r) e.val)
    (r : Fin 512) (l : Fin 2048) :
    k0_pay1 (k0_pay25 (grid0.coords t) (iblk m c 0 t) R (iblk m c 3 t) (iblk m c 4 t) S (iblk m c 5 t)) (ix2 r l) =
    S (ix2 r l) + part m c (tok t r) l (t.val % 16) := by
  pointwise [k0_pay1, k0_pay25]
  have he : (grid0.coords t 1).val = (expertOf t).val := coord1 t
  simp only [he]
  have hs := lane_sum (fun x => R (ix2 r x)) (expertOf t)
  simp only [hs, hR, block0, block3, block4, block5]
  unfold part
  rw [dif_pos (Nat.mod_lt _ (by decide))]
  rfl

/-! ## The sixteen points of a tile -/

/-- Neighbouring points of one tile hold the same tokens. -/
theorem tok_prev (n : Nat) (hn : n + 1 < cfg0.N) (h0 : ¬(n + 1) % 16 = 0) (r : Fin 512) :
    tok ⟨n, Nat.lt_of_succ_lt hn⟩ r = tok ⟨n + 1, hn⟩ r := Fin.ext (by
  show 512 * (n / 16) + r.val = 512 * ((n + 1) / 16) + r.val
  have : (n + 1) / 16 = n / 16 := by omega
  rw [this])

/-- After a point that is not the last of its tile: the weights are there, and the experts so far are added up. -/
theorem tile_state (n : Nat) : ∀ (hn : n < cfg0.N), n % 16 < 15 →
    (∀ (r : Fin 512) (e : Fin 16), (outsAt0 m c n hn).2.1 (ix2 r (⟨4 + e.val, by omega⟩ : Fin 128)) = weight m c (tok ⟨n, hn⟩ r) e.val) ∧
    ∀ (r : Fin 512) (l : Fin 2048), (outsAt0 m c n hn).2.2 (ix2 r l) =
      ∑ e ∈ Finset.range (n % 16 + 1), part m c (tok ⟨n, hn⟩ r) l e := by
  have start : ∀ (k : Nat) (hk : k < cfg0.N) (acc : State Ideal), k % 16 = 0 →
      (∀ (r : Fin 512) (e : Fin 16), (stAt0 m c k hk acc).2.1 (ix2 r (⟨4 + e.val, by omega⟩ : Fin 128)) = weight m c (tok ⟨k, hk⟩ r) e.val) ∧
      ∀ (r : Fin 512) (l : Fin 2048), (stAt0 m c k hk acc).2.2 (ix2 r l) =
        ∑ e ∈ Finset.range (k % 16 + 1), part m c (tok ⟨k, hk⟩ r) l e := fun k hk acc h0 => by
    have h1 : ¬k % 16 = 15 := by omega
    refine ⟨fun r e => ?_, fun r l => ?_⟩
    · rw [first_route m c ⟨k, hk⟩ acc h0 h1]
      exact route_block m c ⟨k, hk⟩ r e
    · rw [first_acc m c ⟨k, hk⟩ acc h0 h1, expert_step m c ⟨k, hk⟩ _ _ (route_block m c ⟨k, hk⟩)]
      have z : k0_pay24 (F := Ideal) (ix2 r l) = 0 := by pointwise [k0_pay24]
      rw [z, zero_add, h0, Finset.sum_range_one]
  induction n with
  | zero =>
    intro hn _
    rw [outsAt0_zero]
    exact start 0 hn _ rfl
  | succ n ih =>
    intro hn h15
    rw [outsAt0_succ]
    by_cases h0 : (n + 1) % 16 = 0
    · exact start (n + 1) hn _ h0
    · obtain ⟨hR, hS⟩ := ih (Nat.lt_of_succ_lt hn) (by omega)
      simp only [tok_prev n hn h0] at hR hS
      have h1 : ¬(n + 1) % 16 = 15 := by omega
      refine ⟨fun r e => ?_, fun r l => ?_⟩
      · rw [mid_route m c ⟨n + 1, hn⟩ _ h0 h1]
        exact hR r e
      · rw [mid_acc m c ⟨n + 1, hn⟩ _ h0 h1, expert_step m c ⟨n + 1, hn⟩ _ _ hR, hS, Finset.sum_range_succ _ ((n + 1) % 16)]
        have : n % 16 + 1 = (n + 1) % 16 := by omega
        rw [this]

/-- The last point of a tile writes the normed rows of its tokens. -/
theorem tile_out (n : Nat) (hn : n < cfg0.N) (h15 : n % 16 = 15) (r : Fin 512) (l : Fin 2048) :
    (outsAt0 m c n hn).1 (ix2 r l) = sublayer (A0 m c) (A1 m c) (A2 m c) (A3 m c) (A4 m c) (A5 m c) (A6 m c) (A7 m c) (A8 m c)
      (A9 m c) (A10 m c) (A11 m c) (tok ⟨n, hn⟩ r) l := by
  obtain ⟨n, rfl⟩ : ∃ k, n = k + 1 := ⟨n - 1, by omega⟩
  have h0 : ¬(n + 1) % 16 = 0 := by omega
  obtain ⟨hR, hS⟩ := tile_state m c n (Nat.lt_of_succ_lt hn) (by omega)
  simp only [tok_prev n hn h0] at hR hS
  rw [outsAt0_succ, last_out m c ⟨n + 1, hn⟩ _ h0 h15]
  have hsum : ∀ y : Fin 2048, k0_pay1 (k0_pay25 (grid0.coords ⟨n + 1, hn⟩) (iblk m c 0 ⟨n + 1, hn⟩)
      (outsAt0 m c n (Nat.lt_of_succ_lt hn)).2.1 (iblk m c 3 ⟨n + 1, hn⟩) (iblk m c 4 ⟨n + 1, hn⟩)
      (outsAt0 m c n (Nat.lt_of_succ_lt hn)).2.2 (iblk m c 5 ⟨n + 1, hn⟩)) (ix2 r y) =
      ∑ e : Fin 16, expertOut (A0 m c) (A5 m c) (A6 m c) (A7 m c) (weight m c (tok ⟨n + 1, hn⟩ r) e.val) (tok ⟨n + 1, hn⟩ r) e y := fun y => by
    rw [expert_step m c ⟨n + 1, hn⟩ _ _ hR, hS]
    have e1 : n % 16 + 1 = 15 := by omega
    rw [e1]
    show _ + part m c _ y ((n + 1) % 16) = _
    rw [h15, ← Finset.sum_range_succ _ 15, Finset.sum_range]
    refine Finset.sum_congr rfl fun e _ => ?_
    unfold part
    rw [dif_pos e.isLt]
  generalize k0_pay1 (k0_pay25 (grid0.coords ⟨n + 1, hn⟩) (iblk m c 0 ⟨n + 1, hn⟩)
      (outsAt0 m c n (Nat.lt_of_succ_lt hn)).2.1 (iblk m c 3 ⟨n + 1, hn⟩) (iblk m c 4 ⟨n + 1, hn⟩)
      (outsAt0 m c n (Nat.lt_of_succ_lt hn)).2.2 (iblk m c 5 ⟨n + 1, hn⟩)) = S at hsum ⊢
  pointwise [k0_pay2]
  simp only [hsum, block6, block7, block8, block9]
  rfl

/-- The kernel's result array holds the sublayer's output. -/
theorem kernel_value (T : Fin 512) (l : Fin 2048) :
    (G10 m c : Tab ⟨2, ![512, 2048]⟩) (ix2 T l) = sublayer (A0 m c) (A1 m c) (A2 m c) (A3 m c) (A4 m c) (A5 m c) (A6 m c) (A7 m c) (A8 m c)
      (A9 m c) (A10 m c) (A11 m c) T l := by
  have hp : pt10Of (ix2 T l) = 16 * (T.val / 512) + 15 := by
    show 16 * (1 * (T.val / 512 - 0) + 1 * (l.val / 2048 - 0)) + 15 = _
    omega
  have hb : 16 * (T.val / 512) + 15 < cfg0.N := lt_of_lt_of_eq (by omega) (show cfg0.N = 16 from N_0).symm
  have hT : tok ⟨16 * (T.val / 512) + 15, hb⟩ ⟨T.val % 512, by omega⟩ = T := Fin.ext (by
    show 512 * ((16 * (T.val / 512) + 15) / 16) + T.val % 512 = T.val
    omega)
  have hl : loc10Of (ix2 T l) = ix2 (⟨T.val % 512, by omega⟩ : Fin 512) l := by
    funext a
    apply Fin.ext
    match a with
    | ⟨0, _⟩ => rfl
    | ⟨1, _⟩ => exact Nat.mod_eq_of_lt l.isLt
  have key := tile_out m c _ hb (by omega) ⟨T.val % 512, by omega⟩ l
  rw [hT, outsAt0_sweep] at key
  unfold G10
  simp only [hp, hl]
  rw [dif_pos hb]
  exact key
end Cert.SampleMoE
-- ==== Proof.SampleTie.lean ====
module
public import proofs.«01_k».proof.Defs
public import proofs.«01_k».proof.Proof.Gen.SampleIdeal.Value
public import proofs.«01_k».proof.Proof.Gen.SampleRefIdeal.Run
public import proofs.«01_k».proof.Proof.Gen.SampleRefIdeal.Read
public import proofs.«01_k».proof.Proof.SampleReference
public import proofs.«01_k».proof.Proof.SampleKernel
@[expose] public section
set_option maxRecDepth 16384
noncomputable section

/-! # The expert sublayer over the sample batch: kernel and reference agree -/
namespace Cert.SampleProof
open Idealize.ShloMosaic Idealize.ShloMosaic.Pointwise Idealize.SL.Sem

/-- The kernel and the reference leave the same array. -/
theorem tie : Cert.algebraic_SampleIdeal_SampleRefIdeal := by
  intro m ρ m' ρ' _ hagree
  refine ⟨_, Cert.SampleIdeal.Value.run (F := Ideal) m ρ, ?_⟩
  refine (θ_run Cert.SampleRefIdeal.defs _ _).mono (fun _ h c => ⟨?_, (h c).2⟩) (Cert.SampleRefIdeal.Value.run (F := Ideal) m' ρ')
  rw [(h c).1]
  refine (Cert.SampleRefIdeal.Read.val_main_v91_eq (F := Ideal) (StableHlo.launchContents m' c)).trans ?_
  funext i
  obtain ⟨T, l, rfl⟩ : ∃ (T : Fin 512) (l : Fin 2048), i = ix2 T l := ⟨i 0, i 1, funext fun a => by
    match a with
    | ⟨0, _⟩ => rfl
    | ⟨1, _⟩ => rfl⟩
  refine (Cert.SampleMoE.reference_value _ _ _ _ _ _ _ _ _ _ _ _ T l).trans (Eq.trans ?_ (Cert.SampleMoE.kernel_value m c T l).symm)
  obtain ⟨e0, e1, e2, e3, e4, e5, e6, e7, e8, e9, e10, e11⟩ := hagree c
  unfold Cert.SampleMoE.A0 Cert.SampleMoE.A1 Cert.SampleMoE.A2 Cert.SampleMoE.A3 Cert.SampleMoE.A4 Cert.SampleMoE.A5 Cert.SampleMoE.A6 Cert.SampleMoE.A7 Cert.SampleMoE.A8
    Cert.SampleMoE.A9 Cert.SampleMoE.A10 Cert.SampleMoE.A11
  rw [← e0, ← e1, ← e2, ← e3, ← e4, ← e5, ← e6, ← e7, ← e8, ← e9, ← e10, ← e11]
end Cert.SampleProof
-- ==== Proof.Product.lean ====
module
public import Idealize.ShloMosaic.Lib.Pointwise
@[expose] public section
noncomputable section

/-! # Products of matrices, read at an index -/
namespace Cert.Product
open Idealize.ShloMosaic Idealize.ShloMosaic.Pointwise

/-- Row `T` of `X` times column `k` of `Y`, over the extended reals. -/
def rowCol {M K N : Nat} (X : (⟨2, ![M, K]⟩ : Shape).Idx → EReal) (Y : (⟨2, ![K, N]⟩ : Shape).Idx → EReal) (T : Fin M) (k : Fin N) : EReal :=
  ∑ x : Fin K, X (ix2 T x) * Y (ix2 x k)

/-- Offsets written out as two zeros. -/
theorem off2 : (![0, 0] : Fin 2 → Nat) = fun _ => 0 := funext fun a => by fin_cases a <;> rfl
end Cert.Product
-- ==== Proof.MobaQProj.lean ====
module
public import proofs.«01_k».proof.Proof.Product
public import proofs.«01_k».proof.Defs
public import proofs.«01_k».proof.Proof.Gen.MobaQIdeal.Value
public import proofs.«01_k».proof.Proof.Gen.MobaQRefIdeal.Run
public import Idealize.ShloMosaic.Lib.Pipeline.Value
public import Idealize.ShloMosaic.Lib.Pointwise
public import Idealize.ShloMosaic.Lib.Tactic
@[expose] public section
set_option maxRecDepth 16384
noncomputable section

/-! # The queries of the prompt batch's block attention

The grid walks the token tiles inside each column tile. The first token tile of a column tile rounds the tile's weights
into the scratch buffer, and every token tile multiplies by what the buffer holds. -/
namespace Cert.MobaQProof
open Idealize.ShloMosaic Idealize.ShloMosaic.Pointwise Cert.Product Cert.MobaQIdeal Cert.MobaQIdeal.Gen Cert.MobaQIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 0 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 16 from N_0); omega⟩
/-- The weight column that lane `l` of point `t`'s column tile holds. -/
def col (t : Fin cfg0.N) (l : Fin 1024) : Fin 6144 :=
  ⟨0 + 1024 * (t.val / 8) + l.val, by have := lt_of_lt_of_eq t.isLt (show cfg0.N = 16 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (iblk m c 1 t : Vec Ideal S2048x1024 .f32) (ix2 x l) =
    m ((c : Thread nD τ).loc main_arg1) (ix2 x (col t l)) := by
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 0 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (iblk m c 1 t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (iblk m c 1 t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (iblk m c 1 t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 0 + 1024 * (n / 8) + l.val = 0 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 2048) :
    (G2 m c : (⟨2, ![8192, 2048]⟩ : Shape).Idx → EReal) (ix2 T l) =
      rowCol (m ((c : Thread nD τ).loc main_arg0)) (m ((c : Thread nD τ).loc main_arg1)) T (⟨0 + l.val, by omega⟩ : Fin 6144) := by
  have hp : pt2Of (ix2 T l) = T.val / 1024 + 8 * (l.val / 1024) := by
    show 1 * (T.val / 1024 - 0) + 8 * (l.val / 1024 - 0) = _
    omega
  have hb : T.val / 1024 + 8 * (l.val / 1024) < cfg0.N := lt_of_lt_of_eq (by omega) (show cfg0.N = 16 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨0 + l.val, by omega⟩ := Fin.ext (by
    show 0 + 1024 * ((T.val / 1024 + 8 * (l.val / 1024)) / 8) + l.val % 1024 = 0 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_MobaQIdeal_MobaQRefIdeal := by
  intro m ρ m' ρ' _ hagree
  refine ⟨_, Cert.MobaQIdeal.Value.run (F := Ideal) m ρ, ?_⟩
  refine (θ_run Cert.MobaQRefIdeal.defs _ _).mono (fun _ h c => ⟨?_, (h c).2⟩) (Cert.MobaQRefIdeal.Value.run (F := Ideal) m' ρ')
  rw [(h c).1]
  obtain ⟨e0, e1⟩ := hagree c
  rw [e0, e1]
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine Eq.trans ?_ (kernel_value m c T l).symm
  unfold rowCol
  pointwise
end Cert.MobaQProof
-- ==== Proof.MobaKProj.lean ====
module
public import proofs.«01_k».proof.Proof.Product
public import proofs.«01_k».proof.Defs
public import proofs.«01_k».proof.Proof.Gen.MobaKIdeal.Value
public import proofs.«01_k».proof.Proof.Gen.MobaKRefIdeal.Run
public import Idealize.ShloMosaic.Lib.Pipeline.Value
public import Idealize.ShloMosaic.Lib.Pointwise
public import Idealize.ShloMosaic.Lib.Tactic
@[expose] public section
set_option maxRecDepth 16384
noncomputable section

/-! # The keys of the prompt batch's block attention

The grid walks the token tiles inside each column tile. The first token tile of a column tile rounds the tile's weights
into the scratch buffer, and every token tile multiplies by what the buffer holds. -/
namespace Cert.MobaKProof
open Idealize.ShloMosaic Idealize.ShloMosaic.Pointwise Cert.Product Cert.MobaKIdeal Cert.MobaKIdeal.Gen Cert.MobaKIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 2 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 16 from N_0); omega⟩
/-- The weight column that lane `l` of point `t`'s column tile holds. -/
def col (t : Fin cfg0.N) (l : Fin 1024) : Fin 6144 :=
  ⟨2048 + 1024 * (t.val / 8) + l.val, by have := lt_of_lt_of_eq t.isLt (show cfg0.N = 16 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (iblk m c 1 t : Vec Ideal S2048x1024 .f32) (ix2 x l) =
    m ((c : Thread nD τ).loc main_arg1) (ix2 x (col t l)) := by
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 2048 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (iblk m c 1 t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (iblk m c 1 t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (iblk m c 1 t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 2048 + 1024 * (n / 8) + l.val = 2048 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 2048) :
    (G2 m c : (⟨2, ![8192, 2048]⟩ : Shape).Idx → EReal) (ix2 T l) =
      rowCol (m ((c : Thread nD τ).loc main_arg0)) (m ((c : Thread nD τ).loc main_arg1)) T (⟨2048 + l.val, by omega⟩ : Fin 6144) := by
  have hp : pt2Of (ix2 T l) = T.val / 1024 + 8 * (l.val / 1024) := by
    show 1 * (T.val / 1024 - 0) + 8 * (l.val / 1024 - 0) = _
    omega
  have hb : T.val / 1024 + 8 * (l.val / 1024) < cfg0.N := lt_of_lt_of_eq (by omega) (show cfg0.N = 16 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨2048 + l.val, by omega⟩ := Fin.ext (by
    show 2048 + 1024 * ((T.val / 1024 + 8 * (l.val / 1024)) / 8) + l.val % 1024 = 2048 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_MobaKIdeal_MobaKRefIdeal := by
  intro m ρ m' ρ' _ hagree
  refine ⟨_, Cert.MobaKIdeal.Value.run (F := Ideal) m ρ, ?_⟩
  refine (θ_run Cert.MobaKRefIdeal.defs _ _).mono (fun _ h c => ⟨?_, (h c).2⟩) (Cert.MobaKRefIdeal.Value.run (F := Ideal) m' ρ')
  rw [(h c).1]
  obtain ⟨e0, e1⟩ := hagree c
  rw [e0, e1]
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine Eq.trans ?_ (kernel_value m c T l).symm
  unfold rowCol
  pointwise
end Cert.MobaKProof
-- ==== Proof.MobaVProj.lean ====
module
public import proofs.«01_k».proof.Proof.Product
public import proofs.«01_k».proof.Defs
public import proofs.«01_k».proof.Proof.Gen.MobaVIdeal.Value
public import proofs.«01_k».proof.Proof.Gen.MobaVRefIdeal.Run
public import Idealize.ShloMosaic.Lib.Pipeline.Value
public import Idealize.ShloMosaic.Lib.Pointwise
public import Idealize.ShloMosaic.Lib.Tactic
@[expose] public section
set_option maxRecDepth 16384
noncomputable section

/-! # The values of the prompt batch's block attention

The grid walks the token tiles inside each column tile. The first token tile of a column tile rounds the tile's weights
into the scratch buffer, and every token tile multiplies by what the buffer holds. -/
namespace Cert.MobaVProof
open Idealize.ShloMosaic Idealize.ShloMosaic.Pointwise Cert.Product Cert.MobaVIdeal Cert.MobaVIdeal.Gen Cert.MobaVIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 4 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 16 from N_0); omega⟩
/-- The weight column that lane `l` of point `t`'s column tile holds. -/
def col (t : Fin cfg0.N) (l : Fin 1024) : Fin 6144 :=
  ⟨4096 + 1024 * (t.val / 8) + l.val, by have := lt_of_lt_of_eq t.isLt (show cfg0.N = 16 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (iblk m c 1 t : Vec Ideal S2048x1024 .f32) (ix2 x l) =
    m ((c : Thread nD τ).loc main_arg1) (ix2 x (col t l)) := by
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 4096 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (iblk m c 1 t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (iblk m c 1 t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (iblk m c 1 t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 4096 + 1024 * (n / 8) + l.val = 4096 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 2048) :
    (G2 m c : (⟨2, ![8192, 2048]⟩ : Shape).Idx → EReal) (ix2 T l) =
      rowCol (m ((c : Thread nD τ).loc main_arg0)) (m ((c : Thread nD τ).loc main_arg1)) T (⟨4096 + l.val, by omega⟩ : Fin 6144) := by
  have hp : pt2Of (ix2 T l) = T.val / 1024 + 8 * (l.val / 1024) := by
    show 1 * (T.val / 1024 - 0) + 8 * (l.val / 1024 - 0) = _
    omega
  have hb : T.val / 1024 + 8 * (l.val / 1024) < cfg0.N := lt_of_lt_of_eq (by omega) (show cfg0.N = 16 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨4096 + l.val, by omega⟩ := Fin.ext (by
    show 4096 + 1024 * ((T.val / 1024 + 8 * (l.val / 1024)) / 8) + l.val % 1024 = 4096 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_MobaVIdeal_MobaVRefIdeal := by
  intro m ρ m' ρ' _ hagree
  refine ⟨_, Cert.MobaVIdeal.Value.run (F := Ideal) m ρ, ?_⟩
  refine (θ_run Cert.MobaVRefIdeal.defs _ _).mono (fun _ h c => ⟨?_, (h c).2⟩) (Cert.MobaVRefIdeal.Value.run (F := Ideal) m' ρ')
  rw [(h c).1]
  obtain ⟨e0, e1⟩ := hagree c
  rw [e0, e1]
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine Eq.trans ?_ (kernel_value m c T l).symm
  unfold rowCol
  pointwise
end Cert.MobaVProof
-- ==== Proof.MobaSampleProj.lean ====
module
public import proofs.«01_k».proof.Proof.Product
public import proofs.«01_k».proof.Defs
public import proofs.«01_k».proof.Proof.Gen.MobaSampleIdeal.Value
public import proofs.«01_k».proof.Proof.Gen.MobaSampleRefIdeal.Run
public import Idealize.ShloMosaic.Lib.Pipeline.Value
public import Idealize.ShloMosaic.Lib.Pointwise
public import Idealize.ShloMosaic.Lib.Tactic
@[expose] public section
set_option maxRecDepth 16384
noncomputable section

/-! # Queries, keys and values of the sample batch's block attention

All tokens are one tile, so each grid point rounds its own column tile's weights and multiplies by them. -/
namespace Cert.MobaSampleProof
open Idealize.ShloMosaic Idealize.ShloMosaic.Pointwise Cert.Product Cert.MobaSampleIdeal Cert.MobaSampleIdeal.Gen Cert.MobaSampleIdeal.Value Idealize.ShloMosaic.TcCoe Idealize.SL.Sem

/-! ## The blocks of a grid point -/

theorem at0 : ∀ t : Fin cfg0.N, win0_0.index t 0 = t.val % 1 ∧ win0_0.index t 1 = 0 := by decide +kernel
theorem at1 : ∀ t : Fin cfg0.N, win0_1.index t 0 = 0 ∧ win0_1.index t 1 = 0 + t.val / 1 := by decide +kernel

/-- The token that row `r` of point `t`'s tile holds. -/
def tok (t : Fin cfg0.N) (r : Fin 512) : Fin 512 :=
  ⟨512 * (t.val % 1) + r.val, by have := lt_of_lt_of_eq t.isLt (show cfg0.N = 6 from N_0); omega⟩
/-- The weight column that lane `l` of point `t`'s column tile holds. -/
def col (t : Fin cfg0.N) (l : Fin 1024) : Fin 6144 :=
  ⟨0 + 1024 * (t.val / 1) + l.val, by have := lt_of_lt_of_eq t.isLt (show cfg0.N = 6 from N_0); omega⟩

variable (m : (ℓ : Loc nD τ sig) → Buf (Elt Ideal) ℓ) (c : Dev nD)

theorem block0 (t : Fin cfg0.N) (r : Fin 512) (x : Fin 2048) : (iblk m c 0 t : Vec Ideal S512x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val % 1) + r.val; rw [(at0 t).1]; omega
  | ⟨1, _⟩ => show win0_0.index t 1 * 2048 + 1 * x.val = x.val; rw [(at0 t).2]; omega

theorem block1 (t : Fin cfg0.N) (x : Fin 2048) (l : Fin 1024) : (iblk m c 1 t : Vec Ideal S2048x1024 .f32) (ix2 x l) =
    m ((c : Thread nD τ).loc main_arg1) (ix2 x (col t l)) := by
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 0 + 1024 * (t.val / 1) + l.val; rw [(at1 t).2]; omega

/-! ## One grid point -/

/-- A grid point rounds its column tile's weights and multiplies by them. -/
theorem point_out (t : Fin cfg0.N) :
    out0_A_2 c (grid0.coords t) (ms0_0 t) (hs0_0 t) (ms0_1 t) (hs0_1 t) (ms0_2 t) (hs0_2 t) scM0_0 (Memref.isWhole_whole _) (hcond0_0 t)
      (iblk m c 0 t) (iblk m c 1 t) = k0_pay2 (iblk m c 0 t) (k0_pay1 (iblk m c 1 t)) := by
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S512x2048) off2, View.ld_unit_zero (S := S2048x1024) off2, shapeCast_self]

/-- At Ideal that is the product with the weights themselves. -/
theorem point_product (t : Fin cfg0.N) (r : Fin 512) (l : Fin 1024) :
    k0_pay2 (iblk m c 0 t) (k0_pay1 (iblk m c 1 t)) (ix2 r l) =
      rowCol (m ((c : Thread nD τ).loc main_arg0)) (m ((c : Thread nD τ).loc main_arg1)) (tok t r) (col t l) := by
  have hR : ∀ (x : Fin 2048) (y : Fin 1024), k0_pay1 (iblk m c 1 t) (ix2 x y) = m ((c : Thread nD τ).loc main_arg1) (ix2 x (col t y)) := fun x y => by
    pointwise [k0_pay1]
    exact block1 m c t x y
  generalize k0_pay1 (iblk m c 1 t) = R at hR ⊢
  pointwise [k0_pay2]
  unfold rowCol
  simp only [hR, block0]

theorem at2 : ∀ t : Fin cfg0.N, win0_2.index t 0 = 0 ∧ win0_2.index t 1 = t.val := by decide +kernel

/-- The kernel's result array holds the products. -/
theorem kernel_value (T : Fin 512) (l : Fin 6144) :
    ((dats m 0 c).arrAt 2 cfg0.N : (⟨2, ![512, 6144]⟩ : Shape).Idx → EReal) (ix2 T l) =
      rowCol (m ((c : Thread nD τ).loc main_arg0)) (m ((c : Thread nD τ).loc main_arg1)) T (⟨0 + l.val, by omega⟩ : Fin 6144) := by
  have hb : l.val / 1024 < cfg0.N := lt_of_lt_of_eq (by omega) (show cfg0.N = 6 from N_0).symm
  have hT : tok ⟨l.val / 1024, hb⟩ T = T := Fin.ext (by
    show 512 * ((l.val / 1024) % 1) + T.val = T.val
    omega)
  have hc : col ⟨l.val / 1024, hb⟩ ⟨l.val % 1024, by omega⟩ = ⟨0 + l.val, by omega⟩ := Fin.ext (by
    show 0 + 1024 * ((l.val / 1024) / 1) + l.val % 1024 = 0 + l.val
    omega)
  have key := congrFun (blocks2 m c ⟨l.val / 1024, hb⟩ (flush0_2 _)) (ix2 T (⟨l.val % 1024, by omega⟩ : Fin 1024))
  rw [View.read_apply, flushed2_A, point_out] at key
  have he : ((cfg0.win 2).blk ⟨l.val / 1024, hb⟩).view.emb (ix2 T (⟨l.val % 1024, by omega⟩ : Fin 1024)) = ix2 T l := by
    funext a
    apply Fin.ext
    match a with
    | ⟨0, _⟩ => show win0_2.index ⟨l.val / 1024, hb⟩ 0 * 512 + 1 * T.val = T.val; rw [(at2 _).1]; omega
    | ⟨1, _⟩ => show win0_2.index ⟨l.val / 1024, hb⟩ 1 * 1024 + 1 * (l.val % 1024) = l.val; rw [(at2 _).2]; show l.val / 1024 * 1024 + _ = _; omega
  rw [he] at key
  refine key.trans ?_
  refine Eq.trans ?_ ((point_product m c ⟨l.val / 1024, hb⟩ T ⟨l.val % 1024, by omega⟩).trans (by rw [hT, hc]))
  rfl

/-- The kernel and the reference leave the same array. -/
theorem tie : Cert.algebraic_MobaSampleIdeal_MobaSampleRefIdeal := by
  intro m ρ m' ρ' _ hagree
  refine ⟨_, Cert.MobaSampleIdeal.Value.run_blocks (F := Ideal) m ρ, ?_⟩
  refine (θ_run Cert.MobaSampleRefIdeal.defs _ _).mono (fun _ h c => ⟨?_, (h c).2⟩) (Cert.MobaSampleRefIdeal.Value.run (F := Ideal) m' ρ')
  rw [(h c).1]
  obtain ⟨e0, e1⟩ := hagree c
  rw [e0, e1]
  funext i
  obtain ⟨T, l, rfl⟩ : ∃ (T : Fin 512) (l : Fin 6144), i = ix2 T l := ⟨i 0, i 1, funext fun a => by
    match a with
    | ⟨0, _⟩ => rfl
    | ⟨1, _⟩ => rfl⟩
  refine Eq.trans ?_ (kernel_value m c T l).symm
  unfold rowCol
  pointwise
end Cert.MobaSampleProof
-- ==== Proof.DiffQProj.lean ====
module
public import proofs.«01_k».proof.Proof.Product
public import proofs.«01_k».proof.Defs
public import proofs.«01_k».proof.Proof.Gen.DiffQIdeal.Value
public import proofs.«01_k».proof.Proof.Gen.DiffQRefIdeal.Run
public import Idealize.ShloMosaic.Lib.Pipeline.Value
public import Idealize.ShloMosaic.Lib.Pointwise
public import Idealize.ShloMosaic.Lib.Tactic
@[expose] public section
set_option maxRecDepth 16384
noncomputable section

/-! # The queries of the prompt batch's differential attention

The grid walks the token tiles inside each column tile. The first token tile of a column tile rounds the tile's weights
into the scratch buffer, and every token tile multiplies by what the buffer holds. -/
namespace Cert.DiffQProof
open Idealize.ShloMosaic Idealize.ShloMosaic.Pointwise Cert.Product Cert.DiffQIdeal Cert.DiffQIdeal.Gen Cert.DiffQIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 0 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 1024) : Fin 5656 :=
  ⟨0 + 1024 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (X0_1 m c t : Vec Ideal S2048x1024 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 0 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 0 + 1024 * (n / 8) + l.val = 0 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 1024) :
    (G2 m c : (⟨2, ![8192, 1024]⟩ : Shape).Idx → EReal) (ix2 T l) =
      rowCol (m ((c : Thread nD τ).loc main_arg0)) (m ((c : Thread nD τ).loc main_arg1)) T (⟨0 + l.val, by omega⟩ : Fin 5656) := by
  have hp : pt2Of (ix2 T l) = T.val / 1024 + 8 * (l.val / 1024) := by
    show 1 * (T.val / 1024 - 0) + 1 * (l.val / 1024 - 0) = _
    omega
  have hb : T.val / 1024 + 8 * (l.val / 1024) < cfg0.N := lt_of_lt_of_eq (by omega) (show cfg0.N = 8 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨0 + l.val, by omega⟩ := Fin.ext (by
    show 0 + 1024 * ((T.val / 1024 + 8 * (l.val / 1024)) / 8) + l.val % 1024 = 0 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_DiffQIdeal_DiffQRefIdeal := by
  intro m ρ m' ρ' _ hagree
  refine ⟨_, Cert.DiffQIdeal.Value.run (F := Ideal) m ρ, ?_⟩
  refine (θ_run Cert.DiffQRefIdeal.defs _ _).mono (fun _ h c => ⟨?_, (h c).2⟩) (Cert.DiffQRefIdeal.Value.run (F := Ideal) m' ρ')
  rw [(h c).1]
  obtain ⟨e0, e1⟩ := hagree c
  rw [e0, e1]
  funext i
  obtain ⟨T, l, rfl⟩ : ∃ (T : Fin 8192) (l : Fin 1024), i = ix2 T l := ⟨i 0, i 1, funext fun a => by
    match a with
    | ⟨0, _⟩ => rfl
    | ⟨1, _⟩ => rfl⟩
  refine Eq.trans ?_ (kernel_value m c T l).symm
  unfold rowCol
  pointwise
end Cert.DiffQProof
-- ==== Proof.DiffKProj.lean ====
module
public import proofs.«01_k».proof.Proof.Product
public import proofs.«01_k».proof.Defs
public import proofs.«01_k».proof.Proof.Gen.DiffKIdeal.Value
public import proofs.«01_k».proof.Proof.Gen.DiffKRefIdeal.Run
public import Idealize.ShloMosaic.Lib.Pipeline.Value
public import Idealize.ShloMosaic.Lib.Pointwise
public import Idealize.ShloMosaic.Lib.Tactic
@[expose] public section
set_option maxRecDepth 16384
noncomputable section

/-! # The keys of the prompt batch's differential attention

The grid walks the token tiles inside each column tile. The first token tile of a column tile rounds the tile's weights
into the scratch buffer, and every token tile multiplies by what the buffer holds. -/
namespace Cert.DiffKProof
open Idealize.ShloMosaic Idealize.ShloMosaic.Pointwise Cert.Product Cert.DiffKIdeal Cert.DiffKIdeal.Gen Cert.DiffKIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 1 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 1024) : Fin 5656 :=
  ⟨1024 + 1024 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (X0_1 m c t : Vec Ideal S2048x1024 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 1024 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 1024 + 1024 * (n / 8) + l.val = 1024 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 1024) :
    (G2 m c : (⟨2, ![8192, 1024]⟩ : Shape).Idx → EReal) (ix2 T l) =
      rowCol (m ((c : Thread nD τ).loc main_arg0)) (m ((c : Thread nD τ).loc main_arg1)) T (⟨1024 + l.val, by omega⟩ : Fin 5656) := by
  have hp : pt2Of (ix2 T l) = T.val / 1024 + 8 * (l.val / 1024) := by
    show 1 * (T.val / 1024 - 0) + 1 * (l.val / 1024 - 0) = _
    omega
  have hb : T.val / 1024 + 8 * (l.val / 1024) < cfg0.N := lt_of_lt_of_eq (by omega) (show cfg0.N = 8 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨1024 + l.val, by omega⟩ := Fin.ext (by
    show 1024 + 1024 * ((T.val / 1024 + 8 * (l.val / 1024)) / 8) + l.val % 1024 = 1024 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_DiffKIdeal_DiffKRefIdeal := by
  intro m ρ m' ρ' _ hagree
  refine ⟨_, Cert.DiffKIdeal.Value.run (F := Ideal) m ρ, ?_⟩
  refine (θ_run Cert.DiffKRefIdeal.defs _ _).mono (fun _ h c => ⟨?_, (h c).2⟩) (Cert.DiffKRefIdeal.Value.run (F := Ideal) m' ρ')
  rw [(h c).1]
  obtain ⟨e0, e1⟩ := hagree c
  rw [e0, e1]
  funext i
  obtain ⟨T, l, rfl⟩ : ∃ (T : Fin 8192) (l : Fin 1024), i = ix2 T l := ⟨i 0, i 1, funext fun a => by
    match a with
    | ⟨0, _⟩ => rfl
    | ⟨1, _⟩ => rfl⟩
  refine Eq.trans ?_ (kernel_value m c T l).symm
  unfold rowCol
  pointwise
end Cert.DiffKProof
-- ==== Proof.DiffVProj.lean ====
module
public import proofs.«01_k».proof.Proof.Product
public import proofs.«01_k».proof.Defs
public import proofs.«01_k».proof.Proof.Gen.DiffVIdeal.Value
public import proofs.«01_k».proof.Proof.Gen.DiffVRefIdeal.Run
public import Idealize.ShloMosaic.Lib.Pipeline.Value
public import Idealize.ShloMosaic.Lib.Pointwise
public import Idealize.ShloMosaic.Lib.Tactic
@[expose] public section
set_option maxRecDepth 16384
noncomputable section

/-! # The values of the prompt batch's differential attention

The grid walks the token tiles inside each column tile. The first token tile of a column tile rounds the tile's weights
into the scratch buffer, and every token tile multiplies by what the buffer holds. -/
namespace Cert.DiffVProof
open Idealize.ShloMosaic Idealize.ShloMosaic.Pointwise Cert.Product Cert.DiffVIdeal Cert.DiffVIdeal.Gen Cert.DiffVIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 2 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 1024) : Fin 5656 :=
  ⟨2048 + 1024 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (X0_1 m c t : Vec Ideal S2048x1024 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 2048 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 2048 + 1024 * (n / 8) + l.val = 2048 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 1024) :
    (G2 m c : (⟨2, ![8192, 1024]⟩ : Shape).Idx → EReal) (ix2 T l) =
      rowCol (m ((c : Thread nD τ).loc main_arg0)) (m ((c : Thread nD τ).loc main_arg1)) T (⟨2048 + l.val, by omega⟩ : Fin 5656) := by
  have hp : pt2Of (ix2 T l) = T.val / 1024 + 8 * (l.val / 1024) := by
    show 1 * (T.val / 1024 - 0) + 1 * (l.val / 1024 - 0) = _
    omega
  have hb : T.val / 1024 + 8 * (l.val / 1024) < cfg0.N := lt_of_lt_of_eq (by omega) (show cfg0.N = 8 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨2048 + l.val, by omega⟩ := Fin.ext (by
    show 2048 + 1024 * ((T.val / 1024 + 8 * (l.val / 1024)) / 8) + l.val % 1024 = 2048 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_DiffVIdeal_DiffVRefIdeal := by
  intro m ρ m' ρ' _ hagree
  refine ⟨_, Cert.DiffVIdeal.Value.run (F := Ideal) m ρ, ?_⟩
  refine (θ_run Cert.DiffVRefIdeal.defs _ _).mono (fun _ h c => ⟨?_, (h c).2⟩) (Cert.DiffVRefIdeal.Value.run (F := Ideal) m' ρ')
  rw [(h c).1]
  obtain ⟨e0, e1⟩ := hagree c
  rw [e0, e1]
  funext i
  obtain ⟨T, l, rfl⟩ : ∃ (T : Fin 8192) (l : Fin 1024), i = ix2 T l := ⟨i 0, i 1, funext fun a => by
    match a with
    | ⟨0, _⟩ => rfl
    | ⟨1, _⟩ => rfl⟩
  refine Eq.trans ?_ (kernel_value m c T l).symm
  unfold rowCol
  pointwise
end Cert.DiffVProof
-- ==== Proof.NsaQProj.lean ====
module
public import proofs.«01_k».proof.Proof.Product
public import proofs.«01_k».proof.Defs
public import proofs.«01_k».proof.Proof.Gen.NsaQIdeal.Value
public import proofs.«01_k».proof.Proof.Gen.NsaQRefIdeal.Run
public import Idealize.ShloMosaic.Lib.Pipeline.Value
public import Idealize.ShloMosaic.Lib.Pointwise
public import Idealize.ShloMosaic.Lib.Tactic
@[expose] public section
set_option maxRecDepth 16384
noncomputable section

/-! # The queries of the prompt batch's sparse attention

The grid walks the token tiles inside each column tile. The first token tile of a column tile rounds the tile's weights
into the scratch buffer, and every token tile multiplies by what the buffer holds. -/
namespace Cert.NsaQProof
open Idealize.ShloMosaic Idealize.ShloMosaic.Pointwise Cert.Product Cert.NsaQIdeal Cert.NsaQIdeal.Gen Cert.NsaQIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 3 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 1024) : Fin 5656 :=
  ⟨3072 + 1024 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 1024) : (X0_1 m c t : Vec Ideal S2048x1024 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 1024 + 1 * l.val = 3072 + 1024 * (t.val / 8) + l.val; rw [(at1 t).2]; omega

/-! ## One grid point -/

/-- The state between grid points: the output tile and the rounded weights. -/
abbrev State (F : FTy → Type) := Vec F S1024x1024 .f32 × Vec F S2048x1024 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x1024) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x1024) _ off2, View.readAt_eq_ld, (hs0_0 t).read_unread, (hs0_1 t).read_unread,
    View.ld_unit_zero (S := S1024x2048) off2, View.ld_unit_zero (S := S2048x1024) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x1024) off2, shapeCast_self]

/-! ## The sweep over the token tiles -/

/-- A dot product of a row with rounded weights is the dot product with the weights. -/
theorem product (t : Fin cfg0.N) (R : Vec Ideal S2048x1024 .bf16)
    (hR : ∀ (x : Fin 2048) (l : Fin 1024), R (ix2 x l) = m ((c : Thread nD τ).loc main_arg1) (ix2 x (col t l))) (r : Fin 1024) (l : Fin 1024) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 1024) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 1024), (outsAt0 m c n hn).2 (ix2 x l) = m ((c : Thread nD τ).loc main_arg1) (ix2 x (col ⟨n, hn⟩ l))) ∧
    ∀ (r : Fin 1024) (l : Fin 1024), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 1024), (stAt0 m c k hk acc).2 (ix2 x l) = m ((c : Thread nD τ).loc main_arg1) (ix2 x (col ⟨k, hk⟩ l))) ∧
      ∀ (r : Fin 1024) (l : Fin 1024), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 1024, col ⟨n, Nat.lt_of_succ_lt hn⟩ l = col ⟨n + 1, hn⟩ l := fun l => Fin.ext (by
        show 3072 + 1024 * (n / 8) + l.val = 3072 + 1024 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 1024) :
    (G2 m c : (⟨2, ![8192, 1024]⟩ : Shape).Idx → EReal) (ix2 T l) =
      rowCol (m ((c : Thread nD τ).loc main_arg0)) (m ((c : Thread nD τ).loc main_arg1)) T (⟨3072 + l.val, by omega⟩ : Fin 5656) := by
  have hp : pt2Of (ix2 T l) = T.val / 1024 + 8 * (l.val / 1024) := by
    show 1 * (T.val / 1024 - 0) + 1 * (l.val / 1024 - 0) = _
    omega
  have hb : T.val / 1024 + 8 * (l.val / 1024) < cfg0.N := lt_of_lt_of_eq (by omega) (show cfg0.N = 8 from N_0).symm
  have hT : tok ⟨T.val / 1024 + 8 * (l.val / 1024), hb⟩ ⟨T.val % 1024, by omega⟩ = T := Fin.ext (by
    show 1024 * ((T.val / 1024 + 8 * (l.val / 1024)) % 8) + T.val % 1024 = T.val
    omega)
  have hc : col ⟨T.val / 1024 + 8 * (l.val / 1024), hb⟩ ⟨l.val % 1024, by omega⟩ = ⟨3072 + l.val, by omega⟩ := Fin.ext (by
    show 3072 + 1024 * ((T.val / 1024 + 8 * (l.val / 1024)) / 8) + l.val % 1024 = 3072 + l.val
    omega)
  have hl : loc2Of (ix2 T l) = ix2 (⟨T.val % 1024, by omega⟩ : Fin 1024) (⟨l.val % 1024, by omega⟩ : Fin 1024) := by
    funext a
    apply Fin.ext
    match a with
    | ⟨0, _⟩ => rfl
    | ⟨1, _⟩ => rfl
  have key := (sweep m c _ hb).2 ⟨T.val % 1024, by omega⟩ ⟨l.val % 1024, by omega⟩
  rw [hT, hc, outsAt0_sweep] at key
  unfold G2
  simp only [hp, hl]
  rw [dif_pos hb]
  exact key

/-- The kernel and the reference leave the same array. -/
theorem tie : Cert.algebraic_NsaQIdeal_NsaQRefIdeal := by
  intro m ρ m' ρ' _ hagree
  refine ⟨_, Cert.NsaQIdeal.Value.run (F := Ideal) m ρ, ?_⟩
  refine (θ_run Cert.NsaQRefIdeal.defs _ _).mono (fun _ h c => ⟨?_, (h c).2⟩) (Cert.NsaQRefIdeal.Value.run (F := Ideal) m' ρ')
  rw [(h c).1]
  obtain ⟨e0, e1⟩ := hagree c
  rw [e0, e1]
  funext i
  obtain ⟨T, l, rfl⟩ : ∃ (T : Fin 8192) (l : Fin 1024), i = ix2 T l := ⟨i 0, i 1, funext fun a => by
    match a with
    | ⟨0, _⟩ => rfl
    | ⟨1, _⟩ => rfl⟩
  refine Eq.trans ?_ (kernel_value m c T l).symm
  unfold rowCol
  pointwise
end Cert.NsaQProof
-- ==== Proof.CmpKProj.lean ====
module
public import proofs.«01_k».proof.Proof.Product
public import proofs.«01_k».proof.Defs
public import proofs.«01_k».proof.Proof.Gen.CmpKIdeal.Value
public import proofs.«01_k».proof.Proof.Gen.CmpKRefIdeal.Run
public import Idealize.ShloMosaic.Lib.Pipeline.Value
public import Idealize.ShloMosaic.Lib.Pointwise
public import Idealize.ShloMosaic.Lib.Tactic
@[expose] public section
set_option maxRecDepth 16384
noncomputable section

/-! # The prompt batch's keys to be compressed

The grid walks the token tiles inside each column tile. The first token tile of a column tile rounds the tile's weights
into the scratch buffer, and every token tile multiplies by what the buffer holds. -/
namespace Cert.CmpKProof
open Idealize.ShloMosaic Idealize.ShloMosaic.Pointwise Cert.Product Cert.CmpKIdeal Cert.CmpKIdeal.Gen Cert.CmpKIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 16 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 256) : Fin 5656 :=
  ⟨4096 + 256 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 256) : (X0_1 m c t : Vec Ideal S2048x256 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 256 + 1 * l.val = 4096 + 256 * (t.val / 8) + l.val; rw [(at1 t).2]; omega

/-! ## One grid point -/

/-- The state between grid points: the output tile and the rounded weights. -/
abbrev State (F : FTy → Type) := Vec F S1024x256 .f32 × Vec F S2048x256 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x256) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x256) _ off2, View.readAt_eq_ld, (hs0_0 t).read_unread, (hs0_1 t).read_unread,
    View.ld_unit_zero (S := S1024x2048) off2, View.ld_unit_zero (S := S2048x256) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x256) off2, shapeCast_self]

/-! ## The sweep over the token tiles -/

/-- A dot product of a row with rounded weights is the dot product with the weights. -/
theorem product (t : Fin cfg0.N) (R : Vec Ideal S2048x256 .bf16)
    (hR : ∀ (x : Fin 2048) (l : Fin 256), R (ix2 x l) = m ((c : Thread nD τ).loc main_arg1) (ix2 x (col t l))) (r : Fin 1024) (l : Fin 256) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 256) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 256), (outsAt0 m c n hn).2 (ix2 x l) = m ((c : Thread nD τ).loc main_arg1) (ix2 x (col ⟨n, hn⟩ l))) ∧
    ∀ (r : Fin 1024) (l : Fin 256), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 256), (stAt0 m c k hk acc).2 (ix2 x l) = m ((c : Thread nD τ).loc main_arg1) (ix2 x (col ⟨k, hk⟩ l))) ∧
      ∀ (r : Fin 1024) (l : Fin 256), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 256, col ⟨n, Nat.lt_of_succ_lt hn⟩ l = col ⟨n + 1, hn⟩ l := fun l => Fin.ext (by
        show 4096 + 256 * (n / 8) + l.val = 4096 + 256 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 256) :
    (G2 m c : (⟨2, ![8192, 256]⟩ : Shape).Idx → EReal) (ix2 T l) =
      rowCol (m ((c : Thread nD τ).loc main_arg0)) (m ((c : Thread nD τ).loc main_arg1)) T (⟨4096 + l.val, by omega⟩ : Fin 5656) := by
  have hp : pt2Of (ix2 T l) = T.val / 1024 + 8 * (l.val / 256) := by
    show 1 * (T.val / 1024 - 0) + 1 * (l.val / 256 - 0) = _
    omega
  have hb : T.val / 1024 + 8 * (l.val / 256) < cfg0.N := lt_of_lt_of_eq (by omega) (show cfg0.N = 8 from N_0).symm
  have hT : tok ⟨T.val / 1024 + 8 * (l.val / 256), hb⟩ ⟨T.val % 1024, by omega⟩ = T := Fin.ext (by
    show 1024 * ((T.val / 1024 + 8 * (l.val / 256)) % 8) + T.val % 1024 = T.val
    omega)
  have hc : col ⟨T.val / 1024 + 8 * (l.val / 256), hb⟩ ⟨l.val % 256, by omega⟩ = ⟨4096 + l.val, by omega⟩ := Fin.ext (by
    show 4096 + 256 * ((T.val / 1024 + 8 * (l.val / 256)) / 8) + l.val % 256 = 4096 + l.val
    omega)
  have hl : loc2Of (ix2 T l) = ix2 (⟨T.val % 1024, by omega⟩ : Fin 1024) (⟨l.val % 256, by omega⟩ : Fin 256) := by
    funext a
    apply Fin.ext
    match a with
    | ⟨0, _⟩ => rfl
    | ⟨1, _⟩ => rfl
  have key := (sweep m c _ hb).2 ⟨T.val % 1024, by omega⟩ ⟨l.val % 256, by omega⟩
  rw [hT, hc, outsAt0_sweep] at key
  unfold G2
  simp only [hp, hl]
  rw [dif_pos hb]
  exact key

/-- The kernel and the reference leave the same array. -/
theorem tie : Cert.algebraic_CmpKIdeal_CmpKRefIdeal := by
  intro m ρ m' ρ' _ hagree
  refine ⟨_, Cert.CmpKIdeal.Value.run (F := Ideal) m ρ, ?_⟩
  refine (θ_run Cert.CmpKRefIdeal.defs _ _).mono (fun _ h c => ⟨?_, (h c).2⟩) (Cert.CmpKRefIdeal.Value.run (F := Ideal) m' ρ')
  rw [(h c).1]
  obtain ⟨e0, e1⟩ := hagree c
  rw [e0, e1]
  funext i
  obtain ⟨T, l, rfl⟩ : ∃ (T : Fin 8192) (l : Fin 256), i = ix2 T l := ⟨i 0, i 1, funext fun a => by
    match a with
    | ⟨0, _⟩ => rfl
    | ⟨1, _⟩ => rfl⟩
  refine Eq.trans ?_ (kernel_value m c T l).symm
  unfold rowCol
  pointwise
end Cert.CmpKProof
-- ==== Proof.CmpVProj.lean ====
module
public import proofs.«01_k».proof.Proof.Product
public import proofs.«01_k».proof.Defs
public import proofs.«01_k».proof.Proof.Gen.CmpVIdeal.Value
public import proofs.«01_k».proof.Proof.Gen.CmpVRefIdeal.Run
public import Idealize.ShloMosaic.Lib.Pipeline.Value
public import Idealize.ShloMosaic.Lib.Pointwise
public import Idealize.ShloMosaic.Lib.Tactic
@[expose] public section
set_option maxRecDepth 16384
noncomputable section

/-! # The prompt batch's values to be compressed

The grid walks the token tiles inside each column tile. The first token tile of a column tile rounds the tile's weights
into the scratch buffer, and every token tile multiplies by what the buffer holds. -/
namespace Cert.CmpVProof
open Idealize.ShloMosaic Idealize.ShloMosaic.Pointwise Cert.Product Cert.CmpVIdeal Cert.CmpVIdeal.Gen Cert.CmpVIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 17 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 256) : Fin 5656 :=
  ⟨4352 + 256 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 256) : (X0_1 m c t : Vec Ideal S2048x256 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 256 + 1 * l.val = 4352 + 256 * (t.val / 8) + l.val; rw [(at1 t).2]; omega

/-! ## One grid point -/

/-- The state between grid points: the output tile and the rounded weights. -/
abbrev State (F : FTy → Type) := Vec F S1024x256 .f32 × Vec F S2048x256 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x256) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x256) _ off2, View.readAt_eq_ld, (hs0_0 t).read_unread, (hs0_1 t).read_unread,
    View.ld_unit_zero (S := S1024x2048) off2, View.ld_unit_zero (S := S2048x256) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x256) off2, shapeCast_self]

/-! ## The sweep over the token tiles -/

/-- A dot product of a row with rounded weights is the dot product with the weights. -/
theorem product (t : Fin cfg0.N) (R : Vec Ideal S2048x256 .bf16)
    (hR : ∀ (x : Fin 2048) (l : Fin 256), R (ix2 x l) = m ((c : Thread nD τ).loc main_arg1) (ix2 x (col t l))) (r : Fin 1024) (l : Fin 256) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 256) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 256), (outsAt0 m c n hn).2 (ix2 x l) = m ((c : Thread nD τ).loc main_arg1) (ix2 x (col ⟨n, hn⟩ l))) ∧
    ∀ (r : Fin 1024) (l : Fin 256), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 256), (stAt0 m c k hk acc).2 (ix2 x l) = m ((c : Thread nD τ).loc main_arg1) (ix2 x (col ⟨k, hk⟩ l))) ∧
      ∀ (r : Fin 1024) (l : Fin 256), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 256, col ⟨n, Nat.lt_of_succ_lt hn⟩ l = col ⟨n + 1, hn⟩ l := fun l => Fin.ext (by
        show 4352 + 256 * (n / 8) + l.val = 4352 + 256 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 256) :
    (G2 m c : (⟨2, ![8192, 256]⟩ : Shape).Idx → EReal) (ix2 T l) =
      rowCol (m ((c : Thread nD τ).loc main_arg0)) (m ((c : Thread nD τ).loc main_arg1)) T (⟨4352 + l.val, by omega⟩ : Fin 5656) := by
  have hp : pt2Of (ix2 T l) = T.val / 1024 + 8 * (l.val / 256) := by
    show 1 * (T.val / 1024 - 0) + 1 * (l.val / 256 - 0) = _
    omega
  have hb : T.val / 1024 + 8 * (l.val / 256) < cfg0.N := lt_of_lt_of_eq (by omega) (show cfg0.N = 8 from N_0).symm
  have hT : tok ⟨T.val / 1024 + 8 * (l.val / 256), hb⟩ ⟨T.val % 1024, by omega⟩ = T := Fin.ext (by
    show 1024 * ((T.val / 1024 + 8 * (l.val / 256)) % 8) + T.val % 1024 = T.val
    omega)
  have hc : col ⟨T.val / 1024 + 8 * (l.val / 256), hb⟩ ⟨l.val % 256, by omega⟩ = ⟨4352 + l.val, by omega⟩ := Fin.ext (by
    show 4352 + 256 * ((T.val / 1024 + 8 * (l.val / 256)) / 8) + l.val % 256 = 4352 + l.val
    omega)
  have hl : loc2Of (ix2 T l) = ix2 (⟨T.val % 1024, by omega⟩ : Fin 1024) (⟨l.val % 256, by omega⟩ : Fin 256) := by
    funext a
    apply Fin.ext
    match a with
    | ⟨0, _⟩ => rfl
    | ⟨1, _⟩ => rfl
  have key := (sweep m c _ hb).2 ⟨T.val % 1024, by omega⟩ ⟨l.val % 256, by omega⟩
  rw [hT, hc, outsAt0_sweep] at key
  unfold G2
  simp only [hp, hl]
  rw [dif_pos hb]
  exact key

/-- The kernel and the reference leave the same array. -/
theorem tie : Cert.algebraic_CmpVIdeal_CmpVRefIdeal := by
  intro m ρ m' ρ' _ hagree
  refine ⟨_, Cert.CmpVIdeal.Value.run (F := Ideal) m ρ, ?_⟩
  refine (θ_run Cert.CmpVRefIdeal.defs _ _).mono (fun _ h c => ⟨?_, (h c).2⟩) (Cert.CmpVRefIdeal.Value.run (F := Ideal) m' ρ')
  rw [(h c).1]
  obtain ⟨e0, e1⟩ := hagree c
  rw [e0, e1]
  funext i
  obtain ⟨T, l, rfl⟩ : ∃ (T : Fin 8192) (l : Fin 256), i = ix2 T l := ⟨i 0, i 1, funext fun a => by
    match a with
    | ⟨0, _⟩ => rfl
    | ⟨1, _⟩ => rfl⟩
  refine Eq.trans ?_ (kernel_value m c T l).symm
  unfold rowCol
  pointwise
end Cert.CmpVProof
-- ==== Proof.SlcKProj.lean ====
module
public import proofs.«01_k».proof.Proof.Product
public import proofs.«01_k».proof.Defs
public import proofs.«01_k».proof.Proof.Gen.SlcKIdeal.Value
public import proofs.«01_k».proof.Proof.Gen.SlcKRefIdeal.Run
public import Idealize.ShloMosaic.Lib.Pipeline.Value
public import Idealize.ShloMosaic.Lib.Pointwise
public import Idealize.ShloMosaic.Lib.Tactic
@[expose] public section
set_option maxRecDepth 16384
noncomputable section

/-! # The prompt batch's keys of the selected blocks

The grid walks the token tiles inside each column tile. The first token tile of a column tile rounds the tile's weights
into the scratch buffer, and every token tile multiplies by what the buffer holds. -/
namespace Cert.SlcKProof
open Idealize.ShloMosaic Idealize.ShloMosaic.Pointwise Cert.Product Cert.SlcKIdeal Cert.SlcKIdeal.Gen Cert.SlcKIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 18 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 256) : Fin 5656 :=
  ⟨4608 + 256 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 256) : (X0_1 m c t : Vec Ideal S2048x256 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 256 + 1 * l.val = 4608 + 256 * (t.val / 8) + l.val; rw [(at1 t).2]; omega

/-! ## One grid point -/

/-- The state between grid points: the output tile and the rounded weights. -/
abbrev State (F : FTy → Type) := Vec F S1024x256 .f32 × Vec F S2048x256 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x256) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x256) _ off2, View.readAt_eq_ld, (hs0_0 t).read_unread, (hs0_1 t).read_unread,
    View.ld_unit_zero (S := S1024x2048) off2, View.ld_unit_zero (S := S2048x256) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x256) off2, shapeCast_self]

/-! ## The sweep over the token tiles -/

/-- A dot product of a row with rounded weights is the dot product with the weights. -/
theorem product (t : Fin cfg0.N) (R : Vec Ideal S2048x256 .bf16)
    (hR : ∀ (x : Fin 2048) (l : Fin 256), R (ix2 x l) = m ((c : Thread nD τ).loc main_arg1) (ix2 x (col t l))) (r : Fin 1024) (l : Fin 256) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 256) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 256), (outsAt0 m c n hn).2 (ix2 x l) = m ((c : Thread nD τ).loc main_arg1) (ix2 x (col ⟨n, hn⟩ l))) ∧
    ∀ (r : Fin 1024) (l : Fin 256), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 256), (stAt0 m c k hk acc).2 (ix2 x l) = m ((c : Thread nD τ).loc main_arg1) (ix2 x (col ⟨k, hk⟩ l))) ∧
      ∀ (r : Fin 1024) (l : Fin 256), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 256, col ⟨n, Nat.lt_of_succ_lt hn⟩ l = col ⟨n + 1, hn⟩ l := fun l => Fin.ext (by
        show 4608 + 256 * (n / 8) + l.val = 4608 + 256 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 256) :
    (G2 m c : (⟨2, ![8192, 256]⟩ : Shape).Idx → EReal) (ix2 T l) =
      rowCol (m ((c : Thread nD τ).loc main_arg0)) (m ((c : Thread nD τ).loc main_arg1)) T (⟨4608 + l.val, by omega⟩ : Fin 5656) := by
  have hp : pt2Of (ix2 T l) = T.val / 1024 + 8 * (l.val / 256) := by
    show 1 * (T.val / 1024 - 0) + 1 * (l.val / 256 - 0) = _
    omega
  have hb : T.val / 1024 + 8 * (l.val / 256) < cfg0.N := lt_of_lt_of_eq (by omega) (show cfg0.N = 8 from N_0).symm
  have hT : tok ⟨T.val / 1024 + 8 * (l.val / 256), hb⟩ ⟨T.val % 1024, by omega⟩ = T := Fin.ext (by
    show 1024 * ((T.val / 1024 + 8 * (l.val / 256)) % 8) + T.val % 1024 = T.val
    omega)
  have hc : col ⟨T.val / 1024 + 8 * (l.val / 256), hb⟩ ⟨l.val % 256, by omega⟩ = ⟨4608 + l.val, by omega⟩ := Fin.ext (by
    show 4608 + 256 * ((T.val / 1024 + 8 * (l.val / 256)) / 8) + l.val % 256 = 4608 + l.val
    omega)
  have hl : loc2Of (ix2 T l) = ix2 (⟨T.val % 1024, by omega⟩ : Fin 1024) (⟨l.val % 256, by omega⟩ : Fin 256) := by
    funext a
    apply Fin.ext
    match a with
    | ⟨0, _⟩ => rfl
    | ⟨1, _⟩ => rfl
  have key := (sweep m c _ hb).2 ⟨T.val % 1024, by omega⟩ ⟨l.val % 256, by omega⟩
  rw [hT, hc, outsAt0_sweep] at key
  unfold G2
  simp only [hp, hl]
  rw [dif_pos hb]
  exact key

/-- The kernel and the reference leave the same array. -/
theorem tie : Cert.algebraic_SlcKIdeal_SlcKRefIdeal := by
  intro m ρ m' ρ' _ hagree
  refine ⟨_, Cert.SlcKIdeal.Value.run (F := Ideal) m ρ, ?_⟩
  refine (θ_run Cert.SlcKRefIdeal.defs _ _).mono (fun _ h c => ⟨?_, (h c).2⟩) (Cert.SlcKRefIdeal.Value.run (F := Ideal) m' ρ')
  rw [(h c).1]
  obtain ⟨e0, e1⟩ := hagree c
  rw [e0, e1]
  funext i
  obtain ⟨T, l, rfl⟩ : ∃ (T : Fin 8192) (l : Fin 256), i = ix2 T l := ⟨i 0, i 1, funext fun a => by
    match a with
    | ⟨0, _⟩ => rfl
    | ⟨1, _⟩ => rfl⟩
  refine Eq.trans ?_ (kernel_value m c T l).symm
  unfold rowCol
  pointwise
end Cert.SlcKProof
-- ==== Proof.SlcVProj.lean ====
module
public import proofs.«01_k».proof.Proof.Product
public import proofs.«01_k».proof.Defs
public import proofs.«01_k».proof.Proof.Gen.SlcVIdeal.Value
public import proofs.«01_k».proof.Proof.Gen.SlcVRefIdeal.Run
public import Idealize.ShloMosaic.Lib.Pipeline.Value
public import Idealize.ShloMosaic.Lib.Pointwise
public import Idealize.ShloMosaic.Lib.Tactic
@[expose] public section
set_option maxRecDepth 16384
noncomputable section

/-! # The prompt batch's values of the selected blocks

The grid walks the token tiles inside each column tile. The first token tile of a column tile rounds the tile's weights
into the scratch buffer, and every token tile multiplies by what the buffer holds. -/
namespace Cert.SlcVProof
open Idealize.ShloMosaic Idealize.ShloMosaic.Pointwise Cert.Product Cert.SlcVIdeal Cert.SlcVIdeal.Gen Cert.SlcVIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 19 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 256) : Fin 5656 :=
  ⟨4864 + 256 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 256) : (X0_1 m c t : Vec Ideal S2048x256 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 256 + 1 * l.val = 4864 + 256 * (t.val / 8) + l.val; rw [(at1 t).2]; omega

/-! ## One grid point -/

/-- The state between grid points: the output tile and the rounded weights. -/
abbrev State (F : FTy → Type) := Vec F S1024x256 .f32 × Vec F S2048x256 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x256) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x256) _ off2, View.readAt_eq_ld, (hs0_0 t).read_unread, (hs0_1 t).read_unread,
    View.ld_unit_zero (S := S1024x2048) off2, View.ld_unit_zero (S := S2048x256) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x256) off2, shapeCast_self]

/-! ## The sweep over the token tiles -/

/-- A dot product of a row with rounded weights is the dot product with the weights. -/
theorem product (t : Fin cfg0.N) (R : Vec Ideal S2048x256 .bf16)
    (hR : ∀ (x : Fin 2048) (l : Fin 256), R (ix2 x l) = m ((c : Thread nD τ).loc main_arg1) (ix2 x (col t l))) (r : Fin 1024) (l : Fin 256) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 256) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 256), (outsAt0 m c n hn).2 (ix2 x l) = m ((c : Thread nD τ).loc main_arg1) (ix2 x (col ⟨n, hn⟩ l))) ∧
    ∀ (r : Fin 1024) (l : Fin 256), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 256), (stAt0 m c k hk acc).2 (ix2 x l) = m ((c : Thread nD τ).loc main_arg1) (ix2 x (col ⟨k, hk⟩ l))) ∧
      ∀ (r : Fin 1024) (l : Fin 256), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 256, col ⟨n, Nat.lt_of_succ_lt hn⟩ l = col ⟨n + 1, hn⟩ l := fun l => Fin.ext (by
        show 4864 + 256 * (n / 8) + l.val = 4864 + 256 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 256) :
    (G2 m c : (⟨2, ![8192, 256]⟩ : Shape).Idx → EReal) (ix2 T l) =
      rowCol (m ((c : Thread nD τ).loc main_arg0)) (m ((c : Thread nD τ).loc main_arg1)) T (⟨4864 + l.val, by omega⟩ : Fin 5656) := by
  have hp : pt2Of (ix2 T l) = T.val / 1024 + 8 * (l.val / 256) := by
    show 1 * (T.val / 1024 - 0) + 1 * (l.val / 256 - 0) = _
    omega
  have hb : T.val / 1024 + 8 * (l.val / 256) < cfg0.N := lt_of_lt_of_eq (by omega) (show cfg0.N = 8 from N_0).symm
  have hT : tok ⟨T.val / 1024 + 8 * (l.val / 256), hb⟩ ⟨T.val % 1024, by omega⟩ = T := Fin.ext (by
    show 1024 * ((T.val / 1024 + 8 * (l.val / 256)) % 8) + T.val % 1024 = T.val
    omega)
  have hc : col ⟨T.val / 1024 + 8 * (l.val / 256), hb⟩ ⟨l.val % 256, by omega⟩ = ⟨4864 + l.val, by omega⟩ := Fin.ext (by
    show 4864 + 256 * ((T.val / 1024 + 8 * (l.val / 256)) / 8) + l.val % 256 = 4864 + l.val
    omega)
  have hl : loc2Of (ix2 T l) = ix2 (⟨T.val % 1024, by omega⟩ : Fin 1024) (⟨l.val % 256, by omega⟩ : Fin 256) := by
    funext a
    apply Fin.ext
    match a with
    | ⟨0, _⟩ => rfl
    | ⟨1, _⟩ => rfl
  have key := (sweep m c _ hb).2 ⟨T.val % 1024, by omega⟩ ⟨l.val % 256, by omega⟩
  rw [hT, hc, outsAt0_sweep] at key
  unfold G2
  simp only [hp, hl]
  rw [dif_pos hb]
  exact key

/-- The kernel and the reference leave the same array. -/
theorem tie : Cert.algebraic_SlcVIdeal_SlcVRefIdeal := by
  intro m ρ m' ρ' _ hagree
  refine ⟨_, Cert.SlcVIdeal.Value.run (F := Ideal) m ρ, ?_⟩
  refine (θ_run Cert.SlcVRefIdeal.defs _ _).mono (fun _ h c => ⟨?_, (h c).2⟩) (Cert.SlcVRefIdeal.Value.run (F := Ideal) m' ρ')
  rw [(h c).1]
  obtain ⟨e0, e1⟩ := hagree c
  rw [e0, e1]
  funext i
  obtain ⟨T, l, rfl⟩ : ∃ (T : Fin 8192) (l : Fin 256), i = ix2 T l := ⟨i 0, i 1, funext fun a => by
    match a with
    | ⟨0, _⟩ => rfl
    | ⟨1, _⟩ => rfl⟩
  refine Eq.trans ?_ (kernel_value m c T l).symm
  unfold rowCol
  pointwise
end Cert.SlcVProof
-- ==== Proof.WinKProj.lean ====
module
public import proofs.«01_k».proof.Proof.Product
public import proofs.«01_k».proof.Defs
public import proofs.«01_k».proof.Proof.Gen.WinKIdeal.Value
public import proofs.«01_k».proof.Proof.Gen.WinKRefIdeal.Run
public import Idealize.ShloMosaic.Lib.Pipeline.Value
public import Idealize.ShloMosaic.Lib.Pointwise
public import Idealize.ShloMosaic.Lib.Tactic
@[expose] public section
set_option maxRecDepth 16384
noncomputable section

/-! # The prompt batch's keys of the sliding window

The grid walks the token tiles inside each column tile. The first token tile of a column tile rounds the tile's weights
into the scratch buffer, and every token tile multiplies by what the buffer holds. -/
namespace Cert.WinKProof
open Idealize.ShloMosaic Idealize.ShloMosaic.Pointwise Cert.Product Cert.WinKIdeal Cert.WinKIdeal.Gen Cert.WinKIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 20 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 256) : Fin 5656 :=
  ⟨5120 + 256 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 256) : (X0_1 m c t : Vec Ideal S2048x256 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 256 + 1 * l.val = 5120 + 256 * (t.val / 8) + l.val; rw [(at1 t).2]; omega

/-! ## One grid point -/

/-- The state between grid points: the output tile and the rounded weights. -/
abbrev State (F : FTy → Type) := Vec F S1024x256 .f32 × Vec F S2048x256 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x256) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x256) _ off2, View.readAt_eq_ld, (hs0_0 t).read_unread, (hs0_1 t).read_unread,
    View.ld_unit_zero (S := S1024x2048) off2, View.ld_unit_zero (S := S2048x256) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x256) off2, shapeCast_self]

/-! ## The sweep over the token tiles -/

/-- A dot product of a row with rounded weights is the dot product with the weights. -/
theorem product (t : Fin cfg0.N) (R : Vec Ideal S2048x256 .bf16)
    (hR : ∀ (x : Fin 2048) (l : Fin 256), R (ix2 x l) = m ((c : Thread nD τ).loc main_arg1) (ix2 x (col t l))) (r : Fin 1024) (l : Fin 256) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 256) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 256), (outsAt0 m c n hn).2 (ix2 x l) = m ((c : Thread nD τ).loc main_arg1) (ix2 x (col ⟨n, hn⟩ l))) ∧
    ∀ (r : Fin 1024) (l : Fin 256), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 256), (stAt0 m c k hk acc).2 (ix2 x l) = m ((c : Thread nD τ).loc main_arg1) (ix2 x (col ⟨k, hk⟩ l))) ∧
      ∀ (r : Fin 1024) (l : Fin 256), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 256, col ⟨n, Nat.lt_of_succ_lt hn⟩ l = col ⟨n + 1, hn⟩ l := fun l => Fin.ext (by
        show 5120 + 256 * (n / 8) + l.val = 5120 + 256 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 256) :
    (G2 m c : (⟨2, ![8192, 256]⟩ : Shape).Idx → EReal) (ix2 T l) =
      rowCol (m ((c : Thread nD τ).loc main_arg0)) (m ((c : Thread nD τ).loc main_arg1)) T (⟨5120 + l.val, by omega⟩ : Fin 5656) := by
  have hp : pt2Of (ix2 T l) = T.val / 1024 + 8 * (l.val / 256) := by
    show 1 * (T.val / 1024 - 0) + 1 * (l.val / 256 - 0) = _
    omega
  have hb : T.val / 1024 + 8 * (l.val / 256) < cfg0.N := lt_of_lt_of_eq (by omega) (show cfg0.N = 8 from N_0).symm
  have hT : tok ⟨T.val / 1024 + 8 * (l.val / 256), hb⟩ ⟨T.val % 1024, by omega⟩ = T := Fin.ext (by
    show 1024 * ((T.val / 1024 + 8 * (l.val / 256)) % 8) + T.val % 1024 = T.val
    omega)
  have hc : col ⟨T.val / 1024 + 8 * (l.val / 256), hb⟩ ⟨l.val % 256, by omega⟩ = ⟨5120 + l.val, by omega⟩ := Fin.ext (by
    show 5120 + 256 * ((T.val / 1024 + 8 * (l.val / 256)) / 8) + l.val % 256 = 5120 + l.val
    omega)
  have hl : loc2Of (ix2 T l) = ix2 (⟨T.val % 1024, by omega⟩ : Fin 1024) (⟨l.val % 256, by omega⟩ : Fin 256) := by
    funext a
    apply Fin.ext
    match a with
    | ⟨0, _⟩ => rfl
    | ⟨1, _⟩ => rfl
  have key := (sweep m c _ hb).2 ⟨T.val % 1024, by omega⟩ ⟨l.val % 256, by omega⟩
  rw [hT, hc, outsAt0_sweep] at key
  unfold G2
  simp only [hp, hl]
  rw [dif_pos hb]
  exact key

/-- The kernel and the reference leave the same array. -/
theorem tie : Cert.algebraic_WinKIdeal_WinKRefIdeal := by
  intro m ρ m' ρ' _ hagree
  refine ⟨_, Cert.WinKIdeal.Value.run (F := Ideal) m ρ, ?_⟩
  refine (θ_run Cert.WinKRefIdeal.defs _ _).mono (fun _ h c => ⟨?_, (h c).2⟩) (Cert.WinKRefIdeal.Value.run (F := Ideal) m' ρ')
  rw [(h c).1]
  obtain ⟨e0, e1⟩ := hagree c
  rw [e0, e1]
  funext i
  obtain ⟨T, l, rfl⟩ : ∃ (T : Fin 8192) (l : Fin 256), i = ix2 T l := ⟨i 0, i 1, funext fun a => by
    match a with
    | ⟨0, _⟩ => rfl
    | ⟨1, _⟩ => rfl⟩
  refine Eq.trans ?_ (kernel_value m c T l).symm
  unfold rowCol
  pointwise
end Cert.WinKProof
-- ==== Proof.WinVProj.lean ====
module
public import proofs.«01_k».proof.Proof.Product
public import proofs.«01_k».proof.Defs
public import proofs.«01_k».proof.Proof.Gen.WinVIdeal.Value
public import proofs.«01_k».proof.Proof.Gen.WinVRefIdeal.Run
public import Idealize.ShloMosaic.Lib.Pipeline.Value
public import Idealize.ShloMosaic.Lib.Pointwise
public import Idealize.ShloMosaic.Lib.Tactic
@[expose] public section
set_option maxRecDepth 16384
noncomputable section

/-! # The prompt batch's values of the sliding window

The grid walks the token tiles inside each column tile. The first token tile of a column tile rounds the tile's weights
into the scratch buffer, and every token tile multiplies by what the buffer holds. -/
namespace Cert.WinVProof
open Idealize.ShloMosaic Idealize.ShloMosaic.Pointwise Cert.Product Cert.WinVIdeal Cert.WinVIdeal.Gen Cert.WinVIdeal.Value Idealize.ShloMosaic.TcCoe Idealize.SL.Sem

/-! ## The blocks of a grid point -/

theorem at0 : ∀ t : Fin cfg0.N, win0_0.index t 0 = t.val % 8 ∧ win0_0.index t 1 = 0 := by decide +kernel
theorem at1 : ∀ t : Fin cfg0.N, win0_1.index t 0 = 0 ∧ win0_1.index t 1 = 21 + t.val / 8 := by decide +kernel

/-- The token that row `r` of point `t`'s tile holds. -/
def tok (t : Fin cfg0.N) (r : Fin 1024) : Fin 8192 :=
  ⟨1024 * (t.val % 8) + r.val, by have := lt_of_lt_of_eq t.isLt (show cfg0.N = 8 from N_0); omega⟩
/-- The weight column that lane `l` of point `t`'s column tile holds. -/
def col (t : Fin cfg0.N) (l : Fin 256) : Fin 5656 :=
  ⟨5376 + 256 * (t.val / 8) + l.val, by have := lt_of_lt_of_eq t.isLt (show cfg0.N = 8 from N_0); omega⟩

variable (m : (ℓ : Loc nD τ sig) → Buf (Elt Ideal) ℓ) (c : Dev nD)

theorem block0 (t : Fin cfg0.N) (r : Fin 1024) (x : Fin 2048) : (iblk m c 0 t : Vec Ideal S1024x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(at0 t).1]; omega
  | ⟨1, _⟩ => show win0_0.index t 1 * 2048 + 1 * x.val = x.val; rw [(at0 t).2]; omega

theorem block1 (t : Fin cfg0.N) (x : Fin 2048) (l : Fin 256) : (X0_1 m c t : Vec Ideal S2048x256 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 256 + 1 * l.val = 5376 + 256 * (t.val / 8) + l.val; rw [(at1 t).2]; omega

/-! ## One grid point -/

/-- The state between grid points: the output tile and the rounded weights. -/
abbrev State (F : FTy → Type) := Vec F S1024x256 .f32 × Vec F S2048x256 .bf16

/-- The first token tile rounds its column tile's weights. -/
theorem first_weights (t : Fin cfg0.N) (acc : State Ideal) (h0 : t.val % 8 = 0) :
    (stAt0 m c t.val t.isLt acc).2 = k0_pay1 (X0_1 m c t) := by
  rw [stAt0_A m c t acc h0]
  dsimp only
  unfold sout0_A_0
  rw [View.read_writes_eq_canon _ _ _ (fun y => scover0_A_0 (y := y) ..)]
  unfold kernelRun0_A
  dsimp only
  sl_unfold_words
  rw [View.canon_unit_zero off2]
  simp only [View.readAt_eq_ld, (hs0_1 t).read_unread, View.ld_unit_zero (S := S2048x256) off2, shapeCast_self]

/-- The first token tile multiplies by the weights it rounded. -/
theorem first_out (t : Fin cfg0.N) (acc : State Ideal) (h0 : t.val % 8 = 0) :
    (stAt0 m c t.val t.isLt acc).1 = k0_pay2 (iblk m c 0 t) (k0_pay1 (X0_1 m c t)) := by
  rw [stAt0_A m c t acc h0]
  dsimp only
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x256) _ off2, View.readAt_eq_ld, (hs0_0 t).read_unread, (hs0_1 t).read_unread,
    View.ld_unit_zero (S := S1024x2048) off2, View.ld_unit_zero (S := S2048x256) off2, shapeCast_self]

/-- A later token tile keeps the rounded weights. -/
theorem later_weights (t : Fin cfg0.N) (acc : State Ideal) (h0 : ¬t.val % 8 = 0) :
    (stAt0 m c t.val t.isLt acc).2 = acc.2 := by
  rw [stAt0_B m c t acc h0]
  rfl

/-- A later token tile multiplies by the weights it finds. -/
theorem later_out (t : Fin cfg0.N) (acc : State Ideal) (h0 : ¬t.val % 8 = 0) :
    (stAt0 m c t.val t.isLt acc).1 = k0_pay2 (iblk m c 0 t) acc.2 := by
  rw [stAt0_B m c t acc h0]
  dsimp only
  unfold out0_B_2
  rw [View.read_writes_eq_canon _ _ _ (fun y => cover0_B_2 (y := y) ..)]
  unfold kernelRun0_B
  dsimp only
  sl_unfold_words
  rw [View.canon_unit_zero off2]
  simp only [View.readAt_eq_ld, (hs0_0 t).read_unread, (Memref.isWhole_whole _).read_unread,
    View.ld_unit_zero (S := S1024x2048) off2, View.ld_unit_zero (S := S2048x256) off2, shapeCast_self]

/-! ## The sweep over the token tiles -/

/-- A dot product of a row with rounded weights is the dot product with the weights. -/
theorem product (t : Fin cfg0.N) (R : Vec Ideal S2048x256 .bf16)
    (hR : ∀ (x : Fin 2048) (l : Fin 256), R (ix2 x l) = m ((c : Thread nD τ).loc main_arg1) (ix2 x (col t l))) (r : Fin 1024) (l : Fin 256) :
    k0_pay2 (iblk m c 0 t) R (ix2 r l) =
      rowCol (m ((c : Thread nD τ).loc main_arg0)) (m ((c : Thread nD τ).loc main_arg1)) (tok t r) (col t l) := by
  pointwise [k0_pay2]
  unfold rowCol
  simp only [hR, block0]

theorem rounded (t : Fin cfg0.N) (x : Fin 2048) (l : Fin 256) :
    k0_pay1 (X0_1 m c t) (ix2 x l) = m ((c : Thread nD τ).loc main_arg1) (ix2 x (col t l)) := by
  pointwise [k0_pay1]
  exact block1 m c t x l

/-- After point `n` the scratch buffer holds its column tile's weights and the output tile their products. -/
theorem sweep (n : Nat) : ∀ (hn : n < cfg0.N),
    (∀ (x : Fin 2048) (l : Fin 256), (outsAt0 m c n hn).2 (ix2 x l) = m ((c : Thread nD τ).loc main_arg1) (ix2 x (col ⟨n, hn⟩ l))) ∧
    ∀ (r : Fin 1024) (l : Fin 256), (outsAt0 m c n hn).1 (ix2 r l) =
      rowCol (m ((c : Thread nD τ).loc main_arg0)) (m ((c : Thread nD τ).loc main_arg1)) (tok ⟨n, hn⟩ r) (col ⟨n, hn⟩ l) := by
  have start : ∀ (k : Nat) (hk : k < cfg0.N) (acc : State Ideal), k % 8 = 0 →
      (∀ (x : Fin 2048) (l : Fin 256), (stAt0 m c k hk acc).2 (ix2 x l) = m ((c : Thread nD τ).loc main_arg1) (ix2 x (col ⟨k, hk⟩ l))) ∧
      ∀ (r : Fin 1024) (l : Fin 256), (stAt0 m c k hk acc).1 (ix2 r l) =
      rowCol (m ((c : Thread nD τ).loc main_arg0)) (m ((c : Thread nD τ).loc main_arg1)) (tok ⟨k, hk⟩ r) (col ⟨k, hk⟩ l) :=
    fun k hk acc h0 => by
      refine ⟨fun x l => ?_, fun r l => ?_⟩
      · rw [first_weights m c ⟨k, hk⟩ acc h0]
        exact rounded m c ⟨k, hk⟩ x l
      · rw [first_out m c ⟨k, hk⟩ acc h0]
        exact product m c ⟨k, hk⟩ _ (rounded m c ⟨k, hk⟩) r l
  induction n with
  | zero =>
    intro hn
    rw [outsAt0_zero]
    exact start 0 hn _ rfl
  | succ n ih =>
    intro hn
    rw [outsAt0_succ]
    by_cases h0 : (n + 1) % 8 = 0
    · exact start (n + 1) hn _ h0
    · obtain ⟨hR, -⟩ := ih (Nat.lt_of_succ_lt hn)
      have hcol : ∀ l : Fin 256, col ⟨n, Nat.lt_of_succ_lt hn⟩ l = col ⟨n + 1, hn⟩ l := fun l => Fin.ext (by
        show 5376 + 256 * (n / 8) + l.val = 5376 + 256 * ((n + 1) / 8) + l.val
        have : (n + 1) / 8 = n / 8 := by omega
        rw [this])
      simp only [hcol] at hR
      refine ⟨fun x l => ?_, fun r l => ?_⟩
      · rw [later_weights m c ⟨n + 1, hn⟩ _ h0]
        exact hR x l
      · rw [later_out m c ⟨n + 1, hn⟩ _ h0]
        exact product m c ⟨n + 1, hn⟩ _ hR r l

/-- The kernel's result array holds the products. -/
theorem kernel_value (T : Fin 8192) (l : Fin 256) :
    (G2 m c : (⟨2, ![8192, 256]⟩ : Shape).Idx → EReal) (ix2 T l) =
      rowCol (m ((c : Thread nD τ).loc main_arg0)) (m ((c : Thread nD τ).loc main_arg1)) T (⟨5376 + l.val, by omega⟩ : Fin 5656) := by
  have hp : pt2Of (ix2 T l) = T.val / 1024 + 8 * (l.val / 256) := by
    show 1 * (T.val / 1024 - 0) + 1 * (l.val / 256 - 0) = _
    omega
  have hb : T.val / 1024 + 8 * (l.val / 256) < cfg0.N := lt_of_lt_of_eq (by omega) (show cfg0.N = 8 from N_0).symm
  have hT : tok ⟨T.val / 1024 + 8 * (l.val / 256), hb⟩ ⟨T.val % 1024, by omega⟩ = T := Fin.ext (by
    show 1024 * ((T.val / 1024 + 8 * (l.val / 256)) % 8) + T.val % 1024 = T.val
    omega)
  have hc : col ⟨T.val / 1024 + 8 * (l.val / 256), hb⟩ ⟨l.val % 256, by omega⟩ = ⟨5376 + l.val, by omega⟩ := Fin.ext (by
    show 5376 + 256 * ((T.val / 1024 + 8 * (l.val / 256)) / 8) + l.val % 256 = 5376 + l.val
    omega)
  have hl : loc2Of (ix2 T l) = ix2 (⟨T.val % 1024, by omega⟩ : Fin 1024) (⟨l.val % 256, by omega⟩ : Fin 256) := by
    funext a
    apply Fin.ext
    match a with
    | ⟨0, _⟩ => rfl
    | ⟨1, _⟩ => rfl
  have key := (sweep m c _ hb).2 ⟨T.val % 1024, by omega⟩ ⟨l.val % 256, by omega⟩
  rw [hT, hc, outsAt0_sweep] at key
  unfold G2
  simp only [hp, hl]
  rw [dif_pos hb]
  exact key

/-- The kernel and the reference leave the same array. -/
theorem tie : Cert.algebraic_WinVIdeal_WinVRefIdeal := by
  intro m ρ m' ρ' _ hagree
  refine ⟨_, Cert.WinVIdeal.Value.run (F := Ideal) m ρ, ?_⟩
  refine (θ_run Cert.WinVRefIdeal.defs _ _).mono (fun _ h c => ⟨?_, (h c).2⟩) (Cert.WinVRefIdeal.Value.run (F := Ideal) m' ρ')
  rw [(h c).1]
  obtain ⟨e0, e1⟩ := hagree c
  rw [e0, e1]
  funext i
  obtain ⟨T, l, rfl⟩ : ∃ (T : Fin 8192) (l : Fin 256), i = ix2 T l := ⟨i 0, i 1, funext fun a => by
    match a with
    | ⟨0, _⟩ => rfl
    | ⟨1, _⟩ => rfl⟩
  refine Eq.trans ?_ (kernel_value m c T l).symm
  unfold rowCol
  pointwise
end Cert.WinVProof
-- ==== Proof.EvenSampleProj.lean ====
module
public import proofs.«01_k».proof.Proof.Product
public import proofs.«01_k».proof.Defs
public import proofs.«01_k».proof.Proof.Gen.EvenSampleIdeal.Value
public import proofs.«01_k».proof.Proof.Gen.EvenSampleRefIdeal.Run
public import Idealize.ShloMosaic.Lib.Pipeline.Value
public import Idealize.ShloMosaic.Lib.Pointwise
public import Idealize.ShloMosaic.Lib.Tactic
@[expose] public section
set_option maxRecDepth 16384
noncomputable section

/-! # The projections of the sample batch's differential and sparse attention

All tokens are one tile, so each grid point rounds its own column tile's weights and multiplies by them. -/
namespace Cert.EvenSampleProof
open Idealize.ShloMosaic Idealize.ShloMosaic.Pointwise Cert.Product Cert.EvenSampleIdeal Cert.EvenSampleIdeal.Gen Cert.EvenSampleIdeal.Value Idealize.ShloMosaic.TcCoe Idealize.SL.Sem

/-! ## The blocks of a grid point -/

theorem at0 : ∀ t : Fin cfg0.N, win0_0.index t 0 = t.val % 1 ∧ win0_0.index t 1 = 0 := by decide +kernel
theorem at1 : ∀ t : Fin cfg0.N, win0_1.index t 0 = 0 ∧ win0_1.index t 1 = 0 + t.val / 1 := by decide +kernel

/-- The token that row `r` of point `t`'s tile holds. -/
def tok (t : Fin cfg0.N) (r : Fin 512) : Fin 512 :=
  ⟨512 * (t.val % 1) + r.val, by have := lt_of_lt_of_eq t.isLt (show cfg0.N = 11 from N_0); omega⟩
/-- The weight column that lane `l` of point `t`'s column tile holds. -/
def col (t : Fin cfg0.N) (l : Fin 512) : Fin 5656 :=
  ⟨0 + 512 * (t.val / 1) + l.val, by have := lt_of_lt_of_eq t.isLt (show cfg0.N = 11 from N_0); omega⟩

variable (m : (ℓ : Loc nD τ sig) → Buf (Elt Ideal) ℓ) (c : Dev nD)

theorem block0 (t : Fin cfg0.N) (r : Fin 512) (x : Fin 2048) : (iblk m c 0 t : Vec Ideal S512x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val % 1) + r.val; rw [(at0 t).1]; omega
  | ⟨1, _⟩ => show win0_0.index t 1 * 2048 + 1 * x.val = x.val; rw [(at0 t).2]; omega

theorem block1 (t : Fin cfg0.N) (x : Fin 2048) (l : Fin 512) : (X0_1 m c t : Vec Ideal S2048x512 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 512 + 1 * l.val = 0 + 512 * (t.val / 1) + l.val; rw [(at1 t).2]; omega

/-! ## One grid point -/

/-- A grid point rounds its column tile's weights and multiplies by them. -/
theorem point_out (t : Fin cfg0.N) :
    out0_A_2 c (grid0.coords t) (ms0_0 t) (hs0_0 t) (ms0_1 t) (hs0_1 t) (ms0_2 t) (hs0_2 t) scM0_0 (Memref.isWhole_whole _) (hcond0_0 t)
      (iblk m c 0 t) (X0_1 m c t) = k0_pay2 (iblk m c 0 t) (k0_pay1 (X0_1 m c t)) := by
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x512) _ off2, View.readAt_eq_ld, (hs0_0 t).read_unread, (hs0_1 t).read_unread,
    View.ld_unit_zero (S := S512x2048) off2, View.ld_unit_zero (S := S2048x512) off2, shapeCast_self]

/-- At Ideal that is the product with the weights themselves. -/
theorem point_product (t : Fin cfg0.N) (r : Fin 512) (l : Fin 512) :
    k0_pay2 (iblk m c 0 t) (k0_pay1 (X0_1 m c t)) (ix2 r l) =
      rowCol (m ((c : Thread nD τ).loc main_arg0)) (m ((c : Thread nD τ).loc main_arg1)) (tok t r) (col t l) := by
  have hR : ∀ (x : Fin 2048) (y : Fin 512), k0_pay1 (X0_1 m c t) (ix2 x y) = m ((c : Thread nD τ).loc main_arg1) (ix2 x (col t y)) := fun x y => by
    pointwise [k0_pay1]
    exact block1 m c t x y
  generalize k0_pay1 (X0_1 m c t) = R at hR ⊢
  pointwise [k0_pay2]
  unfold rowCol
  simp only [hR, block0]

theorem at2 : ∀ t : Fin cfg0.N, win0_2.index t 0 = 0 ∧ win0_2.index t 1 = t.val := by decide +kernel

/-- The kernel's result array holds the products. -/
theorem kernel_value (T : Fin 512) (l : Fin 5632) :
    ((dats m 0 c).arrAt 2 cfg0.N : (⟨2, ![512, 5632]⟩ : Shape).Idx → EReal) (ix2 T l) =
      rowCol (m ((c : Thread nD τ).loc main_arg0)) (m ((c : Thread nD τ).loc main_arg1)) T (⟨0 + l.val, by omega⟩ : Fin 5656) := by
  have hb : l.val / 512 < cfg0.N := lt_of_lt_of_eq (by omega) (show cfg0.N = 11 from N_0).symm
  have hT : tok ⟨l.val / 512, hb⟩ T = T := Fin.ext (by
    show 512 * ((l.val / 512) % 1) + T.val = T.val
    omega)
  have hc : col ⟨l.val / 512, hb⟩ ⟨l.val % 512, by omega⟩ = ⟨0 + l.val, by omega⟩ := Fin.ext (by
    show 0 + 512 * ((l.val / 512) / 1) + l.val % 512 = 0 + l.val
    omega)
  have key := congrFun (blocks2 m c ⟨l.val / 512, hb⟩ (flush0_2 _)) (ix2 T (⟨l.val % 512, by omega⟩ : Fin 512))
  rw [View.read_apply, flushed2_A, point_out] at key
  have he : ((cfg0.win 2).blk ⟨l.val / 512, hb⟩).view.emb (ix2 T (⟨l.val % 512, by omega⟩ : Fin 512)) = ix2 T l := by
    funext a
    apply Fin.ext
    match a with
    | ⟨0, _⟩ => show win0_2.index ⟨l.val / 512, hb⟩ 0 * 512 + 1 * T.val = T.val; rw [(at2 _).1]; omega
    | ⟨1, _⟩ => show win0_2.index ⟨l.val / 512, hb⟩ 1 * 512 + 1 * (l.val % 512) = l.val; rw [(at2 _).2]; show l.val / 512 * 512 + _ = _; omega
  rw [he] at key
  refine key.trans ?_
  refine Eq.trans ?_ ((point_product m c ⟨l.val / 512, hb⟩ T ⟨l.val % 512, by omega⟩).trans (by rw [hT, hc]))
  rfl

/-- The kernel and the reference leave the same array. -/
theorem tie : Cert.algebraic_EvenSampleIdeal_EvenSampleRefIdeal := by
  intro m ρ m' ρ' _ hagree
  refine ⟨_, Cert.EvenSampleIdeal.Value.run_blocks (F := Ideal) m ρ, ?_⟩
  refine (θ_run Cert.EvenSampleRefIdeal.defs _ _).mono (fun _ h c => ⟨?_, (h c).2⟩) (Cert.EvenSampleRefIdeal.Value.run (F := Ideal) m' ρ')
  rw [(h c).1]
  obtain ⟨e0, e1⟩ := hagree c
  rw [e0, e1]
  funext i
  obtain ⟨T, l, rfl⟩ : ∃ (T : Fin 512) (l : Fin 5632), i = ix2 T l := ⟨i 0, i 1, funext fun a => by
    match a with
    | ⟨0, _⟩ => rfl
    | ⟨1, _⟩ => rfl⟩
  refine Eq.trans ?_ (kernel_value m c T l).symm
  unfold rowCol
  pointwise
end Cert.EvenSampleProof
-- ==== Proof.OutSpec.lean ====
module
public import proofs.«01_k».proof.Proof.RefSide
@[expose] public section
noncomputable section

/-! # An output projection with its residual, row by row -/
namespace Cert.OutProj
open Idealize.ShloMosaic Idealize.ShloMosaic.Pointwise

/-- Offsets written out as zeros. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- A sum over 2048 terms is the sum over its first 1024 and its last 1024. -/
theorem halves (f : Fin 2048 → EReal) :
    ∑ y, f y = ∑ y : Fin 1024, f ⟨y.val, by omega⟩ + ∑ y : Fin 1024, f ⟨1024 + y.val, by omega⟩ :=
  Fin.sum_univ_add (a := 1024) (b := 1024) f

/-- One token's row before the norm: the scaled residual `x` plus the gated product of the token's halves `a`, `b`. -/
def blend (a b : Fin 1024 → EReal) (w : Fin 2048 → Fin 2048 → EReal) (x gate : Fin 2048 → EReal) (l : Fin 2048) : EReal :=
  Ideal.ofBits .f32 1068827891#32 * x l + (1 + gate l) *
    (∑ y : Fin 1024, a y * w ⟨y.val, by omega⟩ l + ∑ y : Fin 1024, b y * w ⟨1024 + y.val, by omega⟩ l)

/-- The same row when the two halves lie in one array. -/
theorem blend_whole (a : Fin 2048 → EReal) (w : Fin 2048 → Fin 2048 → EReal) (x gate : Fin 2048 → EReal) (l : Fin 2048) :
    blend (fun y => a ⟨y.val, by omega⟩) (fun y => a ⟨1024 + y.val, by omega⟩) w x gate l =
      Ideal.ofBits .f32 1068827891#32 * x l + (1 + gate l) * ∑ y, a y * w y l := by
  rw [halves]
  rfl

/-- A one-row block covering a packed vector holds the vector. -/
theorem row_index (f : (⟨2, ![1, 2048]⟩ : Shape).Idx → EReal) (i : Fin 2 → Nat) (x : Fin 2048) (h0 : i 0 = 0) (h1 : i 1 = 0)
    (j : (⟨2, ![1, 2048]⟩ : Shape).Idx)
    (hj : ∀ a, (j a).val = i a * (⟨2, ![1, 2048]⟩ : Shape).size a + 1 * ((ix2 (0 : Fin 1) x : (⟨2, ![1, 2048]⟩ : Shape).Idx) a).val) :
    f j = f (ix2 0 x) := by
  congr 1
  funext a
  apply Fin.ext
  rw [hj a]
  match a with
  | ⟨0, _⟩ => show i 0 * 1 + 1 * 0 = 0; rw [h0]
  | ⟨1, _⟩ => show i 1 * 2048 + 1 * x.val = x.val; rw [h1]; omega
end Cert.OutProj
-- ==== Proof.EvenOutProj.lean ====
module
public import proofs.«01_k».proof.Proof.OutSpec
public import proofs.«01_k».proof.Defs
public import proofs.«01_k».proof.Proof.Gen.EvenOutIdeal.Value
public import proofs.«01_k».proof.Proof.Gen.EvenOutRefIdeal.Run
public import proofs.«01_k».proof.Proof.Gen.EvenOutRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The output projection of the even layer with its post-norm, prompt batch

Each grid point multiplies one tile of tokens by the whole weight, its upper half and its lower half one after the other,
adds the residual and norms the rows. -/

/-! ## The reference -/
namespace Cert.EvenOutProof.Ref
open Idealize.ShloMosaic Idealize.ShloMosaic.Pointwise Cert.MoE Cert.OutProj Cert.EvenOutRefIdeal Cert.EvenOutRefIdeal.Read

variable (oa ob : (⟨S8192x1024, .bf16⟩ : BufTy).Contents (Elt Ideal)) (w : (⟨S2048x2048, .bf16⟩ : BufTy).Contents (Elt Ideal)) (x : (⟨S8192x2048, .f32⟩ : BufTy).Contents (Elt Ideal))
  (gate : (⟨S4x1x2048, .f32⟩ : BufTy).Contents (Elt Ideal)) (g b : (⟨S2048, .f32⟩ : BufTy).Contents (Elt Ideal))

/-- The row of token `T` before the norm. -/
def before (T : Fin 8192) : Fin 2048 → EReal :=
  blend (fun y => oa (ix2 T y)) (fun y => ob (ix2 T y)) (fun y l => w (ix2 y l)) (fun l => x (ix2 T l)) (fun l => gate (ix3 (⟨T.val / 2048, by omega⟩ : Fin 4) 0 l))

/-- The joined rows: the first half, then the second. -/
theorem joined_low (T : Fin 8192) (y : Fin 1024) : val_main_v0 oa ob (ix2 T (⟨y.val, by omega⟩ : Fin 2048)) = oa (ix2 T y) := by
  pointwise [val_main_v0]

theorem joined_high (T : Fin 8192) (y : Fin 1024) : val_main_v0 oa ob (ix2 T (⟨1024 + y.val, by omega⟩ : Fin 2048)) = ob (ix2 T y) := by
  pointwise [val_main_v0]

theorem residual (i : Fin 4) (s : Fin 2048) (l : Fin 2048) : val_main_v12 oa ob w x gate (ix3 i s l) = before oa ob w x gate (token i s) l := by
  have hi : (⟨(token i s).val / 2048, by omega⟩ : Fin 4) = i := Fin.ext (by
    show (i.val * 2048 + s.val) / 2048 = i.val
    omega)
  have e : before oa ob w x gate (token i s) l = blend (fun y => val_main_v0 oa ob (ix2 (token i s) (⟨y.val, by omega⟩ : Fin 2048))) (fun y => val_main_v0 oa ob (ix2 (token i s) (⟨1024 + y.val, by omega⟩ : Fin 2048)))
      (fun y l => w (ix2 y l)) (fun l => x (ix2 (token i s) l)) (fun l => gate (ix3 i 0 l)) l := by
    unfold before
    simp only [hi, joined_low, joined_high]
  rw [e, blend_whole (fun y => val_main_v0 oa ob (ix2 (token i s) y))]
  pointwise [val_main_v12, val_main_v11, val_main_v10, val_main_v9, val_main_v8, val_main_v7, val_main_v6, val_main_v5, val_main_v4, val_main_v3, val_main_v2, val_main_v1, val_main_cst, val_main_cst_0]
  rfl

theorem value (T : Fin 8192) (l : Fin 2048) : val_main_v35 oa ob w x gate g b (ix2 T l) = layerNorm (before oa ob w x gate T) g b l := by
  have hT : token ⟨T.val / 2048, by omega⟩ ⟨T.val % 2048, by omega⟩ = T := Fin.ext (by
    show T.val / 2048 * 2048 + T.val % 2048 = T.val
    omega)
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst_1, val_main_cst_2, val_main_cst_3, val_main_cst_4, val_main_cst_5]
  simp only [residual, hT]
  rfl
end Cert.EvenOutProof.Ref

/-! ## The kernel -/
namespace Cert.EvenOutProof
open Idealize.ShloMosaic Idealize.ShloMosaic.Pointwise Cert.MoE Cert.OutProj Cert.EvenOutIdeal Cert.EvenOutIdeal.Gen Cert.EvenOutIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val / 8 ∧ win0_4.index t 1 = 0 ∧ win0_4.index t 2 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = t.val ∧ win0_7.index t 1 = 0 := by decide +kernel

/-- The token that row `r` of point `t`'s tile holds. -/
def tok (t : Fin cfg0.N) (r : Fin 256) : Fin 8192 :=
  ⟨256 * t.val + r.val, by have := lt_of_lt_of_eq t.isLt (show cfg0.N = 32 from N_0); omega⟩

variable (m : (ℓ : Loc nD τ sig) → Buf (Elt Ideal) ℓ) (c : Dev nD)

theorem block0 (t : Fin cfg0.N) (r : Fin 256) (l : Fin 1024) : (iblk m c 0 t : Vec Ideal S256x1024 .bf16) (ix2 r l) =
    m ((c : Thread nD τ).loc main_arg0) (ix2 (tok t r) l) := by
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [(at0 t).1]; omega
  | ⟨1, _⟩ => show win0_0.index t 1 * 1024 + 1 * l.val = l.val; rw [(at0 t).2]; omega

theorem block1 (t : Fin cfg0.N) (r : Fin 256) (l : Fin 1024) : (iblk m c 1 t : Vec Ideal S256x1024 .bf16) (ix2 r l) =
    m ((c : Thread nD τ).loc main_arg1) (ix2 (tok t r) l) := by
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [(at1 t).1]; omega
  | ⟨1, _⟩ => show win0_1.index t 1 * 1024 + 1 * l.val = l.val; rw [(at1 t).2]; omega

theorem block2 (t : Fin cfg0.N) (r : Fin 2048) (l : Fin 2048) : (iblk m c 2 t : Vec Ideal S2048x2048 .bf16) (ix2 r l) =
    m ((c : Thread nD τ).loc main_arg2) (ix2 r l) := by
  unfold iblk
  rw [View.read_apply]
  show V m c main_arg2 _ = _
  rw [V_main_arg2]
  congr 1
  funext a
  apply Fin.ext
  match a with
  | ⟨0, _⟩ => show win0_2.index t 0 * 2048 + 1 * r.val = r.val; rw [(at2 t).1]; omega
  | ⟨1, _⟩ => show win0_2.index t 1 * 2048 + 1 * l.val = l.val; rw [(at2 t).2]; omega

theorem block3 (t : Fin cfg0.N) (r : Fin 256) (l : Fin 2048) : (iblk m c 3 t : Vec Ideal S256x2048 .f32) (ix2 r l) =
    m ((c : Thread nD τ).loc main_arg3) (ix2 (tok t r) l) := by
  unfold iblk
  rw [View.read_apply]
  show V m c main_arg3 _ = _
  rw [V_main_arg3]
  congr 1
  funext a
  apply Fin.ext
  match a with
  | ⟨0, _⟩ => show win0_3.index t 0 * 256 + 1 * r.val = 256 * t.val + r.val; rw [(at3 t).1]; omega
  | ⟨1, _⟩ => show win0_3.index t 1 * 2048 + 1 * l.val = l.val; rw [(at3 t).2]; omega

/-- The gate row of the tile's sequence: the same for every row `r`. -/
theorem block4 (t : Fin cfg0.N) (l : Fin 2048) : (iblk m c 4 t : Vec Ideal S1x1x2048 .f32) (ix3 0 0 l) =
    m ((c : Thread nD τ).loc main_arg4) (ix3 (⟨t.val / 8, by have := lt_of_lt_of_eq t.isLt (show cfg0.N = 32 from N_0); omega⟩ : Fin 4) 0 l) := by
  unfold iblk
  rw [View.read_apply]
  show V m c main_arg4 _ = _
  rw [V_main_arg4]
  congr 1
  funext a
  apply Fin.ext
  match a with
  | ⟨0, _⟩ => show win0_4.index t 0 * 1 + 1 * 0 = t.val / 8; rw [(at4 t).1]; omega
  | ⟨1, _⟩ => show win0_4.index t 1 * 1 + 1 * 0 = 0; rw [(at4 t).2.1]
  | ⟨2, _⟩ => show win0_4.index t 2 * 2048 + 1 * l.val = l.val; rw [(at4 t).2.2]; omega

theorem block5 (t : Fin cfg0.N) (l : Fin 2048) : (iblk m c 5 t : Vec Ideal S1x2048 .f32) (ix2 0 l) =
    m ((c : Thread nD τ).loc main_arg5) (ix1 l) := by
  unfold iblk
  rw [View.read_apply]
  refine (row_index (V m c main_v0) (win0_5.index t) l (at5 t).1 (at5 t).2 _ fun a => ?_).trans ?_
  · match a with
    | ⟨0, _⟩ => rfl
    | ⟨1, _⟩ => rfl
  · unfold V hostOps0
    after_reads_simp
    pointwise

theorem block6 (t : Fin cfg0.N) (l : Fin 2048) : (iblk m c 6 t : Vec Ideal S1x2048 .f32) (ix2 0 l) =
    m ((c : Thread nD τ).loc main_arg6) (ix1 l) := by
  unfold iblk
  rw [View.read_apply]
  refine (row_index (V m c main_v1) (win0_6.index t) l (at6 t).1 (at6 t).2 _ fun a => ?_).trans ?_
  · match a with
    | ⟨0, _⟩ => rfl
    | ⟨1, _⟩ => rfl
  · unfold V hostOps0
    after_reads_simp
    pointwise

/-- The row of token `T` before the norm. -/
def before (T : Fin 8192) : Fin 2048 → EReal :=
  Ref.before (m ((c : Thread nD τ).loc main_arg0)) (m ((c : Thread nD τ).loc main_arg1)) (m ((c : Thread nD τ).loc main_arg2)) (m ((c : Thread nD τ).loc main_arg3)) (m ((c : Thread nD τ).loc main_arg4)) T

/-- One grid point's centred rows. -/
theorem centred (t : Fin cfg0.N) (U W : Vec Ideal S1024x2048 .bf16)
    (hU : ∀ y l, U (ix2 y l) = m ((c : Thread nD τ).loc main_arg2) (ix2 (⟨y.val, by omega⟩ : Fin 2048) l))
    (hW : ∀ y l, W (ix2 y l) = m ((c : Thread nD τ).loc main_arg2) (ix2 (⟨1024 + y.val, by omega⟩ : Fin 2048) l))
    (r : Fin 256) (l : Fin 2048) :
    k0_pay4 (iblk m c 0 t) U (iblk m c 1 t) W (iblk m c 3 t) (iblk m c 4 t) (ix2 r l) =
      before m c (tok t r) l - mean (before m c (tok t r)) := by
  have hi : (⟨(tok t r).val / 2048, by omega⟩ : Fin 4) = ⟨t.val / 8, by have := lt_of_lt_of_eq t.isLt (show cfg0.N = 32 from N_0); omega⟩ := Fin.ext (by
    show (256 * t.val + r.val) / 2048 = t.val / 8
    omega)
  have hg := block4 m c t
  rw [← hi] at hg
  pointwise [k0_pay4]
  simp only [hU, hW, block0, block1, block3, hg]
  rfl

/-- One grid point's tile: the normed rows of its tokens. -/
theorem point_out (t : Fin cfg0.N) (r : Fin 256) (l : Fin 2048) :
    out0_7 (iblk m c 0 t) (iblk m c 1 t) (iblk m c 2 t) (iblk m c 3 t) (iblk m c 4 t) (iblk m c 5 t) (iblk m c 6 t) (ix2 r l) =
      layerNorm (before m c (tok t r)) (m ((c : Thread nD τ).loc main_arg5)) (m ((c : Thread nD τ).loc main_arg6)) l := by
  unfold out0_7
  rw [View.canon_unit_zero zeros2]
  simp only [View.ld_unit_zero (S := S256x1024) zeros2, View.ld_unit_zero (S := S256x2048) zeros2, View.ld_unit_zero (S := S1x2048) zeros2,
    View.ld_unit_zero (S := S1x1x2048) zeros3]
  have hU : ∀ (y : Fin 1024) (l : Fin 2048), View.ld (iblk m c 2 t) r0_1 (ix2 y l) =
      m ((c : Thread nD τ).loc main_arg2) (ix2 (⟨y.val, by omega⟩ : Fin 2048) l) := fun y l => by
    refine (View.ld_unit_apply_of _ _ _ _ _ (ix2 (⟨y.val, by omega⟩ : Fin 2048) l) fun a => ?_).trans (block2 m c t _ l)
    match a with
    | ⟨0, _⟩ => show y.val = 0 + y.val; omega
    | ⟨1, _⟩ => show l.val = 0 + l.val; omega
  have hW : ∀ (y : Fin 1024) (l : Fin 2048), View.ld (iblk m c 2 t) r0_2 (ix2 y l) =
      m ((c : Thread nD τ).loc main_arg2) (ix2 (⟨1024 + y.val, by omega⟩ : Fin 2048) l) := fun y l => by
    refine (View.ld_unit_apply_of _ _ _ _ _ (ix2 (⟨1024 + y.val, by omega⟩ : Fin 2048) l) fun a => ?_).trans (block2 m c t _ l)
    match a with
    | ⟨0, _⟩ => rfl
    | ⟨1, _⟩ => show l.val = 0 + l.val; omega
  have hz := centred m c t _ _ hU hW
  unfold k0_pay5
  generalize k0_pay4 (iblk m c 0 t) (View.ld (iblk m c 2 t) r0_1) (iblk m c 1 t) (View.ld (iblk m c 2 t) r0_2) (iblk m c 3 t) (iblk m c 4 t) = Z at hz ⊢
  pointwise [k0_pay1, k0_pay2, k0_pay3, k0_pay6]
  simp only [hz, block5, block6]
  rfl

/-- The kernel's result array holds the normed rows. -/
theorem kernel_value (T : Fin 8192) (l : Fin 2048) :
    ((dats m 0 c).arrAt 7 cfg0.N : (⟨2, ![8192, 2048]⟩ : Shape).Idx → EReal) (ix2 T l) =
      layerNorm (before m c T) (m ((c : Thread nD τ).loc main_arg5)) (m ((c : Thread nD τ).loc main_arg6)) l := by
  have hb : T.val / 256 < cfg0.N := lt_of_lt_of_eq (by omega) (show cfg0.N = 32 from N_0).symm
  have hT : tok ⟨T.val / 256, hb⟩ ⟨T.val % 256, by omega⟩ = T := Fin.ext (by
    show 256 * (T.val / 256) + T.val % 256 = T.val
    omega)
  have key := congrFun (blocks7 m c ⟨T.val / 256, hb⟩ (flush0_7 _)) (ix2 (⟨T.val % 256, by omega⟩ : Fin 256) l)
  rw [View.read_apply, flushed7] at key
  have he : ((cfg0.win 7).blk ⟨T.val / 256, hb⟩).view.emb (ix2 (⟨T.val % 256, by omega⟩ : Fin 256) l) = ix2 T l := by
    funext a
    apply Fin.ext
    match a with
    | ⟨0, _⟩ => show win0_7.index ⟨T.val / 256, hb⟩ 0 * 256 + 1 * (T.val % 256) = T.val; rw [(at7 _).1]; show T.val / 256 * 256 + _ = _; omega
    | ⟨1, _⟩ => show win0_7.index ⟨T.val / 256, hb⟩ 1 * 2048 + 1 * l.val = l.val; rw [(at7 _).2]; omega
  rw [he] at key
  refine key.trans ?_
  refine Eq.trans ?_ ((point_out m c ⟨T.val / 256, hb⟩ ⟨T.val % 256, by omega⟩ l).trans (by rw [hT]))
  rfl

/-- The kernel and the reference leave the same array. -/
theorem tie : Cert.algebraic_EvenOutIdeal_EvenOutRefIdeal := by
  intro m ρ m' ρ' _ hagree
  refine ⟨_, Cert.EvenOutIdeal.Value.run_blocks (F := Ideal) m ρ, ?_⟩
  refine (θ_run Cert.EvenOutRefIdeal.defs _ _).mono (fun _ h c => ⟨?_, (h c).2⟩) (Cert.EvenOutRefIdeal.Value.run (F := Ideal) m' ρ')
  rw [(h c).1]
  refine (Cert.EvenOutRefIdeal.Read.val_main_v35_eq (F := Ideal) m' c).trans ?_
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine (Ref.value _ _ _ _ _ _ _ T l).trans (Eq.trans ?_ (kernel_value m c T l).symm)
  obtain ⟨e0, e1, e2, e3, e4, e5, e6⟩ := hagree c
  unfold before
  rw [← e0, ← e1, ← e2, ← e3, ← e4, ← e5, ← e6]
end Cert.EvenOutProof
-- ==== Proof.OddOutProj.lean ====
module
public import proofs.«01_k».proof.Proof.OutSpec
public import proofs.«01_k».proof.Defs
public import proofs.«01_k».proof.Proof.Gen.OddOutIdeal.Value
public import proofs.«01_k».proof.Proof.Gen.OddOutRefIdeal.Run
public import proofs.«01_k».proof.Proof.Gen.OddOutRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The output projection of the odd layer with its post-norm, prompt batch

Each grid point multiplies one tile of tokens by the whole weight, its upper half and its lower half one after the other,
adds the residual and norms the rows. -/

/-! ## The reference -/
namespace Cert.OddOutProof.Ref
open Idealize.ShloMosaic Idealize.ShloMosaic.Pointwise Cert.MoE Cert.OutProj Cert.OddOutRefIdeal Cert.OddOutRefIdeal.Read

variable (o : (⟨S8192x2048, .bf16⟩ : BufTy).Contents (Elt Ideal)) (w : (⟨S2048x2048, .bf16⟩ : BufTy).Contents (Elt Ideal)) (x : (⟨S8192x2048, .f32⟩ : BufTy).Contents (Elt Ideal))
  (gate : (⟨S4x1x2048, .f32⟩ : BufTy).Contents (Elt Ideal)) (g b : (⟨S2048, .f32⟩ : BufTy).Contents (Elt Ideal))

/-- The row of token `T` before the norm. -/
def before (T : Fin 8192) : Fin 2048 → EReal :=
  blend (fun y => o (ix2 T (⟨y.val, by omega⟩ : Fin 2048))) (fun y => o (ix2 T (⟨1024 + y.val, by omega⟩ : Fin 2048))) (fun y l => w (ix2 y l)) (fun l => x (ix2 T l)) (fun l => gate (ix3 (⟨T.val / 2048, by omega⟩ : Fin 4) 0 l))

theorem residual (i : Fin 4) (s : Fin 2048) (l : Fin 2048) : val_main_v11 o w x gate (ix3 i s l) = before o w x gate (token i s) l := by
  have hi : (⟨(token i s).val / 2048, by omega⟩ : Fin 4) = i := Fin.ext (by
    show (i.val * 2048 + s.val) / 2048 = i.val
    omega)
  have e : before o w x gate (token i s) l = blend (fun y => o (ix2 (token i s) (⟨y.val, by omega⟩ : Fin 2048))) (fun y => o (ix2 (token i s) (⟨1024 + y.val, by omega⟩ : Fin 2048)))
      (fun y l => w (ix2 y l)) (fun l => x (ix2 (token i s) l)) (fun l => gate (ix3 i 0 l)) l := by
    unfold before
    simp only [hi]
  rw [e, blend_whole (fun y => o (ix2 (token i s) y))]
  pointwise [val_main_v11, val_main_v10, val_main_v9, val_main_v8, val_main_v7, val_main_v6, val_main_v5, val_main_v4, val_main_v3, val_main_v2, val_main_v1, val_main_v0, val_main_cst, val_main_cst_0]
  rfl

theorem value (T : Fin 8192) (l : Fin 2048) : val_main_v34 o w x gate g b (ix2 T l) = layerNorm (before o w x gate T) g b l := by
  have hT : token ⟨T.val / 2048, by omega⟩ ⟨T.val % 2048, by omega⟩ = T := Fin.ext (by
    show T.val / 2048 * 2048 + T.val % 2048 = T.val
    omega)
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_1, val_main_cst_2, val_main_cst_3, val_main_cst_4, val_main_cst_5]
  simp only [residual, hT]
  rfl
end Cert.OddOutProof.Ref

/-! ## The kernel -/
namespace Cert.OddOutProof
open Idealize.ShloMosaic Idealize.ShloMosaic.Pointwise Cert.MoE Cert.OutProj Cert.OddOutIdeal Cert.OddOutIdeal.Gen Cert.OddOutIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = t.val ∧ win0_1.index t 1 = 1 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val / 8 ∧ win0_4.index t 1 = 0 ∧ win0_4.index t 2 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = t.val ∧ win0_7.index t 1 = 0 := by decide +kernel

/-- The token that row `r` of point `t`'s tile holds. -/
def tok (t : Fin cfg0.N) (r : Fin 256) : Fin 8192 :=
  ⟨256 * t.val + r.val, by have := lt_of_lt_of_eq t.isLt (show cfg0.N = 32 from N_0); omega⟩

variable (m : (ℓ : Loc nD τ sig) → Buf (Elt Ideal) ℓ) (c : Dev nD)

theorem block0 (t : Fin cfg0.N) (r : Fin 256) (l : Fin 1024) : (iblk m c 0 t : Vec Ideal S256x1024 .bf16) (ix2 r l) =
    m ((c : Thread nD τ).loc main_arg0) (ix2 (tok t r) (⟨l.val, by omega⟩ : Fin 2048)) := by
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [(at0 t).1]; omega
  | ⟨1, _⟩ => show win0_0.index t 1 * 1024 + 1 * l.val = l.val; rw [(at0 t).2]; omega

theorem block1 (t : Fin cfg0.N) (r : Fin 256) (l : Fin 1024) : (iblk m c 1 t : Vec Ideal S256x1024 .bf16) (ix2 r l) =
    m ((c : Thread nD τ).loc main_arg0) (ix2 (tok t r) (⟨1024 + l.val, by omega⟩ : Fin 2048)) := by
  unfold iblk
  rw [View.read_apply]
  show V m c main_arg0 _ = _
  rw [V_main_arg0]
  congr 1
  funext a
  apply Fin.ext
  match a with
  | ⟨0, _⟩ => show win0_1.index t 0 * 256 + 1 * r.val = 256 * t.val + r.val; rw [(at1 t).1]; omega
  | ⟨1, _⟩ => show win0_1.index t 1 * 1024 + 1 * l.val = 1024 + l.val; rw [(at1 t).2]; omega

theorem block2 (t : Fin cfg0.N) (r : Fin 2048) (l : Fin 2048) : (iblk m c 2 t : Vec Ideal S2048x2048 .bf16) (ix2 r l) =
    m ((c : Thread nD τ).loc main_arg1) (ix2 r l) := by
  unfold iblk
  rw [View.read_apply]
  show V m c main_arg1 _ = _
  rw [V_main_arg1]
  congr 1
  funext a
  apply Fin.ext
  match a with
  | ⟨0, _⟩ => show win0_2.index t 0 * 2048 + 1 * r.val = r.val; rw [(at2 t).1]; omega
  | ⟨1, _⟩ => show win0_2.index t 1 * 2048 + 1 * l.val = l.val; rw [(at2 t).2]; omega

theorem block3 (t : Fin cfg0.N) (r : Fin 256) (l : Fin 2048) : (iblk m c 3 t : Vec Ideal S256x2048 .f32) (ix2 r l) =
    m ((c : Thread nD τ).loc main_arg2) (ix2 (tok t r) l) := by
  unfold iblk
  rw [View.read_apply]
  show V m c main_arg2 _ = _
  rw [V_main_arg2]
  congr 1
  funext a
  apply Fin.ext
  match a with
  | ⟨0, _⟩ => show win0_3.index t 0 * 256 + 1 * r.val = 256 * t.val + r.val; rw [(at3 t).1]; omega
  | ⟨1, _⟩ => show win0_3.index t 1 * 2048 + 1 * l.val = l.val; rw [(at3 t).2]; omega

/-- The gate row of the tile's sequence: the same for every row `r`. -/
theorem block4 (t : Fin cfg0.N) (l : Fin 2048) : (iblk m c 4 t : Vec Ideal S1x1x2048 .f32) (ix3 0 0 l) =
    m ((c : Thread nD τ).loc main_arg3) (ix3 (⟨t.val / 8, by have := lt_of_lt_of_eq t.isLt (show cfg0.N = 32 from N_0); omega⟩ : Fin 4) 0 l) := by
  unfold iblk
  rw [View.read_apply]
  show V m c main_arg3 _ = _
  rw [V_main_arg3]
  congr 1
  funext a
  apply Fin.ext
  match a with
  | ⟨0, _⟩ => show win0_4.index t 0 * 1 + 1 * 0 = t.val / 8; rw [(at4 t).1]; omega
  | ⟨1, _⟩ => show win0_4.index t 1 * 1 + 1 * 0 = 0; rw [(at4 t).2.1]
  | ⟨2, _⟩ => show win0_4.index t 2 * 2048 + 1 * l.val = l.val; rw [(at4 t).2.2]; omega

theorem block5 (t : Fin cfg0.N) (l : Fin 2048) : (iblk m c 5 t : Vec Ideal S1x2048 .f32) (ix2 0 l) =
    m ((c : Thread nD τ).loc main_arg4) (ix1 l) := by
  unfold iblk
  rw [View.read_apply]
  refine (row_index (V m c main_v0) (win0_5.index t) l (at5 t).1 (at5 t).2 _ fun a => ?_).trans ?_
  · match a with
    | ⟨0, _⟩ => rfl
    | ⟨1, _⟩ => rfl
  · unfold V hostOps0
    after_reads_simp
    pointwise

theorem block6 (t : Fin cfg0.N) (l : Fin 2048) : (iblk m c 6 t : Vec Ideal S1x2048 .f32) (ix2 0 l) =
    m ((c : Thread nD τ).loc main_arg5) (ix1 l) := by
  unfold iblk
  rw [View.read_apply]
  refine (row_index (V m c main_v1) (win0_6.index t) l (at6 t).1 (at6 t).2 _ fun a => ?_).trans ?_
  · match a with
    | ⟨0, _⟩ => rfl
    | ⟨1, _⟩ => rfl
  · unfold V hostOps0
    after_reads_simp
    pointwise

/-- The row of token `T` before the norm. -/
def before (T : Fin 8192) : Fin 2048 → EReal :=
  Ref.before (m ((c : Thread nD τ).loc main_arg0)) (m ((c : Thread nD τ).loc main_arg1)) (m ((c : Thread nD τ).loc main_arg2)) (m ((c : Thread nD τ).loc main_arg3)) T

/-- One grid point's centred rows. -/
theorem centred (t : Fin cfg0.N) (U W : Vec Ideal S1024x2048 .bf16)
    (hU : ∀ y l, U (ix2 y l) = m ((c : Thread nD τ).loc main_arg1) (ix2 (⟨y.val, by omega⟩ : Fin 2048) l))
    (hW : ∀ y l, W (ix2 y l) = m ((c : Thread nD τ).loc main_arg1) (ix2 (⟨1024 + y.val, by omega⟩ : Fin 2048) l))
    (r : Fin 256) (l : Fin 2048) :
    k0_pay4 (iblk m c 0 t) U (iblk m c 1 t) W (iblk m c 3 t) (iblk m c 4 t) (ix2 r l) =
      before m c (tok t r) l - mean (before m c (tok t r)) := by
  have hi : (⟨(tok t r).val / 2048, by omega⟩ : Fin 4) = ⟨t.val / 8, by have := lt_of_lt_of_eq t.isLt (show cfg0.N = 32 from N_0); omega⟩ := Fin.ext (by
    show (256 * t.val + r.val) / 2048 = t.val / 8
    omega)
  have hg := block4 m c t
  rw [← hi] at hg
  pointwise [k0_pay4]
  simp only [hU, hW, block0, block1, block3, hg]
  rfl

/-- One grid point's tile: the normed rows of its tokens. -/
theorem point_out (t : Fin cfg0.N) (r : Fin 256) (l : Fin 2048) :
    out0_7 (iblk m c 0 t) (iblk m c 1 t) (iblk m c 2 t) (iblk m c 3 t) (iblk m c 4 t) (iblk m c 5 t) (iblk m c 6 t) (ix2 r l) =
      layerNorm (before m c (tok t r)) (m ((c : Thread nD τ).loc main_arg4)) (m ((c : Thread nD τ).loc main_arg5)) l := by
  unfold out0_7
  rw [View.canon_unit_zero zeros2]
  simp only [View.ld_unit_zero (S := S256x1024) zeros2, View.ld_unit_zero (S := S256x2048) zeros2, View.ld_unit_zero (S := S1x2048) zeros2,
    View.ld_unit_zero (S := S1x1x2048) zeros3]
  have hU : ∀ (y : Fin 1024) (l : Fin 2048), View.ld (iblk m c 2 t) r0_1 (ix2 y l) =
      m ((c : Thread nD τ).loc main_arg1) (ix2 (⟨y.val, by omega⟩ : Fin 2048) l) := fun y l => by
    refine (View.ld_unit_apply_of _ _ _ _ _ (ix2 (⟨y.val, by omega⟩ : Fin 2048) l) fun a => ?_).trans (block2 m c t _ l)
    match a with
    | ⟨0, _⟩ => show y.val = 0 + y.val; omega
    | ⟨1, _⟩ => show l.val = 0 + l.val; omega
  have hW : ∀ (y : Fin 1024) (l : Fin 2048), View.ld (iblk m c 2 t) r0_2 (ix2 y l) =
      m ((c : Thread nD τ).loc main_arg1) (ix2 (⟨1024 + y.val, by omega⟩ : Fin 2048) l) := fun y l => by
    refine (View.ld_unit_apply_of _ _ _ _ _ (ix2 (⟨1024 + y.val, by omega⟩ : Fin 2048) l) fun a => ?_).trans (block2 m c t _ l)
    match a with
    | ⟨0, _⟩ => rfl
    | ⟨1, _⟩ => show l.val = 0 + l.val; omega
  have hz := centred m c t _ _ hU hW
  unfold k0_pay5
  generalize k0_pay4 (iblk m c 0 t) (View.ld (iblk m c 2 t) r0_1) (iblk m c 1 t) (View.ld (iblk m c 2 t) r0_2) (iblk m c 3 t) (iblk m c 4 t) = Z at hz ⊢
  pointwise [k0_pay1, k0_pay2, k0_pay3, k0_pay6]
  simp only [hz, block5, block6]
  rfl

/-- The kernel's result array holds the normed rows. -/
theorem kernel_value (T : Fin 8192) (l : Fin 2048) :
    ((dats m 0 c).arrAt 7 cfg0.N : (⟨2, ![8192, 2048]⟩ : Shape).Idx → EReal) (ix2 T l) =
      layerNorm (before m c T) (m ((c : Thread nD τ).loc main_arg4)) (m ((c : Thread nD τ).loc main_arg5)) l := by
  have hb : T.val / 256 < cfg0.N := lt_of_lt_of_eq (by omega) (show cfg0.N = 32 from N_0).symm
  have hT : tok ⟨T.val / 256, hb⟩ ⟨T.val % 256, by omega⟩ = T := Fin.ext (by
    show 256 * (T.val / 256) + T.val % 256 = T.val
    omega)
  have key := congrFun (blocks7 m c ⟨T.val / 256, hb⟩ (flush0_7 _)) (ix2 (⟨T.val % 256, by omega⟩ : Fin 256) l)
  rw [View.read_apply, flushed7] at key
  have he : ((cfg0.win 7).blk ⟨T.val / 256, hb⟩).view.emb (ix2 (⟨T.val % 256, by omega⟩ : Fin 256) l) = ix2 T l := by
    funext a
    apply Fin.ext
    match a with
    | ⟨0, _⟩ => show win0_7.index ⟨T.val / 256, hb⟩ 0 * 256 + 1 * (T.val % 256) = T.val; rw [(at7 _).1]; show T.val / 256 * 256 + _ = _; omega
    | ⟨1, _⟩ => show win0_7.index ⟨T.val / 256, hb⟩ 1 * 2048 + 1 * l.val = l.val; rw [(at7 _).2]; omega
  rw [he] at key
  refine key.trans ?_
  refine Eq.trans ?_ ((point_out m c ⟨T.val / 256, hb⟩ ⟨T.val % 256, by omega⟩ l).trans (by rw [hT]))
  rfl

/-- The kernel and the reference leave the same array. -/
theorem tie : Cert.algebraic_OddOutIdeal_OddOutRefIdeal := by
  intro m ρ m' ρ' _ hagree
  refine ⟨_, Cert.OddOutIdeal.Value.run_blocks (F := Ideal) m ρ, ?_⟩
  refine (θ_run Cert.OddOutRefIdeal.defs _ _).mono (fun _ h c => ⟨?_, (h c).2⟩) (Cert.OddOutRefIdeal.Value.run (F := Ideal) m' ρ')
  rw [(h c).1]
  refine (Cert.OddOutRefIdeal.Read.val_main_v34_eq (F := Ideal) m' c).trans ?_
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine (Ref.value _ _ _ _ _ _ T l).trans (Eq.trans ?_ (kernel_value m c T l).symm)
  obtain ⟨e0, e1, e2, e3, e4, e5⟩ := hagree c
  unfold before
  rw [← e0, ← e1, ← e2, ← e3, ← e4, ← e5]
end Cert.OddOutProof
-- ==== Proof.EvenOutSampleProj.lean ====
module
public import proofs.«01_k».proof.Proof.OutSpec
public import proofs.«01_k».proof.Defs
public import proofs.«01_k».proof.Proof.Gen.EvenOutSampleIdeal.Value
public import proofs.«01_k».proof.Proof.Gen.EvenOutSampleRefIdeal.Run
public import proofs.«01_k».proof.Proof.Gen.EvenOutSampleRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The output projection of the even layer with its post-norm, sample batch

Each grid point multiplies one tile of tokens by the whole weight, its upper half and its lower half one after the other,
adds the residual and norms the rows. -/

/-! ## The reference -/
namespace Cert.EvenOutSampleProof.Ref
open Idealize.ShloMosaic Idealize.ShloMosaic.Pointwise Cert.MoE Cert.OutProj Cert.EvenOutSampleRefIdeal Cert.EvenOutSampleRefIdeal.Read

variable (oa ob : (⟨S512x1024, .bf16⟩ : BufTy).Contents (Elt Ideal)) (w : (⟨S2048x2048, .bf16⟩ : BufTy).Contents (Elt Ideal)) (x : (⟨S512x2048, .f32⟩ : BufTy).Contents (Elt Ideal))
  (gate : (⟨S1x512x2048, .f32⟩ : BufTy).Contents (Elt Ideal)) (g b : (⟨S2048, .f32⟩ : BufTy).Contents (Elt Ideal))

/-- The row of token `T` before the norm. -/
def before (T : Fin 512) : Fin 2048 → EReal :=
  blend (fun y => oa (ix2 T y)) (fun y => ob (ix2 T y)) (fun y l => w (ix2 y l)) (fun l => x (ix2 T l)) (fun l => gate (ix3 0 T l))

/-- The joined rows: the first half, then the second. -/
theorem joined_low (T : Fin 512) (y : Fin 1024) : val_main_v0 oa ob (ix2 T (⟨y.val, by omega⟩ : Fin 2048)) = oa (ix2 T y) := by
  pointwise [val_main_v0]

theorem joined_high (T : Fin 512) (y : Fin 1024) : val_main_v0 oa ob (ix2 T (⟨1024 + y.val, by omega⟩ : Fin 2048)) = ob (ix2 T y) := by
  pointwise [val_main_v0]

theorem residual (s : Fin 512) (l : Fin 2048) : val_main_v11 oa ob w x gate (ix3 0 s l) = before oa ob w x gate s l := by
  have e : before oa ob w x gate s l = blend (fun y => val_main_v0 oa ob (ix2 s (⟨y.val, by omega⟩ : Fin 2048))) (fun y => val_main_v0 oa ob (ix2 s (⟨1024 + y.val, by omega⟩ : Fin 2048)))
      (fun y l => w (ix2 y l)) (fun l => x (ix2 s l)) (fun l => gate (ix3 0 s l)) l := by
    unfold before
    simp only [joined_low, joined_high]
  rw [e, blend_whole (fun y => val_main_v0 oa ob (ix2 s y))]
  pointwise [val_main_v11, val_main_v10, val_main_v9, val_main_v8, val_main_v7, val_main_v6, val_main_v5, val_main_v4, val_main_v3, val_main_v2, val_main_v1, val_main_cst, val_main_cst_0]

theorem value (T : Fin 512) (l : Fin 2048) : val_main_v34 oa ob w x gate g b (ix2 T l) = layerNorm (before oa ob w x gate T) g b l := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_1, val_main_cst_2, val_main_cst_3, val_main_cst_4, val_main_cst_5]
  simp only [residual]
  rfl
end Cert.EvenOutSampleProof.Ref

/-! ## The kernel -/
namespace Cert.EvenOutSampleProof
open Idealize.ShloMosaic Idealize.ShloMosaic.Pointwise Cert.MoE Cert.OutProj Cert.EvenOutSampleIdeal Cert.EvenOutSampleIdeal.Gen Cert.EvenOutSampleIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = 0 ∧ win0_4.index t 1 = t.val ∧ win0_4.index t 2 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = t.val ∧ win0_7.index t 1 = 0 := by decide +kernel

/-- The token that row `r` of point `t`'s tile holds. -/
def tok (t : Fin cfg0.N) (r : Fin 512) : Fin 512 :=
  ⟨512 * t.val + r.val, by have := lt_of_lt_of_eq t.isLt (show cfg0.N = 1 from N_0); omega⟩

variable (m : (ℓ : Loc nD τ sig) → Buf (Elt Ideal) ℓ) (c : Dev nD)

theorem block0 (t : Fin cfg0.N) (r : Fin 512) (l : Fin 1024) : (iblk m c 0 t : Vec Ideal S512x1024 .bf16) (ix2 r l) =
    m ((c : Thread nD τ).loc main_arg0) (ix2 (tok t r) l) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(at0 t).1]; omega
  | ⟨1, _⟩ => show win0_0.index t 1 * 1024 + 1 * l.val = l.val; rw [(at0 t).2]; omega

theorem block1 (t : Fin cfg0.N) (r : Fin 512) (l : Fin 1024) : (iblk m c 1 t : Vec Ideal S512x1024 .bf16) (ix2 r l) =
    m ((c : Thread nD τ).loc main_arg1) (ix2 (tok t r) l) := by
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [(at1 t).1]; omega
  | ⟨1, _⟩ => show win0_1.index t 1 * 1024 + 1 * l.val = l.val; rw [(at1 t).2]; omega

theorem block2 (t : Fin cfg0.N) (r : Fin 2048) (l : Fin 2048) : (iblk m c 2 t : Vec Ideal S2048x2048 .bf16) (ix2 r l) =
    m ((c : Thread nD τ).loc main_arg2) (ix2 r l) := by
  unfold iblk
  rw [View.read_apply]
  show V m c main_arg2 _ = _
  rw [V_main_arg2]
  congr 1
  funext a
  apply Fin.ext
  match a with
  | ⟨0, _⟩ => show win0_2.index t 0 * 2048 + 1 * r.val = r.val; rw [(at2 t).1]; omega
  | ⟨1, _⟩ => show win0_2.index t 1 * 2048 + 1 * l.val = l.val; rw [(at2 t).2]; omega

theorem block3 (t : Fin cfg0.N) (r : Fin 512) (l : Fin 2048) : (iblk m c 3 t : Vec Ideal S512x2048 .f32) (ix2 r l) =
    m ((c : Thread nD τ).loc main_arg3) (ix2 (tok t r) l) := by
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [(at3 t).1]; omega
  | ⟨1, _⟩ => show win0_3.index t 1 * 2048 + 1 * l.val = l.val; rw [(at3 t).2]; omega

theorem block4 (t : Fin cfg0.N) (r : Fin 512) (l : Fin 2048) : (iblk m c 4 t : Vec Ideal S1x512x2048 .f32) (ix3 0 r l) =
    m ((c : Thread nD τ).loc main_arg4) (ix3 0 (tok t r) l) := by
  unfold iblk
  rw [View.read_apply]
  show V m c main_arg4 _ = _
  rw [V_main_arg4]
  congr 1
  funext a
  apply Fin.ext
  match a with
  | ⟨0, _⟩ => show win0_4.index t 0 * 1 + 1 * 0 = 0; rw [(at4 t).1]
  | ⟨1, _⟩ => show win0_4.index t 1 * 512 + 1 * r.val = 512 * t.val + r.val; rw [(at4 t).2.1]; omega
  | ⟨2, _⟩ => show win0_4.index t 2 * 2048 + 1 * l.val = l.val; rw [(at4 t).2.2]; omega

theorem block5 (t : Fin cfg0.N) (l : Fin 2048) : (iblk m c 5 t : Vec Ideal S1x2048 .f32) (ix2 0 l) =
    m ((c : Thread nD τ).loc main_arg5) (ix1 l) := by
  unfold iblk
  rw [View.read_apply]
  refine (row_index (V m c main_v0) (win0_5.index t) l (at5 t).1 (at5 t).2 _ fun a => ?_).trans ?_
  · match a with
    | ⟨0, _⟩ => rfl
    | ⟨1, _⟩ => rfl
  · unfold V hostOps0
    after_reads_simp
    pointwise

theorem block6 (t : Fin cfg0.N) (l : Fin 2048) : (iblk m c 6 t : Vec Ideal S1x2048 .f32) (ix2 0 l) =
    m ((c : Thread nD τ).loc main_arg6) (ix1 l) := by
  unfold iblk
  rw [View.read_apply]
  refine (row_index (V m c main_v1) (win0_6.index t) l (at6 t).1 (at6 t).2 _ fun a => ?_).trans ?_
  · match a with
    | ⟨0, _⟩ => rfl
    | ⟨1, _⟩ => rfl
  · unfold V hostOps0
    after_reads_simp
    pointwise

/-- The row of token `T` before the norm. -/
def before (T : Fin 512) : Fin 2048 → EReal :=
  Ref.before (m ((c : Thread nD τ).loc main_arg0)) (m ((c : Thread nD τ).loc main_arg1)) (m ((c : Thread nD τ).loc main_arg2)) (m ((c : Thread nD τ).loc main_arg3)) (m ((c : Thread nD τ).loc main_arg4)) T

/-- One grid point's centred rows. -/
theorem centred (t : Fin cfg0.N) (U W : Vec Ideal S1024x2048 .bf16)
    (hU : ∀ y l, U (ix2 y l) = m ((c : Thread nD τ).loc main_arg2) (ix2 (⟨y.val, by omega⟩ : Fin 2048) l))
    (hW : ∀ y l, W (ix2 y l) = m ((c : Thread nD τ).loc main_arg2) (ix2 (⟨1024 + y.val, by omega⟩ : Fin 2048) l))
    (r : Fin 512) (l : Fin 2048) :
    k0_pay4 (iblk m c 0 t) U (iblk m c 1 t) W (iblk m c 3 t) (iblk m c 4 t) (ix2 r l) =
      before m c (tok t r) l - mean (before m c (tok t r)) := by
  pointwise [k0_pay4]
  simp only [hU, hW, block0, block1, block3, block4]
  rfl

/-- One grid point's tile: the normed rows of its tokens. -/
theorem point_out (t : Fin cfg0.N) (r : Fin 512) (l : Fin 2048) :
    out0_7 (iblk m c 0 t) (iblk m c 1 t) (iblk m c 2 t) (iblk m c 3 t) (iblk m c 4 t) (iblk m c 5 t) (iblk m c 6 t) (ix2 r l) =
      layerNorm (before m c (tok t r)) (m ((c : Thread nD τ).loc main_arg5)) (m ((c : Thread nD τ).loc main_arg6)) l := by
  unfold out0_7
  rw [View.canon_unit_zero zeros2]
  simp only [View.ld_unit_zero (S := S512x1024) zeros2, View.ld_unit_zero (S := S512x2048) zeros2, View.ld_unit_zero (S := S1x2048) zeros2,
    View.ld_unit_zero (S := S1x512x2048) zeros3]
  have hU : ∀ (y : Fin 1024) (l : Fin 2048), View.ld (iblk m c 2 t) r0_1 (ix2 y l) =
      m ((c : Thread nD τ).loc main_arg2) (ix2 (⟨y.val, by omega⟩ : Fin 2048) l) := fun y l => by
    refine (View.ld_unit_apply_of _ _ _ _ _ (ix2 (⟨y.val, by omega⟩ : Fin 2048) l) fun a => ?_).trans (block2 m c t _ l)
    match a with
    | ⟨0, _⟩ => show y.val = 0 + y.val; omega
    | ⟨1, _⟩ => show l.val = 0 + l.val; omega
  have hW : ∀ (y : Fin 1024) (l : Fin 2048), View.ld (iblk m c 2 t) r0_2 (ix2 y l) =
      m ((c : Thread nD τ).loc main_arg2) (ix2 (⟨1024 + y.val, by omega⟩ : Fin 2048) l) := fun y l => by
    refine (View.ld_unit_apply_of _ _ _ _ _ (ix2 (⟨1024 + y.val, by omega⟩ : Fin 2048) l) fun a => ?_).trans (block2 m c t _ l)
    match a with
    | ⟨0, _⟩ => rfl
    | ⟨1, _⟩ => show l.val = 0 + l.val; omega
  have hz := centred m c t _ _ hU hW
  unfold k0_pay5
  generalize k0_pay4 (iblk m c 0 t) (View.ld (iblk m c 2 t) r0_1) (iblk m c 1 t) (View.ld (iblk m c 2 t) r0_2) (iblk m c 3 t) (iblk m c 4 t) = Z at hz ⊢
  pointwise [k0_pay1, k0_pay2, k0_pay3]
  simp only [hz, block5, block6]
  rfl

/-- The kernel's result array holds the normed rows. -/
theorem kernel_value (T : Fin 512) (l : Fin 2048) :
    ((dats m 0 c).arrAt 7 cfg0.N : (⟨2, ![512, 2048]⟩ : Shape).Idx → EReal) (ix2 T l) =
      layerNorm (before m c T) (m ((c : Thread nD τ).loc main_arg5)) (m ((c : Thread nD τ).loc main_arg6)) l := by
  have hb : T.val / 512 < cfg0.N := lt_of_lt_of_eq (by omega) (show cfg0.N = 1 from N_0).symm
  have hT : tok ⟨T.val / 512, hb⟩ ⟨T.val % 512, by omega⟩ = T := Fin.ext (by
    show 512 * (T.val / 512) + T.val % 512 = T.val
    omega)
  have key := congrFun (blocks7 m c ⟨T.val / 512, hb⟩ (flush0_7 _)) (ix2 (⟨T.val % 512, by omega⟩ : Fin 512) l)
  rw [View.read_apply, flushed7] at key
  have he : ((cfg0.win 7).blk ⟨T.val / 512, hb⟩).view.emb (ix2 (⟨T.val % 512, by omega⟩ : Fin 512) l) = ix2 T l := by
    funext a
    apply Fin.ext
    match a with
    | ⟨0, _⟩ => show win0_7.index ⟨T.val / 512, hb⟩ 0 * 512 + 1 * (T.val % 512) = T.val; rw [(at7 _).1]; show T.val / 512 * 512 + _ = _; omega
    | ⟨1, _⟩ => show win0_7.index ⟨T.val / 512, hb⟩ 1 * 2048 + 1 * l.val = l.val; rw [(at7 _).2]; omega
  rw [he] at key
  refine key.trans ?_
  refine Eq.trans ?_ ((point_out m c ⟨T.val / 512, hb⟩ ⟨T.val % 512, by omega⟩ l).trans (by rw [hT]))
  rfl

/-- The kernel and the reference leave the same array. -/
theorem tie : Cert.algebraic_EvenOutSampleIdeal_EvenOutSampleRefIdeal := by
  intro m ρ m' ρ' _ hagree
  refine ⟨_, Cert.EvenOutSampleIdeal.Value.run_blocks (F := Ideal) m ρ, ?_⟩
  refine (θ_run Cert.EvenOutSampleRefIdeal.defs _ _).mono (fun _ h c => ⟨?_, (h c).2⟩) (Cert.EvenOutSampleRefIdeal.Value.run (F := Ideal) m' ρ')
  rw [(h c).1]
  refine (Cert.EvenOutSampleRefIdeal.Read.val_main_v34_eq (F := Ideal) m' c).trans ?_
  funext i
  obtain ⟨T, l, rfl⟩ : ∃ (T : Fin 512) (l : Fin 2048), i = ix2 T l := ⟨i 0, i 1, funext fun a => by
    match a with
    | ⟨0, _⟩ => rfl
    | ⟨1, _⟩ => rfl⟩
  refine (Ref.value _ _ _ _ _ _ _ T l).trans (Eq.trans ?_ (kernel_value m c T l).symm)
  obtain ⟨e0, e1, e2, e3, e4, e5, e6⟩ := hagree c
  unfold before
  rw [← e0, ← e1, ← e2, ← e3, ← e4, ← e5, ← e6]
end Cert.EvenOutSampleProof
-- ==== Proof.OddOutSampleProj.lean ====
module
public import proofs.«01_k».proof.Proof.OutSpec
public import proofs.«01_k».proof.Defs
public import proofs.«01_k».proof.Proof.Gen.OddOutSampleIdeal.Value
public import proofs.«01_k».proof.Proof.Gen.OddOutSampleRefIdeal.Run
public import proofs.«01_k».proof.Proof.Gen.OddOutSampleRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The output projection of the odd layer with its post-norm, sample batch

Each grid point multiplies one tile of tokens by the whole weight, its upper half and its lower half one after the other,
adds the residual and norms the rows. -/

/-! ## The reference -/
namespace Cert.OddOutSampleProof.Ref
open Idealize.ShloMosaic Idealize.ShloMosaic.Pointwise Cert.MoE Cert.OutProj Cert.OddOutSampleRefIdeal Cert.OddOutSampleRefIdeal.Read

variable (o : (⟨S512x2048, .bf16⟩ : BufTy).Contents (Elt Ideal)) (w : (⟨S2048x2048, .bf16⟩ : BufTy).Contents (Elt Ideal)) (x : (⟨S512x2048, .f32⟩ : BufTy).Contents (Elt Ideal))
  (gate : (⟨S1x512x2048, .f32⟩ : BufTy).Contents (Elt Ideal)) (g b : (⟨S2048, .f32⟩ : BufTy).Contents (Elt Ideal))

/-- The row of token `T` before the norm. -/
def before (T : Fin 512) : Fin 2048 → EReal :=
  blend (fun y => o (ix2 T (⟨y.val, by omega⟩ : Fin 2048))) (fun y => o (ix2 T (⟨1024 + y.val, by omega⟩ : Fin 2048))) (fun y l => w (ix2 y l)) (fun l => x (ix2 T l)) (fun l => gate (ix3 0 T l))

theorem residual (s : Fin 512) (l : Fin 2048) : val_main_v10 o w x gate (ix3 0 s l) = before o w x gate s l := by
  have e : before o w x gate s l = blend (fun y => o (ix2 s (⟨y.val, by omega⟩ : Fin 2048))) (fun y => o (ix2 s (⟨1024 + y.val, by omega⟩ : Fin 2048)))
      (fun y l => w (ix2 y l)) (fun l => x (ix2 s l)) (fun l => gate (ix3 0 s l)) l := by
    unfold before
    rfl
  rw [e, blend_whole (fun y => o (ix2 s y))]
  pointwise [val_main_v10, val_main_v9, val_main_v8, val_main_v7, val_main_v6, val_main_v5, val_main_v4, val_main_v3, val_main_v2, val_main_v1, val_main_v0, val_main_cst, val_main_cst_0]

theorem value (T : Fin 512) (l : Fin 2048) : val_main_v33 o w x gate g b (ix2 T l) = layerNorm (before o w x gate T) g b l := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_1, val_main_cst_2, val_main_cst_3, val_main_cst_4, val_main_cst_5]
  simp only [residual]
  rfl
end Cert.OddOutSampleProof.Ref

/-! ## The kernel -/
namespace Cert.OddOutSampleProof
open Idealize.ShloMosaic Idealize.ShloMosaic.Pointwise Cert.MoE Cert.OutProj Cert.OddOutSampleIdeal Cert.OddOutSampleIdeal.Gen Cert.OddOutSampleIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = t.val ∧ win0_1.index t 1 = 1 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = 0 ∧ win0_4.index t 1 = t.val ∧ win0_4.index t 2 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = t.val ∧ win0_7.index t 1 = 0 := by decide +kernel

/-- The token that row `r` of point `t`'s tile holds. -/
def tok (t : Fin cfg0.N) (r : Fin 512) : Fin 512 :=
  ⟨512 * t.val + r.val, by have := lt_of_lt_of_eq t.isLt (show cfg0.N = 1 from N_0); omega⟩

variable (m : (ℓ : Loc nD τ sig) → Buf (Elt Ideal) ℓ) (c : Dev nD)

theorem block0 (t : Fin cfg0.N) (r : Fin 512) (l : Fin 1024) : (iblk m c 0 t : Vec Ideal S512x1024 .bf16) (ix2 r l) =
    m ((c : Thread nD τ).loc main_arg0) (ix2 (tok t r) (⟨l.val, by omega⟩ : Fin 2048)) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(at0 t).1]; omega
  | ⟨1, _⟩ => show win0_0.index t 1 * 1024 + 1 * l.val = l.val; rw [(at0 t).2]; omega

theorem block1 (t : Fin cfg0.N) (r : Fin 512) (l : Fin 1024) : (iblk m c 1 t : Vec Ideal S512x1024 .bf16) (ix2 r l) =
    m ((c : Thread nD τ).loc main_arg0) (ix2 (tok t r) (⟨1024 + l.val, by omega⟩ : Fin 2048)) := by
  unfold iblk
  rw [View.read_apply]
  show V m c main_arg0 _ = _
  rw [V_main_arg0]
  congr 1
  funext a
  apply Fin.ext
  match a with
  | ⟨0, _⟩ => show win0_1.index t 0 * 512 + 1 * r.val = 512 * t.val + r.val; rw [(at1 t).1]; omega
  | ⟨1, _⟩ => show win0_1.index t 1 * 1024 + 1 * l.val = 1024 + l.val; rw [(at1 t).2]; omega

theorem block2 (t : Fin cfg0.N) (r : Fin 2048) (l : Fin 2048) : (iblk m c 2 t : Vec Ideal S2048x2048 .bf16) (ix2 r l) =
    m ((c : Thread nD τ).loc main_arg1) (ix2 r l) := by
  unfold iblk
  rw [View.read_apply]
  show V m c main_arg1 _ = _
  rw [V_main_arg1]
  congr 1
  funext a
  apply Fin.ext
  match a with
  | ⟨0, _⟩ => show win0_2.index t 0 * 2048 + 1 * r.val = r.val; rw [(at2 t).1]; omega
  | ⟨1, _⟩ => show win0_2.index t 1 * 2048 + 1 * l.val = l.val; rw [(at2 t).2]; omega

theorem block3 (t : Fin cfg0.N) (r : Fin 512) (l : Fin 2048) : (iblk m c 3 t : Vec Ideal S512x2048 .f32) (ix2 r l) =
    m ((c : Thread nD τ).loc main_arg2) (ix2 (tok t r) l) := by
  unfold iblk
  rw [View.read_apply]
  show V m c main_arg2 _ = _
  rw [V_main_arg2]
  congr 1
  funext a
  apply Fin.ext
  match a with
  | ⟨0, _⟩ => show win0_3.index t 0 * 512 + 1 * r.val = 512 * t.val + r.val; rw [(at3 t).1]; omega
  | ⟨1, _⟩ => show win0_3.index t 1 * 2048 + 1 * l.val = l.val; rw [(at3 t).2]; omega

theorem block4 (t : Fin cfg0.N) (r : Fin 512) (l : Fin 2048) : (iblk m c 4 t : Vec Ideal S1x512x2048 .f32) (ix3 0 r l) =
    m ((c : Thread nD τ).loc main_arg3) (ix3 0 (tok t r) l) := by
  unfold iblk
  rw [View.read_apply]
  show V m c main_arg3 _ = _
  rw [V_main_arg3]
  congr 1
  funext a
  apply Fin.ext
  match a with
  | ⟨0, _⟩ => show win0_4.index t 0 * 1 + 1 * 0 = 0; rw [(at4 t).1]
  | ⟨1, _⟩ => show win0_4.index t 1 * 512 + 1 * r.val = 512 * t.val + r.val; rw [(at4 t).2.1]; omega
  | ⟨2, _⟩ => show win0_4.index t 2 * 2048 + 1 * l.val = l.val; rw [(at4 t).2.2]; omega

theorem block5 (t : Fin cfg0.N) (l : Fin 2048) : (iblk m c 5 t : Vec Ideal S1x2048 .f32) (ix2 0 l) =
    m ((c : Thread nD τ).loc main_arg4) (ix1 l) := by
  unfold iblk
  rw [View.read_apply]
  refine (row_index (V m c main_v0) (win0_5.index t) l (at5 t).1 (at5 t).2 _ fun a => ?_).trans ?_
  · match a with
    | ⟨0, _⟩ => rfl
    | ⟨1, _⟩ => rfl
  · unfold V hostOps0
    after_reads_simp
    pointwise

theorem block6 (t : Fin cfg0.N) (l : Fin 2048) : (iblk m c 6 t : Vec Ideal S1x2048 .f32) (ix2 0 l) =
    m ((c : Thread nD τ).loc main_arg5) (ix1 l) := by
  unfold iblk
  rw [View.read_apply]
  refine (row_index (V m c main_v1) (win0_6.index t) l (at6 t).1 (at6 t).2 _ fun a => ?_).trans ?_
  · match a with
    | ⟨0, _⟩ => rfl
    | ⟨1, _⟩ => rfl
  · unfold V hostOps0
    after_reads_simp
    pointwise

/-- The row of token `T` before the norm. -/
def before (T : Fin 512) : Fin 2048 → EReal :=
  Ref.before (m ((c : Thread nD τ).loc main_arg0)) (m ((c : Thread nD τ).loc main_arg1)) (m ((c : Thread nD τ).loc main_arg2)) (m ((c : Thread nD τ).loc main_arg3)) T

/-- One grid point's centred rows. -/
theorem centred (t : Fin cfg0.N) (U W : Vec Ideal S1024x2048 .bf16)
    (hU : ∀ y l, U (ix2 y l) = m ((c : Thread nD τ).loc main_arg1) (ix2 (⟨y.val, by omega⟩ : Fin 2048) l))
    (hW : ∀ y l, W (ix2 y l) = m ((c : Thread nD τ).loc main_arg1) (ix2 (⟨1024 + y.val, by omega⟩ : Fin 2048) l))
    (r : Fin 512) (l : Fin 2048) :
    k0_pay4 (iblk m c 0 t) U (iblk m c 1 t) W (iblk m c 3 t) (iblk m c 4 t) (ix2 r l) =
      before m c (tok t r) l - mean (before m c (tok t r)) := by
  pointwise [k0_pay4]
  simp only [hU, hW, block0, block1, block3, block4]
  rfl

/-- One grid point's tile: the normed rows of its tokens. -/
theorem point_out (t : Fin cfg0.N) (r : Fin 512) (l : Fin 2048) :
    out0_7 (iblk m c 0 t) (iblk m c 1 t) (iblk m c 2 t) (iblk m c 3 t) (iblk m c 4 t) (iblk m c 5 t) (iblk m c 6 t) (ix2 r l) =
      layerNorm (before m c (tok t r)) (m ((c : Thread nD τ).loc main_arg4)) (m ((c : Thread nD τ).loc main_arg5)) l := by
  unfold out0_7
  rw [View.canon_unit_zero zeros2]
  simp only [View.ld_unit_zero (S := S512x1024) zeros2, View.ld_unit_zero (S := S512x2048) zeros2, View.ld_unit_zero (S := S1x2048) zeros2,
    View.ld_unit_zero (S := S1x512x2048) zeros3]
  have hU : ∀ (y : Fin 1024) (l : Fin 2048), View.ld (iblk m c 2 t) r0_1 (ix2 y l) =
      m ((c : Thread nD τ).loc main_arg1) (ix2 (⟨y.val, by omega⟩ : Fin 2048) l) := fun y l => by
    refine (View.ld_unit_apply_of _ _ _ _ _ (ix2 (⟨y.val, by omega⟩ : Fin 2048) l) fun a => ?_).trans (block2 m c t _ l)
    match a with
    | ⟨0, _⟩ => show y.val = 0 + y.val; omega
    | ⟨1, _⟩ => show l.val = 0 + l.val; omega
  have hW : ∀ (y : Fin 1024) (l : Fin 2048), View.ld (iblk m c 2 t) r0_2 (ix2 y l) =
      m ((c : Thread nD τ).loc main_arg1) (ix2 (⟨1024 + y.val, by omega⟩ : Fin 2048) l) := fun y l => by
    refine (View.ld_unit_apply_of _ _ _ _ _ (ix2 (⟨1024 + y.val, by omega⟩ : Fin 2048) l) fun a => ?_).trans (block2 m c t _ l)
    match a with
    | ⟨0, _⟩ => rfl
    | ⟨1, _⟩ => show l.val = 0 + l.val; omega
  have hz := centred m c t _ _ hU hW
  unfold k0_pay5
  generalize k0_pay4 (iblk m c 0 t) (View.ld (iblk m c 2 t) r0_1) (iblk m c 1 t) (View.ld (iblk m c 2 t) r0_2) (iblk m c 3 t) (iblk m c 4 t) = Z at hz ⊢
  pointwise [k0_pay1, k0_pay2, k0_pay3]
  simp only [hz, block5, block6]
  rfl

/-- The kernel's result array holds the normed rows. -/
theorem kernel_value (T : Fin 512) (l : Fin 2048) :
    ((dats m 0 c).arrAt 7 cfg0.N : (⟨2, ![512, 2048]⟩ : Shape).Idx → EReal) (ix2 T l) =
      layerNorm (before m c T) (m ((c : Thread nD τ).loc main_arg4)) (m ((c : Thread nD τ).loc main_arg5)) l := by
  have hb : T.val / 512 < cfg0.N := lt_of_lt_of_eq (by omega) (show cfg0.N = 1 from N_0).symm
  have hT : tok ⟨T.val / 512, hb⟩ ⟨T.val % 512, by omega⟩ = T := Fin.ext (by
    show 512 * (T.val / 512) + T.val % 512 = T.val
    omega)
  have key := congrFun (blocks7 m c ⟨T.val / 512, hb⟩ (flush0_7 _)) (ix2 (⟨T.val % 512, by omega⟩ : Fin 512) l)
  rw [View.read_apply, flushed7] at key
  have he : ((cfg0.win 7).blk ⟨T.val / 512, hb⟩).view.emb (ix2 (⟨T.val % 512, by omega⟩ : Fin 512) l) = ix2 T l := by
    funext a
    apply Fin.ext
    match a with
    | ⟨0, _⟩ => show win0_7.index ⟨T.val / 512, hb⟩ 0 * 512 + 1 * (T.val % 512) = T.val; rw [(at7 _).1]; show T.val / 512 * 512 + _ = _; omega
    | ⟨1, _⟩ => show win0_7.index ⟨T.val / 512, hb⟩ 1 * 2048 + 1 * l.val = l.val; rw [(at7 _).2]; omega
  rw [he] at key
  refine key.trans ?_
  refine Eq.trans ?_ ((point_out m c ⟨T.val / 512, hb⟩ ⟨T.val % 512, by omega⟩ l).trans (by rw [hT]))
  rfl

/-- The kernel and the reference leave the same array. -/
theorem tie : Cert.algebraic_OddOutSampleIdeal_OddOutSampleRefIdeal := by
  intro m ρ m' ρ' _ hagree
  refine ⟨_, Cert.OddOutSampleIdeal.Value.run_blocks (F := Ideal) m ρ, ?_⟩
  refine (θ_run Cert.OddOutSampleRefIdeal.defs _ _).mono (fun _ h c => ⟨?_, (h c).2⟩) (Cert.OddOutSampleRefIdeal.Value.run (F := Ideal) m' ρ')
  rw [(h c).1]
  refine (Cert.OddOutSampleRefIdeal.Read.val_main_v33_eq (F := Ideal) m' c).trans ?_
  funext i
  obtain ⟨T, l, rfl⟩ : ∃ (T : Fin 512) (l : Fin 2048), i = ix2 T l := ⟨i 0, i 1, funext fun a => by
    match a with
    | ⟨0, _⟩ => rfl
    | ⟨1, _⟩ => rfl⟩
  refine (Ref.value _ _ _ _ _ _ T l).trans (Eq.trans ?_ (kernel_value m c T l).symm)
  obtain ⟨e0, e1, e2, e3, e4, e5⟩ := hagree c
  unfold before
  rw [← e0, ← e1, ← e2, ← e3, ← e4, ← e5]
end Cert.OddOutSampleProof
-- ==== Proof.ModPromptProj.lean ====
module
public import proofs.«01_k».proof.Proof.OutSpec
public import proofs.«01_k».proof.Defs
public import proofs.«01_k».proof.Proof.Gen.ModPromptIdeal.Value
public import proofs.«01_k».proof.Proof.Gen.ModPromptRefIdeal.Run
public import proofs.«01_k».proof.Proof.Gen.ModPromptRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The modulated activations of the prompt batch

Each grid point scales one tile of tokens by one plus the scale and adds the shift. -/
namespace Cert.ModPromptProof
open Idealize.ShloMosaic Idealize.ShloMosaic.Pointwise Cert.OutProj Cert.ModPromptIdeal Cert.ModPromptIdeal.Gen Cert.ModPromptIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = t.val / 4 ∧ win0_1.index t 1 = 0 ∧ win0_1.index t 2 = 0 := by decide +kernel
theorem at2 : ∀ t : Fin cfg0.N, win0_2.index t 0 = t.val / 4 ∧ win0_2.index t 1 = 0 ∧ win0_2.index t 2 = 0 := by decide +kernel
theorem at3 : ∀ t : Fin cfg0.N, win0_3.index t 0 = t.val ∧ win0_3.index t 1 = 0 := by decide +kernel

/-- The token that row `r` of point `t`'s tile holds. -/
def tok (t : Fin cfg0.N) (r : Fin 512) : Fin 8192 :=
  ⟨512 * t.val + r.val, by have := lt_of_lt_of_eq t.isLt (show cfg0.N = 16 from N_0); omega⟩

variable (m : (ℓ : Loc nD τ sig) → Buf (Elt Ideal) ℓ) (c : Dev nD)

theorem block0 (t : Fin cfg0.N) (r : Fin 512) (l : Fin 2048) : (iblk m c 0 t : Vec Ideal S512x2048 .f32) (ix2 r l) =
    m ((c : Thread nD τ).loc main_arg0) (ix2 (tok t r) l) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(at0 t).1]; first | done | omega
  | ⟨1, _⟩ => show win0_0.index t 1 * 2048 + 1 * l.val = l.val; rw [(at0 t).2]; first | done | omega

theorem block1 (t : Fin cfg0.N) (l : Fin 2048) : (iblk m c 1 t : Vec Ideal S1x1x2048 .f32) (ix3 0 0 l) =
    m ((c : Thread nD τ).loc main_arg1) (ix3 (⟨t.val / 4, by have := lt_of_lt_of_eq t.isLt (show cfg0.N = 16 from N_0); omega⟩ : Fin 4) 0 l) := by
  unfold iblk
  rw [View.read_apply]
  show V m c main_arg1 _ = _
  rw [V_main_arg1]
  congr 1
  funext a
  apply Fin.ext
  match a with
  | ⟨0, _⟩ => show win0_1.index t 0 * 1 + 1 * 0 = t.val / 4; rw [(at1 t).1]; first | done | omega
  | ⟨1, _⟩ => show win0_1.index t 1 * 1 + 1 * 0 = 0; rw [(at1 t).2.1]; first | done | omega
  | ⟨2, _⟩ => show win0_1.index t 2 * 2048 + 1 * l.val = l.val; rw [(at1 t).2.2]; first | done | omega

theorem block2 (t : Fin cfg0.N) (l : Fin 2048) : (iblk m c 2 t : Vec Ideal S1x1x2048 .f32) (ix3 0 0 l) =
    m ((c : Thread nD τ).loc main_arg2) (ix3 (⟨t.val / 4, by have := lt_of_lt_of_eq t.isLt (show cfg0.N = 16 from N_0); omega⟩ : Fin 4) 0 l) := by
  unfold iblk
  rw [View.read_apply]
  show V m c main_arg2 _ = _
  rw [V_main_arg2]
  congr 1
  funext a
  apply Fin.ext
  match a with
  | ⟨0, _⟩ => show win0_2.index t 0 * 1 + 1 * 0 = t.val / 4; rw [(at2 t).1]; first | done | omega
  | ⟨1, _⟩ => show win0_2.index t 1 * 1 + 1 * 0 = 0; rw [(at2 t).2.1]; first | done | omega
  | ⟨2, _⟩ => show win0_2.index t 2 * 2048 + 1 * l.val = l.val; rw [(at2 t).2.2]; first | done | omega

/-- The modulated activation of token `T`, lane `l`. -/
def modulated (x : (⟨S8192x2048, .f32⟩ : BufTy).Contents (Elt Ideal)) (shift scale : (⟨S4x1x2048, .f32⟩ : BufTy).Contents (Elt Ideal))
    (T : Fin 8192) (l : Fin 2048) : EReal := x (ix2 T l) * (1 + scale (ix3 (⟨T.val / 2048, by omega⟩ : Fin 4) 0 l)) + shift (ix3 (⟨T.val / 2048, by omega⟩ : Fin 4) 0 l)

/-- The reference holds the modulated activations. -/
theorem reference_value (x : (⟨S8192x2048, .f32⟩ : BufTy).Contents (Elt Ideal)) (shift scale : (⟨S4x1x2048, .f32⟩ : BufTy).Contents (Elt Ideal))
    (T : Fin 8192) (l : Fin 2048) : Cert.ModPromptRefIdeal.Read.val_main_v8 x shift scale (ix2 T l) = modulated x shift scale T l := by
  pointwise [Cert.ModPromptRefIdeal.Read.val_main_v8, Cert.ModPromptRefIdeal.Read.val_main_v7, Cert.ModPromptRefIdeal.Read.val_main_v6, Cert.ModPromptRefIdeal.Read.val_main_v5, Cert.ModPromptRefIdeal.Read.val_main_v4, Cert.ModPromptRefIdeal.Read.val_main_v3, Cert.ModPromptRefIdeal.Read.val_main_v2, Cert.ModPromptRefIdeal.Read.val_main_v1, Cert.ModPromptRefIdeal.Read.val_main_v0, Cert.ModPromptRefIdeal.Read.val_main_cst]
  rfl

theorem point_out (t : Fin cfg0.N) (r : Fin 512) (l : Fin 2048) :
    out0_3 (iblk m c 0 t) (iblk m c 1 t) (iblk m c 2 t) (ix2 r l) =
      modulated (m ((c : Thread nD τ).loc main_arg0)) (m ((c : Thread nD τ).loc main_arg1)) (m ((c : Thread nD τ).loc main_arg2)) (tok t r) l := by
  unfold out0_3
  rw [View.canon_unit_zero zeros2]
  simp only [View.ld_unit_zero (S := S512x2048) zeros2, View.ld_unit_zero (S := S1x1x2048) zeros3]
  have hi : (⟨(tok t r).val / 2048, by omega⟩ : Fin 4) = ⟨t.val / 4, by have := lt_of_lt_of_eq t.isLt (show cfg0.N = 16 from N_0); omega⟩ := Fin.ext (by
    show (512 * t.val + r.val) / 2048 = t.val / 4
    omega)
  pointwise [k0_pay1]
  simp only [block0, block1, block2]
  unfold modulated
  rw [hi]

/-- The kernel's result array holds the modulated activations. -/
theorem kernel_value (T : Fin 8192) (l : Fin 2048) :
    ((dats m 0 c).arrAt 3 cfg0.N : (⟨2, ![8192, 2048]⟩ : Shape).Idx → EReal) (ix2 T l) =
      modulated (m ((c : Thread nD τ).loc main_arg0)) (m ((c : Thread nD τ).loc main_arg1)) (m ((c : Thread nD τ).loc main_arg2)) T l := by
  have hb : T.val / 512 < cfg0.N := lt_of_lt_of_eq (by omega) (show cfg0.N = 16 from N_0).symm
  have hT : tok ⟨T.val / 512, hb⟩ ⟨T.val % 512, by omega⟩ = T := Fin.ext (by
    show 512 * (T.val / 512) + T.val % 512 = T.val
    omega)
  have key := congrFun (blocks3 m c ⟨T.val / 512, hb⟩ (flush0_3 _)) (ix2 (⟨T.val % 512, by omega⟩ : Fin 512) l)
  rw [View.read_apply, flushed3] at key
  have he : ((cfg0.win 3).blk ⟨T.val / 512, hb⟩).view.emb (ix2 (⟨T.val % 512, by omega⟩ : Fin 512) l) = ix2 T l := by
    funext a
    apply Fin.ext
    match a with
    | ⟨0, _⟩ => show win0_3.index ⟨T.val / 512, hb⟩ 0 * 512 + 1 * (T.val % 512) = T.val; rw [(at3 _).1]; show T.val / 512 * 512 + _ = _; omega
    | ⟨1, _⟩ => show win0_3.index ⟨T.val / 512, hb⟩ 1 * 2048 + 1 * l.val = l.val; rw [(at3 _).2]; omega
  rw [he] at key
  refine key.trans ?_
  refine Eq.trans ?_ ((point_out m c ⟨T.val / 512, hb⟩ ⟨T.val % 512, by omega⟩ l).trans (by rw [hT]))
  rfl

/-- The kernel and the reference leave the same array. -/
theorem tie : Cert.algebraic_ModPromptIdeal_ModPromptRefIdeal := by
  intro m ρ m' ρ' _ hagree
  refine ⟨_, Cert.ModPromptIdeal.Value.run_blocks (F := Ideal) m ρ, ?_⟩
  refine (θ_run Cert.ModPromptRefIdeal.defs _ _).mono (fun _ h c => ⟨?_, (h c).2⟩) (Cert.ModPromptRefIdeal.Value.run (F := Ideal) m' ρ')
  rw [(h c).1]
  refine (Cert.ModPromptRefIdeal.Read.val_main_v8_eq (F := Ideal) _ _ _).trans ?_
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine (reference_value _ _ _ T l).trans (Eq.trans ?_ (kernel_value m c T l).symm)
  obtain ⟨e0, e1, e2⟩ := hagree c
  rw [← e0, ← e1, ← e2]
end Cert.ModPromptProof
-- ==== Proof.ModSampleProj.lean ====
module
public import proofs.«01_k».proof.Proof.OutSpec
public import proofs.«01_k».proof.Defs
public import proofs.«01_k».proof.Proof.Gen.ModSampleIdeal.Value
public import proofs.«01_k».proof.Proof.Gen.ModSampleRefIdeal.Run
public import proofs.«01_k».proof.Proof.Gen.ModSampleRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The modulated activations of the sample batch

Each grid point scales one tile of tokens by one plus the scale and adds the shift. -/
namespace Cert.ModSampleProof
open Idealize.ShloMosaic Idealize.ShloMosaic.Pointwise Cert.OutProj Cert.ModSampleIdeal Cert.ModSampleIdeal.Gen Cert.ModSampleIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = 0 ∧ win0_1.index t 1 = t.val ∧ win0_1.index t 2 = 0 := by decide +kernel
theorem at2 : ∀ t : Fin cfg0.N, win0_2.index t 0 = 0 ∧ win0_2.index t 1 = t.val ∧ win0_2.index t 2 = 0 := by decide +kernel
theorem at3 : ∀ t : Fin cfg0.N, win0_3.index t 0 = t.val ∧ win0_3.index t 1 = 0 := by decide +kernel

/-- The token that row `r` of point `t`'s tile holds. -/
def tok (t : Fin cfg0.N) (r : Fin 512) : Fin 512 :=
  ⟨512 * t.val + r.val, by have := lt_of_lt_of_eq t.isLt (show cfg0.N = 1 from N_0); omega⟩

variable (m : (ℓ : Loc nD τ sig) → Buf (Elt Ideal) ℓ) (c : Dev nD)

theorem block0 (t : Fin cfg0.N) (r : Fin 512) (l : Fin 2048) : (iblk m c 0 t : Vec Ideal S512x2048 .f32) (ix2 r l) =
    m ((c : Thread nD τ).loc main_arg0) (ix2 (tok t r) l) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(at0 t).1]; first | done | omega
  | ⟨1, _⟩ => show win0_0.index t 1 * 2048 + 1 * l.val = l.val; rw [(at0 t).2]; first | done | omega

theorem block1 (t : Fin cfg0.N) (r : Fin 512) (l : Fin 2048) : (iblk m c 1 t : Vec Ideal S1x512x2048 .f32) (ix3 0 r l) =
    m ((c : Thread nD τ).loc main_arg1) (ix3 0 (tok t r) l) := by
  unfold iblk
  rw [View.read_apply]
  show V m c main_arg1 _ = _
  rw [V_main_arg1]
  congr 1
  funext a
  apply Fin.ext
  match a with
  | ⟨0, _⟩ => show win0_1.index t 0 * 1 + 1 * 0 = 0; rw [(at1 t).1]; first | done | omega
  | ⟨1, _⟩ => show win0_1.index t 1 * 512 + 1 * r.val = 512 * t.val + r.val; rw [(at1 t).2.1]; first | done | omega
  | ⟨2, _⟩ => show win0_1.index t 2 * 2048 + 1 * l.val = l.val; rw [(at1 t).2.2]; first | done | omega

theorem block2 (t : Fin cfg0.N) (r : Fin 512) (l : Fin 2048) : (iblk m c 2 t : Vec Ideal S1x512x2048 .f32) (ix3 0 r l) =
    m ((c : Thread nD τ).loc main_arg2) (ix3 0 (tok t r) l) := by
  unfold iblk
  rw [View.read_apply]
  show V m c main_arg2 _ = _
  rw [V_main_arg2]
  congr 1
  funext a
  apply Fin.ext
  match a with
  | ⟨0, _⟩ => show win0_2.index t 0 * 1 + 1 * 0 = 0; rw [(at2 t).1]; first | done | omega
  | ⟨1, _⟩ => show win0_2.index t 1 * 512 + 1 * r.val = 512 * t.val + r.val; rw [(at2 t).2.1]; first | done | omega
  | ⟨2, _⟩ => show win0_2.index t 2 * 2048 + 1 * l.val = l.val; rw [(at2 t).2.2]; first | done | omega

/-- The modulated activation of token `T`, lane `l`. -/
def modulated (x : (⟨S512x2048, .f32⟩ : BufTy).Contents (Elt Ideal)) (shift scale : (⟨S1x512x2048, .f32⟩ : BufTy).Contents (Elt Ideal))
    (T : Fin 512) (l : Fin 2048) : EReal := x (ix2 T l) * (1 + scale (ix3 0 T l)) + shift (ix3 0 T l)

/-- The reference holds the modulated activations. -/
theorem reference_value (x : (⟨S512x2048, .f32⟩ : BufTy).Contents (Elt Ideal)) (shift scale : (⟨S1x512x2048, .f32⟩ : BufTy).Contents (Elt Ideal))
    (T : Fin 512) (l : Fin 2048) : Cert.ModSampleRefIdeal.Read.val_main_v6 x shift scale (ix2 T l) = modulated x shift scale T l := by
  pointwise [Cert.ModSampleRefIdeal.Read.val_main_v6, Cert.ModSampleRefIdeal.Read.val_main_v5, Cert.ModSampleRefIdeal.Read.val_main_v4, Cert.ModSampleRefIdeal.Read.val_main_v3, Cert.ModSampleRefIdeal.Read.val_main_v2, Cert.ModSampleRefIdeal.Read.val_main_v1, Cert.ModSampleRefIdeal.Read.val_main_v0, Cert.ModSampleRefIdeal.Read.val_main_cst]
  rfl

theorem point_out (t : Fin cfg0.N) (r : Fin 512) (l : Fin 2048) :
    out0_3 (iblk m c 0 t) (iblk m c 1 t) (iblk m c 2 t) (ix2 r l) =
      modulated (m ((c : Thread nD τ).loc main_arg0)) (m ((c : Thread nD τ).loc main_arg1)) (m ((c : Thread nD τ).loc main_arg2)) (tok t r) l := by
  unfold out0_3
  rw [View.canon_unit_zero zeros2]
  simp only [View.ld_unit_zero (S := S512x2048) zeros2, View.ld_unit_zero (S := S1x512x2048) zeros3]
  pointwise [k0_pay1]
  simp only [block0, block1, block2]
  unfold modulated
  rfl

/-- The kernel's result array holds the modulated activations. -/
theorem kernel_value (T : Fin 512) (l : Fin 2048) :
    ((dats m 0 c).arrAt 3 cfg0.N : (⟨2, ![512, 2048]⟩ : Shape).Idx → EReal) (ix2 T l) =
      modulated (m ((c : Thread nD τ).loc main_arg0)) (m ((c : Thread nD τ).loc main_arg1)) (m ((c : Thread nD τ).loc main_arg2)) T l := by
  have hb : T.val / 512 < cfg0.N := lt_of_lt_of_eq (by omega) (show cfg0.N = 1 from N_0).symm
  have hT : tok ⟨T.val / 512, hb⟩ ⟨T.val % 512, by omega⟩ = T := Fin.ext (by
    show 512 * (T.val / 512) + T.val % 512 = T.val
    omega)
  have key := congrFun (blocks3 m c ⟨T.val / 512, hb⟩ (flush0_3 _)) (ix2 (⟨T.val % 512, by omega⟩ : Fin 512) l)
  rw [View.read_apply, flushed3] at key
  have he : ((cfg0.win 3).blk ⟨T.val / 512, hb⟩).view.emb (ix2 (⟨T.val % 512, by omega⟩ : Fin 512) l) = ix2 T l := by
    funext a
    apply Fin.ext
    match a with
    | ⟨0, _⟩ => show win0_3.index ⟨T.val / 512, hb⟩ 0 * 512 + 1 * (T.val % 512) = T.val; rw [(at3 _).1]; show T.val / 512 * 512 + _ = _; omega
    | ⟨1, _⟩ => show win0_3.index ⟨T.val / 512, hb⟩ 1 * 2048 + 1 * l.val = l.val; rw [(at3 _).2]; omega
  rw [he] at key
  refine key.trans ?_
  refine Eq.trans ?_ ((point_out m c ⟨T.val / 512, hb⟩ ⟨T.val % 512, by omega⟩ l).trans (by rw [hT]))
  rfl

/-- The kernel and the reference leave the same array. -/
theorem tie : Cert.algebraic_ModSampleIdeal_ModSampleRefIdeal := by
  intro m ρ m' ρ' _ hagree
  refine ⟨_, Cert.ModSampleIdeal.Value.run_blocks (F := Ideal) m ρ, ?_⟩
  refine (θ_run Cert.ModSampleRefIdeal.defs _ _).mono (fun _ h c => ⟨?_, (h c).2⟩) (Cert.ModSampleRefIdeal.Value.run (F := Ideal) m' ρ')
  rw [(h c).1]
  refine (Cert.ModSampleRefIdeal.Read.val_main_v6_eq (F := Ideal) _ _ _).trans ?_
  funext i
  obtain ⟨T, l, rfl⟩ : ∃ (T : Fin 512) (l : Fin 2048), i = ix2 T l := ⟨i 0, i 1, funext fun a => by
    match a with
    | ⟨0, _⟩ => rfl
    | ⟨1, _⟩ => rfl⟩
  refine (reference_value _ _ _ T l).trans (Eq.trans ?_ (kernel_value m c T l).symm)
  obtain ⟨e0, e1, e2⟩ := hagree c
  rw [← e0, ← e1, ← e2]
end Cert.ModSampleProof
-- ==== Proof.AdaProj.lean ====
module
public import proofs.«01_k».proof.Proof.OutSpec
public import proofs.«01_k».proof.Defs
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The modulation vectors

Each grid point multiplies the activated conditioning rows by one column tile of one sublayer's weight and adds the bias. -/
namespace Cert.AdaProof
open Idealize.ShloMosaic Idealize.ShloMosaic.Pointwise Cert.OutProj Cert.AdaIdeal Cert.AdaIdeal.Gen Cert.AdaIdeal.Value Idealize.ShloMosaic.TcCoe Idealize.SL.Sem

theorem at0 : ∀ t : Fin cfg0.N, win0_0.index t 0 = 0 ∧ win0_0.index t 1 = 0 := by decide +kernel
theorem at1 : ∀ t : Fin cfg0.N, win0_1.index t 0 = t.val / 8 ∧ win0_1.index t 1 = 0 ∧ win0_1.index t 2 = t.val % 8 := by decide +kernel
theorem at2 : ∀ t : Fin cfg0.N, win0_2.index t 0 = t.val / 8 ∧ win0_2.index t 1 = 0 ∧ win0_2.index t 2 = t.val % 8 := by decide +kernel
theorem at3 : ∀ t : Fin cfg0.N, win0_3.index t 0 = t.val / 8 ∧ win0_3.index t 1 = 0 ∧ win0_3.index t 2 = t.val % 8 := by decide +kernel

/-- The sublayer of point `t`. -/
def sub (t : Fin cfg0.N) : Fin 4 := ⟨t.val / 8, by have := lt_of_lt_of_eq t.isLt (show cfg0.N = 32 from N_0); omega⟩
/-- The column that lane `l` of point `t`'s tile holds. -/
def col (t : Fin cfg0.N) (l : Fin 768) : Fin 6144 := ⟨768 * (t.val % 8) + l.val, by omega⟩

variable (m : (ℓ : Loc nD τ sig) → Buf (Elt Ideal) ℓ) (c : Dev nD)

theorem block0 (t : Fin cfg0.N) (r : Fin 132) (l : Fin 2048) : (iblk m c 0 t : Vec Ideal S132x2048 .f32) (ix2 r l) =
    m ((c : Thread nD τ).loc main_arg0) (ix2 r l) := by
  unfold iblk
  rw [View.read_apply]
  show V m c main_arg0 _ = _
  rw [V_main_arg0]
  congr 1
  funext a
  apply Fin.ext
  match a with
  | ⟨0, _⟩ => show win0_0.index t 0 * 132 + 1 * r.val = r.val; rw [(at0 t).1]; first | done | omega
  | ⟨1, _⟩ => show win0_0.index t 1 * 2048 + 1 * l.val = l.val; rw [(at0 t).2]; first | done | omega

theorem block1 (t : Fin cfg0.N) (r : Fin 2048) (l : Fin 768) : (iblk m c 1 t : Vec Ideal S1x2048x768 .f32) (ix3 0 r l) =
    m ((c : Thread nD τ).loc main_arg1) (ix3 (sub t) r (col t l)) := by
  unfold iblk
  rw [View.read_apply]
  show V m c main_arg1 _ = _
  rw [V_main_arg1]
  congr 1
  funext a
  apply Fin.ext
  match a with
  | ⟨0, _⟩ => show win0_1.index t 0 * 1 + 1 * 0 = t.val / 8; rw [(at1 t).1]; first | done | omega
  | ⟨1, _⟩ => show win0_1.index t 1 * 2048 + 1 * r.val = r.val; rw [(at1 t).2.1]; first | done | omega
  | ⟨2, _⟩ => show win0_1.index t 2 * 768 + 1 * l.val = 768 * (t.val % 8) + l.val; rw [(at1 t).2.2]; first | done | omega

theorem block2 (t : Fin cfg0.N) (l : Fin 768) : (iblk m c 2 t : Vec Ideal S1x1x768 .f32) (ix3 0 0 l) =
    m ((c : Thread nD τ).loc main_arg2) (ix2 (sub t) (col t l)) := by
  unfold iblk
  rw [View.read_apply]
  have e : ((cfg0.win 2).blk t).view.emb (ix3 0 0 l) = ix3 (sub t) 0 (col t l) := by
    funext a
    apply Fin.ext
    match a with
    | ⟨0, _⟩ => show win0_2.index t 0 * 1 + 1 * 0 = t.val / 8; rw [(at2 t).1]; omega
    | ⟨1, _⟩ => show win0_2.index t 1 * 1 + 1 * 0 = 0; rw [(at2 t).2.1]
    | ⟨2, _⟩ => show win0_2.index t 2 * 768 + 1 * l.val = 768 * (t.val % 8) + l.val; rw [(at2 t).2.2]; omega
  rw [e]
  show V m c main_v0 (ix3 (sub t) 0 (col t l)) = _
  unfold V hostOps0
  after_reads_simp
  pointwise

/-- The modulation of row `r` for sublayer `s`, lane `n`. -/
def modulation (x : (⟨S132x2048, .f32⟩ : BufTy).Contents (Elt Ideal)) (w : (⟨S4x2048x6144, .f32⟩ : BufTy).Contents (Elt Ideal))
    (b : (⟨S4x6144, .f32⟩ : BufTy).Contents (Elt Ideal)) (s : Fin 4) (r : Fin 132) (n : Fin 6144) : EReal :=
  ∑ y, (x (ix2 r y) * Ideal.logistic (x (ix2 r y))) * w (ix3 s y n) + b (ix2 s n)

/-- The reference holds the modulations. -/
theorem reference_value (x : (⟨S132x2048, .f32⟩ : BufTy).Contents (Elt Ideal)) (w : (⟨S4x2048x6144, .f32⟩ : BufTy).Contents (Elt Ideal))
    (b : (⟨S4x6144, .f32⟩ : BufTy).Contents (Elt Ideal)) (s : Fin 4) (r : Fin 132) (n : Fin 6144) :
    Cert.AdaRefIdeal.Read.val_main_v5 x w b (ix3 s r n) = modulation x w b s r n := by
  pointwise [Cert.AdaRefIdeal.Read.val_main_v5, Cert.AdaRefIdeal.Read.val_main_v4, Cert.AdaRefIdeal.Read.val_main_v3, Cert.AdaRefIdeal.Read.val_main_v2, Cert.AdaRefIdeal.Read.val_main_v1, Cert.AdaRefIdeal.Read.val_main_v0, Cert.AdaRefIdeal.Read.val_main_call0_v5, Cert.AdaRefIdeal.Read.val_main_call0_v4, Cert.AdaRefIdeal.Read.val_main_call0_v3, Cert.AdaRefIdeal.Read.val_main_call0_v2, Cert.AdaRefIdeal.Read.val_main_call0_v1, Cert.AdaRefIdeal.Read.val_main_call0_v0, Cert.AdaRefIdeal.Read.val_main_call0_cst, Cert.AdaRefIdeal.Read.val_main_call0_cst_0]
  unfold modulation
  congr 1
  exact Finset.sum_congr rfl fun y _ => mul_comm _ _

theorem point_out (t : Fin cfg0.N) (r : Fin 132) (l : Fin 768) :
    out0_3 (iblk m c 0 t) (iblk m c 1 t) (iblk m c 2 t) (ix3 0 r l) =
      modulation (m ((c : Thread nD τ).loc main_arg0)) (m ((c : Thread nD τ).loc main_arg1)) (m ((c : Thread nD τ).loc main_arg2)) (sub t) r (col t l) := by
  unfold out0_3
  rw [View.canon_unit_zero zeros3]
  simp only [View.ld_unit_zero (S := S132x2048) zeros2, View.ld_unit_zero (S := S1x2048x768) zeros3, View.ld_unit_zero (S := S1x1x768) zeros3]
  pointwise [k0_pay1]
  simp only [block0, block1, block2]
  rfl

/-- The kernel's result array holds the modulations. -/
theorem kernel_value (s : Fin 4) (r : Fin 132) (n : Fin 6144) :
    ((dats m 0 c).arrAt 3 cfg0.N : (⟨3, ![4, 132, 6144]⟩ : Shape).Idx → EReal) (ix3 s r n) =
      modulation (m ((c : Thread nD τ).loc main_arg0)) (m ((c : Thread nD τ).loc main_arg1)) (m ((c : Thread nD τ).loc main_arg2)) s r n := by
  have hb : 8 * s.val + n.val / 768 < cfg0.N := lt_of_lt_of_eq (by omega) (show cfg0.N = 32 from N_0).symm
  have hs : sub ⟨8 * s.val + n.val / 768, hb⟩ = s := Fin.ext (by
    show (8 * s.val + n.val / 768) / 8 = s.val
    omega)
  have hn : col ⟨8 * s.val + n.val / 768, hb⟩ ⟨n.val % 768, by omega⟩ = n := Fin.ext (by
    show 768 * ((8 * s.val + n.val / 768) % 8) + n.val % 768 = n.val
    omega)
  have key := congrFun (blocks3 m c ⟨8 * s.val + n.val / 768, hb⟩ (flush0_3 _)) (ix3 (0 : Fin 1) r (⟨n.val % 768, by omega⟩ : Fin 768))
  rw [View.read_apply, flushed3] at key
  have he : ((cfg0.win 3).blk ⟨8 * s.val + n.val / 768, hb⟩).view.emb (ix3 (0 : Fin 1) r (⟨n.val % 768, by omega⟩ : Fin 768)) = ix3 s r n := by
    funext a
    apply Fin.ext
    match a with
    | ⟨0, _⟩ => show win0_3.index ⟨8 * s.val + n.val / 768, hb⟩ 0 * 1 + 1 * 0 = s.val; rw [(at3 _).1]; show (8 * s.val + n.val / 768) / 8 * 1 + 1 * 0 = _; omega
    | ⟨1, _⟩ => show win0_3.index ⟨8 * s.val + n.val / 768, hb⟩ 1 * 132 + 1 * r.val = r.val; rw [(at3 _).2.1]; omega
    | ⟨2, _⟩ => show win0_3.index ⟨8 * s.val + n.val / 768, hb⟩ 2 * 768 + 1 * (n.val % 768) = n.val; rw [(at3 _).2.2]; show (8 * s.val + n.val / 768) % 8 * 768 + _ = _; omega
  rw [he] at key
  refine key.trans ?_
  refine Eq.trans ?_ ((point_out m c ⟨8 * s.val + n.val / 768, hb⟩ r ⟨n.val % 768, by omega⟩).trans (by rw [hs, hn]))
  rfl

/-- The kernel and the reference leave the same array. -/
theorem tie : Cert.algebraic_AdaIdeal_AdaRefIdeal := by
  intro m ρ m' ρ' _ hagree
  refine ⟨_, Cert.AdaIdeal.Value.run_blocks (F := Ideal) m ρ, ?_⟩
  refine (θ_run Cert.AdaRefIdeal.defs _ _).mono (fun _ h c => ⟨?_, (h c).2⟩) (Cert.AdaRefIdeal.Value.run (F := Ideal) m' ρ')
  rw [(h c).1]
  refine (Cert.AdaRefIdeal.Read.val_main_v5_eq (F := Ideal) _ _ _).trans ?_
  funext i
  obtain ⟨s, r, n, rfl⟩ : ∃ (s : Fin 4) (r : Fin 132) (n : Fin 6144), i = ix3 s r n := ⟨i 0, i 1, i 2, funext fun a => by
    match a with
    | ⟨0, _⟩ => rfl
    | ⟨1, _⟩ => rfl
    | ⟨2, _⟩ => rfl⟩
  refine (reference_value _ _ _ s r n).trans (Eq.trans ?_ (kernel_value m c s r n).symm)
  obtain ⟨e0, e1, e2⟩ := hagree c
  rw [← e0, ← e1, ← e2]
end Cert.AdaProof
-- ==== Proof.CmpSpec.lean ====
module
public import proofs.«01_k».proof.Proof.OutSpec
public import Idealize.ShloMosaic.Lib.Pipeline.Value
@[expose] public section
noncomputable section

/-! # The first layer of the block compression, half block by half block

A half block is 16 tokens of one key or value head, laid out as one row of 2048 numbers. A compressed block is made of two
half blocks, so each half block is multiplied once as the first half of a block and once as the second half. -/
namespace Cert.Compress
open Idealize.ShloMosaic Idealize.ShloMosaic.Pointwise

/-- The token of entry `y` of a half block's row. -/
def place (y : Fin 2048) : Fin 16 := ⟨y.val / 128, by omega⟩
/-- The lane of entry `y` of a half block's row. -/
def lane (y : Fin 2048) : Fin 128 := ⟨y.val % 128, by omega⟩

/-- A half block's product with one column of its half of the weight, after its half of the position table is added. -/
def share (x pe : Fin 16 → Fin 128 → EReal) (w : Fin 2048 → EReal) : EReal :=
  ∑ y, (x (place y) (lane y) + pe (place y) (lane y)) * w y

/-- A term of a product whose indices are equal. -/
theorem term_congr {α β γ δ ε : Type} (f : α → β → EReal) (g : γ → δ → EReal) (h : ε → EReal) {a a' : α} {b b' : β} {p p' : γ} {l l' : δ} {k k' : ε}
    (ha : a = a') (hb : b = b') (hp : p = p') (hl : l = l') (hk : k = k') : (f a b + g p l) * h k = (f a' b' + g p' l') * h k' := by
  subst ha hb hp hl hk
  rfl

/-- Sixteen tiles side by side, read at row `r` and column `y`. -/
theorem side_by_side (v : Fin 16 → ((⟨2, ![512, 128]⟩ : Shape).Idx → EReal))
    (h : Shape.Concatenates ((List.ofFn fun n : Fin 16 => (⟨⟨2, ![512, 128]⟩, v n⟩ : (s : Shape) × (s.Idx → EReal))).map (·.1)) ⟨2, ![512, 2048]⟩ 1)
    (r : Fin 512) (y : Fin 2048) :
    concatenate ⟨2, ![512, 2048]⟩ 1 (List.ofFn fun n : Fin 16 => (⟨⟨2, ![512, 128]⟩, v n⟩ : (s : Shape) × (s.Idx → EReal))) h (ix2 r y) =
      v (place y) (ix2 r (lane y)) := by
  refine Idealize.ShloMosaic.concatenate_ofFn_apply (t := ⟨2, ![512, 2048]⟩) (s₁ := ⟨2, ![512, 128]⟩) (1 : Fin 2) v h rfl 128 rfl (ix2 r y) (place y) rfl (ix2 r (lane y)) rfl ?_
  intro b hb
  match b with
  | ⟨0, _⟩ => rfl
  | ⟨1, _⟩ => exact absurd rfl hb
end Cert.Compress
-- ==== Proof.CmpPromptProj.lean ====
module
public import proofs.«01_k».proof.Proof.CmpSpec
public import proofs.«01_k».proof.Defs
public import proofs.«01_k».proof.Proof.Gen.CmpPromptIdeal.Value
public import proofs.«01_k».proof.Proof.Gen.CmpPromptRefIdeal.Run
public import proofs.«01_k».proof.Proof.Gen.CmpPromptRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The first layer of the prompt batch's block compression

The kernel reads the 16 tokens of each half block as 16 column tiles of one row and joins them per head. -/
namespace Cert.CmpPromptProof
open Idealize.ShloMosaic Idealize.ShloMosaic.Pointwise Cert.OutProj Cert.Compress Cert.CmpPromptIdeal Cert.CmpPromptIdeal.Gen Cert.CmpPromptIdeal.Value Idealize.ShloMosaic.TcCoe Idealize.SL.Sem

theorem at0 : ∀ t : Fin cfg0.N, win0_0.index t 0 = 0 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel

variable (m : (ℓ : Loc nD τ sig) → Buf (Elt Ideal) ℓ) (c : Dev nD)

/-- A half block's row in the key sequence: its batch, token, and lane of column `C`. -/
theorem block0 (t : Fin cfg0.N) (r : Fin 512) (C : Fin 4096) : (iblk m c 0 t : Vec Ideal S512x4096 .f32) (ix2 r C) =
    m ((c : Thread nD τ).loc main_arg0) (ix3 (⟨r.val / 128, by omega⟩ : Fin 4) (⟨16 * (r.val % 128) + C.val / 256, by omega⟩ : Fin 2048) (⟨C.val % 256, by omega⟩ : Fin 256)) := by
  unfold iblk
  rw [View.read_apply]
  have e : ((cfg0.win 0).blk t).view.emb (ix2 r C) = ix2 r C := by
    funext a
    apply Fin.ext
    match a with
    | ⟨0, _⟩ => show win0_0.index t 0 * 512 + 1 * r.val = r.val; rw [(at0 t).1]; omega
    | ⟨1, _⟩ => show win0_0.index t 1 * 4096 + 1 * C.val = C.val; rw [(at0 t).2]; omega
  rw [e]
  show V m c main_v0 (ix2 r C) = _
  unfold V hostOps0
  after_reads_simp
  refine shapeCast_apply _ _ _ _ ?_
  show (S4x2048x256.rowMajor (ix3 _ _ _)).val = (S512x4096.rowMajor (ix2 r C)).val
  rw [Shape.rowMajor_val_three, Shape.rowMajor_val_two]
  show (r.val / 128 * 2048 + (16 * (r.val % 128) + C.val / 256)) * 256 + C.val % 256 = r.val * 4096 + C.val
  omega

theorem block1 (t : Fin cfg0.N) (i : Fin 2) (y : Fin 2048) : (iblk m c 1 t : Vec Ideal S2x2048 .f32) (ix2 i y) =
    m ((c : Thread nD τ).loc main_arg1) (ix2 (⟨16 * i.val + (place y).val, by omega⟩ : Fin 32) (lane y)) := by
  unfold iblk
  rw [View.read_apply]
  have e : ((cfg0.win 1).blk t).view.emb (ix2 i y) = ix2 i y := by
    funext a
    apply Fin.ext
    match a with
    | ⟨0, _⟩ => show win0_1.index t 0 * 2 + 1 * i.val = i.val; rw [(at1 t).1]; omega
    | ⟨1, _⟩ => show win0_1.index t 1 * 2048 + 1 * y.val = y.val; rw [(at1 t).2]; omega
  rw [e]
  show V m c main_v1 (ix2 i y) = _
  unfold V hostOps0
  after_reads_simp
  refine shapeCast_apply _ _ _ _ ?_
  show (S32x128.rowMajor (ix2 _ _)).val = (S2x2048.rowMajor (ix2 i y)).val
  rw [Shape.rowMajor_val_two, Shape.rowMajor_val_two]
  show (16 * i.val + y.val / 128) * 128 + y.val % 128 = i.val * 2048 + y.val
  omega

theorem block2 (t : Fin cfg0.N) (k : Fin 4096) (j : Fin 256) : (iblk m c 2 t : Vec Ideal S4096x256 .bf16) (ix2 k j) =
    m ((c : Thread nD τ).loc main_arg2) (ix2 k j) := by
  unfold iblk
  rw [View.read_apply]
  show V m c main_arg2 _ = _
  rw [V_main_arg2]
  congr 1
  funext a
  apply Fin.ext
  match a with
  | ⟨0, _⟩ => show win0_2.index t 0 * 4096 + 1 * k.val = k.val; rw [(at2 t).1]; first | done | omega
  | ⟨1, _⟩ => show win0_2.index t 1 * 256 + 1 * j.val = j.val; rw [(at2 t).2]; first | done | omega

/-- Sixteen tiles joined, shifted by a position row and multiplied by a weight half. -/
theorem chain (v : Fin 16 → FVec Ideal S512x128 .f32) (pe : FVec Ideal S1x2048 .f32) (w : FVec Ideal S2048x256 .bf16)
    (h : Shape.Concatenates ((List.ofFn fun n : Fin 16 => (⟨S512x128, v n⟩ : (s : Shape) × (s.Idx → EReal))).map (·.1)) S512x2048 1)
    (r : Fin 512) (j : Fin 256) :
    matmul dot_S512x2048_S2048x256_S512x256_1_0_0_1_n_n none
      (truncf .bf16 (addf (φ := .f32) (concatenate S512x2048 1 (List.ofFn fun n : Fin 16 => (⟨S512x128, v n⟩ : (s : Shape) × (s.Idx → EReal))) h)
        (broadcastTo S512x2048 (shapeCast S1x2048 pe shapeCasts_S1x2048_S1x2048) broadcasts_S1x2048_S512x2048)) bitsLt_bf16_f32)
      w (constant S512x256 .f32 0x00000000#32) (ix2 r j) =
      ∑ y, (v (place y) (ix2 r (lane y)) + pe (ix2 0 y)) * w (ix2 y j) := by
  have hc := side_by_side v h r
  generalize concatenate S512x2048 1 (List.ofFn fun n : Fin 16 => (⟨S512x128, v n⟩ : (s : Shape) × (s.Idx → EReal))) h = X at hc ⊢
  pointwise
  simp only [hc]

/-- The column tile of `x` that starts at column `o`. -/
def tile (x : Vec Ideal S512x4096 .f32) (o : Nat) : FVec Ideal S512x128 .f32 := fun i => x (ix2 (i 0) (⟨(o + (i 1).val) % 4096, by omega⟩ : Fin 4096))

theorem load_tile (x : Vec Ideal S512x4096 .f32) (o : Nat) (h : ∀ a, (![0, o] : Fin 2 → Nat) a + S512x128.size a ≤ S512x4096.size a) :
    View.ld x (Rect.unit (s := S512x4096) ![0, o] S512x128.size h) = tile x o := by
  funext i
  refine View.ld_unit_apply_of _ _ _ _ _ _ ?_
  intro a
  match a with
  | ⟨0, _⟩ => exact (Nat.zero_add _).symm
  | ⟨1, _⟩ =>
    have h1 : (i 1).val < 128 := (i 1).isLt
    have h2 : o + 128 ≤ 4096 := h 1
    exact Nat.mod_eq_of_lt (by omega)

theorem load_pe (x : Vec Ideal S2x2048 .f32) (o : Fin 2) (h : ∀ a, (![o.val, 0] : Fin 2 → Nat) a + S1x2048.size a ≤ S2x2048.size a) (y : Fin 2048) :
    View.ld x (Rect.unit (s := S2x2048) ![o.val, 0] S1x2048.size h) (ix2 0 y) = x (ix2 o y) := by
  refine View.ld_unit_apply_of _ _ _ _ _ _ ?_
  intro a
  match a with
  | ⟨0, _⟩ => exact (Nat.add_zero _).symm
  | ⟨1, _⟩ => exact (Nat.zero_add _).symm

theorem load_w (x : Vec Ideal S4096x256 .bf16) (o : Fin 2) (h : ∀ a, (![2048 * o.val, 0] : Fin 2 → Nat) a + S2048x256.size a ≤ S4096x256.size a) (y : Fin 2048) (j : Fin 256) :
    View.ld x (Rect.unit (s := S4096x256) ![2048 * o.val, 0] S2048x256.size h) (ix2 y j) = x (ix2 (⟨2048 * o.val + y.val, by omega⟩ : Fin 4096) j) := by
  refine View.ld_unit_apply_of _ _ _ _ _ _ ?_
  intro a
  match a with
  | ⟨0, _⟩ => rfl
  | ⟨1, _⟩ => exact (Nat.zero_add _).symm

/-- Row `r`, column `C` of the result: head `C / 512`, block half `C / 256 % 2`, hidden unit `C % 256`. -/
def compressed (x : (⟨S4x2048x256, .f32⟩ : BufTy).Contents (Elt Ideal)) (pe : (⟨S32x128, .f32⟩ : BufTy).Contents (Elt Ideal))
    (w : (⟨S4096x256, .bf16⟩ : BufTy).Contents (Elt Ideal)) (r : Fin 512) (g i : Fin 2) (j : Fin 256) : EReal :=
  share (fun s d => x (ix3 (⟨r.val / 128, by omega⟩ : Fin 4) (⟨16 * (r.val % 128) + s.val, by omega⟩ : Fin 2048) (⟨128 * g.val + d.val, by omega⟩ : Fin 256)))
    (fun s d => pe (ix2 (⟨16 * i.val + s.val, by omega⟩ : Fin 32) d)) (fun y => w (ix2 (⟨2048 * i.val + y.val, by omega⟩ : Fin 4096) j))

/-- What one stored column tile holds, in terms of the kernel's arguments. -/
theorem piece (t : Fin cfg0.N) (r : Fin 512) (g i : Fin 2) (j : Fin 256)
    (hp : ∀ a, (![i.val, 0] : Fin 2 → Nat) a + S1x2048.size a ≤ S2x2048.size a)
    (hw : ∀ a, (![2048 * i.val, 0] : Fin 2 → Nat) a + S2048x256.size a ≤ S4096x256.size a) :
    ∑ y, (tile (iblk m c 0 t) (256 * (place y).val + 128 * g.val) (ix2 r (lane y)) + View.ld (iblk m c 1 t : Vec Ideal S2x2048 .f32) (Rect.unit (s := S2x2048) ![i.val, 0] S1x2048.size hp) (ix2 0 y))
        * View.ld (iblk m c 2 t : Vec Ideal S4096x256 .bf16) (Rect.unit (s := S4096x256) ![2048 * i.val, 0] S2048x256.size hw) (ix2 y j) =
      compressed (m ((c : Thread nD τ).loc main_arg0)) (m ((c : Thread nD τ).loc main_arg1)) (m ((c : Thread nD τ).loc main_arg2)) r g i j := by
  unfold compressed share
  refine Finset.sum_congr rfl fun y _ => ?_
  rw [load_pe, load_w, block1, block2]
  have e : tile (iblk m c 0 t) (256 * (place y).val + 128 * g.val) (ix2 r (lane y)) = m ((c : Thread nD τ).loc main_arg0)
      (ix3 (⟨r.val / 128, by omega⟩ : Fin 4) (⟨16 * (r.val % 128) + (place y).val, by omega⟩ : Fin 2048) (⟨128 * g.val + (lane y).val, by omega⟩ : Fin 256)) := by
    refine (block0 m c t r _).trans ?_
    have h1 := (place y).isLt
    have h2 := (lane y).isLt
    congr 1
    funext a
    apply Fin.ext
    match a with
    | ⟨0, _⟩ => rfl
    | ⟨1, _⟩ => show 16 * (r.val % 128) + (256 * (place y).val + 128 * g.val + (lane y).val) % 4096 / 256 = 16 * (r.val % 128) + (place y).val; omega
    | ⟨2, _⟩ => show (256 * (place y).val + 128 * g.val + (lane y).val) % 4096 % 256 = 128 * g.val + (lane y).val; omega
  rw [e]

/-- The sixteen tiles of head 0 as the kernel reads them. -/
def tiles0 (x : Vec Ideal S512x4096 .f32) : Fin 16 → FVec Ideal S512x128 .f32 :=
  ![shapeCast S512x128 (View.ld x r0_0) shapeCasts_S512x128_S512x128, shapeCast S512x128 (View.ld x r0_1) shapeCasts_S512x128_S512x128, shapeCast S512x128 (View.ld x r0_2) shapeCasts_S512x128_S512x128, shapeCast S512x128 (View.ld x r0_3) shapeCasts_S512x128_S512x128, shapeCast S512x128 (View.ld x r0_4) shapeCasts_S512x128_S512x128, shapeCast S512x128 (View.ld x r0_5) shapeCasts_S512x128_S512x128, shapeCast S512x128 (View.ld x r0_6) shapeCasts_S512x128_S512x128, shapeCast S512x128 (View.ld x r0_7) shapeCasts_S512x128_S512x128, shapeCast S512x128 (View.ld x r0_8) shapeCasts_S512x128_S512x128, shapeCast S512x128 (View.ld x r0_9) shapeCasts_S512x128_S512x128, shapeCast S512x128 (View.ld x r0_10) shapeCasts_S512x128_S512x128, shapeCast S512x128 (View.ld x r0_11) shapeCasts_S512x128_S512x128, shapeCast S512x128 (View.ld x r0_12) shapeCasts_S512x128_S512x128, shapeCast S512x128 (View.ld x r0_13) shapeCasts_S512x128_S512x128, shapeCast S512x128 (View.ld x r0_14) shapeCasts_S512x128_S512x128, shapeCast S512x128 (View.ld x r0_15) shapeCasts_S512x128_S512x128]

theorem tiles0_eq (x : Vec Ideal S512x4096 .f32) (n : Fin 16) : tiles0 x n = tile x (256 * n.val + 128 * 0) := by
  match n with
  | ⟨0, _⟩ => exact (shapeCast_self _ _).trans (load_tile x 0 _)
  | ⟨1, _⟩ => exact (shapeCast_self _ _).trans (load_tile x 256 _)
  | ⟨2, _⟩ => exact (shapeCast_self _ _).trans (load_tile x 512 _)
  | ⟨3, _⟩ => exact (shapeCast_self _ _).trans (load_tile x 768 _)
  | ⟨4, _⟩ => exact (shapeCast_self _ _).trans (load_tile x 1024 _)
  | ⟨5, _⟩ => exact (shapeCast_self _ _).trans (load_tile x 1280 _)
  | ⟨6, _⟩ => exact (shapeCast_self _ _).trans (load_tile x 1536 _)
  | ⟨7, _⟩ => exact (shapeCast_self _ _).trans (load_tile x 1792 _)
  | ⟨8, _⟩ => exact (shapeCast_self _ _).trans (load_tile x 2048 _)
  | ⟨9, _⟩ => exact (shapeCast_self _ _).trans (load_tile x 2304 _)
  | ⟨10, _⟩ => exact (shapeCast_self _ _).trans (load_tile x 2560 _)
  | ⟨11, _⟩ => exact (shapeCast_self _ _).trans (load_tile x 2816 _)
  | ⟨12, _⟩ => exact (shapeCast_self _ _).trans (load_tile x 3072 _)
  | ⟨13, _⟩ => exact (shapeCast_self _ _).trans (load_tile x 3328 _)
  | ⟨14, _⟩ => exact (shapeCast_self _ _).trans (load_tile x 3584 _)
  | ⟨15, _⟩ => exact (shapeCast_self _ _).trans (load_tile x 3840 _)
  | ⟨k + 16, h⟩ => exact absurd h (by omega)

/-- The sixteen tiles of head 1 as the kernel reads them. -/
def tiles1 (x : Vec Ideal S512x4096 .f32) : Fin 16 → FVec Ideal S512x128 .f32 :=
  ![shapeCast S512x128 (View.ld x r0_22) shapeCasts_S512x128_S512x128, shapeCast S512x128 (View.ld x r0_23) shapeCasts_S512x128_S512x128, shapeCast S512x128 (View.ld x r0_24) shapeCasts_S512x128_S512x128, shapeCast S512x128 (View.ld x r0_25) shapeCasts_S512x128_S512x128, shapeCast S512x128 (View.ld x r0_26) shapeCasts_S512x128_S512x128, shapeCast S512x128 (View.ld x r0_27) shapeCasts_S512x128_S512x128, shapeCast S512x128 (View.ld x r0_28) shapeCasts_S512x128_S512x128, shapeCast S512x128 (View.ld x r0_29) shapeCasts_S512x128_S512x128, shapeCast S512x128 (View.ld x r0_30) shapeCasts_S512x128_S512x128, shapeCast S512x128 (View.ld x r0_31) shapeCasts_S512x128_S512x128, shapeCast S512x128 (View.ld x r0_32) shapeCasts_S512x128_S512x128, shapeCast S512x128 (View.ld x r0_33) shapeCasts_S512x128_S512x128, shapeCast S512x128 (View.ld x r0_34) shapeCasts_S512x128_S512x128, shapeCast S512x128 (View.ld x r0_35) shapeCasts_S512x128_S512x128, shapeCast S512x128 (View.ld x r0_36) shapeCasts_S512x128_S512x128, shapeCast S512x128 (View.ld x r0_37) shapeCasts_S512x128_S512x128]

theorem tiles1_eq (x : Vec Ideal S512x4096 .f32) (n : Fin 16) : tiles1 x n = tile x (256 * n.val + 128 * 1) := by
  match n with
  | ⟨0, _⟩ => exact (shapeCast_self _ _).trans (load_tile x 128 _)
  | ⟨1, _⟩ => exact (shapeCast_self _ _).trans (load_tile x 384 _)
  | ⟨2, _⟩ => exact (shapeCast_self _ _).trans (load_tile x 640 _)
  | ⟨3, _⟩ => exact (shapeCast_self _ _).trans (load_tile x 896 _)
  | ⟨4, _⟩ => exact (shapeCast_self _ _).trans (load_tile x 1152 _)
  | ⟨5, _⟩ => exact (shapeCast_self _ _).trans (load_tile x 1408 _)
  | ⟨6, _⟩ => exact (shapeCast_self _ _).trans (load_tile x 1664 _)
  | ⟨7, _⟩ => exact (shapeCast_self _ _).trans (load_tile x 1920 _)
  | ⟨8, _⟩ => exact (shapeCast_self _ _).trans (load_tile x 2176 _)
  | ⟨9, _⟩ => exact (shapeCast_self _ _).trans (load_tile x 2432 _)
  | ⟨10, _⟩ => exact (shapeCast_self _ _).trans (load_tile x 2688 _)
  | ⟨11, _⟩ => exact (shapeCast_self _ _).trans (load_tile x 2944 _)
  | ⟨12, _⟩ => exact (shapeCast_self _ _).trans (load_tile x 3200 _)
  | ⟨13, _⟩ => exact (shapeCast_self _ _).trans (load_tile x 3456 _)
  | ⟨14, _⟩ => exact (shapeCast_self _ _).trans (load_tile x 3712 _)
  | ⟨15, _⟩ => exact (shapeCast_self _ _).trans (load_tile x 3968 _)
  | ⟨k + 16, h⟩ => exact absurd h (by omega)

/-- The grid point's result. -/
theorem point_out (t : Fin cfg0.N) (r : Fin 512) (C : Fin 1024) :
    out0_3 (iblk m c 0 t) (iblk m c 1 t) (iblk m c 2 t) (ix2 r C) =
      compressed (m ((c : Thread nD τ).loc main_arg0)) (m ((c : Thread nD τ).loc main_arg1)) (m ((c : Thread nD τ).loc main_arg2))
        r (⟨C.val / 512, by omega⟩ : Fin 2) (⟨C.val / 256 % 2, by omega⟩ : Fin 2) (⟨C.val % 256, by omega⟩ : Fin 256) := by
  have key : ∀ (g i : Fin 2) (j : Fin 256) (C' : Nat) (hC : C.val = C'), C' = 512 * g.val + 256 * i.val + j.val →
      compressed (m ((c : Thread nD τ).loc main_arg0)) (m ((c : Thread nD τ).loc main_arg1)) (m ((c : Thread nD τ).loc main_arg2)) r g i j =
      compressed (m ((c : Thread nD τ).loc main_arg0)) (m ((c : Thread nD τ).loc main_arg1)) (m ((c : Thread nD τ).loc main_arg2))
        r (⟨C.val / 512, by omega⟩ : Fin 2) (⟨C.val / 256 % 2, by omega⟩ : Fin 2) (⟨C.val % 256, by omega⟩ : Fin 256) := by
    intro g i j C' hC hg
    have e1 : g = (⟨C.val / 512, by omega⟩ : Fin 2) := Fin.ext (by show g.val = C.val / 512; omega)
    have e2 : i = (⟨C.val / 256 % 2, by omega⟩ : Fin 2) := Fin.ext (by show i.val = C.val / 256 % 2; omega)
    have e3 : j = (⟨C.val % 256, by omega⟩ : Fin 256) := Fin.ext (by show j.val = C.val % 256; omega)
    rw [← e1, ← e2, ← e3]
  unfold_out out0_3
  canon_tiles x h using cover0_3 ..
  case piece0 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 1 1 j (by decide) (by decide)).trans (key 1 1 j _ h1 (by show 768 + j.val = 512 * 1 + 256 * 1 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles1 (iblk m c 0 t)) _ _ _ r j).trans ?_
    simp only [tiles1_eq]
    rfl
  case piece1 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 1 0 j (by decide) (by decide)).trans (key 1 0 j _ h1 (by show 512 + j.val = 512 * 1 + 256 * 0 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles1 (iblk m c 0 t)) _ _ _ r j).trans ?_
    simp only [tiles1_eq]
    rfl
  case piece2 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 0 1 j (by decide) (by decide)).trans (key 0 1 j _ h1 (by show 256 + j.val = 512 * 0 + 256 * 1 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles0 (iblk m c 0 t)) _ _ _ r j).trans ?_
    simp only [tiles0_eq]
    rfl
  case piece3 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 0 0 j (by decide) (by decide)).trans (key 0 0 j _ h1 (by show j.val = 512 * 0 + 256 * 0 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles0 (iblk m c 0 t)) _ _ _ r j).trans ?_
    simp only [tiles0_eq]
    rfl

/-- One term of a product, with its indices written another way. -/
theorem same_term (x : (⟨S4x2048x256, .f32⟩ : BufTy).Contents (Elt Ideal)) (pe : (⟨S32x128, .f32⟩ : BufTy).Contents (Elt Ideal))
    (w : (⟨S4096x256, .bf16⟩ : BufTy).Contents (Elt Ideal)) (r : Fin 512) (g i : Fin 2) (j : Fin 256) (y : Fin 2048)
    (A : Fin 2048) (B : Fin 256) (P : Fin 32) (L : Fin 128) (W : Fin 4096) (hA : A.val = 16 * (r.val % 128) + y.val / 128)
    (hB : B.val = 128 * g.val + y.val % 128) (hP : P.val = 16 * i.val + y.val / 128) (hL : L.val = y.val % 128) (hW : W.val = 2048 * i.val + y.val) :
    (x (ix3 (⟨r.val / 128, by omega⟩ : Fin 4) A B) + pe (ix2 P L)) * w (ix2 W j) =
      (x (ix3 (⟨r.val / 128, by omega⟩ : Fin 4) (⟨16 * (r.val % 128) + (place y).val, by omega⟩ : Fin 2048) (⟨128 * g.val + (lane y).val, by omega⟩ : Fin 256))
        + pe (ix2 (⟨16 * i.val + (place y).val, by omega⟩ : Fin 32) (lane y))) * w (ix2 (⟨2048 * i.val + y.val, by omega⟩ : Fin 4096) j) := by
  exact term_congr (fun a b => x (ix3 (⟨r.val / 128, by omega⟩ : Fin 4) a b)) (fun p l => pe (ix2 p l)) (fun k => w (ix2 k j))
    (Fin.ext hA) (Fin.ext hB) (Fin.ext hP) (Fin.ext hL) (Fin.ext hW)

/-- The reference's product with the first half of the weight. -/
theorem reference_first (x : (⟨S4x2048x256, .f32⟩ : BufTy).Contents (Elt Ideal)) (pe : (⟨S32x128, .f32⟩ : BufTy).Contents (Elt Ideal))
    (w : (⟨S4096x256, .bf16⟩ : BufTy).Contents (Elt Ideal)) (r : Fin 512) (g : Fin 2) (j : Fin 256) :
    Cert.CmpPromptRefIdeal.Read.val_main_v13 x pe w (ix3 r g j) = compressed x pe w r g 0 j := by
  pointwise [Cert.CmpPromptRefIdeal.Read.val_main_v13, Cert.CmpPromptRefIdeal.Read.val_main_v12, Cert.CmpPromptRefIdeal.Read.val_main_v11, Cert.CmpPromptRefIdeal.Read.val_main_v10, Cert.CmpPromptRefIdeal.Read.val_main_v9, Cert.CmpPromptRefIdeal.Read.val_main_v8, Cert.CmpPromptRefIdeal.Read.val_main_v7, Cert.CmpPromptRefIdeal.Read.val_main_v6, Cert.CmpPromptRefIdeal.Read.val_main_v5, Cert.CmpPromptRefIdeal.Read.val_main_v4, Cert.CmpPromptRefIdeal.Read.val_main_v3, Cert.CmpPromptRefIdeal.Read.val_main_v2, Cert.CmpPromptRefIdeal.Read.val_main_v1, Cert.CmpPromptRefIdeal.Read.val_main_v0]
  unfold compressed share
  exact Finset.sum_congr rfl fun y _ => same_term x pe w r g 0 j y _ _ _ _ _ (by dsimp only; omega) (by dsimp only; omega) (by simp; try omega) rfl (by simp; try omega)

/-- The reference's product with the second half of the weight. -/
theorem reference_second (x : (⟨S4x2048x256, .f32⟩ : BufTy).Contents (Elt Ideal)) (pe : (⟨S32x128, .f32⟩ : BufTy).Contents (Elt Ideal))
    (w : (⟨S4096x256, .bf16⟩ : BufTy).Contents (Elt Ideal)) (r : Fin 512) (g : Fin 2) (j : Fin 256) :
    Cert.CmpPromptRefIdeal.Read.val_main_v22 x pe w (ix3 r g j) = compressed x pe w r g 1 j := by
  pointwise [Cert.CmpPromptRefIdeal.Read.val_main_v22, Cert.CmpPromptRefIdeal.Read.val_main_v21, Cert.CmpPromptRefIdeal.Read.val_main_v20, Cert.CmpPromptRefIdeal.Read.val_main_v19, Cert.CmpPromptRefIdeal.Read.val_main_v18, Cert.CmpPromptRefIdeal.Read.val_main_v17, Cert.CmpPromptRefIdeal.Read.val_main_v16, Cert.CmpPromptRefIdeal.Read.val_main_v15, Cert.CmpPromptRefIdeal.Read.val_main_v14, Cert.CmpPromptRefIdeal.Read.val_main_v4, Cert.CmpPromptRefIdeal.Read.val_main_v3, Cert.CmpPromptRefIdeal.Read.val_main_v2, Cert.CmpPromptRefIdeal.Read.val_main_v1, Cert.CmpPromptRefIdeal.Read.val_main_v0]
  unfold compressed share
  exact Finset.sum_congr rfl fun y _ => same_term x pe w r g 1 j y _ _ _ _ _ (by dsimp only; omega) (by dsimp only; omega) (by simp; try omega) rfl (by simp; try omega)

/-- The reference holds the halves' products. -/
theorem reference_value (x : (⟨S4x2048x256, .f32⟩ : BufTy).Contents (Elt Ideal)) (pe : (⟨S32x128, .f32⟩ : BufTy).Contents (Elt Ideal))
    (w : (⟨S4096x256, .bf16⟩ : BufTy).Contents (Elt Ideal)) (r : Fin 512) (C : Fin 1024) :
    Cert.CmpPromptRefIdeal.Read.val_main_v26 x pe w (ix2 r C) = compressed x pe w r (⟨C.val / 512, by omega⟩ : Fin 2) (⟨C.val / 256 % 2, by omega⟩ : Fin 2) (⟨C.val % 256, by omega⟩ : Fin 256) := by
  have ha := reference_first x pe w r
  have hb := reference_second x pe w r
  pointwise [Cert.CmpPromptRefIdeal.Read.val_main_v26, Cert.CmpPromptRefIdeal.Read.val_main_v25, Cert.CmpPromptRefIdeal.Read.val_main_v24, Cert.CmpPromptRefIdeal.Read.val_main_v23]
  split
  · rename_i h
    exact (ha _ _).trans (congrArg (fun i => compressed x pe w r (⟨C.val / 512, by omega⟩ : Fin 2) i (⟨C.val % 256, by omega⟩ : Fin 256)) (Fin.ext (by show 0 = C.val / 256 % 2; omega)))
  · rename_i h
    exact (hb _ _).trans (congrArg (fun i => compressed x pe w r (⟨C.val / 512, by omega⟩ : Fin 2) i (⟨C.val % 256, by omega⟩ : Fin 256)) (Fin.ext (by show 1 = C.val / 256 % 2; omega)))

/-- The kernel's result array holds the same. -/
theorem kernel_value (r : Fin 512) (C : Fin 1024) :
    ((dats m 0 c).arrAt 3 cfg0.N : (⟨2, ![512, 1024]⟩ : Shape).Idx → EReal) (ix2 r C) =
      compressed (m ((c : Thread nD τ).loc main_arg0)) (m ((c : Thread nD τ).loc main_arg1)) (m ((c : Thread nD τ).loc main_arg2))
        r (⟨C.val / 512, by omega⟩ : Fin 2) (⟨C.val / 256 % 2, by omega⟩ : Fin 2) (⟨C.val % 256, by omega⟩ : Fin 256) := by
  have hb : 0 < cfg0.N := lt_of_lt_of_eq (by omega) (show cfg0.N = 1 from N_0).symm
  have key := congrFun (blocks3 m c ⟨0, hb⟩ (flush0_3 _)) (ix2 r C)
  rw [View.read_apply, flushed3] at key
  have he : ((cfg0.win 3).blk ⟨0, hb⟩).view.emb (ix2 r C) = ix2 r C := by
    funext a
    apply Fin.ext
    match a with
    | ⟨0, _⟩ => show win0_3.index ⟨0, hb⟩ 0 * 512 + 1 * r.val = r.val; rw [(at3 _).1]; omega
    | ⟨1, _⟩ => show win0_3.index ⟨0, hb⟩ 1 * 1024 + 1 * C.val = C.val; rw [(at3 _).2]; omega
  rw [he] at key
  refine key.trans ?_
  refine Eq.trans ?_ (point_out m c ⟨0, hb⟩ r C)
  rfl

/-- The kernel and the reference leave the same array. -/
theorem tie : Cert.algebraic_CmpPromptIdeal_CmpPromptRefIdeal := by
  intro m ρ m' ρ' _ hagree
  refine ⟨_, Cert.CmpPromptIdeal.Value.run_blocks (F := Ideal) m ρ, ?_⟩
  refine (θ_run Cert.CmpPromptRefIdeal.defs _ _).mono (fun _ h c => ⟨?_, (h c).2⟩) (Cert.CmpPromptRefIdeal.Value.run (F := Ideal) m' ρ')
  rw [(h c).1]
  refine (Cert.CmpPromptRefIdeal.Read.val_main_v26_eq (F := Ideal) _ _ _).trans ?_
  funext i
  obtain ⟨r, C, rfl⟩ : ∃ (r : Fin 512) (C : Fin 1024), i = ix2 r C := ⟨i 0, i 1, funext fun a => by
    match a with
    | ⟨0, _⟩ => rfl
    | ⟨1, _⟩ => rfl⟩
  refine (reference_value _ _ _ r C).trans (Eq.trans ?_ (kernel_value m c r C).symm)
  obtain ⟨e0, e1, e2⟩ := hagree c
  rw [← e0, ← e1, ← e2]
end Cert.CmpPromptProof
-- ==== Proof.CmpSampleProj.lean ====
module
public import proofs.«01_k».proof.Proof.CmpSpec
public import proofs.«01_k».proof.Defs
public import proofs.«01_k».proof.Proof.Gen.CmpSampleIdeal.Value
public import proofs.«01_k».proof.Proof.Gen.CmpSampleRefIdeal.Run
public import proofs.«01_k».proof.Proof.Gen.CmpSampleRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The first layer of the sample batch's block compression

Each grid point takes 64 cache pages, reads every 32nd row of them 32 times over, once per token of a half block and head, and
joins those reads per head. -/
namespace Cert.CmpSampleProof
open Idealize.ShloMosaic Idealize.ShloMosaic.Pointwise Cert.OutProj Cert.Compress Cert.CmpSampleIdeal Cert.CmpSampleIdeal.Gen Cert.CmpSampleIdeal.Value Idealize.ShloMosaic.TcCoe Idealize.SL.Sem

theorem at0 : ∀ t : Fin cfg0.N, win0_0.index t 0 = t.val ∧ win0_0.index t 1 = 0 ∧ win0_0.index t 2 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel

variable (m : (ℓ : Loc nD τ sig) → Buf (Elt Ideal) ℓ) (c : Dev nD)

/-- The cache row that row `s` of page `p` of point `t`'s pages holds. -/
theorem block0 (t : Fin cfg0.N) (p : Fin 64) (s : Fin 256) (d : Fin 128) : (iblk m c 0 t : Vec Ideal S64x256x128 .f32) (ix3 p s d) =
    m ((c : Thread nD τ).loc main_arg0) (ix4 (⟨64 * t.val + p.val, by have := lt_of_lt_of_eq t.isLt (show cfg0.N = 40 from N_0); omega⟩ : Fin 2560)
      (⟨s.val / 2, by omega⟩ : Fin 128) (⟨s.val % 2, by omega⟩ : Fin 2) d) := by
  unfold iblk
  rw [View.read_apply]
  have e : ((cfg0.win 0).blk t).view.emb (ix3 p s d) = ix3 (⟨64 * t.val + p.val, by have := lt_of_lt_of_eq t.isLt (show cfg0.N = 40 from N_0); omega⟩ : Fin 2560) s d := by
    funext a
    apply Fin.ext
    match a with
    | ⟨0, _⟩ => show win0_0.index t 0 * 64 + 1 * p.val = 64 * t.val + p.val; rw [(at0 t).1]; omega
    | ⟨1, _⟩ => show win0_0.index t 1 * 256 + 1 * s.val = s.val; rw [(at0 t).2.1]; omega
    | ⟨2, _⟩ => show win0_0.index t 2 * 128 + 1 * d.val = d.val; rw [(at0 t).2.2]; omega
  rw [e]
  show V m c main_v0 (ix3 _ s d) = _
  unfold V hostOps0
  after_reads_simp
  refine shapeCast_apply _ _ _ _ ?_
  show (S2560x128x2x128.rowMajor (ix4 _ _ _ _)).val = (S2560x256x128.rowMajor (ix3 _ s d)).val
  rw [Shape.rowMajor_val_four, Shape.rowMajor_val_three]
  show (((64 * t.val + p.val) * 128 + s.val / 2) * 2 + s.val % 2) * 128 + d.val = ((64 * t.val + p.val) * 256 + s.val) * 128 + d.val
  omega

theorem block1 (t : Fin cfg0.N) (i : Fin 2) (y : Fin 2048) : (iblk m c 1 t : Vec Ideal S2x2048 .f32) (ix2 i y) =
    m ((c : Thread nD τ).loc main_arg1) (ix2 (⟨16 * i.val + (place y).val, by omega⟩ : Fin 32) (lane y)) := by
  unfold iblk
  rw [View.read_apply]
  have e : ((cfg0.win 1).blk t).view.emb (ix2 i y) = ix2 i y := by
    funext a
    apply Fin.ext
    match a with
    | ⟨0, _⟩ => show win0_1.index t 0 * 2 + 1 * i.val = i.val; rw [(at1 t).1]; omega
    | ⟨1, _⟩ => show win0_1.index t 1 * 2048 + 1 * y.val = y.val; rw [(at1 t).2]; omega
  rw [e]
  show V m c main_v1 (ix2 i y) = _
  unfold V hostOps0
  after_reads_simp
  refine shapeCast_apply _ _ _ _ ?_
  show (S32x128.rowMajor (ix2 _ _)).val = (S2x2048.rowMajor (ix2 i y)).val
  rw [Shape.rowMajor_val_two, Shape.rowMajor_val_two]
  show (16 * i.val + y.val / 128) * 128 + y.val % 128 = i.val * 2048 + y.val
  omega

theorem block2 (t : Fin cfg0.N) (k : Fin 4096) (j : Fin 256) : (iblk m c 2 t : Vec Ideal S4096x256 .bf16) (ix2 k j) =
    m ((c : Thread nD τ).loc main_arg2) (ix2 k j) := by
  unfold iblk
  rw [View.read_apply]
  show V m c main_arg2 _ = _
  rw [V_main_arg2]
  congr 1
  funext a
  apply Fin.ext
  match a with
  | ⟨0, _⟩ => show win0_2.index t 0 * 4096 + 1 * k.val = k.val; rw [(at2 t).1]; first | done | omega
  | ⟨1, _⟩ => show win0_2.index t 1 * 256 + 1 * j.val = j.val; rw [(at2 t).2]; first | done | omega

/-- Sixteen tiles joined, shifted by a position row and multiplied by a weight half. -/
theorem chain (v : Fin 16 → FVec Ideal S512x128 .f32) (pe : FVec Ideal S1x2048 .f32) (w : FVec Ideal S2048x256 .bf16)
    (h : Shape.Concatenates ((List.ofFn fun n : Fin 16 => (⟨S512x128, v n⟩ : (s : Shape) × (s.Idx → EReal))).map (·.1)) S512x2048 1)
    (r : Fin 512) (j : Fin 256) :
    matmul dot_S512x2048_S2048x256_S512x256_1_0_0_1_n_n none
      (truncf .bf16 (addf (φ := .f32) (concatenate S512x2048 1 (List.ofFn fun n : Fin 16 => (⟨S512x128, v n⟩ : (s : Shape) × (s.Idx → EReal))) h)
        (broadcastTo S512x2048 (shapeCast S1x2048 pe shapeCasts_S1x2048_S1x2048) broadcasts_S1x2048_S512x2048)) bitsLt_bf16_f32)
      w (constant S512x256 .f32 0x00000000#32) (ix2 r j) =
      ∑ y, (v (place y) (ix2 r (lane y)) + pe (ix2 0 y)) * w (ix2 y j) := by
  have hc := side_by_side v h r
  generalize concatenate S512x2048 1 (List.ofFn fun n : Fin 16 => (⟨S512x128, v n⟩ : (s : Shape) × (s.Idx → EReal))) h = X at hc ⊢
  pointwise
  simp only [hc]

/-- Every 32nd row of the pages of `x` from row `o` on, the pages' rows stacked. -/
def tile (x : Vec Ideal S64x256x128 .f32) (o : Nat) : FVec Ideal S512x128 .f32 := fun i => x (ix3 (⟨(i 0).val / 8, by
  have := (i 0).isLt
  have h : S512x128.size 0 = 512 := rfl
  omega⟩ : Fin 64) (⟨(o + 32 * ((i 0).val % 8)) % 256, by omega⟩ : Fin 256) (i 1))

theorem load_tile (x : Vec Ideal S64x256x128 .f32) (o : Nat) (ho : o < 32) (h) :
    shapeCast S512x128 (shapeCast S64x8x128 (fun y => x ((⟨![0, o, 0], S64x8x128.size, ![1, 32, 1], h⟩ : LoadRect S64x256x128).idx y)) shapeCasts_S64x8x128_S64x8x128)
      shapeCasts_S64x8x128_S512x128 = tile x o := by
  funext i
  have h0 : (i 0).val < 512 := (i 0).isLt
  rw [shapeCast_self]
  refine (shapeCast_apply _ _ i (ix3 (⟨(i 0).val / 8, by omega⟩ : Fin 64) (⟨(i 0).val % 8, by omega⟩ : Fin 8) (i 1)) ?_).trans ?_
  · rw [Shape.rowMajor_val_three, Shape.rowMajor_val_two]
    show ((i 0).val / 8 * 8 + (i 0).val % 8) * 128 + (i 1).val = (i 0).val * 128 + (i 1).val
    omega
  unfold tile
  congr 1
  funext a
  apply Fin.ext
  match a with
  | ⟨0, _⟩ => show 0 + 1 * ((i 0).val / 8) = (i 0).val / 8; omega
  | ⟨1, _⟩ => show o + 32 * ((i 0).val % 8) = (o + 32 * ((i 0).val % 8)) % 256; omega
  | ⟨2, _⟩ => show 0 + 1 * (i 1).val = (i 1).val; omega

/-- A load from a staging buffer reads the block it holds. -/
theorem loaded {s : Shape} {e : EltTy} {M : Memref sig .tc .vmem s e} (h : M.IsWhole) (X : s.Idx → Elt Ideal e) (B : LoadRect s) :
    View.readAt (Elt Ideal) M.view B (h.unread X) = fun y => X (B.idx y) := funext fun y => congrFun (h.read_unread X) (B.idx y)

theorem load_pe (x : Vec Ideal S2x2048 .f32) (o : Fin 2) (h : ∀ a, (![o.val, 0] : Fin 2 → Nat) a + S1x2048.size a ≤ S2x2048.size a) (y : Fin 2048) :
    View.ld x (Rect.unit (s := S2x2048) ![o.val, 0] S1x2048.size h) (ix2 0 y) = x (ix2 o y) := by
  refine View.ld_unit_apply_of _ _ _ _ _ _ ?_
  intro a
  match a with
  | ⟨0, _⟩ => exact (Nat.add_zero _).symm
  | ⟨1, _⟩ => exact (Nat.zero_add _).symm

theorem load_w (x : Vec Ideal S4096x256 .bf16) (o : Fin 2) (h : ∀ a, (![2048 * o.val, 0] : Fin 2 → Nat) a + S2048x256.size a ≤ S4096x256.size a) (y : Fin 2048) (j : Fin 256) :
    View.ld x (Rect.unit (s := S4096x256) ![2048 * o.val, 0] S2048x256.size h) (ix2 y j) = x (ix2 (⟨2048 * o.val + y.val, by omega⟩ : Fin 4096) j) := by
  refine View.ld_unit_apply_of _ _ _ _ _ _ ?_
  intro a
  match a with
  | ⟨0, _⟩ => rfl
  | ⟨1, _⟩ => exact (Nat.zero_add _).symm

/-- Row `r`, column `C` of the result: head `C / 512`, block half `C / 256 % 2`, hidden unit `C % 256`. -/
def compressed (x : (⟨S2560x128x2x128, .f32⟩ : BufTy).Contents (Elt Ideal)) (pe : (⟨S32x128, .f32⟩ : BufTy).Contents (Elt Ideal))
    (w : (⟨S4096x256, .bf16⟩ : BufTy).Contents (Elt Ideal)) (r : Fin 20480) (g i : Fin 2) (j : Fin 256) : EReal :=
  share (fun s d => x (ix4 (⟨r.val / 8, by omega⟩ : Fin 2560) (⟨16 * (r.val % 8) + s.val, by omega⟩ : Fin 128) g d))
    (fun s d => pe (ix2 (⟨16 * i.val + s.val, by omega⟩ : Fin 32) d)) (fun y => w (ix2 (⟨2048 * i.val + y.val, by omega⟩ : Fin 4096) j))

/-- The half block that row `r` of point `t`'s tile holds. -/
def row (t : Fin cfg0.N) (r : Fin 512) : Fin 20480 := ⟨512 * t.val + r.val, by have := lt_of_lt_of_eq t.isLt (show cfg0.N = 40 from N_0); omega⟩

/-- What one stored column tile holds, in terms of the kernel's arguments. -/
theorem piece (t : Fin cfg0.N) (r : Fin 512) (g i : Fin 2) (j : Fin 256)
    (hp : ∀ a, (![i.val, 0] : Fin 2 → Nat) a + S1x2048.size a ≤ S2x2048.size a)
    (hw : ∀ a, (![2048 * i.val, 0] : Fin 2 → Nat) a + S2048x256.size a ≤ S4096x256.size a) :
    ∑ y, (tile (iblk m c 0 t) (2 * (place y).val + g.val) (ix2 r (lane y)) + View.ld (iblk m c 1 t : Vec Ideal S2x2048 .f32) (Rect.unit (s := S2x2048) ![i.val, 0] S1x2048.size hp) (ix2 0 y))
        * View.ld (iblk m c 2 t : Vec Ideal S4096x256 .bf16) (Rect.unit (s := S4096x256) ![2048 * i.val, 0] S2048x256.size hw) (ix2 y j) =
      compressed (m ((c : Thread nD τ).loc main_arg0)) (m ((c : Thread nD τ).loc main_arg1)) (m ((c : Thread nD τ).loc main_arg2)) (row t r) g i j := by
  unfold compressed share
  refine Finset.sum_congr rfl fun y _ => ?_
  rw [load_pe, load_w, block1, block2]
  have e : tile (iblk m c 0 t) (2 * (place y).val + g.val) (ix2 r (lane y)) = m ((c : Thread nD τ).loc main_arg0)
      (ix4 (⟨(row t r).val / 8, by omega⟩ : Fin 2560) (⟨16 * ((row t r).val % 8) + (place y).val, by omega⟩ : Fin 128) g (lane y)) := by
    refine (block0 m c t _ _ _).trans ?_
    have h1 := (place y).isLt
    congr 1
    funext a
    apply Fin.ext
    match a with
    | ⟨0, _⟩ => show 64 * t.val + r.val / 8 = (512 * t.val + r.val) / 8; omega
    | ⟨1, _⟩ => show (2 * (place y).val + g.val + 32 * (r.val % 8)) % 256 / 2 = 16 * ((512 * t.val + r.val) % 8) + (place y).val; omega
    | ⟨2, _⟩ => show (2 * (place y).val + g.val + 32 * (r.val % 8)) % 256 % 2 = g.val; omega
    | ⟨3, _⟩ => rfl
  rw [e]

/-- The sixteen reads of head 0. -/
def tiles0 (x : Vec Ideal S64x256x128 .f32) : Fin 16 → FVec Ideal S512x128 .f32 :=
  ![shapeCast S512x128 (shapeCast S64x8x128 (fun y => x ((⟨![0, 0, 0], S64x8x128.size, ![1, 32, 1], inb_S64x256x128_S64x8x128_0_0_0_s_1_32_1⟩ : LoadRect S64x256x128).idx y)) shapeCasts_S64x8x128_S64x8x128) shapeCasts_S64x8x128_S512x128, shapeCast S512x128 (shapeCast S64x8x128 (fun y => x ((⟨![0, 2, 0], S64x8x128.size, ![1, 32, 1], inb_S64x256x128_S64x8x128_0_2_0_s_1_32_1⟩ : LoadRect S64x256x128).idx y)) shapeCasts_S64x8x128_S64x8x128) shapeCasts_S64x8x128_S512x128, shapeCast S512x128 (shapeCast S64x8x128 (fun y => x ((⟨![0, 4, 0], S64x8x128.size, ![1, 32, 1], inb_S64x256x128_S64x8x128_0_4_0_s_1_32_1⟩ : LoadRect S64x256x128).idx y)) shapeCasts_S64x8x128_S64x8x128) shapeCasts_S64x8x128_S512x128, shapeCast S512x128 (shapeCast S64x8x128 (fun y => x ((⟨![0, 6, 0], S64x8x128.size, ![1, 32, 1], inb_S64x256x128_S64x8x128_0_6_0_s_1_32_1⟩ : LoadRect S64x256x128).idx y)) shapeCasts_S64x8x128_S64x8x128) shapeCasts_S64x8x128_S512x128, shapeCast S512x128 (shapeCast S64x8x128 (fun y => x ((⟨![0, 8, 0], S64x8x128.size, ![1, 32, 1], inb_S64x256x128_S64x8x128_0_8_0_s_1_32_1⟩ : LoadRect S64x256x128).idx y)) shapeCasts_S64x8x128_S64x8x128) shapeCasts_S64x8x128_S512x128, shapeCast S512x128 (shapeCast S64x8x128 (fun y => x ((⟨![0, 10, 0], S64x8x128.size, ![1, 32, 1], inb_S64x256x128_S64x8x128_0_10_0_s_1_32_1⟩ : LoadRect S64x256x128).idx y)) shapeCasts_S64x8x128_S64x8x128) shapeCasts_S64x8x128_S512x128, shapeCast S512x128 (shapeCast S64x8x128 (fun y => x ((⟨![0, 12, 0], S64x8x128.size, ![1, 32, 1], inb_S64x256x128_S64x8x128_0_12_0_s_1_32_1⟩ : LoadRect S64x256x128).idx y)) shapeCasts_S64x8x128_S64x8x128) shapeCasts_S64x8x128_S512x128, shapeCast S512x128 (shapeCast S64x8x128 (fun y => x ((⟨![0, 14, 0], S64x8x128.size, ![1, 32, 1], inb_S64x256x128_S64x8x128_0_14_0_s_1_32_1⟩ : LoadRect S64x256x128).idx y)) shapeCasts_S64x8x128_S64x8x128) shapeCasts_S64x8x128_S512x128, shapeCast S512x128 (shapeCast S64x8x128 (fun y => x ((⟨![0, 16, 0], S64x8x128.size, ![1, 32, 1], inb_S64x256x128_S64x8x128_0_16_0_s_1_32_1⟩ : LoadRect S64x256x128).idx y)) shapeCasts_S64x8x128_S64x8x128) shapeCasts_S64x8x128_S512x128, shapeCast S512x128 (shapeCast S64x8x128 (fun y => x ((⟨![0, 18, 0], S64x8x128.size, ![1, 32, 1], inb_S64x256x128_S64x8x128_0_18_0_s_1_32_1⟩ : LoadRect S64x256x128).idx y)) shapeCasts_S64x8x128_S64x8x128) shapeCasts_S64x8x128_S512x128, shapeCast S512x128 (shapeCast S64x8x128 (fun y => x ((⟨![0, 20, 0], S64x8x128.size, ![1, 32, 1], inb_S64x256x128_S64x8x128_0_20_0_s_1_32_1⟩ : LoadRect S64x256x128).idx y)) shapeCasts_S64x8x128_S64x8x128) shapeCasts_S64x8x128_S512x128, shapeCast S512x128 (shapeCast S64x8x128 (fun y => x ((⟨![0, 22, 0], S64x8x128.size, ![1, 32, 1], inb_S64x256x128_S64x8x128_0_22_0_s_1_32_1⟩ : LoadRect S64x256x128).idx y)) shapeCasts_S64x8x128_S64x8x128) shapeCasts_S64x8x128_S512x128, shapeCast S512x128 (shapeCast S64x8x128 (fun y => x ((⟨![0, 24, 0], S64x8x128.size, ![1, 32, 1], inb_S64x256x128_S64x8x128_0_24_0_s_1_32_1⟩ : LoadRect S64x256x128).idx y)) shapeCasts_S64x8x128_S64x8x128) shapeCasts_S64x8x128_S512x128, shapeCast S512x128 (shapeCast S64x8x128 (fun y => x ((⟨![0, 26, 0], S64x8x128.size, ![1, 32, 1], inb_S64x256x128_S64x8x128_0_26_0_s_1_32_1⟩ : LoadRect S64x256x128).idx y)) shapeCasts_S64x8x128_S64x8x128) shapeCasts_S64x8x128_S512x128, shapeCast S512x128 (shapeCast S64x8x128 (fun y => x ((⟨![0, 28, 0], S64x8x128.size, ![1, 32, 1], inb_S64x256x128_S64x8x128_0_28_0_s_1_32_1⟩ : LoadRect S64x256x128).idx y)) shapeCasts_S64x8x128_S64x8x128) shapeCasts_S64x8x128_S512x128, shapeCast S512x128 (shapeCast S64x8x128 (fun y => x ((⟨![0, 30, 0], S64x8x128.size, ![1, 32, 1], inb_S64x256x128_S64x8x128_0_30_0_s_1_32_1⟩ : LoadRect S64x256x128).idx y)) shapeCasts_S64x8x128_S64x8x128) shapeCasts_S64x8x128_S512x128]

theorem tiles0_eq (x : Vec Ideal S64x256x128 .f32) (n : Fin 16) : tiles0 x n = tile x (2 * n.val + 0) := by
  match n with
  | ⟨0, _⟩ => exact load_tile x 0 (by omega) _
  | ⟨1, _⟩ => exact load_tile x 2 (by omega) _
  | ⟨2, _⟩ => exact load_tile x 4 (by omega) _
  | ⟨3, _⟩ => exact load_tile x 6 (by omega) _
  | ⟨4, _⟩ => exact load_tile x 8 (by omega) _
  | ⟨5, _⟩ => exact load_tile x 10 (by omega) _
  | ⟨6, _⟩ => exact load_tile x 12 (by omega) _
  | ⟨7, _⟩ => exact load_tile x 14 (by omega) _
  | ⟨8, _⟩ => exact load_tile x 16 (by omega) _
  | ⟨9, _⟩ => exact load_tile x 18 (by omega) _
  | ⟨10, _⟩ => exact load_tile x 20 (by omega) _
  | ⟨11, _⟩ => exact load_tile x 22 (by omega) _
  | ⟨12, _⟩ => exact load_tile x 24 (by omega) _
  | ⟨13, _⟩ => exact load_tile x 26 (by omega) _
  | ⟨14, _⟩ => exact load_tile x 28 (by omega) _
  | ⟨15, _⟩ => exact load_tile x 30 (by omega) _
  | ⟨k + 16, h⟩ => exact absurd h (by omega)

/-- The sixteen reads of head 1. -/
def tiles1 (x : Vec Ideal S64x256x128 .f32) : Fin 16 → FVec Ideal S512x128 .f32 :=
  ![shapeCast S512x128 (shapeCast S64x8x128 (fun y => x ((⟨![0, 1, 0], S64x8x128.size, ![1, 32, 1], inb_S64x256x128_S64x8x128_0_1_0_s_1_32_1⟩ : LoadRect S64x256x128).idx y)) shapeCasts_S64x8x128_S64x8x128) shapeCasts_S64x8x128_S512x128, shapeCast S512x128 (shapeCast S64x8x128 (fun y => x ((⟨![0, 3, 0], S64x8x128.size, ![1, 32, 1], inb_S64x256x128_S64x8x128_0_3_0_s_1_32_1⟩ : LoadRect S64x256x128).idx y)) shapeCasts_S64x8x128_S64x8x128) shapeCasts_S64x8x128_S512x128, shapeCast S512x128 (shapeCast S64x8x128 (fun y => x ((⟨![0, 5, 0], S64x8x128.size, ![1, 32, 1], inb_S64x256x128_S64x8x128_0_5_0_s_1_32_1⟩ : LoadRect S64x256x128).idx y)) shapeCasts_S64x8x128_S64x8x128) shapeCasts_S64x8x128_S512x128, shapeCast S512x128 (shapeCast S64x8x128 (fun y => x ((⟨![0, 7, 0], S64x8x128.size, ![1, 32, 1], inb_S64x256x128_S64x8x128_0_7_0_s_1_32_1⟩ : LoadRect S64x256x128).idx y)) shapeCasts_S64x8x128_S64x8x128) shapeCasts_S64x8x128_S512x128, shapeCast S512x128 (shapeCast S64x8x128 (fun y => x ((⟨![0, 9, 0], S64x8x128.size, ![1, 32, 1], inb_S64x256x128_S64x8x128_0_9_0_s_1_32_1⟩ : LoadRect S64x256x128).idx y)) shapeCasts_S64x8x128_S64x8x128) shapeCasts_S64x8x128_S512x128, shapeCast S512x128 (shapeCast S64x8x128 (fun y => x ((⟨![0, 11, 0], S64x8x128.size, ![1, 32, 1], inb_S64x256x128_S64x8x128_0_11_0_s_1_32_1⟩ : LoadRect S64x256x128).idx y)) shapeCasts_S64x8x128_S64x8x128) shapeCasts_S64x8x128_S512x128, shapeCast S512x128 (shapeCast S64x8x128 (fun y => x ((⟨![0, 13, 0], S64x8x128.size, ![1, 32, 1], inb_S64x256x128_S64x8x128_0_13_0_s_1_32_1⟩ : LoadRect S64x256x128).idx y)) shapeCasts_S64x8x128_S64x8x128) shapeCasts_S64x8x128_S512x128, shapeCast S512x128 (shapeCast S64x8x128 (fun y => x ((⟨![0, 15, 0], S64x8x128.size, ![1, 32, 1], inb_S64x256x128_S64x8x128_0_15_0_s_1_32_1⟩ : LoadRect S64x256x128).idx y)) shapeCasts_S64x8x128_S64x8x128) shapeCasts_S64x8x128_S512x128, shapeCast S512x128 (shapeCast S64x8x128 (fun y => x ((⟨![0, 17, 0], S64x8x128.size, ![1, 32, 1], inb_S64x256x128_S64x8x128_0_17_0_s_1_32_1⟩ : LoadRect S64x256x128).idx y)) shapeCasts_S64x8x128_S64x8x128) shapeCasts_S64x8x128_S512x128, shapeCast S512x128 (shapeCast S64x8x128 (fun y => x ((⟨![0, 19, 0], S64x8x128.size, ![1, 32, 1], inb_S64x256x128_S64x8x128_0_19_0_s_1_32_1⟩ : LoadRect S64x256x128).idx y)) shapeCasts_S64x8x128_S64x8x128) shapeCasts_S64x8x128_S512x128, shapeCast S512x128 (shapeCast S64x8x128 (fun y => x ((⟨![0, 21, 0], S64x8x128.size, ![1, 32, 1], inb_S64x256x128_S64x8x128_0_21_0_s_1_32_1⟩ : LoadRect S64x256x128).idx y)) shapeCasts_S64x8x128_S64x8x128) shapeCasts_S64x8x128_S512x128, shapeCast S512x128 (shapeCast S64x8x128 (fun y => x ((⟨![0, 23, 0], S64x8x128.size, ![1, 32, 1], inb_S64x256x128_S64x8x128_0_23_0_s_1_32_1⟩ : LoadRect S64x256x128).idx y)) shapeCasts_S64x8x128_S64x8x128) shapeCasts_S64x8x128_S512x128, shapeCast S512x128 (shapeCast S64x8x128 (fun y => x ((⟨![0, 25, 0], S64x8x128.size, ![1, 32, 1], inb_S64x256x128_S64x8x128_0_25_0_s_1_32_1⟩ : LoadRect S64x256x128).idx y)) shapeCasts_S64x8x128_S64x8x128) shapeCasts_S64x8x128_S512x128, shapeCast S512x128 (shapeCast S64x8x128 (fun y => x ((⟨![0, 27, 0], S64x8x128.size, ![1, 32, 1], inb_S64x256x128_S64x8x128_0_27_0_s_1_32_1⟩ : LoadRect S64x256x128).idx y)) shapeCasts_S64x8x128_S64x8x128) shapeCasts_S64x8x128_S512x128, shapeCast S512x128 (shapeCast S64x8x128 (fun y => x ((⟨![0, 29, 0], S64x8x128.size, ![1, 32, 1], inb_S64x256x128_S64x8x128_0_29_0_s_1_32_1⟩ : LoadRect S64x256x128).idx y)) shapeCasts_S64x8x128_S64x8x128) shapeCasts_S64x8x128_S512x128, shapeCast S512x128 (shapeCast S64x8x128 (fun y => x ((⟨![0, 31, 0], S64x8x128.size, ![1, 32, 1], inb_S64x256x128_S64x8x128_0_31_0_s_1_32_1⟩ : LoadRect S64x256x128).idx y)) shapeCasts_S64x8x128_S64x8x128) shapeCasts_S64x8x128_S512x128]

theorem tiles1_eq (x : Vec Ideal S64x256x128 .f32) (n : Fin 16) : tiles1 x n = tile x (2 * n.val + 1) := by
  match n with
  | ⟨0, _⟩ => exact load_tile x 1 (by omega) _
  | ⟨1, _⟩ => exact load_tile x 3 (by omega) _
  | ⟨2, _⟩ => exact load_tile x 5 (by omega) _
  | ⟨3, _⟩ => exact load_tile x 7 (by omega) _
  | ⟨4, _⟩ => exact load_tile x 9 (by omega) _
  | ⟨5, _⟩ => exact load_tile x 11 (by omega) _
  | ⟨6, _⟩ => exact load_tile x 13 (by omega) _
  | ⟨7, _⟩ => exact load_tile x 15 (by omega) _
  | ⟨8, _⟩ => exact load_tile x 17 (by omega) _
  | ⟨9, _⟩ => exact load_tile x 19 (by omega) _
  | ⟨10, _⟩ => exact load_tile x 21 (by omega) _
  | ⟨11, _⟩ => exact load_tile x 23 (by omega) _
  | ⟨12, _⟩ => exact load_tile x 25 (by omega) _
  | ⟨13, _⟩ => exact load_tile x 27 (by omega) _
  | ⟨14, _⟩ => exact load_tile x 29 (by omega) _
  | ⟨15, _⟩ => exact load_tile x 31 (by omega) _
  | ⟨k + 16, h⟩ => exact absurd h (by omega)

set_option maxHeartbeats 1600000 in
/-- The grid point's result. -/
theorem point_out (t : Fin cfg0.N) (r : Fin 512) (C : Fin 1024) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix2 r C) =
      compressed (m ((c : Thread nD τ).loc main_arg0)) (m ((c : Thread nD τ).loc main_arg1)) (m ((c : Thread nD τ).loc main_arg2))
        (row t r) (⟨C.val / 512, by omega⟩ : Fin 2) (⟨C.val / 256 % 2, by omega⟩ : Fin 2) (⟨C.val % 256, by omega⟩ : Fin 256) := by
  have key : ∀ (g i : Fin 2) (j : Fin 256) (C' : Nat) (hC : C.val = C'), C' = 512 * g.val + 256 * i.val + j.val →
      compressed (m ((c : Thread nD τ).loc main_arg0)) (m ((c : Thread nD τ).loc main_arg1)) (m ((c : Thread nD τ).loc main_arg2)) (row t r) g i j =
      compressed (m ((c : Thread nD τ).loc main_arg0)) (m ((c : Thread nD τ).loc main_arg1)) (m ((c : Thread nD τ).loc main_arg2))
        (row t r) (⟨C.val / 512, by omega⟩ : Fin 2) (⟨C.val / 256 % 2, by omega⟩ : Fin 2) (⟨C.val % 256, by omega⟩ : Fin 256) := by
    intro g i j C' hC hg
    have e1 : g = (⟨C.val / 512, by omega⟩ : Fin 2) := Fin.ext (by show g.val = C.val / 512; omega)
    have e2 : i = (⟨C.val / 256 % 2, by omega⟩ : Fin 2) := Fin.ext (by show i.val = C.val / 256 % 2; omega)
    have e3 : j = (⟨C.val % 256, by omega⟩ : Fin 256) := Fin.ext (by show j.val = C.val % 256; omega)
    rw [← e1, ← e2, ← e3]
  unfold out0_A_3
  rw [View.read_writes_eq_canon _ _ _ (fun y => cover0_A_3 (y := y) ..)]
  unfold kernelRun0_A
  dsimp only
  sl_unfold_words
  simp only [loaded (hs0_0 t), loaded (hs0_1 t), loaded (hs0_2 t)]
  canon_tiles x h
  case piece0 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 1 1 j (by decide) (by decide)).trans (key 1 1 j _ h1 (by show 768 + j.val = 512 * 1 + 256 * 1 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles1 (iblk m c 0 t)) _ _ _ r j).trans ?_
    simp only [tiles1_eq]
    rfl
  case piece1 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 1 0 j (by decide) (by decide)).trans (key 1 0 j _ h1 (by show 512 + j.val = 512 * 1 + 256 * 0 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles1 (iblk m c 0 t)) _ _ _ r j).trans ?_
    simp only [tiles1_eq]
    rfl
  case piece2 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 0 1 j (by decide) (by decide)).trans (key 0 1 j _ h1 (by show 256 + j.val = 512 * 0 + 256 * 1 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles0 (iblk m c 0 t)) _ _ _ r j).trans ?_
    simp only [tiles0_eq]
    rfl
  case piece3 =>
    obtain ⟨r', j, rfl⟩ : ∃ (r' : Fin 512) (j : Fin 256), x = ix2 r' j := ⟨x 0, x 1, funext fun a => by
      match a with
      | ⟨0, _⟩ => rfl
      | ⟨1, _⟩ => rfl⟩
    obtain rfl : r = r' := Fin.ext h0
    refine Eq.trans ?_ ((piece m c t r 0 0 j (by decide) (by decide)).trans (key 0 0 j _ h1 (by show j.val = 512 * 0 + 256 * 0 + j.val; omega)))
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
    refine (chain (tiles0 (iblk m c 0 t)) _ _ _ r j).trans ?_
    simp only [tiles0_eq]
    rfl

/-- One term of a product, with its indices written another way. -/
theorem same_term (x : (⟨S2560x128x2x128, .f32⟩ : BufTy).Contents (Elt Ideal)) (pe : (⟨S32x128, .f32⟩ : BufTy).Contents (Elt Ideal))
    (w : (⟨S4096x256, .bf16⟩ : BufTy).Contents (Elt Ideal)) (r : Fin 20480) (g i : Fin 2) (j : Fin 256) (y : Fin 2048)
    (A : Fin 128) (B : Fin 2) (D : Fin 128) (P : Fin 32) (L : Fin 128) (W : Fin 4096) (hA : A.val = 16 * (r.val % 8) + y.val / 128)
    (hB : B = g) (hD : D.val = y.val % 128) (hP : P.val = 16 * i.val + y.val / 128) (hL : L.val = y.val % 128) (hW : W.val = 2048 * i.val + y.val) :
    (x (ix4 (⟨r.val / 8, by omega⟩ : Fin 2560) A B D) + pe (ix2 P L)) * w (ix2 W j) =
      (x (ix4 (⟨r.val / 8, by omega⟩ : Fin 2560) (⟨16 * (r.val % 8) + (place y).val, by omega⟩ : Fin 128) g (lane y))
        + pe (ix2 (⟨16 * i.val + (place y).val, by omega⟩ : Fin 32) (lane y))) * w (ix2 (⟨2048 * i.val + y.val, by omega⟩ : Fin 4096) j) := by
  subst hB
  exact term_congr (fun a b => x (ix4 (⟨r.val / 8, by omega⟩ : Fin 2560) a B b)) (fun p l => pe (ix2 p l)) (fun k => w (ix2 k j))
    (Fin.ext hA) (Fin.ext hD) (Fin.ext hP) (Fin.ext hL) (Fin.ext hW)

/-- The reference's product with the first half of the weight. -/
theorem reference_first (x : (⟨S2560x128x2x128, .f32⟩ : BufTy).Contents (Elt Ideal)) (pe : (⟨S32x128, .f32⟩ : BufTy).Contents (Elt Ideal))
    (w : (⟨S4096x256, .bf16⟩ : BufTy).Contents (Elt Ideal)) (r : Fin 20480) (g : Fin 2) (j : Fin 256) :
    Cert.CmpSampleRefIdeal.Read.val_main_v13 x pe w (ix3 r g j) = compressed x pe w r g 0 j := by
  pointwise [Cert.CmpSampleRefIdeal.Read.val_main_v13, Cert.CmpSampleRefIdeal.Read.val_main_v12, Cert.CmpSampleRefIdeal.Read.val_main_v11, Cert.CmpSampleRefIdeal.Read.val_main_v10, Cert.CmpSampleRefIdeal.Read.val_main_v9, Cert.CmpSampleRefIdeal.Read.val_main_v8, Cert.CmpSampleRefIdeal.Read.val_main_v7, Cert.CmpSampleRefIdeal.Read.val_main_v6, Cert.CmpSampleRefIdeal.Read.val_main_v5, Cert.CmpSampleRefIdeal.Read.val_main_v4, Cert.CmpSampleRefIdeal.Read.val_main_v3, Cert.CmpSampleRefIdeal.Read.val_main_v2, Cert.CmpSampleRefIdeal.Read.val_main_v1, Cert.CmpSampleRefIdeal.Read.val_main_v0]
  unfold compressed share
  exact Finset.sum_congr rfl fun y _ => same_term x pe w r g 0 j y _ _ _ _ _ _ (by dsimp only; omega) rfl rfl (by simp; try omega) rfl (by simp; try omega)

/-- The reference's product with the second half of the weight. -/
theorem reference_second (x : (⟨S2560x128x2x128, .f32⟩ : BufTy).Contents (Elt Ideal)) (pe : (⟨S32x128, .f32⟩ : BufTy).Contents (Elt Ideal))
    (w : (⟨S4096x256, .bf16⟩ : BufTy).Contents (Elt Ideal)) (r : Fin 20480) (g : Fin 2) (j : Fin 256) :
    Cert.CmpSampleRefIdeal.Read.val_main_v22 x pe w (ix3 r g j) = compressed x pe w r g 1 j := by
  pointwise [Cert.CmpSampleRefIdeal.Read.val_main_v22, Cert.CmpSampleRefIdeal.Read.val_main_v21, Cert.CmpSampleRefIdeal.Read.val_main_v20, Cert.CmpSampleRefIdeal.Read.val_main_v19, Cert.CmpSampleRefIdeal.Read.val_main_v18, Cert.CmpSampleRefIdeal.Read.val_main_v17, Cert.CmpSampleRefIdeal.Read.val_main_v16, Cert.CmpSampleRefIdeal.Read.val_main_v15, Cert.CmpSampleRefIdeal.Read.val_main_v14, Cert.CmpSampleRefIdeal.Read.val_main_v4, Cert.CmpSampleRefIdeal.Read.val_main_v3, Cert.CmpSampleRefIdeal.Read.val_main_v2, Cert.CmpSampleRefIdeal.Read.val_main_v1, Cert.CmpSampleRefIdeal.Read.val_main_v0]
  unfold compressed share
  exact Finset.sum_congr rfl fun y _ => same_term x pe w r g 1 j y _ _ _ _ _ _ (by dsimp only; omega) rfl rfl (by simp; try omega) rfl (by simp; try omega)

/-- The reference holds the halves' products. -/
theorem reference_value (x : (⟨S2560x128x2x128, .f32⟩ : BufTy).Contents (Elt Ideal)) (pe : (⟨S32x128, .f32⟩ : BufTy).Contents (Elt Ideal))
    (w : (⟨S4096x256, .bf16⟩ : BufTy).Contents (Elt Ideal)) (r : Fin 20480) (C : Fin 1024) :
    Cert.CmpSampleRefIdeal.Read.val_main_v26 x pe w (ix2 r C) = compressed x pe w r (⟨C.val / 512, by omega⟩ : Fin 2) (⟨C.val / 256 % 2, by omega⟩ : Fin 2) (⟨C.val % 256, by omega⟩ : Fin 256) := by
  have ha := reference_first x pe w r
  have hb := reference_second x pe w r
  pointwise [Cert.CmpSampleRefIdeal.Read.val_main_v26, Cert.CmpSampleRefIdeal.Read.val_main_v25, Cert.CmpSampleRefIdeal.Read.val_main_v24, Cert.CmpSampleRefIdeal.Read.val_main_v23]
  split
  · rename_i h
    exact (ha _ _).trans (congrArg (fun i => compressed x pe w r (⟨C.val / 512, by omega⟩ : Fin 2) i (⟨C.val % 256, by omega⟩ : Fin 256)) (Fin.ext (by show 0 = C.val / 256 % 2; omega)))
  · rename_i h
    exact (hb _ _).trans (congrArg (fun i => compressed x pe w r (⟨C.val / 512, by omega⟩ : Fin 2) i (⟨C.val % 256, by omega⟩ : Fin 256)) (Fin.ext (by show 1 = C.val / 256 % 2; omega)))

/-- The kernel's result array holds the same. -/
theorem kernel_value (r : Fin 20480) (C : Fin 1024) :
    ((dats m 0 c).arrAt 3 cfg0.N : (⟨2, ![20480, 1024]⟩ : Shape).Idx → EReal) (ix2 r C) =
      compressed (m ((c : Thread nD τ).loc main_arg0)) (m ((c : Thread nD τ).loc main_arg1)) (m ((c : Thread nD τ).loc main_arg2))
        r (⟨C.val / 512, by omega⟩ : Fin 2) (⟨C.val / 256 % 2, by omega⟩ : Fin 2) (⟨C.val % 256, by omega⟩ : Fin 256) := by
  have hb : r.val / 512 < cfg0.N := lt_of_lt_of_eq (by omega) (show cfg0.N = 40 from N_0).symm
  have hr : row ⟨r.val / 512, hb⟩ ⟨r.val % 512, by omega⟩ = r := Fin.ext (by
    show 512 * (r.val / 512) + r.val % 512 = r.val
    omega)
  have key := congrFun (blocks3 m c ⟨r.val / 512, hb⟩ (flush0_3 _)) (ix2 (⟨r.val % 512, by omega⟩ : Fin 512) C)
  rw [View.read_apply, flushed3_A] at key
  have he : ((cfg0.win 3).blk ⟨r.val / 512, hb⟩).view.emb (ix2 (⟨r.val % 512, by omega⟩ : Fin 512) C) = ix2 r C := by
    funext a
    apply Fin.ext
    match a with
    | ⟨0, _⟩ => show win0_3.index ⟨r.val / 512, hb⟩ 0 * 512 + 1 * (r.val % 512) = r.val; rw [(at3 _).1]; show r.val / 512 * 512 + _ = _; omega
    | ⟨1, _⟩ => show win0_3.index ⟨r.val / 512, hb⟩ 1 * 1024 + 1 * C.val = C.val; rw [(at3 _).2]; omega
  rw [he] at key
  refine key.trans ?_
  refine Eq.trans ?_ ((point_out m c ⟨r.val / 512, hb⟩ ⟨r.val % 512, by omega⟩ C).trans (by rw [hr]))
  rfl

/-- The kernel and the reference leave the same array. -/
theorem tie : Cert.algebraic_CmpSampleIdeal_CmpSampleRefIdeal := by
  intro m ρ m' ρ' _ hagree
  refine ⟨_, Cert.CmpSampleIdeal.Value.run_blocks (F := Ideal) m ρ, ?_⟩
  refine (θ_run Cert.CmpSampleRefIdeal.defs _ _).mono (fun _ h c => ⟨?_, (h c).2⟩) (Cert.CmpSampleRefIdeal.Value.run (F := Ideal) m' ρ')
  rw [(h c).1]
  refine (Cert.CmpSampleRefIdeal.Read.val_main_v26_eq (F := Ideal) _ _ _).trans ?_
  funext i
  obtain ⟨r, C, rfl⟩ : ∃ (r : Fin 20480) (C : Fin 1024), i = ix2 r C := ⟨i 0, i 1, funext fun a => by
    match a with
    | ⟨0, _⟩ => rfl
    | ⟨1, _⟩ => rfl⟩
  refine (reference_value _ _ _ r C).trans (Eq.trans ?_ (kernel_value m c r C).symm)
  obtain ⟨e0, e1, e2⟩ := hagree c
  rw [← e0, ← e1, ← e2]
end Cert.CmpSampleProof
-- ==== Proof.CmpFinSpec.lean ====
module
public import proofs.«01_k».proof.Proof.OutSpec
public import Idealize.ShloMosaic.Lib.Pointwise
@[expose] public section
noncomputable section

/-! # The second layer of the block compression, block by block

A compressed block adds the products of two neighbouring half blocks, applies the activation, and multiplies by the second
weight. A sequence of 128 half blocks has 127 blocks; the last row of the result is zero. -/
namespace Cert.CompressFin
open Idealize.ShloMosaic Idealize.ShloMosaic.Pointwise

/-- The activation in its form with the hyperbolic tangent. -/
def gelu (a : EReal) : EReal :=
  a * (Ideal.ofBits FTy.f32 1056964608#32 * (1 + Ideal.tanh (Ideal.ofBits FTy.f32 1061962282#32 * (a + Ideal.ofBits FTy.f32 1027024659#32 * (a * (a * a))))))

/-- One number of a compressed block: `a` and `b` are the two half blocks' products, `w` a column of the second weight. -/
def block (a b w : Fin 256 → EReal) : EReal := ∑ y, gelu (a y + b y) * w y

theorem block_congr {a a' b b' w w' : Fin 256 → EReal} (ha : ∀ y, a y = a' y) (hb : ∀ y, b y = b' y) (hw : ∀ y, w y = w' y) :
    block a b w = block a' b' w' := by
  rw [funext ha, funext hb, funext hw]

/-- An array read at equal indices. -/
theorem at_congr {M N : Nat} (x : (⟨2, ![M, N]⟩ : Shape).Idx → EReal) {a a' : Fin M} {b b' : Fin N} (ha : a = a') (hb : b = b') :
    x (ix2 a b) = x (ix2 a' b') := by
  rw [ha, hb]

/-- The integer zero as a number. -/
theorem zero_number : (FloatOps.sitofp FTy.f32 0#32 : Ideal FTy.f32) = (0 : EReal) := by
  show (((BitVec.toInt 0#32 : ℤ) : ℝ) : EReal) = 0
  simp

/-- The comparison that leaves out the last row. -/
theorem not_last (r : Fin 128) (p q : EReal) :
    Scalar.select (IntOp.cmpi CmpIPredicate.slt (BitVec.ofNat 32 r.val) 127#32) p q = if r.val < 127 then p else q := by
  have key : ∀ r : Fin 128, IntOp.cmpi CmpIPredicate.slt (BitVec.ofNat 32 r.val) 127#32 = if r.val < 127 then 1#1 else 0#1 := by decide +kernel
  rw [key r]
  split <;> rfl
end Cert.CompressFin
-- ==== Proof.CmpFinPromptProj.lean ====
module
public import proofs.«01_k».proof.Proof.CmpFinSpec
public import proofs.«01_k».proof.Defs
public import proofs.«01_k».proof.Proof.Gen.CmpFinPromptIdeal.Value
public import proofs.«01_k».proof.Proof.Gen.CmpFinPromptRefIdeal.Run
public import proofs.«01_k».proof.Proof.Gen.CmpFinPromptRefIdeal.Read
public import Idealize.ShloMosaic.Lib.Pipeline.Value
public import Idealize.ShloMosaic.Lib.Pointwise
public import Idealize.ShloMosaic.Lib.Tactic
public import Idealize.ShloMosaic.Lib.StableHlo.RunRead
public import Idealize.ShloMosaic.Lib.Pipeline.ValueKit.Tiles
@[expose] public section
set_option maxRecDepth 16384
noncomputable section

/-! # The second layer of the prompt batch's block compression

Each grid point takes the half blocks of one sequence; rotating them up by one puts every half block beside the next. -/
namespace Cert.CmpFinPromptProof
open Idealize.ShloMosaic Idealize.ShloMosaic.Pointwise Cert.OutProj Cert.CompressFin Cert.CmpFinPromptIdeal Cert.CmpFinPromptIdeal.Gen Cert.CmpFinPromptIdeal.Value Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 ∧ win0_2.index t 2 = 0 ∧ win0_2.index t 3 = 0 := by decide +kernel

/-- The sequence of point `t`. -/
def seq (t : Fin cfg0.N) : Fin 4 := ⟨t.val, lt_of_lt_of_eq t.isLt (show cfg0.N = 4 from N_0)⟩

variable (m : (ℓ : Loc nD τ sig) → Buf (Elt Ideal) ℓ) (c : Dev nD)

theorem block0 (t : Fin cfg0.N) (r : Fin 128) (l : Fin 1024) : (iblk m c 0 t : Vec Ideal S128x1024 .f32) (ix2 r l) =
    m ((c : Thread nD τ).loc main_arg0) (ix2 (⟨(seq t).val * 128 + r.val, by omega⟩ : Fin 512) l) := by
  unfold iblk
  rw [View.read_apply]
  show V m c main_arg0 _ = _
  rw [V_main_arg0]
  congr 1
  funext a
  apply Fin.ext
  match a with
  | ⟨0, _⟩ => show win0_0.index t 0 * 128 + 1 * r.val = t.val * 128 + r.val; rw [(at0 t).1]; omega
  | ⟨1, _⟩ => show win0_0.index t 1 * 1024 + 1 * l.val = l.val; rw [(at0 t).2]; omega

theorem block1 (t : Fin cfg0.N) (k : Fin 256) (d : Fin 128) : (iblk m c 1 t : Vec Ideal S256x128 .bf16) (ix2 k d) =
    m ((c : Thread nD τ).loc main_arg1) (ix2 k d) := by
  unfold iblk
  rw [View.read_apply]
  show V m c main_arg1 _ = _
  rw [V_main_arg1]
  congr 1
  funext a
  apply Fin.ext
  match a with
  | ⟨0, _⟩ => show win0_1.index t 0 * 256 + 1 * k.val = k.val; rw [(at1 t).1]; omega
  | ⟨1, _⟩ => show win0_1.index t 1 * 128 + 1 * d.val = d.val; rw [(at1 t).2]; omega

/-- Row `r`, lane `d` of head `g`, from a sequence's half blocks. -/
def row (x : Vec Ideal S128x1024 .f32) (w : Vec Ideal S256x128 .bf16) (g : Fin 2) (r d : Fin 128) : EReal :=
  if r.val < 127 then block (fun y => x (ix2 r (⟨g.val * 512 + y.val, by omega⟩ : Fin 1024)))
    (fun y => x (ix2 (⟨(r.val + 1) % 128, by omega⟩ : Fin 128) (⟨g.val * 512 + 256 + y.val, by omega⟩ : Fin 1024))) (fun y => w (ix2 y d)) else 0

/-- Lane `d` of head `g` of compressed block `r` of sequence `b`. -/
def compressed (x : (⟨S512x1024, .f32⟩ : BufTy).Contents (Elt Ideal)) (w : (⟨S256x128, .bf16⟩ : BufTy).Contents (Elt Ideal))
    (b : Fin 4) (g : Fin 2) (r d : Fin 128) : EReal :=
  row (fun i => x (ix2 (⟨b.val * 128 + (i 0).val, by have : (i 0).val < 128 := (i 0).isLt; omega⟩ : Fin 512) (i 1))) w g r d

theorem first_head (x : Vec Ideal S128x1024 .f32) (w : Vec Ideal S256x128 .bf16) (r d : Fin 128) :
    k0_pay2 x w (ix4 0 0 r d) = row x w 0 r d := by
  pointwise [k0_pay2]
  refine (not_last r _ _).trans ?_
  unfold row
  refine if_congr Iff.rfl ?_ rfl
  refine block_congr (fun y => ?_) (fun y => ?_) (fun y => rfl)
  · exact at_congr x rfl (Fin.ext (by show y.val = 0 * 512 + y.val; omega))
  · exact at_congr x (Fin.ext (by show (r.val + 128 - 127) % 128 = (r.val + 1) % 128; omega)) (Fin.ext (by show 256 + y.val = 0 * 512 + 256 + y.val; omega))

theorem second_head (x : Vec Ideal S128x1024 .f32) (w : Vec Ideal S256x128 .bf16) (r d : Fin 128) :
    k0_pay1 (iota .tc S128x128 32 [0] iota_S128x128_d0_w32) (k0_pay3 x) (k0_pay4 x) k0_pay5 w (ix4 0 0 r d) = row x w 1 r d := by
  pointwise [k0_pay1, k0_pay3, k0_pay4, k0_pay5]
  refine (not_last r _ _).trans ?_
  unfold row
  refine if_congr Iff.rfl ?_ rfl
  refine block_congr (fun y => ?_) (fun y => ?_) (fun y => rfl)
  · exact at_congr x rfl (Fin.ext (by show 512 + y.val = 1 * 512 + y.val; omega))
  · exact at_congr x (Fin.ext (by show (r.val + 128 - 127) % 128 = (r.val + 1) % 128; omega)) (Fin.ext (by show 768 + y.val = 1 * 512 + 256 + y.val; omega))

/-- The reference's product with the second weight. -/
theorem reference_product (x : (⟨S512x1024, .f32⟩ : BufTy).Contents (Elt Ideal)) (w : (⟨S256x128, .bf16⟩ : BufTy).Contents (Elt Ideal))
    (b : Fin 4) (g : Fin 2) (r : Fin 127) (d : Fin 128) :
    Cert.CmpFinPromptRefIdeal.Read.val_main_v20 x w (ix4 b r g d) = compressed x w b g (⟨r.val, by omega⟩ : Fin 128) d := by
  pointwise [Cert.CmpFinPromptRefIdeal.Read.val_main_v20, Cert.CmpFinPromptRefIdeal.Read.val_main_v19, Cert.CmpFinPromptRefIdeal.Read.val_main_v18, Cert.CmpFinPromptRefIdeal.Read.val_main_v17, Cert.CmpFinPromptRefIdeal.Read.val_main_v16, Cert.CmpFinPromptRefIdeal.Read.val_main_v15, Cert.CmpFinPromptRefIdeal.Read.val_main_v14, Cert.CmpFinPromptRefIdeal.Read.val_main_v13, Cert.CmpFinPromptRefIdeal.Read.val_main_v12, Cert.CmpFinPromptRefIdeal.Read.val_main_v11, Cert.CmpFinPromptRefIdeal.Read.val_main_v10, Cert.CmpFinPromptRefIdeal.Read.val_main_v9, Cert.CmpFinPromptRefIdeal.Read.val_main_v8, Cert.CmpFinPromptRefIdeal.Read.val_main_v7, Cert.CmpFinPromptRefIdeal.Read.val_main_v6, Cert.CmpFinPromptRefIdeal.Read.val_main_v5, Cert.CmpFinPromptRefIdeal.Read.val_main_v4, Cert.CmpFinPromptRefIdeal.Read.val_main_v3, Cert.CmpFinPromptRefIdeal.Read.val_main_v2, Cert.CmpFinPromptRefIdeal.Read.val_main_v1, Cert.CmpFinPromptRefIdeal.Read.val_main_v0, Cert.CmpFinPromptRefIdeal.Read.val_main_cst, Cert.CmpFinPromptRefIdeal.Read.val_main_cst_0, Cert.CmpFinPromptRefIdeal.Read.val_main_cst_1, Cert.CmpFinPromptRefIdeal.Read.val_main_cst_2]
  have h : compressed x w b g (⟨r.val, by omega⟩ : Fin 128) d = block (fun y => x (ix2 (⟨b.val * 128 + r.val, by omega⟩ : Fin 512) (⟨g.val * 512 + y.val, by omega⟩ : Fin 1024)))
      (fun y => x (ix2 (⟨b.val * 128 + (1 + r.val), by omega⟩ : Fin 512) (⟨g.val * 512 + 256 + y.val, by omega⟩ : Fin 1024))) (fun y => w (ix2 y d)) := by
    unfold compressed row
    refine (if_pos r.isLt).trans (block_congr (fun y => rfl) (fun y => ?_) (fun y => rfl))
    exact at_congr x (Fin.ext (by show b.val * 128 + (r.val + 1) % 128 = b.val * 128 + (1 + r.val); omega)) rfl
  rw [h]
  unfold block gelu
  refine Finset.sum_congr rfl fun y _ => ?_
  simp only [mul_assoc]

/-- The reference holds the compressed blocks. -/
theorem reference_value (x : (⟨S512x1024, .f32⟩ : BufTy).Contents (Elt Ideal)) (w : (⟨S256x128, .bf16⟩ : BufTy).Contents (Elt Ideal))
    (b : Fin 4) (g : Fin 2) (r d : Fin 128) :
    Cert.CmpFinPromptRefIdeal.Read.val_main_v22 x w (ix4 b g r d) = compressed x w b g r d := by
  have hp := reference_product x w b g
  pointwise [Cert.CmpFinPromptRefIdeal.Read.val_main_v22, Cert.CmpFinPromptRefIdeal.Read.val_main_v21]
  split
  · rename_i h
    exact hp ⟨r.val, h⟩ d
  · rename_i h
    refine Eq.trans ?_ (if_neg h).symm
    pointwise [Cert.CmpFinPromptRefIdeal.Read.val_main_call0_v0, Cert.CmpFinPromptRefIdeal.Read.val_main_c]
    exact zero_number

/-- What a grid point stores, from the arrays it reads. -/
theorem tile_out (X : Vec Ideal S128x1024 .f32) (W : Vec Ideal S256x128 .bf16) (g : Fin 2) (r d : Fin 128) :
    out0_2 X W (ix4 0 g r d) = row X W g r d := by
  unfold out0_2
  have l0 : View.ld X r0_0 = X := View.ld_unit_zero (S := S128x1024) zeros2 _ _
  have l1 : View.ld W r0_1 = W := View.ld_unit_zero (S := S256x128) zeros2 _ _
  rw [l0, l1]
  canon_tiles x h using cover0_2 ..
  case piece0 =>
    have hx : x = ix4 0 0 r d := funext fun a => Fin.ext (by
      match a with
      | ⟨0, _⟩ => show (x 0).val = 0; omega
      | ⟨1, _⟩ => show (x 1).val = 0; omega
      | ⟨2, _⟩ => exact h2.symm
      | ⟨3, _⟩ => exact h3.symm)
    have hg : g = 1 := Fin.ext (h1.trans (by show 1 + (x 1).val = 1; omega))
    subst hx hg
    exact second_head X W r d
  case piece1 =>
    have hx : x = ix4 0 0 r d := funext fun a => Fin.ext (by
      match a with
      | ⟨0, _⟩ => show (x 0).val = 0; omega
      | ⟨1, _⟩ => show (x 1).val = 0; omega
      | ⟨2, _⟩ => exact h2.symm
      | ⟨3, _⟩ => exact h3.symm)
    have hg : g = 0 := Fin.ext (h1.trans (by show (x 1).val = 0; omega))
    subst hx hg
    exact first_head X W r d

theorem point_out (t : Fin cfg0.N) (g : Fin 2) (r d : Fin 128) :
    out0_2 (iblk m c 0 t) (iblk m c 1 t) (ix4 0 g r d) =
      compressed (m ((c : Thread nD τ).loc main_arg0)) (m ((c : Thread nD τ).loc main_arg1)) (seq t) g r d := by
  have e0 : (iblk m c 0 t : Vec Ideal S128x1024 .f32) = fun i => m ((c : Thread nD τ).loc main_arg0) (ix2 (⟨(seq t).val * 128 + (i 0).val, by have : (i 0).val < 128 := (i 0).isLt; omega⟩ : Fin 512) (i 1)) := by
    funext i
    obtain ⟨r, l, rfl⟩ : ∃ (r : Fin 128) (l : Fin 1024), i = ix2 r l := ⟨i 0, i 1, funext fun a => by
      match a with
      | ⟨0, _⟩ => rfl
      | ⟨1, _⟩ => rfl⟩
    exact block0 m c t r l
  have e1 : (iblk m c 1 t : Vec Ideal S256x128 .bf16) = m ((c : Thread nD τ).loc main_arg1) := by
    funext i
    obtain ⟨r, l, rfl⟩ : ∃ (r : Fin 256) (l : Fin 128), i = ix2 r l := ⟨i 0, i 1, funext fun a => by
      match a with
      | ⟨0, _⟩ => rfl
      | ⟨1, _⟩ => rfl⟩
    exact block1 m c t r l
  refine (tile_out _ _ g r d).trans ?_
  unfold compressed
  exact congrArg₂ (fun X W => row X W g r d) e0 e1

/-- The kernel's result array holds the compressed blocks. -/
theorem kernel_value (b : Fin 4) (g : Fin 2) (r d : Fin 128) :
    ((dats m 0 c).arrAt 2 cfg0.N : (⟨4, ![4, 2, 128, 128]⟩ : Shape).Idx → EReal) (ix4 b g r d) =
      compressed (m ((c : Thread nD τ).loc main_arg0)) (m ((c : Thread nD τ).loc main_arg1)) b g r d := by
  have hb : b.val < cfg0.N := lt_of_lt_of_eq b.isLt (show cfg0.N = 4 from N_0).symm
  have key := congrFun (blocks2 m c ⟨b.val, hb⟩ (flush0_2 _)) (ix4 (0 : Fin 1) g r d)
  rw [View.read_apply, flushed2] at key
  have he : ((cfg0.win 2).blk ⟨b.val, hb⟩).view.emb (ix4 (0 : Fin 1) g r d) = ix4 b g r d := by
    funext a
    apply Fin.ext
    match a with
    | ⟨0, _⟩ => show win0_2.index ⟨b.val, hb⟩ 0 * 1 + 1 * 0 = b.val; rw [(at2 _).1]; show b.val * 1 + 1 * 0 = _; omega
    | ⟨1, _⟩ => show win0_2.index ⟨b.val, hb⟩ 1 * 2 + 1 * g.val = g.val; rw [(at2 _).2.1]; omega
    | ⟨2, _⟩ => show win0_2.index ⟨b.val, hb⟩ 2 * 128 + 1 * r.val = r.val; rw [(at2 _).2.2.1]; omega
    | ⟨3, _⟩ => show win0_2.index ⟨b.val, hb⟩ 3 * 128 + 1 * d.val = d.val; rw [(at2 _).2.2.2]; omega
  rw [he] at key
  refine key.trans ?_
  refine Eq.trans ?_ (point_out m c ⟨b.val, hb⟩ g r d)
  rfl

/-- The kernel and the reference leave the same array. -/
theorem tie : Cert.algebraic_CmpFinPromptIdeal_CmpFinPromptRefIdeal := by
  intro m ρ m' ρ' _ hagree
  refine ⟨_, Cert.CmpFinPromptIdeal.Value.run_blocks (F := Ideal) m ρ, ?_⟩
  refine (θ_run Cert.CmpFinPromptRefIdeal.defs _ _).mono (fun _ h c => ⟨?_, (h c).2⟩) (Cert.CmpFinPromptRefIdeal.Value.run (F := Ideal) m' ρ')
  rw [(h c).1]
  refine (Cert.CmpFinPromptRefIdeal.Read.val_main_v22_eq (F := Ideal) _ _).trans ?_
  funext i
  obtain ⟨b, g, r, d, rfl⟩ : ∃ (b : Fin 4) (g : Fin 2) (r d : Fin 128), i = ix4 b g r d := ⟨i 0, i 1, i 2, i 3, funext fun a => by
    match a with
    | ⟨0, _⟩ => rfl
    | ⟨1, _⟩ => rfl
    | ⟨2, _⟩ => rfl
    | ⟨3, _⟩ => rfl⟩
  refine (reference_value _ _ b g r d).trans (Eq.trans ?_ (kernel_value m c b g r d).symm)
  obtain ⟨e0, e1⟩ := hagree c
  rw [← e0, ← e1]
end Cert.CmpFinPromptProof
-- ==== Proof.WinSampleProj.lean ====
module
public import proofs.«01_k».proof.Proof.Product
public import proofs.«01_k».proof.Defs
public import proofs.«01_k».proof.Proof.Gen.WinSampleIdeal.Frame
public import proofs.«01_k».proof.Proof.Gen.WinSampleRefIdeal.Run
public import Idealize.ShloMosaic.Lib.Pipeline.Value
public import Idealize.ShloMosaic.Lib.Pointwise
public import Idealize.ShloMosaic.Lib.Tactic
@[expose] public section
set_option maxRecDepth 16384
noncomputable section

/-! # The sliding windows of the sample batch

The projection's last 512 columns are the window's new keys and values. The host appends them to the buffers and drops the
four oldest rows. -/
namespace Cert.WinSampleProof
open Idealize.ShloMosaic Idealize.ShloMosaic.Pointwise Cert.Product Cert.WinSampleIdeal Cert.WinSampleIdeal.Gen Idealize.ShloMosaic.TcCoe Idealize.SL.Sem

/-! ## The blocks of a grid point -/

theorem at0 : ∀ t : Fin cfg0.N, win0_0.index t 0 = t.val % 1 ∧ win0_0.index t 1 = 0 := by decide +kernel
theorem at1 : ∀ t : Fin cfg0.N, win0_1.index t 0 = 0 ∧ win0_1.index t 1 = 0 + t.val / 1 := by decide +kernel

/-- The token that row `r` of point `t`'s tile holds. -/
def tok (t : Fin cfg0.N) (r : Fin 512) : Fin 512 :=
  ⟨512 * (t.val % 1) + r.val, by have := lt_of_lt_of_eq t.isLt (show cfg0.N = 11 from N_0); omega⟩
/-- The weight column that lane `l` of point `t`'s column tile holds. -/
def col (t : Fin cfg0.N) (l : Fin 512) : Fin 5656 :=
  ⟨0 + 512 * (t.val / 1) + l.val, by have := lt_of_lt_of_eq t.isLt (show cfg0.N = 11 from N_0); omega⟩

variable (m : (ℓ : Loc nD τ sig) → Buf (Elt Ideal) ℓ) (c : Dev nD)

theorem block0 (t : Fin cfg0.N) (r : Fin 512) (x : Fin 2048) : (iblk m c 0 t : Vec Ideal S512x2048 .bf16) (ix2 r x) =
    m ((c : Thread nD τ).loc main_arg0) (ix2 (tok t r) x) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val % 1) + r.val; rw [(at0 t).1]; omega
  | ⟨1, _⟩ => show win0_0.index t 1 * 2048 + 1 * x.val = x.val; rw [(at0 t).2]; omega

theorem block1 (t : Fin cfg0.N) (x : Fin 2048) (l : Fin 512) : (X0_1 m c t : Vec Ideal S2048x512 .f32) (ix2 x l) =
    m ((c : Thread nD τ).loc main_arg1) (ix2 x (col t l)) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 2048 + 1 * x.val = x.val; rw [(at1 t).1]; omega
  | ⟨1, _⟩ => show win0_1.index t 1 * 512 + 1 * l.val = 0 + 512 * (t.val / 1) + l.val; rw [(at1 t).2]; omega

/-! ## One grid point -/

/-- A grid point rounds its column tile's weights and multiplies by them. -/
theorem point_out (t : Fin cfg0.N) :
    out0_A_2 c (grid0.coords t) (ms0_0 t) (hs0_0 t) (ms0_1 t) (hs0_1 t) (ms0_2 t) (hs0_2 t) scM0_0 (Memref.isWhole_whole _) (hcond0_0 t)
      (iblk m c 0 t) (X0_1 m c t) = k0_pay2 (iblk m c 0 t) (k0_pay1 (X0_1 m c t)) := by
  unfold out0_A_2
  rw [View.read_writes_eq_canon _ _ _ (fun y => cover0_A_2 (y := y) ..)]
  unfold kernelRun0_A
  dsimp only
  sl_unfold_words
  rw [View.canon_unit_zero off2]
  simp only [View.readCov_unit_zero (S := S2048x512) _ off2, View.readAt_eq_ld, (hs0_0 t).read_unread, (hs0_1 t).read_unread,
    View.ld_unit_zero (S := S512x2048) off2, View.ld_unit_zero (S := S2048x512) off2, shapeCast_self]

/-- At Ideal that is the product with the weights themselves. -/
theorem point_product (t : Fin cfg0.N) (r : Fin 512) (l : Fin 512) :
    k0_pay2 (iblk m c 0 t) (k0_pay1 (X0_1 m c t)) (ix2 r l) =
      rowCol (m ((c : Thread nD τ).loc main_arg0)) (m ((c : Thread nD τ).loc main_arg1)) (tok t r) (col t l) := by
  have hR : ∀ (x : Fin 2048) (y : Fin 512), k0_pay1 (X0_1 m c t) (ix2 x y) = m ((c : Thread nD τ).loc main_arg1) (ix2 x (col t y)) := fun x y => by
    pointwise [k0_pay1]
    exact block1 m c t x y
  generalize k0_pay1 (X0_1 m c t) = R at hR ⊢
  pointwise [k0_pay2]
  unfold rowCol
  simp only [hR, block0]

theorem at2 : ∀ t : Fin cfg0.N, win0_2.index t 0 = 0 ∧ win0_2.index t 1 = t.val := by decide +kernel

/-- What point `t` writes back is what its run left. -/
theorem flushed2_A (t : Fin cfg0.N) :
    (dats m 0 c).flushed 2 t = (cfg0.win 2).cut (grid0.coords t) (out0_A_2 c (grid0.coords t) (ms0_0 t) (hs0_0 t) (ms0_1 t) (hs0_1 t)
      (ms0_2 t) (hs0_2 t) scM0_0 (Memref.isWhole_whole _) (hcond0_0 t) (iblk m c 0 t) (X0_1 m c t)) := by
  show (cfg0.win 2).cut (grid0.coords t) ((dats m 0 c).after 2 t) = _
  rw [after0_2]
  simp only [outsAt0]

theorem idx_inj2 : ∀ t t' : Fin cfg0.N, win0_2.index t = win0_2.index t' → t = t' :=
  (by decide +kernel : ∀ t t' : Fin grid0.N, win0_2.index t = win0_2.index t' → t = t')

/-- Distinct points write distinct blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- So a block of the final array is what its point wrote. -/
theorem blocks2 (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 disjoint2 cfg0.N t t.isLt hf

/-- The kernel's result array holds the products. -/
theorem kernel_value (T : Fin 512) (l : Fin 5632) :
    ((dats m 0 c).arrAt 2 cfg0.N : (⟨2, ![512, 5632]⟩ : Shape).Idx → EReal) (ix2 T l) =
      rowCol (m ((c : Thread nD τ).loc main_arg0)) (m ((c : Thread nD τ).loc main_arg1)) T (⟨0 + l.val, by omega⟩ : Fin 5656) := by
  have hb : l.val / 512 < cfg0.N := lt_of_lt_of_eq (by omega) (show cfg0.N = 11 from N_0).symm
  have hT : tok ⟨l.val / 512, hb⟩ T = T := Fin.ext (by
    show 512 * ((l.val / 512) % 1) + T.val = T.val
    omega)
  have hc : col ⟨l.val / 512, hb⟩ ⟨l.val % 512, by omega⟩ = ⟨0 + l.val, by omega⟩ := Fin.ext (by
    show 0 + 512 * ((l.val / 512) / 1) + l.val % 512 = 0 + l.val
    omega)
  have key := congrFun (blocks2 m c ⟨l.val / 512, hb⟩ (flush0_2 _)) (ix2 T (⟨l.val % 512, by omega⟩ : Fin 512))
  rw [View.read_apply, flushed2_A, point_out] at key
  have he : ((cfg0.win 2).blk ⟨l.val / 512, hb⟩).view.emb (ix2 T (⟨l.val % 512, by omega⟩ : Fin 512)) = ix2 T l := by
    funext a
    apply Fin.ext
    match a with
    | ⟨0, _⟩ => show win0_2.index ⟨l.val / 512, hb⟩ 0 * 512 + 1 * T.val = T.val; rw [(at2 _).1]; omega
    | ⟨1, _⟩ => show win0_2.index ⟨l.val / 512, hb⟩ 1 * 512 + 1 * (l.val % 512) = l.val; rw [(at2 _).2]; show l.val / 512 * 512 + _ = _; omega
  rw [he] at key
  refine key.trans ?_
  refine Eq.trans ?_ ((point_product m c ⟨l.val / 512, hb⟩ T ⟨l.val % 512, by omega⟩).trans (by rw [hT, hc]))
  rfl

/-! ## The host's lines after the kernel -/

/-- A buffer with the new rows appended and the four oldest dropped. -/
def moved (B : Vec Ideal S128x512x2x128 .f32) (N : Vec Ideal S128x4x2x128 .f32) : Vec Ideal S128x512x2x128 .f32 :=
  extractStridedSlice S128x512x2x128 ![0, 4, 0, 0] (concatenate S128x516x2x128 1 [⟨S128x512x2x128, B⟩, ⟨S128x4x2x128, N⟩]
    concatenates_S128x512x2x128_S128x4x2x128_S128x516x2x128_d1) slices_S128x516x2x128_S128x512x2x128_0_4_0_0

theorem after_k (V : Valuation τ sig (Elt Ideal)) : StableHlo.after hostOps1 V (Proc.devRef .tc main_v5) =
    moved (V (Proc.devRef .tc main_arg2)) (shapeCast S128x4x2x128 (extractStridedSlice S512x256 ![0, 5120] (V (Proc.devRef .tc main_v0)) slices_S512x5632_S512x256_0_5120) shapeCasts_S512x256_S128x4x2x128) := by
  after_results <;> rfl

theorem after_v (V : Valuation τ sig (Elt Ideal)) : StableHlo.after hostOps1 V (Proc.devRef .tc main_v8) =
    moved (V (Proc.devRef .tc main_arg3)) (shapeCast S128x4x2x128 (extractStridedSlice S512x256 ![0, 5376] (V (Proc.devRef .tc main_v0)) slices_S512x5632_S512x256_0_5376) shapeCasts_S512x256_S128x4x2x128) := by
  after_results <;> rfl

/-- The rows of four tokens of a sequence, head by head: the new keys. -/
theorem rows_k (b : Fin 128) (t : Fin 4) (g : Fin 2) (d : Fin 128) :
    (shapeCast S128x4x2x128 (extractStridedSlice S512x256 ![0, 5120] ((dats m 0 c).arrAt 2 cfg0.N : Vec Ideal S512x5632 .f32) slices_S512x5632_S512x256_0_5120)
      shapeCasts_S512x256_S128x4x2x128 : Vec Ideal S128x4x2x128 .f32) (ix4 b t g d) =
    rowCol (m ((c : Thread nD τ).loc main_arg0)) (m ((c : Thread nD τ).loc main_arg1)) (⟨b.val * 4 + t.val, by omega⟩ : Fin 512)
      (⟨5120 + (g.val * 128 + d.val), by omega⟩ : Fin 5656) := by
  refine Eq.trans ?_ ((kernel_value m c ⟨b.val * 4 + t.val, by omega⟩ ⟨5120 + (g.val * 128 + d.val), by omega⟩).trans ?_)
  · generalize (dats m 0 c).arrAt 2 cfg0.N = Y
    pointwise
  · congr 1
    exact Fin.ext (Nat.zero_add _)

/-- The rows of four tokens of a sequence, head by head: the new values. -/
theorem rows_v (b : Fin 128) (t : Fin 4) (g : Fin 2) (d : Fin 128) :
    (shapeCast S128x4x2x128 (extractStridedSlice S512x256 ![0, 5376] ((dats m 0 c).arrAt 2 cfg0.N : Vec Ideal S512x5632 .f32) slices_S512x5632_S512x256_0_5376)
      shapeCasts_S512x256_S128x4x2x128 : Vec Ideal S128x4x2x128 .f32) (ix4 b t g d) =
    rowCol (m ((c : Thread nD τ).loc main_arg0)) (m ((c : Thread nD τ).loc main_arg1)) (⟨b.val * 4 + t.val, by omega⟩ : Fin 512)
      (⟨5376 + (g.val * 128 + d.val), by omega⟩ : Fin 5656) := by
  refine Eq.trans ?_ ((kernel_value m c ⟨b.val * 4 + t.val, by omega⟩ ⟨5376 + (g.val * 128 + d.val), by omega⟩).trans ?_)
  · generalize (dats m 0 c).arrAt 2 cfg0.N = Y
    pointwise
  · congr 1
    exact Fin.ext (Nat.zero_add _)

/-- After the run, each window is the buffer moved on by the kernel's rows, and the arguments are unchanged. -/
theorem run_windows (ρ : Dev nD → PrngReg) : θ_run defs (onTc (τ := τ) (main (F := Ideal))) ⟨m, fun _ => 0, ρ⟩ fun r => ∀ c : Dev nD,
      r.2.mem ((c : Thread nD τ).loc main_v5) = moved (m ((c : Thread nD τ).loc main_arg2)) (shapeCast S128x4x2x128 (extractStridedSlice S512x256 ![0, 5120] ((dats m 0 c).arrAt 2 cfg0.N : Vec Ideal S512x5632 .f32) slices_S512x5632_S512x256_0_5120) shapeCasts_S512x256_S128x4x2x128)
      ∧ r.2.mem ((c : Thread nD τ).loc main_v8) = moved (m ((c : Thread nD τ).loc main_arg3)) (shapeCast S128x4x2x128 (extractStridedSlice S512x256 ![0, 5376] ((dats m 0 c).arrAt 2 cfg0.N : Vec Ideal S512x5632 .f32) slices_S512x5632_S512x256_0_5376) shapeCasts_S512x256_S128x4x2x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, ?_, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)
  · refine ((h c).2 main_v5 (Pipeline.mem_restRefs_of main_v5 (by decide) (by decide))).trans ?_
    refine (after_k _).trans ?_
    rw [Pipeline.withArrays_of_ne _ c (V0 m c) _ main_arg2 (by exact (by decide : ∀ w, Pipeline.arrRef spec0 w ≠ main_arg2))]
    have e := Pipeline.withArrays_arr spec0 launch0.win.arr_inj c (V0 m c) (fun w => (dats m 0 c).arrAt w cfg0.N) 2
    exact congrArg (fun Y => moved _ (shapeCast S128x4x2x128 (extractStridedSlice S512x256 ![0, 5120] Y slices_S512x5632_S512x256_0_5120) shapeCasts_S512x256_S128x4x2x128)) e
  · refine ((h c).2 main_v8 (Pipeline.mem_restRefs_of main_v8 (by decide) (by decide))).trans ?_
    refine (after_v _).trans ?_
    rw [Pipeline.withArrays_of_ne _ c (V0 m c) _ main_arg3 (by exact (by decide : ∀ w, Pipeline.arrRef spec0 w ≠ main_arg3))]
    have e := Pipeline.withArrays_arr spec0 launch0.win.arr_inj c (V0 m c) (fun w => (dats m 0 c).arrAt w cfg0.N) 2
    exact congrArg (fun Y => moved _ (shapeCast S128x4x2x128 (extractStridedSlice S512x256 ![0, 5376] Y slices_S512x5632_S512x256_0_5376) shapeCasts_S512x256_S128x4x2x128)) e

/-- The kernel with its host lines and the reference leave the same windows. -/
theorem tie : Cert.algebraic_WinSampleIdeal_WinSampleRefIdeal := by
  intro m ρ m' ρ' _ hagree
  refine ⟨_, _, run_windows m ρ, ?_⟩
  refine (θ_run Cert.WinSampleRefIdeal.defs _ _).mono (fun _ h c => ⟨?_, ?_, (h c).2.2⟩) (Cert.WinSampleRefIdeal.Value.run (F := Ideal) m' ρ')
  · rw [(h c).1]
    obtain ⟨e0, e1, e2, e3⟩ := hagree c
    rw [e0, e1, e2]
    refine congrArg (moved (m ((c : Thread nD τ).loc main_arg2))) ?_
    funext i
    obtain ⟨b, t, g, d, rfl⟩ : ∃ (b : Fin 128) (t : Fin 4) (g : Fin 2) (d : Fin 128), i = ix4 b t g d := ⟨i 0, i 1, i 2, i 3, funext fun a => by fin_cases a <;> rfl⟩
    refine Eq.trans ?_ (rows_k m c b t g d).symm
    unfold rowCol
    pointwise
  · rw [(h c).2.1]
    obtain ⟨e0, e1, e2, e3⟩ := hagree c
    rw [e0, e1, e3]
    refine congrArg (moved (m ((c : Thread nD τ).loc main_arg3))) ?_
    funext i
    obtain ⟨b, t, g, d, rfl⟩ : ∃ (b : Fin 128) (t : Fin 4) (g : Fin 2) (d : Fin 128), i = ix4 b t g d := ⟨i 0, i 1, i 2, i 3, funext fun a => by fin_cases a <;> rfl⟩
    refine Eq.trans ?_ (rows_v m c b t g d).symm
    unfold rowCol
    pointwise
    exact congrArg (rowCol (m ((c : Thread nD τ).loc main_arg0)) (m ((c : Thread nD τ).loc main_arg1)) (⟨b.val * 4 + t.val, by omega⟩ : Fin 512))
      (Fin.ext (show 5120 + (256 + g.val * 128 + d.val) = 5376 + (g.val * 128 + d.val) by omega) :
        (⟨5120 + (256 + g.val * 128 + d.val), by omega⟩ : Fin 5656) = ⟨5376 + (g.val * 128 + d.val), by omega⟩)
end Cert.WinSampleProof
-- ==== Proof.lean ====
/- The certificate put together: every program's frame, every pair's equation. The equations themselves are proved in the
   modules of `Proof/`: the expert sublayer in `RefSide` and `KernelSide`, each other call in a module of its own. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.SampleRefIdeal.Read
public import proofs.«01_k».proof.Proof.Gen.Sample.Frame
public import proofs.«01_k».proof.Proof.Gen.SampleIdeal.Value
public import proofs.«01_k».proof.Proof.Gen.SampleRefIdeal.Run
public import proofs.«01_k».proof.Proof.Gen.MobaQ.Frame
public import proofs.«01_k».proof.Proof.Gen.MobaQIdeal.Value
public import proofs.«01_k».proof.Proof.Gen.MobaQRefIdeal.Run
public import proofs.«01_k».proof.Proof.Gen.MobaK.Frame
public import proofs.«01_k».proof.Proof.Gen.MobaKIdeal.Value
public import proofs.«01_k».proof.Proof.Gen.MobaKRefIdeal.Run
public import proofs.«01_k».proof.Proof.Gen.MobaV.Frame
public import proofs.«01_k».proof.Proof.Gen.MobaVIdeal.Value
public import proofs.«01_k».proof.Proof.Gen.MobaVRefIdeal.Run
public import proofs.«01_k».proof.Proof.Gen.MobaSample.Frame
public import proofs.«01_k».proof.Proof.Gen.MobaSampleIdeal.Value
public import proofs.«01_k».proof.Proof.Gen.MobaSampleRefIdeal.Run
public import proofs.«01_k».proof.Proof.Gen.DiffQ.Frame
public import proofs.«01_k».proof.Proof.Gen.DiffQIdeal.Value
public import proofs.«01_k».proof.Proof.Gen.DiffQRefIdeal.Run
public import proofs.«01_k».proof.Proof.Gen.DiffK.Frame
public import proofs.«01_k».proof.Proof.Gen.DiffKIdeal.Value
public import proofs.«01_k».proof.Proof.Gen.DiffKRefIdeal.Run
public import proofs.«01_k».proof.Proof.Gen.DiffV.Frame
public import proofs.«01_k».proof.Proof.Gen.DiffVIdeal.Value
public import proofs.«01_k».proof.Proof.Gen.DiffVRefIdeal.Run
public import proofs.«01_k».proof.Proof.Gen.NsaQ.Frame
public import proofs.«01_k».proof.Proof.Gen.NsaQIdeal.Value
public import proofs.«01_k».proof.Proof.Gen.NsaQRefIdeal.Run
public import proofs.«01_k».proof.Proof.Gen.CmpK.Frame
public import proofs.«01_k».proof.Proof.Gen.CmpKIdeal.Value
public import proofs.«01_k».proof.Proof.Gen.CmpKRefIdeal.Run
public import proofs.«01_k».proof.Proof.Gen.CmpV.Frame
public import proofs.«01_k».proof.Proof.Gen.CmpVIdeal.Value
public import proofs.«01_k».proof.Proof.Gen.CmpVRefIdeal.Run
public import proofs.«01_k».proof.Proof.Gen.SlcK.Frame
public import proofs.«01_k».proof.Proof.Gen.SlcKIdeal.Value
public import proofs.«01_k».proof.Proof.Gen.SlcKRefIdeal.Run
public import proofs.«01_k».proof.Proof.Gen.SlcV.Frame
public import proofs.«01_k».proof.Proof.Gen.SlcVIdeal.Value
public import proofs.«01_k».proof.Proof.Gen.SlcVRefIdeal.Run
public import proofs.«01_k».proof.Proof.Gen.WinK.Frame
public import proofs.«01_k».proof.Proof.Gen.WinKIdeal.Value
public import proofs.«01_k».proof.Proof.Gen.WinKRefIdeal.Run
public import proofs.«01_k».proof.Proof.Gen.WinV.Frame
public import proofs.«01_k».proof.Proof.Gen.WinVIdeal.Value
public import proofs.«01_k».proof.Proof.Gen.WinVRefIdeal.Run
public import proofs.«01_k».proof.Proof.Gen.EvenSample.Frame
public import proofs.«01_k».proof.Proof.Gen.EvenSampleIdeal.Value
public import proofs.«01_k».proof.Proof.Gen.EvenSampleRefIdeal.Run
public import proofs.«01_k».proof.Proof.Gen.EvenOut.Frame
public import proofs.«01_k».proof.Proof.Gen.EvenOutIdeal.Value
public import proofs.«01_k».proof.Proof.Gen.EvenOutRefIdeal.Run
public import proofs.«01_k».proof.Proof.Gen.OddOut.Frame
public import proofs.«01_k».proof.Proof.Gen.OddOutIdeal.Value
public import proofs.«01_k».proof.Proof.Gen.OddOutRefIdeal.Run
public import proofs.«01_k».proof.Proof.Gen.EvenOutSample.Frame
public import proofs.«01_k».proof.Proof.Gen.EvenOutSampleIdeal.Value
public import proofs.«01_k».proof.Proof.Gen.EvenOutSampleRefIdeal.Run
public import proofs.«01_k».proof.Proof.Gen.OddOutSample.Frame
public import proofs.«01_k».proof.Proof.Gen.OddOutSampleIdeal.Value
public import proofs.«01_k».proof.Proof.Gen.OddOutSampleRefIdeal.Run
public import proofs.«01_k».proof.Proof.Gen.ModPrompt.Frame
public import proofs.«01_k».proof.Proof.Gen.ModPromptIdeal.Value
public import proofs.«01_k».proof.Proof.Gen.ModPromptRefIdeal.Run
public import proofs.«01_k».proof.Proof.Gen.ModSample.Frame
public import proofs.«01_k».proof.Proof.Gen.ModSampleIdeal.Value
public import proofs.«01_k».proof.Proof.Gen.ModSampleRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.CmpPrompt.Frame
public import proofs.«01_k».proof.Proof.Gen.CmpPromptIdeal.Value
public import proofs.«01_k».proof.Proof.Gen.CmpPromptRefIdeal.Run
public import proofs.«01_k».proof.Proof.Gen.CmpSample.Frame
public import proofs.«01_k».proof.Proof.Gen.CmpSampleIdeal.Value
public import proofs.«01_k».proof.Proof.Gen.CmpSampleRefIdeal.Run
public import proofs.«01_k».proof.Proof.Gen.CmpFinPrompt.Frame
public import proofs.«01_k».proof.Proof.Gen.CmpFinPromptIdeal.Value
public import proofs.«01_k».proof.Proof.Gen.CmpFinPromptRefIdeal.Run
public import proofs.«01_k».proof.Proof.Gen.WinSample.Frame
public import proofs.«01_k».proof.Proof.Gen.WinSampleIdeal.Frame
public import proofs.«01_k».proof.Proof.Gen.WinSampleRefIdeal.Run
public import Idealize.ShloMosaic.Adequacy
public import Idealize.ShloMosaic.Init
public import Idealize.ShloMosaic.Lib.Quiescent
public import proofs.«01_k».proof.Proof.RefSide
public import proofs.«01_k».proof.Proof.KernelSide
public import proofs.«01_k».proof.Proof.SampleTie
public import proofs.«01_k».proof.Proof.MobaQProj
public import proofs.«01_k».proof.Proof.MobaKProj
public import proofs.«01_k».proof.Proof.MobaVProj
public import proofs.«01_k».proof.Proof.MobaSampleProj
public import proofs.«01_k».proof.Proof.DiffQProj
public import proofs.«01_k».proof.Proof.DiffKProj
public import proofs.«01_k».proof.Proof.DiffVProj
public import proofs.«01_k».proof.Proof.NsaQProj
public import proofs.«01_k».proof.Proof.CmpKProj
public import proofs.«01_k».proof.Proof.CmpVProj
public import proofs.«01_k».proof.Proof.SlcKProj
public import proofs.«01_k».proof.Proof.SlcVProj
public import proofs.«01_k».proof.Proof.WinKProj
public import proofs.«01_k».proof.Proof.WinVProj
public import proofs.«01_k».proof.Proof.EvenSampleProj
public import proofs.«01_k».proof.Proof.EvenOutProj
public import proofs.«01_k».proof.Proof.OddOutProj
public import proofs.«01_k».proof.Proof.EvenOutSampleProj
public import proofs.«01_k».proof.Proof.OddOutSampleProj
public import proofs.«01_k».proof.Proof.ModPromptProj
public import proofs.«01_k».proof.Proof.ModSampleProj
public import proofs.«01_k».proof.Proof.AdaProj
public import proofs.«01_k».proof.Proof.CmpPromptProj
public import proofs.«01_k».proof.Proof.CmpSampleProj
public import proofs.«01_k».proof.Proof.CmpFinPromptProj
public import proofs.«01_k».proof.Proof.WinSampleProj

@[expose] public section

set_option maxRecDepth 16384

noncomputable section

namespace Cert.Proof

open Idealize.ShloMosaic Idealize.ShloMosaic.Pointwise Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_SampleRefIdeal : quiescent_SampleRefIdeal := fun m ρ _ =>
  (θ_run Cert.SampleRefIdeal.defs _ _).mono (fun r h => ⟨fun c => (h c).2, sem_eq_zero_of_no_sems (by decide) r.2⟩)
    (Cert.SampleRefIdeal.Value.run (F := Ideal) m ρ)

theorem quiescent_MobaQRefIdeal : quiescent_MobaQRefIdeal := fun m ρ _ =>
  (θ_run Cert.MobaQRefIdeal.defs _ _).mono (fun r h => ⟨fun c => (h c).2, sem_eq_zero_of_no_sems (by decide) r.2⟩)
    (Cert.MobaQRefIdeal.Value.run (F := Ideal) m ρ)

theorem quiescent_MobaKRefIdeal : quiescent_MobaKRefIdeal := fun m ρ _ =>
  (θ_run Cert.MobaKRefIdeal.defs _ _).mono (fun r h => ⟨fun c => (h c).2, sem_eq_zero_of_no_sems (by decide) r.2⟩)
    (Cert.MobaKRefIdeal.Value.run (F := Ideal) m ρ)

theorem quiescent_MobaVRefIdeal : quiescent_MobaVRefIdeal := fun m ρ _ =>
  (θ_run Cert.MobaVRefIdeal.defs _ _).mono (fun r h => ⟨fun c => (h c).2, sem_eq_zero_of_no_sems (by decide) r.2⟩)
    (Cert.MobaVRefIdeal.Value.run (F := Ideal) m ρ)

theorem quiescent_MobaSampleRefIdeal : quiescent_MobaSampleRefIdeal := fun m ρ _ =>
  (θ_run Cert.MobaSampleRefIdeal.defs _ _).mono (fun r h => ⟨fun c => (h c).2, sem_eq_zero_of_no_sems (by decide) r.2⟩)
    (Cert.MobaSampleRefIdeal.Value.run (F := Ideal) m ρ)

theorem quiescent_DiffQRefIdeal : quiescent_DiffQRefIdeal := fun m ρ _ =>
  (θ_run Cert.DiffQRefIdeal.defs _ _).mono (fun r h => ⟨fun c => (h c).2, sem_eq_zero_of_no_sems (by decide) r.2⟩)
    (Cert.DiffQRefIdeal.Value.run (F := Ideal) m ρ)

theorem quiescent_DiffKRefIdeal : quiescent_DiffKRefIdeal := fun m ρ _ =>
  (θ_run Cert.DiffKRefIdeal.defs _ _).mono (fun r h => ⟨fun c => (h c).2, sem_eq_zero_of_no_sems (by decide) r.2⟩)
    (Cert.DiffKRefIdeal.Value.run (F := Ideal) m ρ)

theorem quiescent_DiffVRefIdeal : quiescent_DiffVRefIdeal := fun m ρ _ =>
  (θ_run Cert.DiffVRefIdeal.defs _ _).mono (fun r h => ⟨fun c => (h c).2, sem_eq_zero_of_no_sems (by decide) r.2⟩)
    (Cert.DiffVRefIdeal.Value.run (F := Ideal) m ρ)

theorem quiescent_NsaQRefIdeal : quiescent_NsaQRefIdeal := fun m ρ _ =>
  (θ_run Cert.NsaQRefIdeal.defs _ _).mono (fun r h => ⟨fun c => (h c).2, sem_eq_zero_of_no_sems (by decide) r.2⟩)
    (Cert.NsaQRefIdeal.Value.run (F := Ideal) m ρ)

theorem quiescent_CmpKRefIdeal : quiescent_CmpKRefIdeal := fun m ρ _ =>
  (θ_run Cert.CmpKRefIdeal.defs _ _).mono (fun r h => ⟨fun c => (h c).2, sem_eq_zero_of_no_sems (by decide) r.2⟩)
    (Cert.CmpKRefIdeal.Value.run (F := Ideal) m ρ)

theorem quiescent_CmpVRefIdeal : quiescent_CmpVRefIdeal := fun m ρ _ =>
  (θ_run Cert.CmpVRefIdeal.defs _ _).mono (fun r h => ⟨fun c => (h c).2, sem_eq_zero_of_no_sems (by decide) r.2⟩)
    (Cert.CmpVRefIdeal.Value.run (F := Ideal) m ρ)

theorem quiescent_SlcKRefIdeal : quiescent_SlcKRefIdeal := fun m ρ _ =>
  (θ_run Cert.SlcKRefIdeal.defs _ _).mono (fun r h => ⟨fun c => (h c).2, sem_eq_zero_of_no_sems (by decide) r.2⟩)
    (Cert.SlcKRefIdeal.Value.run (F := Ideal) m ρ)

theorem quiescent_SlcVRefIdeal : quiescent_SlcVRefIdeal := fun m ρ _ =>
  (θ_run Cert.SlcVRefIdeal.defs _ _).mono (fun r h => ⟨fun c => (h c).2, sem_eq_zero_of_no_sems (by decide) r.2⟩)
    (Cert.SlcVRefIdeal.Value.run (F := Ideal) m ρ)

theorem quiescent_WinKRefIdeal : quiescent_WinKRefIdeal := fun m ρ _ =>
  (θ_run Cert.WinKRefIdeal.defs _ _).mono (fun r h => ⟨fun c => (h c).2, sem_eq_zero_of_no_sems (by decide) r.2⟩)
    (Cert.WinKRefIdeal.Value.run (F := Ideal) m ρ)

theorem quiescent_WinVRefIdeal : quiescent_WinVRefIdeal := fun m ρ _ =>
  (θ_run Cert.WinVRefIdeal.defs _ _).mono (fun r h => ⟨fun c => (h c).2, sem_eq_zero_of_no_sems (by decide) r.2⟩)
    (Cert.WinVRefIdeal.Value.run (F := Ideal) m ρ)

theorem quiescent_EvenSampleRefIdeal : quiescent_EvenSampleRefIdeal := fun m ρ _ =>
  (θ_run Cert.EvenSampleRefIdeal.defs _ _).mono (fun r h => ⟨fun c => (h c).2, sem_eq_zero_of_no_sems (by decide) r.2⟩)
    (Cert.EvenSampleRefIdeal.Value.run (F := Ideal) m ρ)

theorem quiescent_EvenOutRefIdeal : quiescent_EvenOutRefIdeal := fun m ρ _ =>
  (θ_run Cert.EvenOutRefIdeal.defs _ _).mono (fun r h => ⟨fun c => (h c).2, sem_eq_zero_of_no_sems (by decide) r.2⟩)
    (Cert.EvenOutRefIdeal.Value.run (F := Ideal) m ρ)

theorem quiescent_OddOutRefIdeal : quiescent_OddOutRefIdeal := fun m ρ _ =>
  (θ_run Cert.OddOutRefIdeal.defs _ _).mono (fun r h => ⟨fun c => (h c).2, sem_eq_zero_of_no_sems (by decide) r.2⟩)
    (Cert.OddOutRefIdeal.Value.run (F := Ideal) m ρ)

theorem quiescent_EvenOutSampleRefIdeal : quiescent_EvenOutSampleRefIdeal := fun m ρ _ =>
  (θ_run Cert.EvenOutSampleRefIdeal.defs _ _).mono (fun r h => ⟨fun c => (h c).2, sem_eq_zero_of_no_sems (by decide) r.2⟩)
    (Cert.EvenOutSampleRefIdeal.Value.run (F := Ideal) m ρ)

theorem quiescent_OddOutSampleRefIdeal : quiescent_OddOutSampleRefIdeal := fun m ρ _ =>
  (θ_run Cert.OddOutSampleRefIdeal.defs _ _).mono (fun r h => ⟨fun c => (h c).2, sem_eq_zero_of_no_sems (by decide) r.2⟩)
    (Cert.OddOutSampleRefIdeal.Value.run (F := Ideal) m ρ)

theorem quiescent_ModPromptRefIdeal : quiescent_ModPromptRefIdeal := fun m ρ _ =>
  (θ_run Cert.ModPromptRefIdeal.defs _ _).mono (fun r h => ⟨fun c => (h c).2, sem_eq_zero_of_no_sems (by decide) r.2⟩)
    (Cert.ModPromptRefIdeal.Value.run (F := Ideal) m ρ)

theorem quiescent_ModSampleRefIdeal : quiescent_ModSampleRefIdeal := fun m ρ _ =>
  (θ_run Cert.ModSampleRefIdeal.defs _ _).mono (fun r h => ⟨fun c => (h c).2, sem_eq_zero_of_no_sems (by decide) r.2⟩)
    (Cert.ModSampleRefIdeal.Value.run (F := Ideal) m ρ)

theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem quiescent_CmpPromptRefIdeal : quiescent_CmpPromptRefIdeal := fun m ρ _ =>
  (θ_run Cert.CmpPromptRefIdeal.defs _ _).mono (fun r h => ⟨fun c => (h c).2, sem_eq_zero_of_no_sems (by decide) r.2⟩)
    (Cert.CmpPromptRefIdeal.Value.run (F := Ideal) m ρ)

theorem quiescent_CmpSampleRefIdeal : quiescent_CmpSampleRefIdeal := fun m ρ _ =>
  (θ_run Cert.CmpSampleRefIdeal.defs _ _).mono (fun r h => ⟨fun c => (h c).2, sem_eq_zero_of_no_sems (by decide) r.2⟩)
    (Cert.CmpSampleRefIdeal.Value.run (F := Ideal) m ρ)

theorem quiescent_CmpFinPromptRefIdeal : quiescent_CmpFinPromptRefIdeal := fun m ρ _ =>
  (θ_run Cert.CmpFinPromptRefIdeal.defs _ _).mono (fun r h => ⟨fun c => (h c).2, sem_eq_zero_of_no_sems (by decide) r.2⟩)
    (Cert.CmpFinPromptRefIdeal.Value.run (F := Ideal) m ρ)

theorem quiescent_WinSampleRefIdeal : quiescent_WinSampleRefIdeal := fun m ρ _ =>
  (θ_run Cert.WinSampleRefIdeal.defs _ _).mono (fun r h => ⟨fun c => (h c).2.2, sem_eq_zero_of_no_sems (by decide) r.2⟩)
    (Cert.WinSampleRefIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v92_eq (F := Ideal) (StableHlo.launchContents m' c)).trans ?_
  funext i
  obtain ⟨T, l, rfl⟩ : ∃ (T : Fin 8192) (l : Fin 2048), i = ix2 T l := ⟨i 0, i 1, funext fun a => by
    match a with
    | ⟨0, _⟩ => rfl
    | ⟨1, _⟩ => rfl⟩
  refine (Cert.MoE.reference_value _ _ _ _ _ _ _ _ _ _ _ _ T l).trans (Eq.trans ?_ (Cert.MoE.kernel_value m c T l).symm)
  obtain ⟨e0, e1, e2, e3, e4, e5, e6, e7, e8, e9, e10, e11⟩ := hagree c
  unfold Cert.MoE.A0 Cert.MoE.A1 Cert.MoE.A2 Cert.MoE.A3 Cert.MoE.A4 Cert.MoE.A5 Cert.MoE.A6 Cert.MoE.A7 Cert.MoE.A8
    Cert.MoE.A9 Cert.MoE.A10 Cert.MoE.A11
  rw [← e0, ← e1, ← e2, ← e3, ← e4, ← e5, ← e6, ← e7, ← e8, ← e9, ← e10, ← e11]

theorem claim : Cert.Claim := ⟨Cert.Kernel.Gen.facts, Cert.KernelIdeal.Gen.facts, Cert.ReferenceIdeal.Gen.facts,
  Cert.Sample.Gen.facts, Cert.SampleIdeal.Gen.facts, Cert.SampleRefIdeal.Gen.facts,
  Cert.MobaQ.Gen.facts, Cert.MobaQIdeal.Gen.facts, Cert.MobaQRefIdeal.Gen.facts,
  Cert.MobaK.Gen.facts, Cert.MobaKIdeal.Gen.facts, Cert.MobaKRefIdeal.Gen.facts,
  Cert.MobaV.Gen.facts, Cert.MobaVIdeal.Gen.facts, Cert.MobaVRefIdeal.Gen.facts,
  Cert.MobaSample.Gen.facts, Cert.MobaSampleIdeal.Gen.facts, Cert.MobaSampleRefIdeal.Gen.facts,
  Cert.DiffQ.Gen.facts, Cert.DiffQIdeal.Gen.facts, Cert.DiffQRefIdeal.Gen.facts,
  Cert.DiffK.Gen.facts, Cert.DiffKIdeal.Gen.facts, Cert.DiffKRefIdeal.Gen.facts,
  Cert.DiffV.Gen.facts, Cert.DiffVIdeal.Gen.facts, Cert.DiffVRefIdeal.Gen.facts,
  Cert.NsaQ.Gen.facts, Cert.NsaQIdeal.Gen.facts, Cert.NsaQRefIdeal.Gen.facts,
  Cert.CmpK.Gen.facts, Cert.CmpKIdeal.Gen.facts, Cert.CmpKRefIdeal.Gen.facts,
  Cert.CmpV.Gen.facts, Cert.CmpVIdeal.Gen.facts, Cert.CmpVRefIdeal.Gen.facts,
  Cert.SlcK.Gen.facts, Cert.SlcKIdeal.Gen.facts, Cert.SlcKRefIdeal.Gen.facts,
  Cert.SlcV.Gen.facts, Cert.SlcVIdeal.Gen.facts, Cert.SlcVRefIdeal.Gen.facts,
  Cert.WinK.Gen.facts, Cert.WinKIdeal.Gen.facts, Cert.WinKRefIdeal.Gen.facts,
  Cert.WinV.Gen.facts, Cert.WinVIdeal.Gen.facts, Cert.WinVRefIdeal.Gen.facts,
  Cert.EvenSample.Gen.facts, Cert.EvenSampleIdeal.Gen.facts, Cert.EvenSampleRefIdeal.Gen.facts,
  Cert.EvenOut.Gen.facts, Cert.EvenOutIdeal.Gen.facts, Cert.EvenOutRefIdeal.Gen.facts,
  Cert.OddOut.Gen.facts, Cert.OddOutIdeal.Gen.facts, Cert.OddOutRefIdeal.Gen.facts,
  Cert.EvenOutSample.Gen.facts, Cert.EvenOutSampleIdeal.Gen.facts, Cert.EvenOutSampleRefIdeal.Gen.facts,
  Cert.OddOutSample.Gen.facts, Cert.OddOutSampleIdeal.Gen.facts, Cert.OddOutSampleRefIdeal.Gen.facts,
  Cert.ModPrompt.Gen.facts, Cert.ModPromptIdeal.Gen.facts, Cert.ModPromptRefIdeal.Gen.facts,
  Cert.ModSample.Gen.facts, Cert.ModSampleIdeal.Gen.facts, Cert.ModSampleRefIdeal.Gen.facts,
  Cert.Ada.Gen.facts, Cert.AdaIdeal.Gen.facts, Cert.AdaRefIdeal.Gen.facts,
  Cert.CmpPrompt.Gen.facts, Cert.CmpPromptIdeal.Gen.facts, Cert.CmpPromptRefIdeal.Gen.facts,
  Cert.CmpSample.Gen.facts, Cert.CmpSampleIdeal.Gen.facts, Cert.CmpSampleRefIdeal.Gen.facts,
  Cert.CmpFinPrompt.Gen.facts, Cert.CmpFinPromptIdeal.Gen.facts, Cert.CmpFinPromptRefIdeal.Gen.facts,
  Cert.WinSample.Gen.facts, Cert.WinSampleIdeal.Gen.facts, Cert.WinSampleRefIdeal.Gen.facts,
  fun m ρ _ => Cert.Kernel.Gen.frame m ρ, fun m ρ _ => Cert.KernelIdeal.Gen.frame m ρ, quiescent_ReferenceIdeal,
  fun m ρ _ => Cert.Sample.Gen.frame m ρ, fun m ρ _ => Cert.SampleIdeal.Gen.frame m ρ, quiescent_SampleRefIdeal,
  fun m ρ _ => Cert.MobaQ.Gen.frame m ρ, fun m ρ _ => Cert.MobaQIdeal.Gen.frame m ρ, quiescent_MobaQRefIdeal,
  fun m ρ _ => Cert.MobaK.Gen.frame m ρ, fun m ρ _ => Cert.MobaKIdeal.Gen.frame m ρ, quiescent_MobaKRefIdeal,
  fun m ρ _ => Cert.MobaV.Gen.frame m ρ, fun m ρ _ => Cert.MobaVIdeal.Gen.frame m ρ, quiescent_MobaVRefIdeal,
  fun m ρ _ => Cert.MobaSample.Gen.frame m ρ, fun m ρ _ => Cert.MobaSampleIdeal.Gen.frame m ρ, quiescent_MobaSampleRefIdeal,
  fun m ρ _ => Cert.DiffQ.Gen.frame m ρ, fun m ρ _ => Cert.DiffQIdeal.Gen.frame m ρ, quiescent_DiffQRefIdeal,
  fun m ρ _ => Cert.DiffK.Gen.frame m ρ, fun m ρ _ => Cert.DiffKIdeal.Gen.frame m ρ, quiescent_DiffKRefIdeal,
  fun m ρ _ => Cert.DiffV.Gen.frame m ρ, fun m ρ _ => Cert.DiffVIdeal.Gen.frame m ρ, quiescent_DiffVRefIdeal,
  fun m ρ _ => Cert.NsaQ.Gen.frame m ρ, fun m ρ _ => Cert.NsaQIdeal.Gen.frame m ρ, quiescent_NsaQRefIdeal,
  fun m ρ _ => Cert.CmpK.Gen.frame m ρ, fun m ρ _ => Cert.CmpKIdeal.Gen.frame m ρ, quiescent_CmpKRefIdeal,
  fun m ρ _ => Cert.CmpV.Gen.frame m ρ, fun m ρ _ => Cert.CmpVIdeal.Gen.frame m ρ, quiescent_CmpVRefIdeal,
  fun m ρ _ => Cert.SlcK.Gen.frame m ρ, fun m ρ _ => Cert.SlcKIdeal.Gen.frame m ρ, quiescent_SlcKRefIdeal,
  fun m ρ _ => Cert.SlcV.Gen.frame m ρ, fun m ρ _ => Cert.SlcVIdeal.Gen.frame m ρ, quiescent_SlcVRefIdeal,
  fun m ρ _ => Cert.WinK.Gen.frame m ρ, fun m ρ _ => Cert.WinKIdeal.Gen.frame m ρ, quiescent_WinKRefIdeal,
  fun m ρ _ => Cert.WinV.Gen.frame m ρ, fun m ρ _ => Cert.WinVIdeal.Gen.frame m ρ, quiescent_WinVRefIdeal,
  fun m ρ _ => Cert.EvenSample.Gen.frame m ρ, fun m ρ _ => Cert.EvenSampleIdeal.Gen.frame m ρ, quiescent_EvenSampleRefIdeal,
  fun m ρ _ => Cert.EvenOut.Gen.frame m ρ, fun m ρ _ => Cert.EvenOutIdeal.Gen.frame m ρ, quiescent_EvenOutRefIdeal,
  fun m ρ _ => Cert.OddOut.Gen.frame m ρ, fun m ρ _ => Cert.OddOutIdeal.Gen.frame m ρ, quiescent_OddOutRefIdeal,
  fun m ρ _ => Cert.EvenOutSample.Gen.frame m ρ, fun m ρ _ => Cert.EvenOutSampleIdeal.Gen.frame m ρ, quiescent_EvenOutSampleRefIdeal,
  fun m ρ _ => Cert.OddOutSample.Gen.frame m ρ, fun m ρ _ => Cert.OddOutSampleIdeal.Gen.frame m ρ, quiescent_OddOutSampleRefIdeal,
  fun m ρ _ => Cert.ModPrompt.Gen.frame m ρ, fun m ρ _ => Cert.ModPromptIdeal.Gen.frame m ρ, quiescent_ModPromptRefIdeal,
  fun m ρ _ => Cert.ModSample.Gen.frame m ρ, fun m ρ _ => Cert.ModSampleIdeal.Gen.frame m ρ, quiescent_ModSampleRefIdeal,
  fun m ρ _ => Cert.Ada.Gen.frame m ρ, fun m ρ _ => Cert.AdaIdeal.Gen.frame m ρ, quiescent_AdaRefIdeal,
  fun m ρ _ => Cert.CmpPrompt.Gen.frame m ρ, fun m ρ _ => Cert.CmpPromptIdeal.Gen.frame m ρ, quiescent_CmpPromptRefIdeal,
  fun m ρ _ => Cert.CmpSample.Gen.frame m ρ, fun m ρ _ => Cert.CmpSampleIdeal.Gen.frame m ρ, quiescent_CmpSampleRefIdeal,
  fun m ρ _ => Cert.CmpFinPrompt.Gen.frame m ρ, fun m ρ _ => Cert.CmpFinPromptIdeal.Gen.frame m ρ, quiescent_CmpFinPromptRefIdeal,
  fun m ρ _ => Cert.WinSample.Gen.frame m ρ, fun m ρ _ => Cert.WinSampleIdeal.Gen.frame m ρ, quiescent_WinSampleRefIdeal,
  (trivial : preserves_Kernel_KernelIdeal), algebraic_KernelIdeal_ReferenceIdeal,
  (trivial : preserves_Sample_SampleIdeal), Cert.SampleProof.tie,
  (trivial : preserves_MobaQ_MobaQIdeal), Cert.MobaQProof.tie,
  (trivial : preserves_MobaK_MobaKIdeal), Cert.MobaKProof.tie,
  (trivial : preserves_MobaV_MobaVIdeal), Cert.MobaVProof.tie,
  (trivial : preserves_MobaSample_MobaSampleIdeal), Cert.MobaSampleProof.tie,
  (trivial : preserves_DiffQ_DiffQIdeal), Cert.DiffQProof.tie,
  (trivial : preserves_DiffK_DiffKIdeal), Cert.DiffKProof.tie,
  (trivial : preserves_DiffV_DiffVIdeal), Cert.DiffVProof.tie,
  (trivial : preserves_NsaQ_NsaQIdeal), Cert.NsaQProof.tie,
  (trivial : preserves_CmpK_CmpKIdeal), Cert.CmpKProof.tie,
  (trivial : preserves_CmpV_CmpVIdeal), Cert.CmpVProof.tie,
  (trivial : preserves_SlcK_SlcKIdeal), Cert.SlcKProof.tie,
  (trivial : preserves_SlcV_SlcVIdeal), Cert.SlcVProof.tie,
  (trivial : preserves_WinK_WinKIdeal), Cert.WinKProof.tie,
  (trivial : preserves_WinV_WinVIdeal), Cert.WinVProof.tie,
  (trivial : preserves_EvenSample_EvenSampleIdeal), Cert.EvenSampleProof.tie,
  (trivial : preserves_EvenOut_EvenOutIdeal), Cert.EvenOutProof.tie,
  (trivial : preserves_OddOut_OddOutIdeal), Cert.OddOutProof.tie,
  (trivial : preserves_EvenOutSample_EvenOutSampleIdeal), Cert.EvenOutSampleProof.tie,
  (trivial : preserves_OddOutSample_OddOutSampleIdeal), Cert.OddOutSampleProof.tie,
  (trivial : preserves_ModPrompt_ModPromptIdeal), Cert.ModPromptProof.tie,
  (trivial : preserves_ModSample_ModSampleIdeal), Cert.ModSampleProof.tie,
  (trivial : preserves_Ada_AdaIdeal), Cert.AdaProof.tie,
  (trivial : preserves_CmpPrompt_CmpPromptIdeal), Cert.CmpPromptProof.tie,
  (trivial : preserves_CmpSample_CmpSampleIdeal), Cert.CmpSampleProof.tie,
  (trivial : preserves_CmpFinPrompt_CmpFinPromptIdeal), Cert.CmpFinPromptProof.tie,
  (trivial : preserves_WinSample_WinSampleIdeal), Cert.WinSampleProof.tie⟩

end Cert.Proof

end
